-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_GdnProj (m : (ℓ : Loc Cert.GdnProj.nD Cert.GdnProj.τ Cert.GdnProj.sig) → Buf (Elt Bits) ℓ) : Prop :=
  True

def Pre_GdnProjIdeal (m : (ℓ : Loc Cert.GdnProjIdeal.nD Cert.GdnProjIdeal.τ Cert.GdnProjIdeal.sig) → Buf (Elt Ideal) ℓ) : Prop :=
  True

def Pre_GdnProjReferenceIdeal (m : (ℓ : Loc Cert.GdnProjReferenceIdeal.nD Cert.GdnProjReferenceIdeal.τ Cert.GdnProjReferenceIdeal.sig) → Buf (Elt Ideal) ℓ) : Prop :=
  True

def Pre_ConfProj (m : (ℓ : Loc Cert.ConfProj.nD Cert.ConfProj.τ Cert.ConfProj.sig) → Buf (Elt Bits) ℓ) : Prop :=
  True

def Pre_ConfProjIdeal (m : (ℓ : Loc Cert.ConfProjIdeal.nD Cert.ConfProjIdeal.τ Cert.ConfProjIdeal.sig) → Buf (Elt Ideal) ℓ) : Prop :=
  True

def Pre_ConfProjReferenceIdeal (m : (ℓ : Loc Cert.ConfProjReferenceIdeal.nD Cert.ConfProjReferenceIdeal.τ Cert.ConfProjReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_NsaOut (m : (ℓ : Loc Cert.NsaOut.nD Cert.NsaOut.τ Cert.NsaOut.sig) → Buf (Elt Bits) ℓ) : Prop :=
  True

def Pre_NsaOutIdeal (m : (ℓ : Loc Cert.NsaOutIdeal.nD Cert.NsaOutIdeal.τ Cert.NsaOutIdeal.sig) → Buf (Elt Ideal) ℓ) : Prop :=
  True

def Pre_NsaOutIdeal_gates_between [hPre_gates_between : Cert.Pre_gates_between.Facts] (m : (ℓ : Loc Cert.NsaOutIdeal.nD Cert.NsaOutIdeal.τ Cert.NsaOutIdeal.sig) → Buf (Elt Ideal) ℓ) : Prop :=
  ∀ c : Dev Cert.NsaOutIdeal.nD,
    (Cert.Pre_gates_between.fn (F := Ideal) (m ((c.tc : Thread Cert.NsaOutIdeal.nD Cert.NsaOutIdeal.τ).loc Cert.NsaOutIdeal.main_arg0)) (m ((c.tc : Thread Cert.NsaOutIdeal.nD Cert.NsaOutIdeal.τ).loc Cert.NsaOutIdeal.main_arg1)) (m ((c.tc : Thread Cert.NsaOutIdeal.nD Cert.NsaOutIdeal.τ).loc Cert.NsaOutIdeal.main_arg2)) (m ((c.tc : Thread Cert.NsaOutIdeal.nD Cert.NsaOutIdeal.τ).loc Cert.NsaOutIdeal.main_arg3)) (m ((c.tc : Thread Cert.NsaOutIdeal.nD Cert.NsaOutIdeal.τ).loc Cert.NsaOutIdeal.main_arg4)) (m ((c.tc : Thread Cert.NsaOutIdeal.nD Cert.NsaOutIdeal.τ).loc Cert.NsaOutIdeal.main_arg5)) (m ((c.tc : Thread Cert.NsaOutIdeal.nD Cert.NsaOutIdeal.τ).loc Cert.NsaOutIdeal.main_arg6))) = (fun _ => 1#1)

def Pre_NsaOutReferenceIdeal (m : (ℓ : Loc Cert.NsaOutReferenceIdeal.nD Cert.NsaOutReferenceIdeal.τ Cert.NsaOutReferenceIdeal.sig) → Buf (Elt Ideal) ℓ) : Prop :=
  True

def Pre_NsaOutReferenceIdeal_gates_between [hPre_gates_between : Cert.Pre_gates_between.Facts] (m : (ℓ : Loc Cert.NsaOutReferenceIdeal.nD Cert.NsaOutReferenceIdeal.τ Cert.NsaOutReferenceIdeal.sig) → Buf (Elt Ideal) ℓ) : Prop :=
  ∀ c : Dev Cert.NsaOutReferenceIdeal.nD,
    (Cert.Pre_gates_between.fn (F := Ideal) (m ((c.tc : Thread Cert.NsaOutReferenceIdeal.nD Cert.NsaOutReferenceIdeal.τ).loc Cert.NsaOutReferenceIdeal.main_arg0)) (m ((c.tc : Thread Cert.NsaOutReferenceIdeal.nD Cert.NsaOutReferenceIdeal.τ).loc Cert.NsaOutReferenceIdeal.main_arg1)) (m ((c.tc : Thread Cert.NsaOutReferenceIdeal.nD Cert.NsaOutReferenceIdeal.τ).loc Cert.NsaOutReferenceIdeal.main_arg2)) (m ((c.tc : Thread Cert.NsaOutReferenceIdeal.nD Cert.NsaOutReferenceIdeal.τ).loc Cert.NsaOutReferenceIdeal.main_arg3)) (m ((c.tc : Thread Cert.NsaOutReferenceIdeal.nD Cert.NsaOutReferenceIdeal.τ).loc Cert.NsaOutReferenceIdeal.main_arg4)) (m ((c.tc : Thread Cert.NsaOutReferenceIdeal.nD Cert.NsaOutReferenceIdeal.τ).loc Cert.NsaOutReferenceIdeal.main_arg5)) (m ((c.tc : Thread Cert.NsaOutReferenceIdeal.nD Cert.NsaOutReferenceIdeal.τ).loc Cert.NsaOutReferenceIdeal.main_arg6))) = (fun _ => 1#1)

def Pre_NsaProj (m : (ℓ : Loc Cert.NsaProj.nD Cert.NsaProj.τ Cert.NsaProj.sig) → Buf (Elt Bits) ℓ) : Prop :=
  True

def Pre_NsaProjIdeal (m : (ℓ : Loc Cert.NsaProjIdeal.nD Cert.NsaProjIdeal.τ Cert.NsaProjIdeal.sig) → Buf (Elt Ideal) ℓ) : Prop :=
  True

def Pre_NsaProjReferenceIdeal (m : (ℓ : Loc Cert.NsaProjReferenceIdeal.nD Cert.NsaProjReferenceIdeal.τ Cert.NsaProjReferenceIdeal.sig) → Buf (Elt Ideal) ℓ) : Prop :=
  True

def Pre_ConfConv (m : (ℓ : Loc Cert.ConfConv.nD Cert.ConfConv.τ Cert.ConfConv.sig) → Buf (Elt Bits) ℓ) : Prop :=
  True

def Pre_ConfConvIdeal (m : (ℓ : Loc Cert.ConfConvIdeal.nD Cert.ConfConvIdeal.τ Cert.ConfConvIdeal.sig) → Buf (Elt Ideal) ℓ) : Prop :=
  True

def Pre_ConfConvReferenceIdeal (m : (ℓ : Loc Cert.ConfConvReferenceIdeal.nD Cert.ConfConvReferenceIdeal.τ Cert.ConfConvReferenceIdeal.sig) → Buf (Elt Ideal) ℓ) : Prop :=
  True

def Pre_ConfProjSample (m : (ℓ : Loc Cert.ConfProjSample.nD Cert.ConfProjSample.τ Cert.ConfProjSample.sig) → Buf (Elt Bits) ℓ) : Prop :=
  True

def Pre_ConfProjSampleIdeal (m : (ℓ : Loc Cert.ConfProjSampleIdeal.nD Cert.ConfProjSampleIdeal.τ Cert.ConfProjSampleIdeal.sig) → Buf (Elt Ideal) ℓ) : Prop :=
  True

def Pre_ConfProjSampleReferenceIdeal (m : (ℓ : Loc Cert.ConfProjSampleReferenceIdeal.nD Cert.ConfProjSampleReferenceIdeal.τ Cert.ConfProjSampleReferenceIdeal.sig) → Buf (Elt Ideal) ℓ) : Prop :=
  True

def Pre_GdnProjSample (m : (ℓ : Loc Cert.GdnProjSample.nD Cert.GdnProjSample.τ Cert.GdnProjSample.sig) → Buf (Elt Bits) ℓ) : Prop :=
  True

def Pre_GdnProjSampleIdeal (m : (ℓ : Loc Cert.GdnProjSampleIdeal.nD Cert.GdnProjSampleIdeal.τ Cert.GdnProjSampleIdeal.sig) → Buf (Elt Ideal) ℓ) : Prop :=
  True

def Pre_GdnProjSampleReferenceIdeal (m : (ℓ : Loc Cert.GdnProjSampleReferenceIdeal.nD Cert.GdnProjSampleReferenceIdeal.τ Cert.GdnProjSampleReferenceIdeal.sig) → Buf (Elt Ideal) ℓ) : Prop :=
  True

def Pre_NsaOutSample (m : (ℓ : Loc Cert.NsaOutSample.nD Cert.NsaOutSample.τ Cert.NsaOutSample.sig) → Buf (Elt Bits) ℓ) : Prop :=
  True

def Pre_NsaOutSampleIdeal (m : (ℓ : Loc Cert.NsaOutSampleIdeal.nD Cert.NsaOutSampleIdeal.τ Cert.NsaOutSampleIdeal.sig) → Buf (Elt Ideal) ℓ) : Prop :=
  True

def Pre_NsaOutSampleIdeal_sample_gates_between [hPre_sample_gates_between : Cert.Pre_sample_gates_between.Facts] (m : (ℓ : Loc Cert.NsaOutSampleIdeal.nD Cert.NsaOutSampleIdeal.τ Cert.NsaOutSampleIdeal.sig) → Buf (Elt Ideal) ℓ) : Prop :=
  ∀ c : Dev Cert.NsaOutSampleIdeal.nD,
    (Cert.Pre_sample_gates_between.fn (F := Ideal) (m ((c.tc : Thread Cert.NsaOutSampleIdeal.nD Cert.NsaOutSampleIdeal.τ).loc Cert.NsaOutSampleIdeal.main_arg0)) (m ((c.tc : Thread Cert.NsaOutSampleIdeal.nD Cert.NsaOutSampleIdeal.τ).loc Cert.NsaOutSampleIdeal.main_arg1)) (m ((c.tc : Thread Cert.NsaOutSampleIdeal.nD Cert.NsaOutSampleIdeal.τ).loc Cert.NsaOutSampleIdeal.main_arg2)) (m ((c.tc : Thread Cert.NsaOutSampleIdeal.nD Cert.NsaOutSampleIdeal.τ).loc Cert.NsaOutSampleIdeal.main_arg3)) (m ((c.tc : Thread Cert.NsaOutSampleIdeal.nD Cert.NsaOutSampleIdeal.τ).loc Cert.NsaOutSampleIdeal.main_arg4)) (m ((c.tc : Thread Cert.NsaOutSampleIdeal.nD Cert.NsaOutSampleIdeal.τ).loc Cert.NsaOutSampleIdeal.main_arg5)) (m ((c.tc : Thread Cert.NsaOutSampleIdeal.nD Cert.NsaOutSampleIdeal.τ).loc Cert.NsaOutSampleIdeal.main_arg6))) = (fun _ => 1#1)

def Pre_NsaOutSampleReferenceIdeal (m : (ℓ : Loc Cert.NsaOutSampleReferenceIdeal.nD Cert.NsaOutSampleReferenceIdeal.τ Cert.NsaOutSampleReferenceIdeal.sig) → Buf (Elt Ideal) ℓ) : Prop :=
  True

def Pre_NsaOutSampleReferenceIdeal_sample_gates_between [hPre_sample_gates_between : Cert.Pre_sample_gates_between.Facts] (m : (ℓ : Loc Cert.NsaOutSampleReferenceIdeal.nD Cert.NsaOutSampleReferenceIdeal.τ Cert.NsaOutSampleReferenceIdeal.sig) → Buf (Elt Ideal) ℓ) : Prop :=
  ∀ c : Dev Cert.NsaOutSampleReferenceIdeal.nD,
    (Cert.Pre_sample_gates_between.fn (F := Ideal) (m ((c.tc : Thread Cert.NsaOutSampleReferenceIdeal.nD Cert.NsaOutSampleReferenceIdeal.τ).loc Cert.NsaOutSampleReferenceIdeal.main_arg0)) (m ((c.tc : Thread Cert.NsaOutSampleReferenceIdeal.nD Cert.NsaOutSampleReferenceIdeal.τ).loc Cert.NsaOutSampleReferenceIdeal.main_arg1)) (m ((c.tc : Thread Cert.NsaOutSampleReferenceIdeal.nD Cert.NsaOutSampleReferenceIdeal.τ).loc Cert.NsaOutSampleReferenceIdeal.main_arg2)) (m ((c.tc : Thread Cert.NsaOutSampleReferenceIdeal.nD Cert.NsaOutSampleReferenceIdeal.τ).loc Cert.NsaOutSampleReferenceIdeal.main_arg3)) (m ((c.tc : Thread Cert.NsaOutSampleReferenceIdeal.nD Cert.NsaOutSampleReferenceIdeal.τ).loc Cert.NsaOutSampleReferenceIdeal.main_arg4)) (m ((c.tc : Thread Cert.NsaOutSampleReferenceIdeal.nD Cert.NsaOutSampleReferenceIdeal.τ).loc Cert.NsaOutSampleReferenceIdeal.main_arg5)) (m ((c.tc : Thread Cert.NsaOutSampleReferenceIdeal.nD Cert.NsaOutSampleReferenceIdeal.τ).loc Cert.NsaOutSampleReferenceIdeal.main_arg6))) = (fun _ => 1#1)

def Pre_NsaProjSample (m : (ℓ : Loc Cert.NsaProjSample.nD Cert.NsaProjSample.τ Cert.NsaProjSample.sig) → Buf (Elt Bits) ℓ) : Prop :=
  True

def Pre_NsaProjSampleIdeal (m : (ℓ : Loc Cert.NsaProjSampleIdeal.nD Cert.NsaProjSampleIdeal.τ Cert.NsaProjSampleIdeal.sig) → Buf (Elt Ideal) ℓ) : Prop :=
  True

def Pre_NsaProjSampleReferenceIdeal (m : (ℓ : Loc Cert.NsaProjSampleReferenceIdeal.nD Cert.NsaProjSampleReferenceIdeal.τ Cert.NsaProjSampleReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_GdnProj [hGdnProj : Cert.GdnProj.Facts] : Prop :=
  ∀ (m : (ℓ : Loc Cert.GdnProj.nD Cert.GdnProj.τ Cert.GdnProj.sig) → Buf (Elt Bits) ℓ) (g : Dev Cert.GdnProj.nD → PrngReg), Pre_GdnProj m →
    θ_run (Cert.GdnProj.defs (F := Bits)) (onTc (τ := Cert.GdnProj.τ) (Cert.GdnProj.main (F := Bits))) ⟨m, fun _ => 0, g⟩ (fun r => (∀ c : Dev Cert.GdnProj.nD,
      r.2.mem ((c.tc : Thread Cert.GdnProj.nD Cert.GdnProj.τ).loc Cert.GdnProj.main_arg0) = m ((c.tc : Thread Cert.GdnProj.nD Cert.GdnProj.τ).loc Cert.GdnProj.main_arg0)
      ∧ r.2.mem ((c.tc : Thread Cert.GdnProj.nD Cert.GdnProj.τ).loc Cert.GdnProj.main_arg1) = m ((c.tc : Thread Cert.GdnProj.nD Cert.GdnProj.τ).loc Cert.GdnProj.main_arg1)
      ∧ r.2.mem ((c.tc : Thread Cert.GdnProj.nD Cert.GdnProj.τ).loc Cert.GdnProj.main_arg2) = m ((c.tc : Thread Cert.GdnProj.nD Cert.GdnProj.τ).loc Cert.GdnProj.main_arg2))
      ∧ r.2.sem = fun _ => 0)

def quiescent_GdnProjIdeal [hGdnProjIdeal : Cert.GdnProjIdeal.Facts] : Prop :=
  ∀ (m : (ℓ : Loc Cert.GdnProjIdeal.nD Cert.GdnProjIdeal.τ Cert.GdnProjIdeal.sig) → Buf (Elt Ideal) ℓ) (g : Dev Cert.GdnProjIdeal.nD → PrngReg), Pre_GdnProjIdeal m →
    θ_run (Cert.GdnProjIdeal.defs (F := Ideal)) (onTc (τ := Cert.GdnProjIdeal.τ) (Cert.GdnProjIdeal.main (F := Ideal))) ⟨m, fun _ => 0, g⟩ (fun r => (∀ c : Dev Cert.GdnProjIdeal.nD,
      r.2.mem ((c.tc : Thread Cert.GdnProjIdeal.nD Cert.GdnProjIdeal.τ).loc Cert.GdnProjIdeal.main_arg0) = m ((c.tc : Thread Cert.GdnProjIdeal.nD Cert.GdnProjIdeal.τ).loc Cert.GdnProjIdeal.main_arg0)
      ∧ r.2.mem ((c.tc : Thread Cert.GdnProjIdeal.nD Cert.GdnProjIdeal.τ).loc Cert.GdnProjIdeal.main_arg1) = m ((c.tc : Thread Cert.GdnProjIdeal.nD Cert.GdnProjIdeal.τ).loc Cert.GdnProjIdeal.main_arg1)
      ∧ r.2.mem ((c.tc : Thread Cert.GdnProjIdeal.nD Cert.GdnProjIdeal.τ).loc Cert.GdnProjIdeal.main_arg2) = m ((c.tc : Thread Cert.GdnProjIdeal.nD Cert.GdnProjIdeal.τ).loc Cert.GdnProjIdeal.main_arg2))
      ∧ r.2.sem = fun _ => 0)

def quiescent_GdnProjReferenceIdeal [hGdnProjReferenceIdeal : Cert.GdnProjReferenceIdeal.Facts] : Prop :=
  ∀ (m : (ℓ : Loc Cert.GdnProjReferenceIdeal.nD Cert.GdnProjReferenceIdeal.τ Cert.GdnProjReferenceIdeal.sig) → Buf (Elt Ideal) ℓ) (g : Dev Cert.GdnProjReferenceIdeal.nD → PrngReg), Pre_GdnProjReferenceIdeal m →
    θ_run (Cert.GdnProjReferenceIdeal.defs (F := Ideal)) (onTc (τ := Cert.GdnProjReferenceIdeal.τ) (Cert.GdnProjReferenceIdeal.main (F := Ideal))) ⟨m, fun _ => 0, g⟩ (fun r => (∀ c : Dev Cert.GdnProjReferenceIdeal.nD,
      r.2.mem ((c.tc : Thread Cert.GdnProjReferenceIdeal.nD Cert.GdnProjReferenceIdeal.τ).loc Cert.GdnProjReferenceIdeal.main_arg0) = m ((c.tc : Thread Cert.GdnProjReferenceIdeal.nD Cert.GdnProjReferenceIdeal.τ).loc Cert.GdnProjReferenceIdeal.main_arg0)
      ∧ r.2.mem ((c.tc : Thread Cert.GdnProjReferenceIdeal.nD Cert.GdnProjReferenceIdeal.τ).loc Cert.GdnProjReferenceIdeal.main_arg1) = m ((c.tc : Thread Cert.GdnProjReferenceIdeal.nD Cert.GdnProjReferenceIdeal.τ).loc Cert.GdnProjReferenceIdeal.main_arg1)
      ∧ r.2.mem ((c.tc : Thread Cert.GdnProjReferenceIdeal.nD Cert.GdnProjReferenceIdeal.τ).loc Cert.GdnProjReferenceIdeal.main_arg2) = m ((c.tc : Thread Cert.GdnProjReferenceIdeal.nD Cert.GdnProjReferenceIdeal.τ).loc Cert.GdnProjReferenceIdeal.main_arg2))
      ∧ r.2.sem = fun _ => 0)

def quiescent_ConfProj [hConfProj : Cert.ConfProj.Facts] : Prop :=
  ∀ (m : (ℓ : Loc Cert.ConfProj.nD Cert.ConfProj.τ Cert.ConfProj.sig) → Buf (Elt Bits) ℓ) (g : Dev Cert.ConfProj.nD → PrngReg), Pre_ConfProj m →
    θ_run (Cert.ConfProj.defs (F := Bits)) (onTc (τ := Cert.ConfProj.τ) (Cert.ConfProj.main (F := Bits))) ⟨m, fun _ => 0, g⟩ (fun r => (∀ c : Dev Cert.ConfProj.nD,
      r.2.mem ((c.tc : Thread Cert.ConfProj.nD Cert.ConfProj.τ).loc Cert.ConfProj.main_arg0) = m ((c.tc : Thread Cert.ConfProj.nD Cert.ConfProj.τ).loc Cert.ConfProj.main_arg0)
      ∧ r.2.mem ((c.tc : Thread Cert.ConfProj.nD Cert.ConfProj.τ).loc Cert.ConfProj.main_arg1) = m ((c.tc : Thread Cert.ConfProj.nD Cert.ConfProj.τ).loc Cert.ConfProj.main_arg1)
      ∧ r.2.mem ((c.tc : Thread Cert.ConfProj.nD Cert.ConfProj.τ).loc Cert.ConfProj.main_arg2) = m ((c.tc : Thread Cert.ConfProj.nD Cert.ConfProj.τ).loc Cert.ConfProj.main_arg2))
      ∧ r.2.sem = fun _ => 0)

def quiescent_ConfProjIdeal [hConfProjIdeal : Cert.ConfProjIdeal.Facts] : Prop :=
  ∀ (m : (ℓ : Loc Cert.ConfProjIdeal.nD Cert.ConfProjIdeal.τ Cert.ConfProjIdeal.sig) → Buf (Elt Ideal) ℓ) (g : Dev Cert.ConfProjIdeal.nD → PrngReg), Pre_ConfProjIdeal m →
    θ_run (Cert.ConfProjIdeal.defs (F := Ideal)) (onTc (τ := Cert.ConfProjIdeal.τ) (Cert.ConfProjIdeal.main (F := Ideal))) ⟨m, fun _ => 0, g⟩ (fun r => (∀ c : Dev Cert.ConfProjIdeal.nD,
      r.2.mem ((c.tc : Thread Cert.ConfProjIdeal.nD Cert.ConfProjIdeal.τ).loc Cert.ConfProjIdeal.main_arg0) = m ((c.tc : Thread Cert.ConfProjIdeal.nD Cert.ConfProjIdeal.τ).loc Cert.ConfProjIdeal.main_arg0)
      ∧ r.2.mem ((c.tc : Thread Cert.ConfProjIdeal.nD Cert.ConfProjIdeal.τ).loc Cert.ConfProjIdeal.main_arg1) = m ((c.tc : Thread Cert.ConfProjIdeal.nD Cert.ConfProjIdeal.τ).loc Cert.ConfProjIdeal.main_arg1)
      ∧ r.2.mem ((c.tc : Thread Cert.ConfProjIdeal.nD Cert.ConfProjIdeal.τ).loc Cert.ConfProjIdeal.main_arg2) = m ((c.tc : Thread Cert.ConfProjIdeal.nD Cert.ConfProjIdeal.τ).loc Cert.ConfProjIdeal.main_arg2))
      ∧ r.2.sem = fun _ => 0)

def quiescent_ConfProjReferenceIdeal [hConfProjReferenceIdeal : Cert.ConfProjReferenceIdeal.Facts] : Prop :=
  ∀ (m : (ℓ : Loc Cert.ConfProjReferenceIdeal.nD Cert.ConfProjReferenceIdeal.τ Cert.ConfProjReferenceIdeal.sig) → Buf (Elt Ideal) ℓ) (g : Dev Cert.ConfProjReferenceIdeal.nD → PrngReg), Pre_ConfProjReferenceIdeal m →
    θ_run (Cert.ConfProjReferenceIdeal.defs (F := Ideal)) (onTc (τ := Cert.ConfProjReferenceIdeal.τ) (Cert.ConfProjReferenceIdeal.main (F := Ideal))) ⟨m, fun _ => 0, g⟩ (fun r => (∀ c : Dev Cert.ConfProjReferenceIdeal.nD,
      r.2.mem ((c.tc : Thread Cert.ConfProjReferenceIdeal.nD Cert.ConfProjReferenceIdeal.τ).loc Cert.ConfProjReferenceIdeal.main_arg0) = m ((c.tc : Thread Cert.ConfProjReferenceIdeal.nD Cert.ConfProjReferenceIdeal.τ).loc Cert.ConfProjReferenceIdeal.main_arg0)
      ∧ r.2.mem ((c.tc : Thread Cert.ConfProjReferenceIdeal.nD Cert.ConfProjReferenceIdeal.τ).loc Cert.ConfProjReferenceIdeal.main_arg1) = m ((c.tc : Thread Cert.ConfProjReferenceIdeal.nD Cert.ConfProjReferenceIdeal.τ).loc Cert.ConfProjReferenceIdeal.main_arg1)
      ∧ r.2.mem ((c.tc : Thread Cert.ConfProjReferenceIdeal.nD Cert.ConfProjReferenceIdeal.τ).loc Cert.ConfProjReferenceIdeal.main_arg2) = m ((c.tc : Thread Cert.ConfProjReferenceIdeal.nD Cert.ConfProjReferenceIdeal.τ).loc Cert.ConfProjReferenceIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3))
      ∧ r.2.sem = fun _ => 0)

def quiescent_NsaOut [hNsaOut : Cert.NsaOut.Facts] : Prop :=
  ∀ (m : (ℓ : Loc Cert.NsaOut.nD Cert.NsaOut.τ Cert.NsaOut.sig) → Buf (Elt Bits) ℓ) (g : Dev Cert.NsaOut.nD → PrngReg), Pre_NsaOut m →
    θ_run (Cert.NsaOut.defs (F := Bits)) (onTc (τ := Cert.NsaOut.τ) (Cert.NsaOut.main (F := Bits))) ⟨m, fun _ => 0, g⟩ (fun r => (∀ c : Dev Cert.NsaOut.nD,
      r.2.mem ((c.tc : Thread Cert.NsaOut.nD Cert.NsaOut.τ).loc Cert.NsaOut.main_arg0) = m ((c.tc : Thread Cert.NsaOut.nD Cert.NsaOut.τ).loc Cert.NsaOut.main_arg0)
      ∧ r.2.mem ((c.tc : Thread Cert.NsaOut.nD Cert.NsaOut.τ).loc Cert.NsaOut.main_arg1) = m ((c.tc : Thread Cert.NsaOut.nD Cert.NsaOut.τ).loc Cert.NsaOut.main_arg1)
      ∧ r.2.mem ((c.tc : Thread Cert.NsaOut.nD Cert.NsaOut.τ).loc Cert.NsaOut.main_arg2) = m ((c.tc : Thread Cert.NsaOut.nD Cert.NsaOut.τ).loc Cert.NsaOut.main_arg2)
      ∧ r.2.mem ((c.tc : Thread Cert.NsaOut.nD Cert.NsaOut.τ).loc Cert.NsaOut.main_arg3) = m ((c.tc : Thread Cert.NsaOut.nD Cert.NsaOut.τ).loc Cert.NsaOut.main_arg3)
      ∧ r.2.mem ((c.tc : Thread Cert.NsaOut.nD Cert.NsaOut.τ).loc Cert.NsaOut.main_arg4) = m ((c.tc : Thread Cert.NsaOut.nD Cert.NsaOut.τ).loc Cert.NsaOut.main_arg4)
      ∧ r.2.mem ((c.tc : Thread Cert.NsaOut.nD Cert.NsaOut.τ).loc Cert.NsaOut.main_arg5) = m ((c.tc : Thread Cert.NsaOut.nD Cert.NsaOut.τ).loc Cert.NsaOut.main_arg5)
      ∧ r.2.mem ((c.tc : Thread Cert.NsaOut.nD Cert.NsaOut.τ).loc Cert.NsaOut.main_arg6) = m ((c.tc : Thread Cert.NsaOut.nD Cert.NsaOut.τ).loc Cert.NsaOut.main_arg6))
      ∧ r.2.sem = fun _ => 0)

def quiescent_NsaOutIdeal [hNsaOutIdeal : Cert.NsaOutIdeal.Facts] : Prop :=
  ∀ (m : (ℓ : Loc Cert.NsaOutIdeal.nD Cert.NsaOutIdeal.τ Cert.NsaOutIdeal.sig) → Buf (Elt Ideal) ℓ) (g : Dev Cert.NsaOutIdeal.nD → PrngReg), Pre_NsaOutIdeal m →
    θ_run (Cert.NsaOutIdeal.defs (F := Ideal)) (onTc (τ := Cert.NsaOutIdeal.τ) (Cert.NsaOutIdeal.main (F := Ideal))) ⟨m, fun _ => 0, g⟩ (fun r => (∀ c : Dev Cert.NsaOutIdeal.nD,
      r.2.mem ((c.tc : Thread Cert.NsaOutIdeal.nD Cert.NsaOutIdeal.τ).loc Cert.NsaOutIdeal.main_arg0) = m ((c.tc : Thread Cert.NsaOutIdeal.nD Cert.NsaOutIdeal.τ).loc Cert.NsaOutIdeal.main_arg0)
      ∧ r.2.mem ((c.tc : Thread Cert.NsaOutIdeal.nD Cert.NsaOutIdeal.τ).loc Cert.NsaOutIdeal.main_arg1) = m ((c.tc : Thread Cert.NsaOutIdeal.nD Cert.NsaOutIdeal.τ).loc Cert.NsaOutIdeal.main_arg1)
      ∧ r.2.mem ((c.tc : Thread Cert.NsaOutIdeal.nD Cert.NsaOutIdeal.τ).loc Cert.NsaOutIdeal.main_arg2) = m ((c.tc : Thread Cert.NsaOutIdeal.nD Cert.NsaOutIdeal.τ).loc Cert.NsaOutIdeal.main_arg2)
      ∧ r.2.mem ((c.tc : Thread Cert.NsaOutIdeal.nD Cert.NsaOutIdeal.τ).loc Cert.NsaOutIdeal.main_arg3) = m ((c.tc : Thread Cert.NsaOutIdeal.nD Cert.NsaOutIdeal.τ).loc Cert.NsaOutIdeal.main_arg3)
      ∧ r.2.mem ((c.tc : Thread Cert.NsaOutIdeal.nD Cert.NsaOutIdeal.τ).loc Cert.NsaOutIdeal.main_arg4) = m ((c.tc : Thread Cert.NsaOutIdeal.nD Cert.NsaOutIdeal.τ).loc Cert.NsaOutIdeal.main_arg4)
      ∧ r.2.mem ((c.tc : Thread Cert.NsaOutIdeal.nD Cert.NsaOutIdeal.τ).loc Cert.NsaOutIdeal.main_arg5) = m ((c.tc : Thread Cert.NsaOutIdeal.nD Cert.NsaOutIdeal.τ).loc Cert.NsaOutIdeal.main_arg5)
      ∧ r.2.mem ((c.tc : Thread Cert.NsaOutIdeal.nD Cert.NsaOutIdeal.τ).loc Cert.NsaOutIdeal.main_arg6) = m ((c.tc : Thread Cert.NsaOutIdeal.nD Cert.NsaOutIdeal.τ).loc Cert.NsaOutIdeal.main_arg6))
      ∧ r.2.sem = fun _ => 0)

def quiescent_NsaOutIdeal_pre_gates_between [hNsaOutIdeal : Cert.NsaOutIdeal.Facts] [hPre_gates_between : Cert.Pre_gates_between.Facts] : Prop :=
  ∀ (m : (ℓ : Loc Cert.NsaOutIdeal.nD Cert.NsaOutIdeal.τ Cert.NsaOutIdeal.sig) → Buf (Elt Ideal) ℓ) (g : Dev Cert.NsaOutIdeal.nD → PrngReg), Pre_NsaOutIdeal_gates_between m →
    θ_run (Cert.NsaOutIdeal.defs (F := Ideal)) (onTc (τ := Cert.NsaOutIdeal.τ) (Cert.NsaOutIdeal.main (F := Ideal))) ⟨m, fun _ => 0, g⟩ (fun r => (∀ c : Dev Cert.NsaOutIdeal.nD,
      r.2.mem ((c.tc : Thread Cert.NsaOutIdeal.nD Cert.NsaOutIdeal.τ).loc Cert.NsaOutIdeal.main_arg0) = m ((c.tc : Thread Cert.NsaOutIdeal.nD Cert.NsaOutIdeal.τ).loc Cert.NsaOutIdeal.main_arg0)
      ∧ r.2.mem ((c.tc : Thread Cert.NsaOutIdeal.nD Cert.NsaOutIdeal.τ).loc Cert.NsaOutIdeal.main_arg1) = m ((c.tc : Thread Cert.NsaOutIdeal.nD Cert.NsaOutIdeal.τ).loc Cert.NsaOutIdeal.main_arg1)
      ∧ r.2.mem ((c.tc : Thread Cert.NsaOutIdeal.nD Cert.NsaOutIdeal.τ).loc Cert.NsaOutIdeal.main_arg2) = m ((c.tc : Thread Cert.NsaOutIdeal.nD Cert.NsaOutIdeal.τ).loc Cert.NsaOutIdeal.main_arg2)
      ∧ r.2.mem ((c.tc : Thread Cert.NsaOutIdeal.nD Cert.NsaOutIdeal.τ).loc Cert.NsaOutIdeal.main_arg3) = m ((c.tc : Thread Cert.NsaOutIdeal.nD Cert.NsaOutIdeal.τ).loc Cert.NsaOutIdeal.main_arg3)
      ∧ r.2.mem ((c.tc : Thread Cert.NsaOutIdeal.nD Cert.NsaOutIdeal.τ).loc Cert.NsaOutIdeal.main_arg4) = m ((c.tc : Thread Cert.NsaOutIdeal.nD Cert.NsaOutIdeal.τ).loc Cert.NsaOutIdeal.main_arg4)
      ∧ r.2.mem ((c.tc : Thread Cert.NsaOutIdeal.nD Cert.NsaOutIdeal.τ).loc Cert.NsaOutIdeal.main_arg5) = m ((c.tc : Thread Cert.NsaOutIdeal.nD Cert.NsaOutIdeal.τ).loc Cert.NsaOutIdeal.main_arg5)
      ∧ r.2.mem ((c.tc : Thread Cert.NsaOutIdeal.nD Cert.NsaOutIdeal.τ).loc Cert.NsaOutIdeal.main_arg6) = m ((c.tc : Thread Cert.NsaOutIdeal.nD Cert.NsaOutIdeal.τ).loc Cert.NsaOutIdeal.main_arg6))
      ∧ r.2.sem = fun _ => 0)

def quiescent_NsaOutReferenceIdeal [hNsaOutReferenceIdeal : Cert.NsaOutReferenceIdeal.Facts] : Prop :=
  ∀ (m : (ℓ : Loc Cert.NsaOutReferenceIdeal.nD Cert.NsaOutReferenceIdeal.τ Cert.NsaOutReferenceIdeal.sig) → Buf (Elt Ideal) ℓ) (g : Dev Cert.NsaOutReferenceIdeal.nD → PrngReg), Pre_NsaOutReferenceIdeal m →
    θ_run (Cert.NsaOutReferenceIdeal.defs (F := Ideal)) (onTc (τ := Cert.NsaOutReferenceIdeal.τ) (Cert.NsaOutReferenceIdeal.main (F := Ideal))) ⟨m, fun _ => 0, g⟩ (fun r => (∀ c : Dev Cert.NsaOutReferenceIdeal.nD,
      r.2.mem ((c.tc : Thread Cert.NsaOutReferenceIdeal.nD Cert.NsaOutReferenceIdeal.τ).loc Cert.NsaOutReferenceIdeal.main_arg0) = m ((c.tc : Thread Cert.NsaOutReferenceIdeal.nD Cert.NsaOutReferenceIdeal.τ).loc Cert.NsaOutReferenceIdeal.main_arg0)
      ∧ r.2.mem ((c.tc : Thread Cert.NsaOutReferenceIdeal.nD Cert.NsaOutReferenceIdeal.τ).loc Cert.NsaOutReferenceIdeal.main_arg1) = m ((c.tc : Thread Cert.NsaOutReferenceIdeal.nD Cert.NsaOutReferenceIdeal.τ).loc Cert.NsaOutReferenceIdeal.main_arg1)
      ∧ r.2.mem ((c.tc : Thread Cert.NsaOutReferenceIdeal.nD Cert.NsaOutReferenceIdeal.τ).loc Cert.NsaOutReferenceIdeal.main_arg2) = m ((c.tc : Thread Cert.NsaOutReferenceIdeal.nD Cert.NsaOutReferenceIdeal.τ).loc Cert.NsaOutReferenceIdeal.main_arg2)
      ∧ r.2.mem ((c.tc : Thread Cert.NsaOutReferenceIdeal.nD Cert.NsaOutReferenceIdeal.τ).loc Cert.NsaOutReferenceIdeal.main_arg3) = m ((c.tc : Thread Cert.NsaOutReferenceIdeal.nD Cert.NsaOutReferenceIdeal.τ).loc Cert.NsaOutReferenceIdeal.main_arg3)
      ∧ r.2.mem ((c.tc : Thread Cert.NsaOutReferenceIdeal.nD Cert.NsaOutReferenceIdeal.τ).loc Cert.NsaOutReferenceIdeal.main_arg4) = m ((c.tc : Thread Cert.NsaOutReferenceIdeal.nD Cert.NsaOutReferenceIdeal.τ).loc Cert.NsaOutReferenceIdeal.main_arg4)
      ∧ r.2.mem ((c.tc : Thread Cert.NsaOutReferenceIdeal.nD Cert.NsaOutReferenceIdeal.τ).loc Cert.NsaOutReferenceIdeal.main_arg5) = m ((c.tc : Thread Cert.NsaOutReferenceIdeal.nD Cert.NsaOutReferenceIdeal.τ).loc Cert.NsaOutReferenceIdeal.main_arg5)
      ∧ r.2.mem ((c.tc : Thread Cert.NsaOutReferenceIdeal.nD Cert.NsaOutReferenceIdeal.τ).loc Cert.NsaOutReferenceIdeal.main_arg6) = m ((c.tc : Thread Cert.NsaOutReferenceIdeal.nD Cert.NsaOutReferenceIdeal.τ).loc Cert.NsaOutReferenceIdeal.main_arg6))
      ∧ r.2.sem = fun _ => 0)

def quiescent_NsaOutReferenceIdeal_pre_gates_between [hNsaOutReferenceIdeal : Cert.NsaOutReferenceIdeal.Facts] [hPre_gates_between : Cert.Pre_gates_between.Facts] : Prop :=
  ∀ (m : (ℓ : Loc Cert.NsaOutReferenceIdeal.nD Cert.NsaOutReferenceIdeal.τ Cert.NsaOutReferenceIdeal.sig) → Buf (Elt Ideal) ℓ) (g : Dev Cert.NsaOutReferenceIdeal.nD → PrngReg), Pre_NsaOutReferenceIdeal_gates_between m →
    θ_run (Cert.NsaOutReferenceIdeal.defs (F := Ideal)) (onTc (τ := Cert.NsaOutReferenceIdeal.τ) (Cert.NsaOutReferenceIdeal.main (F := Ideal))) ⟨m, fun _ => 0, g⟩ (fun r => (∀ c : Dev Cert.NsaOutReferenceIdeal.nD,
      r.2.mem ((c.tc : Thread Cert.NsaOutReferenceIdeal.nD Cert.NsaOutReferenceIdeal.τ).loc Cert.NsaOutReferenceIdeal.main_arg0) = m ((c.tc : Thread Cert.NsaOutReferenceIdeal.nD Cert.NsaOutReferenceIdeal.τ).loc Cert.NsaOutReferenceIdeal.main_arg0)
      ∧ r.2.mem ((c.tc : Thread Cert.NsaOutReferenceIdeal.nD Cert.NsaOutReferenceIdeal.τ).loc Cert.NsaOutReferenceIdeal.main_arg1) = m ((c.tc : Thread Cert.NsaOutReferenceIdeal.nD Cert.NsaOutReferenceIdeal.τ).loc Cert.NsaOutReferenceIdeal.main_arg1)
      ∧ r.2.mem ((c.tc : Thread Cert.NsaOutReferenceIdeal.nD Cert.NsaOutReferenceIdeal.τ).loc Cert.NsaOutReferenceIdeal.main_arg2) = m ((c.tc : Thread Cert.NsaOutReferenceIdeal.nD Cert.NsaOutReferenceIdeal.τ).loc Cert.NsaOutReferenceIdeal.main_arg2)
      ∧ r.2.mem ((c.tc : Thread Cert.NsaOutReferenceIdeal.nD Cert.NsaOutReferenceIdeal.τ).loc Cert.NsaOutReferenceIdeal.main_arg3) = m ((c.tc : Thread Cert.NsaOutReferenceIdeal.nD Cert.NsaOutReferenceIdeal.τ).loc Cert.NsaOutReferenceIdeal.main_arg3)
      ∧ r.2.mem ((c.tc : Thread Cert.NsaOutReferenceIdeal.nD Cert.NsaOutReferenceIdeal.τ).loc Cert.NsaOutReferenceIdeal.main_arg4) = m ((c.tc : Thread Cert.NsaOutReferenceIdeal.nD Cert.NsaOutReferenceIdeal.τ).loc Cert.NsaOutReferenceIdeal.main_arg4)
      ∧ r.2.mem ((c.tc : Thread Cert.NsaOutReferenceIdeal.nD Cert.NsaOutReferenceIdeal.τ).loc Cert.NsaOutReferenceIdeal.main_arg5) = m ((c.tc : Thread Cert.NsaOutReferenceIdeal.nD Cert.NsaOutReferenceIdeal.τ).loc Cert.NsaOutReferenceIdeal.main_arg5)
      ∧ r.2.mem ((c.tc : Thread Cert.NsaOutReferenceIdeal.nD Cert.NsaOutReferenceIdeal.τ).loc Cert.NsaOutReferenceIdeal.main_arg6) = m ((c.tc : Thread Cert.NsaOutReferenceIdeal.nD Cert.NsaOutReferenceIdeal.τ).loc Cert.NsaOutReferenceIdeal.main_arg6))
      ∧ r.2.sem = fun _ => 0)

def quiescent_NsaProj [hNsaProj : Cert.NsaProj.Facts] : Prop :=
  ∀ (m : (ℓ : Loc Cert.NsaProj.nD Cert.NsaProj.τ Cert.NsaProj.sig) → Buf (Elt Bits) ℓ) (g : Dev Cert.NsaProj.nD → PrngReg), Pre_NsaProj m →
    θ_run (Cert.NsaProj.defs (F := Bits)) (onTc (τ := Cert.NsaProj.τ) (Cert.NsaProj.main (F := Bits))) ⟨m, fun _ => 0, g⟩ (fun r => (∀ c : Dev Cert.NsaProj.nD,
      r.2.mem ((c.tc : Thread Cert.NsaProj.nD Cert.NsaProj.τ).loc Cert.NsaProj.main_arg0) = m ((c.tc : Thread Cert.NsaProj.nD Cert.NsaProj.τ).loc Cert.NsaProj.main_arg0)
      ∧ r.2.mem ((c.tc : Thread Cert.NsaProj.nD Cert.NsaProj.τ).loc Cert.NsaProj.main_arg1) = m ((c.tc : Thread Cert.NsaProj.nD Cert.NsaProj.τ).loc Cert.NsaProj.main_arg1)
      ∧ r.2.mem ((c.tc : Thread Cert.NsaProj.nD Cert.NsaProj.τ).loc Cert.NsaProj.main_arg2) = m ((c.tc : Thread Cert.NsaProj.nD Cert.NsaProj.τ).loc Cert.NsaProj.main_arg2)
      ∧ r.2.mem ((c.tc : Thread Cert.NsaProj.nD Cert.NsaProj.τ).loc Cert.NsaProj.main_arg3) = m ((c.tc : Thread Cert.NsaProj.nD Cert.NsaProj.τ).loc Cert.NsaProj.main_arg3)
      ∧ r.2.mem ((c.tc : Thread Cert.NsaProj.nD Cert.NsaProj.τ).loc Cert.NsaProj.main_arg4) = m ((c.tc : Thread Cert.NsaProj.nD Cert.NsaProj.τ).loc Cert.NsaProj.main_arg4)
      ∧ r.2.mem ((c.tc : Thread Cert.NsaProj.nD Cert.NsaProj.τ).loc Cert.NsaProj.main_arg5) = m ((c.tc : Thread Cert.NsaProj.nD Cert.NsaProj.τ).loc Cert.NsaProj.main_arg5)
      ∧ r.2.mem ((c.tc : Thread Cert.NsaProj.nD Cert.NsaProj.τ).loc Cert.NsaProj.main_arg6) = m ((c.tc : Thread Cert.NsaProj.nD Cert.NsaProj.τ).loc Cert.NsaProj.main_arg6)
      ∧ r.2.mem ((c.tc : Thread Cert.NsaProj.nD Cert.NsaProj.τ).loc Cert.NsaProj.main_arg7) = m ((c.tc : Thread Cert.NsaProj.nD Cert.NsaProj.τ).loc Cert.NsaProj.main_arg7))
      ∧ r.2.sem = fun _ => 0)

def quiescent_NsaProjIdeal [hNsaProjIdeal : Cert.NsaProjIdeal.Facts] : Prop :=
  ∀ (m : (ℓ : Loc Cert.NsaProjIdeal.nD Cert.NsaProjIdeal.τ Cert.NsaProjIdeal.sig) → Buf (Elt Ideal) ℓ) (g : Dev Cert.NsaProjIdeal.nD → PrngReg), Pre_NsaProjIdeal m →
    θ_run (Cert.NsaProjIdeal.defs (F := Ideal)) (onTc (τ := Cert.NsaProjIdeal.τ) (Cert.NsaProjIdeal.main (F := Ideal))) ⟨m, fun _ => 0, g⟩ (fun r => (∀ c : Dev Cert.NsaProjIdeal.nD,
      r.2.mem ((c.tc : Thread Cert.NsaProjIdeal.nD Cert.NsaProjIdeal.τ).loc Cert.NsaProjIdeal.main_arg0) = m ((c.tc : Thread Cert.NsaProjIdeal.nD Cert.NsaProjIdeal.τ).loc Cert.NsaProjIdeal.main_arg0)
      ∧ r.2.mem ((c.tc : Thread Cert.NsaProjIdeal.nD Cert.NsaProjIdeal.τ).loc Cert.NsaProjIdeal.main_arg1) = m ((c.tc : Thread Cert.NsaProjIdeal.nD Cert.NsaProjIdeal.τ).loc Cert.NsaProjIdeal.main_arg1)
      ∧ r.2.mem ((c.tc : Thread Cert.NsaProjIdeal.nD Cert.NsaProjIdeal.τ).loc Cert.NsaProjIdeal.main_arg2) = m ((c.tc : Thread Cert.NsaProjIdeal.nD Cert.NsaProjIdeal.τ).loc Cert.NsaProjIdeal.main_arg2)
      ∧ r.2.mem ((c.tc : Thread Cert.NsaProjIdeal.nD Cert.NsaProjIdeal.τ).loc Cert.NsaProjIdeal.main_arg3) = m ((c.tc : Thread Cert.NsaProjIdeal.nD Cert.NsaProjIdeal.τ).loc Cert.NsaProjIdeal.main_arg3)
      ∧ r.2.mem ((c.tc : Thread Cert.NsaProjIdeal.nD Cert.NsaProjIdeal.τ).loc Cert.NsaProjIdeal.main_arg4) = m ((c.tc : Thread Cert.NsaProjIdeal.nD Cert.NsaProjIdeal.τ).loc Cert.NsaProjIdeal.main_arg4)
      ∧ r.2.mem ((c.tc : Thread Cert.NsaProjIdeal.nD Cert.NsaProjIdeal.τ).loc Cert.NsaProjIdeal.main_arg5) = m ((c.tc : Thread Cert.NsaProjIdeal.nD Cert.NsaProjIdeal.τ).loc Cert.NsaProjIdeal.main_arg5)
      ∧ r.2.mem ((c.tc : Thread Cert.NsaProjIdeal.nD Cert.NsaProjIdeal.τ).loc Cert.NsaProjIdeal.main_arg6) = m ((c.tc : Thread Cert.NsaProjIdeal.nD Cert.NsaProjIdeal.τ).loc Cert.NsaProjIdeal.main_arg6)
      ∧ r.2.mem ((c.tc : Thread Cert.NsaProjIdeal.nD Cert.NsaProjIdeal.τ).loc Cert.NsaProjIdeal.main_arg7) = m ((c.tc : Thread Cert.NsaProjIdeal.nD Cert.NsaProjIdeal.τ).loc Cert.NsaProjIdeal.main_arg7))
      ∧ r.2.sem = fun _ => 0)

def quiescent_NsaProjReferenceIdeal [hNsaProjReferenceIdeal : Cert.NsaProjReferenceIdeal.Facts] : Prop :=
  ∀ (m : (ℓ : Loc Cert.NsaProjReferenceIdeal.nD Cert.NsaProjReferenceIdeal.τ Cert.NsaProjReferenceIdeal.sig) → Buf (Elt Ideal) ℓ) (g : Dev Cert.NsaProjReferenceIdeal.nD → PrngReg), Pre_NsaProjReferenceIdeal m →
    θ_run (Cert.NsaProjReferenceIdeal.defs (F := Ideal)) (onTc (τ := Cert.NsaProjReferenceIdeal.τ) (Cert.NsaProjReferenceIdeal.main (F := Ideal))) ⟨m, fun _ => 0, g⟩ (fun r => (∀ c : Dev Cert.NsaProjReferenceIdeal.nD,
      r.2.mem ((c.tc : Thread Cert.NsaProjReferenceIdeal.nD Cert.NsaProjReferenceIdeal.τ).loc Cert.NsaProjReferenceIdeal.main_arg0) = m ((c.tc : Thread Cert.NsaProjReferenceIdeal.nD Cert.NsaProjReferenceIdeal.τ).loc Cert.NsaProjReferenceIdeal.main_arg0)
      ∧ r.2.mem ((c.tc : Thread Cert.NsaProjReferenceIdeal.nD Cert.NsaProjReferenceIdeal.τ).loc Cert.NsaProjReferenceIdeal.main_arg1) = m ((c.tc : Thread Cert.NsaProjReferenceIdeal.nD Cert.NsaProjReferenceIdeal.τ).loc Cert.NsaProjReferenceIdeal.main_arg1)
      ∧ r.2.mem ((c.tc : Thread Cert.NsaProjReferenceIdeal.nD Cert.NsaProjReferenceIdeal.τ).loc Cert.NsaProjReferenceIdeal.main_arg2) = m ((c.tc : Thread Cert.NsaProjReferenceIdeal.nD Cert.NsaProjReferenceIdeal.τ).loc Cert.NsaProjReferenceIdeal.main_arg2)
      ∧ r.2.mem ((c.tc : Thread Cert.NsaProjReferenceIdeal.nD Cert.NsaProjReferenceIdeal.τ).loc Cert.NsaProjReferenceIdeal.main_arg3) = m ((c.tc : Thread Cert.NsaProjReferenceIdeal.nD Cert.NsaProjReferenceIdeal.τ).loc Cert.NsaProjReferenceIdeal.main_arg3)
      ∧ r.2.mem ((c.tc : Thread Cert.NsaProjReferenceIdeal.nD Cert.NsaProjReferenceIdeal.τ).loc Cert.NsaProjReferenceIdeal.main_arg4) = m ((c.tc : Thread Cert.NsaProjReferenceIdeal.nD Cert.NsaProjReferenceIdeal.τ).loc Cert.NsaProjReferenceIdeal.main_arg4)
      ∧ r.2.mem ((c.tc : Thread Cert.NsaProjReferenceIdeal.nD Cert.NsaProjReferenceIdeal.τ).loc Cert.NsaProjReferenceIdeal.main_arg5) = m ((c.tc : Thread Cert.NsaProjReferenceIdeal.nD Cert.NsaProjReferenceIdeal.τ).loc Cert.NsaProjReferenceIdeal.main_arg5)
      ∧ r.2.mem ((c.tc : Thread Cert.NsaProjReferenceIdeal.nD Cert.NsaProjReferenceIdeal.τ).loc Cert.NsaProjReferenceIdeal.main_arg6) = m ((c.tc : Thread Cert.NsaProjReferenceIdeal.nD Cert.NsaProjReferenceIdeal.τ).loc Cert.NsaProjReferenceIdeal.main_arg6)
      ∧ r.2.mem ((c.tc : Thread Cert.NsaProjReferenceIdeal.nD Cert.NsaProjReferenceIdeal.τ).loc Cert.NsaProjReferenceIdeal.main_arg7) = m ((c.tc : Thread Cert.NsaProjReferenceIdeal.nD Cert.NsaProjReferenceIdeal.τ).loc Cert.NsaProjReferenceIdeal.main_arg7))
      ∧ r.2.sem = fun _ => 0)

def quiescent_ConfConv [hConfConv : Cert.ConfConv.Facts] : Prop :=
  ∀ (m : (ℓ : Loc Cert.ConfConv.nD Cert.ConfConv.τ Cert.ConfConv.sig) → Buf (Elt Bits) ℓ) (g : Dev Cert.ConfConv.nD → PrngReg), Pre_ConfConv m →
    θ_run (Cert.ConfConv.defs (F := Bits)) (onTc (τ := Cert.ConfConv.τ) (Cert.ConfConv.main (F := Bits))) ⟨m, fun _ => 0, g⟩ (fun r => (∀ c : Dev Cert.ConfConv.nD,
      r.2.mem ((c.tc : Thread Cert.ConfConv.nD Cert.ConfConv.τ).loc Cert.ConfConv.main_arg0) = m ((c.tc : Thread Cert.ConfConv.nD Cert.ConfConv.τ).loc Cert.ConfConv.main_arg0)
      ∧ r.2.mem ((c.tc : Thread Cert.ConfConv.nD Cert.ConfConv.τ).loc Cert.ConfConv.main_arg1) = m ((c.tc : Thread Cert.ConfConv.nD Cert.ConfConv.τ).loc Cert.ConfConv.main_arg1)
      ∧ r.2.mem ((c.tc : Thread Cert.ConfConv.nD Cert.ConfConv.τ).loc Cert.ConfConv.main_arg2) = m ((c.tc : Thread Cert.ConfConv.nD Cert.ConfConv.τ).loc Cert.ConfConv.main_arg2)
      ∧ r.2.mem ((c.tc : Thread Cert.ConfConv.nD Cert.ConfConv.τ).loc Cert.ConfConv.main_arg3) = m ((c.tc : Thread Cert.ConfConv.nD Cert.ConfConv.τ).loc Cert.ConfConv.main_arg3)
      ∧ r.2.mem ((c.tc : Thread Cert.ConfConv.nD Cert.ConfConv.τ).loc Cert.ConfConv.main_arg4) = m ((c.tc : Thread Cert.ConfConv.nD Cert.ConfConv.τ).loc Cert.ConfConv.main_arg4)
      ∧ r.2.mem ((c.tc : Thread Cert.ConfConv.nD Cert.ConfConv.τ).loc Cert.ConfConv.main_arg5) = m ((c.tc : Thread Cert.ConfConv.nD Cert.ConfConv.τ).loc Cert.ConfConv.main_arg5))
      ∧ r.2.sem = fun _ => 0)

def quiescent_ConfConvIdeal [hConfConvIdeal : Cert.ConfConvIdeal.Facts] : Prop :=
  ∀ (m : (ℓ : Loc Cert.ConfConvIdeal.nD Cert.ConfConvIdeal.τ Cert.ConfConvIdeal.sig) → Buf (Elt Ideal) ℓ) (g : Dev Cert.ConfConvIdeal.nD → PrngReg), Pre_ConfConvIdeal m →
    θ_run (Cert.ConfConvIdeal.defs (F := Ideal)) (onTc (τ := Cert.ConfConvIdeal.τ) (Cert.ConfConvIdeal.main (F := Ideal))) ⟨m, fun _ => 0, g⟩ (fun r => (∀ c : Dev Cert.ConfConvIdeal.nD,
      r.2.mem ((c.tc : Thread Cert.ConfConvIdeal.nD Cert.ConfConvIdeal.τ).loc Cert.ConfConvIdeal.main_arg0) = m ((c.tc : Thread Cert.ConfConvIdeal.nD Cert.ConfConvIdeal.τ).loc Cert.ConfConvIdeal.main_arg0)
      ∧ r.2.mem ((c.tc : Thread Cert.ConfConvIdeal.nD Cert.ConfConvIdeal.τ).loc Cert.ConfConvIdeal.main_arg1) = m ((c.tc : Thread Cert.ConfConvIdeal.nD Cert.ConfConvIdeal.τ).loc Cert.ConfConvIdeal.main_arg1)
      ∧ r.2.mem ((c.tc : Thread Cert.ConfConvIdeal.nD Cert.ConfConvIdeal.τ).loc Cert.ConfConvIdeal.main_arg2) = m ((c.tc : Thread Cert.ConfConvIdeal.nD Cert.ConfConvIdeal.τ).loc Cert.ConfConvIdeal.main_arg2)
      ∧ r.2.mem ((c.tc : Thread Cert.ConfConvIdeal.nD Cert.ConfConvIdeal.τ).loc Cert.ConfConvIdeal.main_arg3) = m ((c.tc : Thread Cert.ConfConvIdeal.nD Cert.ConfConvIdeal.τ).loc Cert.ConfConvIdeal.main_arg3)
      ∧ r.2.mem ((c.tc : Thread Cert.ConfConvIdeal.nD Cert.ConfConvIdeal.τ).loc Cert.ConfConvIdeal.main_arg4) = m ((c.tc : Thread Cert.ConfConvIdeal.nD Cert.ConfConvIdeal.τ).loc Cert.ConfConvIdeal.main_arg4)
      ∧ r.2.mem ((c.tc : Thread Cert.ConfConvIdeal.nD Cert.ConfConvIdeal.τ).loc Cert.ConfConvIdeal.main_arg5) = m ((c.tc : Thread Cert.ConfConvIdeal.nD Cert.ConfConvIdeal.τ).loc Cert.ConfConvIdeal.main_arg5))
      ∧ r.2.sem = fun _ => 0)

def quiescent_ConfConvReferenceIdeal [hConfConvReferenceIdeal : Cert.ConfConvReferenceIdeal.Facts] : Prop :=
  ∀ (m : (ℓ : Loc Cert.ConfConvReferenceIdeal.nD Cert.ConfConvReferenceIdeal.τ Cert.ConfConvReferenceIdeal.sig) → Buf (Elt Ideal) ℓ) (g : Dev Cert.ConfConvReferenceIdeal.nD → PrngReg), Pre_ConfConvReferenceIdeal m →
    θ_run (Cert.ConfConvReferenceIdeal.defs (F := Ideal)) (onTc (τ := Cert.ConfConvReferenceIdeal.τ) (Cert.ConfConvReferenceIdeal.main (F := Ideal))) ⟨m, fun _ => 0, g⟩ (fun r => (∀ c : Dev Cert.ConfConvReferenceIdeal.nD,
      r.2.mem ((c.tc : Thread Cert.ConfConvReferenceIdeal.nD Cert.ConfConvReferenceIdeal.τ).loc Cert.ConfConvReferenceIdeal.main_arg0) = m ((c.tc : Thread Cert.ConfConvReferenceIdeal.nD Cert.ConfConvReferenceIdeal.τ).loc Cert.ConfConvReferenceIdeal.main_arg0)
      ∧ r.2.mem ((c.tc : Thread Cert.ConfConvReferenceIdeal.nD Cert.ConfConvReferenceIdeal.τ).loc Cert.ConfConvReferenceIdeal.main_arg1) = m ((c.tc : Thread Cert.ConfConvReferenceIdeal.nD Cert.ConfConvReferenceIdeal.τ).loc Cert.ConfConvReferenceIdeal.main_arg1)
      ∧ r.2.mem ((c.tc : Thread Cert.ConfConvReferenceIdeal.nD Cert.ConfConvReferenceIdeal.τ).loc Cert.ConfConvReferenceIdeal.main_arg2) = m ((c.tc : Thread Cert.ConfConvReferenceIdeal.nD Cert.ConfConvReferenceIdeal.τ).loc Cert.ConfConvReferenceIdeal.main_arg2)
      ∧ r.2.mem ((c.tc : Thread Cert.ConfConvReferenceIdeal.nD Cert.ConfConvReferenceIdeal.τ).loc Cert.ConfConvReferenceIdeal.main_arg3) = m ((c.tc : Thread Cert.ConfConvReferenceIdeal.nD Cert.ConfConvReferenceIdeal.τ).loc Cert.ConfConvReferenceIdeal.main_arg3)
      ∧ r.2.mem ((c.tc : Thread Cert.ConfConvReferenceIdeal.nD Cert.ConfConvReferenceIdeal.τ).loc Cert.ConfConvReferenceIdeal.main_arg4) = m ((c.tc : Thread Cert.ConfConvReferenceIdeal.nD Cert.ConfConvReferenceIdeal.τ).loc Cert.ConfConvReferenceIdeal.main_arg4)
      ∧ r.2.mem ((c.tc : Thread Cert.ConfConvReferenceIdeal.nD Cert.ConfConvReferenceIdeal.τ).loc Cert.ConfConvReferenceIdeal.main_arg5) = m ((c.tc : Thread Cert.ConfConvReferenceIdeal.nD Cert.ConfConvReferenceIdeal.τ).loc Cert.ConfConvReferenceIdeal.main_arg5))
      ∧ r.2.sem = fun _ => 0)

def quiescent_ConfProjSample [hConfProjSample : Cert.ConfProjSample.Facts] : Prop :=
  ∀ (m : (ℓ : Loc Cert.ConfProjSample.nD Cert.ConfProjSample.τ Cert.ConfProjSample.sig) → Buf (Elt Bits) ℓ) (g : Dev Cert.ConfProjSample.nD → PrngReg), Pre_ConfProjSample m →
    θ_run (Cert.ConfProjSample.defs (F := Bits)) (onTc (τ := Cert.ConfProjSample.τ) (Cert.ConfProjSample.main (F := Bits))) ⟨m, fun _ => 0, g⟩ (fun r => (∀ c : Dev Cert.ConfProjSample.nD,
      r.2.mem ((c.tc : Thread Cert.ConfProjSample.nD Cert.ConfProjSample.τ).loc Cert.ConfProjSample.main_arg0) = m ((c.tc : Thread Cert.ConfProjSample.nD Cert.ConfProjSample.τ).loc Cert.ConfProjSample.main_arg0)
      ∧ r.2.mem ((c.tc : Thread Cert.ConfProjSample.nD Cert.ConfProjSample.τ).loc Cert.ConfProjSample.main_arg1) = m ((c.tc : Thread Cert.ConfProjSample.nD Cert.ConfProjSample.τ).loc Cert.ConfProjSample.main_arg1)
      ∧ r.2.mem ((c.tc : Thread Cert.ConfProjSample.nD Cert.ConfProjSample.τ).loc Cert.ConfProjSample.main_arg2) = m ((c.tc : Thread Cert.ConfProjSample.nD Cert.ConfProjSample.τ).loc Cert.ConfProjSample.main_arg2))
      ∧ r.2.sem = fun _ => 0)

def quiescent_ConfProjSampleIdeal [hConfProjSampleIdeal : Cert.ConfProjSampleIdeal.Facts] : Prop :=
  ∀ (m : (ℓ : Loc Cert.ConfProjSampleIdeal.nD Cert.ConfProjSampleIdeal.τ Cert.ConfProjSampleIdeal.sig) → Buf (Elt Ideal) ℓ) (g : Dev Cert.ConfProjSampleIdeal.nD → PrngReg), Pre_ConfProjSampleIdeal m →
    θ_run (Cert.ConfProjSampleIdeal.defs (F := Ideal)) (onTc (τ := Cert.ConfProjSampleIdeal.τ) (Cert.ConfProjSampleIdeal.main (F := Ideal))) ⟨m, fun _ => 0, g⟩ (fun r => (∀ c : Dev Cert.ConfProjSampleIdeal.nD,
      r.2.mem ((c.tc : Thread Cert.ConfProjSampleIdeal.nD Cert.ConfProjSampleIdeal.τ).loc Cert.ConfProjSampleIdeal.main_arg0) = m ((c.tc : Thread Cert.ConfProjSampleIdeal.nD Cert.ConfProjSampleIdeal.τ).loc Cert.ConfProjSampleIdeal.main_arg0)
      ∧ r.2.mem ((c.tc : Thread Cert.ConfProjSampleIdeal.nD Cert.ConfProjSampleIdeal.τ).loc Cert.ConfProjSampleIdeal.main_arg1) = m ((c.tc : Thread Cert.ConfProjSampleIdeal.nD Cert.ConfProjSampleIdeal.τ).loc Cert.ConfProjSampleIdeal.main_arg1)
      ∧ r.2.mem ((c.tc : Thread Cert.ConfProjSampleIdeal.nD Cert.ConfProjSampleIdeal.τ).loc Cert.ConfProjSampleIdeal.main_arg2) = m ((c.tc : Thread Cert.ConfProjSampleIdeal.nD Cert.ConfProjSampleIdeal.τ).loc Cert.ConfProjSampleIdeal.main_arg2))
      ∧ r.2.sem = fun _ => 0)

def quiescent_ConfProjSampleReferenceIdeal [hConfProjSampleReferenceIdeal : Cert.ConfProjSampleReferenceIdeal.Facts] : Prop :=
  ∀ (m : (ℓ : Loc Cert.ConfProjSampleReferenceIdeal.nD Cert.ConfProjSampleReferenceIdeal.τ Cert.ConfProjSampleReferenceIdeal.sig) → Buf (Elt Ideal) ℓ) (g : Dev Cert.ConfProjSampleReferenceIdeal.nD → PrngReg), Pre_ConfProjSampleReferenceIdeal m →
    θ_run (Cert.ConfProjSampleReferenceIdeal.defs (F := Ideal)) (onTc (τ := Cert.ConfProjSampleReferenceIdeal.τ) (Cert.ConfProjSampleReferenceIdeal.main (F := Ideal))) ⟨m, fun _ => 0, g⟩ (fun r => (∀ c : Dev Cert.ConfProjSampleReferenceIdeal.nD,
      r.2.mem ((c.tc : Thread Cert.ConfProjSampleReferenceIdeal.nD Cert.ConfProjSampleReferenceIdeal.τ).loc Cert.ConfProjSampleReferenceIdeal.main_arg0) = m ((c.tc : Thread Cert.ConfProjSampleReferenceIdeal.nD Cert.ConfProjSampleReferenceIdeal.τ).loc Cert.ConfProjSampleReferenceIdeal.main_arg0)
      ∧ r.2.mem ((c.tc : Thread Cert.ConfProjSampleReferenceIdeal.nD Cert.ConfProjSampleReferenceIdeal.τ).loc Cert.ConfProjSampleReferenceIdeal.main_arg1) = m ((c.tc : Thread Cert.ConfProjSampleReferenceIdeal.nD Cert.ConfProjSampleReferenceIdeal.τ).loc Cert.ConfProjSampleReferenceIdeal.main_arg1)
      ∧ r.2.mem ((c.tc : Thread Cert.ConfProjSampleReferenceIdeal.nD Cert.ConfProjSampleReferenceIdeal.τ).loc Cert.ConfProjSampleReferenceIdeal.main_arg2) = m ((c.tc : Thread Cert.ConfProjSampleReferenceIdeal.nD Cert.ConfProjSampleReferenceIdeal.τ).loc Cert.ConfProjSampleReferenceIdeal.main_arg2))
      ∧ r.2.sem = fun _ => 0)

def quiescent_GdnProjSample [hGdnProjSample : Cert.GdnProjSample.Facts] : Prop :=
  ∀ (m : (ℓ : Loc Cert.GdnProjSample.nD Cert.GdnProjSample.τ Cert.GdnProjSample.sig) → Buf (Elt Bits) ℓ) (g : Dev Cert.GdnProjSample.nD → PrngReg), Pre_GdnProjSample m →
    θ_run (Cert.GdnProjSample.defs (F := Bits)) (onTc (τ := Cert.GdnProjSample.τ) (Cert.GdnProjSample.main (F := Bits))) ⟨m, fun _ => 0, g⟩ (fun r => (∀ c : Dev Cert.GdnProjSample.nD,
      r.2.mem ((c.tc : Thread Cert.GdnProjSample.nD Cert.GdnProjSample.τ).loc Cert.GdnProjSample.main_arg0) = m ((c.tc : Thread Cert.GdnProjSample.nD Cert.GdnProjSample.τ).loc Cert.GdnProjSample.main_arg0)
      ∧ r.2.mem ((c.tc : Thread Cert.GdnProjSample.nD Cert.GdnProjSample.τ).loc Cert.GdnProjSample.main_arg1) = m ((c.tc : Thread Cert.GdnProjSample.nD Cert.GdnProjSample.τ).loc Cert.GdnProjSample.main_arg1)
      ∧ r.2.mem ((c.tc : Thread Cert.GdnProjSample.nD Cert.GdnProjSample.τ).loc Cert.GdnProjSample.main_arg2) = m ((c.tc : Thread Cert.GdnProjSample.nD Cert.GdnProjSample.τ).loc Cert.GdnProjSample.main_arg2))
      ∧ r.2.sem = fun _ => 0)

def quiescent_GdnProjSampleIdeal [hGdnProjSampleIdeal : Cert.GdnProjSampleIdeal.Facts] : Prop :=
  ∀ (m : (ℓ : Loc Cert.GdnProjSampleIdeal.nD Cert.GdnProjSampleIdeal.τ Cert.GdnProjSampleIdeal.sig) → Buf (Elt Ideal) ℓ) (g : Dev Cert.GdnProjSampleIdeal.nD → PrngReg), Pre_GdnProjSampleIdeal m →
    θ_run (Cert.GdnProjSampleIdeal.defs (F := Ideal)) (onTc (τ := Cert.GdnProjSampleIdeal.τ) (Cert.GdnProjSampleIdeal.main (F := Ideal))) ⟨m, fun _ => 0, g⟩ (fun r => (∀ c : Dev Cert.GdnProjSampleIdeal.nD,
      r.2.mem ((c.tc : Thread Cert.GdnProjSampleIdeal.nD Cert.GdnProjSampleIdeal.τ).loc Cert.GdnProjSampleIdeal.main_arg0) = m ((c.tc : Thread Cert.GdnProjSampleIdeal.nD Cert.GdnProjSampleIdeal.τ).loc Cert.GdnProjSampleIdeal.main_arg0)
      ∧ r.2.mem ((c.tc : Thread Cert.GdnProjSampleIdeal.nD Cert.GdnProjSampleIdeal.τ).loc Cert.GdnProjSampleIdeal.main_arg1) = m ((c.tc : Thread Cert.GdnProjSampleIdeal.nD Cert.GdnProjSampleIdeal.τ).loc Cert.GdnProjSampleIdeal.main_arg1)
      ∧ r.2.mem ((c.tc : Thread Cert.GdnProjSampleIdeal.nD Cert.GdnProjSampleIdeal.τ).loc Cert.GdnProjSampleIdeal.main_arg2) = m ((c.tc : Thread Cert.GdnProjSampleIdeal.nD Cert.GdnProjSampleIdeal.τ).loc Cert.GdnProjSampleIdeal.main_arg2))
      ∧ r.2.sem = fun _ => 0)

def quiescent_GdnProjSampleReferenceIdeal [hGdnProjSampleReferenceIdeal : Cert.GdnProjSampleReferenceIdeal.Facts] : Prop :=
  ∀ (m : (ℓ : Loc Cert.GdnProjSampleReferenceIdeal.nD Cert.GdnProjSampleReferenceIdeal.τ Cert.GdnProjSampleReferenceIdeal.sig) → Buf (Elt Ideal) ℓ) (g : Dev Cert.GdnProjSampleReferenceIdeal.nD → PrngReg), Pre_GdnProjSampleReferenceIdeal m →
    θ_run (Cert.GdnProjSampleReferenceIdeal.defs (F := Ideal)) (onTc (τ := Cert.GdnProjSampleReferenceIdeal.τ) (Cert.GdnProjSampleReferenceIdeal.main (F := Ideal))) ⟨m, fun _ => 0, g⟩ (fun r => (∀ c : Dev Cert.GdnProjSampleReferenceIdeal.nD,
      r.2.mem ((c.tc : Thread Cert.GdnProjSampleReferenceIdeal.nD Cert.GdnProjSampleReferenceIdeal.τ).loc Cert.GdnProjSampleReferenceIdeal.main_arg0) = m ((c.tc : Thread Cert.GdnProjSampleReferenceIdeal.nD Cert.GdnProjSampleReferenceIdeal.τ).loc Cert.GdnProjSampleReferenceIdeal.main_arg0)
      ∧ r.2.mem ((c.tc : Thread Cert.GdnProjSampleReferenceIdeal.nD Cert.GdnProjSampleReferenceIdeal.τ).loc Cert.GdnProjSampleReferenceIdeal.main_arg1) = m ((c.tc : Thread Cert.GdnProjSampleReferenceIdeal.nD Cert.GdnProjSampleReferenceIdeal.τ).loc Cert.GdnProjSampleReferenceIdeal.main_arg1)
      ∧ r.2.mem ((c.tc : Thread Cert.GdnProjSampleReferenceIdeal.nD Cert.GdnProjSampleReferenceIdeal.τ).loc Cert.GdnProjSampleReferenceIdeal.main_arg2) = m ((c.tc : Thread Cert.GdnProjSampleReferenceIdeal.nD Cert.GdnProjSampleReferenceIdeal.τ).loc Cert.GdnProjSampleReferenceIdeal.main_arg2))
      ∧ r.2.sem = fun _ => 0)

def quiescent_NsaOutSample [hNsaOutSample : Cert.NsaOutSample.Facts] : Prop :=
  ∀ (m : (ℓ : Loc Cert.NsaOutSample.nD Cert.NsaOutSample.τ Cert.NsaOutSample.sig) → Buf (Elt Bits) ℓ) (g : Dev Cert.NsaOutSample.nD → PrngReg), Pre_NsaOutSample m →
    θ_run (Cert.NsaOutSample.defs (F := Bits)) (onTc (τ := Cert.NsaOutSample.τ) (Cert.NsaOutSample.main (F := Bits))) ⟨m, fun _ => 0, g⟩ (fun r => (∀ c : Dev Cert.NsaOutSample.nD,
      r.2.mem ((c.tc : Thread Cert.NsaOutSample.nD Cert.NsaOutSample.τ).loc Cert.NsaOutSample.main_arg0) = m ((c.tc : Thread Cert.NsaOutSample.nD Cert.NsaOutSample.τ).loc Cert.NsaOutSample.main_arg0)
      ∧ r.2.mem ((c.tc : Thread Cert.NsaOutSample.nD Cert.NsaOutSample.τ).loc Cert.NsaOutSample.main_arg1) = m ((c.tc : Thread Cert.NsaOutSample.nD Cert.NsaOutSample.τ).loc Cert.NsaOutSample.main_arg1)
      ∧ r.2.mem ((c.tc : Thread Cert.NsaOutSample.nD Cert.NsaOutSample.τ).loc Cert.NsaOutSample.main_arg2) = m ((c.tc : Thread Cert.NsaOutSample.nD Cert.NsaOutSample.τ).loc Cert.NsaOutSample.main_arg2)
      ∧ r.2.mem ((c.tc : Thread Cert.NsaOutSample.nD Cert.NsaOutSample.τ).loc Cert.NsaOutSample.main_arg3) = m ((c.tc : Thread Cert.NsaOutSample.nD Cert.NsaOutSample.τ).loc Cert.NsaOutSample.main_arg3)
      ∧ r.2.mem ((c.tc : Thread Cert.NsaOutSample.nD Cert.NsaOutSample.τ).loc Cert.NsaOutSample.main_arg4) = m ((c.tc : Thread Cert.NsaOutSample.nD Cert.NsaOutSample.τ).loc Cert.NsaOutSample.main_arg4)
      ∧ r.2.mem ((c.tc : Thread Cert.NsaOutSample.nD Cert.NsaOutSample.τ).loc Cert.NsaOutSample.main_arg5) = m ((c.tc : Thread Cert.NsaOutSample.nD Cert.NsaOutSample.τ).loc Cert.NsaOutSample.main_arg5)
      ∧ r.2.mem ((c.tc : Thread Cert.NsaOutSample.nD Cert.NsaOutSample.τ).loc Cert.NsaOutSample.main_arg6) = m ((c.tc : Thread Cert.NsaOutSample.nD Cert.NsaOutSample.τ).loc Cert.NsaOutSample.main_arg6))
      ∧ r.2.sem = fun _ => 0)

def quiescent_NsaOutSampleIdeal [hNsaOutSampleIdeal : Cert.NsaOutSampleIdeal.Facts] : Prop :=
  ∀ (m : (ℓ : Loc Cert.NsaOutSampleIdeal.nD Cert.NsaOutSampleIdeal.τ Cert.NsaOutSampleIdeal.sig) → Buf (Elt Ideal) ℓ) (g : Dev Cert.NsaOutSampleIdeal.nD → PrngReg), Pre_NsaOutSampleIdeal m →
    θ_run (Cert.NsaOutSampleIdeal.defs (F := Ideal)) (onTc (τ := Cert.NsaOutSampleIdeal.τ) (Cert.NsaOutSampleIdeal.main (F := Ideal))) ⟨m, fun _ => 0, g⟩ (fun r => (∀ c : Dev Cert.NsaOutSampleIdeal.nD,
      r.2.mem ((c.tc : Thread Cert.NsaOutSampleIdeal.nD Cert.NsaOutSampleIdeal.τ).loc Cert.NsaOutSampleIdeal.main_arg0) = m ((c.tc : Thread Cert.NsaOutSampleIdeal.nD Cert.NsaOutSampleIdeal.τ).loc Cert.NsaOutSampleIdeal.main_arg0)
      ∧ r.2.mem ((c.tc : Thread Cert.NsaOutSampleIdeal.nD Cert.NsaOutSampleIdeal.τ).loc Cert.NsaOutSampleIdeal.main_arg1) = m ((c.tc : Thread Cert.NsaOutSampleIdeal.nD Cert.NsaOutSampleIdeal.τ).loc Cert.NsaOutSampleIdeal.main_arg1)
      ∧ r.2.mem ((c.tc : Thread Cert.NsaOutSampleIdeal.nD Cert.NsaOutSampleIdeal.τ).loc Cert.NsaOutSampleIdeal.main_arg2) = m ((c.tc : Thread Cert.NsaOutSampleIdeal.nD Cert.NsaOutSampleIdeal.τ).loc Cert.NsaOutSampleIdeal.main_arg2)
      ∧ r.2.mem ((c.tc : Thread Cert.NsaOutSampleIdeal.nD Cert.NsaOutSampleIdeal.τ).loc Cert.NsaOutSampleIdeal.main_arg3) = m ((c.tc : Thread Cert.NsaOutSampleIdeal.nD Cert.NsaOutSampleIdeal.τ).loc Cert.NsaOutSampleIdeal.main_arg3)
      ∧ r.2.mem ((c.tc : Thread Cert.NsaOutSampleIdeal.nD Cert.NsaOutSampleIdeal.τ).loc Cert.NsaOutSampleIdeal.main_arg4) = m ((c.tc : Thread Cert.NsaOutSampleIdeal.nD Cert.NsaOutSampleIdeal.τ).loc Cert.NsaOutSampleIdeal.main_arg4)
      ∧ r.2.mem ((c.tc : Thread Cert.NsaOutSampleIdeal.nD Cert.NsaOutSampleIdeal.τ).loc Cert.NsaOutSampleIdeal.main_arg5) = m ((c.tc : Thread Cert.NsaOutSampleIdeal.nD Cert.NsaOutSampleIdeal.τ).loc Cert.NsaOutSampleIdeal.main_arg5)
      ∧ r.2.mem ((c.tc : Thread Cert.NsaOutSampleIdeal.nD Cert.NsaOutSampleIdeal.τ).loc Cert.NsaOutSampleIdeal.main_arg6) = m ((c.tc : Thread Cert.NsaOutSampleIdeal.nD Cert.NsaOutSampleIdeal.τ).loc Cert.NsaOutSampleIdeal.main_arg6))
      ∧ r.2.sem = fun _ => 0)

def quiescent_NsaOutSampleIdeal_pre_sample_gates_between [hNsaOutSampleIdeal : Cert.NsaOutSampleIdeal.Facts] [hPre_sample_gates_between : Cert.Pre_sample_gates_between.Facts] : Prop :=
  ∀ (m : (ℓ : Loc Cert.NsaOutSampleIdeal.nD Cert.NsaOutSampleIdeal.τ Cert.NsaOutSampleIdeal.sig) → Buf (Elt Ideal) ℓ) (g : Dev Cert.NsaOutSampleIdeal.nD → PrngReg), Pre_NsaOutSampleIdeal_sample_gates_between m →
    θ_run (Cert.NsaOutSampleIdeal.defs (F := Ideal)) (onTc (τ := Cert.NsaOutSampleIdeal.τ) (Cert.NsaOutSampleIdeal.main (F := Ideal))) ⟨m, fun _ => 0, g⟩ (fun r => (∀ c : Dev Cert.NsaOutSampleIdeal.nD,
      r.2.mem ((c.tc : Thread Cert.NsaOutSampleIdeal.nD Cert.NsaOutSampleIdeal.τ).loc Cert.NsaOutSampleIdeal.main_arg0) = m ((c.tc : Thread Cert.NsaOutSampleIdeal.nD Cert.NsaOutSampleIdeal.τ).loc Cert.NsaOutSampleIdeal.main_arg0)
      ∧ r.2.mem ((c.tc : Thread Cert.NsaOutSampleIdeal.nD Cert.NsaOutSampleIdeal.τ).loc Cert.NsaOutSampleIdeal.main_arg1) = m ((c.tc : Thread Cert.NsaOutSampleIdeal.nD Cert.NsaOutSampleIdeal.τ).loc Cert.NsaOutSampleIdeal.main_arg1)
      ∧ r.2.mem ((c.tc : Thread Cert.NsaOutSampleIdeal.nD Cert.NsaOutSampleIdeal.τ).loc Cert.NsaOutSampleIdeal.main_arg2) = m ((c.tc : Thread Cert.NsaOutSampleIdeal.nD Cert.NsaOutSampleIdeal.τ).loc Cert.NsaOutSampleIdeal.main_arg2)
      ∧ r.2.mem ((c.tc : Thread Cert.NsaOutSampleIdeal.nD Cert.NsaOutSampleIdeal.τ).loc Cert.NsaOutSampleIdeal.main_arg3) = m ((c.tc : Thread Cert.NsaOutSampleIdeal.nD Cert.NsaOutSampleIdeal.τ).loc Cert.NsaOutSampleIdeal.main_arg3)
      ∧ r.2.mem ((c.tc : Thread Cert.NsaOutSampleIdeal.nD Cert.NsaOutSampleIdeal.τ).loc Cert.NsaOutSampleIdeal.main_arg4) = m ((c.tc : Thread Cert.NsaOutSampleIdeal.nD Cert.NsaOutSampleIdeal.τ).loc Cert.NsaOutSampleIdeal.main_arg4)
      ∧ r.2.mem ((c.tc : Thread Cert.NsaOutSampleIdeal.nD Cert.NsaOutSampleIdeal.τ).loc Cert.NsaOutSampleIdeal.main_arg5) = m ((c.tc : Thread Cert.NsaOutSampleIdeal.nD Cert.NsaOutSampleIdeal.τ).loc Cert.NsaOutSampleIdeal.main_arg5)
      ∧ r.2.mem ((c.tc : Thread Cert.NsaOutSampleIdeal.nD Cert.NsaOutSampleIdeal.τ).loc Cert.NsaOutSampleIdeal.main_arg6) = m ((c.tc : Thread Cert.NsaOutSampleIdeal.nD Cert.NsaOutSampleIdeal.τ).loc Cert.NsaOutSampleIdeal.main_arg6))
      ∧ r.2.sem = fun _ => 0)

def quiescent_NsaOutSampleReferenceIdeal [hNsaOutSampleReferenceIdeal : Cert.NsaOutSampleReferenceIdeal.Facts] : Prop :=
  ∀ (m : (ℓ : Loc Cert.NsaOutSampleReferenceIdeal.nD Cert.NsaOutSampleReferenceIdeal.τ Cert.NsaOutSampleReferenceIdeal.sig) → Buf (Elt Ideal) ℓ) (g : Dev Cert.NsaOutSampleReferenceIdeal.nD → PrngReg), Pre_NsaOutSampleReferenceIdeal m →
    θ_run (Cert.NsaOutSampleReferenceIdeal.defs (F := Ideal)) (onTc (τ := Cert.NsaOutSampleReferenceIdeal.τ) (Cert.NsaOutSampleReferenceIdeal.main (F := Ideal))) ⟨m, fun _ => 0, g⟩ (fun r => (∀ c : Dev Cert.NsaOutSampleReferenceIdeal.nD,
      r.2.mem ((c.tc : Thread Cert.NsaOutSampleReferenceIdeal.nD Cert.NsaOutSampleReferenceIdeal.τ).loc Cert.NsaOutSampleReferenceIdeal.main_arg0) = m ((c.tc : Thread Cert.NsaOutSampleReferenceIdeal.nD Cert.NsaOutSampleReferenceIdeal.τ).loc Cert.NsaOutSampleReferenceIdeal.main_arg0)
      ∧ r.2.mem ((c.tc : Thread Cert.NsaOutSampleReferenceIdeal.nD Cert.NsaOutSampleReferenceIdeal.τ).loc Cert.NsaOutSampleReferenceIdeal.main_arg1) = m ((c.tc : Thread Cert.NsaOutSampleReferenceIdeal.nD Cert.NsaOutSampleReferenceIdeal.τ).loc Cert.NsaOutSampleReferenceIdeal.main_arg1)
      ∧ r.2.mem ((c.tc : Thread Cert.NsaOutSampleReferenceIdeal.nD Cert.NsaOutSampleReferenceIdeal.τ).loc Cert.NsaOutSampleReferenceIdeal.main_arg2) = m ((c.tc : Thread Cert.NsaOutSampleReferenceIdeal.nD Cert.NsaOutSampleReferenceIdeal.τ).loc Cert.NsaOutSampleReferenceIdeal.main_arg2)
      ∧ r.2.mem ((c.tc : Thread Cert.NsaOutSampleReferenceIdeal.nD Cert.NsaOutSampleReferenceIdeal.τ).loc Cert.NsaOutSampleReferenceIdeal.main_arg3) = m ((c.tc : Thread Cert.NsaOutSampleReferenceIdeal.nD Cert.NsaOutSampleReferenceIdeal.τ).loc Cert.NsaOutSampleReferenceIdeal.main_arg3)
      ∧ r.2.mem ((c.tc : Thread Cert.NsaOutSampleReferenceIdeal.nD Cert.NsaOutSampleReferenceIdeal.τ).loc Cert.NsaOutSampleReferenceIdeal.main_arg4) = m ((c.tc : Thread Cert.NsaOutSampleReferenceIdeal.nD Cert.NsaOutSampleReferenceIdeal.τ).loc Cert.NsaOutSampleReferenceIdeal.main_arg4)
      ∧ r.2.mem ((c.tc : Thread Cert.NsaOutSampleReferenceIdeal.nD Cert.NsaOutSampleReferenceIdeal.τ).loc Cert.NsaOutSampleReferenceIdeal.main_arg5) = m ((c.tc : Thread Cert.NsaOutSampleReferenceIdeal.nD Cert.NsaOutSampleReferenceIdeal.τ).loc Cert.NsaOutSampleReferenceIdeal.main_arg5)
      ∧ r.2.mem ((c.tc : Thread Cert.NsaOutSampleReferenceIdeal.nD Cert.NsaOutSampleReferenceIdeal.τ).loc Cert.NsaOutSampleReferenceIdeal.main_arg6) = m ((c.tc : Thread Cert.NsaOutSampleReferenceIdeal.nD Cert.NsaOutSampleReferenceIdeal.τ).loc Cert.NsaOutSampleReferenceIdeal.main_arg6))
      ∧ r.2.sem = fun _ => 0)

def quiescent_NsaOutSampleReferenceIdeal_pre_sample_gates_between [hNsaOutSampleReferenceIdeal : Cert.NsaOutSampleReferenceIdeal.Facts] [hPre_sample_gates_between : Cert.Pre_sample_gates_between.Facts] : Prop :=
  ∀ (m : (ℓ : Loc Cert.NsaOutSampleReferenceIdeal.nD Cert.NsaOutSampleReferenceIdeal.τ Cert.NsaOutSampleReferenceIdeal.sig) → Buf (Elt Ideal) ℓ) (g : Dev Cert.NsaOutSampleReferenceIdeal.nD → PrngReg), Pre_NsaOutSampleReferenceIdeal_sample_gates_between m →
    θ_run (Cert.NsaOutSampleReferenceIdeal.defs (F := Ideal)) (onTc (τ := Cert.NsaOutSampleReferenceIdeal.τ) (Cert.NsaOutSampleReferenceIdeal.main (F := Ideal))) ⟨m, fun _ => 0, g⟩ (fun r => (∀ c : Dev Cert.NsaOutSampleReferenceIdeal.nD,
      r.2.mem ((c.tc : Thread Cert.NsaOutSampleReferenceIdeal.nD Cert.NsaOutSampleReferenceIdeal.τ).loc Cert.NsaOutSampleReferenceIdeal.main_arg0) = m ((c.tc : Thread Cert.NsaOutSampleReferenceIdeal.nD Cert.NsaOutSampleReferenceIdeal.τ).loc Cert.NsaOutSampleReferenceIdeal.main_arg0)
      ∧ r.2.mem ((c.tc : Thread Cert.NsaOutSampleReferenceIdeal.nD Cert.NsaOutSampleReferenceIdeal.τ).loc Cert.NsaOutSampleReferenceIdeal.main_arg1) = m ((c.tc : Thread Cert.NsaOutSampleReferenceIdeal.nD Cert.NsaOutSampleReferenceIdeal.τ).loc Cert.NsaOutSampleReferenceIdeal.main_arg1)
      ∧ r.2.mem ((c.tc : Thread Cert.NsaOutSampleReferenceIdeal.nD Cert.NsaOutSampleReferenceIdeal.τ).loc Cert.NsaOutSampleReferenceIdeal.main_arg2) = m ((c.tc : Thread Cert.NsaOutSampleReferenceIdeal.nD Cert.NsaOutSampleReferenceIdeal.τ).loc Cert.NsaOutSampleReferenceIdeal.main_arg2)
      ∧ r.2.mem ((c.tc : Thread Cert.NsaOutSampleReferenceIdeal.nD Cert.NsaOutSampleReferenceIdeal.τ).loc Cert.NsaOutSampleReferenceIdeal.main_arg3) = m ((c.tc : Thread Cert.NsaOutSampleReferenceIdeal.nD Cert.NsaOutSampleReferenceIdeal.τ).loc Cert.NsaOutSampleReferenceIdeal.main_arg3)
      ∧ r.2.mem ((c.tc : Thread Cert.NsaOutSampleReferenceIdeal.nD Cert.NsaOutSampleReferenceIdeal.τ).loc Cert.NsaOutSampleReferenceIdeal.main_arg4) = m ((c.tc : Thread Cert.NsaOutSampleReferenceIdeal.nD Cert.NsaOutSampleReferenceIdeal.τ).loc Cert.NsaOutSampleReferenceIdeal.main_arg4)
      ∧ r.2.mem ((c.tc : Thread Cert.NsaOutSampleReferenceIdeal.nD Cert.NsaOutSampleReferenceIdeal.τ).loc Cert.NsaOutSampleReferenceIdeal.main_arg5) = m ((c.tc : Thread Cert.NsaOutSampleReferenceIdeal.nD Cert.NsaOutSampleReferenceIdeal.τ).loc Cert.NsaOutSampleReferenceIdeal.main_arg5)
      ∧ r.2.mem ((c.tc : Thread Cert.NsaOutSampleReferenceIdeal.nD Cert.NsaOutSampleReferenceIdeal.τ).loc Cert.NsaOutSampleReferenceIdeal.main_arg6) = m ((c.tc : Thread Cert.NsaOutSampleReferenceIdeal.nD Cert.NsaOutSampleReferenceIdeal.τ).loc Cert.NsaOutSampleReferenceIdeal.main_arg6))
      ∧ r.2.sem = fun _ => 0)

def quiescent_NsaProjSample [hNsaProjSample : Cert.NsaProjSample.Facts] : Prop :=
  ∀ (m : (ℓ : Loc Cert.NsaProjSample.nD Cert.NsaProjSample.τ Cert.NsaProjSample.sig) → Buf (Elt Bits) ℓ) (g : Dev Cert.NsaProjSample.nD → PrngReg), Pre_NsaProjSample m →
    θ_run (Cert.NsaProjSample.defs (F := Bits)) (onTc (τ := Cert.NsaProjSample.τ) (Cert.NsaProjSample.main (F := Bits))) ⟨m, fun _ => 0, g⟩ (fun r => (∀ c : Dev Cert.NsaProjSample.nD,
      r.2.mem ((c.tc : Thread Cert.NsaProjSample.nD Cert.NsaProjSample.τ).loc Cert.NsaProjSample.main_arg0) = m ((c.tc : Thread Cert.NsaProjSample.nD Cert.NsaProjSample.τ).loc Cert.NsaProjSample.main_arg0)
      ∧ r.2.mem ((c.tc : Thread Cert.NsaProjSample.nD Cert.NsaProjSample.τ).loc Cert.NsaProjSample.main_arg1) = m ((c.tc : Thread Cert.NsaProjSample.nD Cert.NsaProjSample.τ).loc Cert.NsaProjSample.main_arg1)
      ∧ r.2.mem ((c.tc : Thread Cert.NsaProjSample.nD Cert.NsaProjSample.τ).loc Cert.NsaProjSample.main_arg2) = m ((c.tc : Thread Cert.NsaProjSample.nD Cert.NsaProjSample.τ).loc Cert.NsaProjSample.main_arg2)
      ∧ r.2.mem ((c.tc : Thread Cert.NsaProjSample.nD Cert.NsaProjSample.τ).loc Cert.NsaProjSample.main_arg3) = m ((c.tc : Thread Cert.NsaProjSample.nD Cert.NsaProjSample.τ).loc Cert.NsaProjSample.main_arg3)
      ∧ r.2.mem ((c.tc : Thread Cert.NsaProjSample.nD Cert.NsaProjSample.τ).loc Cert.NsaProjSample.main_arg4) = m ((c.tc : Thread Cert.NsaProjSample.nD Cert.NsaProjSample.τ).loc Cert.NsaProjSample.main_arg4)
      ∧ r.2.mem ((c.tc : Thread Cert.NsaProjSample.nD Cert.NsaProjSample.τ).loc Cert.NsaProjSample.main_arg5) = m ((c.tc : Thread Cert.NsaProjSample.nD Cert.NsaProjSample.τ).loc Cert.NsaProjSample.main_arg5))
      ∧ r.2.sem = fun _ => 0)

def quiescent_NsaProjSampleIdeal [hNsaProjSampleIdeal : Cert.NsaProjSampleIdeal.Facts] : Prop :=
  ∀ (m : (ℓ : Loc Cert.NsaProjSampleIdeal.nD Cert.NsaProjSampleIdeal.τ Cert.NsaProjSampleIdeal.sig) → Buf (Elt Ideal) ℓ) (g : Dev Cert.NsaProjSampleIdeal.nD → PrngReg), Pre_NsaProjSampleIdeal m →
    θ_run (Cert.NsaProjSampleIdeal.defs (F := Ideal)) (onTc (τ := Cert.NsaProjSampleIdeal.τ) (Cert.NsaProjSampleIdeal.main (F := Ideal))) ⟨m, fun _ => 0, g⟩ (fun r => (∀ c : Dev Cert.NsaProjSampleIdeal.nD,
      r.2.mem ((c.tc : Thread Cert.NsaProjSampleIdeal.nD Cert.NsaProjSampleIdeal.τ).loc Cert.NsaProjSampleIdeal.main_arg0) = m ((c.tc : Thread Cert.NsaProjSampleIdeal.nD Cert.NsaProjSampleIdeal.τ).loc Cert.NsaProjSampleIdeal.main_arg0)
      ∧ r.2.mem ((c.tc : Thread Cert.NsaProjSampleIdeal.nD Cert.NsaProjSampleIdeal.τ).loc Cert.NsaProjSampleIdeal.main_arg1) = m ((c.tc : Thread Cert.NsaProjSampleIdeal.nD Cert.NsaProjSampleIdeal.τ).loc Cert.NsaProjSampleIdeal.main_arg1)
      ∧ r.2.mem ((c.tc : Thread Cert.NsaProjSampleIdeal.nD Cert.NsaProjSampleIdeal.τ).loc Cert.NsaProjSampleIdeal.main_arg2) = m ((c.tc : Thread Cert.NsaProjSampleIdeal.nD Cert.NsaProjSampleIdeal.τ).loc Cert.NsaProjSampleIdeal.main_arg2)
      ∧ r.2.mem ((c.tc : Thread Cert.NsaProjSampleIdeal.nD Cert.NsaProjSampleIdeal.τ).loc Cert.NsaProjSampleIdeal.main_arg3) = m ((c.tc : Thread Cert.NsaProjSampleIdeal.nD Cert.NsaProjSampleIdeal.τ).loc Cert.NsaProjSampleIdeal.main_arg3)
      ∧ r.2.mem ((c.tc : Thread Cert.NsaProjSampleIdeal.nD Cert.NsaProjSampleIdeal.τ).loc Cert.NsaProjSampleIdeal.main_arg4) = m ((c.tc : Thread Cert.NsaProjSampleIdeal.nD Cert.NsaProjSampleIdeal.τ).loc Cert.NsaProjSampleIdeal.main_arg4)
      ∧ r.2.mem ((c.tc : Thread Cert.NsaProjSampleIdeal.nD Cert.NsaProjSampleIdeal.τ).loc Cert.NsaProjSampleIdeal.main_arg5) = m ((c.tc : Thread Cert.NsaProjSampleIdeal.nD Cert.NsaProjSampleIdeal.τ).loc Cert.NsaProjSampleIdeal.main_arg5))
      ∧ r.2.sem = fun _ => 0)

def quiescent_NsaProjSampleReferenceIdeal [hNsaProjSampleReferenceIdeal : Cert.NsaProjSampleReferenceIdeal.Facts] : Prop :=
  ∀ (m : (ℓ : Loc Cert.NsaProjSampleReferenceIdeal.nD Cert.NsaProjSampleReferenceIdeal.τ Cert.NsaProjSampleReferenceIdeal.sig) → Buf (Elt Ideal) ℓ) (g : Dev Cert.NsaProjSampleReferenceIdeal.nD → PrngReg), Pre_NsaProjSampleReferenceIdeal m →
    θ_run (Cert.NsaProjSampleReferenceIdeal.defs (F := Ideal)) (onTc (τ := Cert.NsaProjSampleReferenceIdeal.τ) (Cert.NsaProjSampleReferenceIdeal.main (F := Ideal))) ⟨m, fun _ => 0, g⟩ (fun r => (∀ c : Dev Cert.NsaProjSampleReferenceIdeal.nD,
      r.2.mem ((c.tc : Thread Cert.NsaProjSampleReferenceIdeal.nD Cert.NsaProjSampleReferenceIdeal.τ).loc Cert.NsaProjSampleReferenceIdeal.main_arg0) = m ((c.tc : Thread Cert.NsaProjSampleReferenceIdeal.nD Cert.NsaProjSampleReferenceIdeal.τ).loc Cert.NsaProjSampleReferenceIdeal.main_arg0)
      ∧ r.2.mem ((c.tc : Thread Cert.NsaProjSampleReferenceIdeal.nD Cert.NsaProjSampleReferenceIdeal.τ).loc Cert.NsaProjSampleReferenceIdeal.main_arg1) = m ((c.tc : Thread Cert.NsaProjSampleReferenceIdeal.nD Cert.NsaProjSampleReferenceIdeal.τ).loc Cert.NsaProjSampleReferenceIdeal.main_arg1)
      ∧ r.2.mem ((c.tc : Thread Cert.NsaProjSampleReferenceIdeal.nD Cert.NsaProjSampleReferenceIdeal.τ).loc Cert.NsaProjSampleReferenceIdeal.main_arg2) = m ((c.tc : Thread Cert.NsaProjSampleReferenceIdeal.nD Cert.NsaProjSampleReferenceIdeal.τ).loc Cert.NsaProjSampleReferenceIdeal.main_arg2)
      ∧ r.2.mem ((c.tc : Thread Cert.NsaProjSampleReferenceIdeal.nD Cert.NsaProjSampleReferenceIdeal.τ).loc Cert.NsaProjSampleReferenceIdeal.main_arg3) = m ((c.tc : Thread Cert.NsaProjSampleReferenceIdeal.nD Cert.NsaProjSampleReferenceIdeal.τ).loc Cert.NsaProjSampleReferenceIdeal.main_arg3)
      ∧ r.2.mem ((c.tc : Thread Cert.NsaProjSampleReferenceIdeal.nD Cert.NsaProjSampleReferenceIdeal.τ).loc Cert.NsaProjSampleReferenceIdeal.main_arg4) = m ((c.tc : Thread Cert.NsaProjSampleReferenceIdeal.nD Cert.NsaProjSampleReferenceIdeal.τ).loc Cert.NsaProjSampleReferenceIdeal.main_arg4)
      ∧ r.2.mem ((c.tc : Thread Cert.NsaProjSampleReferenceIdeal.nD Cert.NsaProjSampleReferenceIdeal.τ).loc Cert.NsaProjSampleReferenceIdeal.main_arg5) = m ((c.tc : Thread Cert.NsaProjSampleReferenceIdeal.nD Cert.NsaProjSampleReferenceIdeal.τ).loc Cert.NsaProjSampleReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v92) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_GdnProj_GdnProjIdeal : Prop :=
  True

def algebraic_GdnProjIdeal_GdnProjReferenceIdeal [hGdnProjIdeal : Cert.GdnProjIdeal.Facts] [hGdnProjReferenceIdeal : Cert.GdnProjReferenceIdeal.Facts] : Prop :=
  ∀ (m : (ℓ : Loc Cert.GdnProjIdeal.nD Cert.GdnProjIdeal.τ Cert.GdnProjIdeal.sig) → Buf (Elt Ideal) ℓ) (g : Dev Cert.GdnProjIdeal.nD → PrngReg)
    (m' : (ℓ : Loc Cert.GdnProjReferenceIdeal.nD Cert.GdnProjReferenceIdeal.τ Cert.GdnProjReferenceIdeal.sig) → Buf (Elt Ideal) ℓ) (g' : Dev Cert.GdnProjReferenceIdeal.nD → PrngReg), Pre_GdnProjIdeal m →
    (∀ c : Dev Cert.GdnProjIdeal.nD,
      m' ((c.tc : Thread Cert.GdnProjReferenceIdeal.nD Cert.GdnProjReferenceIdeal.τ).loc Cert.GdnProjReferenceIdeal.main_arg0) = m ((c.tc : Thread Cert.GdnProjIdeal.nD Cert.GdnProjIdeal.τ).loc Cert.GdnProjIdeal.main_arg0)
      ∧ m' ((c.tc : Thread Cert.GdnProjReferenceIdeal.nD Cert.GdnProjReferenceIdeal.τ).loc Cert.GdnProjReferenceIdeal.main_arg1) = m ((c.tc : Thread Cert.GdnProjIdeal.nD Cert.GdnProjIdeal.τ).loc Cert.GdnProjIdeal.main_arg1)
      ∧ m' ((c.tc : Thread Cert.GdnProjReferenceIdeal.nD Cert.GdnProjReferenceIdeal.τ).loc Cert.GdnProjReferenceIdeal.main_arg2) = m ((c.tc : Thread Cert.GdnProjIdeal.nD Cert.GdnProjIdeal.τ).loc Cert.GdnProjIdeal.main_arg2)) →
    ∃ (v0 : (c : Dev Cert.GdnProjIdeal.nD) → Buf (Elt Ideal) ((c.tc : Thread Cert.GdnProjIdeal.nD Cert.GdnProjIdeal.τ).loc Cert.GdnProjIdeal.main_v3_0)) (v1 : (c : Dev Cert.GdnProjIdeal.nD) → Buf (Elt Ideal) ((c.tc : Thread Cert.GdnProjIdeal.nD Cert.GdnProjIdeal.τ).loc Cert.GdnProjIdeal.main_v3_1)) (v2 : (c : Dev Cert.GdnProjIdeal.nD) → Buf (Elt Ideal) ((c.tc : Thread Cert.GdnProjIdeal.nD Cert.GdnProjIdeal.τ).loc Cert.GdnProjIdeal.main_v3_2)),
      θ_run (Cert.GdnProjIdeal.defs (F := Ideal)) (onTc (τ := Cert.GdnProjIdeal.τ) (Cert.GdnProjIdeal.main (F := Ideal))) ⟨m, fun _ => 0, g⟩ (fun r => ∀ c : Dev Cert.GdnProjIdeal.nD,
          r.2.mem ((c.tc : Thread Cert.GdnProjIdeal.nD Cert.GdnProjIdeal.τ).loc Cert.GdnProjIdeal.main_v3_0) = v0 c
          ∧ r.2.mem ((c.tc : Thread Cert.GdnProjIdeal.nD Cert.GdnProjIdeal.τ).loc Cert.GdnProjIdeal.main_v3_1) = v1 c
          ∧ r.2.mem ((c.tc : Thread Cert.GdnProjIdeal.nD Cert.GdnProjIdeal.τ).loc Cert.GdnProjIdeal.main_v3_2) = v2 c
          ∧ r.2.mem ((c.tc : Thread Cert.GdnProjIdeal.nD Cert.GdnProjIdeal.τ).loc Cert.GdnProjIdeal.main_arg0) = m ((c.tc : Thread Cert.GdnProjIdeal.nD Cert.GdnProjIdeal.τ).loc Cert.GdnProjIdeal.main_arg0)
          ∧ r.2.mem ((c.tc : Thread Cert.GdnProjIdeal.nD Cert.GdnProjIdeal.τ).loc Cert.GdnProjIdeal.main_arg1) = m ((c.tc : Thread Cert.GdnProjIdeal.nD Cert.GdnProjIdeal.τ).loc Cert.GdnProjIdeal.main_arg1)
          ∧ r.2.mem ((c.tc : Thread Cert.GdnProjIdeal.nD Cert.GdnProjIdeal.τ).loc Cert.GdnProjIdeal.main_arg2) = m ((c.tc : Thread Cert.GdnProjIdeal.nD Cert.GdnProjIdeal.τ).loc Cert.GdnProjIdeal.main_arg2))
      ∧ θ_run (Cert.GdnProjReferenceIdeal.defs (F := Ideal)) (onTc (τ := Cert.GdnProjReferenceIdeal.τ) (Cert.GdnProjReferenceIdeal.main (F := Ideal))) ⟨m', fun _ => 0, g'⟩ (fun r => ∀ c : Dev Cert.GdnProjReferenceIdeal.nD,
          r.2.mem ((c.tc : Thread Cert.GdnProjReferenceIdeal.nD Cert.GdnProjReferenceIdeal.τ).loc Cert.GdnProjReferenceIdeal.main_v14) = v0 c
          ∧ r.2.mem ((c.tc : Thread Cert.GdnProjReferenceIdeal.nD Cert.GdnProjReferenceIdeal.τ).loc Cert.GdnProjReferenceIdeal.main_v17) = v1 c
          ∧ r.2.mem ((c.tc : Thread Cert.GdnProjReferenceIdeal.nD Cert.GdnProjReferenceIdeal.τ).loc Cert.GdnProjReferenceIdeal.main_v18) = v2 c
          ∧ r.2.mem ((c.tc : Thread Cert.GdnProjReferenceIdeal.nD Cert.GdnProjReferenceIdeal.τ).loc Cert.GdnProjReferenceIdeal.main_arg0) = m' ((c.tc : Thread Cert.GdnProjReferenceIdeal.nD Cert.GdnProjReferenceIdeal.τ).loc Cert.GdnProjReferenceIdeal.main_arg0)
          ∧ r.2.mem ((c.tc : Thread Cert.GdnProjReferenceIdeal.nD Cert.GdnProjReferenceIdeal.τ).loc Cert.GdnProjReferenceIdeal.main_arg1) = m' ((c.tc : Thread Cert.GdnProjReferenceIdeal.nD Cert.GdnProjReferenceIdeal.τ).loc Cert.GdnProjReferenceIdeal.main_arg1)
          ∧ r.2.mem ((c.tc : Thread Cert.GdnProjReferenceIdeal.nD Cert.GdnProjReferenceIdeal.τ).loc Cert.GdnProjReferenceIdeal.main_arg2) = m' ((c.tc : Thread Cert.GdnProjReferenceIdeal.nD Cert.GdnProjReferenceIdeal.τ).loc Cert.GdnProjReferenceIdeal.main_arg2))

def preserves_ConfProj_ConfProjIdeal : Prop :=
  True

def algebraic_ConfProjIdeal_ConfProjReferenceIdeal [hConfProjIdeal : Cert.ConfProjIdeal.Facts] [hConfProjReferenceIdeal : Cert.ConfProjReferenceIdeal.Facts] : Prop :=
  ∀ (m : (ℓ : Loc Cert.ConfProjIdeal.nD Cert.ConfProjIdeal.τ Cert.ConfProjIdeal.sig) → Buf (Elt Ideal) ℓ) (g : Dev Cert.ConfProjIdeal.nD → PrngReg)
    (m' : (ℓ : Loc Cert.ConfProjReferenceIdeal.nD Cert.ConfProjReferenceIdeal.τ Cert.ConfProjReferenceIdeal.sig) → Buf (Elt Ideal) ℓ) (g' : Dev Cert.ConfProjReferenceIdeal.nD → PrngReg), Pre_ConfProjIdeal m →
    (∀ c : Dev Cert.ConfProjIdeal.nD,
      m' ((c.tc : Thread Cert.ConfProjReferenceIdeal.nD Cert.ConfProjReferenceIdeal.τ).loc Cert.ConfProjReferenceIdeal.main_arg0) = m ((c.tc : Thread Cert.ConfProjIdeal.nD Cert.ConfProjIdeal.τ).loc Cert.ConfProjIdeal.main_arg0)
      ∧ m' ((c.tc : Thread Cert.ConfProjReferenceIdeal.nD Cert.ConfProjReferenceIdeal.τ).loc Cert.ConfProjReferenceIdeal.main_arg1) = m ((c.tc : Thread Cert.ConfProjIdeal.nD Cert.ConfProjIdeal.τ).loc Cert.ConfProjIdeal.main_arg1)
      ∧ m' ((c.tc : Thread Cert.ConfProjReferenceIdeal.nD Cert.ConfProjReferenceIdeal.τ).loc Cert.ConfProjReferenceIdeal.main_arg2) = m ((c.tc : Thread Cert.ConfProjIdeal.nD Cert.ConfProjIdeal.τ).loc Cert.ConfProjIdeal.main_arg2)) →
    ∃ (v0 : (c : Dev Cert.ConfProjIdeal.nD) → Buf (Elt Ideal) ((c.tc : Thread Cert.ConfProjIdeal.nD Cert.ConfProjIdeal.τ).loc Cert.ConfProjIdeal.main_v2_0)) (v1 : (c : Dev Cert.ConfProjIdeal.nD) → Buf (Elt Ideal) ((c.tc : Thread Cert.ConfProjIdeal.nD Cert.ConfProjIdeal.τ).loc Cert.ConfProjIdeal.main_v2_1)),
      θ_run (Cert.ConfProjIdeal.defs (F := Ideal)) (onTc (τ := Cert.ConfProjIdeal.τ) (Cert.ConfProjIdeal.main (F := Ideal))) ⟨m, fun _ => 0, g⟩ (fun r => ∀ c : Dev Cert.ConfProjIdeal.nD,
          r.2.mem ((c.tc : Thread Cert.ConfProjIdeal.nD Cert.ConfProjIdeal.τ).loc Cert.ConfProjIdeal.main_v2_0) = v0 c
          ∧ r.2.mem ((c.tc : Thread Cert.ConfProjIdeal.nD Cert.ConfProjIdeal.τ).loc Cert.ConfProjIdeal.main_v2_1) = v1 c
          ∧ r.2.mem ((c.tc : Thread Cert.ConfProjIdeal.nD Cert.ConfProjIdeal.τ).loc Cert.ConfProjIdeal.main_arg0) = m ((c.tc : Thread Cert.ConfProjIdeal.nD Cert.ConfProjIdeal.τ).loc Cert.ConfProjIdeal.main_arg0)
          ∧ r.2.mem ((c.tc : Thread Cert.ConfProjIdeal.nD Cert.ConfProjIdeal.τ).loc Cert.ConfProjIdeal.main_arg1) = m ((c.tc : Thread Cert.ConfProjIdeal.nD Cert.ConfProjIdeal.τ).loc Cert.ConfProjIdeal.main_arg1)
          ∧ r.2.mem ((c.tc : Thread Cert.ConfProjIdeal.nD Cert.ConfProjIdeal.τ).loc Cert.ConfProjIdeal.main_arg2) = m ((c.tc : Thread Cert.ConfProjIdeal.nD Cert.ConfProjIdeal.τ).loc Cert.ConfProjIdeal.main_arg2))
      ∧ θ_run (Cert.ConfProjReferenceIdeal.defs (F := Ideal)) (onTc (τ := Cert.ConfProjReferenceIdeal.τ) (Cert.ConfProjReferenceIdeal.main (F := Ideal))) ⟨m', fun _ => 0, g'⟩ (fun r => ∀ c : Dev Cert.ConfProjReferenceIdeal.nD,
          r.2.mem ((c.tc : Thread Cert.ConfProjReferenceIdeal.nD Cert.ConfProjReferenceIdeal.τ).loc Cert.ConfProjReferenceIdeal.main_v23) = v0 c
          ∧ r.2.mem ((c.tc : Thread Cert.ConfProjReferenceIdeal.nD Cert.ConfProjReferenceIdeal.τ).loc Cert.ConfProjReferenceIdeal.main_v24) = v1 c
          ∧ r.2.mem ((c.tc : Thread Cert.ConfProjReferenceIdeal.nD Cert.ConfProjReferenceIdeal.τ).loc Cert.ConfProjReferenceIdeal.main_arg0) = m' ((c.tc : Thread Cert.ConfProjReferenceIdeal.nD Cert.ConfProjReferenceIdeal.τ).loc Cert.ConfProjReferenceIdeal.main_arg0)
          ∧ r.2.mem ((c.tc : Thread Cert.ConfProjReferenceIdeal.nD Cert.ConfProjReferenceIdeal.τ).loc Cert.ConfProjReferenceIdeal.main_arg1) = m' ((c.tc : Thread Cert.ConfProjReferenceIdeal.nD Cert.ConfProjReferenceIdeal.τ).loc Cert.ConfProjReferenceIdeal.main_arg1)
          ∧ r.2.mem ((c.tc : Thread Cert.ConfProjReferenceIdeal.nD Cert.ConfProjReferenceIdeal.τ).loc Cert.ConfProjReferenceIdeal.main_arg2) = m' ((c.tc : Thread Cert.ConfProjReferenceIdeal.nD Cert.ConfProjReferenceIdeal.τ).loc Cert.ConfProjReferenceIdeal.main_arg2))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v2) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3))

def preserves_NsaOut_NsaOutIdeal : Prop :=
  True

def algebraic_NsaOutIdeal_NsaOutReferenceIdeal_pre_gates_between [hNsaOutIdeal : Cert.NsaOutIdeal.Facts] [hNsaOutReferenceIdeal : Cert.NsaOutReferenceIdeal.Facts] [hPre_gates_between : Cert.Pre_gates_between.Facts] : Prop :=
  ∀ (m : (ℓ : Loc Cert.NsaOutIdeal.nD Cert.NsaOutIdeal.τ Cert.NsaOutIdeal.sig) → Buf (Elt Ideal) ℓ) (g : Dev Cert.NsaOutIdeal.nD → PrngReg)
    (m' : (ℓ : Loc Cert.NsaOutReferenceIdeal.nD Cert.NsaOutReferenceIdeal.τ Cert.NsaOutReferenceIdeal.sig) → Buf (Elt Ideal) ℓ) (g' : Dev Cert.NsaOutReferenceIdeal.nD → PrngReg), Pre_NsaOutIdeal_gates_between m →
    (∀ c : Dev Cert.NsaOutIdeal.nD,
      m' ((c.tc : Thread Cert.NsaOutReferenceIdeal.nD Cert.NsaOutReferenceIdeal.τ).loc Cert.NsaOutReferenceIdeal.main_arg0) = m ((c.tc : Thread Cert.NsaOutIdeal.nD Cert.NsaOutIdeal.τ).loc Cert.NsaOutIdeal.main_arg0)
      ∧ m' ((c.tc : Thread Cert.NsaOutReferenceIdeal.nD Cert.NsaOutReferenceIdeal.τ).loc Cert.NsaOutReferenceIdeal.main_arg1) = m ((c.tc : Thread Cert.NsaOutIdeal.nD Cert.NsaOutIdeal.τ).loc Cert.NsaOutIdeal.main_arg1)
      ∧ m' ((c.tc : Thread Cert.NsaOutReferenceIdeal.nD Cert.NsaOutReferenceIdeal.τ).loc Cert.NsaOutReferenceIdeal.main_arg2) = m ((c.tc : Thread Cert.NsaOutIdeal.nD Cert.NsaOutIdeal.τ).loc Cert.NsaOutIdeal.main_arg2)
      ∧ m' ((c.tc : Thread Cert.NsaOutReferenceIdeal.nD Cert.NsaOutReferenceIdeal.τ).loc Cert.NsaOutReferenceIdeal.main_arg3) = m ((c.tc : Thread Cert.NsaOutIdeal.nD Cert.NsaOutIdeal.τ).loc Cert.NsaOutIdeal.main_arg3)
      ∧ m' ((c.tc : Thread Cert.NsaOutReferenceIdeal.nD Cert.NsaOutReferenceIdeal.τ).loc Cert.NsaOutReferenceIdeal.main_arg4) = m ((c.tc : Thread Cert.NsaOutIdeal.nD Cert.NsaOutIdeal.τ).loc Cert.NsaOutIdeal.main_arg4)
      ∧ m' ((c.tc : Thread Cert.NsaOutReferenceIdeal.nD Cert.NsaOutReferenceIdeal.τ).loc Cert.NsaOutReferenceIdeal.main_arg5) = m ((c.tc : Thread Cert.NsaOutIdeal.nD Cert.NsaOutIdeal.τ).loc Cert.NsaOutIdeal.main_arg5)
      ∧ m' ((c.tc : Thread Cert.NsaOutReferenceIdeal.nD Cert.NsaOutReferenceIdeal.τ).loc Cert.NsaOutReferenceIdeal.main_arg6) = m ((c.tc : Thread Cert.NsaOutIdeal.nD Cert.NsaOutIdeal.τ).loc Cert.NsaOutIdeal.main_arg6)) →
    ∃ (v0 : (c : Dev Cert.NsaOutIdeal.nD) → Buf (Elt Ideal) ((c.tc : Thread Cert.NsaOutIdeal.nD Cert.NsaOutIdeal.τ).loc Cert.NsaOutIdeal.main_v29)),
      θ_run (Cert.NsaOutIdeal.defs (F := Ideal)) (onTc (τ := Cert.NsaOutIdeal.τ) (Cert.NsaOutIdeal.main (F := Ideal))) ⟨m, fun _ => 0, g⟩ (fun r => ∀ c : Dev Cert.NsaOutIdeal.nD,
          r.2.mem ((c.tc : Thread Cert.NsaOutIdeal.nD Cert.NsaOutIdeal.τ).loc Cert.NsaOutIdeal.main_v29) = v0 c
          ∧ r.2.mem ((c.tc : Thread Cert.NsaOutIdeal.nD Cert.NsaOutIdeal.τ).loc Cert.NsaOutIdeal.main_arg0) = m ((c.tc : Thread Cert.NsaOutIdeal.nD Cert.NsaOutIdeal.τ).loc Cert.NsaOutIdeal.main_arg0)
          ∧ r.2.mem ((c.tc : Thread Cert.NsaOutIdeal.nD Cert.NsaOutIdeal.τ).loc Cert.NsaOutIdeal.main_arg1) = m ((c.tc : Thread Cert.NsaOutIdeal.nD Cert.NsaOutIdeal.τ).loc Cert.NsaOutIdeal.main_arg1)
          ∧ r.2.mem ((c.tc : Thread Cert.NsaOutIdeal.nD Cert.NsaOutIdeal.τ).loc Cert.NsaOutIdeal.main_arg2) = m ((c.tc : Thread Cert.NsaOutIdeal.nD Cert.NsaOutIdeal.τ).loc Cert.NsaOutIdeal.main_arg2)
          ∧ r.2.mem ((c.tc : Thread Cert.NsaOutIdeal.nD Cert.NsaOutIdeal.τ).loc Cert.NsaOutIdeal.main_arg3) = m ((c.tc : Thread Cert.NsaOutIdeal.nD Cert.NsaOutIdeal.τ).loc Cert.NsaOutIdeal.main_arg3)
          ∧ r.2.mem ((c.tc : Thread Cert.NsaOutIdeal.nD Cert.NsaOutIdeal.τ).loc Cert.NsaOutIdeal.main_arg4) = m ((c.tc : Thread Cert.NsaOutIdeal.nD Cert.NsaOutIdeal.τ).loc Cert.NsaOutIdeal.main_arg4)
          ∧ r.2.mem ((c.tc : Thread Cert.NsaOutIdeal.nD Cert.NsaOutIdeal.τ).loc Cert.NsaOutIdeal.main_arg5) = m ((c.tc : Thread Cert.NsaOutIdeal.nD Cert.NsaOutIdeal.τ).loc Cert.NsaOutIdeal.main_arg5)
          ∧ r.2.mem ((c.tc : Thread Cert.NsaOutIdeal.nD Cert.NsaOutIdeal.τ).loc Cert.NsaOutIdeal.main_arg6) = m ((c.tc : Thread Cert.NsaOutIdeal.nD Cert.NsaOutIdeal.τ).loc Cert.NsaOutIdeal.main_arg6))
      ∧ θ_run (Cert.NsaOutReferenceIdeal.defs (F := Ideal)) (onTc (τ := Cert.NsaOutReferenceIdeal.τ) (Cert.NsaOutReferenceIdeal.main (F := Ideal))) ⟨m', fun _ => 0, g'⟩ (fun r => ∀ c : Dev Cert.NsaOutReferenceIdeal.nD,
          r.2.mem ((c.tc : Thread Cert.NsaOutReferenceIdeal.nD Cert.NsaOutReferenceIdeal.τ).loc Cert.NsaOutReferenceIdeal.main_v22) = v0 c
          ∧ r.2.mem ((c.tc : Thread Cert.NsaOutReferenceIdeal.nD Cert.NsaOutReferenceIdeal.τ).loc Cert.NsaOutReferenceIdeal.main_arg0) = m' ((c.tc : Thread Cert.NsaOutReferenceIdeal.nD Cert.NsaOutReferenceIdeal.τ).loc Cert.NsaOutReferenceIdeal.main_arg0)
          ∧ r.2.mem ((c.tc : Thread Cert.NsaOutReferenceIdeal.nD Cert.NsaOutReferenceIdeal.τ).loc Cert.NsaOutReferenceIdeal.main_arg1) = m' ((c.tc : Thread Cert.NsaOutReferenceIdeal.nD Cert.NsaOutReferenceIdeal.τ).loc Cert.NsaOutReferenceIdeal.main_arg1)
          ∧ r.2.mem ((c.tc : Thread Cert.NsaOutReferenceIdeal.nD Cert.NsaOutReferenceIdeal.τ).loc Cert.NsaOutReferenceIdeal.main_arg2) = m' ((c.tc : Thread Cert.NsaOutReferenceIdeal.nD Cert.NsaOutReferenceIdeal.τ).loc Cert.NsaOutReferenceIdeal.main_arg2)
          ∧ r.2.mem ((c.tc : Thread Cert.NsaOutReferenceIdeal.nD Cert.NsaOutReferenceIdeal.τ).loc Cert.NsaOutReferenceIdeal.main_arg3) = m' ((c.tc : Thread Cert.NsaOutReferenceIdeal.nD Cert.NsaOutReferenceIdeal.τ).loc Cert.NsaOutReferenceIdeal.main_arg3)
          ∧ r.2.mem ((c.tc : Thread Cert.NsaOutReferenceIdeal.nD Cert.NsaOutReferenceIdeal.τ).loc Cert.NsaOutReferenceIdeal.main_arg4) = m' ((c.tc : Thread Cert.NsaOutReferenceIdeal.nD Cert.NsaOutReferenceIdeal.τ).loc Cert.NsaOutReferenceIdeal.main_arg4)
          ∧ r.2.mem ((c.tc : Thread Cert.NsaOutReferenceIdeal.nD Cert.NsaOutReferenceIdeal.τ).loc Cert.NsaOutReferenceIdeal.main_arg5) = m' ((c.tc : Thread Cert.NsaOutReferenceIdeal.nD Cert.NsaOutReferenceIdeal.τ).loc Cert.NsaOutReferenceIdeal.main_arg5)
          ∧ r.2.mem ((c.tc : Thread Cert.NsaOutReferenceIdeal.nD Cert.NsaOutReferenceIdeal.τ).loc Cert.NsaOutReferenceIdeal.main_arg6) = m' ((c.tc : Thread Cert.NsaOutReferenceIdeal.nD Cert.NsaOutReferenceIdeal.τ).loc Cert.NsaOutReferenceIdeal.main_arg6))

def preserves_NsaProj_NsaProjIdeal : Prop :=
  True

def algebraic_NsaProjIdeal_NsaProjReferenceIdeal [hNsaProjIdeal : Cert.NsaProjIdeal.Facts] [hNsaProjReferenceIdeal : Cert.NsaProjReferenceIdeal.Facts] : Prop :=
  ∀ (m : (ℓ : Loc Cert.NsaProjIdeal.nD Cert.NsaProjIdeal.τ Cert.NsaProjIdeal.sig) → Buf (Elt Ideal) ℓ) (g : Dev Cert.NsaProjIdeal.nD → PrngReg)
    (m' : (ℓ : Loc Cert.NsaProjReferenceIdeal.nD Cert.NsaProjReferenceIdeal.τ Cert.NsaProjReferenceIdeal.sig) → Buf (Elt Ideal) ℓ) (g' : Dev Cert.NsaProjReferenceIdeal.nD → PrngReg), Pre_NsaProjIdeal m →
    (∀ c : Dev Cert.NsaProjIdeal.nD,
      m' ((c.tc : Thread Cert.NsaProjReferenceIdeal.nD Cert.NsaProjReferenceIdeal.τ).loc Cert.NsaProjReferenceIdeal.main_arg0) = m ((c.tc : Thread Cert.NsaProjIdeal.nD Cert.NsaProjIdeal.τ).loc Cert.NsaProjIdeal.main_arg0)
      ∧ m' ((c.tc : Thread Cert.NsaProjReferenceIdeal.nD Cert.NsaProjReferenceIdeal.τ).loc Cert.NsaProjReferenceIdeal.main_arg1) = m ((c.tc : Thread Cert.NsaProjIdeal.nD Cert.NsaProjIdeal.τ).loc Cert.NsaProjIdeal.main_arg1)
      ∧ m' ((c.tc : Thread Cert.NsaProjReferenceIdeal.nD Cert.NsaProjReferenceIdeal.τ).loc Cert.NsaProjReferenceIdeal.main_arg2) = m ((c.tc : Thread Cert.NsaProjIdeal.nD Cert.NsaProjIdeal.τ).loc Cert.NsaProjIdeal.main_arg2)
      ∧ m' ((c.tc : Thread Cert.NsaProjReferenceIdeal.nD Cert.NsaProjReferenceIdeal.τ).loc Cert.NsaProjReferenceIdeal.main_arg3) = m ((c.tc : Thread Cert.NsaProjIdeal.nD Cert.NsaProjIdeal.τ).loc Cert.NsaProjIdeal.main_arg3)
      ∧ m' ((c.tc : Thread Cert.NsaProjReferenceIdeal.nD Cert.NsaProjReferenceIdeal.τ).loc Cert.NsaProjReferenceIdeal.main_arg4) = m ((c.tc : Thread Cert.NsaProjIdeal.nD Cert.NsaProjIdeal.τ).loc Cert.NsaProjIdeal.main_arg4)
      ∧ m' ((c.tc : Thread Cert.NsaProjReferenceIdeal.nD Cert.NsaProjReferenceIdeal.τ).loc Cert.NsaProjReferenceIdeal.main_arg5) = m ((c.tc : Thread Cert.NsaProjIdeal.nD Cert.NsaProjIdeal.τ).loc Cert.NsaProjIdeal.main_arg5)
      ∧ m' ((c.tc : Thread Cert.NsaProjReferenceIdeal.nD Cert.NsaProjReferenceIdeal.τ).loc Cert.NsaProjReferenceIdeal.main_arg6) = m ((c.tc : Thread Cert.NsaProjIdeal.nD Cert.NsaProjIdeal.τ).loc Cert.NsaProjIdeal.main_arg6)
      ∧ m' ((c.tc : Thread Cert.NsaProjReferenceIdeal.nD Cert.NsaProjReferenceIdeal.τ).loc Cert.NsaProjReferenceIdeal.main_arg7) = m ((c.tc : Thread Cert.NsaProjIdeal.nD Cert.NsaProjIdeal.τ).loc Cert.NsaProjIdeal.main_arg7)) →
    ∃ (v0 : (c : Dev Cert.NsaProjIdeal.nD) → Buf (Elt Ideal) ((c.tc : Thread Cert.NsaProjIdeal.nD Cert.NsaProjIdeal.τ).loc Cert.NsaProjIdeal.main_v38_0)) (v1 : (c : Dev Cert.NsaProjIdeal.nD) → Buf (Elt Ideal) ((c.tc : Thread Cert.NsaProjIdeal.nD Cert.NsaProjIdeal.τ).loc Cert.NsaProjIdeal.main_v38_1)) (v2 : (c : Dev Cert.NsaProjIdeal.nD) → Buf (Elt Ideal) ((c.tc : Thread Cert.NsaProjIdeal.nD Cert.NsaProjIdeal.τ).loc Cert.NsaProjIdeal.main_v38_2)) (v3 : (c : Dev Cert.NsaProjIdeal.nD) → Buf (Elt Ideal) ((c.tc : Thread Cert.NsaProjIdeal.nD Cert.NsaProjIdeal.τ).loc Cert.NsaProjIdeal.main_v38_3)) (v4 : (c : Dev Cert.NsaProjIdeal.nD) → Buf (Elt Ideal) ((c.tc : Thread Cert.NsaProjIdeal.nD Cert.NsaProjIdeal.τ).loc Cert.NsaProjIdeal.main_v38_4)) (v5 : (c : Dev Cert.NsaProjIdeal.nD) → Buf (Elt Ideal) ((c.tc : Thread Cert.NsaProjIdeal.nD Cert.NsaProjIdeal.τ).loc Cert.NsaProjIdeal.main_v38_5)) (v6 : (c : Dev Cert.NsaProjIdeal.nD) → Buf (Elt Ideal) ((c.tc : Thread Cert.NsaProjIdeal.nD Cert.NsaProjIdeal.τ).loc Cert.NsaProjIdeal.main_v38_6)) (v7 : (c : Dev Cert.NsaProjIdeal.nD) → Buf (Elt Ideal) ((c.tc : Thread Cert.NsaProjIdeal.nD Cert.NsaProjIdeal.τ).loc Cert.NsaProjIdeal.main_v38_7)) (v8 : (c : Dev Cert.NsaProjIdeal.nD) → Buf (Elt Ideal) ((c.tc : Thread Cert.NsaProjIdeal.nD Cert.NsaProjIdeal.τ).loc Cert.NsaProjIdeal.main_v38_8)) (v9 : (c : Dev Cert.NsaProjIdeal.nD) → Buf (Elt Ideal) ((c.tc : Thread Cert.NsaProjIdeal.nD Cert.NsaProjIdeal.τ).loc Cert.NsaProjIdeal.main_v38_9)) (v10 : (c : Dev Cert.NsaProjIdeal.nD) → Buf (Elt Ideal) ((c.tc : Thread Cert.NsaProjIdeal.nD Cert.NsaProjIdeal.τ).loc Cert.NsaProjIdeal.main_v38_10)),
      θ_run (Cert.NsaProjIdeal.defs (F := Ideal)) (onTc (τ := Cert.NsaProjIdeal.τ) (Cert.NsaProjIdeal.main (F := Ideal))) ⟨m, fun _ => 0, g⟩ (fun r => ∀ c : Dev Cert.NsaProjIdeal.nD,
          r.2.mem ((c.tc : Thread Cert.NsaProjIdeal.nD Cert.NsaProjIdeal.τ).loc Cert.NsaProjIdeal.main_v38_0) = v0 c
          ∧ r.2.mem ((c.tc : Thread Cert.NsaProjIdeal.nD Cert.NsaProjIdeal.τ).loc Cert.NsaProjIdeal.main_v38_1) = v1 c
          ∧ r.2.mem ((c.tc : Thread Cert.NsaProjIdeal.nD Cert.NsaProjIdeal.τ).loc Cert.NsaProjIdeal.main_v38_2) = v2 c
          ∧ r.2.mem ((c.tc : Thread Cert.NsaProjIdeal.nD Cert.NsaProjIdeal.τ).loc Cert.NsaProjIdeal.main_v38_3) = v3 c
          ∧ r.2.mem ((c.tc : Thread Cert.NsaProjIdeal.nD Cert.NsaProjIdeal.τ).loc Cert.NsaProjIdeal.main_v38_4) = v4 c
          ∧ r.2.mem ((c.tc : Thread Cert.NsaProjIdeal.nD Cert.NsaProjIdeal.τ).loc Cert.NsaProjIdeal.main_v38_5) = v5 c
          ∧ r.2.mem ((c.tc : Thread Cert.NsaProjIdeal.nD Cert.NsaProjIdeal.τ).loc Cert.NsaProjIdeal.main_v38_6) = v6 c
          ∧ r.2.mem ((c.tc : Thread Cert.NsaProjIdeal.nD Cert.NsaProjIdeal.τ).loc Cert.NsaProjIdeal.main_v38_7) = v7 c
          ∧ r.2.mem ((c.tc : Thread Cert.NsaProjIdeal.nD Cert.NsaProjIdeal.τ).loc Cert.NsaProjIdeal.main_v38_8) = v8 c
          ∧ r.2.mem ((c.tc : Thread Cert.NsaProjIdeal.nD Cert.NsaProjIdeal.τ).loc Cert.NsaProjIdeal.main_v38_9) = v9 c
          ∧ r.2.mem ((c.tc : Thread Cert.NsaProjIdeal.nD Cert.NsaProjIdeal.τ).loc Cert.NsaProjIdeal.main_v38_10) = v10 c
          ∧ r.2.mem ((c.tc : Thread Cert.NsaProjIdeal.nD Cert.NsaProjIdeal.τ).loc Cert.NsaProjIdeal.main_arg0) = m ((c.tc : Thread Cert.NsaProjIdeal.nD Cert.NsaProjIdeal.τ).loc Cert.NsaProjIdeal.main_arg0)
          ∧ r.2.mem ((c.tc : Thread Cert.NsaProjIdeal.nD Cert.NsaProjIdeal.τ).loc Cert.NsaProjIdeal.main_arg1) = m ((c.tc : Thread Cert.NsaProjIdeal.nD Cert.NsaProjIdeal.τ).loc Cert.NsaProjIdeal.main_arg1)
          ∧ r.2.mem ((c.tc : Thread Cert.NsaProjIdeal.nD Cert.NsaProjIdeal.τ).loc Cert.NsaProjIdeal.main_arg2) = m ((c.tc : Thread Cert.NsaProjIdeal.nD Cert.NsaProjIdeal.τ).loc Cert.NsaProjIdeal.main_arg2)
          ∧ r.2.mem ((c.tc : Thread Cert.NsaProjIdeal.nD Cert.NsaProjIdeal.τ).loc Cert.NsaProjIdeal.main_arg3) = m ((c.tc : Thread Cert.NsaProjIdeal.nD Cert.NsaProjIdeal.τ).loc Cert.NsaProjIdeal.main_arg3)
          ∧ r.2.mem ((c.tc : Thread Cert.NsaProjIdeal.nD Cert.NsaProjIdeal.τ).loc Cert.NsaProjIdeal.main_arg4) = m ((c.tc : Thread Cert.NsaProjIdeal.nD Cert.NsaProjIdeal.τ).loc Cert.NsaProjIdeal.main_arg4)
          ∧ r.2.mem ((c.tc : Thread Cert.NsaProjIdeal.nD Cert.NsaProjIdeal.τ).loc Cert.NsaProjIdeal.main_arg5) = m ((c.tc : Thread Cert.NsaProjIdeal.nD Cert.NsaProjIdeal.τ).loc Cert.NsaProjIdeal.main_arg5)
          ∧ r.2.mem ((c.tc : Thread Cert.NsaProjIdeal.nD Cert.NsaProjIdeal.τ).loc Cert.NsaProjIdeal.main_arg6) = m ((c.tc : Thread Cert.NsaProjIdeal.nD Cert.NsaProjIdeal.τ).loc Cert.NsaProjIdeal.main_arg6)
          ∧ r.2.mem ((c.tc : Thread Cert.NsaProjIdeal.nD Cert.NsaProjIdeal.τ).loc Cert.NsaProjIdeal.main_arg7) = m ((c.tc : Thread Cert.NsaProjIdeal.nD Cert.NsaProjIdeal.τ).loc Cert.NsaProjIdeal.main_arg7))
      ∧ θ_run (Cert.NsaProjReferenceIdeal.defs (F := Ideal)) (onTc (τ := Cert.NsaProjReferenceIdeal.τ) (Cert.NsaProjReferenceIdeal.main (F := Ideal))) ⟨m', fun _ => 0, g'⟩ (fun r => ∀ c : Dev Cert.NsaProjReferenceIdeal.nD,
          r.2.mem ((c.tc : Thread Cert.NsaProjReferenceIdeal.nD Cert.NsaProjReferenceIdeal.τ).loc Cert.NsaProjReferenceIdeal.main_v118) = v0 c
          ∧ r.2.mem ((c.tc : Thread Cert.NsaProjReferenceIdeal.nD Cert.NsaProjReferenceIdeal.τ).loc Cert.NsaProjReferenceIdeal.main_v15) = v1 c
          ∧ r.2.mem ((c.tc : Thread Cert.NsaProjReferenceIdeal.nD Cert.NsaProjReferenceIdeal.τ).loc Cert.NsaProjReferenceIdeal.main_v72) = v2 c
          ∧ r.2.mem ((c.tc : Thread Cert.NsaProjReferenceIdeal.nD Cert.NsaProjReferenceIdeal.τ).loc Cert.NsaProjReferenceIdeal.main_v75) = v3 c
          ∧ r.2.mem ((c.tc : Thread Cert.NsaProjReferenceIdeal.nD Cert.NsaProjReferenceIdeal.τ).loc Cert.NsaProjReferenceIdeal.main_v119) = v4 c
          ∧ r.2.mem ((c.tc : Thread Cert.NsaProjReferenceIdeal.nD Cert.NsaProjReferenceIdeal.τ).loc Cert.NsaProjReferenceIdeal.main_v85) = v5 c
          ∧ r.2.mem ((c.tc : Thread Cert.NsaProjReferenceIdeal.nD Cert.NsaProjReferenceIdeal.τ).loc Cert.NsaProjReferenceIdeal.main_v120) = v6 c
          ∧ r.2.mem ((c.tc : Thread Cert.NsaProjReferenceIdeal.nD Cert.NsaProjReferenceIdeal.τ).loc Cert.NsaProjReferenceIdeal.main_v121) = v7 c
          ∧ r.2.mem ((c.tc : Thread Cert.NsaProjReferenceIdeal.nD Cert.NsaProjReferenceIdeal.τ).loc Cert.NsaProjReferenceIdeal.main_v122) = v8 c
          ∧ r.2.mem ((c.tc : Thread Cert.NsaProjReferenceIdeal.nD Cert.NsaProjReferenceIdeal.τ).loc Cert.NsaProjReferenceIdeal.main_v123) = v9 c
          ∧ r.2.mem ((c.tc : Thread Cert.NsaProjReferenceIdeal.nD Cert.NsaProjReferenceIdeal.τ).loc Cert.NsaProjReferenceIdeal.main_v124) = v10 c
          ∧ r.2.mem ((c.tc : Thread Cert.NsaProjReferenceIdeal.nD Cert.NsaProjReferenceIdeal.τ).loc Cert.NsaProjReferenceIdeal.main_arg0) = m' ((c.tc : Thread Cert.NsaProjReferenceIdeal.nD Cert.NsaProjReferenceIdeal.τ).loc Cert.NsaProjReferenceIdeal.main_arg0)
          ∧ r.2.mem ((c.tc : Thread Cert.NsaProjReferenceIdeal.nD Cert.NsaProjReferenceIdeal.τ).loc Cert.NsaProjReferenceIdeal.main_arg1) = m' ((c.tc : Thread Cert.NsaProjReferenceIdeal.nD Cert.NsaProjReferenceIdeal.τ).loc Cert.NsaProjReferenceIdeal.main_arg1)
          ∧ r.2.mem ((c.tc : Thread Cert.NsaProjReferenceIdeal.nD Cert.NsaProjReferenceIdeal.τ).loc Cert.NsaProjReferenceIdeal.main_arg2) = m' ((c.tc : Thread Cert.NsaProjReferenceIdeal.nD Cert.NsaProjReferenceIdeal.τ).loc Cert.NsaProjReferenceIdeal.main_arg2)
          ∧ r.2.mem ((c.tc : Thread Cert.NsaProjReferenceIdeal.nD Cert.NsaProjReferenceIdeal.τ).loc Cert.NsaProjReferenceIdeal.main_arg3) = m' ((c.tc : Thread Cert.NsaProjReferenceIdeal.nD Cert.NsaProjReferenceIdeal.τ).loc Cert.NsaProjReferenceIdeal.main_arg3)
          ∧ r.2.mem ((c.tc : Thread Cert.NsaProjReferenceIdeal.nD Cert.NsaProjReferenceIdeal.τ).loc Cert.NsaProjReferenceIdeal.main_arg4) = m' ((c.tc : Thread Cert.NsaProjReferenceIdeal.nD Cert.NsaProjReferenceIdeal.τ).loc Cert.NsaProjReferenceIdeal.main_arg4)
          ∧ r.2.mem ((c.tc : Thread Cert.NsaProjReferenceIdeal.nD Cert.NsaProjReferenceIdeal.τ).loc Cert.NsaProjReferenceIdeal.main_arg5) = m' ((c.tc : Thread Cert.NsaProjReferenceIdeal.nD Cert.NsaProjReferenceIdeal.τ).loc Cert.NsaProjReferenceIdeal.main_arg5)
          ∧ r.2.mem ((c.tc : Thread Cert.NsaProjReferenceIdeal.nD Cert.NsaProjReferenceIdeal.τ).loc Cert.NsaProjReferenceIdeal.main_arg6) = m' ((c.tc : Thread Cert.NsaProjReferenceIdeal.nD Cert.NsaProjReferenceIdeal.τ).loc Cert.NsaProjReferenceIdeal.main_arg6)
          ∧ r.2.mem ((c.tc : Thread Cert.NsaProjReferenceIdeal.nD Cert.NsaProjReferenceIdeal.τ).loc Cert.NsaProjReferenceIdeal.main_arg7) = m' ((c.tc : Thread Cert.NsaProjReferenceIdeal.nD Cert.NsaProjReferenceIdeal.τ).loc Cert.NsaProjReferenceIdeal.main_arg7))

def preserves_ConfConv_ConfConvIdeal : Prop :=
  True

def algebraic_ConfConvIdeal_ConfConvReferenceIdeal [hConfConvIdeal : Cert.ConfConvIdeal.Facts] [hConfConvReferenceIdeal : Cert.ConfConvReferenceIdeal.Facts] : Prop :=
  ∀ (m : (ℓ : Loc Cert.ConfConvIdeal.nD Cert.ConfConvIdeal.τ Cert.ConfConvIdeal.sig) → Buf (Elt Ideal) ℓ) (g : Dev Cert.ConfConvIdeal.nD → PrngReg)
    (m' : (ℓ : Loc Cert.ConfConvReferenceIdeal.nD Cert.ConfConvReferenceIdeal.τ Cert.ConfConvReferenceIdeal.sig) → Buf (Elt Ideal) ℓ) (g' : Dev Cert.ConfConvReferenceIdeal.nD → PrngReg), Pre_ConfConvIdeal m →
    (∀ c : Dev Cert.ConfConvIdeal.nD,
      m' ((c.tc : Thread Cert.ConfConvReferenceIdeal.nD Cert.ConfConvReferenceIdeal.τ).loc Cert.ConfConvReferenceIdeal.main_arg0) = m ((c.tc : Thread Cert.ConfConvIdeal.nD Cert.ConfConvIdeal.τ).loc Cert.ConfConvIdeal.main_arg0)
      ∧ m' ((c.tc : Thread Cert.ConfConvReferenceIdeal.nD Cert.ConfConvReferenceIdeal.τ).loc Cert.ConfConvReferenceIdeal.main_arg1) = m ((c.tc : Thread Cert.ConfConvIdeal.nD Cert.ConfConvIdeal.τ).loc Cert.ConfConvIdeal.main_arg1)
      ∧ m' ((c.tc : Thread Cert.ConfConvReferenceIdeal.nD Cert.ConfConvReferenceIdeal.τ).loc Cert.ConfConvReferenceIdeal.main_arg2) = m ((c.tc : Thread Cert.ConfConvIdeal.nD Cert.ConfConvIdeal.τ).loc Cert.ConfConvIdeal.main_arg2)
      ∧ m' ((c.tc : Thread Cert.ConfConvReferenceIdeal.nD Cert.ConfConvReferenceIdeal.τ).loc Cert.ConfConvReferenceIdeal.main_arg3) = m ((c.tc : Thread Cert.ConfConvIdeal.nD Cert.ConfConvIdeal.τ).loc Cert.ConfConvIdeal.main_arg3)
      ∧ m' ((c.tc : Thread Cert.ConfConvReferenceIdeal.nD Cert.ConfConvReferenceIdeal.τ).loc Cert.ConfConvReferenceIdeal.main_arg4) = m ((c.tc : Thread Cert.ConfConvIdeal.nD Cert.ConfConvIdeal.τ).loc Cert.ConfConvIdeal.main_arg4)
      ∧ m' ((c.tc : Thread Cert.ConfConvReferenceIdeal.nD Cert.ConfConvReferenceIdeal.τ).loc Cert.ConfConvReferenceIdeal.main_arg5) = m ((c.tc : Thread Cert.ConfConvIdeal.nD Cert.ConfConvIdeal.τ).loc Cert.ConfConvIdeal.main_arg5)) →
    ∃ (v0 : (c : Dev Cert.ConfConvIdeal.nD) → Buf (Elt Ideal) ((c.tc : Thread Cert.ConfConvIdeal.nD Cert.ConfConvIdeal.τ).loc Cert.ConfConvIdeal.main_v5)),
      θ_run (Cert.ConfConvIdeal.defs (F := Ideal)) (onTc (τ := Cert.ConfConvIdeal.τ) (Cert.ConfConvIdeal.main (F := Ideal))) ⟨m, fun _ => 0, g⟩ (fun r => ∀ c : Dev Cert.ConfConvIdeal.nD,
          r.2.mem ((c.tc : Thread Cert.ConfConvIdeal.nD Cert.ConfConvIdeal.τ).loc Cert.ConfConvIdeal.main_v5) = v0 c
          ∧ r.2.mem ((c.tc : Thread Cert.ConfConvIdeal.nD Cert.ConfConvIdeal.τ).loc Cert.ConfConvIdeal.main_arg0) = m ((c.tc : Thread Cert.ConfConvIdeal.nD Cert.ConfConvIdeal.τ).loc Cert.ConfConvIdeal.main_arg0)
          ∧ r.2.mem ((c.tc : Thread Cert.ConfConvIdeal.nD Cert.ConfConvIdeal.τ).loc Cert.ConfConvIdeal.main_arg1) = m ((c.tc : Thread Cert.ConfConvIdeal.nD Cert.ConfConvIdeal.τ).loc Cert.ConfConvIdeal.main_arg1)
          ∧ r.2.mem ((c.tc : Thread Cert.ConfConvIdeal.nD Cert.ConfConvIdeal.τ).loc Cert.ConfConvIdeal.main_arg2) = m ((c.tc : Thread Cert.ConfConvIdeal.nD Cert.ConfConvIdeal.τ).loc Cert.ConfConvIdeal.main_arg2)
          ∧ r.2.mem ((c.tc : Thread Cert.ConfConvIdeal.nD Cert.ConfConvIdeal.τ).loc Cert.ConfConvIdeal.main_arg3) = m ((c.tc : Thread Cert.ConfConvIdeal.nD Cert.ConfConvIdeal.τ).loc Cert.ConfConvIdeal.main_arg3)
          ∧ r.2.mem ((c.tc : Thread Cert.ConfConvIdeal.nD Cert.ConfConvIdeal.τ).loc Cert.ConfConvIdeal.main_arg4) = m ((c.tc : Thread Cert.ConfConvIdeal.nD Cert.ConfConvIdeal.τ).loc Cert.ConfConvIdeal.main_arg4)
          ∧ r.2.mem ((c.tc : Thread Cert.ConfConvIdeal.nD Cert.ConfConvIdeal.τ).loc Cert.ConfConvIdeal.main_arg5) = m ((c.tc : Thread Cert.ConfConvIdeal.nD Cert.ConfConvIdeal.τ).loc Cert.ConfConvIdeal.main_arg5))
      ∧ θ_run (Cert.ConfConvReferenceIdeal.defs (F := Ideal)) (onTc (τ := Cert.ConfConvReferenceIdeal.τ) (Cert.ConfConvReferenceIdeal.main (F := Ideal))) ⟨m', fun _ => 0, g'⟩ (fun r => ∀ c : Dev Cert.ConfConvReferenceIdeal.nD,
          r.2.mem ((c.tc : Thread Cert.ConfConvReferenceIdeal.nD Cert.ConfConvReferenceIdeal.τ).loc Cert.ConfConvReferenceIdeal.main_v246) = v0 c
          ∧ r.2.mem ((c.tc : Thread Cert.ConfConvReferenceIdeal.nD Cert.ConfConvReferenceIdeal.τ).loc Cert.ConfConvReferenceIdeal.main_arg0) = m' ((c.tc : Thread Cert.ConfConvReferenceIdeal.nD Cert.ConfConvReferenceIdeal.τ).loc Cert.ConfConvReferenceIdeal.main_arg0)
          ∧ r.2.mem ((c.tc : Thread Cert.ConfConvReferenceIdeal.nD Cert.ConfConvReferenceIdeal.τ).loc Cert.ConfConvReferenceIdeal.main_arg1) = m' ((c.tc : Thread Cert.ConfConvReferenceIdeal.nD Cert.ConfConvReferenceIdeal.τ).loc Cert.ConfConvReferenceIdeal.main_arg1)
          ∧ r.2.mem ((c.tc : Thread Cert.ConfConvReferenceIdeal.nD Cert.ConfConvReferenceIdeal.τ).loc Cert.ConfConvReferenceIdeal.main_arg2) = m' ((c.tc : Thread Cert.ConfConvReferenceIdeal.nD Cert.ConfConvReferenceIdeal.τ).loc Cert.ConfConvReferenceIdeal.main_arg2)
          ∧ r.2.mem ((c.tc : Thread Cert.ConfConvReferenceIdeal.nD Cert.ConfConvReferenceIdeal.τ).loc Cert.ConfConvReferenceIdeal.main_arg3) = m' ((c.tc : Thread Cert.ConfConvReferenceIdeal.nD Cert.ConfConvReferenceIdeal.τ).loc Cert.ConfConvReferenceIdeal.main_arg3)
          ∧ r.2.mem ((c.tc : Thread Cert.ConfConvReferenceIdeal.nD Cert.ConfConvReferenceIdeal.τ).loc Cert.ConfConvReferenceIdeal.main_arg4) = m' ((c.tc : Thread Cert.ConfConvReferenceIdeal.nD Cert.ConfConvReferenceIdeal.τ).loc Cert.ConfConvReferenceIdeal.main_arg4)
          ∧ r.2.mem ((c.tc : Thread Cert.ConfConvReferenceIdeal.nD Cert.ConfConvReferenceIdeal.τ).loc Cert.ConfConvReferenceIdeal.main_arg5) = m' ((c.tc : Thread Cert.ConfConvReferenceIdeal.nD Cert.ConfConvReferenceIdeal.τ).loc Cert.ConfConvReferenceIdeal.main_arg5))

def preserves_ConfProjSample_ConfProjSampleIdeal : Prop :=
  True

def algebraic_ConfProjSampleIdeal_ConfProjSampleReferenceIdeal [hConfProjSampleIdeal : Cert.ConfProjSampleIdeal.Facts] [hConfProjSampleReferenceIdeal : Cert.ConfProjSampleReferenceIdeal.Facts] : Prop :=
  ∀ (m : (ℓ : Loc Cert.ConfProjSampleIdeal.nD Cert.ConfProjSampleIdeal.τ Cert.ConfProjSampleIdeal.sig) → Buf (Elt Ideal) ℓ) (g : Dev Cert.ConfProjSampleIdeal.nD → PrngReg)
    (m' : (ℓ : Loc Cert.ConfProjSampleReferenceIdeal.nD Cert.ConfProjSampleReferenceIdeal.τ Cert.ConfProjSampleReferenceIdeal.sig) → Buf (Elt Ideal) ℓ) (g' : Dev Cert.ConfProjSampleReferenceIdeal.nD → PrngReg), Pre_ConfProjSampleIdeal m →
    (∀ c : Dev Cert.ConfProjSampleIdeal.nD,
      m' ((c.tc : Thread Cert.ConfProjSampleReferenceIdeal.nD Cert.ConfProjSampleReferenceIdeal.τ).loc Cert.ConfProjSampleReferenceIdeal.main_arg0) = m ((c.tc : Thread Cert.ConfProjSampleIdeal.nD Cert.ConfProjSampleIdeal.τ).loc Cert.ConfProjSampleIdeal.main_arg0)
      ∧ m' ((c.tc : Thread Cert.ConfProjSampleReferenceIdeal.nD Cert.ConfProjSampleReferenceIdeal.τ).loc Cert.ConfProjSampleReferenceIdeal.main_arg1) = m ((c.tc : Thread Cert.ConfProjSampleIdeal.nD Cert.ConfProjSampleIdeal.τ).loc Cert.ConfProjSampleIdeal.main_arg1)
      ∧ m' ((c.tc : Thread Cert.ConfProjSampleReferenceIdeal.nD Cert.ConfProjSampleReferenceIdeal.τ).loc Cert.ConfProjSampleReferenceIdeal.main_arg2) = m ((c.tc : Thread Cert.ConfProjSampleIdeal.nD Cert.ConfProjSampleIdeal.τ).loc Cert.ConfProjSampleIdeal.main_arg2)) →
    ∃ (v0 : (c : Dev Cert.ConfProjSampleIdeal.nD) → Buf (Elt Ideal) ((c.tc : Thread Cert.ConfProjSampleIdeal.nD Cert.ConfProjSampleIdeal.τ).loc Cert.ConfProjSampleIdeal.main_v2_0)) (v1 : (c : Dev Cert.ConfProjSampleIdeal.nD) → Buf (Elt Ideal) ((c.tc : Thread Cert.ConfProjSampleIdeal.nD Cert.ConfProjSampleIdeal.τ).loc Cert.ConfProjSampleIdeal.main_v2_1)),
      θ_run (Cert.ConfProjSampleIdeal.defs (F := Ideal)) (onTc (τ := Cert.ConfProjSampleIdeal.τ) (Cert.ConfProjSampleIdeal.main (F := Ideal))) ⟨m, fun _ => 0, g⟩ (fun r => ∀ c : Dev Cert.ConfProjSampleIdeal.nD,
          r.2.mem ((c.tc : Thread Cert.ConfProjSampleIdeal.nD Cert.ConfProjSampleIdeal.τ).loc Cert.ConfProjSampleIdeal.main_v2_0) = v0 c
          ∧ r.2.mem ((c.tc : Thread Cert.ConfProjSampleIdeal.nD Cert.ConfProjSampleIdeal.τ).loc Cert.ConfProjSampleIdeal.main_v2_1) = v1 c
          ∧ r.2.mem ((c.tc : Thread Cert.ConfProjSampleIdeal.nD Cert.ConfProjSampleIdeal.τ).loc Cert.ConfProjSampleIdeal.main_arg0) = m ((c.tc : Thread Cert.ConfProjSampleIdeal.nD Cert.ConfProjSampleIdeal.τ).loc Cert.ConfProjSampleIdeal.main_arg0)
          ∧ r.2.mem ((c.tc : Thread Cert.ConfProjSampleIdeal.nD Cert.ConfProjSampleIdeal.τ).loc Cert.ConfProjSampleIdeal.main_arg1) = m ((c.tc : Thread Cert.ConfProjSampleIdeal.nD Cert.ConfProjSampleIdeal.τ).loc Cert.ConfProjSampleIdeal.main_arg1)
          ∧ r.2.mem ((c.tc : Thread Cert.ConfProjSampleIdeal.nD Cert.ConfProjSampleIdeal.τ).loc Cert.ConfProjSampleIdeal.main_arg2) = m ((c.tc : Thread Cert.ConfProjSampleIdeal.nD Cert.ConfProjSampleIdeal.τ).loc Cert.ConfProjSampleIdeal.main_arg2))
      ∧ θ_run (Cert.ConfProjSampleReferenceIdeal.defs (F := Ideal)) (onTc (τ := Cert.ConfProjSampleReferenceIdeal.τ) (Cert.ConfProjSampleReferenceIdeal.main (F := Ideal))) ⟨m', fun _ => 0, g'⟩ (fun r => ∀ c : Dev Cert.ConfProjSampleReferenceIdeal.nD,
          r.2.mem ((c.tc : Thread Cert.ConfProjSampleReferenceIdeal.nD Cert.ConfProjSampleReferenceIdeal.τ).loc Cert.ConfProjSampleReferenceIdeal.main_v23) = v0 c
          ∧ r.2.mem ((c.tc : Thread Cert.ConfProjSampleReferenceIdeal.nD Cert.ConfProjSampleReferenceIdeal.τ).loc Cert.ConfProjSampleReferenceIdeal.main_v24) = v1 c
          ∧ r.2.mem ((c.tc : Thread Cert.ConfProjSampleReferenceIdeal.nD Cert.ConfProjSampleReferenceIdeal.τ).loc Cert.ConfProjSampleReferenceIdeal.main_arg0) = m' ((c.tc : Thread Cert.ConfProjSampleReferenceIdeal.nD Cert.ConfProjSampleReferenceIdeal.τ).loc Cert.ConfProjSampleReferenceIdeal.main_arg0)
          ∧ r.2.mem ((c.tc : Thread Cert.ConfProjSampleReferenceIdeal.nD Cert.ConfProjSampleReferenceIdeal.τ).loc Cert.ConfProjSampleReferenceIdeal.main_arg1) = m' ((c.tc : Thread Cert.ConfProjSampleReferenceIdeal.nD Cert.ConfProjSampleReferenceIdeal.τ).loc Cert.ConfProjSampleReferenceIdeal.main_arg1)
          ∧ r.2.mem ((c.tc : Thread Cert.ConfProjSampleReferenceIdeal.nD Cert.ConfProjSampleReferenceIdeal.τ).loc Cert.ConfProjSampleReferenceIdeal.main_arg2) = m' ((c.tc : Thread Cert.ConfProjSampleReferenceIdeal.nD Cert.ConfProjSampleReferenceIdeal.τ).loc Cert.ConfProjSampleReferenceIdeal.main_arg2))

def preserves_GdnProjSample_GdnProjSampleIdeal : Prop :=
  True

def algebraic_GdnProjSampleIdeal_GdnProjSampleReferenceIdeal [hGdnProjSampleIdeal : Cert.GdnProjSampleIdeal.Facts] [hGdnProjSampleReferenceIdeal : Cert.GdnProjSampleReferenceIdeal.Facts] : Prop :=
  ∀ (m : (ℓ : Loc Cert.GdnProjSampleIdeal.nD Cert.GdnProjSampleIdeal.τ Cert.GdnProjSampleIdeal.sig) → Buf (Elt Ideal) ℓ) (g : Dev Cert.GdnProjSampleIdeal.nD → PrngReg)
    (m' : (ℓ : Loc Cert.GdnProjSampleReferenceIdeal.nD Cert.GdnProjSampleReferenceIdeal.τ Cert.GdnProjSampleReferenceIdeal.sig) → Buf (Elt Ideal) ℓ) (g' : Dev Cert.GdnProjSampleReferenceIdeal.nD → PrngReg), Pre_GdnProjSampleIdeal m →
    (∀ c : Dev Cert.GdnProjSampleIdeal.nD,
      m' ((c.tc : Thread Cert.GdnProjSampleReferenceIdeal.nD Cert.GdnProjSampleReferenceIdeal.τ).loc Cert.GdnProjSampleReferenceIdeal.main_arg0) = m ((c.tc : Thread Cert.GdnProjSampleIdeal.nD Cert.GdnProjSampleIdeal.τ).loc Cert.GdnProjSampleIdeal.main_arg0)
      ∧ m' ((c.tc : Thread Cert.GdnProjSampleReferenceIdeal.nD Cert.GdnProjSampleReferenceIdeal.τ).loc Cert.GdnProjSampleReferenceIdeal.main_arg1) = m ((c.tc : Thread Cert.GdnProjSampleIdeal.nD Cert.GdnProjSampleIdeal.τ).loc Cert.GdnProjSampleIdeal.main_arg1)
      ∧ m' ((c.tc : Thread Cert.GdnProjSampleReferenceIdeal.nD Cert.GdnProjSampleReferenceIdeal.τ).loc Cert.GdnProjSampleReferenceIdeal.main_arg2) = m ((c.tc : Thread Cert.GdnProjSampleIdeal.nD Cert.GdnProjSampleIdeal.τ).loc Cert.GdnProjSampleIdeal.main_arg2)) →
    ∃ (v0 : (c : Dev Cert.GdnProjSampleIdeal.nD) → Buf (Elt Ideal) ((c.tc : Thread Cert.GdnProjSampleIdeal.nD Cert.GdnProjSampleIdeal.τ).loc Cert.GdnProjSampleIdeal.main_v3_0)) (v1 : (c : Dev Cert.GdnProjSampleIdeal.nD) → Buf (Elt Ideal) ((c.tc : Thread Cert.GdnProjSampleIdeal.nD Cert.GdnProjSampleIdeal.τ).loc Cert.GdnProjSampleIdeal.main_v3_1)) (v2 : (c : Dev Cert.GdnProjSampleIdeal.nD) → Buf (Elt Ideal) ((c.tc : Thread Cert.GdnProjSampleIdeal.nD Cert.GdnProjSampleIdeal.τ).loc Cert.GdnProjSampleIdeal.main_v3_2)),
      θ_run (Cert.GdnProjSampleIdeal.defs (F := Ideal)) (onTc (τ := Cert.GdnProjSampleIdeal.τ) (Cert.GdnProjSampleIdeal.main (F := Ideal))) ⟨m, fun _ => 0, g⟩ (fun r => ∀ c : Dev Cert.GdnProjSampleIdeal.nD,
          r.2.mem ((c.tc : Thread Cert.GdnProjSampleIdeal.nD Cert.GdnProjSampleIdeal.τ).loc Cert.GdnProjSampleIdeal.main_v3_0) = v0 c
          ∧ r.2.mem ((c.tc : Thread Cert.GdnProjSampleIdeal.nD Cert.GdnProjSampleIdeal.τ).loc Cert.GdnProjSampleIdeal.main_v3_1) = v1 c
          ∧ r.2.mem ((c.tc : Thread Cert.GdnProjSampleIdeal.nD Cert.GdnProjSampleIdeal.τ).loc Cert.GdnProjSampleIdeal.main_v3_2) = v2 c
          ∧ r.2.mem ((c.tc : Thread Cert.GdnProjSampleIdeal.nD Cert.GdnProjSampleIdeal.τ).loc Cert.GdnProjSampleIdeal.main_arg0) = m ((c.tc : Thread Cert.GdnProjSampleIdeal.nD Cert.GdnProjSampleIdeal.τ).loc Cert.GdnProjSampleIdeal.main_arg0)
          ∧ r.2.mem ((c.tc : Thread Cert.GdnProjSampleIdeal.nD Cert.GdnProjSampleIdeal.τ).loc Cert.GdnProjSampleIdeal.main_arg1) = m ((c.tc : Thread Cert.GdnProjSampleIdeal.nD Cert.GdnProjSampleIdeal.τ).loc Cert.GdnProjSampleIdeal.main_arg1)
          ∧ r.2.mem ((c.tc : Thread Cert.GdnProjSampleIdeal.nD Cert.GdnProjSampleIdeal.τ).loc Cert.GdnProjSampleIdeal.main_arg2) = m ((c.tc : Thread Cert.GdnProjSampleIdeal.nD Cert.GdnProjSampleIdeal.τ).loc Cert.GdnProjSampleIdeal.main_arg2))
      ∧ θ_run (Cert.GdnProjSampleReferenceIdeal.defs (F := Ideal)) (onTc (τ := Cert.GdnProjSampleReferenceIdeal.τ) (Cert.GdnProjSampleReferenceIdeal.main (F := Ideal))) ⟨m', fun _ => 0, g'⟩ (fun r => ∀ c : Dev Cert.GdnProjSampleReferenceIdeal.nD,
          r.2.mem ((c.tc : Thread Cert.GdnProjSampleReferenceIdeal.nD Cert.GdnProjSampleReferenceIdeal.τ).loc Cert.GdnProjSampleReferenceIdeal.main_v14) = v0 c
          ∧ r.2.mem ((c.tc : Thread Cert.GdnProjSampleReferenceIdeal.nD Cert.GdnProjSampleReferenceIdeal.τ).loc Cert.GdnProjSampleReferenceIdeal.main_v17) = v1 c
          ∧ r.2.mem ((c.tc : Thread Cert.GdnProjSampleReferenceIdeal.nD Cert.GdnProjSampleReferenceIdeal.τ).loc Cert.GdnProjSampleReferenceIdeal.main_v18) = v2 c
          ∧ r.2.mem ((c.tc : Thread Cert.GdnProjSampleReferenceIdeal.nD Cert.GdnProjSampleReferenceIdeal.τ).loc Cert.GdnProjSampleReferenceIdeal.main_arg0) = m' ((c.tc : Thread Cert.GdnProjSampleReferenceIdeal.nD Cert.GdnProjSampleReferenceIdeal.τ).loc Cert.GdnProjSampleReferenceIdeal.main_arg0)
          ∧ r.2.mem ((c.tc : Thread Cert.GdnProjSampleReferenceIdeal.nD Cert.GdnProjSampleReferenceIdeal.τ).loc Cert.GdnProjSampleReferenceIdeal.main_arg1) = m' ((c.tc : Thread Cert.GdnProjSampleReferenceIdeal.nD Cert.GdnProjSampleReferenceIdeal.τ).loc Cert.GdnProjSampleReferenceIdeal.main_arg1)
          ∧ r.2.mem ((c.tc : Thread Cert.GdnProjSampleReferenceIdeal.nD Cert.GdnProjSampleReferenceIdeal.τ).loc Cert.GdnProjSampleReferenceIdeal.main_arg2) = m' ((c.tc : Thread Cert.GdnProjSampleReferenceIdeal.nD Cert.GdnProjSampleReferenceIdeal.τ).loc Cert.GdnProjSampleReferenceIdeal.main_arg2))

def preserves_NsaOutSample_NsaOutSampleIdeal : Prop :=
  True

def algebraic_NsaOutSampleIdeal_NsaOutSampleReferenceIdeal_pre_sample_gates_between [hNsaOutSampleIdeal : Cert.NsaOutSampleIdeal.Facts] [hNsaOutSampleReferenceIdeal : Cert.NsaOutSampleReferenceIdeal.Facts] [hPre_sample_gates_between : Cert.Pre_sample_gates_between.Facts] : Prop :=
  ∀ (m : (ℓ : Loc Cert.NsaOutSampleIdeal.nD Cert.NsaOutSampleIdeal.τ Cert.NsaOutSampleIdeal.sig) → Buf (Elt Ideal) ℓ) (g : Dev Cert.NsaOutSampleIdeal.nD → PrngReg)
    (m' : (ℓ : Loc Cert.NsaOutSampleReferenceIdeal.nD Cert.NsaOutSampleReferenceIdeal.τ Cert.NsaOutSampleReferenceIdeal.sig) → Buf (Elt Ideal) ℓ) (g' : Dev Cert.NsaOutSampleReferenceIdeal.nD → PrngReg), Pre_NsaOutSampleIdeal_sample_gates_between m →
    (∀ c : Dev Cert.NsaOutSampleIdeal.nD,
      m' ((c.tc : Thread Cert.NsaOutSampleReferenceIdeal.nD Cert.NsaOutSampleReferenceIdeal.τ).loc Cert.NsaOutSampleReferenceIdeal.main_arg0) = m ((c.tc : Thread Cert.NsaOutSampleIdeal.nD Cert.NsaOutSampleIdeal.τ).loc Cert.NsaOutSampleIdeal.main_arg0)
      ∧ m' ((c.tc : Thread Cert.NsaOutSampleReferenceIdeal.nD Cert.NsaOutSampleReferenceIdeal.τ).loc Cert.NsaOutSampleReferenceIdeal.main_arg1) = m ((c.tc : Thread Cert.NsaOutSampleIdeal.nD Cert.NsaOutSampleIdeal.τ).loc Cert.NsaOutSampleIdeal.main_arg1)
      ∧ m' ((c.tc : Thread Cert.NsaOutSampleReferenceIdeal.nD Cert.NsaOutSampleReferenceIdeal.τ).loc Cert.NsaOutSampleReferenceIdeal.main_arg2) = m ((c.tc : Thread Cert.NsaOutSampleIdeal.nD Cert.NsaOutSampleIdeal.τ).loc Cert.NsaOutSampleIdeal.main_arg2)
      ∧ m' ((c.tc : Thread Cert.NsaOutSampleReferenceIdeal.nD Cert.NsaOutSampleReferenceIdeal.τ).loc Cert.NsaOutSampleReferenceIdeal.main_arg3) = m ((c.tc : Thread Cert.NsaOutSampleIdeal.nD Cert.NsaOutSampleIdeal.τ).loc Cert.NsaOutSampleIdeal.main_arg3)
      ∧ m' ((c.tc : Thread Cert.NsaOutSampleReferenceIdeal.nD Cert.NsaOutSampleReferenceIdeal.τ).loc Cert.NsaOutSampleReferenceIdeal.main_arg4) = m ((c.tc : Thread Cert.NsaOutSampleIdeal.nD Cert.NsaOutSampleIdeal.τ).loc Cert.NsaOutSampleIdeal.main_arg4)
      ∧ m' ((c.tc : Thread Cert.NsaOutSampleReferenceIdeal.nD Cert.NsaOutSampleReferenceIdeal.τ).loc Cert.NsaOutSampleReferenceIdeal.main_arg5) = m ((c.tc : Thread Cert.NsaOutSampleIdeal.nD Cert.NsaOutSampleIdeal.τ).loc Cert.NsaOutSampleIdeal.main_arg5)
      ∧ m' ((c.tc : Thread Cert.NsaOutSampleReferenceIdeal.nD Cert.NsaOutSampleReferenceIdeal.τ).loc Cert.NsaOutSampleReferenceIdeal.main_arg6) = m ((c.tc : Thread Cert.NsaOutSampleIdeal.nD Cert.NsaOutSampleIdeal.τ).loc Cert.NsaOutSampleIdeal.main_arg6)) →
    ∃ (v0 : (c : Dev Cert.NsaOutSampleIdeal.nD) → Buf (Elt Ideal) ((c.tc : Thread Cert.NsaOutSampleIdeal.nD Cert.NsaOutSampleIdeal.τ).loc Cert.NsaOutSampleIdeal.main_v29)),
      θ_run (Cert.NsaOutSampleIdeal.defs (F := Ideal)) (onTc (τ := Cert.NsaOutSampleIdeal.τ) (Cert.NsaOutSampleIdeal.main (F := Ideal))) ⟨m, fun _ => 0, g⟩ (fun r => ∀ c : Dev Cert.NsaOutSampleIdeal.nD,
          r.2.mem ((c.tc : Thread Cert.NsaOutSampleIdeal.nD Cert.NsaOutSampleIdeal.τ).loc Cert.NsaOutSampleIdeal.main_v29) = v0 c
          ∧ r.2.mem ((c.tc : Thread Cert.NsaOutSampleIdeal.nD Cert.NsaOutSampleIdeal.τ).loc Cert.NsaOutSampleIdeal.main_arg0) = m ((c.tc : Thread Cert.NsaOutSampleIdeal.nD Cert.NsaOutSampleIdeal.τ).loc Cert.NsaOutSampleIdeal.main_arg0)
          ∧ r.2.mem ((c.tc : Thread Cert.NsaOutSampleIdeal.nD Cert.NsaOutSampleIdeal.τ).loc Cert.NsaOutSampleIdeal.main_arg1) = m ((c.tc : Thread Cert.NsaOutSampleIdeal.nD Cert.NsaOutSampleIdeal.τ).loc Cert.NsaOutSampleIdeal.main_arg1)
          ∧ r.2.mem ((c.tc : Thread Cert.NsaOutSampleIdeal.nD Cert.NsaOutSampleIdeal.τ).loc Cert.NsaOutSampleIdeal.main_arg2) = m ((c.tc : Thread Cert.NsaOutSampleIdeal.nD Cert.NsaOutSampleIdeal.τ).loc Cert.NsaOutSampleIdeal.main_arg2)
          ∧ r.2.mem ((c.tc : Thread Cert.NsaOutSampleIdeal.nD Cert.NsaOutSampleIdeal.τ).loc Cert.NsaOutSampleIdeal.main_arg3) = m ((c.tc : Thread Cert.NsaOutSampleIdeal.nD Cert.NsaOutSampleIdeal.τ).loc Cert.NsaOutSampleIdeal.main_arg3)
          ∧ r.2.mem ((c.tc : Thread Cert.NsaOutSampleIdeal.nD Cert.NsaOutSampleIdeal.τ).loc Cert.NsaOutSampleIdeal.main_arg4) = m ((c.tc : Thread Cert.NsaOutSampleIdeal.nD Cert.NsaOutSampleIdeal.τ).loc Cert.NsaOutSampleIdeal.main_arg4)
          ∧ r.2.mem ((c.tc : Thread Cert.NsaOutSampleIdeal.nD Cert.NsaOutSampleIdeal.τ).loc Cert.NsaOutSampleIdeal.main_arg5) = m ((c.tc : Thread Cert.NsaOutSampleIdeal.nD Cert.NsaOutSampleIdeal.τ).loc Cert.NsaOutSampleIdeal.main_arg5)
          ∧ r.2.mem ((c.tc : Thread Cert.NsaOutSampleIdeal.nD Cert.NsaOutSampleIdeal.τ).loc Cert.NsaOutSampleIdeal.main_arg6) = m ((c.tc : Thread Cert.NsaOutSampleIdeal.nD Cert.NsaOutSampleIdeal.τ).loc Cert.NsaOutSampleIdeal.main_arg6))
      ∧ θ_run (Cert.NsaOutSampleReferenceIdeal.defs (F := Ideal)) (onTc (τ := Cert.NsaOutSampleReferenceIdeal.τ) (Cert.NsaOutSampleReferenceIdeal.main (F := Ideal))) ⟨m', fun _ => 0, g'⟩ (fun r => ∀ c : Dev Cert.NsaOutSampleReferenceIdeal.nD,
          r.2.mem ((c.tc : Thread Cert.NsaOutSampleReferenceIdeal.nD Cert.NsaOutSampleReferenceIdeal.τ).loc Cert.NsaOutSampleReferenceIdeal.main_v22) = v0 c
          ∧ r.2.mem ((c.tc : Thread Cert.NsaOutSampleReferenceIdeal.nD Cert.NsaOutSampleReferenceIdeal.τ).loc Cert.NsaOutSampleReferenceIdeal.main_arg0) = m' ((c.tc : Thread Cert.NsaOutSampleReferenceIdeal.nD Cert.NsaOutSampleReferenceIdeal.τ).loc Cert.NsaOutSampleReferenceIdeal.main_arg0)
          ∧ r.2.mem ((c.tc : Thread Cert.NsaOutSampleReferenceIdeal.nD Cert.NsaOutSampleReferenceIdeal.τ).loc Cert.NsaOutSampleReferenceIdeal.main_arg1) = m' ((c.tc : Thread Cert.NsaOutSampleReferenceIdeal.nD Cert.NsaOutSampleReferenceIdeal.τ).loc Cert.NsaOutSampleReferenceIdeal.main_arg1)
          ∧ r.2.mem ((c.tc : Thread Cert.NsaOutSampleReferenceIdeal.nD Cert.NsaOutSampleReferenceIdeal.τ).loc Cert.NsaOutSampleReferenceIdeal.main_arg2) = m' ((c.tc : Thread Cert.NsaOutSampleReferenceIdeal.nD Cert.NsaOutSampleReferenceIdeal.τ).loc Cert.NsaOutSampleReferenceIdeal.main_arg2)
          ∧ r.2.mem ((c.tc : Thread Cert.NsaOutSampleReferenceIdeal.nD Cert.NsaOutSampleReferenceIdeal.τ).loc Cert.NsaOutSampleReferenceIdeal.main_arg3) = m' ((c.tc : Thread Cert.NsaOutSampleReferenceIdeal.nD Cert.NsaOutSampleReferenceIdeal.τ).loc Cert.NsaOutSampleReferenceIdeal.main_arg3)
          ∧ r.2.mem ((c.tc : Thread Cert.NsaOutSampleReferenceIdeal.nD Cert.NsaOutSampleReferenceIdeal.τ).loc Cert.NsaOutSampleReferenceIdeal.main_arg4) = m' ((c.tc : Thread Cert.NsaOutSampleReferenceIdeal.nD Cert.NsaOutSampleReferenceIdeal.τ).loc Cert.NsaOutSampleReferenceIdeal.main_arg4)
          ∧ r.2.mem ((c.tc : Thread Cert.NsaOutSampleReferenceIdeal.nD Cert.NsaOutSampleReferenceIdeal.τ).loc Cert.NsaOutSampleReferenceIdeal.main_arg5) = m' ((c.tc : Thread Cert.NsaOutSampleReferenceIdeal.nD Cert.NsaOutSampleReferenceIdeal.τ).loc Cert.NsaOutSampleReferenceIdeal.main_arg5)
          ∧ r.2.mem ((c.tc : Thread Cert.NsaOutSampleReferenceIdeal.nD Cert.NsaOutSampleReferenceIdeal.τ).loc Cert.NsaOutSampleReferenceIdeal.main_arg6) = m' ((c.tc : Thread Cert.NsaOutSampleReferenceIdeal.nD Cert.NsaOutSampleReferenceIdeal.τ).loc Cert.NsaOutSampleReferenceIdeal.main_arg6))

def preserves_NsaProjSample_NsaProjSampleIdeal : Prop :=
  True

def algebraic_NsaProjSampleIdeal_NsaProjSampleReferenceIdeal [hNsaProjSampleIdeal : Cert.NsaProjSampleIdeal.Facts] [hNsaProjSampleReferenceIdeal : Cert.NsaProjSampleReferenceIdeal.Facts] : Prop :=
  ∀ (m : (ℓ : Loc Cert.NsaProjSampleIdeal.nD Cert.NsaProjSampleIdeal.τ Cert.NsaProjSampleIdeal.sig) → Buf (Elt Ideal) ℓ) (g : Dev Cert.NsaProjSampleIdeal.nD → PrngReg)
    (m' : (ℓ : Loc Cert.NsaProjSampleReferenceIdeal.nD Cert.NsaProjSampleReferenceIdeal.τ Cert.NsaProjSampleReferenceIdeal.sig) → Buf (Elt Ideal) ℓ) (g' : Dev Cert.NsaProjSampleReferenceIdeal.nD → PrngReg), Pre_NsaProjSampleIdeal m →
    (∀ c : Dev Cert.NsaProjSampleIdeal.nD,
      m' ((c.tc : Thread Cert.NsaProjSampleReferenceIdeal.nD Cert.NsaProjSampleReferenceIdeal.τ).loc Cert.NsaProjSampleReferenceIdeal.main_arg0) = m ((c.tc : Thread Cert.NsaProjSampleIdeal.nD Cert.NsaProjSampleIdeal.τ).loc Cert.NsaProjSampleIdeal.main_arg0)
      ∧ m' ((c.tc : Thread Cert.NsaProjSampleReferenceIdeal.nD Cert.NsaProjSampleReferenceIdeal.τ).loc Cert.NsaProjSampleReferenceIdeal.main_arg1) = m ((c.tc : Thread Cert.NsaProjSampleIdeal.nD Cert.NsaProjSampleIdeal.τ).loc Cert.NsaProjSampleIdeal.main_arg1)
      ∧ m' ((c.tc : Thread Cert.NsaProjSampleReferenceIdeal.nD Cert.NsaProjSampleReferenceIdeal.τ).loc Cert.NsaProjSampleReferenceIdeal.main_arg2) = m ((c.tc : Thread Cert.NsaProjSampleIdeal.nD Cert.NsaProjSampleIdeal.τ).loc Cert.NsaProjSampleIdeal.main_arg2)
      ∧ m' ((c.tc : Thread Cert.NsaProjSampleReferenceIdeal.nD Cert.NsaProjSampleReferenceIdeal.τ).loc Cert.NsaProjSampleReferenceIdeal.main_arg3) = m ((c.tc : Thread Cert.NsaProjSampleIdeal.nD Cert.NsaProjSampleIdeal.τ).loc Cert.NsaProjSampleIdeal.main_arg3)
      ∧ m' ((c.tc : Thread Cert.NsaProjSampleReferenceIdeal.nD Cert.NsaProjSampleReferenceIdeal.τ).loc Cert.NsaProjSampleReferenceIdeal.main_arg4) = m ((c.tc : Thread Cert.NsaProjSampleIdeal.nD Cert.NsaProjSampleIdeal.τ).loc Cert.NsaProjSampleIdeal.main_arg4)
      ∧ m' ((c.tc : Thread Cert.NsaProjSampleReferenceIdeal.nD Cert.NsaProjSampleReferenceIdeal.τ).loc Cert.NsaProjSampleReferenceIdeal.main_arg5) = m ((c.tc : Thread Cert.NsaProjSampleIdeal.nD Cert.NsaProjSampleIdeal.τ).loc Cert.NsaProjSampleIdeal.main_arg5)) →
    ∃ (v0 : (c : Dev Cert.NsaProjSampleIdeal.nD) → Buf (Elt Ideal) ((c.tc : Thread Cert.NsaProjSampleIdeal.nD Cert.NsaProjSampleIdeal.τ).loc Cert.NsaProjSampleIdeal.main_v38_0)) (v1 : (c : Dev Cert.NsaProjSampleIdeal.nD) → Buf (Elt Ideal) ((c.tc : Thread Cert.NsaProjSampleIdeal.nD Cert.NsaProjSampleIdeal.τ).loc Cert.NsaProjSampleIdeal.main_v38_1)) (v2 : (c : Dev Cert.NsaProjSampleIdeal.nD) → Buf (Elt Ideal) ((c.tc : Thread Cert.NsaProjSampleIdeal.nD Cert.NsaProjSampleIdeal.τ).loc Cert.NsaProjSampleIdeal.main_v38_2)) (v3 : (c : Dev Cert.NsaProjSampleIdeal.nD) → Buf (Elt Ideal) ((c.tc : Thread Cert.NsaProjSampleIdeal.nD Cert.NsaProjSampleIdeal.τ).loc Cert.NsaProjSampleIdeal.main_v38_3)) (v4 : (c : Dev Cert.NsaProjSampleIdeal.nD) → Buf (Elt Ideal) ((c.tc : Thread Cert.NsaProjSampleIdeal.nD Cert.NsaProjSampleIdeal.τ).loc Cert.NsaProjSampleIdeal.main_v38_4)) (v5 : (c : Dev Cert.NsaProjSampleIdeal.nD) → Buf (Elt Ideal) ((c.tc : Thread Cert.NsaProjSampleIdeal.nD Cert.NsaProjSampleIdeal.τ).loc Cert.NsaProjSampleIdeal.main_v38_5)),
      θ_run (Cert.NsaProjSampleIdeal.defs (F := Ideal)) (onTc (τ := Cert.NsaProjSampleIdeal.τ) (Cert.NsaProjSampleIdeal.main (F := Ideal))) ⟨m, fun _ => 0, g⟩ (fun r => ∀ c : Dev Cert.NsaProjSampleIdeal.nD,
          r.2.mem ((c.tc : Thread Cert.NsaProjSampleIdeal.nD Cert.NsaProjSampleIdeal.τ).loc Cert.NsaProjSampleIdeal.main_v38_0) = v0 c
          ∧ r.2.mem ((c.tc : Thread Cert.NsaProjSampleIdeal.nD Cert.NsaProjSampleIdeal.τ).loc Cert.NsaProjSampleIdeal.main_v38_1) = v1 c
          ∧ r.2.mem ((c.tc : Thread Cert.NsaProjSampleIdeal.nD Cert.NsaProjSampleIdeal.τ).loc Cert.NsaProjSampleIdeal.main_v38_2) = v2 c
          ∧ r.2.mem ((c.tc : Thread Cert.NsaProjSampleIdeal.nD Cert.NsaProjSampleIdeal.τ).loc Cert.NsaProjSampleIdeal.main_v38_3) = v3 c
          ∧ r.2.mem ((c.tc : Thread Cert.NsaProjSampleIdeal.nD Cert.NsaProjSampleIdeal.τ).loc Cert.NsaProjSampleIdeal.main_v38_4) = v4 c
          ∧ r.2.mem ((c.tc : Thread Cert.NsaProjSampleIdeal.nD Cert.NsaProjSampleIdeal.τ).loc Cert.NsaProjSampleIdeal.main_v38_5) = v5 c
          ∧ r.2.mem ((c.tc : Thread Cert.NsaProjSampleIdeal.nD Cert.NsaProjSampleIdeal.τ).loc Cert.NsaProjSampleIdeal.main_arg0) = m ((c.tc : Thread Cert.NsaProjSampleIdeal.nD Cert.NsaProjSampleIdeal.τ).loc Cert.NsaProjSampleIdeal.main_arg0)
          ∧ r.2.mem ((c.tc : Thread Cert.NsaProjSampleIdeal.nD Cert.NsaProjSampleIdeal.τ).loc Cert.NsaProjSampleIdeal.main_arg1) = m ((c.tc : Thread Cert.NsaProjSampleIdeal.nD Cert.NsaProjSampleIdeal.τ).loc Cert.NsaProjSampleIdeal.main_arg1)
          ∧ r.2.mem ((c.tc : Thread Cert.NsaProjSampleIdeal.nD Cert.NsaProjSampleIdeal.τ).loc Cert.NsaProjSampleIdeal.main_arg2) = m ((c.tc : Thread Cert.NsaProjSampleIdeal.nD Cert.NsaProjSampleIdeal.τ).loc Cert.NsaProjSampleIdeal.main_arg2)
          ∧ r.2.mem ((c.tc : Thread Cert.NsaProjSampleIdeal.nD Cert.NsaProjSampleIdeal.τ).loc Cert.NsaProjSampleIdeal.main_arg3) = m ((c.tc : Thread Cert.NsaProjSampleIdeal.nD Cert.NsaProjSampleIdeal.τ).loc Cert.NsaProjSampleIdeal.main_arg3)
          ∧ r.2.mem ((c.tc : Thread Cert.NsaProjSampleIdeal.nD Cert.NsaProjSampleIdeal.τ).loc Cert.NsaProjSampleIdeal.main_arg4) = m ((c.tc : Thread Cert.NsaProjSampleIdeal.nD Cert.NsaProjSampleIdeal.τ).loc Cert.NsaProjSampleIdeal.main_arg4)
          ∧ r.2.mem ((c.tc : Thread Cert.NsaProjSampleIdeal.nD Cert.NsaProjSampleIdeal.τ).loc Cert.NsaProjSampleIdeal.main_arg5) = m ((c.tc : Thread Cert.NsaProjSampleIdeal.nD Cert.NsaProjSampleIdeal.τ).loc Cert.NsaProjSampleIdeal.main_arg5))
      ∧ θ_run (Cert.NsaProjSampleReferenceIdeal.defs (F := Ideal)) (onTc (τ := Cert.NsaProjSampleReferenceIdeal.τ) (Cert.NsaProjSampleReferenceIdeal.main (F := Ideal))) ⟨m', fun _ => 0, g'⟩ (fun r => ∀ c : Dev Cert.NsaProjSampleReferenceIdeal.nD,
          r.2.mem ((c.tc : Thread Cert.NsaProjSampleReferenceIdeal.nD Cert.NsaProjSampleReferenceIdeal.τ).loc Cert.NsaProjSampleReferenceIdeal.main_v87) = v0 c
          ∧ r.2.mem ((c.tc : Thread Cert.NsaProjSampleReferenceIdeal.nD Cert.NsaProjSampleReferenceIdeal.τ).loc Cert.NsaProjSampleReferenceIdeal.main_v15) = v1 c
          ∧ r.2.mem ((c.tc : Thread Cert.NsaProjSampleReferenceIdeal.nD Cert.NsaProjSampleReferenceIdeal.τ).loc Cert.NsaProjSampleReferenceIdeal.main_v72) = v2 c
          ∧ r.2.mem ((c.tc : Thread Cert.NsaProjSampleReferenceIdeal.nD Cert.NsaProjSampleReferenceIdeal.τ).loc Cert.NsaProjSampleReferenceIdeal.main_v75) = v3 c
          ∧ r.2.mem ((c.tc : Thread Cert.NsaProjSampleReferenceIdeal.nD Cert.NsaProjSampleReferenceIdeal.τ).loc Cert.NsaProjSampleReferenceIdeal.main_v88) = v4 c
          ∧ r.2.mem ((c.tc : Thread Cert.NsaProjSampleReferenceIdeal.nD Cert.NsaProjSampleReferenceIdeal.τ).loc Cert.NsaProjSampleReferenceIdeal.main_v85) = v5 c
          ∧ r.2.mem ((c.tc : Thread Cert.NsaProjSampleReferenceIdeal.nD Cert.NsaProjSampleReferenceIdeal.τ).loc Cert.NsaProjSampleReferenceIdeal.main_arg0) = m' ((c.tc : Thread Cert.NsaProjSampleReferenceIdeal.nD Cert.NsaProjSampleReferenceIdeal.τ).loc Cert.NsaProjSampleReferenceIdeal.main_arg0)
          ∧ r.2.mem ((c.tc : Thread Cert.NsaProjSampleReferenceIdeal.nD Cert.NsaProjSampleReferenceIdeal.τ).loc Cert.NsaProjSampleReferenceIdeal.main_arg1) = m' ((c.tc : Thread Cert.NsaProjSampleReferenceIdeal.nD Cert.NsaProjSampleReferenceIdeal.τ).loc Cert.NsaProjSampleReferenceIdeal.main_arg1)
          ∧ r.2.mem ((c.tc : Thread Cert.NsaProjSampleReferenceIdeal.nD Cert.NsaProjSampleReferenceIdeal.τ).loc Cert.NsaProjSampleReferenceIdeal.main_arg2) = m' ((c.tc : Thread Cert.NsaProjSampleReferenceIdeal.nD Cert.NsaProjSampleReferenceIdeal.τ).loc Cert.NsaProjSampleReferenceIdeal.main_arg2)
          ∧ r.2.mem ((c.tc : Thread Cert.NsaProjSampleReferenceIdeal.nD Cert.NsaProjSampleReferenceIdeal.τ).loc Cert.NsaProjSampleReferenceIdeal.main_arg3) = m' ((c.tc : Thread Cert.NsaProjSampleReferenceIdeal.nD Cert.NsaProjSampleReferenceIdeal.τ).loc Cert.NsaProjSampleReferenceIdeal.main_arg3)
          ∧ r.2.mem ((c.tc : Thread Cert.NsaProjSampleReferenceIdeal.nD Cert.NsaProjSampleReferenceIdeal.τ).loc Cert.NsaProjSampleReferenceIdeal.main_arg4) = m' ((c.tc : Thread Cert.NsaProjSampleReferenceIdeal.nD Cert.NsaProjSampleReferenceIdeal.τ).loc Cert.NsaProjSampleReferenceIdeal.main_arg4)
          ∧ r.2.mem ((c.tc : Thread Cert.NsaProjSampleReferenceIdeal.nD Cert.NsaProjSampleReferenceIdeal.τ).loc Cert.NsaProjSampleReferenceIdeal.main_arg5) = m' ((c.tc : Thread Cert.NsaProjSampleReferenceIdeal.nD Cert.NsaProjSampleReferenceIdeal.τ).loc Cert.NsaProjSampleReferenceIdeal.main_arg5))

def Claim : Prop :=
  ∃ (hKernel : Cert.Kernel.Facts) (hKernelIdeal : Cert.KernelIdeal.Facts) (hReferenceIdeal : Cert.ReferenceIdeal.Facts) (hGdnProj : Cert.GdnProj.Facts) (hGdnProjIdeal : Cert.GdnProjIdeal.Facts) (hGdnProjReferenceIdeal : Cert.GdnProjReferenceIdeal.Facts) (hConfProj : Cert.ConfProj.Facts) (hConfProjIdeal : Cert.ConfProjIdeal.Facts) (hConfProjReferenceIdeal : Cert.ConfProjReferenceIdeal.Facts) (hOutProj : Cert.OutProj.Facts) (hOutProjIdeal : Cert.OutProjIdeal.Facts) (hOutProjReferenceIdeal : Cert.OutProjReferenceIdeal.Facts) (hNsaOut : Cert.NsaOut.Facts) (hNsaOutIdeal : Cert.NsaOutIdeal.Facts) (hNsaOutReferenceIdeal : Cert.NsaOutReferenceIdeal.Facts) (hNsaProj : Cert.NsaProj.Facts) (hNsaProjIdeal : Cert.NsaProjIdeal.Facts) (hNsaProjReferenceIdeal : Cert.NsaProjReferenceIdeal.Facts) (hConfConv : Cert.ConfConv.Facts) (hConfConvIdeal : Cert.ConfConvIdeal.Facts) (hConfConvReferenceIdeal : Cert.ConfConvReferenceIdeal.Facts) (hConfProjSample : Cert.ConfProjSample.Facts) (hConfProjSampleIdeal : Cert.ConfProjSampleIdeal.Facts) (hConfProjSampleReferenceIdeal : Cert.ConfProjSampleReferenceIdeal.Facts) (hGdnProjSample : Cert.GdnProjSample.Facts) (hGdnProjSampleIdeal : Cert.GdnProjSampleIdeal.Facts) (hGdnProjSampleReferenceIdeal : Cert.GdnProjSampleReferenceIdeal.Facts) (hNsaOutSample : Cert.NsaOutSample.Facts) (hNsaOutSampleIdeal : Cert.NsaOutSampleIdeal.Facts) (hNsaOutSampleReferenceIdeal : Cert.NsaOutSampleReferenceIdeal.Facts) (hNsaProjSample : Cert.NsaProjSample.Facts) (hNsaProjSampleIdeal : Cert.NsaProjSampleIdeal.Facts) (hNsaProjSampleReferenceIdeal : Cert.NsaProjSampleReferenceIdeal.Facts) (hPre_gates_between : Cert.Pre_gates_between.Facts) (hPre_sample_gates_between : Cert.Pre_sample_gates_between.Facts),
    quiescent_Kernel (hKernel := hKernel)
    ∧ quiescent_KernelIdeal (hKernelIdeal := hKernelIdeal)
    ∧ quiescent_ReferenceIdeal (hReferenceIdeal := hReferenceIdeal)
    ∧ quiescent_GdnProj (hGdnProj := hGdnProj)
    ∧ quiescent_GdnProjIdeal (hGdnProjIdeal := hGdnProjIdeal)
    ∧ quiescent_GdnProjReferenceIdeal (hGdnProjReferenceIdeal := hGdnProjReferenceIdeal)
    ∧ quiescent_ConfProj (hConfProj := hConfProj)
    ∧ quiescent_ConfProjIdeal (hConfProjIdeal := hConfProjIdeal)
    ∧ quiescent_ConfProjReferenceIdeal (hConfProjReferenceIdeal := hConfProjReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_NsaOut (hNsaOut := hNsaOut)
    ∧ quiescent_NsaOutIdeal (hNsaOutIdeal := hNsaOutIdeal)
    ∧ quiescent_NsaOutIdeal_pre_gates_between (hNsaOutIdeal := hNsaOutIdeal) (hPre_gates_between := hPre_gates_between)
    ∧ quiescent_NsaOutReferenceIdeal (hNsaOutReferenceIdeal := hNsaOutReferenceIdeal)
    ∧ quiescent_NsaOutReferenceIdeal_pre_gates_between (hNsaOutReferenceIdeal := hNsaOutReferenceIdeal) (hPre_gates_between := hPre_gates_between)
    ∧ quiescent_NsaProj (hNsaProj := hNsaProj)
    ∧ quiescent_NsaProjIdeal (hNsaProjIdeal := hNsaProjIdeal)
    ∧ quiescent_NsaProjReferenceIdeal (hNsaProjReferenceIdeal := hNsaProjReferenceIdeal)
    ∧ quiescent_ConfConv (hConfConv := hConfConv)
    ∧ quiescent_ConfConvIdeal (hConfConvIdeal := hConfConvIdeal)
    ∧ quiescent_ConfConvReferenceIdeal (hConfConvReferenceIdeal := hConfConvReferenceIdeal)
    ∧ quiescent_ConfProjSample (hConfProjSample := hConfProjSample)
    ∧ quiescent_ConfProjSampleIdeal (hConfProjSampleIdeal := hConfProjSampleIdeal)
    ∧ quiescent_ConfProjSampleReferenceIdeal (hConfProjSampleReferenceIdeal := hConfProjSampleReferenceIdeal)
    ∧ quiescent_GdnProjSample (hGdnProjSample := hGdnProjSample)
    ∧ quiescent_GdnProjSampleIdeal (hGdnProjSampleIdeal := hGdnProjSampleIdeal)
    ∧ quiescent_GdnProjSampleReferenceIdeal (hGdnProjSampleReferenceIdeal := hGdnProjSampleReferenceIdeal)
    ∧ quiescent_NsaOutSample (hNsaOutSample := hNsaOutSample)
    ∧ quiescent_NsaOutSampleIdeal (hNsaOutSampleIdeal := hNsaOutSampleIdeal)
    ∧ quiescent_NsaOutSampleIdeal_pre_sample_gates_between (hNsaOutSampleIdeal := hNsaOutSampleIdeal) (hPre_sample_gates_between := hPre_sample_gates_between)
    ∧ quiescent_NsaOutSampleReferenceIdeal (hNsaOutSampleReferenceIdeal := hNsaOutSampleReferenceIdeal)
    ∧ quiescent_NsaOutSampleReferenceIdeal_pre_sample_gates_between (hNsaOutSampleReferenceIdeal := hNsaOutSampleReferenceIdeal) (hPre_sample_gates_between := hPre_sample_gates_between)
    ∧ quiescent_NsaProjSample (hNsaProjSample := hNsaProjSample)
    ∧ quiescent_NsaProjSampleIdeal (hNsaProjSampleIdeal := hNsaProjSampleIdeal)
    ∧ quiescent_NsaProjSampleReferenceIdeal (hNsaProjSampleReferenceIdeal := hNsaProjSampleReferenceIdeal)
    ∧ preserves_Kernel_KernelIdeal
    ∧ algebraic_KernelIdeal_ReferenceIdeal (hKernelIdeal := hKernelIdeal) (hReferenceIdeal := hReferenceIdeal)
    ∧ preserves_GdnProj_GdnProjIdeal
    ∧ algebraic_GdnProjIdeal_GdnProjReferenceIdeal (hGdnProjIdeal := hGdnProjIdeal) (hGdnProjReferenceIdeal := hGdnProjReferenceIdeal)
    ∧ preserves_ConfProj_ConfProjIdeal
    ∧ algebraic_ConfProjIdeal_ConfProjReferenceIdeal (hConfProjIdeal := hConfProjIdeal) (hConfProjReferenceIdeal := hConfProjReferenceIdeal)
    ∧ preserves_OutProj_OutProjIdeal
    ∧ algebraic_OutProjIdeal_OutProjReferenceIdeal (hOutProjIdeal := hOutProjIdeal) (hOutProjReferenceIdeal := hOutProjReferenceIdeal)
    ∧ preserves_NsaOut_NsaOutIdeal
    ∧ algebraic_NsaOutIdeal_NsaOutReferenceIdeal_pre_gates_between (hNsaOutIdeal := hNsaOutIdeal) (hNsaOutReferenceIdeal := hNsaOutReferenceIdeal) (hPre_gates_between := hPre_gates_between)
    ∧ preserves_NsaProj_NsaProjIdeal
    ∧ algebraic_NsaProjIdeal_NsaProjReferenceIdeal (hNsaProjIdeal := hNsaProjIdeal) (hNsaProjReferenceIdeal := hNsaProjReferenceIdeal)
    ∧ preserves_ConfConv_ConfConvIdeal
    ∧ algebraic_ConfConvIdeal_ConfConvReferenceIdeal (hConfConvIdeal := hConfConvIdeal) (hConfConvReferenceIdeal := hConfConvReferenceIdeal)
    ∧ preserves_ConfProjSample_ConfProjSampleIdeal
    ∧ algebraic_ConfProjSampleIdeal_ConfProjSampleReferenceIdeal (hConfProjSampleIdeal := hConfProjSampleIdeal) (hConfProjSampleReferenceIdeal := hConfProjSampleReferenceIdeal)
    ∧ preserves_GdnProjSample_GdnProjSampleIdeal
    ∧ algebraic_GdnProjSampleIdeal_GdnProjSampleReferenceIdeal (hGdnProjSampleIdeal := hGdnProjSampleIdeal) (hGdnProjSampleReferenceIdeal := hGdnProjSampleReferenceIdeal)
    ∧ preserves_NsaOutSample_NsaOutSampleIdeal
    ∧ algebraic_NsaOutSampleIdeal_NsaOutSampleReferenceIdeal_pre_sample_gates_between (hNsaOutSampleIdeal := hNsaOutSampleIdeal) (hNsaOutSampleReferenceIdeal := hNsaOutSampleReferenceIdeal) (hPre_sample_gates_between := hPre_sample_gates_between)
    ∧ preserves_NsaProjSample_NsaProjSampleIdeal
    ∧ algebraic_NsaProjSampleIdeal_NsaProjSampleReferenceIdeal (hNsaProjSampleIdeal := hNsaProjSampleIdeal) (hNsaProjSampleReferenceIdeal := hNsaProjSampleReferenceIdeal)
-- ==== Pre_gates_between.lean ====
abbrev S16384x1024 : Shape := ⟨2, ![16384, 1024]⟩
abbrev S16384x128 : Shape := ⟨2, ![16384, 128]⟩
abbrev S1024x1024 : Shape := ⟨2, ![1024, 1024]⟩
abbrev S_ : Shape := ⟨0, ![]⟩

class Facts : Prop where
  bcast_S_S16384x128 : S_.BroadcastsInDim S16384x128 (![] : Fin 0 → Fin S16384x128.rank)

variable [Facts]

def fn {F : FTy → Type} [FloatOps F] (main_arg0 : FVec F S16384x1024 .f32) (main_arg1 : FVec F S16384x1024 .f32) (main_arg2 : FVec F S16384x1024 .f32) (main_arg3 : FVec F S16384x1024 .f32) (main_arg4 : FVec F S16384x128 .f32) (main_arg5 : FVec F S16384x1024 .f32) (main_arg6 : FVec F S1024x1024 .f32) : IVec S16384x128 1 :=
  let main_cst : FVec F S_ .f32 := constant S_ .f32 0x00000000#32
  let main_v0 : FVec F S16384x128 .f32 := broadcastInDim S16384x128 ![] bcast_S_S16384x128 main_cst
  let main_v1 : IVec S16384x128 1 := cmpf .oge main_arg4 main_v0
  let main_cst_0 : FVec F S_ .f32 := constant S_ .f32 0x3F800000#32
  let main_v2 : FVec F S16384x128 .f32 := broadcastInDim S16384x128 ![] bcast_S_S16384x128 main_cst_0
  let main_v3 : IVec S16384x128 1 := cmpf .ole main_arg4 main_v2
  let main_v4 : IVec S16384x128 1 := andi main_v1 main_v3
  main_v4
-- ==== Pre_sample_gates_between.lean ====
abbrev S128x1024 : Shape := ⟨2, ![128, 1024]⟩
abbrev S128x128 : Shape := ⟨2, ![128, 128]⟩
abbrev S1024x1024 : Shape := ⟨2, ![1024, 1024]⟩
abbrev S_ : Shape := ⟨0, ![]⟩

class Facts : Prop where
  bcast_S_S128x128 : S_.BroadcastsInDim S128x128 (![] : Fin 0 → Fin S128x128.rank)

variable [Facts]

def fn {F : FTy → Type} [FloatOps F] (main_arg0 : FVec F S128x1024 .f32) (main_arg1 : FVec F S128x1024 .f32) (main_arg2 : FVec F S128x1024 .f32) (main_arg3 : FVec F S128x1024 .f32) (main_arg4 : FVec F S128x128 .f32) (main_arg5 : FVec F S128x1024 .f32) (main_arg6 : FVec F S1024x1024 .f32) : IVec S128x128 1 :=
  let main_cst : FVec F S_ .f32 := constant S_ .f32 0x00000000#32
  let main_v0 : FVec F S128x128 .f32 := broadcastInDim S128x128 ![] bcast_S_S128x128 main_cst
  let main_v1 : IVec S128x128 1 := cmpf .oge main_arg4 main_v0
  let main_cst_0 : FVec F S_ .f32 := constant S_ .f32 0x3F800000#32
  let main_v2 : FVec F S128x128 .f32 := broadcastInDim S128x128 ![] bcast_S_S128x128 main_cst_0
  let main_v3 : IVec S128x128 1 := cmpf .ole main_arg4 main_v2
  let main_v4 : IVec S128x128 1 := andi main_v1 main_v3
  main_v4
-- ==== Kernel.lean ====
abbrev S2x4x64x128x512 : Shape := ⟨5, ![2, 4, 64, 128, 512]⟩
abbrev S2x4x512x128 : Shape := ⟨4, ![2, 4, 512, 128]⟩
abbrev S2x8192x1024 : Shape := ⟨3, ![2, 8192, 1024]⟩
abbrev S2x4x64x128x128 : Shape := ⟨5, ![2, 4, 64, 128, 128]⟩
abbrev S2x4x64x8x128 : Shape := ⟨5, ![2, 4, 64, 8, 128]⟩
abbrev S1x1x1x128x512 : Shape := ⟨5, ![1, 1, 1, 128, 512]⟩
abbrev S1x1x512x128 : Shape := ⟨4, ![1, 1, 512, 128]⟩
abbrev S1x128x256 : Shape := ⟨3, ![1, 128, 256]⟩
abbrev S1x1x1x128x128 : Shape := ⟨5, ![1, 1, 1, 128, 128]⟩
abbrev S1x1x1x8x128 : Shape := ⟨5, ![1, 1, 1, 8, 128]⟩
abbrev S128x512 : Shape := ⟨2, ![128, 512]⟩
abbrev S1x512 : Shape := ⟨2, ![1, 512]⟩
abbrev S128x1 : Shape := ⟨2, ![128, 1]⟩
abbrev S1x1x128x128 : Shape := ⟨4, ![1, 1, 128, 128]⟩
abbrev S128x128 : Shape := ⟨2, ![128, 128]⟩
abbrev S512 : Shape := ⟨1, ![512]⟩
abbrev S512x128 : Shape := ⟨2, ![512, 128]⟩
abbrev S512x64 : Shape := ⟨2, ![512, 64]⟩
abbrev S4x128x64 : Shape := ⟨3, ![4, 128, 64]⟩
abbrev S1x128x64 : Shape := ⟨3, ![1, 128, 64]⟩
abbrev S128x64 : Shape := ⟨2, ![128, 64]⟩
abbrev S128x256 : Shape := ⟨2, ![128, 256]⟩
abbrev S1x128 : Shape := ⟨2, ![1, 128]⟩
abbrev S128 : Shape := ⟨1, ![128]⟩
abbrev S8x128 : Shape := ⟨2, ![8, 128]⟩

abbrev nBuf : Space → Nat
  | .hbm => 6
  | .vmem => 12
  | .smem => 0
  | _ => 0

abbrev bufTy : (tb : Table) → Fin (tcTables nBuf tb) → BufTy
  | .hbm, ⟨0, _⟩ => ⟨S2x4x64x128x512, .bf16⟩
  | .hbm, ⟨1, _⟩ => ⟨S2x4x512x128, .f32⟩
  | .hbm, ⟨2, _⟩ => ⟨S2x4x512x128, .f32⟩
  | .hbm, ⟨3, _⟩ => ⟨S2x8192x1024, .f32⟩
  | .hbm, ⟨4, _⟩ => ⟨S2x4x64x128x128, .bf16⟩
  | .hbm, ⟨5, _⟩ => ⟨S2x4x64x8x128, .f32⟩
  | .local _ .vmem, ⟨0, _⟩ => ⟨S1x1x1x128x512, .bf16⟩
  | .local _ .vmem, ⟨1, _⟩ => ⟨S1x1x1x128x512, .bf16⟩
  | .local _ .vmem, ⟨2, _⟩ => ⟨S1x1x512x128, .f32⟩
  | .local _ .vmem, ⟨3, _⟩ => ⟨S1x1x512x128, .f32⟩
  | .local _ .vmem, ⟨4, _⟩ => ⟨S1x1x512x128, .f32⟩
  | .local _ .vmem, ⟨5, _⟩ => ⟨S1x1x512x128, .f32⟩
  | .local _ .vmem, ⟨6, _⟩ => ⟨S1x128x256, .f32⟩
  | .local _ .vmem, ⟨7, _⟩ => ⟨S1x128x256, .f32⟩
  | .local _ .vmem, ⟨8, _⟩ => ⟨S1x1x1x128x128, .bf16⟩
  | .local _ .vmem, ⟨9, _⟩ => ⟨S1x1x1x128x128, .bf16⟩
  | .local _ .vmem, ⟨10, _⟩ => ⟨S1x1x1x8x128, .f32⟩
  | .local _ .vmem, ⟨11, _⟩ => ⟨S1x1x1x8x128, .f32⟩
  | _, _ => ⟨S2x4x64x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 64], ![false, false, false]⟩

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x1x1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S2x4x64x128x512 : Shape := ⟨5, ![2, 4, 64, 128, 512]⟩
abbrev S2x4x512x128 : Shape := ⟨4, ![2, 4, 512, 128]⟩
abbrev S2x4x64x128x4x128 : Shape := ⟨6, ![2, 4, 64, 128, 4, 128]⟩
abbrev S2x4x4x64x128x128 : Shape := ⟨6, ![2, 4, 4, 64, 128, 128]⟩
abbrev S2x4x4x8192x128 : Shape := ⟨5, ![2, 4, 4, 8192, 128]⟩
abbrev S2x4x4x128x128 : Shape := ⟨5, ![2, 4, 4, 128, 128]⟩
abbrev S2x4x128x4x128 : Shape := ⟨5, ![2, 4, 128, 4, 128]⟩
abbrev S2x4x512x64 : Shape := ⟨4, ![2, 4, 512, 64]⟩
abbrev S8192 : Shape := ⟨1, ![8192]⟩
abbrev S512 : Shape := ⟨1, ![512]⟩
abbrev S_ : Shape := ⟨0, ![]⟩
abbrev S2x4x4x8192x512 : Shape := ⟨5, ![2, 4, 4, 8192, 512]⟩
abbrev S1x512 : Shape := ⟨2, ![1, 512]⟩
abbrev S8192x1 : Shape := ⟨2, ![8192, 1]⟩
abbrev S8192x512 : Shape := ⟨2, ![8192, 512]⟩
abbrev S2x4x4x8192 : Shape := ⟨4, ![2, 4, 4, 8192]⟩
abbrev S2x4x4x8192x1 : Shape := ⟨5, ![2, 4, 4, 8192, 1]⟩
abbrev S2x4x64x4x8192 : Shape := ⟨5, ![2, 4, 64, 4, 8192]⟩
abbrev S2x8192x4x4x64 : Shape := ⟨5, ![2, 8192, 4, 4, 64]⟩
abbrev S2x8192x1024 : Shape := ⟨3, ![2, 8192, 1024]⟩
abbrev S2x4x8192x512 : Shape := ⟨4, ![2, 4, 8192, 512]⟩
abbrev S2x4x8192x128x4 : Shape := ⟨5, ![2, 4, 8192, 128, 4]⟩
abbrev S2x4x8192x128 : Shape := ⟨4, ![2, 4, 8192, 128]⟩
abbrev S128 : Shape := ⟨1, ![128]⟩
abbrev S1x128 : Shape := ⟨2, ![1, 128]⟩
abbrev S8192x128 : Shape := ⟨2, ![8192, 128]⟩
abbrev S1x1x8192x128 : Shape := ⟨4, ![1, 1, 8192, 128]⟩
abbrev S2x4x8192x16 : Shape := ⟨4, ![2, 4, 8192, 16]⟩
abbrev S2x4x8192x16x1 : Shape := ⟨5, ![2, 4, 8192, 16, 1]⟩
abbrev S1x1x1x1x128 : Shape := ⟨5, ![1, 1, 1, 1, 128]⟩
abbrev S2x4x8192x16x128 : Shape := ⟨5, ![2, 4, 8192, 16, 128]⟩
abbrev S2x4x64x128x128 : Shape := ⟨5, ![2, 4, 64, 128, 128]⟩
abbrev S2x4x64x128 : Shape := ⟨4, ![2, 4, 64, 128]⟩
abbrev S2x4x64x32x4 : Shape := ⟨5, ![2, 4, 64, 32, 4]⟩
abbrev S2x4x64x32 : Shape := ⟨4, ![2, 4, 64, 32]⟩
abbrev S2x4x64x1x128 : Shape := ⟨5, ![2, 4, 64, 1, 128]⟩
abbrev S2x4x64x8x128 : Shape := ⟨5, ![2, 4, 64, 8, 128]⟩

abbrev nBuf : Space → Nat
  | .hbm => 151
  | .vmem => 0
  | .smem => 0
  | _ => 0

abbrev hbmTy0_0 (i : Nat) : BufTy := match i % 128 with
  | 0 => ⟨S2x4x64x128x512, .bf16⟩
  | 1 => ⟨S2x4x512x128, .f32⟩
  | 2 => ⟨S2x4x512x128, .f32⟩
  | 3 => ⟨S2x4x64x128x512, .f32⟩
  | 4 => ⟨S2x4x64x128x4x128, .f32⟩
  | 5 => ⟨S2x4x4x64x128x128, .f32⟩
  | 6 => ⟨S2x4x4x8192x128, .f32⟩
  | 7 => ⟨S2x4x4x128x128, .f32⟩
  | 8 => ⟨S2x4x128x4x128, .f32⟩
  | 9 => ⟨S2x4x512x128, .f32⟩
  | 10 => ⟨S2x4x4x128x128, .f32⟩
  | 11 => ⟨S2x4x128x4x128, .f32⟩
  | 12 => ⟨S2x4x512x128, .f32⟩
  | 13 => ⟨S2x4x512x64, .f32⟩
  | 14 => ⟨S8192, .i32⟩
  | 15 => ⟨S512, .i32⟩
  | 16 => ⟨S_, .i32⟩
  | 17 => ⟨S512, .i32⟩
  | 18 => ⟨S512, .i32⟩
  | 19 => ⟨S_, .i32⟩
  | 20 => ⟨S512, .i32⟩
  | 21 => ⟨S512, .i32⟩
  | 22 => ⟨S2x4x4x8192x512, .f32⟩
  | 23 => ⟨S1x512, .i32⟩
  | 24 => ⟨S8192x1, .i32⟩
  | 25 => ⟨S8192x512, .i32⟩
  | 26 => ⟨S8192x512, .i32⟩
  | 27 => ⟨S8192x512, .i1⟩
  | 28 => ⟨S_, .f32⟩
  | 29 => ⟨S_, .f32⟩
  | 30 => ⟨S2x4x4x8192x512, .i1⟩
  | 31 => ⟨S2x4x4x8192x512, .f32⟩
  | 32 => ⟨S2x4x4x8192x512, .f32⟩
  | 33 => ⟨S_, .f32⟩
  | 34 => ⟨S2x4x4x8192, .f32⟩
  | 35 => ⟨S2x4x4x8192x1, .f32⟩
  | 36 => ⟨S2x4x4x8192x512, .f32⟩
  | 37 => ⟨S2x4x4x8192x512, .f32⟩
  | 38 => ⟨S2x4x4x8192x512, .f32⟩
  | 39 => ⟨S_, .f32⟩
  | 40 => ⟨S_, .f32⟩
  | 41 => ⟨S2x4x4x8192x512, .i1⟩
  | 42 => ⟨S2x4x4x8192x512, .f32⟩
  | 43 => ⟨S2x4x4x8192x512, .f32⟩
  | 44 => ⟨S_, .f32⟩
  | 45 => ⟨S2x4x4x8192, .f32⟩
  | 46 => ⟨S2x4x4x8192x1, .f32⟩
  | 47 => ⟨S_, .f32⟩
  | 48 => ⟨S2x4x4x8192x1, .f32⟩
  | 49 => ⟨S2x4x4x8192x1, .f32⟩
  | 50 => ⟨S2x4x4x8192x512, .f32⟩
  | 51 => ⟨S2x4x4x8192x512, .f32⟩
  | 52 => ⟨S2x4x64x4x8192, .f32⟩
  | 53 => ⟨S2x8192x4x4x64, .f32⟩
  | 54 => ⟨S2x8192x1024, .f32⟩
  | 55 => ⟨S_, .f32⟩
  | 56 => ⟨S2x4x8192x512, .f32⟩
  | 57 => ⟨S2x4x8192x128x4, .f32⟩
  | 58 => ⟨S_, .f32⟩
  | 59 => ⟨S2x4x8192x128, .f32⟩
  | 60 => ⟨S128, .i32⟩
  | 61 => ⟨S_, .i32⟩
  | 62 => ⟨S_, .i32⟩
  | 63 => ⟨S8192, .i32⟩
  | 64 => ⟨S8192, .i32⟩
  | 65 => ⟨S8192, .i32⟩
  | 66 => ⟨S_, .i32⟩
  | 67 => ⟨S8192, .i32⟩
  | 68 => ⟨S8192, .i1⟩
  | 69 => ⟨S8192, .i32⟩
  | 70 => ⟨S8192, .i32⟩
  | 71 => ⟨S_, .i32⟩
  | 72 => ⟨S8192, .i32⟩
  | 73 => ⟨S8192, .i1⟩
  | 74 => ⟨S8192, .i1⟩
  | 75 => ⟨S_, .i32⟩
  | 76 => ⟨S8192, .i32⟩
  | 77 => ⟨S8192, .i32⟩
  | 78 => ⟨S8192, .i32⟩
  | 79 => ⟨S8192x1, .i32⟩
  | 80 => ⟨S_, .i32⟩
  | 81 => ⟨S128, .i32⟩
  | 82 => ⟨S128, .i1⟩
  | 83 => ⟨S1x128, .i32⟩
  | 84 => ⟨S8192x128, .i32⟩
  | 85 => ⟨S8192x128, .i32⟩
  | 86 => ⟨S8192x128, .i1⟩
  | 87 => ⟨S1x128, .i1⟩
  | 88 => ⟨S8192x128, .i1⟩
  | 89 => ⟨S8192x128, .i1⟩
  | 90 => ⟨S_, .i32⟩
  | 91 => ⟨S8192x1, .i32⟩
  | 92 => ⟨S8192x1, .i32⟩
  | 93 => ⟨S1x128, .i32⟩
  | 94 => ⟨S8192x128, .i32⟩
  | 95 => ⟨S8192x128, .i32⟩
  | 96 => ⟨S8192x128, .i1⟩
  | 97 => ⟨S8192x128, .i1⟩
  | 98 => ⟨S1x128, .i32⟩
  | 99 => ⟨S8192x128, .i32⟩
  | 100 => ⟨S8192x128, .i32⟩
  | 101 => ⟨S8192x128, .i1⟩
  | 102 => ⟨S_, .f32⟩
  | 103 => ⟨S_, .f32⟩
  | 104 => ⟨S8192x128, .f32⟩
  | 105 => ⟨S8192x128, .f32⟩
  | 106 => ⟨S8192x128, .f32⟩
  | 107 => ⟨S8192x128, .f32⟩
  | 108 => ⟨S1x1x8192x128, .f32⟩
  | 109 => ⟨S2x4x8192x128, .f32⟩
  | 110 => ⟨S2x4x8192x128, .f32⟩
  | 111 => ⟨S_, .f32⟩
  | 112 => ⟨S_, .f32⟩
  | 113 => ⟨S2x4x8192x128, .i1⟩
  | 114 => ⟨S2x4x8192x128, .f32⟩
  | 115 => ⟨S2x4x8192x128, .f32⟩
  | 116 => ⟨S2x4x8192x16, .f32⟩
  | 117 => ⟨S2x4x8192x16, .i32⟩
  | 118 => ⟨S2x4x8192x16x1, .i32⟩
  | 119 => ⟨S1x1x1x1x128, .i32⟩
  | 120 => ⟨S2x4x8192x16x128, .i32⟩
  | 121 => ⟨S2x4x8192x16x128, .i32⟩
  | 122 => ⟨S2x4x8192x16x128, .i1⟩
  | 123 => ⟨S_, .f32⟩
  | 124 => ⟨S_, .f32⟩
  | 125 => ⟨S2x4x8192x16x128, .f32⟩
  | 126 => ⟨S2x4x8192x16x128, .f32⟩
  | 127 => ⟨S2x4x8192x16x128, .f32⟩
  | _ => ⟨S2x4x64x128x512, .bf16⟩

abbrev hbmTy0_1 (i : Nat) : BufTy := match i % 128 with
  | 0 => ⟨S2x4x8192x16x128, .f32⟩
  | 1 => ⟨S_, .f32⟩
  | 2 => ⟨S2x4x8192x128, .f32⟩
  | 3 => ⟨S_, .f32⟩
  | 4 => ⟨S2x4x8192x128, .f32⟩
  | 5 => ⟨S2x4x8192x128, .f32⟩
  | 6 => ⟨S_, .f32⟩
  | 7 => ⟨S2x4x8192x128, .f32⟩
  | 8 => ⟨S2x4x8192x128, .f32⟩
  | 9 => ⟨S2x4x64x128x128, .f32⟩
  | 10 => ⟨S2x4x64x128x128, .f32⟩
  | 11 => ⟨S2x4x64x128x128, .bf16⟩
  | 12 => ⟨S2x4x64x128x128, .f32⟩
  | 13 => ⟨S_, .f32⟩
  | 14 => ⟨S2x4x64x128, .f32⟩
  | 15 => ⟨S2x4x64x32x4, .f32⟩
  | 16 => ⟨S_, .f32⟩
  | 17 => ⟨S2x4x64x32, .f32⟩
  | 18 => ⟨S_, .i32⟩
  | 19 => ⟨S_, .f32⟩
  | 20 => ⟨S2x4x64x128, .f32⟩
  | 21 => ⟨S2x4x64x1x128, .f32⟩
  | 22 => ⟨S2x4x64x8x128, .f32⟩
  | _ => ⟨S2x4x64x128x512, .bf16⟩

abbrev hbmTy (i : Nat) : BufTy := match i / 128 with
  | 0 => hbmTy0_0 i
  | 1 => hbmTy0_1 i
  | _ => ⟨S2x4x64x128x512, .bf16⟩

abbrev bufTy : (tb : Table) → Fin (tcTables nBuf tb) → BufTy
  | .hbm, ⟨i, _⟩ => hbmTy i
  | _, _ => ⟨S2x4x64x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_v13 : Ref sig .tc := ⟨.hbm, 17, rfl⟩
abbrev main_v14 : Ref sig .tc := ⟨.hbm, 18, rfl⟩
abbrev main_c_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_c_7 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_c : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_0 : Ref sig .tc := ⟨.hbm, 75, rfl⟩
abbrev main_call2_v12 : Ref sig .tc := ⟨.hbm, 76, rfl⟩
abbrev main_call2_v13 : Ref sig .tc := ⟨.hbm, 77, rfl⟩
abbrev main_v43 : Ref sig .tc := ⟨.hbm, 78, rfl⟩
abbrev main_v44 : Ref sig .tc := ⟨.hbm, 79, rfl⟩
abbrev main_c_8 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_c_9 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_10 : Ref sig .tc := ⟨.hbm, 102, rfl⟩
abbrev main_cst_11 : Ref sig .tc := ⟨.hbm, 103, rfl⟩
abbrev main_call3_v0 : Ref sig .tc := ⟨.hbm, 104, rfl⟩
abbrev main_call3_v1 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_12 : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_v70 : Ref sig .tc := ⟨.hbm, 115, rfl⟩
abbrev main_values : Ref sig .tc := ⟨.hbm, 116, rfl⟩
abbrev main_indices : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_cst_13 : Ref sig .tc := ⟨.hbm, 123, rfl⟩
abbrev main_cst_14 : Ref sig .tc := ⟨.hbm, 124, rfl⟩
abbrev main_call5_v0 : Ref sig .tc := ⟨.hbm, 125, rfl⟩
abbrev main_call5_v1 : Ref sig .tc := ⟨.hbm, 126, rfl⟩
abbrev main_v76 : Ref sig .tc := ⟨.hbm, 127, rfl⟩
abbrev main_v77 : Ref sig .tc := ⟨.hbm, 128, rfl⟩
abbrev main_cst_15 : Ref sig .tc := ⟨.hbm, 129, rfl⟩
abbrev main_v78 : Ref sig .tc := ⟨.hbm, 130, rfl⟩
abbrev main_cst_16 : Ref sig .tc := ⟨.hbm, 131, rfl⟩
abbrev main_v79 : Ref sig .tc := ⟨.hbm, 132, rfl⟩
abbrev main_v80 : Ref sig .tc := ⟨.hbm, 133, rfl⟩
abbrev main_cst_17 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_cst_18 : Ref sig .tc := ⟨.hbm, 141, rfl⟩
abbrev main_v87 : Ref sig .tc := ⟨.hbm, 142, rfl⟩
abbrev main_v88 : Ref sig .tc := ⟨.hbm, 143, rfl⟩
abbrev main_cst_19 : Ref sig .tc := ⟨.hbm, 144, rfl⟩
abbrev main_v89 : Ref sig .tc := ⟨.hbm, 145, rfl⟩
abbrev main_c_20 : Ref sig .tc := ⟨.hbm, 146, rfl⟩
abbrev main_call6_v0 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩

abbrev nD : Nat := 1
abbrev τ : Topo := Topo.v7x

variable {F : FTy → Type} [FloatOps F]
-- ==== GdnProj.lean ====
abbrev S16384x1024 : Shape := ⟨2, ![16384, 1024]⟩
abbrev S1024 : Shape := ⟨1, ![1024]⟩
abbrev S1024x4112 : Shape := ⟨2, ![1024, 4112]⟩
abbrev S1x1024 : Shape := ⟨2, ![1, 1024]⟩
abbrev S_ : Shape := ⟨0, ![]⟩
abbrev S1024x4224 : Shape := ⟨2, ![1024, 4224]⟩
abbrev S16384x3072 : Shape := ⟨2, ![16384, 3072]⟩
abbrev S16384x128 : Shape := ⟨2, ![16384, 128]⟩
abbrev S256x1024 : Shape := ⟨2, ![256, 1024]⟩
abbrev S256x3072 : Shape := ⟨2, ![256, 3072]⟩
abbrev S256x128 : Shape := ⟨2, ![256, 128]⟩
abbrev S256 : Shape := ⟨1, ![256]⟩
abbrev S256x1 : Shape := ⟨2, ![256, 1]⟩
abbrev S256x4224 : Shape := ⟨2, ![256, 4224]⟩

abbrev nBuf : Space → Nat
  | .hbm => 11
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4112, .f32⟩
  | .hbm, ⟨3, _⟩ => ⟨S1x1024, .f32⟩
  | .hbm, ⟨4, _⟩ => ⟨S_, .i32⟩
  | .hbm, ⟨5, _⟩ => ⟨S_, .f32⟩
  | .hbm, ⟨6, _⟩ => ⟨S1024x4224, .f32⟩
  | .hbm, ⟨7, _⟩ => ⟨S1024x4224, .bf16⟩
  | .hbm, ⟨8, _⟩ => ⟨S16384x3072, .f32⟩
  | .hbm, ⟨9, _⟩ => ⟨S16384x1024, .f32⟩
  | .hbm, ⟨10, _⟩ => ⟨S16384x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4224, .bf16⟩
  | .local _ .vmem, ⟨4, _⟩ => ⟨S256x3072, .f32⟩
  | .local _ .vmem, ⟨5, _⟩ => ⟨S256x3072, .f32⟩
  | .local _ .vmem, ⟨6, _⟩ => ⟨S256x1024, .f32⟩
  | .local _ .vmem, ⟨7, _⟩ => ⟨S256x1024, .f32⟩
  | .local _ .vmem, ⟨8, _⟩ => ⟨S256x128, .f32⟩
  | .local _ .vmem, ⟨9, _⟩ => ⟨S256x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4224 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GdnProjIdeal.lean ====
abbrev S16384x1024 : Shape := ⟨2, ![16384, 1024]⟩
abbrev S1024 : Shape := ⟨1, ![1024]⟩
abbrev S1024x4112 : Shape := ⟨2, ![1024, 4112]⟩
abbrev S1x1024 : Shape := ⟨2, ![1, 1024]⟩
abbrev S_ : Shape := ⟨0, ![]⟩
abbrev S1024x4224 : Shape := ⟨2, ![1024, 4224]⟩
abbrev S16384x3072 : Shape := ⟨2, ![16384, 3072]⟩
abbrev S16384x128 : Shape := ⟨2, ![16384, 128]⟩
abbrev S256x1024 : Shape := ⟨2, ![256, 1024]⟩
abbrev S256x3072 : Shape := ⟨2, ![256, 3072]⟩
abbrev S256x128 : Shape := ⟨2, ![256, 128]⟩
abbrev S256 : Shape := ⟨1, ![256]⟩
abbrev S256x1 : Shape := ⟨2, ![256, 1]⟩
abbrev S256x4224 : Shape := ⟨2, ![256, 4224]⟩

abbrev nBuf : Space → Nat
  | .hbm => 11
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4112, .f32⟩
  | .hbm, ⟨3, _⟩ => ⟨S1x1024, .f32⟩
  | .hbm, ⟨4, _⟩ => ⟨S_, .i32⟩
  | .hbm, ⟨5, _⟩ => ⟨S_, .f32⟩
  | .hbm, ⟨6, _⟩ => ⟨S1024x4224, .f32⟩
  | .hbm, ⟨7, _⟩ => ⟨S1024x4224, .bf16⟩
  | .hbm, ⟨8, _⟩ => ⟨S16384x3072, .f32⟩
  | .hbm, ⟨9, _⟩ => ⟨S16384x1024, .f32⟩
  | .hbm, ⟨10, _⟩ => ⟨S16384x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4224, .bf16⟩
  | .local _ .vmem, ⟨4, _⟩ => ⟨S256x3072, .f32⟩
  | .local _ .vmem, ⟨5, _⟩ => ⟨S256x3072, .f32⟩
  | .local _ .vmem, ⟨6, _⟩ => ⟨S256x1024, .f32⟩
  | .local _ .vmem, ⟨7, _⟩ => ⟨S256x1024, .f32⟩
  | .local _ .vmem, ⟨8, _⟩ => ⟨S256x128, .f32⟩
  | .local _ .vmem, ⟨9, _⟩ => ⟨S256x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4224 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GdnProjReferenceIdeal.lean ====
abbrev S16384x1024 : Shape := ⟨2, ![16384, 1024]⟩
abbrev S1024 : Shape := ⟨1, ![1024]⟩
abbrev S1024x4112 : Shape := ⟨2, ![1024, 4112]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4112 : Shape := ⟨2, ![16384, 4112]⟩
abbrev S16384x3072 : Shape := ⟨2, ![16384, 3072]⟩
abbrev S16384x16 : Shape := ⟨2, ![16384, 16]⟩
abbrev S16384x128 : Shape := ⟨2, ![16384, 128]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4112, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x4112, .f32⟩
  | .hbm, ⟨20, _⟩ => ⟨S16384x3072, .f32⟩
  | .hbm, ⟨21, _⟩ => ⟨S16384x1024, .f32⟩
  | .hbm, ⟨22, _⟩ => ⟨S16384x16, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .i32⟩
  | .hbm, ⟨33, _⟩ => ⟨S_, .f32⟩
  | .hbm, ⟨34, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v17 : Ref sig .tc := ⟨.hbm, 31, rfl⟩
abbrev main_c : Ref sig .tc := ⟨.hbm, 32, rfl⟩
abbrev main_call1_v0 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== ConfProj.lean ====
abbrev S16384x1024 : Shape := ⟨2, ![16384, 1024]⟩
abbrev S1024 : Shape := ⟨1, ![1024]⟩
abbrev S1024x3072 : Shape := ⟨2, ![1024, 3072]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S256x3072 : Shape := ⟨2, ![256, 3072]⟩

abbrev nBuf : Space → Nat
  | .hbm => 7
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S1x1024, .f32⟩
  | .hbm, ⟨4, _⟩ => ⟨S1024x3072, .bf16⟩
  | .hbm, ⟨5, _⟩ => ⟨S16384x1024, .f32⟩
  | .hbm, ⟨6, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3072, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConfProjIdeal.lean ====
abbrev S16384x1024 : Shape := ⟨2, ![16384, 1024]⟩
abbrev S1024 : Shape := ⟨1, ![1024]⟩
abbrev S1024x3072 : Shape := ⟨2, ![1024, 3072]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S256x3072 : Shape := ⟨2, ![256, 3072]⟩

abbrev nBuf : Space → Nat
  | .hbm => 7
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S1x1024, .f32⟩
  | .hbm, ⟨4, _⟩ => ⟨S1024x3072, .bf16⟩
  | .hbm, ⟨5, _⟩ => ⟨S16384x1024, .f32⟩
  | .hbm, ⟨6, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3072, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConfProjReferenceIdeal.lean ====
abbrev S16384x1024 : Shape := ⟨2, ![16384, 1024]⟩
abbrev S1024 : Shape := ⟨1, ![1024]⟩
abbrev S1024x3072 : Shape := ⟨2, ![1024, 3072]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3072 : Shape := ⟨2, ![16384, 3072]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x3072, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v24 : Ref sig .tc := ⟨.hbm, 40, rfl⟩

abbrev nD : Nat := 1
abbrev τ : Topo := Topo.v7x

variable {F : FTy → Type} [FloatOps F]
-- ==== OutProj.lean ====
abbrev S16384x1024 : Shape := ⟨2, ![16384, 1024]⟩
abbrev S1024x1024 : Shape := ⟨2, ![1024, 1024]⟩
abbrev S256x1024 : Shape := ⟨2, ![256, 1024]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x1024, .f32⟩
  | .hbm, ⟨4, _⟩ => ⟨S1024x1024, .bf16⟩
  | .hbm, ⟨5, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x1024, .bf16⟩
  | .local _ .vmem, ⟨7, _⟩ => ⟨S256x1024, .f32⟩
  | .local _ .vmem, ⟨8, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutProjReferenceIdeal.lean ====
abbrev S16384x1024 : Shape := ⟨2, ![16384, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== NsaOut.lean ====
abbrev S16384x1024 : Shape := ⟨2, ![16384, 1024]⟩
abbrev S16384x128 : Shape := ⟨2, ![16384, 128]⟩
abbrev S1024x1024 : Shape := ⟨2, ![1024, 1024]⟩
abbrev S1024 : Shape := ⟨1, ![1024]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x1024 : Shape := ⟨2, ![128, 1024]⟩
abbrev S128x3072 : Shape := ⟨2, ![128, 3072]⟩
abbrev S256x1024 : Shape := ⟨2, ![256, 1024]⟩
abbrev S256x128 : Shape := ⟨2, ![256, 128]⟩
abbrev S256x3072 : Shape := ⟨2, ![256, 3072]⟩

abbrev nBuf : Space → Nat
  | .hbm => 57
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x128, .f32⟩
  | .hbm, ⟨5, _⟩ => ⟨S16384x1024, .f32⟩
  | .hbm, ⟨6, _⟩ => ⟨S1024x1024, .f32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S128, .i32⟩
  | .hbm, ⟨27, _⟩ => ⟨S128x1, .i32⟩
  | .hbm, ⟨28, _⟩ => ⟨S_, .i32⟩
  | .hbm, ⟨29, _⟩ => ⟨S1024, .i32⟩
  | .hbm, ⟨30, _⟩ => ⟨S1024, .i32⟩
  | .hbm, ⟨31, _⟩ => ⟨S1x1024, .i32⟩
  | .hbm, ⟨32, _⟩ => ⟨S128x1024, .i32⟩
  | .hbm, ⟨33, _⟩ => ⟨S128x1024, .i32⟩
  | .hbm, ⟨34, _⟩ => ⟨S128x1024, .i1⟩
  | .hbm, ⟨35, _⟩ => ⟨S128, .i32⟩
  | .hbm, ⟨36, _⟩ => ⟨S128x1, .i32⟩
  | .hbm, ⟨37, _⟩ => ⟨S_, .i32⟩
  | .hbm, ⟨38, _⟩ => ⟨S1024, .i32⟩
  | .hbm, ⟨39, _⟩ => ⟨S1024, .i32⟩
  | .hbm, ⟨40, _⟩ => ⟨S1x1024, .i32⟩
  | .hbm, ⟨41, _⟩ => ⟨S128x1024, .i32⟩
  | .hbm, ⟨42, _⟩ => ⟨S128x1024, .i32⟩
  | .hbm, ⟨43, _⟩ => ⟨S128x1024, .i1⟩
  | .hbm, ⟨44, _⟩ => ⟨S128, .i32⟩
  | .hbm, ⟨45, _⟩ => ⟨S128x1, .i32⟩
  | .hbm, ⟨46, _⟩ => ⟨S_, .i32⟩
  | .hbm, ⟨47, _⟩ => ⟨S1024, .i32⟩
  | .hbm, ⟨48, _⟩ => ⟨S1024, .i32⟩
  | .hbm, ⟨49, _⟩ => ⟨S1x1024, .i32⟩
  | .hbm, ⟨50, _⟩ => ⟨S128x1024, .i32⟩
  | .hbm, ⟨51, _⟩ => ⟨S128x1024, .i32⟩
  | .hbm, ⟨52, _⟩ => ⟨S128x1024, .i1⟩
  | .hbm, ⟨53, _⟩ => ⟨S128x3072, .i1⟩
  | .hbm, ⟨54, _⟩ => ⟨S128x3072, .bf16⟩
  | .hbm, ⟨55, _⟩ => ⟨S1024x1024, .bf16⟩
  | .hbm, ⟨56, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x128, .f32⟩
  | .local _ .vmem, ⟨9, _⟩ => ⟨S256x128, .f32⟩
  | .local _ .vmem, ⟨10, _⟩ => ⟨S256x1024, .f32⟩
  | .local _ .vmem, ⟨11, _⟩ => ⟨S256x1024, .f32⟩
  | .local _ .vmem, ⟨12, _⟩ => ⟨S128x3072, .bf16⟩
  | .local _ .vmem, ⟨13, _⟩ => ⟨S1024x1024, .bf16⟩
  | .local _ .vmem, ⟨14, _⟩ => ⟨S256x1024, .f32⟩
  | .local _ .vmem, ⟨15, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_c_0 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_c_1 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_c_2 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== NsaOutIdeal.lean ====
abbrev S16384x1024 : Shape := ⟨2, ![16384, 1024]⟩
abbrev S16384x128 : Shape := ⟨2, ![16384, 128]⟩
abbrev S1024x1024 : Shape := ⟨2, ![1024, 1024]⟩
abbrev S1024 : Shape := ⟨1, ![1024]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x1024 : Shape := ⟨2, ![128, 1024]⟩
abbrev S128x3072 : Shape := ⟨2, ![128, 3072]⟩
abbrev S256x1024 : Shape := ⟨2, ![256, 1024]⟩
abbrev S256x128 : Shape := ⟨2, ![256, 128]⟩
abbrev S256x3072 : Shape := ⟨2, ![256, 3072]⟩

abbrev nBuf : Space → Nat
  | .hbm => 57
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x128, .f32⟩
  | .hbm, ⟨5, _⟩ => ⟨S16384x1024, .f32⟩
  | .hbm, ⟨6, _⟩ => ⟨S1024x1024, .f32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S128, .i32⟩
  | .hbm, ⟨27, _⟩ => ⟨S128x1, .i32⟩
  | .hbm, ⟨28, _⟩ => ⟨S_, .i32⟩
  | .hbm, ⟨29, _⟩ => ⟨S1024, .i32⟩
  | .hbm, ⟨30, _⟩ => ⟨S1024, .i32⟩
  | .hbm, ⟨31, _⟩ => ⟨S1x1024, .i32⟩
  | .hbm, ⟨32, _⟩ => ⟨S128x1024, .i32⟩
  | .hbm, ⟨33, _⟩ => ⟨S128x1024, .i32⟩
  | .hbm, ⟨34, _⟩ => ⟨S128x1024, .i1⟩
  | .hbm, ⟨35, _⟩ => ⟨S128, .i32⟩
  | .hbm, ⟨36, _⟩ => ⟨S128x1, .i32⟩
  | .hbm, ⟨37, _⟩ => ⟨S_, .i32⟩
  | .hbm, ⟨38, _⟩ => ⟨S1024, .i32⟩
  | .hbm, ⟨39, _⟩ => ⟨S1024, .i32⟩
  | .hbm, ⟨40, _⟩ => ⟨S1x1024, .i32⟩
  | .hbm, ⟨41, _⟩ => ⟨S128x1024, .i32⟩
  | .hbm, ⟨42, _⟩ => ⟨S128x1024, .i32⟩
  | .hbm, ⟨43, _⟩ => ⟨S128x1024, .i1⟩
  | .hbm, ⟨44, _⟩ => ⟨S128, .i32⟩
  | .hbm, ⟨45, _⟩ => ⟨S128x1, .i32⟩
  | .hbm, ⟨46, _⟩ => ⟨S_, .i32⟩
  | .hbm, ⟨47, _⟩ => ⟨S1024, .i32⟩
  | .hbm, ⟨48, _⟩ => ⟨S1024, .i32⟩
  | .hbm, ⟨49, _⟩ => ⟨S1x1024, .i32⟩
  | .hbm, ⟨50, _⟩ => ⟨S128x1024, .i32⟩
  | .hbm, ⟨51, _⟩ => ⟨S128x1024, .i32⟩
  | .hbm, ⟨52, _⟩ => ⟨S128x1024, .i1⟩
  | .hbm, ⟨53, _⟩ => ⟨S128x3072, .i1⟩
  | .hbm, ⟨54, _⟩ => ⟨S128x3072, .bf16⟩
  | .hbm, ⟨55, _⟩ => ⟨S1024x1024, .bf16⟩
  | .hbm, ⟨56, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x128, .f32⟩
  | .local _ .vmem, ⟨9, _⟩ => ⟨S256x128, .f32⟩
  | .local _ .vmem, ⟨10, _⟩ => ⟨S256x1024, .f32⟩
  | .local _ .vmem, ⟨11, _⟩ => ⟨S256x1024, .f32⟩
  | .local _ .vmem, ⟨12, _⟩ => ⟨S128x3072, .bf16⟩
  | .local _ .vmem, ⟨13, _⟩ => ⟨S1024x1024, .bf16⟩
  | .local _ .vmem, ⟨14, _⟩ => ⟨S256x1024, .f32⟩
  | .local _ .vmem, ⟨15, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_c_0 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_c_1 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_c_2 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== NsaOutReferenceIdeal.lean ====
abbrev S16384x1024 : Shape := ⟨2, ![16384, 1024]⟩
abbrev S16384x128 : Shape := ⟨2, ![16384, 128]⟩
abbrev S1024x1024 : Shape := ⟨2, ![1024, 1024]⟩
abbrev S16384x48 : Shape := ⟨2, ![16384, 48]⟩
abbrev S16384x3x16x1 : Shape := ⟨4, ![16384, 3, 16, 1]⟩
abbrev S16384x1x16x1 : Shape := ⟨4, ![16384, 1, 16, 1]⟩
abbrev S16384x16x1 : Shape := ⟨3, ![16384, 16, 1]⟩
abbrev S16384x16x64 : Shape := ⟨3, ![16384, 16, 64]⟩

abbrev nBuf : Space → Nat
  | .hbm => 30
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x128, .f32⟩
  | .hbm, ⟨5, _⟩ => ⟨S16384x1024, .f32⟩
  | .hbm, ⟨6, _⟩ => ⟨S1024x1024, .f32⟩
  | .hbm, ⟨7, _⟩ => ⟨S16384x48, .f32⟩
  | .hbm, ⟨8, _⟩ => ⟨S16384x3x16x1, .f32⟩
  | .hbm, ⟨9, _⟩ => ⟨S16384x1x16x1, .f32⟩
  | .hbm, ⟨10, _⟩ => ⟨S16384x16x1, .f32⟩
  | .hbm, ⟨11, _⟩ => ⟨S16384x16x64, .f32⟩
  | .hbm, ⟨12, _⟩ => ⟨S16384x16x64, .f32⟩
  | .hbm, ⟨13, _⟩ => ⟨S16384x16x64, .f32⟩
  | .hbm, ⟨14, _⟩ => ⟨S16384x1x16x1, .f32⟩
  | .hbm, ⟨15, _⟩ => ⟨S16384x16x1, .f32⟩
  | .hbm, ⟨16, _⟩ => ⟨S16384x16x64, .f32⟩
  | .hbm, ⟨17, _⟩ => ⟨S16384x16x64, .f32⟩
  | .hbm, ⟨18, _⟩ => ⟨S16384x16x64, .f32⟩
  | .hbm, ⟨19, _⟩ => ⟨S16384x16x64, .f32⟩
  | .hbm, ⟨20, _⟩ => ⟨S16384x1x16x1, .f32⟩
  | .hbm, ⟨21, _⟩ => ⟨S16384x16x1, .f32⟩
  | .hbm, ⟨22, _⟩ => ⟨S16384x16x64, .f32⟩
  | .hbm, ⟨23, _⟩ => ⟨S16384x16x64, .f32⟩
  | .hbm, ⟨24, _⟩ => ⟨S16384x16x64, .f32⟩
  | .hbm, ⟨25, _⟩ => ⟨S16384x16x64, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== NsaProj.lean ====
abbrev S16384x1024 : Shape := ⟨2, ![16384, 1024]⟩
abbrev S1024 : Shape := ⟨1, ![1024]⟩
abbrev S1024x3632 : Shape := ⟨2, ![1024, 3632]⟩
abbrev S64 : Shape := ⟨1, ![64]⟩
abbrev S3x64 : Shape := ⟨2, ![3, 64]⟩
abbrev S48 : Shape := ⟨1, ![48]⟩
abbrev S16x64 : Shape := ⟨2, ![16, 64]⟩
abbrev S8192x192 : Shape := ⟨2, ![8192, 192]⟩
abbrev S1024x1024 : Shape := ⟨2, ![1024, 1024]⟩
abbrev S1024x512 : Shape := ⟨2, ![1024, 512]⟩
abbrev S1024x48 : Shape := ⟨2, ![1024, 48]⟩
abbrev S_ : Shape := ⟨0, ![]⟩
abbrev S1024x128 : Shape := ⟨2, ![1024, 128]⟩
abbrev S1024x3712 : Shape := ⟨2, ![1024, 3712]⟩
abbrev S1x1024 : Shape := ⟨2, ![1, 1024]⟩
abbrev S1024x1 : Shape := ⟨2, ![1024, 1]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S128 : Shape := ⟨1, ![128]⟩
abbrev S1x128 : Shape := ⟨2, ![1, 128]⟩
abbrev S16384x512 : Shape := ⟨2, ![16384, 512]⟩
abbrev S16384x128 : Shape := ⟨2, ![16384, 128]⟩
abbrev S2x4x64x128x512 : Shape := ⟨5, ![2, 4, 64, 128, 512]⟩
abbrev S2x4x8192x256 : Shape := ⟨4, ![2, 4, 8192, 256]⟩
abbrev S2x4x128x8192 : Shape := ⟨4, ![2, 4, 128, 8192]⟩
abbrev S2x4x8192x128 : Shape := ⟨4, ![2, 4, 8192, 128]⟩
abbrev S256x1024 : Shape := ⟨2, ![256, 1024]⟩
abbrev S256x192 : Shape := ⟨2, ![256, 192]⟩
abbrev S256x512 : Shape := ⟨2, ![256, 512]⟩
abbrev S256x128 : Shape := ⟨2, ![256, 128]⟩
abbrev S1x4x2x128x512 : Shape := ⟨5, ![1, 4, 2, 128, 512]⟩
abbrev S1x4x256x256 : Shape := ⟨4, ![1, 4, 256, 256]⟩
abbrev S1x4x128x256 : Shape := ⟨4, ![1, 4, 128, 256]⟩
abbrev S1x4x256x128 : Shape := ⟨4, ![1, 4, 256, 128]⟩
abbrev S256x1 : Shape := ⟨2, ![256, 1]⟩
abbrev S256x3712 : Shape := ⟨2, ![256, 3712]⟩
abbrev S256x256 : Shape := ⟨2, ![256, 256]⟩
abbrev S128x64 : Shape := ⟨2, ![128, 64]⟩
abbrev S128x128 : Shape := ⟨2, ![128, 128]⟩
abbrev S128x512 : Shape := ⟨2, ![128, 512]⟩
abbrev S1x1x1x128x512 : Shape := ⟨5, ![1, 1, 1, 128, 512]⟩
abbrev S256x64 : Shape := ⟨2, ![256, 64]⟩
abbrev S1x1x256x256 : Shape := ⟨4, ![1, 1, 256, 256]⟩
abbrev S1x1x256x128 : Shape := ⟨4, ![1, 1, 256, 128]⟩
abbrev S128x256 : Shape := ⟨2, ![128, 256]⟩
abbrev S1x1x128x256 : Shape := ⟨4, ![1, 1, 128, 256]⟩

abbrev nBuf : Space → Nat
  | .hbm => 79
  | .vmem => 34
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3632, .f32⟩
  | .hbm, ⟨3, _⟩ => ⟨S64, .f32⟩
  | .hbm, ⟨4, _⟩ => ⟨S3x64, .f32⟩
  | .hbm, ⟨5, _⟩ => ⟨S48, .f32⟩
  | .hbm, ⟨6, _⟩ => ⟨S16x64, .f32⟩
  | .hbm, ⟨7, _⟩ => ⟨S8192x192, .f32⟩
  | .hbm, ⟨8, _⟩ => ⟨S1024x1024, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x48, .f32⟩
  | .hbm, ⟨13, _⟩ => ⟨S1024x1024, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S1024x3712, .f32⟩
  | .hbm, ⟨18, _⟩ => ⟨S1024x3712, .bf16⟩
  | .hbm, ⟨19, _⟩ => ⟨S1x1024, .f32⟩
  | .hbm, ⟨20, _⟩ => ⟨S1024, .i32⟩
  | .hbm, ⟨21, _⟩ => ⟨S_, .i32⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S_, .i32⟩
  | .hbm, ⟨27, _⟩ => ⟨S1024, .i32⟩
  | .hbm, ⟨28, _⟩ => ⟨S1024, .i1⟩
  | .hbm, ⟨29, _⟩ => ⟨S1024, .i32⟩
  | .hbm, ⟨30, _⟩ => ⟨S1024, .i32⟩
  | .hbm, ⟨31, _⟩ => ⟨S_, .i32⟩
  | .hbm, ⟨32, _⟩ => ⟨S1024, .i32⟩
  | .hbm, ⟨33, _⟩ => ⟨S1024, .i1⟩
  | .hbm, ⟨34, _⟩ => ⟨S1024, .i1⟩
  | .hbm, ⟨35, _⟩ => ⟨S_, .i32⟩
  | .hbm, ⟨36, _⟩ => ⟨S1024, .i32⟩
  | .hbm, ⟨37, _⟩ => ⟨S1024, .i32⟩
  | .hbm, ⟨38, _⟩ => ⟨S1024, .i32⟩
  | .hbm, ⟨39, _⟩ => ⟨S1024x1, .i32⟩
  | .hbm, ⟨40, _⟩ => ⟨S1x1024, .i32⟩
  | .hbm, ⟨41, _⟩ => ⟨S1024x1024, .i32⟩
  | .hbm, ⟨42, _⟩ => ⟨S1024x1024, .i32⟩
  | .hbm, ⟨43, _⟩ => ⟨S1024x1024, .i1⟩
  | .hbm, ⟨44, _⟩ => ⟨S1024x1024, .bf16⟩
  | .hbm, ⟨45, _⟩ => ⟨S1x64, .f32⟩
  | .hbm, ⟨46, _⟩ => ⟨S16x64, .f32⟩
  | .hbm, ⟨47, _⟩ => ⟨S1024, .f32⟩
  | .hbm, ⟨48, _⟩ => ⟨S_, .f32⟩
  | .hbm, ⟨49, _⟩ => ⟨S1024, .f32⟩
  | .hbm, ⟨50, _⟩ => ⟨S1024, .f32⟩
  | .hbm, ⟨51, _⟩ => ⟨S1x1024, .f32⟩
  | .hbm, ⟨52, _⟩ => ⟨S1x64, .f32⟩
  | .hbm, ⟨53, _⟩ => ⟨S64, .f32⟩
  | .hbm, ⟨54, _⟩ => ⟨S1x64, .f32⟩
  | .hbm, ⟨55, _⟩ => ⟨S4x64, .f32⟩
  | .hbm, ⟨56, _⟩ => ⟨S256, .f32⟩
  | .hbm, ⟨57, _⟩ => ⟨S1x256, .f32⟩
  | .hbm, ⟨58, _⟩ => ⟨S1x64, .f32⟩
  | .hbm, ⟨59, _⟩ => ⟨S64, .f32⟩
  | .hbm, ⟨60, _⟩ => ⟨S1x64, .f32⟩
  | .hbm, ⟨61, _⟩ => ⟨S4x64, .f32⟩
  | .hbm, ⟨62, _⟩ => ⟨S256, .f32⟩
  | .hbm, ⟨63, _⟩ => ⟨S1x256, .f32⟩
  | .hbm, ⟨64, _⟩ => ⟨S_, .i32⟩
  | .hbm, ⟨65, _⟩ => ⟨S_, .f32⟩
  | .hbm, ⟨66, _⟩ => ⟨S128, .f32⟩
  | .hbm, ⟨67, _⟩ => ⟨S1x128, .f32⟩
  | .hbm, ⟨68, _⟩ => ⟨S16384x1024, .bf16⟩
  | .hbm, ⟨69, _⟩ => ⟨S16384x512, .f32⟩
  | .hbm, ⟨70, _⟩ => ⟨S16384x512, .f32⟩
  | .hbm, ⟨71, _⟩ => ⟨S16384x512, .f32⟩
  | .hbm, ⟨72, _⟩ => ⟨S16384x1024, .f32⟩
  | .hbm, ⟨73, _⟩ => ⟨S16384x128, .f32⟩
  | .hbm, ⟨74, _⟩ => ⟨S2x4x64x128x512, .bf16⟩
  | .hbm, ⟨75, _⟩ => ⟨S2x4x8192x256, .bf16⟩
  | .hbm, ⟨76, _⟩ => ⟨S2x4x128x8192, .bf16⟩
  | .hbm, ⟨77, _⟩ => ⟨S2x4x8192x128, .bf16⟩
  | .hbm, ⟨78, _⟩ => ⟨S2x4x128x8192, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3712, .bf16⟩
  | .local _ .vmem, ⟨4, _⟩ => ⟨S1024x1024, .bf16⟩
  | .local _ .vmem, ⟨5, _⟩ => ⟨S1x1024, .f32⟩
  | .local _ .vmem, ⟨6, _⟩ => ⟨S1x256, .f32⟩
  | .local _ .vmem, ⟨7, _⟩ => ⟨S1x256, .f32⟩
  | .local _ .vmem, ⟨8, _⟩ => ⟨S1x128, .f32⟩
  | .local _ .vmem, ⟨9, _⟩ => ⟨S16x64, .f32⟩
  | .local _ .vmem, ⟨10, _⟩ => ⟨S256x192, .f32⟩
  | .local _ .vmem, ⟨11, _⟩ => ⟨S256x192, .f32⟩
  | .local _ .vmem, ⟨12, _⟩ => ⟨S256x1024, .bf16⟩
  | .local _ .vmem, ⟨13, _⟩ => ⟨S256x1024, .bf16⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x1024, .f32⟩
  | .local _ .vmem, ⟨21, _⟩ => ⟨S256x1024, .f32⟩
  | .local _ .vmem, ⟨22, _⟩ => ⟨S256x128, .f32⟩
  | .local _ .vmem, ⟨23, _⟩ => ⟨S256x128, .f32⟩
  | .local _ .vmem, ⟨24, _⟩ => ⟨S1x4x2x128x512, .bf16⟩
  | .local _ .vmem, ⟨25, _⟩ => ⟨S1x4x2x128x512, .bf16⟩
  | .local _ .vmem, ⟨26, _⟩ => ⟨S1x4x256x256, .bf16⟩
  | .local _ .vmem, ⟨27, _⟩ => ⟨S1x4x256x256, .bf16⟩
  | .local _ .vmem, ⟨28, _⟩ => ⟨S1x4x128x256, .bf16⟩
  | .local _ .vmem, ⟨29, _⟩ => ⟨S1x4x128x256, .bf16⟩
  | .local _ .vmem, ⟨30, _⟩ => ⟨S1x4x256x128, .bf16⟩
  | .local _ .vmem, ⟨31, _⟩ => ⟨S1x4x256x128, .bf16⟩
  | .local _ .vmem, ⟨32, _⟩ => ⟨S1x4x128x256, .bf16⟩
  | .local _ .vmem, ⟨33, _⟩ => ⟨S1x4x128x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_call0_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_c : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_0 : Ref sig .tc := ⟨.hbm, 35, rfl⟩
abbrev main_call1_v12 : Ref sig .tc := ⟨.hbm, 36, rfl⟩
abbrev main_call1_v13 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_c_1 : Ref sig .tc := ⟨.hbm, 64, rfl⟩
abbrev main_call2_v0 : Ref sig .tc := ⟨.hbm, 65, rfl⟩
abbrev main_v36 : Ref sig .tc := ⟨.hbm, 66, rfl⟩
abbrev main_v37 : Ref sig .tc := ⟨.hbm, 67, rfl⟩
abbrev main_v38_0 : Ref sig .tc := ⟨.hbm, 68, rfl⟩
abbrev main_v38_1 : Ref sig .tc := ⟨.hbm, 69, rfl⟩
abbrev main_v38_2 : Ref sig .tc := ⟨.hbm, 70, rfl⟩
abbrev main_v38_3 : Ref sig .tc := ⟨.hbm, 71, rfl⟩
abbrev main_v38_4 : Ref sig .tc := ⟨.hbm, 72, rfl⟩
abbrev main_v38_5 : Ref sig .tc := ⟨.hbm, 73, rfl⟩
abbrev main_v38_6 : Ref sig .tc := ⟨.hbm, 74, rfl⟩
abbrev main_v38_7 : Ref sig .tc := ⟨.hbm, 75, rfl⟩
abbrev main_v38_8 : Ref sig .tc := ⟨.hbm, 76, rfl⟩
abbrev main_v38_9 : Ref sig .tc := ⟨.hbm, 77, rfl⟩
abbrev main_v38_10 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 5 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_17 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_18 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_19 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_20 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x4x2x128x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x4x256x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x4x128x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x4x256x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x4x128x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== NsaProjReferenceIdeal.lean ====
abbrev S16384x1024 : Shape := ⟨2, ![16384, 1024]⟩
abbrev S1024 : Shape := ⟨1, ![1024]⟩
abbrev S1024x3632 : Shape := ⟨2, ![1024, 3632]⟩
abbrev S64 : Shape := ⟨1, ![64]⟩
abbrev S3x64 : Shape := ⟨2, ![3, 64]⟩
abbrev S48 : Shape := ⟨1, ![48]⟩
abbrev S16x64 : Shape := ⟨2, ![16, 64]⟩
abbrev S8192x192 : Shape := ⟨2, ![8192, 192]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3632 : Shape := ⟨2, ![16384, 3632]⟩
abbrev S16384x512 : Shape := ⟨2, ![16384, 512]⟩
abbrev S16384x48 : Shape := ⟨2, ![16384, 48]⟩
abbrev S16384x16x64 : Shape := ⟨3, ![16384, 16, 64]⟩
abbrev S16384x16 : Shape := ⟨2, ![16384, 16]⟩
abbrev S16384x16x1 : Shape := ⟨3, ![16384, 16, 1]⟩
abbrev S1x1x64 : Shape := ⟨3, ![1, 1, 64]⟩
abbrev S16384x256 : Shape := ⟨2, ![16384, 256]⟩
abbrev S16384x4x64 : Shape := ⟨3, ![16384, 4, 64]⟩
abbrev S1x64 : Shape := ⟨2, ![1, 64]⟩
abbrev S16384x4 : Shape := ⟨2, ![16384, 4]⟩
abbrev S16384x4x1 : Shape := ⟨3, ![16384, 4, 1]⟩
abbrev S1x48 : Shape := ⟨2, ![1, 48]⟩
abbrev S16384x128 : Shape := ⟨2, ![16384, 128]⟩
abbrev S2x64x128x4x4x64 : Shape := ⟨6, ![2, 64, 128, 4, 4, 64]⟩
abbrev S2x4x64x64x4x128 : Shape := ⟨6, ![2, 4, 64, 64, 4, 128]⟩
abbrev S4x4x64 : Shape := ⟨3, ![4, 4, 64]⟩
abbrev S4x64x4 : Shape := ⟨3, ![4, 64, 4]⟩
abbrev S1x4x1x64x4x1 : Shape := ⟨6, ![1, 4, 1, 64, 4, 1]⟩
abbrev S2x4x64x128x4x128 : Shape := ⟨6, ![2, 4, 64, 128, 4, 128]⟩
abbrev S2x4x64x128x512 : Shape := ⟨5, ![2, 4, 64, 128, 512]⟩
abbrev S64x1 : Shape := ⟨2, ![64, 1]⟩
abbrev S2x4x64x8192 : Shape := ⟨4, ![2, 4, 64, 8192]⟩
abbrev S2x8192x4x64 : Shape := ⟨4, ![2, 8192, 4, 64]⟩
abbrev S2x4x8192x64 : Shape := ⟨4, ![2, 4, 8192, 64]⟩
abbrev S2x4x8192x192 : Shape := ⟨4, ![2, 4, 8192, 192]⟩
abbrev S2x4x8192x256 : Shape := ⟨4, ![2, 4, 8192, 256]⟩
abbrev S8192x64 : Shape := ⟨2, ![8192, 64]⟩
abbrev S2x4x8192x128 : Shape := ⟨4, ![2, 4, 8192, 128]⟩
abbrev S2x4x128x8192 : Shape := ⟨4, ![2, 4, 128, 8192]⟩

abbrev nBuf : Space → Nat
  | .hbm => 159
  | .vmem => 0
  | .smem => 0
  | _ => 0

abbrev hbmTy0_0 (i : Nat) : BufTy := match i % 128 with
  | 0 => ⟨S16384x1024, .f32⟩
  | 1 => ⟨S1024, .f32⟩
  | 2 => ⟨S1024x3632, .f32⟩
  | 3 => ⟨S64, .f32⟩
  | 4 => ⟨S3x64, .f32⟩
  | 5 => ⟨S48, .f32⟩
  | 6 => ⟨S16x64, .f32⟩
  | 7 => ⟨S8192x192, .f32⟩
  | 8 => ⟨S16384x1024, .f32⟩
  | 9 => ⟨S_, .f32⟩
  | 10 => ⟨S16384, .f32⟩
  | 11 => ⟨S16384x1, .f32⟩
  | 12 => ⟨S_, .f32⟩
  | 13 => ⟨S16384x1, .f32⟩
  | 14 => ⟨S16384x1, .f32⟩
  | 15 => ⟨S_, .f32⟩
  | 16 => ⟨S16384x1, .f32⟩
  | 17 => ⟨S16384x1, .f32⟩
  | 18 => ⟨S16384x1, .f32⟩
  | 19 => ⟨S16384x1024, .f32⟩
  | 20 => ⟨S16384x1024, .f32⟩
  | 21 => ⟨S1x1024, .f32⟩
  | 22 => ⟨S16384x1024, .f32⟩
  | 23 => ⟨S16384x1024, .f32⟩
  | 24 => ⟨S16384x3632, .f32⟩
  | 25 => ⟨S16384x1024, .f32⟩
  | 26 => ⟨S16384x512, .f32⟩
  | 27 => ⟨S16384x512, .f32⟩
  | 28 => ⟨S16384x512, .f32⟩
  | 29 => ⟨S16384x48, .f32⟩
  | 30 => ⟨S16384x1024, .f32⟩
  | 31 => ⟨S16384x16x64, .f32⟩
  | 32 => ⟨S16384x16x64, .f32⟩
  | 33 => ⟨S_, .f32⟩
  | 34 => ⟨S16384x16, .f32⟩
  | 35 => ⟨S16384x16x1, .f32⟩
  | 36 => ⟨S_, .f32⟩
  | 37 => ⟨S16384x16x1, .f32⟩
  | 38 => ⟨S16384x16x1, .f32⟩
  | 39 => ⟨S_, .f32⟩
  | 40 => ⟨S16384x16x1, .f32⟩
  | 41 => ⟨S16384x16x1, .f32⟩
  | 42 => ⟨S16384x16x1, .f32⟩
  | 43 => ⟨S16384x16x64, .f32⟩
  | 44 => ⟨S16384x16x64, .f32⟩
  | 45 => ⟨S1x1x64, .f32⟩
  | 46 => ⟨S16384x16x64, .f32⟩
  | 47 => ⟨S16384x16x64, .f32⟩
  | 48 => ⟨S_, .f32⟩
  | 49 => ⟨S16384x16x64, .f32⟩
  | 50 => ⟨S16384x16x64, .f32⟩
  | 51 => ⟨S16384x256, .f32⟩
  | 52 => ⟨S16384x4x64, .f32⟩
  | 53 => ⟨S1x64, .f32⟩
  | 54 => ⟨S64, .f32⟩
  | 55 => ⟨S16384x4x64, .f32⟩
  | 56 => ⟨S_, .f32⟩
  | 57 => ⟨S16384x4, .f32⟩
  | 58 => ⟨S16384x4x1, .f32⟩
  | 59 => ⟨S_, .f32⟩
  | 60 => ⟨S16384x4x1, .f32⟩
  | 61 => ⟨S16384x4x1, .f32⟩
  | 62 => ⟨S_, .f32⟩
  | 63 => ⟨S16384x4x1, .f32⟩
  | 64 => ⟨S16384x4x1, .f32⟩
  | 65 => ⟨S16384x4x1, .f32⟩
  | 66 => ⟨S16384x4x64, .f32⟩
  | 67 => ⟨S16384x4x64, .f32⟩
  | 68 => ⟨S1x1x64, .f32⟩
  | 69 => ⟨S16384x4x64, .f32⟩
  | 70 => ⟨S16384x4x64, .f32⟩
  | 71 => ⟨S16384x256, .f32⟩
  | 72 => ⟨S16384x4x64, .f32⟩
  | 73 => ⟨S1x64, .f32⟩
  | 74 => ⟨S64, .f32⟩
  | 75 => ⟨S16384x4x64, .f32⟩
  | 76 => ⟨S_, .f32⟩
  | 77 => ⟨S16384x4, .f32⟩
  | 78 => ⟨S16384x4x1, .f32⟩
  | 79 => ⟨S_, .f32⟩
  | 80 => ⟨S16384x4x1, .f32⟩
  | 81 => ⟨S16384x4x1, .f32⟩
  | 82 => ⟨S_, .f32⟩
  | 83 => ⟨S16384x4x1, .f32⟩
  | 84 => ⟨S16384x4x1, .f32⟩
  | 85 => ⟨S16384x4x1, .f32⟩
  | 86 => ⟨S16384x4x64, .f32⟩
  | 87 => ⟨S16384x4x64, .f32⟩
  | 88 => ⟨S1x1x64, .f32⟩
  | 89 => ⟨S16384x4x64, .f32⟩
  | 90 => ⟨S16384x4x64, .f32⟩
  | 91 => ⟨S16384x256, .f32⟩
  | 92 => ⟨S16384x256, .f32⟩
  | 93 => ⟨S16384x512, .f32⟩
  | 94 => ⟨S16384x256, .f32⟩
  | 95 => ⟨S16384x256, .f32⟩
  | 96 => ⟨S16384x512, .f32⟩
  | 97 => ⟨S1x48, .f32⟩
  | 98 => ⟨S16384x48, .f32⟩
  | 99 => ⟨S16384x48, .f32⟩
  | 100 => ⟨S_, .i32⟩
  | 101 => ⟨S_, .f32⟩
  | 102 => ⟨S16384x128, .f32⟩
  | 103 => ⟨S16384x128, .f32⟩
  | 104 => ⟨S16384x128, .f32⟩
  | 105 => ⟨S_, .f32⟩
  | 106 => ⟨S16384x128, .f32⟩
  | 107 => ⟨S16384x128, .f32⟩
  | 108 => ⟨S_, .f32⟩
  | 109 => ⟨S16384x128, .f32⟩
  | 110 => ⟨S16384x128, .f32⟩
  | 111 => ⟨S2x64x128x4x4x64, .f32⟩
  | 112 => ⟨S2x4x64x64x4x128, .f32⟩
  | 113 => ⟨S4x4x64, .f32⟩
  | 114 => ⟨S4x64x4, .f32⟩
  | 115 => ⟨S1x4x1x64x4x1, .f32⟩
  | 116 => ⟨S2x4x64x64x4x128, .f32⟩
  | 117 => ⟨S2x4x64x128x4x128, .f32⟩
  | 118 => ⟨S2x4x64x128x512, .f32⟩
  | 119 => ⟨S64, .i32⟩
  | 120 => ⟨S_, .i32⟩
  | 121 => ⟨S64, .i32⟩
  | 122 => ⟨S64, .i1⟩
  | 123 => ⟨S64, .f32⟩
  | 124 => ⟨S64x1, .f32⟩
  | 125 => ⟨S2x4x64x8192, .f32⟩
  | 126 => ⟨S2x8192x4x64, .f32⟩
  | 127 => ⟨S2x4x8192x64, .f32⟩
  | _ => ⟨S16384x1024, .f32⟩

abbrev hbmTy0_1 (i : Nat) : BufTy := match i % 128 with
  | 0 => ⟨S2x4x8192x192, .f32⟩
  | 1 => ⟨S2x4x8192x256, .f32⟩
  | 2 => ⟨S2x8192x4x64, .f32⟩
  | 3 => ⟨S2x4x8192x64, .f32⟩
  | 4 => ⟨S8192x64, .f32⟩
  | 5 => ⟨S2x4x8192x64, .f32⟩
  | 6 => ⟨S2x4x8192x128, .f32⟩
  | 7 => ⟨S16384x256, .f32⟩
  | 8 => ⟨S2x8192x4x64, .f32⟩
  | 9 => ⟨S2x4x64x8192, .f32⟩
  | 10 => ⟨S2x4x128x8192, .f32⟩
  | 11 => ⟨S16384x256, .f32⟩
  | 12 => ⟨S2x8192x4x64, .f32⟩
  | 13 => ⟨S2x4x64x8192, .f32⟩
  | 14 => ⟨S2x4x128x8192, .f32⟩
  | 15 => ⟨S16384x1024, .f32⟩
  | 16 => ⟨S16384x1024, .bf16⟩
  | 17 => ⟨S16384x1024, .f32⟩
  | 18 => ⟨S16384x1024, .f32⟩
  | 19 => ⟨S_, .f32⟩
  | 20 => ⟨S16384x1024, .f32⟩
  | 21 => ⟨S16384x1024, .f32⟩
  | 22 => ⟨S_, .f32⟩
  | 23 => ⟨S16384x1024, .f32⟩
  | 24 => ⟨S16384x1024, .f32⟩
  | 25 => ⟨S16384x1024, .f32⟩
  | 26 => ⟨S2x4x64x128x512, .bf16⟩
  | 27 => ⟨S2x4x8192x256, .bf16⟩
  | 28 => ⟨S2x4x128x8192, .bf16⟩
  | 29 => ⟨S2x4x8192x128, .bf16⟩
  | 30 => ⟨S2x4x128x8192, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_9 : Ref sig .tc := ⟨.hbm, 76, rfl⟩
abbrev main_v58 : Ref sig .tc := ⟨.hbm, 77, rfl⟩
abbrev main_v59 : Ref sig .tc := ⟨.hbm, 78, rfl⟩
abbrev main_cst_10 : Ref sig .tc := ⟨.hbm, 79, rfl⟩
abbrev main_v60 : Ref sig .tc := ⟨.hbm, 80, rfl⟩
abbrev main_v61 : Ref sig .tc := ⟨.hbm, 81, rfl⟩
abbrev main_cst_11 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_c : Ref sig .tc := ⟨.hbm, 100, rfl⟩
abbrev main_call0_v0 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_12 : Ref sig .tc := ⟨.hbm, 105, rfl⟩
abbrev main_v82 : Ref sig .tc := ⟨.hbm, 106, rfl⟩
abbrev main_v83 : Ref sig .tc := ⟨.hbm, 107, rfl⟩
abbrev main_cst_13 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_c_14 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_call1_v0 : Ref sig .tc := ⟨.hbm, 145, rfl⟩
abbrev main_call1_v1 : Ref sig .tc := ⟨.hbm, 146, rfl⟩
abbrev main_call1_cst : Ref sig .tc := ⟨.hbm, 147, rfl⟩
abbrev main_call1_v2 : Ref sig .tc := ⟨.hbm, 148, rfl⟩
abbrev main_call1_v3 : Ref sig .tc := ⟨.hbm, 149, rfl⟩
abbrev main_call1_cst_0 : Ref sig .tc := ⟨.hbm, 150, rfl⟩
abbrev main_call1_v4 : Ref sig .tc := ⟨.hbm, 151, rfl⟩
abbrev main_call1_v5 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩

abbrev nD : Nat := 1
abbrev τ : Topo := Topo.v7x

variable {F : FTy → Type} [FloatOps F]
-- ==== ConfConv.lean ====
abbrev S2x8192x1024 : Shape := ⟨3, ![2, 8192, 1024]⟩
abbrev S2x30x1024 : Shape := ⟨3, ![2, 30, 1024]⟩
abbrev S31x1024 : Shape := ⟨2, ![31, 1024]⟩
abbrev S1024 : Shape := ⟨1, ![1024]⟩
abbrev S_ : Shape := ⟨0, ![]⟩
abbrev S2x32x1024 : Shape := ⟨3, ![2, 32, 1024]⟩
abbrev S32x1024 : Shape := ⟨2, ![32, 1024]⟩
abbrev S1x1024 : Shape := ⟨2, ![1, 1024]⟩
abbrev S1x256x1024 : Shape := ⟨3, ![1, 256, 1024]⟩
abbrev S1x32x1024 : Shape := ⟨3, ![1, 32, 1024]⟩
abbrev S288x1024 : Shape := ⟨2, ![288, 1024]⟩
abbrev S256x1024 : Shape := ⟨2, ![256, 1024]⟩
abbrev S256 : Shape := ⟨1, ![256]⟩
abbrev S256x1 : Shape := ⟨2, ![256, 1]⟩

abbrev nBuf : Space → Nat
  | .hbm => 16
  | .vmem => 11
  | .smem => 0
  | _ => 0

abbrev bufTy : (tb : Table) → Fin (tcTables nBuf tb) → BufTy
  | .hbm, ⟨0, _⟩ => ⟨S2x8192x1024, .f32⟩
  | .hbm, ⟨1, _⟩ => ⟨S2x30x1024, .f32⟩
  | .hbm, ⟨2, _⟩ => ⟨S31x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S_, .i32⟩
  | .hbm, ⟨7, _⟩ => ⟨S_, .f32⟩
  | .hbm, ⟨8, _⟩ => ⟨S2x32x1024, .f32⟩
  | .hbm, ⟨9, _⟩ => ⟨S_, .i32⟩
  | .hbm, ⟨10, _⟩ => ⟨S_, .f32⟩
  | .hbm, ⟨11, _⟩ => ⟨S32x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S2x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x32x1024, .f32⟩
  | .local _ .vmem, ⟨3, _⟩ => ⟨S1x32x1024, .f32⟩
  | .local _ .vmem, ⟨4, _⟩ => ⟨S32x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x256x1024, .f32⟩
  | .local _ .vmem, ⟨9, _⟩ => ⟨S1x256x1024, .f32⟩
  | .local _ .vmem, ⟨10, _⟩ => ⟨S288x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ConfConvReferenceIdeal.lean ====
abbrev S2x8192x1024 : Shape := ⟨3, ![2, 8192, 1024]⟩
abbrev S2x30x1024 : Shape := ⟨3, ![2, 30, 1024]⟩
abbrev S31x1024 : Shape := ⟨2, ![31, 1024]⟩
abbrev S1024 : Shape := ⟨1, ![1024]⟩
abbrev S2x8222x1024 : Shape := ⟨3, ![2, 8222, 1024]⟩
abbrev S1x1024 : Shape := ⟨2, ![1, 1024]⟩
abbrev S1x1x1024 : Shape := ⟨3, ![1, 1, 1024]⟩
abbrev S_ : Shape := ⟨0, ![]⟩
abbrev S2x8192 : Shape := ⟨2, ![2, 8192]⟩
abbrev S2x8192x1 : Shape := ⟨3, ![2, 8192, 1]⟩

abbrev nBuf : Space → Nat
  | .hbm => 267
  | .vmem => 0
  | .smem => 0
  | _ => 0

abbrev hbmTy0_0 (i : Nat) : BufTy := match i % 128 with
  | 0 => ⟨S2x8192x1024, .f32⟩
  | 1 => ⟨S2x30x1024, .f32⟩
  | 2 => ⟨S31x1024, .f32⟩
  | 3 => ⟨S1024, .f32⟩
  | 4 => ⟨S1024, .f32⟩
  | 5 => ⟨S1024, .f32⟩
  | 6 => ⟨S2x8222x1024, .f32⟩
  | 7 => ⟨S1x1024, .f32⟩
  | 8 => ⟨S1024, .f32⟩
  | 9 => ⟨S2x8192x1024, .f32⟩
  | 10 => ⟨S1x1x1024, .f32⟩
  | 11 => ⟨S2x8192x1024, .f32⟩
  | 12 => ⟨S2x8192x1024, .f32⟩
  | 13 => ⟨S_, .f32⟩
  | 14 => ⟨S2x8192x1024, .f32⟩
  | 15 => ⟨S2x8192x1024, .f32⟩
  | 16 => ⟨S1x1024, .f32⟩
  | 17 => ⟨S1024, .f32⟩
  | 18 => ⟨S2x8192x1024, .f32⟩
  | 19 => ⟨S1x1x1024, .f32⟩
  | 20 => ⟨S2x8192x1024, .f32⟩
  | 21 => ⟨S2x8192x1024, .f32⟩
  | 22 => ⟨S2x8192x1024, .f32⟩
  | 23 => ⟨S1x1024, .f32⟩
  | 24 => ⟨S1024, .f32⟩
  | 25 => ⟨S2x8192x1024, .f32⟩
  | 26 => ⟨S1x1x1024, .f32⟩
  | 27 => ⟨S2x8192x1024, .f32⟩
  | 28 => ⟨S2x8192x1024, .f32⟩
  | 29 => ⟨S2x8192x1024, .f32⟩
  | 30 => ⟨S1x1024, .f32⟩
  | 31 => ⟨S1024, .f32⟩
  | 32 => ⟨S2x8192x1024, .f32⟩
  | 33 => ⟨S1x1x1024, .f32⟩
  | 34 => ⟨S2x8192x1024, .f32⟩
  | 35 => ⟨S2x8192x1024, .f32⟩
  | 36 => ⟨S2x8192x1024, .f32⟩
  | 37 => ⟨S1x1024, .f32⟩
  | 38 => ⟨S1024, .f32⟩
  | 39 => ⟨S2x8192x1024, .f32⟩
  | 40 => ⟨S1x1x1024, .f32⟩
  | 41 => ⟨S2x8192x1024, .f32⟩
  | 42 => ⟨S2x8192x1024, .f32⟩
  | 43 => ⟨S2x8192x1024, .f32⟩
  | 44 => ⟨S1x1024, .f32⟩
  | 45 => ⟨S1024, .f32⟩
  | 46 => ⟨S2x8192x1024, .f32⟩
  | 47 => ⟨S1x1x1024, .f32⟩
  | 48 => ⟨S2x8192x1024, .f32⟩
  | 49 => ⟨S2x8192x1024, .f32⟩
  | 50 => ⟨S2x8192x1024, .f32⟩
  | 51 => ⟨S1x1024, .f32⟩
  | 52 => ⟨S1024, .f32⟩
  | 53 => ⟨S2x8192x1024, .f32⟩
  | 54 => ⟨S1x1x1024, .f32⟩
  | 55 => ⟨S2x8192x1024, .f32⟩
  | 56 => ⟨S2x8192x1024, .f32⟩
  | 57 => ⟨S2x8192x1024, .f32⟩
  | 58 => ⟨S1x1024, .f32⟩
  | 59 => ⟨S1024, .f32⟩
  | 60 => ⟨S2x8192x1024, .f32⟩
  | 61 => ⟨S1x1x1024, .f32⟩
  | 62 => ⟨S2x8192x1024, .f32⟩
  | 63 => ⟨S2x8192x1024, .f32⟩
  | 64 => ⟨S2x8192x1024, .f32⟩
  | 65 => ⟨S1x1024, .f32⟩
  | 66 => ⟨S1024, .f32⟩
  | 67 => ⟨S2x8192x1024, .f32⟩
  | 68 => ⟨S1x1x1024, .f32⟩
  | 69 => ⟨S2x8192x1024, .f32⟩
  | 70 => ⟨S2x8192x1024, .f32⟩
  | 71 => ⟨S2x8192x1024, .f32⟩
  | 72 => ⟨S1x1024, .f32⟩
  | 73 => ⟨S1024, .f32⟩
  | 74 => ⟨S2x8192x1024, .f32⟩
  | 75 => ⟨S1x1x1024, .f32⟩
  | 76 => ⟨S2x8192x1024, .f32⟩
  | 77 => ⟨S2x8192x1024, .f32⟩
  | 78 => ⟨S2x8192x1024, .f32⟩
  | 79 => ⟨S1x1024, .f32⟩
  | 80 => ⟨S1024, .f32⟩
  | 81 => ⟨S2x8192x1024, .f32⟩
  | 82 => ⟨S1x1x1024, .f32⟩
  | 83 => ⟨S2x8192x1024, .f32⟩
  | 84 => ⟨S2x8192x1024, .f32⟩
  | 85 => ⟨S2x8192x1024, .f32⟩
  | 86 => ⟨S1x1024, .f32⟩
  | 87 => ⟨S1024, .f32⟩
  | 88 => ⟨S2x8192x1024, .f32⟩
  | 89 => ⟨S1x1x1024, .f32⟩
  | 90 => ⟨S2x8192x1024, .f32⟩
  | 91 => ⟨S2x8192x1024, .f32⟩
  | 92 => ⟨S2x8192x1024, .f32⟩
  | 93 => ⟨S1x1024, .f32⟩
  | 94 => ⟨S1024, .f32⟩
  | 95 => ⟨S2x8192x1024, .f32⟩
  | 96 => ⟨S1x1x1024, .f32⟩
  | 97 => ⟨S2x8192x1024, .f32⟩
  | 98 => ⟨S2x8192x1024, .f32⟩
  | 99 => ⟨S2x8192x1024, .f32⟩
  | 100 => ⟨S1x1024, .f32⟩
  | 101 => ⟨S1024, .f32⟩
  | 102 => ⟨S2x8192x1024, .f32⟩
  | 103 => ⟨S1x1x1024, .f32⟩
  | 104 => ⟨S2x8192x1024, .f32⟩
  | 105 => ⟨S2x8192x1024, .f32⟩
  | 106 => ⟨S2x8192x1024, .f32⟩
  | 107 => ⟨S1x1024, .f32⟩
  | 108 => ⟨S1024, .f32⟩
  | 109 => ⟨S2x8192x1024, .f32⟩
  | 110 => ⟨S1x1x1024, .f32⟩
  | 111 => ⟨S2x8192x1024, .f32⟩
  | 112 => ⟨S2x8192x1024, .f32⟩
  | 113 => ⟨S2x8192x1024, .f32⟩
  | 114 => ⟨S1x1024, .f32⟩
  | 115 => ⟨S1024, .f32⟩
  | 116 => ⟨S2x8192x1024, .f32⟩
  | 117 => ⟨S1x1x1024, .f32⟩
  | 118 => ⟨S2x8192x1024, .f32⟩
  | 119 => ⟨S2x8192x1024, .f32⟩
  | 120 => ⟨S2x8192x1024, .f32⟩
  | 121 => ⟨S1x1024, .f32⟩
  | 122 => ⟨S1024, .f32⟩
  | 123 => ⟨S2x8192x1024, .f32⟩
  | 124 => ⟨S1x1x1024, .f32⟩
  | 125 => ⟨S2x8192x1024, .f32⟩
  | 126 => ⟨S2x8192x1024, .f32⟩
  | 127 => ⟨S2x8192x1024, .f32⟩
  | _ => ⟨S2x8192x1024, .f32⟩

abbrev hbmTy0_1 (i : Nat) : BufTy := match i % 128 with
  | 0 => ⟨S1x1024, .f32⟩
  | 1 => ⟨S1024, .f32⟩
  | 2 => ⟨S2x8192x1024, .f32⟩
  | 3 => ⟨S1x1x1024, .f32⟩
  | 4 => ⟨S2x8192x1024, .f32⟩
  | 5 => ⟨S2x8192x1024, .f32⟩
  | 6 => ⟨S2x8192x1024, .f32⟩
  | 7 => ⟨S1x1024, .f32⟩
  | 8 => ⟨S1024, .f32⟩
  | 9 => ⟨S2x8192x1024, .f32⟩
  | 10 => ⟨S1x1x1024, .f32⟩
  | 11 => ⟨S2x8192x1024, .f32⟩
  | 12 => ⟨S2x8192x1024, .f32⟩
  | 13 => ⟨S2x8192x1024, .f32⟩
  | 14 => ⟨S1x1024, .f32⟩
  | 15 => ⟨S1024, .f32⟩
  | 16 => ⟨S2x8192x1024, .f32⟩
  | 17 => ⟨S1x1x1024, .f32⟩
  | 18 => ⟨S2x8192x1024, .f32⟩
  | 19 => ⟨S2x8192x1024, .f32⟩
  | 20 => ⟨S2x8192x1024, .f32⟩
  | 21 => ⟨S1x1024, .f32⟩
  | 22 => ⟨S1024, .f32⟩
  | 23 => ⟨S2x8192x1024, .f32⟩
  | 24 => ⟨S1x1x1024, .f32⟩
  | 25 => ⟨S2x8192x1024, .f32⟩
  | 26 => ⟨S2x8192x1024, .f32⟩
  | 27 => ⟨S2x8192x1024, .f32⟩
  | 28 => ⟨S1x1024, .f32⟩
  | 29 => ⟨S1024, .f32⟩
  | 30 => ⟨S2x8192x1024, .f32⟩
  | 31 => ⟨S1x1x1024, .f32⟩
  | 32 => ⟨S2x8192x1024, .f32⟩
  | 33 => ⟨S2x8192x1024, .f32⟩
  | 34 => ⟨S2x8192x1024, .f32⟩
  | 35 => ⟨S1x1024, .f32⟩
  | 36 => ⟨S1024, .f32⟩
  | 37 => ⟨S2x8192x1024, .f32⟩
  | 38 => ⟨S1x1x1024, .f32⟩
  | 39 => ⟨S2x8192x1024, .f32⟩
  | 40 => ⟨S2x8192x1024, .f32⟩
  | 41 => ⟨S2x8192x1024, .f32⟩
  | 42 => ⟨S1x1024, .f32⟩
  | 43 => ⟨S1024, .f32⟩
  | 44 => ⟨S2x8192x1024, .f32⟩
  | 45 => ⟨S1x1x1024, .f32⟩
  | 46 => ⟨S2x8192x1024, .f32⟩
  | 47 => ⟨S2x8192x1024, .f32⟩
  | 48 => ⟨S2x8192x1024, .f32⟩
  | 49 => ⟨S1x1024, .f32⟩
  | 50 => ⟨S1024, .f32⟩
  | 51 => ⟨S2x8192x1024, .f32⟩
  | 52 => ⟨S1x1x1024, .f32⟩
  | 53 => ⟨S2x8192x1024, .f32⟩
  | 54 => ⟨S2x8192x1024, .f32⟩
  | 55 => ⟨S2x8192x1024, .f32⟩
  | 56 => ⟨S1x1024, .f32⟩
  | 57 => ⟨S1024, .f32⟩
  | 58 => ⟨S2x8192x1024, .f32⟩
  | 59 => ⟨S1x1x1024, .f32⟩
  | 60 => ⟨S2x8192x1024, .f32⟩
  | 61 => ⟨S2x8192x1024, .f32⟩
  | 62 => ⟨S2x8192x1024, .f32⟩
  | 63 => ⟨S1x1024, .f32⟩
  | 64 => ⟨S1024, .f32⟩
  | 65 => ⟨S2x8192x1024, .f32⟩
  | 66 => ⟨S1x1x1024, .f32⟩
  | 67 => ⟨S2x8192x1024, .f32⟩
  | 68 => ⟨S2x8192x1024, .f32⟩
  | 69 => ⟨S2x8192x1024, .f32⟩
  | 70 => ⟨S1x1024, .f32⟩
  | 71 => ⟨S1024, .f32⟩
  | 72 => ⟨S2x8192x1024, .f32⟩
  | 73 => ⟨S1x1x1024, .f32⟩
  | 74 => ⟨S2x8192x1024, .f32⟩
  | 75 => ⟨S2x8192x1024, .f32⟩
  | 76 => ⟨S2x8192x1024, .f32⟩
  | 77 => ⟨S1x1024, .f32⟩
  | 78 => ⟨S1024, .f32⟩
  | 79 => ⟨S2x8192x1024, .f32⟩
  | 80 => ⟨S1x1x1024, .f32⟩
  | 81 => ⟨S2x8192x1024, .f32⟩
  | 82 => ⟨S2x8192x1024, .f32⟩
  | 83 => ⟨S2x8192x1024, .f32⟩
  | 84 => ⟨S1x1024, .f32⟩
  | 85 => ⟨S1024, .f32⟩
  | 86 => ⟨S2x8192x1024, .f32⟩
  | 87 => ⟨S1x1x1024, .f32⟩
  | 88 => ⟨S2x8192x1024, .f32⟩
  | 89 => ⟨S2x8192x1024, .f32⟩
  | 90 => ⟨S2x8192x1024, .f32⟩
  | 91 => ⟨S1x1024, .f32⟩
  | 92 => ⟨S1024, .f32⟩
  | 93 => ⟨S2x8192x1024, .f32⟩
  | 94 => ⟨S1x1x1024, .f32⟩
  | 95 => ⟨S2x8192x1024, .f32⟩
  | 96 => ⟨S2x8192x1024, .f32⟩
  | 97 => ⟨S2x8192x1024, .f32⟩
  | 98 => ⟨S1x1x1024, .f32⟩
  | 99 => ⟨S2x8192x1024, .f32⟩
  | 100 => ⟨S2x8192x1024, .f32⟩
  | 101 => ⟨S_, .f32⟩
  | 102 => ⟨S2x8192, .f32⟩
  | 103 => ⟨S2x8192x1, .f32⟩
  | 104 => ⟨S_, .f32⟩
  | 105 => ⟨S2x8192x1, .f32⟩
  | 106 => ⟨S2x8192x1, .f32⟩
  | 107 => ⟨S2x8192x1024, .f32⟩
  | 108 => ⟨S2x8192x1024, .f32⟩
  | 109 => ⟨S2x8192x1024, .f32⟩
  | 110 => ⟨S_, .f32⟩
  | 111 => ⟨S2x8192, .f32⟩
  | 112 => ⟨S2x8192x1, .f32⟩
  | 113 => ⟨S_, .f32⟩
  | 114 => ⟨S2x8192x1, .f32⟩
  | 115 => ⟨S2x8192x1, .f32⟩
  | 116 => ⟨S2x8192x1024, .f32⟩
  | 117 => ⟨S2x8192x1024, .f32⟩
  | 118 => ⟨S_, .f32⟩
  | 119 => ⟨S2x8192x1, .f32⟩
  | 120 => ⟨S2x8192x1, .f32⟩
  | 121 => ⟨S2x8192x1, .f32⟩
  | 122 => ⟨S2x8192x1024, .f32⟩
  | 123 => ⟨S2x8192x1024, .f32⟩
  | 124 => ⟨S1x1x1024, .f32⟩
  | 125 => ⟨S2x8192x1024, .f32⟩
  | 126 => ⟨S2x8192x1024, .f32⟩
  | 127 => ⟨S1x1x1024, .f32⟩
  | _ => ⟨S2x8192x1024, .f32⟩

abbrev hbmTy0_2 (i : Nat) : BufTy := match i % 128 with
  | 0 => ⟨S2x8192x1024, .f32⟩
  | 1 => ⟨S2x8192x1024, .f32⟩
  | 2 => ⟨S2x8192x1024, .f32⟩
  | 3 => ⟨S2x8192x1024, .f32⟩
  | 4 => ⟨S_, .f32⟩
  | 5 => ⟨S2x8192x1024, .f32⟩
  | 6 => ⟨S2x8192x1024, .f32⟩
  | 7 => ⟨S_, .f32⟩
  | 8 => ⟨S2x8192x1024, .f32⟩
  | 9 => ⟨S2x8192x1024, .f32⟩
  | 10 => ⟨S2x8192x1024, .f32⟩
  | _ => ⟨S2x8192x1024, .f32⟩

abbrev hbmTy (i : Nat) : BufTy := match i / 128 with
  | 0 => hbmTy0_0 i
  | 1 => hbmTy0_1 i
  | 2 => hbmTy0_2 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_cst_0 : Ref sig .tc := ⟨.hbm, 229, rfl⟩
abbrev main_v222 : Ref sig .tc := ⟨.hbm, 230, rfl⟩
abbrev main_v223 : Ref sig .tc := ⟨.hbm, 231, rfl⟩
abbrev main_cst_1 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_cst_2 : Ref sig .tc := ⟨.hbm, 238, rfl⟩
abbrev main_v229 : Ref sig .tc := ⟨.hbm, 239, rfl⟩
abbrev main_v230 : Ref sig .tc := ⟨.hbm, 240, rfl⟩
abbrev main_cst_3 : Ref sig .tc := ⟨.hbm, 241, rfl⟩
abbrev main_v231 : Ref sig .tc := ⟨.hbm, 242, rfl⟩
abbrev main_v232 : Ref sig .tc := ⟨.hbm, 243, rfl⟩
abbrev main_v233 : Ref sig .tc := ⟨.hbm, 244, rfl⟩
abbrev main_v234 : Ref sig .tc := ⟨.hbm, 245, rfl⟩
abbrev main_cst_4 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_v241 : Ref sig .tc := ⟨.hbm, 253, rfl⟩
abbrev main_v242 : Ref sig .tc := ⟨.hbm, 254, rfl⟩
abbrev main_v243 : Ref sig .tc := ⟨.hbm, 255, rfl⟩
abbrev main_v244 : Ref sig .tc := ⟨.hbm, 256, rfl⟩
abbrev main_v245 : Ref sig .tc := ⟨.hbm, 257, rfl⟩
abbrev main_call0_v0 : Ref sig .tc := ⟨.hbm, 258, rfl⟩
abbrev main_call0_v1 : Ref sig .tc := ⟨.hbm, 259, rfl⟩
abbrev main_call0_cst : Ref sig .tc := ⟨.hbm, 260, rfl⟩
abbrev main_call0_v2 : Ref sig .tc := ⟨.hbm, 261, rfl⟩
abbrev main_call0_v3 : Ref sig .tc := ⟨.hbm, 262, rfl⟩
abbrev main_call0_cst_0 : Ref sig .tc := ⟨.hbm, 263, rfl⟩
abbrev main_call0_v4 : Ref sig .tc := ⟨.hbm, 264, rfl⟩
abbrev main_call0_v5 : Ref sig .tc := ⟨.hbm, 265, rfl⟩
abbrev main_v246 : Ref sig .tc := ⟨.hbm, 266, rfl⟩

abbrev nD : Nat := 1
abbrev τ : Topo := Topo.v7x

variable {F : FTy → Type} [FloatOps F]
-- ==== ConfProjSample.lean ====
abbrev S128x1024 : Shape := ⟨2, ![128, 1024]⟩
abbrev S1024 : Shape := ⟨1, ![1024]⟩
abbrev S1024x3072 : Shape := ⟨2, ![1024, 3072]⟩
abbrev S1x1024 : Shape := ⟨2, ![1, 1024]⟩
abbrev S128 : Shape := ⟨1, ![128]⟩
abbrev S128x1 : Shape := ⟨2, ![128, 1]⟩
abbrev S128x3072 : Shape := ⟨2, ![128, 3072]⟩

abbrev nBuf : Space → Nat
  | .hbm => 7
  | .vmem => 5
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x3072, .f32⟩
  | .hbm, ⟨3, _⟩ => ⟨S1x1024, .f32⟩
  | .hbm, ⟨4, _⟩ => ⟨S1024x3072, .bf16⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1024x3072, .bf16⟩
  | .local _ .vmem, ⟨3, _⟩ => ⟨S128x1024, .f32⟩
  | .local _ .vmem, ⟨4, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== ConfProjSampleReferenceIdeal.lean ====
abbrev S128x1024 : Shape := ⟨2, ![128, 1024]⟩
abbrev S1024 : Shape := ⟨1, ![1024]⟩
abbrev S1024x3072 : Shape := ⟨2, ![1024, 3072]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x3072 : Shape := ⟨2, ![128, 3072]⟩

abbrev nBuf : Space → Nat
  | .hbm => 41
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x3072, .f32⟩
  | .hbm, ⟨3, _⟩ => ⟨S128x1024, .f32⟩
  | .hbm, ⟨4, _⟩ => ⟨S_, .f32⟩
  | .hbm, ⟨5, _⟩ => ⟨S128, .f32⟩
  | .hbm, ⟨6, _⟩ => ⟨S128x1, .f32⟩
  | .hbm, ⟨7, _⟩ => ⟨S_, .f32⟩
  | .hbm, ⟨8, _⟩ => ⟨S128x1, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S128x1, .f32⟩
  | .hbm, ⟨14, _⟩ => ⟨S128x1024, .f32⟩
  | .hbm, ⟨15, _⟩ => ⟨S128x1024, .f32⟩
  | .hbm, ⟨16, _⟩ => ⟨S1x1024, .f32⟩
  | .hbm, ⟨17, _⟩ => ⟨S128x1024, .f32⟩
  | .hbm, ⟨18, _⟩ => ⟨S128x1024, .f32⟩
  | .hbm, ⟨19, _⟩ => ⟨S128x3072, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | .hbm, ⟨40, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v24 : Ref sig .tc := ⟨.hbm, 40, rfl⟩

abbrev nD : Nat := 1
abbrev τ : Topo := Topo.v7x

variable {F : FTy → Type} [FloatOps F]
-- ==== GdnProjSample.lean ====
abbrev S128x1024 : Shape := ⟨2, ![128, 1024]⟩
abbrev S1024 : Shape := ⟨1, ![1024]⟩
abbrev S1024x4112 : Shape := ⟨2, ![1024, 4112]⟩
abbrev S1x1024 : Shape := ⟨2, ![1, 1024]⟩
abbrev S_ : Shape := ⟨0, ![]⟩
abbrev S1024x4224 : Shape := ⟨2, ![1024, 4224]⟩
abbrev S128x3072 : Shape := ⟨2, ![128, 3072]⟩
abbrev S128x128 : Shape := ⟨2, ![128, 128]⟩
abbrev S128 : Shape := ⟨1, ![128]⟩
abbrev S128x1 : Shape := ⟨2, ![128, 1]⟩
abbrev S128x4224 : Shape := ⟨2, ![128, 4224]⟩

abbrev nBuf : Space → Nat
  | .hbm => 11
  | .vmem => 6
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x4112, .f32⟩
  | .hbm, ⟨3, _⟩ => ⟨S1x1024, .f32⟩
  | .hbm, ⟨4, _⟩ => ⟨S_, .i32⟩
  | .hbm, ⟨5, _⟩ => ⟨S_, .f32⟩
  | .hbm, ⟨6, _⟩ => ⟨S1024x4224, .f32⟩
  | .hbm, ⟨7, _⟩ => ⟨S1024x4224, .bf16⟩
  | .hbm, ⟨8, _⟩ => ⟨S128x3072, .f32⟩
  | .hbm, ⟨9, _⟩ => ⟨S128x1024, .f32⟩
  | .hbm, ⟨10, _⟩ => ⟨S128x128, .f32⟩
  | .local _ .vmem, ⟨0, _⟩ => ⟨S128x1024, .f32⟩
  | .local _ .vmem, ⟨1, _⟩ => ⟨S1x1024, .f32⟩
  | .local _ .vmem, ⟨2, _⟩ => ⟨S1024x4224, .bf16⟩
  | .local _ .vmem, ⟨3, _⟩ => ⟨S128x3072, .f32⟩
  | .local _ .vmem, ⟨4, _⟩ => ⟨S128x1024, .f32⟩
  | .local _ .vmem, ⟨5, _⟩ => ⟨S128x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4224 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== GdnProjSampleReferenceIdeal.lean ====
abbrev S128x1024 : Shape := ⟨2, ![128, 1024]⟩
abbrev S1024 : Shape := ⟨1, ![1024]⟩
abbrev S1024x4112 : Shape := ⟨2, ![1024, 4112]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x4112 : Shape := ⟨2, ![128, 4112]⟩
abbrev S128x3072 : Shape := ⟨2, ![128, 3072]⟩
abbrev S128x16 : Shape := ⟨2, ![128, 16]⟩
abbrev S128x128 : Shape := ⟨2, ![128, 128]⟩

abbrev nBuf : Space → Nat
  | .hbm => 35
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x4112, .f32⟩
  | .hbm, ⟨3, _⟩ => ⟨S128x1024, .f32⟩
  | .hbm, ⟨4, _⟩ => ⟨S_, .f32⟩
  | .hbm, ⟨5, _⟩ => ⟨S128, .f32⟩
  | .hbm, ⟨6, _⟩ => ⟨S128x1, .f32⟩
  | .hbm, ⟨7, _⟩ => ⟨S_, .f32⟩
  | .hbm, ⟨8, _⟩ => ⟨S128x1, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S128x1, .f32⟩
  | .hbm, ⟨14, _⟩ => ⟨S128x1024, .f32⟩
  | .hbm, ⟨15, _⟩ => ⟨S128x1024, .f32⟩
  | .hbm, ⟨16, _⟩ => ⟨S1x1024, .f32⟩
  | .hbm, ⟨17, _⟩ => ⟨S128x1024, .f32⟩
  | .hbm, ⟨18, _⟩ => ⟨S128x1024, .f32⟩
  | .hbm, ⟨19, _⟩ => ⟨S128x4112, .f32⟩
  | .hbm, ⟨20, _⟩ => ⟨S128x3072, .f32⟩
  | .hbm, ⟨21, _⟩ => ⟨S128x1024, .f32⟩
  | .hbm, ⟨22, _⟩ => ⟨S128x16, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .i32⟩
  | .hbm, ⟨33, _⟩ => ⟨S_, .f32⟩
  | .hbm, ⟨34, _⟩ => ⟨S128x128, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v17 : Ref sig .tc := ⟨.hbm, 31, rfl⟩
abbrev main_c : Ref sig .tc := ⟨.hbm, 32, rfl⟩
abbrev main_call1_v0 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== NsaOutSample.lean ====
abbrev S128x1024 : Shape := ⟨2, ![128, 1024]⟩
abbrev S128x128 : Shape := ⟨2, ![128, 128]⟩
abbrev S1024x1024 : Shape := ⟨2, ![1024, 1024]⟩
abbrev S1024 : Shape := ⟨1, ![1024]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x3072 : Shape := ⟨2, ![128, 3072]⟩

abbrev nBuf : Space → Nat
  | .hbm => 57
  | .vmem => 9
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x128, .f32⟩
  | .hbm, ⟨5, _⟩ => ⟨S128x1024, .f32⟩
  | .hbm, ⟨6, _⟩ => ⟨S1024x1024, .f32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S128, .i32⟩
  | .hbm, ⟨27, _⟩ => ⟨S128x1, .i32⟩
  | .hbm, ⟨28, _⟩ => ⟨S_, .i32⟩
  | .hbm, ⟨29, _⟩ => ⟨S1024, .i32⟩
  | .hbm, ⟨30, _⟩ => ⟨S1024, .i32⟩
  | .hbm, ⟨31, _⟩ => ⟨S1x1024, .i32⟩
  | .hbm, ⟨32, _⟩ => ⟨S128x1024, .i32⟩
  | .hbm, ⟨33, _⟩ => ⟨S128x1024, .i32⟩
  | .hbm, ⟨34, _⟩ => ⟨S128x1024, .i1⟩
  | .hbm, ⟨35, _⟩ => ⟨S128, .i32⟩
  | .hbm, ⟨36, _⟩ => ⟨S128x1, .i32⟩
  | .hbm, ⟨37, _⟩ => ⟨S_, .i32⟩
  | .hbm, ⟨38, _⟩ => ⟨S1024, .i32⟩
  | .hbm, ⟨39, _⟩ => ⟨S1024, .i32⟩
  | .hbm, ⟨40, _⟩ => ⟨S1x1024, .i32⟩
  | .hbm, ⟨41, _⟩ => ⟨S128x1024, .i32⟩
  | .hbm, ⟨42, _⟩ => ⟨S128x1024, .i32⟩
  | .hbm, ⟨43, _⟩ => ⟨S128x1024, .i1⟩
  | .hbm, ⟨44, _⟩ => ⟨S128, .i32⟩
  | .hbm, ⟨45, _⟩ => ⟨S128x1, .i32⟩
  | .hbm, ⟨46, _⟩ => ⟨S_, .i32⟩
  | .hbm, ⟨47, _⟩ => ⟨S1024, .i32⟩
  | .hbm, ⟨48, _⟩ => ⟨S1024, .i32⟩
  | .hbm, ⟨49, _⟩ => ⟨S1x1024, .i32⟩
  | .hbm, ⟨50, _⟩ => ⟨S128x1024, .i32⟩
  | .hbm, ⟨51, _⟩ => ⟨S128x1024, .i32⟩
  | .hbm, ⟨52, _⟩ => ⟨S128x1024, .i1⟩
  | .hbm, ⟨53, _⟩ => ⟨S128x3072, .i1⟩
  | .hbm, ⟨54, _⟩ => ⟨S128x3072, .bf16⟩
  | .hbm, ⟨55, _⟩ => ⟨S1024x1024, .bf16⟩
  | .hbm, ⟨56, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x128, .f32⟩
  | .local _ .vmem, ⟨5, _⟩ => ⟨S128x1024, .f32⟩
  | .local _ .vmem, ⟨6, _⟩ => ⟨S128x3072, .bf16⟩
  | .local _ .vmem, ⟨7, _⟩ => ⟨S1024x1024, .bf16⟩
  | .local _ .vmem, ⟨8, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_c_0 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_c_1 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_c_2 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== NsaOutSampleReferenceIdeal.lean ====
abbrev S128x1024 : Shape := ⟨2, ![128, 1024]⟩
abbrev S128x128 : Shape := ⟨2, ![128, 128]⟩
abbrev S1024x1024 : Shape := ⟨2, ![1024, 1024]⟩
abbrev S128x48 : Shape := ⟨2, ![128, 48]⟩
abbrev S128x3x16x1 : Shape := ⟨4, ![128, 3, 16, 1]⟩
abbrev S128x1x16x1 : Shape := ⟨4, ![128, 1, 16, 1]⟩
abbrev S128x16x1 : Shape := ⟨3, ![128, 16, 1]⟩
abbrev S128x16x64 : Shape := ⟨3, ![128, 16, 64]⟩

abbrev nBuf : Space → Nat
  | .hbm => 30
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x128, .f32⟩
  | .hbm, ⟨5, _⟩ => ⟨S128x1024, .f32⟩
  | .hbm, ⟨6, _⟩ => ⟨S1024x1024, .f32⟩
  | .hbm, ⟨7, _⟩ => ⟨S128x48, .f32⟩
  | .hbm, ⟨8, _⟩ => ⟨S128x3x16x1, .f32⟩
  | .hbm, ⟨9, _⟩ => ⟨S128x1x16x1, .f32⟩
  | .hbm, ⟨10, _⟩ => ⟨S128x16x1, .f32⟩
  | .hbm, ⟨11, _⟩ => ⟨S128x16x64, .f32⟩
  | .hbm, ⟨12, _⟩ => ⟨S128x16x64, .f32⟩
  | .hbm, ⟨13, _⟩ => ⟨S128x16x64, .f32⟩
  | .hbm, ⟨14, _⟩ => ⟨S128x1x16x1, .f32⟩
  | .hbm, ⟨15, _⟩ => ⟨S128x16x1, .f32⟩
  | .hbm, ⟨16, _⟩ => ⟨S128x16x64, .f32⟩
  | .hbm, ⟨17, _⟩ => ⟨S128x16x64, .f32⟩
  | .hbm, ⟨18, _⟩ => ⟨S128x16x64, .f32⟩
  | .hbm, ⟨19, _⟩ => ⟨S128x16x64, .f32⟩
  | .hbm, ⟨20, _⟩ => ⟨S128x1x16x1, .f32⟩
  | .hbm, ⟨21, _⟩ => ⟨S128x16x1, .f32⟩
  | .hbm, ⟨22, _⟩ => ⟨S128x16x64, .f32⟩
  | .hbm, ⟨23, _⟩ => ⟨S128x16x64, .f32⟩
  | .hbm, ⟨24, _⟩ => ⟨S128x16x64, .f32⟩
  | .hbm, ⟨25, _⟩ => ⟨S128x16x64, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== NsaProjSample.lean ====
abbrev S128x1024 : Shape := ⟨2, ![128, 1024]⟩
abbrev S1024 : Shape := ⟨1, ![1024]⟩
abbrev S1024x3632 : Shape := ⟨2, ![1024, 3632]⟩
abbrev S64 : Shape := ⟨1, ![64]⟩
abbrev S3x64 : Shape := ⟨2, ![3, 64]⟩
abbrev S48 : Shape := ⟨1, ![48]⟩
abbrev S1024x1024 : Shape := ⟨2, ![1024, 1024]⟩
abbrev S1024x512 : Shape := ⟨2, ![1024, 512]⟩
abbrev S1024x48 : Shape := ⟨2, ![1024, 48]⟩
abbrev S_ : Shape := ⟨0, ![]⟩
abbrev S1024x128 : Shape := ⟨2, ![1024, 128]⟩
abbrev S1024x3712 : Shape := ⟨2, ![1024, 3712]⟩
abbrev S1x1024 : Shape := ⟨2, ![1, 1024]⟩
abbrev S1024x1 : Shape := ⟨2, ![1024, 1]⟩
abbrev S1x64 : Shape := ⟨2, ![1, 64]⟩
abbrev S16x64 : Shape := ⟨2, ![16, 64]⟩
abbrev S4x64 : Shape := ⟨2, ![4, 64]⟩
abbrev S256 : Shape := ⟨1, ![256]⟩
abbrev S1x256 : Shape := ⟨2, ![1, 256]⟩
abbrev S128 : Shape := ⟨1, ![128]⟩
abbrev S1x128 : Shape := ⟨2, ![1, 128]⟩
abbrev S128x512 : Shape := ⟨2, ![128, 512]⟩
abbrev S128x128 : Shape := ⟨2, ![128, 128]⟩
abbrev S128x1 : Shape := ⟨2, ![128, 1]⟩
abbrev S128x3712 : Shape := ⟨2, ![128, 3712]⟩
abbrev S256x256 : Shape := ⟨2, ![256, 256]⟩
abbrev S128x256 : Shape := ⟨2, ![128, 256]⟩

abbrev nBuf : Space → Nat
  | .hbm => 72
  | .vmem => 14
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x3632, .f32⟩
  | .hbm, ⟨3, _⟩ => ⟨S64, .f32⟩
  | .hbm, ⟨4, _⟩ => ⟨S3x64, .f32⟩
  | .hbm, ⟨5, _⟩ => ⟨S48, .f32⟩
  | .hbm, ⟨6, _⟩ => ⟨S1024x1024, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x48, .f32⟩
  | .hbm, ⟨11, _⟩ => ⟨S1024x1024, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x3712, .f32⟩
  | .hbm, ⟨16, _⟩ => ⟨S1024x3712, .bf16⟩
  | .hbm, ⟨17, _⟩ => ⟨S1x1024, .f32⟩
  | .hbm, ⟨18, _⟩ => ⟨S1024, .i32⟩
  | .hbm, ⟨19, _⟩ => ⟨S_, .i32⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S1024, .i32⟩
  | .hbm, ⟨24, _⟩ => ⟨S_, .i32⟩
  | .hbm, ⟨25, _⟩ => ⟨S1024, .i32⟩
  | .hbm, ⟨26, _⟩ => ⟨S1024, .i1⟩
  | .hbm, ⟨27, _⟩ => ⟨S1024, .i32⟩
  | .hbm, ⟨28, _⟩ => ⟨S1024, .i32⟩
  | .hbm, ⟨29, _⟩ => ⟨S_, .i32⟩
  | .hbm, ⟨30, _⟩ => ⟨S1024, .i32⟩
  | .hbm, ⟨31, _⟩ => ⟨S1024, .i1⟩
  | .hbm, ⟨32, _⟩ => ⟨S1024, .i1⟩
  | .hbm, ⟨33, _⟩ => ⟨S_, .i32⟩
  | .hbm, ⟨34, _⟩ => ⟨S1024, .i32⟩
  | .hbm, ⟨35, _⟩ => ⟨S1024, .i32⟩
  | .hbm, ⟨36, _⟩ => ⟨S1024, .i32⟩
  | .hbm, ⟨37, _⟩ => ⟨S1024x1, .i32⟩
  | .hbm, ⟨38, _⟩ => ⟨S1x1024, .i32⟩
  | .hbm, ⟨39, _⟩ => ⟨S1024x1024, .i32⟩
  | .hbm, ⟨40, _⟩ => ⟨S1024x1024, .i32⟩
  | .hbm, ⟨41, _⟩ => ⟨S1024x1024, .i1⟩
  | .hbm, ⟨42, _⟩ => ⟨S1024x1024, .bf16⟩
  | .hbm, ⟨43, _⟩ => ⟨S1x64, .f32⟩
  | .hbm, ⟨44, _⟩ => ⟨S16x64, .f32⟩
  | .hbm, ⟨45, _⟩ => ⟨S1024, .f32⟩
  | .hbm, ⟨46, _⟩ => ⟨S_, .f32⟩
  | .hbm, ⟨47, _⟩ => ⟨S1024, .f32⟩
  | .hbm, ⟨48, _⟩ => ⟨S1024, .f32⟩
  | .hbm, ⟨49, _⟩ => ⟨S1x1024, .f32⟩
  | .hbm, ⟨50, _⟩ => ⟨S1x64, .f32⟩
  | .hbm, ⟨51, _⟩ => ⟨S64, .f32⟩
  | .hbm, ⟨52, _⟩ => ⟨S1x64, .f32⟩
  | .hbm, ⟨53, _⟩ => ⟨S4x64, .f32⟩
  | .hbm, ⟨54, _⟩ => ⟨S256, .f32⟩
  | .hbm, ⟨55, _⟩ => ⟨S1x256, .f32⟩
  | .hbm, ⟨56, _⟩ => ⟨S1x64, .f32⟩
  | .hbm, ⟨57, _⟩ => ⟨S64, .f32⟩
  | .hbm, ⟨58, _⟩ => ⟨S1x64, .f32⟩
  | .hbm, ⟨59, _⟩ => ⟨S4x64, .f32⟩
  | .hbm, ⟨60, _⟩ => ⟨S256, .f32⟩
  | .hbm, ⟨61, _⟩ => ⟨S1x256, .f32⟩
  | .hbm, ⟨62, _⟩ => ⟨S_, .i32⟩
  | .hbm, ⟨63, _⟩ => ⟨S_, .f32⟩
  | .hbm, ⟨64, _⟩ => ⟨S128, .f32⟩
  | .hbm, ⟨65, _⟩ => ⟨S1x128, .f32⟩
  | .hbm, ⟨66, _⟩ => ⟨S128x1024, .bf16⟩
  | .hbm, ⟨67, _⟩ => ⟨S128x512, .f32⟩
  | .hbm, ⟨68, _⟩ => ⟨S128x512, .f32⟩
  | .hbm, ⟨69, _⟩ => ⟨S128x512, .f32⟩
  | .hbm, ⟨70, _⟩ => ⟨S128x1024, .f32⟩
  | .hbm, ⟨71, _⟩ => ⟨S128x128, .f32⟩
  | .local _ .vmem, ⟨0, _⟩ => ⟨S128x1024, .f32⟩
  | .local _ .vmem, ⟨1, _⟩ => ⟨S1x1024, .f32⟩
  | .local _ .vmem, ⟨2, _⟩ => ⟨S1024x3712, .bf16⟩
  | .local _ .vmem, ⟨3, _⟩ => ⟨S1024x1024, .bf16⟩
  | .local _ .vmem, ⟨4, _⟩ => ⟨S1x1024, .f32⟩
  | .local _ .vmem, ⟨5, _⟩ => ⟨S1x256, .f32⟩
  | .local _ .vmem, ⟨6, _⟩ => ⟨S1x256, .f32⟩
  | .local _ .vmem, ⟨7, _⟩ => ⟨S1x128, .f32⟩
  | .local _ .vmem, ⟨8, _⟩ => ⟨S128x1024, .bf16⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x1024, .f32⟩
  | .local _ .vmem, ⟨13, _⟩ => ⟨S128x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_v6 : Ref sig .tc := ⟨.hbm, 26, rfl⟩
abbrev main_call1_v7 : Ref sig .tc := ⟨.hbm, 27, rfl⟩
abbrev main_call1_v8 : Ref sig .tc := ⟨.hbm, 28, rfl⟩
abbrev main_call1_c : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_c_0 : Ref sig .tc := ⟨.hbm, 33, rfl⟩
abbrev main_call1_v12 : Ref sig .tc := ⟨.hbm, 34, rfl⟩
abbrev main_call1_v13 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_1 : Ref sig .tc := ⟨.hbm, 62, rfl⟩
abbrev main_call2_v0 : Ref sig .tc := ⟨.hbm, 63, rfl⟩
abbrev main_v36 : Ref sig .tc := ⟨.hbm, 64, rfl⟩
abbrev main_v37 : Ref sig .tc := ⟨.hbm, 65, rfl⟩
abbrev main_v38_0 : Ref sig .tc := ⟨.hbm, 66, rfl⟩
abbrev main_v38_1 : Ref sig .tc := ⟨.hbm, 67, rfl⟩
abbrev main_v38_2 : Ref sig .tc := ⟨.hbm, 68, rfl⟩
abbrev main_v38_3 : Ref sig .tc := ⟨.hbm, 69, rfl⟩
abbrev main_v38_4 : Ref sig .tc := ⟨.hbm, 70, rfl⟩
abbrev main_v38_5 : Ref sig .tc := ⟨.hbm, 71, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== NsaProjSampleReferenceIdeal.lean ====
abbrev S128x1024 : Shape := ⟨2, ![128, 1024]⟩
abbrev S1024 : Shape := ⟨1, ![1024]⟩
abbrev S1024x3632 : Shape := ⟨2, ![1024, 3632]⟩
abbrev S64 : Shape := ⟨1, ![64]⟩
abbrev S3x64 : Shape := ⟨2, ![3, 64]⟩
abbrev S48 : Shape := ⟨1, ![48]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x3632 : Shape := ⟨2, ![128, 3632]⟩
abbrev S128x512 : Shape := ⟨2, ![128, 512]⟩
abbrev S128x48 : Shape := ⟨2, ![128, 48]⟩
abbrev S128x16x64 : Shape := ⟨3, ![128, 16, 64]⟩
abbrev S128x16 : Shape := ⟨2, ![128, 16]⟩
abbrev S128x16x1 : Shape := ⟨3, ![128, 16, 1]⟩
abbrev S1x1x64 : Shape := ⟨3, ![1, 1, 64]⟩
abbrev S128x256 : Shape := ⟨2, ![128, 256]⟩
abbrev S128x4x64 : Shape := ⟨3, ![128, 4, 64]⟩
abbrev S1x64 : Shape := ⟨2, ![1, 64]⟩
abbrev S128x4 : Shape := ⟨2, ![128, 4]⟩
abbrev S128x4x1 : Shape := ⟨3, ![128, 4, 1]⟩
abbrev S1x48 : Shape := ⟨2, ![1, 48]⟩
abbrev S128x128 : Shape := ⟨2, ![128, 128]⟩

abbrev nBuf : Space → Nat
  | .hbm => 120
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x3632, .f32⟩
  | .hbm, ⟨3, _⟩ => ⟨S64, .f32⟩
  | .hbm, ⟨4, _⟩ => ⟨S3x64, .f32⟩
  | .hbm, ⟨5, _⟩ => ⟨S48, .f32⟩
  | .hbm, ⟨6, _⟩ => ⟨S128x1024, .f32⟩
  | .hbm, ⟨7, _⟩ => ⟨S_, .f32⟩
  | .hbm, ⟨8, _⟩ => ⟨S128, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S_, .f32⟩
  | .hbm, ⟨14, _⟩ => ⟨S128x1, .f32⟩
  | .hbm, ⟨15, _⟩ => ⟨S128x1, .f32⟩
  | .hbm, ⟨16, _⟩ => ⟨S128x1, .f32⟩
  | .hbm, ⟨17, _⟩ => ⟨S128x1024, .f32⟩
  | .hbm, ⟨18, _⟩ => ⟨S128x1024, .f32⟩
  | .hbm, ⟨19, _⟩ => ⟨S1x1024, .f32⟩
  | .hbm, ⟨20, _⟩ => ⟨S128x1024, .f32⟩
  | .hbm, ⟨21, _⟩ => ⟨S128x1024, .f32⟩
  | .hbm, ⟨22, _⟩ => ⟨S128x3632, .f32⟩
  | .hbm, ⟨23, _⟩ => ⟨S128x1024, .f32⟩
  | .hbm, ⟨24, _⟩ => ⟨S128x512, .f32⟩
  | .hbm, ⟨25, _⟩ => ⟨S128x512, .f32⟩
  | .hbm, ⟨26, _⟩ => ⟨S128x512, .f32⟩
  | .hbm, ⟨27, _⟩ => ⟨S128x48, .f32⟩
  | .hbm, ⟨28, _⟩ => ⟨S128x1024, .f32⟩
  | .hbm, ⟨29, _⟩ => ⟨S128x16x64, .f32⟩
  | .hbm, ⟨30, _⟩ => ⟨S128x16x64, .f32⟩
  | .hbm, ⟨31, _⟩ => ⟨S_, .f32⟩
  | .hbm, ⟨32, _⟩ => ⟨S128x16, .f32⟩
  | .hbm, ⟨33, _⟩ => ⟨S128x16x1, .f32⟩
  | .hbm, ⟨34, _⟩ => ⟨S_, .f32⟩
  | .hbm, ⟨35, _⟩ => ⟨S128x16x1, .f32⟩
  | .hbm, ⟨36, _⟩ => ⟨S128x16x1, .f32⟩
  | .hbm, ⟨37, _⟩ => ⟨S_, .f32⟩
  | .hbm, ⟨38, _⟩ => ⟨S128x16x1, .f32⟩
  | .hbm, ⟨39, _⟩ => ⟨S128x16x1, .f32⟩
  | .hbm, ⟨40, _⟩ => ⟨S128x16x1, .f32⟩
  | .hbm, ⟨41, _⟩ => ⟨S128x16x64, .f32⟩
  | .hbm, ⟨42, _⟩ => ⟨S128x16x64, .f32⟩
  | .hbm, ⟨43, _⟩ => ⟨S1x1x64, .f32⟩
  | .hbm, ⟨44, _⟩ => ⟨S128x16x64, .f32⟩
  | .hbm, ⟨45, _⟩ => ⟨S128x16x64, .f32⟩
  | .hbm, ⟨46, _⟩ => ⟨S_, .f32⟩
  | .hbm, ⟨47, _⟩ => ⟨S128x16x64, .f32⟩
  | .hbm, ⟨48, _⟩ => ⟨S128x16x64, .f32⟩
  | .hbm, ⟨49, _⟩ => ⟨S128x256, .f32⟩
  | .hbm, ⟨50, _⟩ => ⟨S128x4x64, .f32⟩
  | .hbm, ⟨51, _⟩ => ⟨S1x64, .f32⟩
  | .hbm, ⟨52, _⟩ => ⟨S64, .f32⟩
  | .hbm, ⟨53, _⟩ => ⟨S128x4x64, .f32⟩
  | .hbm, ⟨54, _⟩ => ⟨S_, .f32⟩
  | .hbm, ⟨55, _⟩ => ⟨S128x4, .f32⟩
  | .hbm, ⟨56, _⟩ => ⟨S128x4x1, .f32⟩
  | .hbm, ⟨57, _⟩ => ⟨S_, .f32⟩
  | .hbm, ⟨58, _⟩ => ⟨S128x4x1, .f32⟩
  | .hbm, ⟨59, _⟩ => ⟨S128x4x1, .f32⟩
  | .hbm, ⟨60, _⟩ => ⟨S_, .f32⟩
  | .hbm, ⟨61, _⟩ => ⟨S128x4x1, .f32⟩
  | .hbm, ⟨62, _⟩ => ⟨S128x4x1, .f32⟩
  | .hbm, ⟨63, _⟩ => ⟨S128x4x1, .f32⟩
  | .hbm, ⟨64, _⟩ => ⟨S128x4x64, .f32⟩
  | .hbm, ⟨65, _⟩ => ⟨S128x4x64, .f32⟩
  | .hbm, ⟨66, _⟩ => ⟨S1x1x64, .f32⟩
  | .hbm, ⟨67, _⟩ => ⟨S128x4x64, .f32⟩
  | .hbm, ⟨68, _⟩ => ⟨S128x4x64, .f32⟩
  | .hbm, ⟨69, _⟩ => ⟨S128x256, .f32⟩
  | .hbm, ⟨70, _⟩ => ⟨S128x4x64, .f32⟩
  | .hbm, ⟨71, _⟩ => ⟨S1x64, .f32⟩
  | .hbm, ⟨72, _⟩ => ⟨S64, .f32⟩
  | .hbm, ⟨73, _⟩ => ⟨S128x4x64, .f32⟩
  | .hbm, ⟨74, _⟩ => ⟨S_, .f32⟩
  | .hbm, ⟨75, _⟩ => ⟨S128x4, .f32⟩
  | .hbm, ⟨76, _⟩ => ⟨S128x4x1, .f32⟩
  | .hbm, ⟨77, _⟩ => ⟨S_, .f32⟩
  | .hbm, ⟨78, _⟩ => ⟨S128x4x1, .f32⟩
  | .hbm, ⟨79, _⟩ => ⟨S128x4x1, .f32⟩
  | .hbm, ⟨80, _⟩ => ⟨S_, .f32⟩
  | .hbm, ⟨81, _⟩ => ⟨S128x4x1, .f32⟩
  | .hbm, ⟨82, _⟩ => ⟨S128x4x1, .f32⟩
  | .hbm, ⟨83, _⟩ => ⟨S128x4x1, .f32⟩
  | .hbm, ⟨84, _⟩ => ⟨S128x4x64, .f32⟩
  | .hbm, ⟨85, _⟩ => ⟨S128x4x64, .f32⟩
  | .hbm, ⟨86, _⟩ => ⟨S1x1x64, .f32⟩
  | .hbm, ⟨87, _⟩ => ⟨S128x4x64, .f32⟩
  | .hbm, ⟨88, _⟩ => ⟨S128x4x64, .f32⟩
  | .hbm, ⟨89, _⟩ => ⟨S128x256, .f32⟩
  | .hbm, ⟨90, _⟩ => ⟨S128x256, .f32⟩
  | .hbm, ⟨91, _⟩ => ⟨S128x512, .f32⟩
  | .hbm, ⟨92, _⟩ => ⟨S128x256, .f32⟩
  | .hbm, ⟨93, _⟩ => ⟨S128x256, .f32⟩
  | .hbm, ⟨94, _⟩ => ⟨S128x512, .f32⟩
  | .hbm, ⟨95, _⟩ => ⟨S1x48, .f32⟩
  | .hbm, ⟨96, _⟩ => ⟨S128x48, .f32⟩
  | .hbm, ⟨97, _⟩ => ⟨S128x48, .f32⟩
  | .hbm, ⟨98, _⟩ => ⟨S_, .i32⟩
  | .hbm, ⟨99, _⟩ => ⟨S_, .f32⟩
  | .hbm, ⟨100, _⟩ => ⟨S128x128, .f32⟩
  | .hbm, ⟨101, _⟩ => ⟨S128x128, .f32⟩
  | .hbm, ⟨102, _⟩ => ⟨S128x128, .f32⟩
  | .hbm, ⟨103, _⟩ => ⟨S_, .f32⟩
  | .hbm, ⟨104, _⟩ => ⟨S128x128, .f32⟩
  | .hbm, ⟨105, _⟩ => ⟨S128x128, .f32⟩
  | .hbm, ⟨106, _⟩ => ⟨S_, .f32⟩
  | .hbm, ⟨107, _⟩ => ⟨S128x128, .f32⟩
  | .hbm, ⟨108, _⟩ => ⟨S128x128, .f32⟩
  | .hbm, ⟨109, _⟩ => ⟨S128x1024, .f32⟩
  | .hbm, ⟨110, _⟩ => ⟨S128x1024, .bf16⟩
  | .hbm, ⟨111, _⟩ => ⟨S128x1024, .f32⟩
  | .hbm, ⟨112, _⟩ => ⟨S128x1024, .f32⟩
  | .hbm, ⟨113, _⟩ => ⟨S_, .f32⟩
  | .hbm, ⟨114, _⟩ => ⟨S128x1024, .f32⟩
  | .hbm, ⟨115, _⟩ => ⟨S128x1024, .f32⟩
  | .hbm, ⟨116, _⟩ => ⟨S_, .f32⟩
  | .hbm, ⟨117, _⟩ => ⟨S128x1024, .f32⟩
  | .hbm, ⟨118, _⟩ => ⟨S128x1024, .f32⟩
  | .hbm, ⟨119, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_9 : Ref sig .tc := ⟨.hbm, 74, rfl⟩
abbrev main_v58 : Ref sig .tc := ⟨.hbm, 75, rfl⟩
abbrev main_v59 : Ref sig .tc := ⟨.hbm, 76, rfl⟩
abbrev main_cst_10 : Ref sig .tc := ⟨.hbm, 77, rfl⟩
abbrev main_v60 : Ref sig .tc := ⟨.hbm, 78, rfl⟩
abbrev main_v61 : Ref sig .tc := ⟨.hbm, 79, rfl⟩
abbrev main_cst_11 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_c : Ref sig .tc := ⟨.hbm, 98, rfl⟩
abbrev main_call0_v0 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_12 : Ref sig .tc := ⟨.hbm, 103, rfl⟩
abbrev main_v82 : Ref sig .tc := ⟨.hbm, 104, rfl⟩
abbrev main_v83 : Ref sig .tc := ⟨.hbm, 105, rfl⟩
abbrev main_cst_13 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_call1_v0 : Ref sig .tc := ⟨.hbm, 111, rfl⟩
abbrev main_call1_v1 : Ref sig .tc := ⟨.hbm, 112, rfl⟩
abbrev main_call1_cst : Ref sig .tc := ⟨.hbm, 113, rfl⟩
abbrev main_call1_v2 : Ref sig .tc := ⟨.hbm, 114, rfl⟩
abbrev main_call1_v3 : Ref sig .tc := ⟨.hbm, 115, rfl⟩
abbrev main_call1_cst_0 : Ref sig .tc := ⟨.hbm, 116, rfl⟩
abbrev main_call1_v4 : Ref sig .tc := ⟨.hbm, 117, rfl⟩
abbrev main_call1_v5 : Ref sig .tc := ⟨.hbm, 118, rfl⟩
abbrev main_v88 : Ref sig .tc := ⟨.hbm, 119, rfl⟩

abbrev nD : Nat := 1
abbrev τ : Topo := Topo.v7x

variable {F : FTy → Type} [FloatOps F]
-- ==== Proof.Projection.lean ====
/- The arithmetic of a layer's input projection: a normed row against a column of weights, and the gates. -/
module

public import Idealize.ShloMosaic.Lib.Pointwise

@[expose] public section

noncomputable section

namespace Cert.Proj

open Idealize.ShloMosaic

/-- The reciprocal root of a row's mean square, with the norm's small constant. -/
def scale (n : EReal) (s : EReal) : EReal :=
  Ideal.rsqrt (Ideal.div s n + Ideal.ofBits .f32 0x358637BD#32)

/-- An entry of a row of 1024 after the norm. -/
def normed (x g : Fin 1024 → EReal) (d : Fin 1024) : EReal :=
  x d * scale (Ideal.ofBits .f32 0x44800000#32) (∑ k, x k * x k) * g d

/-- The product of a normed row and a column of weights. -/
def project (x g w : Fin 1024 → EReal) : EReal := ∑ d, normed x g d * w d

/-- The logistic function. -/
def sigmoid (z : EReal) : EReal := Ideal.div 1 (1 + Ideal.exp (-z))

/-- The swish function. -/
def silu (z : EReal) : EReal := z * sigmoid z

/-- The products of every normed row of a matrix with each column of weights. -/
def entry {a n : Nat} (x : FVec Ideal ⟨2, ![a, 1024]⟩ .f32) (g : FVec Ideal ⟨1, ![1024]⟩ .f32)
    (w : FVec Ideal ⟨2, ![1024, n]⟩ .f32) (r : Fin a) (c : Fin n) : EReal :=
  project (fun d => x (ix2 r d)) (fun d => g (ix1 d)) (fun d => w (ix2 d c))

/-- A block's values at its own indices, placed in an array whose index has the given coordinates. -/
theorem placed {a b n k : Nat} {α : Type} (O : (⟨2, ![a, b]⟩ : Shape).Idx → α) (G : (⟨2, ![n, k]⟩ : Shape).Idx → α)
    (row : Fin a → Fin n) (col : Fin b → Fin k) (h : ∀ p q, O (ix2 p q) = G (ix2 (row p) (col q)))
    (y : (⟨2, ![a, b]⟩ : Shape).Idx) (j : (⟨2, ![n, k]⟩ : Shape).Idx)
    (h0 : (j 0).val = (row (y 0)).val) (h1 : (j 1).val = (col (y 1)).val) : O y = G j := by
  have ey : O y = O (ix2 (n0 := a) (n1 := b) (y 0) (y 1)) := congrArg O (eq_ix2 y)
  have ej : j = ix2 (n0 := n) (n1 := k) (row (y 0)) (col (y 1)) :=
    (eq_ix2 j).trans (congr (congrArg ix2 (Fin.ext h0)) (Fin.ext h1))
  exact ey.trans ((h (y 0) (y 1)).trans (congrArg G ej.symm))

/-- The padding word's value. -/
theorem zero_word : (FloatOps.sitofp (F := Ideal) .f32 (0#32 : BitVec 32)) = (0 : EReal) := by
  show (((0#32 : BitVec 32).toInt : ℝ) : EReal) = 0
  simp

/-- A column of zero weights gives zero. -/
theorem project_zero (x g : Fin 1024 → EReal) : project x g (fun _ => 0) = 0 := by
  simp [project]

end Cert.Proj

end
-- ==== Proof.ConfSample.lean ====
/- The input projection of the convolution layer on the sample's rows: one block's rows, the arrays, the reference's arrays. -/
module

public import proofs.«01_k».proof.Proof.Gen.ConfProjSampleIdeal.Value
public import proofs.«01_k».proof.Proof.Gen.ConfProjSampleReferenceIdeal.Run
public import proofs.«01_k».proof.Proof.Projection
public import Idealize.ShloMosaic.Lib.Pipeline.ValueKit
public import Idealize.ShloMosaic.Lib.Claim

@[expose] public section

noncomputable section

namespace Cert.ConfSample

open Cert.ConfProjSampleIdeal Cert.ConfProjSampleIdeal.Gen Idealize.ShloMosaic Idealize.ShloMosaic.TcCoe Idealize.SL.Sem
open Cert.Proj

variable (m : (ℓ : Loc nD τ sig) → Buf (Elt Ideal) ℓ)

/-- A block's products: each row of the block, normed, against each column of the weights. -/
theorem products_at (x0 : Vec Ideal S128x1024 .f32) (x1 : Vec Ideal S1x1024 .f32) (x2 : Vec Ideal S1024x3072 .bf16)
    (y : Fin 128) (k : Fin 3072) :
    k0_pay1 x0 x1 x2 (ix2 y k) = project (fun d => x0 (ix2 y d)) (fun d => x1 (ix2 0 d)) (fun d => x2 (ix2 d k)) := by
  unfold project normed scale
  pointwise [k0_pay1]

/-- The first store's block. -/
theorem first_at (x0 : Vec Ideal S128x1024 .f32) (x1 : Vec Ideal S1x1024 .f32) (x2 : Vec Ideal S1024x3072 .bf16)
    (y : Fin 128) (k : Fin 1024) :
    out0_3 x0 x1 x2 (ix2 y k)
      = project (fun d => x0 (ix2 y d)) (fun d => x1 (ix2 0 d)) (fun d => x2 (ix2 d ⟨k.val, by omega⟩))
        * sigmoid (project (fun d => x0 (ix2 y d)) (fun d => x1 (ix2 0 d)) (fun d => x2 (ix2 d ⟨1024 + k.val, by omega⟩))) := by
  rw [← products_at, ← products_at]
  unfold sigmoid
  frame_out
  pointwise [k0_pay2]
  rw [zero_sub]

/-- The second store's block. -/
theorem second_at (x0 : Vec Ideal S128x1024 .f32) (x1 : Vec Ideal S1x1024 .f32) (x2 : Vec Ideal S1024x3072 .bf16)
    (y : Fin 128) (k : Fin 1024) :
    out0_4 x0 x1 x2 (ix2 y k)
      = silu (project (fun d => x0 (ix2 y d)) (fun d => x1 (ix2 0 d)) (fun d => x2 (ix2 d ⟨2048 + k.val, by omega⟩))) := by
  rw [← products_at]
  unfold silu sigmoid
  frame_out
  pointwise [k0_pay3]
  rw [zero_sub]

/-- Where a grid point's blocks lie. -/
theorem places : ∀ t : Fin cfg0.N,
    win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- The row of gains the region reads. -/
theorem gain_entry (c : Dev nD) (d : Fin 1024) :
    (V m c main_v0 : FVec Ideal S1x1024 .f32) (ix2 0 d) = m ((c : Thread nD τ).loc main_arg1) (ix1 d) := by
  show broadcastInDim S1x1024 ![1] bcast_S1024_S1x1024_1 (m ((c : Thread nD τ).loc main_arg1)) (ix2 0 d) = _
  pointwise

/-- The weights the region reads are the argument's. -/
theorem weight_entry (c : Dev nD) (d : Fin 1024) (k : Fin 3072) :
    (V m c main_v1 : FVec Ideal S1024x3072 .bf16) (ix2 d k) = m ((c : Thread nD τ).loc main_arg2) (ix2 d k) := by
  rfl

/-- The array's row of a block's row. -/
def rowOf (t : Fin cfg0.N) (y : Fin 128) : Fin 128 :=
  ⟨t.val * 128 + y.val, by have := t.isLt; have e : cfg0.N = 1 := rfl; omega⟩

/-- The block of rows. -/
theorem row_block (c : Dev nD) (t : Fin cfg0.N) (y : Fin 128) (d : Fin 1024) :
    iblk m c 0 t (ix2 y d) = m ((c : Thread nD τ).loc main_arg0) (ix2 (rowOf t y) d) := by
  unfold rowOf
  blk_ext [iblk, V, places t]

/-- The block of gains is the gains. -/
theorem gain_block (c : Dev nD) (t : Fin cfg0.N) (d : Fin 1024) :
    iblk m c 1 t (ix2 0 d) = m ((c : Thread nD τ).loc main_arg1) (ix1 d) := by
  refine Eq.trans ?_ (gain_entry m c d)
  blk_ext [iblk, places t]

/-- The block of weights is the weights. -/
theorem weight_block (c : Dev nD) (t : Fin cfg0.N) (d : Fin 1024) (k : Fin 3072) :
    iblk m c 2 t (ix2 d k) = m ((c : Thread nD τ).loc main_arg2) (ix2 d k) := by
  refine Eq.trans ?_ (weight_entry m c d k)
  blk_ext [iblk, places t]

/-- The blocks' products are the array's. -/
theorem block_entry (c : Dev nD) (t : Fin cfg0.N) (y : Fin 128) (k : Fin 3072) :
    project (fun d => iblk m c 0 t (ix2 y d)) (fun d => iblk m c 1 t (ix2 0 d)) (fun d => iblk m c 2 t (ix2 d k))
      = entry (m ((c : Thread nD τ).loc main_arg0)) (m ((c : Thread nD τ).loc main_arg1)) (m ((c : Thread nD τ).loc main_arg2))
          (rowOf t y) k := by
  rw [funext (row_block m c t y), funext (gain_block m c t), funext fun d => weight_block m c t d k]
  rfl

/-- The blocks of each result cover its array. -/
theorem covers3 : (cfg0.win 3).Covers := by decide +kernel

theorem covers4 : (cfg0.win 4).Covers := by decide +kernel

/-- The first result's array, from what each block holds. -/
theorem assemble3 (c : Dev nD) (G : FVec Ideal S128x1024 .f32)
    (hp : ∀ (t : Fin cfg0.N) (y : Fin 128) (k : Fin 1024),
      out0_3 (iblk m c 0 t) (iblk m c 1 t) (iblk m c 2 t) (ix2 y k) = G (ix2 (rowOf t y) k)) :
    (dats m 0 c).arrAt 3 cfg0.N = G := by
  refine (dats m 0 c).arrAt_eq_of_covers 3 _ covers3 fun t _ y => ?_
  rw [after0_3]
  blk_simp [places t]
  refine placed _ G (rowOf t) id (hp t) y _ ?_ ?_
  · blk_simp [places t, rowOf]
  · blk_simp [places t, id]

/-- The first result is the first third under the gate of the second. -/
theorem final3 (c : Dev nD) (G : FVec Ideal S128x1024 .f32)
    (hG : ∀ r k, G (ix2 r k)
      = entry (m ((c : Thread nD τ).loc main_arg0)) (m ((c : Thread nD τ).loc main_arg1)) (m ((c : Thread nD τ).loc main_arg2)) r ⟨k.val, by omega⟩
        * sigmoid (entry (m ((c : Thread nD τ).loc main_arg0)) (m ((c : Thread nD τ).loc main_arg1)) (m ((c : Thread nD τ).loc main_arg2)) r ⟨1024 + k.val, by omega⟩)) :
    (dats m 0 c).arrAt 3 cfg0.N = G := by
  refine assemble3 m c G fun t y k => ?_
  rw [first_at, block_entry, block_entry, hG]

/-- The second result's array, from what each block holds. -/
theorem assemble4 (c : Dev nD) (G : FVec Ideal S128x1024 .f32)
    (hp : ∀ (t : Fin cfg0.N) (y : Fin 128) (k : Fin 1024),
      out0_4 (iblk m c 0 t) (iblk m c 1 t) (iblk m c 2 t) (ix2 y k) = G (ix2 (rowOf t y) k)) :
    (dats m 0 c).arrAt 4 cfg0.N = G := by
  refine (dats m 0 c).arrAt_eq_of_covers 4 _ covers4 fun t _ y => ?_
  rw [after0_4]
  blk_simp [places t]
  refine placed _ G (rowOf t) id (hp t) y _ ?_ ?_
  · blk_simp [places t, rowOf]
  · blk_simp [places t, id]

/-- The second result is the swish of the last third. -/
theorem final4 (c : Dev nD) (G : FVec Ideal S128x1024 .f32)
    (hG : ∀ r k, G (ix2 r k)
      = silu (entry (m ((c : Thread nD τ).loc main_arg0)) (m ((c : Thread nD τ).loc main_arg1)) (m ((c : Thread nD τ).loc main_arg2)) r ⟨2048 + k.val, by omega⟩)) :
    (dats m 0 c).arrAt 4 cfg0.N = G := by
  refine assemble4 m c G fun t y k => ?_
  rw [second_at, block_entry, hG]

end Cert.ConfSample

end
-- ==== Proof.ConfSampleReference.lean ====
/- The reference's input projection of the convolution layer on the sample's rows, index by index. -/
module

public import proofs.«01_k».proof.Proof.Gen.ConfProjSampleReferenceIdeal.Run
public import proofs.«01_k».proof.Proof.Projection
public import Idealize.ShloMosaic.Lib.Pipeline.ValueKit

@[expose] public section

noncomputable section

namespace Cert.ConfSampleReference

open Cert.ConfProjSampleReferenceIdeal Cert.ConfProjSampleReferenceIdeal.Gen Idealize.ShloMosaic Idealize.ShloMosaic.TcCoe Idealize.SL.Sem
open Cert.Proj

/-- The normed rows times the weights, as the reference writes them. -/
def products (x : FVec Ideal S128x1024 .f32) (g : FVec Ideal S1024 .f32) (w : FVec Ideal S1024x3072 .f32) :
    FVec Ideal S128x3072 .f32 :=
  Host.dotGeneral dot_S128x1024_S1024x3072_S128x3072_1_0_0_1_n_n none (mulf (mulf x (broadcastInDim S128x1024 ![0, 1] bcast_S128x1_S128x1024_0_1 (Host.rsqrt (addf (Host.divf (broadcastInDim S128x1 ![0] bcast_S128_S128x1_0 (Host.reduceAdd (mulf x x) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x358637BD#32)))))) (broadcastInDim S128x1024 ![0, 1] bcast_S1x1024_S128x1024_0_1 (broadcastInDim S1x1024 ![1] bcast_S1024_S1x1024_1 g))) w

theorem products_at (x : FVec Ideal S128x1024 .f32) (g : FVec Ideal S1024 .f32) (w : FVec Ideal S1024x3072 .f32)
    (r : Fin 128) (k : Fin 3072) : products x g w (ix2 r k) = entry x g w r k := by
  unfold entry project normed scale
  pointwise [products]

/-- The logistic function, as the reference writes it. -/
def gate (z : FVec Ideal S128x1024 .f32) : FVec Ideal S128x1024 .f32 :=
  Host.divf (broadcastInDim S128x1024 ![] bcast_S_S128x1024 (constant S_ .f32 0x3F800000#32)) (addf (broadcastInDim S128x1024 ![] bcast_S_S128x1024 (constant S_ .f32 0x3F800000#32)) (Host.exp (Host.negf z)))

/-- The reference's logistic, at an index. -/
theorem gate_at (z : FVec Ideal S128x1024 .f32) (r : Fin 128) (k : Fin 1024) : gate z (ix2 r k) = sigmoid (z (ix2 r k)) := by
  unfold sigmoid
  pointwise [gate]

/-- The first result: the first third under the gate of the second. -/
theorem first (x : FVec Ideal S128x1024 .f32) (g : FVec Ideal S1024 .f32) (w : FVec Ideal S1024x3072 .f32)
    (r : Fin 128) (k : Fin 1024) :
    mulf (extractStridedSlice S128x1024 ![0, 0] (products x g w) slices_S128x3072_S128x1024_0_0)
        (gate (extractStridedSlice S128x1024 ![0, 1024] (products x g w) slices_S128x3072_S128x1024_0_1024)) (ix2 r k)
      = entry x g w r ⟨k.val, by omega⟩ * sigmoid (entry x g w r ⟨1024 + k.val, by omega⟩) := by
  rw [← products_at, ← products_at]
  pointwise
  rw [gate_at]
  pointwise

/-- The second result: the last third, through the swish. -/
theorem second (x : FVec Ideal S128x1024 .f32) (g : FVec Ideal S1024 .f32) (w : FVec Ideal S1024x3072 .f32)
    (r : Fin 128) (k : Fin 1024) :
    mulf (extractStridedSlice S128x1024 ![0, 2048] (products x g w) slices_S128x3072_S128x1024_0_2048)
        (gate (extractStridedSlice S128x1024 ![0, 2048] (products x g w) slices_S128x3072_S128x1024_0_2048)) (ix2 r k)
      = silu (entry x g w r ⟨2048 + k.val, by omega⟩) := by
  unfold silu
  rw [← products_at]
  pointwise
  rw [gate_at]
  pointwise

end Cert.ConfSampleReference

end
-- ==== Proof.GdnSample.lean ====
/- The input projection of the recurrent layer on the sample's rows: one block's rows, the arrays, the reference's arrays. -/
module

public import proofs.«01_k».proof.Proof.Gen.GdnProjSampleIdeal.Value
public import proofs.«01_k».proof.Proof.Gen.GdnProjSampleReferenceIdeal.Run
public import proofs.«01_k».proof.Proof.Projection
public import Idealize.ShloMosaic.Lib.Pipeline.ValueKit
public import Idealize.ShloMosaic.Lib.Claim

@[expose] public section

noncomputable section

namespace Cert.GdnSample

open Cert.GdnProjSampleIdeal Cert.GdnProjSampleIdeal.Gen Idealize.ShloMosaic Idealize.ShloMosaic.TcCoe Idealize.SL.Sem
open Cert.Proj

variable (m : (ℓ : Loc nD τ sig) → Buf (Elt Ideal) ℓ)

/-- A block's products: each row of the block, normed, against each column of the weights. -/
theorem products_at (x0 : Vec Ideal S128x1024 .f32) (x1 : Vec Ideal S1x1024 .f32) (x2 : Vec Ideal S1024x4224 .bf16)
    (y : Fin 128) (k : Fin 4224) :
    k0_pay1 x0 x1 x2 (ix2 y k) = project (fun d => x0 (ix2 y d)) (fun d => x1 (ix2 0 d)) (fun d => x2 (ix2 d k)) := by
  unfold project normed scale
  pointwise [k0_pay1]

/-- The first store's block. -/
theorem first_at (x0 : Vec Ideal S128x1024 .f32) (x1 : Vec Ideal S1x1024 .f32) (x2 : Vec Ideal S1024x4224 .bf16)
    (y : Fin 128) (k : Fin 3072) :
    out0_3 x0 x1 x2 (ix2 y k) = project (fun d => x0 (ix2 y d)) (fun d => x1 (ix2 0 d)) (fun d => x2 (ix2 d ⟨k.val, by omega⟩)) := by
  rw [← products_at]
  frame_out
  pointwise [k0_pay2]

/-- The second store's block. -/
theorem second_at (x0 : Vec Ideal S128x1024 .f32) (x1 : Vec Ideal S1x1024 .f32) (x2 : Vec Ideal S1024x4224 .bf16)
    (y : Fin 128) (k : Fin 1024) :
    out0_4 x0 x1 x2 (ix2 y k)
      = silu (project (fun d => x0 (ix2 y d)) (fun d => x1 (ix2 0 d)) (fun d => x2 (ix2 d ⟨3072 + k.val, by omega⟩))) := by
  rw [← products_at]
  unfold silu sigmoid
  frame_out
  pointwise [k0_pay3]
  rw [zero_sub]

/-- The third store's block. -/
theorem third_at (x0 : Vec Ideal S128x1024 .f32) (x1 : Vec Ideal S1x1024 .f32) (x2 : Vec Ideal S1024x4224 .bf16)
    (y : Fin 128) (k : Fin 128) :
    out0_5 x0 x1 x2 (ix2 y k) = project (fun d => x0 (ix2 y d)) (fun d => x1 (ix2 0 d)) (fun d => x2 (ix2 d ⟨4096 + k.val, by omega⟩)) := by
  rw [← products_at]
  frame_out
  pointwise [k0_pay4]

/-- Where a grid point's blocks lie. -/
theorem places : ∀ t : Fin cfg0.N,
    win0_0.index t = ![t.val, 0] ∧ win0_1.index t = ![0, 0] ∧ win0_2.index t = ![0, 0]
    ∧ win0_3.index t = ![t.val, 0] ∧ win0_4.index t = ![t.val, 0] ∧ win0_5.index t = ![t.val, 0] :=
  (by decide +kernel : ∀ t : Fin grid0.N, _)

/-- The weights with zero columns after the last, at an index. -/
theorem padded_at (w : FVec Ideal S1024x4112 .f32) (d : Fin 1024) (k : Fin 4224) :
    truncf .bf16 (pad S1024x4224 ![0, 0] ![0, 112] ![0, 0] w
      (sitofp (F := Ideal) .f32 (constantI S_ 32 0#32)) pads_S1024x4112_S1024x4224_000_01120 h_S_) bitsLt_bf16_f32 (ix2 d k)
      = if h : k.val < 4112 then w (ix2 d ⟨k.val, h⟩) else (0 : EReal) := by
  pointwise
  rw [zero_word]

/-- The row of gains the region reads. -/
theorem gain_entry (c : Dev nD) (d : Fin 1024) :
    (V m c main_v0 : FVec Ideal S1x1024 .f32) (ix2 0 d) = m ((c : Thread nD τ).loc main_arg1) (ix1 d) := by
  show broadcastInDim S1x1024 ![1] bcast_S1024_S1x1024_1 (m ((c : Thread nD τ).loc main_arg1)) (ix2 0 d) = _
  pointwise

/-- The weights the region reads: the argument's, with zero columns after the last. -/
theorem weight_entry (c : Dev nD) (d : Fin 1024) (k : Fin 4224) :
    (V m c main_v2 : FVec Ideal S1024x4224 .bf16) (ix2 d k)
      = if h : k.val < 4112 then m ((c : Thread nD τ).loc main_arg2) (ix2 d ⟨k.val, h⟩) else (0 : EReal) := by
  exact padded_at _ d k

/-- The array's row of a block's row. -/
def rowOf (t : Fin cfg0.N) (y : Fin 128) : Fin 128 :=
  ⟨t.val * 128 + y.val, by have := t.isLt; have e : cfg0.N = 1 := rfl; omega⟩

/-- The block of rows. -/
theorem row_block (c : Dev nD) (t : Fin cfg0.N) (y : Fin 128) (d : Fin 1024) :
    iblk m c 0 t (ix2 y d) = m ((c : Thread nD τ).loc main_arg0) (ix2 (rowOf t y) d) := by
  unfold rowOf
  blk_ext [iblk, V, places t]

/-- The block of gains is the gains. -/
theorem gain_block (c : Dev nD) (t : Fin cfg0.N) (d : Fin 1024) :
    iblk m c 1 t (ix2 0 d) = m ((c : Thread nD τ).loc main_arg1) (ix1 d) := by
  refine Eq.trans ?_ (gain_entry m c d)
  blk_ext [iblk, places t]

/-- The block of weights is the weights. -/
theorem weight_block (c : Dev nD) (t : Fin cfg0.N) (d : Fin 1024) (k : Fin 4224) :
    iblk m c 2 t (ix2 d k)
      = if h : k.val < 4112 then m ((c : Thread nD τ).loc main_arg2) (ix2 d ⟨k.val, h⟩) else (0 : EReal) := by
  refine Eq.trans ?_ (weight_entry m c d k)
  blk_ext [iblk, places t]

/-- The blocks' products are the array's, up to the last column of the weights. -/
theorem block_entry (c : Dev nD) (t : Fin cfg0.N) (y : Fin 128) (k : Fin 4224) :
    project (fun d => iblk m c 0 t (ix2 y d)) (fun d => iblk m c 1 t (ix2 0 d)) (fun d => iblk m c 2 t (ix2 d k))
      = if h : k.val < 4112 then
          entry (m ((c : Thread nD τ).loc main_arg0)) (m ((c : Thread nD τ).loc main_arg1)) (m ((c : Thread nD τ).loc main_arg2))
            (rowOf t y) ⟨k.val, h⟩
        else 0 := by
  rw [funext (row_block m c t y), funext (gain_block m c t), funext fun d => weight_block m c t d k]
  split
  · rfl
  · exact project_zero _ _

/-- The blocks of each result cover its array. -/
theorem covers3 : (cfg0.win 3).Covers := by decide +kernel

theorem covers4 : (cfg0.win 4).Covers := by decide +kernel

theorem covers5 : (cfg0.win 5).Covers := by decide +kernel

/-- The first result's array, from what each block holds. -/
theorem assemble3 (c : Dev nD) (G : FVec Ideal S128x3072 .f32)
    (hp : ∀ (t : Fin cfg0.N) (y : Fin 128) (k : Fin 3072),
      out0_3 (iblk m c 0 t) (iblk m c 1 t) (iblk m c 2 t) (ix2 y k) = G (ix2 (rowOf t y) k)) :
    (dats m 0 c).arrAt 3 cfg0.N = G := by
  refine (dats m 0 c).arrAt_eq_of_covers 3 _ covers3 fun t _ y => ?_
  rw [after0_3]
  blk_simp [places t]
  refine placed _ G (rowOf t) id (hp t) y _ ?_ ?_
  · blk_simp [places t, rowOf]
  · blk_simp [places t, id]

/-- The first result is the first columns of the products. -/
theorem final3 (c : Dev nD) (G : FVec Ideal S128x3072 .f32)
    (hG : ∀ r k, G (ix2 r k) = entry (m ((c : Thread nD τ).loc main_arg0)) (m ((c : Thread nD τ).loc main_arg1))
      (m ((c : Thread nD τ).loc main_arg2)) r ⟨k.val, by omega⟩) : (dats m 0 c).arrAt 3 cfg0.N = G := by
  refine assemble3 m c G fun t y k => ?_
  rw [first_at, block_entry, dif_pos (by show k.val < 4112; omega), hG]

/-- The second result's array, from what each block holds. -/
theorem assemble4 (c : Dev nD) (G : FVec Ideal S128x1024 .f32)
    (hp : ∀ (t : Fin cfg0.N) (y : Fin 128) (k : Fin 1024),
      out0_4 (iblk m c 0 t) (iblk m c 1 t) (iblk m c 2 t) (ix2 y k) = G (ix2 (rowOf t y) k)) :
    (dats m 0 c).arrAt 4 cfg0.N = G := by
  refine (dats m 0 c).arrAt_eq_of_covers 4 _ covers4 fun t _ y => ?_
  rw [after0_4]
  blk_simp [places t]
  refine placed _ G (rowOf t) id (hp t) y _ ?_ ?_
  · blk_simp [places t, rowOf]
  · blk_simp [places t, id]

/-- The second result is the swish of the next columns. -/
theorem final4 (c : Dev nD) (G : FVec Ideal S128x1024 .f32)
    (hG : ∀ r k, G (ix2 r k) = silu (entry (m ((c : Thread nD τ).loc main_arg0)) (m ((c : Thread nD τ).loc main_arg1))
      (m ((c : Thread nD τ).loc main_arg2)) r ⟨3072 + k.val, by omega⟩)) : (dats m 0 c).arrAt 4 cfg0.N = G := by
  refine assemble4 m c G fun t y k => ?_
  rw [second_at, block_entry, dif_pos (by show 3072 + k.val < 4112; omega), hG]

/-- The third result's array, from what each block holds. -/
theorem assemble5 (c : Dev nD) (G : FVec Ideal S128x128 .f32)
    (hp : ∀ (t : Fin cfg0.N) (y : Fin 128) (k : Fin 128),
      out0_5 (iblk m c 0 t) (iblk m c 1 t) (iblk m c 2 t) (ix2 y k) = G (ix2 (rowOf t y) k)) :
    (dats m 0 c).arrAt 5 cfg0.N = G := by
  refine (dats m 0 c).arrAt_eq_of_covers 5 _ covers5 fun t _ y => ?_
  rw [after0_5]
  blk_simp [places t]
  refine placed _ G (rowOf t) id (hp t) y _ ?_ ?_
  · blk_simp [places t, rowOf]
  · blk_simp [places t, id]

/-- The third result is the last columns, then zeros. -/
theorem final5 (c : Dev nD) (G : FVec Ideal S128x128 .f32)
    (hG : ∀ r (k : Fin 128), G (ix2 r k) = if h : k.val < 16 then entry (m ((c : Thread nD τ).loc main_arg0)) (m ((c : Thread nD τ).loc main_arg1))
      (m ((c : Thread nD τ).loc main_arg2)) r ⟨4096 + k.val, by omega⟩ else 0) : (dats m 0 c).arrAt 5 cfg0.N = G := by
  refine assemble5 m c G fun t y k => ?_
  rw [third_at, block_entry, hG]
  exact dite_congr (propext (by show 4096 + k.val < 4112 ↔ k.val < 16; omega)) (fun _ => rfl) fun _ => rfl

end Cert.GdnSample

end
-- ==== Proof.GdnSampleReference.lean ====
/- The reference's input projection of the recurrent layer on the sample's rows, index by index. -/
module

public import proofs.«01_k».proof.Proof.Gen.GdnProjSampleReferenceIdeal.Run
public import proofs.«01_k».proof.Proof.Projection
public import Idealize.ShloMosaic.Lib.Pipeline.ValueKit

@[expose] public section

noncomputable section

namespace Cert.GdnSampleReference

open Cert.GdnProjSampleReferenceIdeal Cert.GdnProjSampleReferenceIdeal.Gen Idealize.ShloMosaic Idealize.ShloMosaic.TcCoe Idealize.SL.Sem
open Cert.Proj

/-- The normed rows times the weights, as the reference writes them. -/
def products (x : FVec Ideal S128x1024 .f32) (g : FVec Ideal S1024 .f32) (w : FVec Ideal S1024x4112 .f32) :
    FVec Ideal S128x4112 .f32 :=
  Host.dotGeneral dot_S128x1024_S1024x4112_S128x4112_1_0_0_1_n_n none (mulf (mulf x (broadcastInDim S128x1024 ![0, 1] bcast_S128x1_S128x1024_0_1 (Host.rsqrt (addf (Host.divf (broadcastInDim S128x1 ![0] bcast_S128_S128x1_0 (Host.reduceAdd (mulf x x) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x358637BD#32)))))) (broadcastInDim S128x1024 ![0, 1] bcast_S1x1024_S128x1024_0_1 (broadcastInDim S1x1024 ![1] bcast_S1024_S1x1024_1 g))) w

theorem products_at (x : FVec Ideal S128x1024 .f32) (g : FVec Ideal S1024 .f32) (w : FVec Ideal S1024x4112 .f32)
    (r : Fin 128) (k : Fin 4112) : products x g w (ix2 r k) = entry x g w r k := by
  unfold entry project normed scale
  pointwise [products]

/-- The first result: the first 3072 columns. -/
theorem first (x : FVec Ideal S128x1024 .f32) (g : FVec Ideal S1024 .f32) (w : FVec Ideal S1024x4112 .f32)
    (r : Fin 128) (k : Fin 3072) :
    extractStridedSlice S128x3072 ![0, 0] (products x g w) slices_S128x4112_S128x3072_0_0 (ix2 r k)
      = entry x g w r ⟨k.val, by omega⟩ := by
  rw [← products_at]
  pointwise

/-- The second result: the next 1024 columns, through the swish. -/
theorem second (x : FVec Ideal S128x1024 .f32) (g : FVec Ideal S1024 .f32) (w : FVec Ideal S1024x4112 .f32)
    (r : Fin 128) (k : Fin 1024) :
    mulf (extractStridedSlice S128x1024 ![0, 3072] (products x g w) slices_S128x4112_S128x1024_0_3072)
        (Host.divf (broadcastInDim S128x1024 ![] bcast_S_S128x1024 (constant S_ .f32 0x3F800000#32)) (addf (broadcastInDim S128x1024 ![] bcast_S_S128x1024 (constant S_ .f32 0x3F800000#32)) (Host.exp (Host.negf (extractStridedSlice S128x1024 ![0, 3072] (products x g w) slices_S128x4112_S128x1024_0_3072))))) (ix2 r k)
      = silu (entry x g w r ⟨3072 + k.val, by omega⟩) := by
  rw [← products_at]
  unfold silu sigmoid
  pointwise

/-- The third result: the last 16 columns, then zeros. -/
theorem third (x : FVec Ideal S128x1024 .f32) (g : FVec Ideal S1024 .f32) (w : FVec Ideal S1024x4112 .f32)
    (r : Fin 128) (k : Fin 128) :
    pad S128x128 ![0, 0] ![0, 112] ![0, 0] (extractStridedSlice S128x16 ![0, 4096] (products x g w) slices_S128x4112_S128x16_0_4096) (sitofp .f32 (constantI S_ 32 0#32)) pads_S128x16_S128x128_000_01120 h_S_ (ix2 r k)
      = if h : k.val < 16 then entry x g w r ⟨4096 + k.val, by omega⟩ else 0 := by
  pointwise
  rw [zero_word]
  exact dite_congr rfl (fun h => products_at x g w r _) fun _ => rfl

end Cert.GdnSampleReference

end
-- ==== Proof.Words.lean ====
/- Small 32-bit words compared as numbers, selects on bits, and the values of some literals. -/
module

public import Idealize.ShloMosaic.Lib.Pointwise

@[expose] public section

noncomputable section

namespace Cert.CmpAttn

open Idealize.ShloMosaic

/-- Comparing two small words as signed numbers compares the numbers. -/
theorem sle_words {a b : Nat} (ha : a < 2 ^ 31) (hb : b < 2 ^ 31) :
    IntOp.cmpi .sle (BitVec.ofNat 32 a) (BitVec.ofNat 32 b) = BitVec.ofBool (decide (a ≤ b)) := by
  have e : ∀ c : Nat, c < 2 ^ 31 → (BitVec.ofNat 32 c).toInt = (c : Int) := fun c hc => by
    rw [BitVec.toInt_eq_toNat_of_lt (by rw [BitVec.toNat_ofNat]; omega), BitVec.toNat_ofNat]; congr 1; omega
  show BitVec.ofBool (BitVec.sle _ _) = _
  unfold BitVec.sle
  rw [e a ha, e b hb]
  simp only [Nat.cast_le]

/-- The same for "greater". -/
theorem sgt_words {a b : Nat} (ha : a < 2 ^ 31) (hb : b < 2 ^ 31) :
    IntOp.cmpi .sgt (BitVec.ofNat 32 a) (BitVec.ofNat 32 b) = BitVec.ofBool (decide (b < a)) := by
  have e : ∀ c : Nat, c < 2 ^ 31 → (BitVec.ofNat 32 c).toInt = (c : Int) := fun c hc => by
    rw [BitVec.toInt_eq_toNat_of_lt (by rw [BitVec.toNat_ofNat]; omega), BitVec.toNat_ofNat]; congr 1; omega
  show BitVec.ofBool (BitVec.slt _ _) = _
  unfold BitVec.slt
  rw [e a ha, e b hb]
  simp only [Nat.cast_lt]

/-- Equality of small words is equality of the numbers. -/
theorem eq_words {a b : Nat} (ha : a < 2 ^ 31) (hb : b < 2 ^ 31) :
    IntOp.cmpi .eq (BitVec.ofNat 32 a) (BitVec.ofNat 32 b) = BitVec.ofBool (decide (a = b)) := by
  show BitVec.ofBool (BitVec.ofNat 32 a == BitVec.ofNat 32 b) = _
  congr 1
  rw [Bool.beq_eq_decide_eq]
  congr 1
  apply propext
  constructor
  · intro h
    have := congrArg BitVec.toNat h
    simp only [BitVec.toNat_ofNat] at this
    omega
  · exact fun h => by rw [h]

/-- Being the block before block `b`, in words. -/
theorem previous_word : ∀ r b : Fin 128,
    IntOp.cmpi .eq (BitVec.ofNat 32 r.val) (IntOp.subi (BitVec.ofNat 32 b.val) 1#32)
      = BitVec.ofBool (decide (r.val + 1 = b.val)) := by decide +kernel

/-- "Or" of two bits. -/
theorem or_bits (a b : Bool) : IntOp.ori (BitVec.ofBool a) (BitVec.ofBool b) = BitVec.ofBool (a || b) := by
  cases a <;> cases b <;> rfl

/-- A row number read as a float is the number. -/
theorem row_value (r : Fin 128) :
    FloatOps.sitofp (F := Ideal) FTy.f32 (BitVec.ofNat 32 r.val) = ((r.val : ℝ) : EReal) := by
  show (((BitVec.ofNat 32 r.val).toInt : ℝ) : EReal) = _
  rw [BitVec.toInt_eq_toNat_of_lt (by rw [BitVec.toNat_ofNat]; omega), BitVec.toNat_ofNat, Nat.mod_eq_of_lt (by omega)]
  simp only [Int.cast_natCast]

/-- A select on a visibility bit is the masked logit. -/
theorem select_logit (b : Bool) (x y : EReal) : Scalar.select (BitVec.ofBool b) x y = if b then x else y := by
  cases b <;> rfl

/-- A select on a visibility bit between an exponential and zero is a weight. -/
theorem select_weight (b : Bool) (x : EReal) :
    Scalar.select (BitVec.ofBool b) x (Ideal.ofBits FTy.f32 0#32) = if b then x else 0 := by
  cases b
  · show Ideal.ofBits FTy.f32 0#32 = 0
    simp [Ideal.ofBits, Ideal.ieee]
  · rfl

/-- The pattern of minus infinity denotes it. -/
theorem ofBits_neg_inf : Ideal.ofBits FTy.f32 4286578688#32 = ⊥ := by
  simp [Ideal.ofBits, Ideal.ieee]

/-- The pattern of plus infinity denotes it. -/
theorem ofBits_pos_inf : Ideal.ofBits FTy.f32 2139095040#32 = ⊤ := by
  simp [Ideal.ofBits, Ideal.ieee]

/-- A position's block number, as the host's words compute the floor division by 64. -/
theorem host_block_word : ∀ t : Fin 8192,
    Scalar.select
      (IntOp.andi
        (IntOp.cmpi CmpIPredicate.ne
          (if BitVec.ofNat 32 t.val = 0 then (0 : BitVec 32) else if (BitVec.ofNat 32 t.val).msb = true then -1 else 1)
          (if 64#32 = 0 then (0 : BitVec 32) else if (64#32).msb = true then -1 else 1))
        (IntOp.cmpi CmpIPredicate.ne (IntOp.remsi ArithUnit.host (BitVec.ofNat 32 t.val) 64#32) 0#32))
      (IntOp.subi (IntOp.divsi ArithUnit.host (BitVec.ofNat 32 t.val) 64#32) 1#32)
      (IntOp.divsi ArithUnit.host (BitVec.ofNat 32 t.val) 64#32)
    = BitVec.ofNat 32 (t.val / 64) := by decide +kernel

end Cert.CmpAttn

end
-- ==== Proof.NsaOutRows.lean ====
/- The sparse layer's output projection: three branches under their gates, the output gate, the weights. -/
module

public import proofs.«01_k».proof.Defs
public import proofs.«01_k».proof.Proof.Gen.NsaOutIdeal.Value
public import proofs.«01_k».proof.Proof.Gen.NsaOutReferenceIdeal.Run
public import proofs.«01_k».proof.Proof.Projection
public import proofs.«01_k».proof.Proof.Words
public import Idealize.ShloMosaic.Lib.Pipeline.ValueKit
public import Idealize.ShloMosaic.Lib.StableHlo.RunRead
public import Idealize.ShloMosaic.Lib.Claim

@[expose] public section

noncomputable section

namespace Cert.NsaOutRows

open Idealize.ShloMosaic Idealize.ShloMosaic.TcCoe Idealize.SL.Sem
open Cert.Proj

/-- A feature of the three branches under their heads' gates. -/
def mixed {a : Nat} (oc os ow : FVec Ideal ⟨2, ![a, 1024]⟩ .f32) (gt : FVec Ideal ⟨2, ![a, 128]⟩ .f32)
    (r : Fin a) (d : Fin 1024) : EReal :=
  gt (ix2 r ⟨d.val / 64, by omega⟩) * oc (ix2 r d)
    + gt (ix2 r ⟨16 + d.val / 64, by omega⟩) * os (ix2 r d)
    + gt (ix2 r ⟨32 + d.val / 64, by omega⟩) * ow (ix2 r d)

/-- An entry of the output. -/
def output {a : Nat} (x oc os ow : FVec Ideal ⟨2, ![a, 1024]⟩ .f32) (gt : FVec Ideal ⟨2, ![a, 128]⟩ .f32)
    (z : FVec Ideal ⟨2, ![a, 1024]⟩ .f32) (w : FVec Ideal ⟨2, ![1024, 1024]⟩ .f32)
    (r : Fin a) (k : Fin 1024) : EReal :=
  x (ix2 r k) + ∑ d : Fin 1024, mixed oc os ow gt r d * z (ix2 r d) * w (ix2 d k)

section Reference

open Cert.NsaOutReferenceIdeal Cert.NsaOutReferenceIdeal.Gen

/-- One branch's gates on its heads' features. -/
def branch0 (gt : FVec Ideal S16384x128 .f32) (o : FVec Ideal S16384x1024 .f32) : FVec Ideal S16384x16x64 .f32 :=
  mulf (broadcastInDim S16384x16x64 ![0, 1, 2] bcast_S16384x16x1_S16384x16x64_0_1_2 (shapeCast _ (extractStridedSlice S16384x1x16x1 ![0, 0, 0, 0] (shapeCast _ (extractStridedSlice S16384x48 ![0, 0] gt slices_S16384x128_S16384x48_0_0) shapeCasts_S16384x48_S16384x3x16x1) slices_S16384x3x16x1_S16384x1x16x1_0_0_0_0) shapeCasts_S16384x1x16x1_S16384x16x1)) (shapeCast _ o shapeCasts_S16384x1024_S16384x16x64)

def branch1 (gt : FVec Ideal S16384x128 .f32) (o : FVec Ideal S16384x1024 .f32) : FVec Ideal S16384x16x64 .f32 :=
  mulf (broadcastInDim S16384x16x64 ![0, 1, 2] bcast_S16384x16x1_S16384x16x64_0_1_2 (shapeCast _ (extractStridedSlice S16384x1x16x1 ![0, 1, 0, 0] (shapeCast _ (extractStridedSlice S16384x48 ![0, 0] gt slices_S16384x128_S16384x48_0_0) shapeCasts_S16384x48_S16384x3x16x1) slices_S16384x3x16x1_S16384x1x16x1_0_1_0_0) shapeCasts_S16384x1x16x1_S16384x16x1)) (shapeCast _ o shapeCasts_S16384x1024_S16384x16x64)

def branch2 (gt : FVec Ideal S16384x128 .f32) (o : FVec Ideal S16384x1024 .f32) : FVec Ideal S16384x16x64 .f32 :=
  mulf (broadcastInDim S16384x16x64 ![0, 1, 2] bcast_S16384x16x1_S16384x16x64_0_1_2 (shapeCast _ (extractStridedSlice S16384x1x16x1 ![0, 2, 0, 0] (shapeCast _ (extractStridedSlice S16384x48 ![0, 0] gt slices_S16384x128_S16384x48_0_0) shapeCasts_S16384x48_S16384x3x16x1) slices_S16384x3x16x1_S16384x1x16x1_0_2_0_0) shapeCasts_S16384x1x16x1_S16384x16x1)) (shapeCast _ o shapeCasts_S16384x1024_S16384x16x64)

theorem branch0_at (gt : FVec Ideal S16384x128 .f32) (o : FVec Ideal S16384x1024 .f32) (r : Fin 16384) (h : Fin 16) (e : Fin 64) :
    branch0 gt o (ix3 r h e) = gt (ix2 r ⟨h.val, by omega⟩) * o (ix2 r ⟨h.val * 64 + e.val, by omega⟩) := by
  pointwise [branch0]

theorem branch1_at (gt : FVec Ideal S16384x128 .f32) (o : FVec Ideal S16384x1024 .f32) (r : Fin 16384) (h : Fin 16) (e : Fin 64) :
    branch1 gt o (ix3 r h e) = gt (ix2 r ⟨16 + h.val, by omega⟩) * o (ix2 r ⟨h.val * 64 + e.val, by omega⟩) := by
  pointwise [branch1]

theorem branch2_at (gt : FVec Ideal S16384x128 .f32) (o : FVec Ideal S16384x1024 .f32) (r : Fin 16384) (h : Fin 16) (e : Fin 64) :
    branch2 gt o (ix3 r h e) = gt (ix2 r ⟨32 + h.val, by omega⟩) * o (ix2 r ⟨h.val * 64 + e.val, by omega⟩) := by
  pointwise [branch2]

/-- A feature's head and place within it name the feature. -/
theorem feature (r : Fin 16384) (d : Fin 1024) (o : FVec Ideal S16384x1024 .f32) (h : d.val / 64 * 64 + d.val % 64 < 1024) :
    o (ix2 r ⟨d.val / 64 * 64 + d.val % 64, h⟩) = o (ix2 r d) :=
  congrArg (fun e => o (ix2 r e)) (Fin.ext (Nat.div_add_mod' d.val 64))

/-- The reference's output, at an index. -/
theorem reference_at (x oc os ow : FVec Ideal S16384x1024 .f32) (gt : FVec Ideal S16384x128 .f32) (z : FVec Ideal S16384x1024 .f32) (w : FVec Ideal S1024x1024 .f32) (r : Fin 16384) (k : Fin 1024) :
    addf x (Host.dotGeneral dot_S16384x1024_S1024x1024_S16384x1024_1_0_0_1_n_n none (mulf (shapeCast _ (addf (addf (branch0 gt oc) (branch1 gt os)) (branch2 gt ow)) shapeCasts_S16384x16x64_S16384x1024) z) w) (ix2 r k)
      = output x oc os ow gt z w r k := by
  unfold output mixed
  pointwise
  simp only [branch0_at, branch1_at, branch2_at, feature]

end Reference

open Cert.NsaOutIdeal Cert.NsaOutIdeal.Gen

variable (m : (ℓ : Loc nD τ sig) → Buf (Elt Ideal) ℓ)

/-- Every feature's head, as the host's words divide its number by 64. -/
def heads : IVec S1024 32 :=
  select
    (andi
      (cmpi .ne (signi (iotaInDim S1024 32 0)) (broadcastInDim S1024 ![] bcast_S_S1024 (signi (constantI S_ 32 64#32))))
      (cmpi .ne (Host.remsi (iotaInDim S1024 32 0) (broadcastInDim S1024 ![] bcast_S_S1024 (constantI S_ 32 64#32)))
        (broadcastInDim S1024 ![] bcast_S_S1024 (constantI S_ 32 0#32))))
    (subi (Host.divsi (iotaInDim S1024 32 0) (broadcastInDim S1024 ![] bcast_S_S1024 (constantI S_ 32 64#32)))
      (broadcastInDim S1024 ![] bcast_S_S1024 (constantI S_ 32 1#32)))
    (Host.divsi (iotaInDim S1024 32 0) (broadcastInDim S1024 ![] bcast_S_S1024 (constantI S_ 32 64#32)))

theorem heads_at (j : Fin 1024) : heads (ix1 j) = BitVec.ofNat 32 (j.val / 64) := by
  pointwise [heads]
  exact Cert.CmpAttn.host_block_word ⟨j.val, by omega⟩

/-- Where a gate column is the one of a feature's head in the branch whose columns begin at `b`. -/
def marks (b : BitVec 32) : IVec S128x1024 1 :=
  cmpi .eq
    (broadcastInDim S128x1024 ![0, 1] bcast_S128x1_S128x1024_0_1 (broadcastInDim S128x1 ![0] bcast_S128_S128x1_0 (iotaInDim S128 32 0)))
    (broadcastInDim S128x1024 ![0, 1] bcast_S1x1024_S128x1024_0_1 (broadcastInDim S1x1024 ![1] bcast_S1024_S1x1024_1
      (addi (broadcastInDim S1024 ![] bcast_S_S1024 (constantI S_ 32 b)) heads)))

theorem marks_at (b : ℕ) (hb : b ≤ 32) (q : Fin 128) (j : Fin 1024) :
    (FloatOps.uitofp (F := Ideal) .bf16 (marks (BitVec.ofNat 32 b) (ix2 q j))) = if q.val = b + j.val / 64 then (1 : EReal) else 0 := by
  pointwise [marks, heads_at]
  rw [show IntOp.addi (BitVec.ofNat 32 b) (BitVec.ofNat 32 (j.val / 64)) = BitVec.ofNat 32 (b + j.val / 64) from (BitVec.ofNat_add _ _).symm,
    Cert.CmpAttn.eq_words (by omega) (by omega)]
  by_cases h : q.val = b + j.val / 64
  · rw [if_pos h, decide_eq_true h]
    show ((((1 : ℕ) : ℝ) : ℝ) : EReal) = 1
    norm_num
  · rw [if_neg h, decide_eq_false h]
    show ((((0 : ℕ) : ℝ) : ℝ) : EReal) = 0
    norm_num

/-- The expansion matrix: the three branches' marks side by side. -/
def expand : FVec Ideal S128x3072 .bf16 :=
  uitofp .bf16 (concatenate S128x3072 1 [⟨S128x1024, marks 0#32⟩, ⟨S128x1024, marks 16#32⟩, ⟨S128x1024, marks 32#32⟩] concatenates_S128x1024_S128x1024_S128x1024_S128x3072_d1)

theorem expand0_at (q : Fin 128) (j : Fin 1024) : expand (ix2 q ⟨j.val, by omega⟩) = if q.val = j.val / 64 then (1 : EReal) else 0 := by
  rw [← Nat.zero_add (j.val / 64), ← marks_at 0 (by omega) q j]
  pointwise [expand]

theorem expand1_at (q : Fin 128) (j : Fin 1024) : expand (ix2 q ⟨1024 + j.val, by omega⟩) = if q.val = 16 + j.val / 64 then (1 : EReal) else 0 := by
  rw [← marks_at 16 (by omega) q j]
  pointwise [expand]

theorem expand2_at (q : Fin 128) (j : Fin 1024) : expand (ix2 q ⟨2048 + j.val, by omega⟩) = if q.val = 32 + j.val / 64 then (1 : EReal) else 0 := by
  rw [← marks_at 32 (by omega) q j]
  pointwise [expand]
  rw [dif_neg (by omega), dif_neg (by omega)]
  exact congrArg (fun e => FloatOps.uitofp (F := Ideal) .bf16 (marks 32#32 (ix2 q e))) (Fin.ext (by show 2048 + j.val - 1024 - 1024 = j.val; omega))

/-- A gate spread over its head's features: the matrix picks one column. -/
theorem picked (f : Fin 128 → EReal) (b : ℕ) (hb : b ≤ 32) (j : Fin 1024) :
    ∑ q : Fin 128, f q * (if q.val = b + j.val / 64 then (1 : EReal) else 0) = f ⟨b + j.val / 64, by omega⟩ := by
  rw [Finset.sum_eq_single (⟨b + j.val / 64, by omega⟩ : Fin 128)]
  · rw [if_pos rfl, mul_one]
  · intro q _ hq
    rw [if_neg fun e => hq (Fin.ext e), mul_zero]
  · intro h
    exact absurd (Finset.mem_univ _) h

/-- The expansion matrix the region reads is the host's. -/
theorem expand_entry (c : Dev nD) : (V m c main_v27 : FVec Ideal S128x3072 .bf16) = expand := by
  unfold V
  after_reads_simp
  rfl

/-- The store's block, at an index, for gates that are finite. -/
theorem block_at (x0 x1 x2 x3 : Vec Ideal S256x1024 .f32) (x4 : Vec Ideal S256x128 .f32) (x5 : Vec Ideal S256x1024 .f32)
    (x7 : Vec Ideal S1024x1024 .bf16) (hx : ∀ y q, x4 (ix2 y q) - x4 (ix2 y q) = (0 : EReal)) (y : Fin 256) (k : Fin 1024) :
    out0_8 x0 x1 x2 x3 x4 x5 expand x7 (ix2 y k)
      = x0 (ix2 y k) + ∑ d : Fin 1024,
          (x4 (ix2 y ⟨d.val / 64, by omega⟩) * x1 (ix2 y d) + x4 (ix2 y ⟨16 + d.val / 64, by omega⟩) * x2 (ix2 y d)
            + x4 (ix2 y ⟨32 + d.val / 64, by omega⟩) * x3 (ix2 y d)) * x5 (ix2 y d) * x7 (ix2 d k) := by
  have first : ∀ d : Fin 1024, ∑ q : Fin 128, x4 (ix2 y q) * (if q.val = d.val / 64 then (1 : EReal) else 0) = x4 (ix2 y ⟨d.val / 64, by omega⟩) := fun d => by
    have e := picked (fun q => x4 (ix2 y q)) 0 (by omega) d
    simpa only [Nat.zero_add] using e
  frame_out
  pointwise [k0_pay1]
  simp only [expand0_at, expand1_at, expand2_at, hx, zero_mul, Finset.sum_const_zero, add_zero,
    first, picked (fun q => x4 (ix2 y q)) 16 (by omega),
    picked (fun q => x4 (ix2 y q)) 32 (by omega)]

/-- Where a grid point's blocks lie. -/
theorem places : ∀ t : Fin cfg0.N,
    win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![0, 0] ∧ win0_7.index t = ![0, 0] ∧ win0_8.index t = ![t.val, 0] :=
  (by decide +kernel : ∀ t : Fin grid0.N, _)

/-- The weights the region reads are the argument's. -/
theorem weight_entry (c : Dev nD) : (V m c main_v28 : FVec Ideal S1024x1024 .bf16) = m ((c : Thread nD τ).loc main_arg6) := by
  unfold V
  after_reads_simp
  rfl

/-- The array's row of a block's row. -/
def rowOf (t : Fin cfg0.N) (y : Fin 256) : Fin 16384 :=
  ⟨t.val * 256 + y.val, by have := t.isLt; have e : cfg0.N = 64 := rfl; omega⟩

/-- The block of inputs. -/
theorem input_block (c : Dev nD) (t : Fin cfg0.N) (y : Fin 256) (d : Fin 1024) :
    iblk m c 0 t (ix2 y d) = m ((c : Thread nD τ).loc main_arg0) (ix2 (rowOf t y) d) := by
  unfold rowOf
  blk_ext [iblk, V, places t]

/-- The block of the compressed branch. -/
theorem first_block (c : Dev nD) (t : Fin cfg0.N) (y : Fin 256) (d : Fin 1024) :
    iblk m c 1 t (ix2 y d) = m ((c : Thread nD τ).loc main_arg1) (ix2 (rowOf t y) d) := by
  unfold rowOf
  blk_ext [iblk, V, places t]

/-- The block of the selected branch. -/
theorem second_block (c : Dev nD) (t : Fin cfg0.N) (y : Fin 256) (d : Fin 1024) :
    iblk m c 2 t (ix2 y d) = m ((c : Thread nD τ).loc main_arg2) (ix2 (rowOf t y) d) := by
  unfold rowOf
  blk_ext [iblk, V, places t]

/-- The block of the window branch. -/
theorem third_block (c : Dev nD) (t : Fin cfg0.N) (y : Fin 256) (d : Fin 1024) :
    iblk m c 3 t (ix2 y d) = m ((c : Thread nD τ).loc main_arg3) (ix2 (rowOf t y) d) := by
  unfold rowOf
  blk_ext [iblk, V, places t]

/-- The block of the branches' gates. -/
theorem gate_block (c : Dev nD) (t : Fin cfg0.N) (y : Fin 256) (q : Fin 128) :
    iblk m c 4 t (ix2 y q) = m ((c : Thread nD τ).loc main_arg4) (ix2 (rowOf t y) q) := by
  unfold rowOf
  blk_ext [iblk, V, places t]

/-- The block of the output's gate. -/
theorem silu_block (c : Dev nD) (t : Fin cfg0.N) (y : Fin 256) (d : Fin 1024) :
    iblk m c 5 t (ix2 y d) = m ((c : Thread nD τ).loc main_arg5) (ix2 (rowOf t y) d) := by
  unfold rowOf
  blk_ext [iblk, V, places t]

/-- The block of the expansion matrix is the matrix. -/
theorem expand_block (c : Dev nD) (t : Fin cfg0.N) : iblk m c 6 t = expand := by
  refine Eq.trans ?_ (expand_entry m c)
  funext j
  blk_ext [iblk, places t]

/-- The block of weights is the weights. -/
theorem weight_block (c : Dev nD) (t : Fin cfg0.N) (d : Fin 1024) (k : Fin 1024) :
    iblk m c 7 t (ix2 d k) = m ((c : Thread nD τ).loc main_arg6) (ix2 d k) := by
  refine Eq.trans ?_ (congrFun (weight_entry m c) (ix2 d k))
  blk_ext [iblk, places t]

/-- A gate between zero and one is finite: it leaves nothing when taken from itself. -/
theorem gate_sub (g : EReal)
    (h : IntOp.andi (FloatOps.cmpf (F := Ideal) (φ := .f32) .oge g (FloatOps.ofBits .f32 0x00000000#32))
      (FloatOps.cmpf (F := Ideal) (φ := .f32) .ole g (FloatOps.ofBits .f32 0x3F800000#32)) = 1#1) : g - g = 0 := by
  have e0 : (FloatOps.ofBits (F := Ideal) .f32 0x00000000#32 : EReal) = 0 := by simp
  have e1 : (FloatOps.ofBits (F := Ideal) .f32 0x3F800000#32 : EReal) = 1 := by
    simp
  rw [e0, e1] at h
  change IntOp.andi (BitVec.ofBool (decide ((0 : EReal) ≤ g))) (BitVec.ofBool (decide (g ≤ 1))) = 1#1 at h
  by_cases h0 : (0 : EReal) ≤ g
  · by_cases h1 : g ≤ 1
    · exact EReal.sub_self (fun e => by rw [e] at h1; exact absurd h1 (by decide)) (fun e => by rw [e] at h0; exact absurd h0 (by decide))
    · rw [decide_eq_false h1, decide_eq_true h0] at h; exact absurd h (by decide)
  · by_cases h1 : g ≤ 1
    · rw [decide_eq_false h0, decide_eq_true h1] at h; exact absurd h (by decide)
    · rw [decide_eq_false h0, decide_eq_false h1] at h; exact absurd h (by decide)

/-- What the precondition says of the gates. -/
theorem gates_finite [Cert.Pre_gates_between.Facts] (h : Cert.Pre_NsaOutIdeal_gates_between m) (c : Dev nD) (r : Fin 16384) (q : Fin 128) :
    Sub.sub (α := EReal) (m ((c : Thread nD τ).loc main_arg4) (ix2 r q)) (m ((c : Thread nD τ).loc main_arg4) (ix2 r q)) = 0 :=
  gate_sub _ (congrFun (h c) (ix2 r q))

/-- One block of the output. -/
theorem point [Cert.Pre_gates_between.Facts] (h : Cert.Pre_NsaOutIdeal_gates_between m) (c : Dev nD) (t : Fin cfg0.N) (y : Fin 256) (k : Fin 1024) :
    out0_8 (iblk m c 0 t) (iblk m c 1 t) (iblk m c 2 t) (iblk m c 3 t) (iblk m c 4 t) (iblk m c 5 t) (iblk m c 6 t) (iblk m c 7 t) (ix2 y k)
      = output (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (rowOf t y) k := by
  rw [expand_block, block_at _ _ _ _ _ _ _ (fun p q => by rw [gate_block]; exact gates_finite m h c _ q), input_block]
  simp only [first_block, second_block, third_block, gate_block, silu_block, weight_block, Nat.zero_add]
  rfl

/-- The output's blocks cover its array. -/
theorem covers8 : (cfg0.win 8).Covers := by decide +kernel

/-- The output array. -/
theorem final8 [Cert.Pre_gates_between.Facts] (h : Cert.Pre_NsaOutIdeal_gates_between m) (c : Dev nD) (G : FVec Ideal S16384x1024 .f32)
    (hG : ∀ r k, G (ix2 r k) = output (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) r k) :
    (dats m 0 c).arrAt 8 cfg0.N = G := by
  refine (dats m 0 c).arrAt_eq_of_covers 8 _ covers8 fun t _ y => ?_
  rw [after0_8]
  blk_simp [places t]
  refine placed _ G (rowOf t) id (fun p q => (point m h c t p q).trans (hG _ _).symm) y _ ?_ ?_
  · blk_simp [places t, rowOf]
  · blk_simp [places t, id]

end Cert.NsaOutRows

end
-- ==== Proof.NsaOutSampleRows.lean ====
/- The sparse layer's output projection on the sample's rows: three branches under their gates, the output gate, the weights. -/
module

public import proofs.«01_k».proof.Defs
public import proofs.«01_k».proof.Proof.Gen.NsaOutSampleIdeal.Value
public import proofs.«01_k».proof.Proof.Gen.NsaOutSampleReferenceIdeal.Run
public import proofs.«01_k».proof.Proof.NsaOutRows
public import proofs.«01_k».proof.Proof.Words
public import Idealize.ShloMosaic.Lib.Pipeline.ValueKit
public import Idealize.ShloMosaic.Lib.StableHlo.RunRead
public import Idealize.ShloMosaic.Lib.Claim

@[expose] public section

noncomputable section

namespace Cert.NsaOutSampleRows

open Idealize.ShloMosaic Idealize.ShloMosaic.TcCoe Idealize.SL.Sem
open Cert.Proj
open Cert.NsaOutRows (mixed output expand expand0_at expand1_at expand2_at picked gate_sub)

section Reference

open Cert.NsaOutSampleReferenceIdeal Cert.NsaOutSampleReferenceIdeal.Gen

/-- One branch's gates on its heads' features. -/
def branch0 (gt : FVec Ideal S128x128 .f32) (o : FVec Ideal S128x1024 .f32) : FVec Ideal S128x16x64 .f32 :=
  mulf (broadcastInDim S128x16x64 ![0, 1, 2] bcast_S128x16x1_S128x16x64_0_1_2 (shapeCast _ (extractStridedSlice S128x1x16x1 ![0, 0, 0, 0] (shapeCast _ (extractStridedSlice S128x48 ![0, 0] gt slices_S128x128_S128x48_0_0) shapeCasts_S128x48_S128x3x16x1) slices_S128x3x16x1_S128x1x16x1_0_0_0_0) shapeCasts_S128x1x16x1_S128x16x1)) (shapeCast _ o shapeCasts_S128x1024_S128x16x64)

def branch1 (gt : FVec Ideal S128x128 .f32) (o : FVec Ideal S128x1024 .f32) : FVec Ideal S128x16x64 .f32 :=
  mulf (broadcastInDim S128x16x64 ![0, 1, 2] bcast_S128x16x1_S128x16x64_0_1_2 (shapeCast _ (extractStridedSlice S128x1x16x1 ![0, 1, 0, 0] (shapeCast _ (extractStridedSlice S128x48 ![0, 0] gt slices_S128x128_S128x48_0_0) shapeCasts_S128x48_S128x3x16x1) slices_S128x3x16x1_S128x1x16x1_0_1_0_0) shapeCasts_S128x1x16x1_S128x16x1)) (shapeCast _ o shapeCasts_S128x1024_S128x16x64)

def branch2 (gt : FVec Ideal S128x128 .f32) (o : FVec Ideal S128x1024 .f32) : FVec Ideal S128x16x64 .f32 :=
  mulf (broadcastInDim S128x16x64 ![0, 1, 2] bcast_S128x16x1_S128x16x64_0_1_2 (shapeCast _ (extractStridedSlice S128x1x16x1 ![0, 2, 0, 0] (shapeCast _ (extractStridedSlice S128x48 ![0, 0] gt slices_S128x128_S128x48_0_0) shapeCasts_S128x48_S128x3x16x1) slices_S128x3x16x1_S128x1x16x1_0_2_0_0) shapeCasts_S128x1x16x1_S128x16x1)) (shapeCast _ o shapeCasts_S128x1024_S128x16x64)

theorem branch0_at (gt : FVec Ideal S128x128 .f32) (o : FVec Ideal S128x1024 .f32) (r : Fin 128) (h : Fin 16) (e : Fin 64) :
    branch0 gt o (ix3 r h e) = gt (ix2 r ⟨h.val, by omega⟩) * o (ix2 r ⟨h.val * 64 + e.val, by omega⟩) := by
  pointwise [branch0]

theorem branch1_at (gt : FVec Ideal S128x128 .f32) (o : FVec Ideal S128x1024 .f32) (r : Fin 128) (h : Fin 16) (e : Fin 64) :
    branch1 gt o (ix3 r h e) = gt (ix2 r ⟨16 + h.val, by omega⟩) * o (ix2 r ⟨h.val * 64 + e.val, by omega⟩) := by
  pointwise [branch1]

theorem branch2_at (gt : FVec Ideal S128x128 .f32) (o : FVec Ideal S128x1024 .f32) (r : Fin 128) (h : Fin 16) (e : Fin 64) :
    branch2 gt o (ix3 r h e) = gt (ix2 r ⟨32 + h.val, by omega⟩) * o (ix2 r ⟨h.val * 64 + e.val, by omega⟩) := by
  pointwise [branch2]

/-- A feature's head and place within it name the feature. -/
theorem feature (r : Fin 128) (d : Fin 1024) (o : FVec Ideal S128x1024 .f32) (h : d.val / 64 * 64 + d.val % 64 < 1024) :
    o (ix2 r ⟨d.val / 64 * 64 + d.val % 64, h⟩) = o (ix2 r d) :=
  congrArg (fun e => o (ix2 r e)) (Fin.ext (Nat.div_add_mod' d.val 64))

/-- The reference's output, at an index. -/
theorem reference_at (x oc os ow : FVec Ideal S128x1024 .f32) (gt : FVec Ideal S128x128 .f32) (z : FVec Ideal S128x1024 .f32) (w : FVec Ideal S1024x1024 .f32) (r : Fin 128) (k : Fin 1024) :
    addf x (Host.dotGeneral dot_S128x1024_S1024x1024_S128x1024_1_0_0_1_n_n none (mulf (shapeCast _ (addf (addf (branch0 gt oc) (branch1 gt os)) (branch2 gt ow)) shapeCasts_S128x16x64_S128x1024) z) w) (ix2 r k)
      = output x oc os ow gt z w r k := by
  unfold output mixed
  pointwise
  simp only [branch0_at, branch1_at, branch2_at, feature]

end Reference

open Cert.NsaOutSampleIdeal Cert.NsaOutSampleIdeal.Gen

variable (m : (ℓ : Loc nD τ sig) → Buf (Elt Ideal) ℓ)

/-- The expansion matrix the region reads is the host's. -/
theorem expand_entry (c : Dev nD) : (V m c main_v27 : FVec Ideal S128x3072 .bf16) = expand := by
  unfold V
  after_reads_simp
  rfl

/-- The store's block, at an index, for gates that are finite. -/
theorem block_at (x0 x1 x2 x3 : Vec Ideal S128x1024 .f32) (x4 : Vec Ideal S128x128 .f32) (x5 : Vec Ideal S128x1024 .f32)
    (x7 : Vec Ideal S1024x1024 .bf16) (hx : ∀ y q, x4 (ix2 y q) - x4 (ix2 y q) = (0 : EReal)) (y : Fin 128) (k : Fin 1024) :
    out0_8 x0 x1 x2 x3 x4 x5 expand x7 (ix2 y k)
      = x0 (ix2 y k) + ∑ d : Fin 1024,
          (x4 (ix2 y ⟨d.val / 64, by omega⟩) * x1 (ix2 y d) + x4 (ix2 y ⟨16 + d.val / 64, by omega⟩) * x2 (ix2 y d)
            + x4 (ix2 y ⟨32 + d.val / 64, by omega⟩) * x3 (ix2 y d)) * x5 (ix2 y d) * x7 (ix2 d k) := by
  have first : ∀ d : Fin 1024, ∑ q : Fin 128, x4 (ix2 y q) * (if q.val = d.val / 64 then (1 : EReal) else 0) = x4 (ix2 y ⟨d.val / 64, by omega⟩) := fun d => by
    have e := picked (fun q => x4 (ix2 y q)) 0 (by omega) d
    simpa only [Nat.zero_add] using e
  frame_out
  pointwise [k0_pay1]
  simp only [expand0_at, expand1_at, expand2_at, hx, zero_mul, Finset.sum_const_zero, add_zero,
    first, picked (fun q => x4 (ix2 y q)) 16 (by omega),
    picked (fun q => x4 (ix2 y q)) 32 (by omega)]

/-- Where a grid point's blocks lie. -/
theorem places : ∀ t : Fin cfg0.N,
    win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![0, 0] ∧ win0_7.index t = ![0, 0] ∧ win0_8.index t = ![t.val, 0] :=
  (by decide +kernel : ∀ t : Fin grid0.N, _)

/-- The weights the region reads are the argument's. -/
theorem weight_entry (c : Dev nD) : (V m c main_v28 : FVec Ideal S1024x1024 .bf16) = m ((c : Thread nD τ).loc main_arg6) := by
  unfold V
  after_reads_simp
  rfl

/-- The array's row of a block's row. -/
def rowOf (t : Fin cfg0.N) (y : Fin 128) : Fin 128 :=
  ⟨t.val * 128 + y.val, by have := t.isLt; have e : cfg0.N = 1 := rfl; omega⟩

/-- The block of inputs. -/
theorem input_block (c : Dev nD) (t : Fin cfg0.N) (y : Fin 128) (d : Fin 1024) :
    iblk m c 0 t (ix2 y d) = m ((c : Thread nD τ).loc main_arg0) (ix2 (rowOf t y) d) := by
  unfold rowOf
  blk_ext [iblk, V, places t]

/-- The block of the compressed branch. -/
theorem first_block (c : Dev nD) (t : Fin cfg0.N) (y : Fin 128) (d : Fin 1024) :
    iblk m c 1 t (ix2 y d) = m ((c : Thread nD τ).loc main_arg1) (ix2 (rowOf t y) d) := by
  unfold rowOf
  blk_ext [iblk, V, places t]

/-- The block of the selected branch. -/
theorem second_block (c : Dev nD) (t : Fin cfg0.N) (y : Fin 128) (d : Fin 1024) :
    iblk m c 2 t (ix2 y d) = m ((c : Thread nD τ).loc main_arg2) (ix2 (rowOf t y) d) := by
  unfold rowOf
  blk_ext [iblk, V, places t]

/-- The block of the window branch. -/
theorem third_block (c : Dev nD) (t : Fin cfg0.N) (y : Fin 128) (d : Fin 1024) :
    iblk m c 3 t (ix2 y d) = m ((c : Thread nD τ).loc main_arg3) (ix2 (rowOf t y) d) := by
  unfold rowOf
  blk_ext [iblk, V, places t]

/-- The block of the branches' gates. -/
theorem gate_block (c : Dev nD) (t : Fin cfg0.N) (y : Fin 128) (q : Fin 128) :
    iblk m c 4 t (ix2 y q) = m ((c : Thread nD τ).loc main_arg4) (ix2 (rowOf t y) q) := by
  unfold rowOf
  blk_ext [iblk, V, places t]

/-- The block of the output's gate. -/
theorem silu_block (c : Dev nD) (t : Fin cfg0.N) (y : Fin 128) (d : Fin 1024) :
    iblk m c 5 t (ix2 y d) = m ((c : Thread nD τ).loc main_arg5) (ix2 (rowOf t y) d) := by
  unfold rowOf
  blk_ext [iblk, V, places t]

/-- The block of the expansion matrix is the matrix. -/
theorem expand_block (c : Dev nD) (t : Fin cfg0.N) : iblk m c 6 t = expand := by
  refine Eq.trans ?_ (expand_entry m c)
  funext j
  blk_ext [iblk, places t]

/-- The block of weights is the weights. -/
theorem weight_block (c : Dev nD) (t : Fin cfg0.N) (d : Fin 1024) (k : Fin 1024) :
    iblk m c 7 t (ix2 d k) = m ((c : Thread nD τ).loc main_arg6) (ix2 d k) := by
  refine Eq.trans ?_ (congrFun (weight_entry m c) (ix2 d k))
  blk_ext [iblk, places t]

/-- What the precondition says of the gates. -/
theorem gates_finite [Cert.Pre_sample_gates_between.Facts] (h : Cert.Pre_NsaOutSampleIdeal_sample_gates_between m) (c : Dev nD) (r : Fin 128) (q : Fin 128) :
    Sub.sub (α := EReal) (m ((c : Thread nD τ).loc main_arg4) (ix2 r q)) (m ((c : Thread nD τ).loc main_arg4) (ix2 r q)) = 0 :=
  gate_sub _ (congrFun (h c) (ix2 r q))

/-- One block of the output. -/
theorem point [Cert.Pre_sample_gates_between.Facts] (h : Cert.Pre_NsaOutSampleIdeal_sample_gates_between m) (c : Dev nD) (t : Fin cfg0.N) (y : Fin 128) (k : Fin 1024) :
    out0_8 (iblk m c 0 t) (iblk m c 1 t) (iblk m c 2 t) (iblk m c 3 t) (iblk m c 4 t) (iblk m c 5 t) (iblk m c 6 t) (iblk m c 7 t) (ix2 y k)
      = output (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (rowOf t y) k := by
  rw [expand_block, block_at _ _ _ _ _ _ _ (fun p q => by rw [gate_block]; exact gates_finite m h c _ q), input_block]
  simp only [first_block, second_block, third_block, gate_block, silu_block, weight_block, Nat.zero_add]
  rfl

/-- The output's blocks cover its array. -/
theorem covers8 : (cfg0.win 8).Covers := by decide +kernel

/-- The output array. -/
theorem final8 [Cert.Pre_sample_gates_between.Facts] (h : Cert.Pre_NsaOutSampleIdeal_sample_gates_between m) (c : Dev nD) (G : FVec Ideal S128x1024 .f32)
    (hG : ∀ r k, G (ix2 r k) = output (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) r k) :
    (dats m 0 c).arrAt 8 cfg0.N = G := by
  refine (dats m 0 c).arrAt_eq_of_covers 8 _ covers8 fun t _ y => ?_
  rw [after0_8]
  blk_simp [places t]
  refine placed _ G (rowOf t) id (fun p q => (point m h c t p q).trans (hG _ _).symm) y _ ?_ ?_
  · blk_simp [places t, rowOf]
  · blk_simp [places t, id]

end Cert.NsaOutSampleRows

end
-- ==== Proof.NsaSpec.lean ====
/- The arithmetic of the sparse layer's input projection: the norm of one head, and the segment sums that feed it. -/
module

public import proofs.«01_k».proof.Proof.Projection

@[expose] public section

noncomputable section

namespace Cert.Nsa

open Idealize.ShloMosaic
open Cert.Proj

/-- A feature of a head of 64 after the head's norm. -/
def headNorm (v g : Fin 64 → EReal) (e : Fin 64) : EReal :=
  v e * scale (Ideal.ofBits .f32 0x42800000#32) (∑ k, v k * v k) * g e

/-- A feature of a query head: normed, then scaled by an eighth. -/
def query (v g : Fin 64 → EReal) (e : Fin 64) : EReal := headNorm v g e * Ideal.ofBits .f32 0x3E000000#32

/-- A query feature of a row, from the row's products. -/
def queryRow {a : ℕ} (p : Fin a → Fin 3632 → EReal) (g : Fin 64 → EReal) (r : Fin a) (d : Fin 1024) : EReal :=
  query (fun k => p r ⟨d.val / 64 * 64 + k.val, by omega⟩) g ⟨d.val % 64, by omega⟩

/-- A key feature of a row, from the row's products; the branch's columns begin at `b`. -/
def keyRow {a : ℕ} (p : Fin a → Fin 3632 → EReal) (b : ℕ) (hb : b ≤ 2048) (g : Fin 64 → EReal) (r : Fin a) (d : Fin 256) : EReal :=
  headNorm (fun k => p r ⟨b + (d.val / 64 * 64 + k.val), by omega⟩) g ⟨d.val % 64, by omega⟩

/-- A branch's keys and, after them, its values. -/
def branchRow {a : ℕ} (p : Fin a → Fin 3632 → EReal) (b : ℕ) (hb : b ≤ 2048) (g : Fin 64 → EReal) (r : Fin a) (k : Fin 512) : EReal :=
  if h : k.val < 256 then keyRow p b hb g r ⟨k.val, h⟩ else p r ⟨b + k.val, by omega⟩

/-- The gates of the three branches' heads, with columns of no gate after them. -/
def gateRow {a : ℕ} (p : Fin a → Fin 3632 → EReal) (gb : Fin 48 → EReal) (r : Fin a) (k : Fin 128) : EReal :=
  sigmoid (if h : k.val < 48 then p r ⟨2560 + k.val, by omega⟩ + gb ⟨k.val, h⟩ else 0)

/-- The attention's queries: a head's features, then its slopes. -/
def queryFeature (p : Fin 16384 → Fin 3632 → EReal) (g : Fin 64 → EReal) (al : Fin 16 → Fin 64 → EReal)
    (b : Fin 2) (gr : Fin 4) (t : Fin 64) (f : Fin 128) (l : Fin 512) : EReal :=
  if h : f.val < 64 then
    queryRow p g ⟨b.val * 8192 + t.val * 128 + l.val % 128, by omega⟩ ⟨(gr.val * 4 + l.val / 128) * 64 + f.val, by omega⟩
  else al ⟨gr.val * 4 + l.val / 128, by omega⟩ ⟨f.val - 64, by omega⟩

/-- The attention's keys: a group's features, then the position's. -/
def keyFeature {n : ℕ} (p : Fin 16384 → Fin 3632 → EReal) (c : ℕ) (hc : c ≤ 2048) (g : Fin 64 → EReal) (pf : Fin 8192 → Fin n → EReal)
    (b : Fin 2) (gr : Fin 4) (r : Fin 8192) (f : Fin (64 + n)) : EReal :=
  if h : f.val < 64 then keyRow p c hc g ⟨b.val * 8192 + r.val, by omega⟩ ⟨gr.val * 64 + f.val, by omega⟩
  else pf r ⟨f.val - 64, by omega⟩

/-- The attention's values: a group's features, a row of ones, then zeros. -/
def valueFeature (p : Fin 16384 → Fin 3632 → EReal) (c : ℕ) (hc : c ≤ 2048)
    (b : Fin 2) (gr : Fin 4) (f : Fin 128) (r : Fin 8192) : EReal :=
  if h : f.val < 64 then p ⟨b.val * 8192 + r.val, by omega⟩ ⟨c + 256 + gr.val * 64 + f.val, by omega⟩
  else if f.val = 64 then 1 else 0

/-- Adding up the features that lie in one head. -/
theorem segment {H : ℕ} (f : Fin (H * 64) → EReal) (h : Fin H) :
    ∑ j : Fin (H * 64), f j * (if j.val / 64 = h.val then (1 : EReal) else 0)
      = ∑ k : Fin 64, f ⟨h.val * 64 + k.val, by have := h.isLt; omega⟩ := by
  rw [← finProdFinEquiv.sum_comp, Fintype.sum_prod_type, Finset.sum_eq_single h]
  · refine Finset.sum_congr rfl fun k _ => ?_
    have e : (finProdFinEquiv (h, k)).val = k.val + 64 * h.val := finProdFinEquiv_apply_val (h, k)
    rw [if_pos (by omega), mul_one]
    exact congrArg f (Fin.ext (by show (finProdFinEquiv (h, k)).val = h.val * 64 + k.val; omega))
  · intro b _ hb
    refine Finset.sum_eq_zero fun k _ => ?_
    have e : (finProdFinEquiv (b, k)).val = k.val + 64 * b.val := finProdFinEquiv_apply_val (b, k)
    have hne : ¬ (finProdFinEquiv (b, k)).val / 64 = h.val := fun hh => hb (Fin.ext (by omega))
    rw [if_neg hne, mul_zero]
  · intro hh
    exact absurd (Finset.mem_univ h) hh

/-- The word of 1/64 times a sum is the sum over 64. -/
theorem scaled (s : EReal) :
    Ideal.rsqrt (s * Ideal.ofBits .f32 0x3C800000#32 + Ideal.ofBits .f32 0x358637BD#32)
      = scale (Ideal.ofBits .f32 0x42800000#32) s := by
  have h64 : Ideal.ofBits .f32 0x42800000#32 = ((64 : ℝ) : EReal) := by
    simp [Ideal.ofBits, Ideal.ieee]
    rw [← EReal.coe_mul]
    norm_num
  have hinv : Ideal.ofBits .f32 0x3C800000#32 = ((1 / 64 : ℝ) : EReal) := by
    simp [Ideal.ofBits, Ideal.ieee]
    rw [← EReal.coe_mul]
    norm_num
  unfold scale
  rw [h64, hinv, Ideal.div_coe (by norm_num)]

/-- A head's norm, from the sum over every feature weighted by whether it lies in the head. -/
theorem headNorm_of_marks {H : ℕ} (v : Fin (H * 64) → EReal) (g : EReal) (h : Fin H) (gain : Fin 64 → EReal) (e : Fin 64)
    (hg : g = gain e) :
    v ⟨h.val * 64 + e.val, by have := h.isLt; omega⟩
        * Ideal.rsqrt ((∑ j : Fin (H * 64), v j * v j * (if j.val / 64 = h.val then (1 : EReal) else 0))
            * Ideal.ofBits .f32 0x3C800000#32 + Ideal.ofBits .f32 0x358637BD#32) * g
      = headNorm (fun k => v ⟨h.val * 64 + k.val, by have := h.isLt; omega⟩) gain e := by
  rw [segment (fun j => v j * v j), scaled, hg]
  rfl

end Cert.Nsa

end
-- ==== Proof.NsaHost.lean ====
/- The sparse layer's input projection: the operands the host prepares, and the blocks a grid point reads. -/
module

public import proofs.«01_k».proof.Proof.Gen.NsaProjIdeal.Value
public import proofs.«01_k».proof.Proof.NsaSpec
public import proofs.«01_k».proof.Proof.NsaOutRows
public import Idealize.ShloMosaic.Lib.Pipeline.ValueKit
public import Idealize.ShloMosaic.Lib.StableHlo.RunRead
public import Idealize.ShloMosaic.Lib.Claim

@[expose] public section

noncomputable section

namespace Cert.Nsa

open Cert.NsaProjIdeal Cert.NsaProjIdeal.Gen Idealize.ShloMosaic Idealize.ShloMosaic.TcCoe Idealize.SL.Sem
open Cert.Proj

variable (m : (ℓ : Loc nD τ sig) → Buf (Elt Ideal) ℓ)

/-- The weights with the output gate's columns moved ahead of the branch gates', and zero columns after those. -/
def weights (w : FVec Ideal S1024x3632 .f32) : FVec Ideal S1024x3712 .bf16 :=
  truncf .bf16 (concatenate S1024x3712 1
    [⟨S1024x1024, extractStridedSlice S1024x1024 ![0, 0] w slices_S1024x3632_S1024x1024_0_0⟩,
     ⟨S1024x512, extractStridedSlice S1024x512 ![0, 1024] w slices_S1024x3632_S1024x512_0_1024⟩,
     ⟨S1024x512, extractStridedSlice S1024x512 ![0, 1536] w slices_S1024x3632_S1024x512_0_1536⟩,
     ⟨S1024x512, extractStridedSlice S1024x512 ![0, 2048] w slices_S1024x3632_S1024x512_0_2048⟩,
     ⟨S1024x1024, extractStridedSlice S1024x1024 ![0, 2608] w slices_S1024x3632_S1024x1024_0_2608⟩,
     ⟨S1024x128, pad S1024x128 ![0, 0] ![0, 80] ![0, 0]
        (extractStridedSlice S1024x48 ![0, 2560] w slices_S1024x3632_S1024x48_0_2560)
        (sitofp .f32 (constantI S_ 32 0#32)) pads_S1024x48_S1024x128_000_0800 h_S_⟩]
    concatenates_S1024x1024_S1024x512_S1024x512_S1024x512_S1024x1024_S1024x128_S1024x3712_d1) bitsLt_bf16_f32

theorem weights_branches (w : FVec Ideal S1024x3632 .f32) (d : Fin 1024) (k : Fin 3712) (h : k.val < 2560) :
    weights w (ix2 d k) = w (ix2 d ⟨k.val, by omega⟩) := by
  pointwise [weights]
  blk_point
  omega

theorem weights_output_gate (w : FVec Ideal S1024x3632 .f32) (d : Fin 1024) (k : Fin 3712) (h : 2560 ≤ k.val) (h' : k.val < 3584) :
    weights w (ix2 d k) = w (ix2 d ⟨k.val + 48, by omega⟩) := by
  pointwise [weights]
  blk_point
  omega

theorem weights_gates (w : FVec Ideal S1024x3632 .f32) (d : Fin 1024) (k : Fin 3712) (h : 3584 ≤ k.val) :
    weights w (ix2 d k) = if h' : k.val < 3632 then w (ix2 d ⟨k.val - 1024, by omega⟩) else (0 : EReal) := by
  pointwise [weights]
  blk_point
  all_goals first | exact zero_word | exact zero_word.symm | omega

theorem weight_entry (c : Dev nD) : (V m c main_v8 : FVec Ideal S1024x3712 .bf16) = weights (m ((c : Thread nD τ).loc main_arg2)) := by
  unfold V
  after_reads_simp
  rfl

/-- The row of gains of the layer's norm. -/
theorem gain_entry (c : Dev nD) : (V m c main_v9 : FVec Ideal S1x1024 .f32)
    = broadcastInDim S1x1024 ![1] bcast_S1024_S1x1024_1 (m ((c : Thread nD τ).loc main_arg1)) := by
  unfold V
  after_reads_simp

/-- The matrix whose entry is one where two features lie in one head. -/
def sameHead : FVec Ideal S1024x1024 .bf16 :=
  uitofp .bf16 (cmpi .eq
    (broadcastInDim S1024x1024 ![0, 1] bcast_S1024x1_S1024x1024_0_1 (broadcastInDim S1024x1 ![0] bcast_S1024_S1024x1_0 Cert.NsaOutRows.heads))
    (broadcastInDim S1024x1024 ![0, 1] bcast_S1x1024_S1024x1024_0_1 (broadcastInDim S1x1024 ![1] bcast_S1024_S1x1024_1 Cert.NsaOutRows.heads)))

theorem sameHead_at (j k : Fin 1024) : sameHead (ix2 j k) = if j.val / 64 = k.val / 64 then (1 : EReal) else 0 := by
  pointwise [sameHead, Cert.NsaOutRows.heads_at]
  rw [Cert.CmpAttn.eq_words (by omega) (by omega)]
  by_cases h : j.val / 64 = k.val / 64
  · rw [if_pos h, decide_eq_true h]
    show ((((1 : ℕ) : ℝ) : ℝ) : EReal) = 1
    norm_num
  · rw [if_neg h, decide_eq_false h]
    show ((((0 : ℕ) : ℝ) : ℝ) : EReal) = 0
    norm_num

theorem sameHead_entry (c : Dev nD) : (V m c main_v17 : FVec Ideal S1024x1024 .bf16) = sameHead := by
  unfold V
  after_reads_simp
  rfl

/-- The query gains, once for each head, with the queries' scale. -/
def queryGains (g : FVec Ideal S64 .f32) : FVec Ideal S1x1024 .f32 :=
  broadcastInDim S1x1024 ![1] bcast_S1024_S1x1024_1
    (mulf (shapeCast S1024 (broadcastInDim S16x64 ![0, 1] bcast_S1x64_S16x64_0_1 (shapeCast S1x64 g shapeCasts_S64_S1x64)) shapeCasts_S16x64_S1024)
      (broadcastInDim S1024 ![] bcast_S_S1024 (constant S_ .f32 0x3E000000#32)))

theorem queryGains_at (g : FVec Ideal S64 .f32) (k : Fin 1024) :
    queryGains g (ix2 0 k) = g (ix1 ⟨k.val % 64, by omega⟩) * Ideal.ofBits .f32 0x3E000000#32 := by
  pointwise [queryGains]

theorem queryGains_entry (c : Dev nD) : (V m c main_v23 : FVec Ideal S1x1024 .f32) = queryGains (m ((c : Thread nD τ).loc main_arg3)) := by
  unfold V
  after_reads_simp
  rfl

/-- A branch's key gains, once for each group. -/
def keyGains (g : FVec Ideal S1x64 .f32) : FVec Ideal S1x256 .f32 :=
  broadcastInDim S1x256 ![1] bcast_S256_S1x256_1
    (shapeCast S256 (broadcastInDim S4x64 ![0, 1] bcast_S1x64_S4x64_0_1 (shapeCast S1x64 (shapeCast S64 g shapeCasts_S1x64_S64) shapeCasts_S64_S1x64)) shapeCasts_S4x64_S256)

theorem keyGains_at (g : FVec Ideal S1x64 .f32) (k : Fin 256) : keyGains g (ix2 0 k) = g (ix2 0 ⟨k.val % 64, by omega⟩) := by
  pointwise [keyGains]

theorem selectedGains_entry (c : Dev nD) : (V m c main_v29 : FVec Ideal S1x256 .f32)
    = keyGains (extractStridedSlice S1x64 ![1, 0] (m ((c : Thread nD τ).loc main_arg4)) slices_S3x64_S1x64_1_0) := by
  unfold V
  after_reads_simp
  rfl

theorem windowGains_entry (c : Dev nD) : (V m c main_v35 : FVec Ideal S1x256 .f32)
    = keyGains (extractStridedSlice S1x64 ![2, 0] (m ((c : Thread nD τ).loc main_arg4)) slices_S3x64_S1x64_2_0) := by
  unfold V
  after_reads_simp
  rfl

/-- The gates' biases with zeros after them. -/
def gateBias (b : FVec Ideal S48 .f32) : FVec Ideal S1x128 .f32 :=
  broadcastInDim S1x128 ![1] bcast_S128_S1x128_1
    (pad S128 ![0] ![80] ![0] b (sitofp .f32 (constantI S_ 32 0#32)) pads_S48_S128_0800 h_S_)

theorem gateBias_at (b : FVec Ideal S48 .f32) (k : Fin 128) :
    gateBias b (ix2 0 k) = if h : k.val < 48 then b (ix1 ⟨k.val, h⟩) else (0 : EReal) := by
  pointwise [gateBias]
  rw [zero_word]

theorem gateBias_entry (c : Dev nD) : (V m c main_v37 : FVec Ideal S1x128 .f32) = gateBias (m ((c : Thread nD τ).loc main_arg5)) := by
  unfold V
  after_reads_simp
  rfl

/-- The array's row of a block's row. -/
def rowOf (t : Fin cfg0.N) (y : Fin 256) : Fin 16384 :=
  ⟨t.val * 256 + y.val, by have := t.isLt; have e : cfg0.N = 64 := rfl; omega⟩

/-- A grid point's batch entry. -/
def batOf (t : Fin cfg0.N) : Fin 2 := ⟨t.val / 32, by have := t.isLt; have e : cfg0.N = 64 := rfl; omega⟩

/-- A grid point's place within its batch entry. -/
def placeOf (t : Fin cfg0.N) : Fin 32 := ⟨t.val % 32, by omega⟩

/-- Where a grid point's blocks lie. -/
theorem places : ∀ t : Fin cfg0.N,
    win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![t.val % 32, 0]
    ∧ win0_10.index t = ![t.val, 0] ∧ win0_11.index t = ![t.val, 0] ∧ win0_12.index t = ![t.val, 0]
    ∧ win0_13.index t = ![t.val, 0] ∧ win0_14.index t = ![t.val, 0] ∧ win0_15.index t = ![t.val, 0]
    ∧ win0_16.index t = ![t.val / 32, 0, t.val % 32, 0, 0] ∧ win0_17.index t = ![t.val / 32, 0, t.val % 32, 0]
    ∧ win0_18.index t = ![t.val / 32, 0, 0, t.val % 32] ∧ win0_19.index t = ![t.val / 32, 0, t.val % 32, 0]
    ∧ win0_20.index t = ![t.val / 32, 0, 0, t.val % 32] :=
  (by decide +kernel : ∀ t : Fin grid0.N, _)

/-- The block of rows. -/
theorem row_block (c : Dev nD) (t : Fin cfg0.N) (y : Fin 256) (d : Fin 1024) :
    iblk m c 0 t (ix2 y d) = m ((c : Thread nD τ).loc main_arg0) (ix2 (rowOf t y) d) := by
  unfold rowOf
  blk_ext [iblk, V, places t]

/-- The block of the norm's gains. -/
theorem gain_block (c : Dev nD) (t : Fin cfg0.N) (d : Fin 1024) :
    iblk m c 1 t (ix2 0 d) = m ((c : Thread nD τ).loc main_arg1) (ix1 d) := by
  refine Eq.trans ?_ ((congrFun (gain_entry m c) (ix2 0 d)).trans (by pointwise))
  blk_ext [iblk, places t]

/-- The block of weights is all of them. -/
theorem weight_block (c : Dev nD) (t : Fin cfg0.N) : iblk m c 2 t = weights (m ((c : Thread nD τ).loc main_arg2)) := by
  refine Eq.trans ?_ (weight_entry m c)
  funext j
  blk_ext [iblk, places t]

/-- The block of marks is the matrix. -/
theorem sameHead_block (c : Dev nD) (t : Fin cfg0.N) : iblk m c 3 t = sameHead := by
  refine Eq.trans ?_ (sameHead_entry m c)
  funext j
  blk_ext [iblk, places t]

/-- The block of query gains is all of them. -/
theorem queryGains_block (c : Dev nD) (t : Fin cfg0.N) : iblk m c 4 t = queryGains (m ((c : Thread nD τ).loc main_arg3)) := by
  refine Eq.trans ?_ (queryGains_entry m c)
  funext j
  blk_ext [iblk, places t]

/-- The block of the selected branch's key gains is all of them. -/
theorem selectedGains_block (c : Dev nD) (t : Fin cfg0.N) : iblk m c 5 t
    = keyGains (extractStridedSlice S1x64 ![1, 0] (m ((c : Thread nD τ).loc main_arg4)) slices_S3x64_S1x64_1_0) := by
  refine Eq.trans ?_ (selectedGains_entry m c)
  funext j
  blk_ext [iblk, places t]

/-- The block of the window branch's key gains is all of them. -/
theorem windowGains_block (c : Dev nD) (t : Fin cfg0.N) : iblk m c 6 t
    = keyGains (extractStridedSlice S1x64 ![2, 0] (m ((c : Thread nD τ).loc main_arg4)) slices_S3x64_S1x64_2_0) := by
  refine Eq.trans ?_ (windowGains_entry m c)
  funext j
  blk_ext [iblk, places t]

/-- The block of biases is all of them. -/
theorem gateBias_block (c : Dev nD) (t : Fin cfg0.N) : iblk m c 7 t = gateBias (m ((c : Thread nD τ).loc main_arg5)) := by
  refine Eq.trans ?_ (gateBias_entry m c)
  funext j
  blk_ext [iblk, places t]

/-- The block of slopes is all of them. -/
theorem slope_block (c : Dev nD) (t : Fin cfg0.N) (h : Fin 16) (e : Fin 64) :
    iblk m c 8 t (ix2 h e) = m ((c : Thread nD τ).loc main_arg6) (ix2 h e) := by
  blk_ext [iblk, V, places t]

/-- The block of positions' features: the rows of the point's place. -/
theorem position_block (c : Dev nD) (t : Fin cfg0.N) (y : Fin 256) (e : Fin 192) :
    iblk m c 9 t (ix2 y e) = m ((c : Thread nD τ).loc main_arg7) (ix2 ⟨t.val % 32 * 256 + y.val, by omega⟩ e) := by
  blk_ext [iblk, V, places t]

end Cert.Nsa

end
-- ==== Proof.NsaSampleHost.lean ====
/- The sparse layer's input projection of the sample's rows: the operands the host prepares, and the blocks a grid point reads. -/
module

public import proofs.«01_k».proof.Proof.Gen.NsaProjSampleIdeal.Value
public import proofs.«01_k».proof.Proof.NsaHost
public import Idealize.ShloMosaic.Lib.Pipeline.ValueKit
public import Idealize.ShloMosaic.Lib.StableHlo.RunRead
public import Idealize.ShloMosaic.Lib.Claim

@[expose] public section

noncomputable section

namespace Cert.NsaSample

open Cert.NsaProjSampleIdeal Cert.NsaProjSampleIdeal.Gen Idealize.ShloMosaic Idealize.ShloMosaic.TcCoe Idealize.SL.Sem
open Cert.Proj Cert.Nsa

variable (m : (ℓ : Loc nD τ sig) → Buf (Elt Ideal) ℓ)

theorem weight_entry (c : Dev nD) : (V m c main_v8 : FVec Ideal S1024x3712 .bf16) = weights (m ((c : Thread nD τ).loc main_arg2)) := by
  unfold V
  after_reads_simp
  rfl

theorem gain_entry (c : Dev nD) : (V m c main_v9 : FVec Ideal S1x1024 .f32)
    = broadcastInDim S1x1024 ![1] bcast_S1024_S1x1024_1 (m ((c : Thread nD τ).loc main_arg1)) := by
  unfold V
  after_reads_simp

theorem sameHead_entry (c : Dev nD) : (V m c main_v17 : FVec Ideal S1024x1024 .bf16) = sameHead := by
  unfold V
  after_reads_simp
  rfl

theorem queryGains_entry (c : Dev nD) : (V m c main_v23 : FVec Ideal S1x1024 .f32) = queryGains (m ((c : Thread nD τ).loc main_arg3)) := by
  unfold V
  after_reads_simp
  rfl

theorem selectedGains_entry (c : Dev nD) : (V m c main_v29 : FVec Ideal S1x256 .f32)
    = keyGains (extractStridedSlice S1x64 ![1, 0] (m ((c : Thread nD τ).loc main_arg4)) slices_S3x64_S1x64_1_0) := by
  unfold V
  after_reads_simp
  rfl

theorem windowGains_entry (c : Dev nD) : (V m c main_v35 : FVec Ideal S1x256 .f32)
    = keyGains (extractStridedSlice S1x64 ![2, 0] (m ((c : Thread nD τ).loc main_arg4)) slices_S3x64_S1x64_2_0) := by
  unfold V
  after_reads_simp
  rfl

theorem gateBias_entry (c : Dev nD) : (V m c main_v37 : FVec Ideal S1x128 .f32) = gateBias (m ((c : Thread nD τ).loc main_arg5)) := by
  unfold V
  after_reads_simp
  rfl

def rowOf (t : Fin cfg0.N) (y : Fin 128) : Fin 128 :=
  ⟨t.val * 128 + y.val, by have := t.isLt; have e : cfg0.N = 1 := rfl; omega⟩

theorem places : ∀ t : Fin cfg0.N,
    win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] :=
  (by decide +kernel : ∀ t : Fin grid0.N, _)

theorem row_block (c : Dev nD) (t : Fin cfg0.N) (y : Fin 128) (d : Fin 1024) :
    iblk m c 0 t (ix2 y d) = m ((c : Thread nD τ).loc main_arg0) (ix2 (rowOf t y) d) := by
  unfold rowOf
  blk_ext [iblk, V, places t]

theorem gain_block (c : Dev nD) (t : Fin cfg0.N) (d : Fin 1024) :
    iblk m c 1 t (ix2 0 d) = m ((c : Thread nD τ).loc main_arg1) (ix1 d) := by
  refine Eq.trans ?_ ((congrFun (gain_entry m c) (ix2 0 d)).trans (by pointwise))
  blk_ext [iblk, places t]

theorem weight_block (c : Dev nD) (t : Fin cfg0.N) : iblk m c 2 t = weights (m ((c : Thread nD τ).loc main_arg2)) := by
  refine Eq.trans ?_ (weight_entry m c)
  funext j
  blk_ext [iblk, places t]

theorem sameHead_block (c : Dev nD) (t : Fin cfg0.N) : iblk m c 3 t = sameHead := by
  refine Eq.trans ?_ (sameHead_entry m c)
  funext j
  blk_ext [iblk, places t]

theorem queryGains_block (c : Dev nD) (t : Fin cfg0.N) : iblk m c 4 t = queryGains (m ((c : Thread nD τ).loc main_arg3)) := by
  refine Eq.trans ?_ (queryGains_entry m c)
  funext j
  blk_ext [iblk, places t]

theorem selectedGains_block (c : Dev nD) (t : Fin cfg0.N) : iblk m c 5 t
    = keyGains (extractStridedSlice S1x64 ![1, 0] (m ((c : Thread nD τ).loc main_arg4)) slices_S3x64_S1x64_1_0) := by
  refine Eq.trans ?_ (selectedGains_entry m c)
  funext j
  blk_ext [iblk, places t]

theorem windowGains_block (c : Dev nD) (t : Fin cfg0.N) : iblk m c 6 t
    = keyGains (extractStridedSlice S1x64 ![2, 0] (m ((c : Thread nD τ).loc main_arg4)) slices_S3x64_S1x64_2_0) := by
  refine Eq.trans ?_ (windowGains_entry m c)
  funext j
  blk_ext [iblk, places t]

theorem gateBias_block (c : Dev nD) (t : Fin cfg0.N) : iblk m c 7 t = gateBias (m ((c : Thread nD τ).loc main_arg5)) := by
  refine Eq.trans ?_ (gateBias_entry m c)
  funext j
  blk_ext [iblk, places t]

end Cert.NsaSample

end
-- ==== Proof.NsaSampleRows.lean ====
/- The sparse layer's input projection of the sample's rows: what the block of rows computes. -/
module

public import proofs.«01_k».proof.Proof.Gen.NsaProjSampleIdeal.Value
public import proofs.«01_k».proof.Proof.NsaSpec
public import proofs.«01_k».proof.Proof.Words
public import Idealize.ShloMosaic.Lib.Pipeline.ValueKit
public import Idealize.ShloMosaic.Lib.Claim

@[expose] public section

noncomputable section

namespace Cert.NsaSample

open Cert.NsaProjSampleIdeal Cert.NsaProjSampleIdeal.Gen Idealize.ShloMosaic Idealize.ShloMosaic.TcCoe Idealize.SL.Sem
open Cert.Proj Cert.Nsa

variable (x0 : Vec Ideal S128x1024 .f32) (x1 : Vec Ideal S1x1024 .f32) (x2 : Vec Ideal S1024x3712 .bf16)
  (x3 : Vec Ideal S1024x1024 .bf16) (x4 : Vec Ideal S1x1024 .f32) (x5 x6 : Vec Ideal S1x256 .f32)
  (x7 : Vec Ideal S1x128 .f32)

/-- A block's products: each row of the block, normed, against each column of the weights. -/
theorem products_at (y : Fin 128) (k : Fin 3712) :
    k0_pay12 x0 x1 x2 x3 x4 x5 x6 x7 (ix2 y k)
      = project (fun d => x0 (ix2 y d)) (fun d => x1 (ix2 0 d)) (fun d => x2 (ix2 d k)) := by
  unfold project normed scale
  pointwise [k0_pay12, k0_pay3, r0_0, r0_1, r0_2]

/-- The queries, from the products and the block's marks of equal heads. -/
theorem queries_at (y : Fin 128) (k : Fin 1024) :
    k0_pay6 (View.ld x0 r0_0) (View.ld x1 r0_1) (View.ld x2 r0_2) (View.ld x3 r0_3) (View.ld x4 r0_1) (ix2 y k)
      = k0_pay12 x0 x1 x2 x3 x4 x5 x6 x7 (ix2 y ⟨k.val, by omega⟩)
        * Ideal.rsqrt ((∑ j : Fin 1024, k0_pay12 x0 x1 x2 x3 x4 x5 x6 x7 (ix2 y ⟨j.val, by omega⟩)
              * k0_pay12 x0 x1 x2 x3 x4 x5 x6 x7 (ix2 y ⟨j.val, by omega⟩) * x3 (ix2 j k))
            * Ideal.ofBits .f32 0x3C800000#32 + Ideal.ofBits .f32 0x358637BD#32) * x4 (ix2 0 k) := by
  have e : k0_pay3 (View.ld x0 r0_0) (View.ld x1 r0_1) (View.ld x2 r0_2) = k0_pay12 x0 x1 x2 x3 x4 x5 x6 x7 := rfl
  unfold k0_pay6
  rw [e]
  generalize k0_pay12 x0 x1 x2 x3 x4 x5 x6 x7 = P
  pointwise [k0_pay4, r0_1, r0_3]

/-- The selected branch's keys. -/
theorem keys_at (y : Fin 128) (k : Fin 256) :
    k0_pay8 (k0_pay12 x0 x1 x2 x3 x4 x5 x6 x7) (k0_pay13 x0 x1 x2 x3 x4 x5 x6 x7) x5 (ix2 y k)
      = k0_pay12 x0 x1 x2 x3 x4 x5 x6 x7 (ix2 y ⟨1536 + k.val, by omega⟩)
        * Ideal.rsqrt ((∑ j : Fin 256, k0_pay12 x0 x1 x2 x3 x4 x5 x6 x7 (ix2 y ⟨1536 + j.val, by omega⟩)
              * k0_pay12 x0 x1 x2 x3 x4 x5 x6 x7 (ix2 y ⟨1536 + j.val, by omega⟩) * x3 (ix2 ⟨j.val, by omega⟩ ⟨k.val, by omega⟩))
            * Ideal.ofBits .f32 0x3C800000#32 + Ideal.ofBits .f32 0x358637BD#32) * x5 (ix2 0 k) := by
  generalize k0_pay12 x0 x1 x2 x3 x4 x5 x6 x7 = P
  pointwise [k0_pay8, k0_pay13, k0_pay5, k0_pay4, r0_3]

/-- The window branch's keys. -/
theorem window_keys_at (y : Fin 128) (k : Fin 256) :
    k0_pay9 (k0_pay12 x0 x1 x2 x3 x4 x5 x6 x7) (k0_pay13 x0 x1 x2 x3 x4 x5 x6 x7) x6 (ix2 y k)
      = k0_pay12 x0 x1 x2 x3 x4 x5 x6 x7 (ix2 y ⟨2048 + k.val, by omega⟩)
        * Ideal.rsqrt ((∑ j : Fin 256, k0_pay12 x0 x1 x2 x3 x4 x5 x6 x7 (ix2 y ⟨2048 + j.val, by omega⟩)
              * k0_pay12 x0 x1 x2 x3 x4 x5 x6 x7 (ix2 y ⟨2048 + j.val, by omega⟩) * x3 (ix2 ⟨j.val, by omega⟩ ⟨k.val, by omega⟩))
            * Ideal.ofBits .f32 0x3C800000#32 + Ideal.ofBits .f32 0x358637BD#32) * x6 (ix2 0 k) := by
  generalize k0_pay12 x0 x1 x2 x3 x4 x5 x6 x7 = P
  pointwise [k0_pay9, k0_pay13, k0_pay5, k0_pay4, r0_3]

/-- The stored queries. -/
theorem store8_at (y : Fin 128) (k : Fin 1024) :
    out0_8 x0 x1 x2 x3 x4 x5 x6 x7 (ix2 y k) = k0_pay6 (View.ld x0 r0_0) (View.ld x1 r0_1) (View.ld x2 r0_2) (View.ld x3 r0_3) (View.ld x4 r0_1) (ix2 y k) := by
  frame_out

/-- The stored features to be compressed. -/
theorem store9_at (y : Fin 128) (k : Fin 512) :
    out0_9 x0 x1 x2 x3 x4 x5 x6 x7 (ix2 y k)
      = k0_pay12 x0 x1 x2 x3 x4 x5 x6 x7 (ix2 y ⟨1024 + k.val, by omega⟩) := by
  unfold k0_pay12
  frame_out
  pointwise [k0_pay7]

/-- The selected branch's stored keys. -/
theorem store10_keys (y : S128x512.Idx) (h0 : (y 0).val < 128) (h : (y 1).val < 256) :
    out0_10 x0 x1 x2 x3 x4 x5 x6 x7 y
      = k0_pay8 (k0_pay12 x0 x1 x2 x3 x4 x5 x6 x7) (k0_pay13 x0 x1 x2 x3 x4 x5 x6 x7) x5 (ix2 ⟨(y 0).val, h0⟩ ⟨(y 1).val, h⟩) := by
  frame_out
  generalize k0_pay8 (k0_pay12 x0 x1 x2 x3 x4 x5 x6 x7) (k0_pay13 x0 x1 x2 x3 x4 x5 x6 x7) x5 = K
  canon_tiles x hx
  · omega
  · blk_ext

/-- The selected branch's stored values. -/
theorem store10_values (y : S128x512.Idx) (h0 : (y 0).val < 128) (h1 : (y 1).val < 512) (h : ¬ (y 1).val < 256) :
    out0_10 x0 x1 x2 x3 x4 x5 x6 x7 y
      = k0_pay12 x0 x1 x2 x3 x4 x5 x6 x7 (ix2 ⟨(y 0).val, h0⟩ ⟨1536 + (y 1).val, by omega⟩) := by
  frame_out
  generalize k0_pay12 x0 x1 x2 x3 x4 x5 x6 x7 = P
  canon_tiles x hx
  · pointwise [k0_pay10]
    blk_ext
  · omega

/-- The window branch's stored keys. -/
theorem store11_keys (y : S128x512.Idx) (h0 : (y 0).val < 128) (h : (y 1).val < 256) :
    out0_11 x0 x1 x2 x3 x4 x5 x6 x7 y
      = k0_pay9 (k0_pay12 x0 x1 x2 x3 x4 x5 x6 x7) (k0_pay13 x0 x1 x2 x3 x4 x5 x6 x7) x6 (ix2 ⟨(y 0).val, h0⟩ ⟨(y 1).val, h⟩) := by
  frame_out
  generalize k0_pay9 (k0_pay12 x0 x1 x2 x3 x4 x5 x6 x7) (k0_pay13 x0 x1 x2 x3 x4 x5 x6 x7) x6 = K
  canon_tiles x hx
  · omega
  · blk_ext

/-- The window branch's stored values. -/
theorem store11_values (y : S128x512.Idx) (h0 : (y 0).val < 128) (h1 : (y 1).val < 512) (h : ¬ (y 1).val < 256) :
    out0_11 x0 x1 x2 x3 x4 x5 x6 x7 y
      = k0_pay12 x0 x1 x2 x3 x4 x5 x6 x7 (ix2 ⟨(y 0).val, h0⟩ ⟨2048 + (y 1).val, by omega⟩) := by
  frame_out
  generalize k0_pay12 x0 x1 x2 x3 x4 x5 x6 x7 = P
  canon_tiles x hx
  · pointwise [k0_pay11]
    blk_ext
  · omega

/-- The stored output gates. -/
theorem store12_at (y : Fin 128) (k : Fin 1024) :
    out0_12 x0 x1 x2 x3 x4 x5 x6 x7 (ix2 y k)
      = silu (k0_pay12 x0 x1 x2 x3 x4 x5 x6 x7 (ix2 y ⟨2560 + k.val, by omega⟩)) := by
  unfold silu sigmoid
  frame_out
  generalize k0_pay12 x0 x1 x2 x3 x4 x5 x6 x7 = P
  pointwise [k0_pay1]
  rw [zero_sub]

/-- The stored branch gates. -/
theorem store13_at (y : Fin 128) (k : Fin 128) :
    out0_13 x0 x1 x2 x3 x4 x5 x6 x7 (ix2 y k)
      = sigmoid (k0_pay12 x0 x1 x2 x3 x4 x5 x6 x7 (ix2 y ⟨3584 + k.val, by omega⟩) + x7 (ix2 0 k)) := by
  unfold sigmoid
  frame_out
  generalize k0_pay12 x0 x1 x2 x3 x4 x5 x6 x7 = P
  pointwise [k0_pay2, r0_8]
  rw [zero_sub]

end Cert.NsaSample

end
-- ==== Proof.NsaRows.lean ====
/- The sparse layer's input projection: what one block of rows computes. -/
module

public import proofs.«01_k».proof.Proof.Gen.NsaProjIdeal.Value
public import proofs.«01_k».proof.Proof.NsaSpec
public import proofs.«01_k».proof.Proof.Words
public import Idealize.ShloMosaic.Lib.Pipeline.ValueKit
public import Idealize.ShloMosaic.Lib.Claim

@[expose] public section

noncomputable section

namespace Cert.Nsa

open Cert.NsaProjIdeal Cert.NsaProjIdeal.Gen Idealize.ShloMosaic Idealize.ShloMosaic.TcCoe Idealize.SL.Sem
open Cert.Proj

variable (x0 : Vec Ideal S256x1024 .f32) (x1 : Vec Ideal S1x1024 .f32) (x2 : Vec Ideal S1024x3712 .bf16)
  (x3 : Vec Ideal S1024x1024 .bf16) (x4 : Vec Ideal S1x1024 .f32) (x5 x6 : Vec Ideal S1x256 .f32)
  (x7 : Vec Ideal S1x128 .f32) (x8 : Vec Ideal S16x64 .f32) (x9 : Vec Ideal S256x192 .f32)

/-- A block's products: each row of the block, normed, against each column of the weights. -/
theorem products_at (y : Fin 256) (k : Fin 3712) :
    k0_pay57 x0 x1 x2 x3 x4 x5 x6 x7 x8 x9 (ix2 y k)
      = project (fun d => x0 (ix2 y d)) (fun d => x1 (ix2 0 d)) (fun d => x2 (ix2 d k)) := by
  unfold project normed scale
  pointwise [k0_pay57, k0_pay4, r0_0, r0_1, r0_2]

/-- The queries, from the products and the block's marks of equal heads. -/
theorem queries_at (y : Fin 256) (k : Fin 1024) :
    k0_pay59 x0 x1 x2 x3 x4 x5 x6 x7 x8 x9 (ix2 y k)
      = k0_pay57 x0 x1 x2 x3 x4 x5 x6 x7 x8 x9 (ix2 y ⟨k.val, by omega⟩)
        * Ideal.rsqrt ((∑ j : Fin 1024, k0_pay57 x0 x1 x2 x3 x4 x5 x6 x7 x8 x9 (ix2 y ⟨j.val, by omega⟩)
              * k0_pay57 x0 x1 x2 x3 x4 x5 x6 x7 x8 x9 (ix2 y ⟨j.val, by omega⟩) * x3 (ix2 j k))
            * Ideal.ofBits .f32 0x3C800000#32 + Ideal.ofBits .f32 0x358637BD#32) * x4 (ix2 0 k) := by
  have e : k0_pay4 (View.ld x0 r0_0) (View.ld x1 r0_1) (View.ld x2 r0_2) = k0_pay57 x0 x1 x2 x3 x4 x5 x6 x7 x8 x9 := rfl
  unfold k0_pay59 k0_pay7
  rw [e]
  generalize k0_pay57 x0 x1 x2 x3 x4 x5 x6 x7 x8 x9 = P
  pointwise [k0_pay5, r0_1, r0_3]

/-- The selected branch's keys. -/
theorem keys_at (y k : Fin 256) :
    k0_pay63 x0 x1 x2 x3 x4 x5 x6 x7 x8 x9 (ix2 y k)
      = k0_pay57 x0 x1 x2 x3 x4 x5 x6 x7 x8 x9 (ix2 y ⟨1536 + k.val, by omega⟩)
        * Ideal.rsqrt ((∑ j : Fin 256, k0_pay57 x0 x1 x2 x3 x4 x5 x6 x7 x8 x9 (ix2 y ⟨1536 + j.val, by omega⟩)
              * k0_pay57 x0 x1 x2 x3 x4 x5 x6 x7 x8 x9 (ix2 y ⟨1536 + j.val, by omega⟩) * x3 (ix2 ⟨j.val, by omega⟩ ⟨k.val, by omega⟩))
            * Ideal.ofBits .f32 0x3C800000#32 + Ideal.ofBits .f32 0x358637BD#32) * x5 (ix2 0 k) := by
  unfold k0_pay63 k0_pay60 k0_pay61 k0_pay62
  generalize k0_pay57 x0 x1 x2 x3 x4 x5 x6 x7 x8 x9 = P
  pointwise [k0_pay32, k0_pay31, k0_pay30, k0_pay29, k0_pay58, k0_pay6, k0_pay5, r0_3, r0_29]

/-- The window branch's keys. -/
theorem window_keys_at (y k : Fin 256) :
    k0_pay64 x0 x1 x2 x3 x4 x5 x6 x7 x8 x9 (ix2 y k)
      = k0_pay57 x0 x1 x2 x3 x4 x5 x6 x7 x8 x9 (ix2 y ⟨2048 + k.val, by omega⟩)
        * Ideal.rsqrt ((∑ j : Fin 256, k0_pay57 x0 x1 x2 x3 x4 x5 x6 x7 x8 x9 (ix2 y ⟨2048 + j.val, by omega⟩)
              * k0_pay57 x0 x1 x2 x3 x4 x5 x6 x7 x8 x9 (ix2 y ⟨2048 + j.val, by omega⟩) * x3 (ix2 ⟨j.val, by omega⟩ ⟨k.val, by omega⟩))
            * Ideal.ofBits .f32 0x3C800000#32 + Ideal.ofBits .f32 0x358637BD#32) * x6 (ix2 0 k) := by
  unfold k0_pay64
  generalize k0_pay57 x0 x1 x2 x3 x4 x5 x6 x7 x8 x9 = P
  pointwise [k0_pay33, k0_pay58, k0_pay6, k0_pay5, r0_3, r0_29]

/-- The stored queries. -/
theorem store10_at (y : Fin 256) (k : Fin 1024) :
    out0_10 x0 x1 x2 x3 x4 x5 x6 x7 x8 x9 (ix2 y k) = k0_pay59 x0 x1 x2 x3 x4 x5 x6 x7 x8 x9 (ix2 y k) := by
  frame_out
  unfold k0_pay59
  frame_out
  pointwise [k0_pay8]

/-- The stored features to be compressed. -/
theorem store11_at (y : Fin 256) (k : Fin 512) :
    out0_11 x0 x1 x2 x3 x4 x5 x6 x7 x8 x9 (ix2 y k)
      = k0_pay57 x0 x1 x2 x3 x4 x5 x6 x7 x8 x9 (ix2 y ⟨1024 + k.val, by omega⟩) := by
  frame_out
  generalize k0_pay57 x0 x1 x2 x3 x4 x5 x6 x7 x8 x9 = P
  pointwise [k0_pay28]

/-- The selected branch's stored keys. -/
theorem store12_keys (y : S256x512.Idx) (h0 : (y 0).val < 256) (h : (y 1).val < 256) :
    out0_12 x0 x1 x2 x3 x4 x5 x6 x7 x8 x9 y
      = k0_pay63 x0 x1 x2 x3 x4 x5 x6 x7 x8 x9 (ix2 ⟨(y 0).val, h0⟩ ⟨(y 1).val, h⟩) := by
  frame_out
  rw [show k0_pay32 (k0_pay60 x0 x1 x2 x3 x4 x5 x6 x7 x8 x9) (k0_pay61 x0 x1 x2 x3 x4 x5 x6 x7 x8 x9) (k0_pay62 x0 x1 x2 x3 x4 x5 x6 x7 x8 x9)
    = k0_pay63 x0 x1 x2 x3 x4 x5 x6 x7 x8 x9 from rfl]
  generalize k0_pay63 x0 x1 x2 x3 x4 x5 x6 x7 x8 x9 = K
  canon_tiles x hx
  · omega
  · blk_ext

/-- The selected branch's stored values. -/
theorem store12_values (y : S256x512.Idx) (h0 : (y 0).val < 256) (h1 : (y 1).val < 512) (h : ¬ (y 1).val < 256) :
    out0_12 x0 x1 x2 x3 x4 x5 x6 x7 x8 x9 y
      = k0_pay57 x0 x1 x2 x3 x4 x5 x6 x7 x8 x9 (ix2 ⟨(y 0).val, h0⟩ ⟨1536 + (y 1).val, by omega⟩) := by
  frame_out
  generalize k0_pay57 x0 x1 x2 x3 x4 x5 x6 x7 x8 x9 = P
  canon_tiles x hx
  · pointwise [k0_pay34]
    blk_ext
  · omega

/-- The window branch's stored keys. -/
theorem store13_keys (y : S256x512.Idx) (h0 : (y 0).val < 256) (h : (y 1).val < 256) :
    out0_13 x0 x1 x2 x3 x4 x5 x6 x7 x8 x9 y
      = k0_pay64 x0 x1 x2 x3 x4 x5 x6 x7 x8 x9 (ix2 ⟨(y 0).val, h0⟩ ⟨(y 1).val, h⟩) := by
  frame_out
  rw [show k0_pay33 (k0_pay57 x0 x1 x2 x3 x4 x5 x6 x7 x8 x9) (k0_pay58 x0 x1 x2 x3 x4 x5 x6 x7 x8 x9) x6
    = k0_pay64 x0 x1 x2 x3 x4 x5 x6 x7 x8 x9 from by unfold k0_pay64; frame_out]
  generalize k0_pay64 x0 x1 x2 x3 x4 x5 x6 x7 x8 x9 = K
  canon_tiles x hx
  · omega
  · blk_ext

/-- The window branch's stored values. -/
theorem store13_values (y : S256x512.Idx) (h0 : (y 0).val < 256) (h1 : (y 1).val < 512) (h : ¬ (y 1).val < 256) :
    out0_13 x0 x1 x2 x3 x4 x5 x6 x7 x8 x9 y
      = k0_pay57 x0 x1 x2 x3 x4 x5 x6 x7 x8 x9 (ix2 ⟨(y 0).val, h0⟩ ⟨2048 + (y 1).val, by omega⟩) := by
  frame_out
  generalize k0_pay57 x0 x1 x2 x3 x4 x5 x6 x7 x8 x9 = P
  canon_tiles x hx
  · pointwise [k0_pay35]
    blk_ext
  · omega

/-- The stored output gates. -/
theorem store14_at (y : Fin 256) (k : Fin 1024) :
    out0_14 x0 x1 x2 x3 x4 x5 x6 x7 x8 x9 (ix2 y k)
      = silu (k0_pay57 x0 x1 x2 x3 x4 x5 x6 x7 x8 x9 (ix2 y ⟨2560 + k.val, by omega⟩)) := by
  unfold silu sigmoid
  frame_out
  generalize k0_pay57 x0 x1 x2 x3 x4 x5 x6 x7 x8 x9 = P
  pointwise [k0_pay2]
  rw [zero_sub]

/-- The stored branch gates. -/
theorem store15_at (y : Fin 256) (k : Fin 128) :
    out0_15 x0 x1 x2 x3 x4 x5 x6 x7 x8 x9 (ix2 y k)
      = sigmoid (k0_pay57 x0 x1 x2 x3 x4 x5 x6 x7 x8 x9 (ix2 y ⟨3584 + k.val, by omega⟩) + x7 (ix2 0 k)) := by
  unfold sigmoid
  frame_out
  generalize k0_pay57 x0 x1 x2 x3 x4 x5 x6 x7 x8 x9 = P
  pointwise [k0_pay3, r0_28]
  rw [zero_sub]

end Cert.Nsa

end
-- ==== Proof.NsaAttentionRows.lean ====
/- The sparse layer's input projection: what one block of rows stores for the attention. -/
module

public import proofs.«01_k».proof.Proof.Gen.NsaProjIdeal.Value
public import proofs.«01_k».proof.Proof.NsaSpec
public import proofs.«01_k».proof.Proof.Words
public import Idealize.ShloMosaic.Lib.Pipeline.ValueKit
public import Idealize.ShloMosaic.Lib.Claim

@[expose] public section

noncomputable section

namespace Cert.Nsa

open Cert.NsaProjIdeal Cert.NsaProjIdeal.Gen Idealize.ShloMosaic Idealize.ShloMosaic.TcCoe Idealize.SL.Sem
open Cert.Proj

variable (x0 : Vec Ideal S256x1024 .f32) (x1 : Vec Ideal S1x1024 .f32) (x2 : Vec Ideal S1024x3712 .bf16)
  (x3 : Vec Ideal S1024x1024 .bf16) (x4 : Vec Ideal S1x1024 .f32) (x5 x6 : Vec Ideal S1x256 .f32)
  (x7 : Vec Ideal S1x128 .f32) (x8 : Vec Ideal S16x64 .f32) (x9 : Vec Ideal S256x192 .f32)

/-- The word that flags the first column after the values. -/
theorem flag_word (n : ℕ) (h : n < 128) (hn : ¬ n < 64) :
    Scalar.select (IntOp.cmpi .eq (BitVec.ofNat 32 (n - 64)) 0#32) (1 : EReal) 0 = if n = 64 then 1 else 0 := by
  rw [Cert.CmpAttn.eq_words (b := 0) (by omega) (by omega)]
  by_cases e : n = 64
  · rw [if_pos e, decide_eq_true (by omega)]
    rfl
  · rw [if_neg e, decide_eq_false (by omega)]
    rfl

/-- The attention's stored queries: the features. -/
theorem store16_queries (y : S1x4x2x128x512.Idx) (h1 : (y 1).val < 4) (h2 : (y 2).val < 2) (h3 : (y 3).val < 64) (h4 : (y 4).val < 512) :
    out0_16 x0 x1 x2 x3 x4 x5 x6 x7 x8 x9 y
      = k0_pay59 x0 x1 x2 x3 x4 x5 x6 x7 x8 x9 (ix2 ⟨(y 2).val * 128 + (y 4).val % 128, by omega⟩ ⟨((y 1).val * 4 + (y 4).val / 128) * 64 + (y 3).val, by omega⟩) := by
  frame_out
  rw [show k0_pay9 x0 x1 x2 x3 x4
    = extractStridedSlice S128x64 ![0, 0] (k0_pay59 x0 x1 x2 x3 x4 x5 x6 x7 x8 x9) slices_S256x1024_o0_0_S128x64 from by unfold k0_pay59; frame_out; rfl]
  generalize k0_pay59 x0 x1 x2 x3 x4 x5 x6 x7 x8 x9 = P
  canon_tiles x hx
  all_goals
    open_payloads
    pointwise [eq_true (show (x 3).val < 64 by omega)]
    blk_point

/-- The attention's stored queries: the slopes. -/
theorem store16_slopes (y : S1x4x2x128x512.Idx) (h1 : (y 1).val < 4) (h3 : (y 3).val < 128) (h4 : (y 4).val < 512) (h : ¬ (y 3).val < 64) :
    out0_16 x0 x1 x2 x3 x4 x5 x6 x7 x8 x9 y
      = x8 (ix2 ⟨(y 1).val * 4 + (y 4).val / 128, by omega⟩ ⟨(y 3).val - 64, by omega⟩) := by
  frame_out
  rw [show k0_pay9 x0 x1 x2 x3 x4
    = extractStridedSlice S128x64 ![0, 0] (k0_pay59 x0 x1 x2 x3 x4 x5 x6 x7 x8 x9) slices_S256x1024_o0_0_S128x64 from by unfold k0_pay59; frame_out; rfl]
  generalize k0_pay59 x0 x1 x2 x3 x4 x5 x6 x7 x8 x9 = P
  canon_tiles x hx
  all_goals
    open_payloads
    pointwise [eq_false (show ¬ (x 3).val < 64 by omega)]
    blk_point

/-- The selected branch's stored attention keys: the features. -/
theorem store17_keys (y : S1x4x256x256.Idx) (h1 : (y 1).val < 4) (h2 : (y 2).val < 256) (h3 : (y 3).val < 64) :
    out0_17 x0 x1 x2 x3 x4 x5 x6 x7 x8 x9 y
      = k0_pay63 x0 x1 x2 x3 x4 x5 x6 x7 x8 x9 (ix2 ⟨(y 2).val, h2⟩ ⟨(y 1).val * 64 + (y 3).val, by omega⟩) := by
  frame_out
  unfold k0_pay37
  rw [show k0_pay32 (k0_pay60 x0 x1 x2 x3 x4 x5 x6 x7 x8 x9) (k0_pay61 x0 x1 x2 x3 x4 x5 x6 x7 x8 x9) (k0_pay62 x0 x1 x2 x3 x4 x5 x6 x7 x8 x9)
    = k0_pay63 x0 x1 x2 x3 x4 x5 x6 x7 x8 x9 from rfl]
  generalize k0_pay63 x0 x1 x2 x3 x4 x5 x6 x7 x8 x9 = K
  canon_tiles x hx
  all_goals
    open_payloads
    pointwise [eq_true (show (x 3).val < 64 by omega)]
    blk_ext

/-- The selected branch's stored attention keys: the positions. -/
theorem store17_positions (y : S1x4x256x256.Idx) (h2 : (y 2).val < 256) (h3 : (y 3).val < 256) (h : ¬ (y 3).val < 64) :
    out0_17 x0 x1 x2 x3 x4 x5 x6 x7 x8 x9 y = x9 (ix2 ⟨(y 2).val, h2⟩ ⟨(y 3).val - 64, by omega⟩) := by
  frame_out
  unfold k0_pay37
  rw [show k0_pay32 (k0_pay60 x0 x1 x2 x3 x4 x5 x6 x7 x8 x9) (k0_pay61 x0 x1 x2 x3 x4 x5 x6 x7 x8 x9) (k0_pay62 x0 x1 x2 x3 x4 x5 x6 x7 x8 x9)
    = k0_pay63 x0 x1 x2 x3 x4 x5 x6 x7 x8 x9 from rfl]
  generalize k0_pay63 x0 x1 x2 x3 x4 x5 x6 x7 x8 x9 = K
  canon_tiles x hx
  all_goals
    open_payloads
    pointwise [eq_false (show ¬ (x 3).val < 64 by omega)]
    blk_ext

/-- The selected branch's stored attention values: the features. -/
theorem store18_values (y : S1x4x128x256.Idx) (h1 : (y 1).val < 4) (h2 : (y 2).val < 64) (h3 : (y 3).val < 256) :
    out0_18 x0 x1 x2 x3 x4 x5 x6 x7 x8 x9 y
      = k0_pay57 x0 x1 x2 x3 x4 x5 x6 x7 x8 x9 (ix2 ⟨(y 3).val, h3⟩ ⟨1792 + (y 1).val * 64 + (y 2).val, by omega⟩) := by
  frame_out
  generalize k0_pay57 x0 x1 x2 x3 x4 x5 x6 x7 x8 x9 = P
  canon_tiles x hx
  all_goals
    open_payloads
    pointwise [eq_true (show (x 2).val < 64 by omega)]
    blk_ext

/-- The selected branch's stored attention values: the ones and zeros. -/
theorem store18_flags (y : S1x4x128x256.Idx) (h2 : (y 2).val < 128) (h : ¬ (y 2).val < 64) :
    out0_18 x0 x1 x2 x3 x4 x5 x6 x7 x8 x9 y = if (y 2).val = 64 then (1 : EReal) else 0 := by
  frame_out
  generalize k0_pay57 x0 x1 x2 x3 x4 x5 x6 x7 x8 x9 = P
  canon_tiles x hx
  all_goals
    open_payloads
    pointwise [eq_false (show ¬ (x 2).val < 64 by omega)]
    rw [hx2]
    exact flag_word _ (by omega) (by omega)

/-- The window branch's stored attention keys: the features. -/
theorem store19_keys (y : S1x4x256x128.Idx) (h1 : (y 1).val < 4) (h2 : (y 2).val < 256) (h3 : (y 3).val < 64) :
    out0_19 x0 x1 x2 x3 x4 x5 x6 x7 x8 x9 y
      = k0_pay64 x0 x1 x2 x3 x4 x5 x6 x7 x8 x9 (ix2 ⟨(y 2).val, h2⟩ ⟨(y 1).val * 64 + (y 3).val, by omega⟩) := by
  frame_out
  generalize k0_pay64 x0 x1 x2 x3 x4 x5 x6 x7 x8 x9 = K
  canon_tiles x hx
  all_goals
    open_payloads
    pointwise [eq_true (show (x 3).val < 64 by omega)]
    blk_ext

/-- The window branch's stored attention keys: the positions. -/
theorem store19_positions (y : S1x4x256x128.Idx) (h2 : (y 2).val < 256) (h3 : (y 3).val < 128) (h : ¬ (y 3).val < 64) :
    out0_19 x0 x1 x2 x3 x4 x5 x6 x7 x8 x9 y = x9 (ix2 ⟨(y 2).val, h2⟩ ⟨(y 3).val - 64, by omega⟩) := by
  frame_out
  generalize k0_pay64 x0 x1 x2 x3 x4 x5 x6 x7 x8 x9 = K
  canon_tiles x hx
  all_goals
    open_payloads
    pointwise [eq_false (show ¬ (x 3).val < 64 by omega)]
    blk_ext

/-- The window branch's stored attention values: the features. -/
theorem store20_values (y : S1x4x128x256.Idx) (h1 : (y 1).val < 4) (h2 : (y 2).val < 64) (h3 : (y 3).val < 256) :
    out0_20 x0 x1 x2 x3 x4 x5 x6 x7 x8 x9 y
      = k0_pay57 x0 x1 x2 x3 x4 x5 x6 x7 x8 x9 (ix2 ⟨(y 3).val, h3⟩ ⟨2304 + (y 1).val * 64 + (y 2).val, by omega⟩) := by
  frame_out
  generalize k0_pay57 x0 x1 x2 x3 x4 x5 x6 x7 x8 x9 = P
  canon_tiles x hx
  all_goals
    open_payloads
    pointwise [eq_true (show (x 2).val < 64 by omega)]
    blk_ext

/-- The window branch's stored attention values: the ones and zeros. -/
theorem store20_flags (y : S1x4x128x256.Idx) (h2 : (y 2).val < 128) (h : ¬ (y 2).val < 64) :
    out0_20 x0 x1 x2 x3 x4 x5 x6 x7 x8 x9 y = if (y 2).val = 64 then (1 : EReal) else 0 := by
  frame_out
  generalize k0_pay57 x0 x1 x2 x3 x4 x5 x6 x7 x8 x9 = P
  canon_tiles x hx
  all_goals
    open_payloads
    pointwise [eq_false (show ¬ (x 2).val < 64 by omega)]
    rw [hx2]
    exact flag_word _ (by omega) (by omega)

end Cert.Nsa

end
-- ==== Proof.NsaPoints.lean ====
/- The sparse layer's input projection: what a grid point's blocks of results hold. -/
module

public import proofs.«01_k».proof.Proof.NsaHost
public import proofs.«01_k».proof.Proof.NsaRows
public import proofs.«01_k».proof.Proof.NsaAttentionRows

@[expose] public section

noncomputable section

namespace Cert.Nsa

open Cert.NsaProjIdeal Cert.NsaProjIdeal.Gen Idealize.ShloMosaic Idealize.ShloMosaic.TcCoe Idealize.SL.Sem
open Cert.Proj

variable (m : (ℓ : Loc nD τ sig) → Buf (Elt Ideal) ℓ)

/-- The products of the normed rows and the weights. -/
def prods (c : Dev nD) : Fin 16384 → Fin 3632 → EReal :=
  entry (m ((c : Thread nD τ).loc main_arg0)) (m ((c : Thread nD τ).loc main_arg1)) (m ((c : Thread nD τ).loc main_arg2))

/-- The query gains. -/
def queryGain (c : Dev nD) (e : Fin 64) : EReal := m ((c : Thread nD τ).loc main_arg3) (ix1 e)

/-- A branch's key gains. -/
def keyGain (c : Dev nD) (i : Fin 3) (e : Fin 64) : EReal := m ((c : Thread nD τ).loc main_arg4) (ix2 i e)

/-- A block's products, with the weights in the kernel's order. -/
theorem block_product (c : Dev nD) (t : Fin cfg0.N) (y : Fin 256) (k : Fin 3712) :
    k0_pay57 (iblk m c 0 t) (iblk m c 1 t) (iblk m c 2 t) (iblk m c 3 t) (iblk m c 4 t) (iblk m c 5 t) (iblk m c 6 t) (iblk m c 7 t) (iblk m c 8 t) (iblk m c 9 t) (ix2 y k)
      = project (fun d => m ((c : Thread nD τ).loc main_arg0) (ix2 (rowOf t y) d)) (fun d => m ((c : Thread nD τ).loc main_arg1) (ix1 d))
          (fun d => weights (m ((c : Thread nD τ).loc main_arg2)) (ix2 d k)) := by
  rw [products_at, weight_block, funext (row_block m c t y), funext (gain_block m c t)]

/-- The columns ahead of the gates. -/
theorem branch_product (c : Dev nD) (t : Fin cfg0.N) (y : Fin 256) (k : Fin 3712) (h : k.val < 2560) :
    k0_pay57 (iblk m c 0 t) (iblk m c 1 t) (iblk m c 2 t) (iblk m c 3 t) (iblk m c 4 t) (iblk m c 5 t) (iblk m c 6 t) (iblk m c 7 t) (iblk m c 8 t) (iblk m c 9 t) (ix2 y k) = prods m c (rowOf t y) ⟨k.val, by omega⟩ := by
  rw [block_product, funext fun d => weights_branches (m ((c : Thread nD τ).loc main_arg2)) d k h]
  rfl

/-- The columns of the output gates. -/
theorem output_gate_product (c : Dev nD) (t : Fin cfg0.N) (y : Fin 256) (k : Fin 3712) (h : 2560 ≤ k.val) (h' : k.val < 3584) :
    k0_pay57 (iblk m c 0 t) (iblk m c 1 t) (iblk m c 2 t) (iblk m c 3 t) (iblk m c 4 t) (iblk m c 5 t) (iblk m c 6 t) (iblk m c 7 t) (iblk m c 8 t) (iblk m c 9 t) (ix2 y k) = prods m c (rowOf t y) ⟨k.val + 48, by omega⟩ := by
  rw [block_product, funext fun d => weights_output_gate (m ((c : Thread nD τ).loc main_arg2)) d k h h']
  rfl

/-- The columns of the branch gates, and those after them. -/
theorem gate_product (c : Dev nD) (t : Fin cfg0.N) (y : Fin 256) (k : Fin 3712) (h : 3584 ≤ k.val) :
    k0_pay57 (iblk m c 0 t) (iblk m c 1 t) (iblk m c 2 t) (iblk m c 3 t) (iblk m c 4 t) (iblk m c 5 t) (iblk m c 6 t) (iblk m c 7 t) (iblk m c 8 t) (iblk m c 9 t) (ix2 y k) = if h' : k.val < 3632 then prods m c (rowOf t y) ⟨k.val - 1024, by omega⟩ else 0 := by
  rw [block_product, funext fun d => weights_gates (m ((c : Thread nD τ).loc main_arg2)) d k h]
  split
  · rfl
  · exact project_zero _ _

/-- A block's normed queries. -/
theorem query_point (c : Dev nD) (t : Fin cfg0.N) (y : Fin 256) (k : Fin 1024) :
    k0_pay59 (iblk m c 0 t) (iblk m c 1 t) (iblk m c 2 t) (iblk m c 3 t) (iblk m c 4 t) (iblk m c 5 t) (iblk m c 6 t) (iblk m c 7 t) (iblk m c 8 t) (iblk m c 9 t) (ix2 y k) = queryRow (prods m c) (queryGain m c) (rowOf t y) k := by
  obtain ⟨h, e, rfl⟩ : ∃ (h : Fin 16) (e : Fin 64), k = ⟨h.val * 64 + e.val, by omega⟩ :=
    ⟨⟨k.val / 64, by omega⟩, ⟨k.val % 64, by omega⟩, Fin.ext (by show k.val = k.val / 64 * 64 + k.val % 64; omega)⟩
  have hd : (h.val * 64 + e.val) / 64 = h.val := by omega
  have hm : (h.val * 64 + e.val) % 64 = e.val := by omega
  have hp : ∀ j : Fin 1024, k0_pay57 (iblk m c 0 t) (iblk m c 1 t) (iblk m c 2 t) (iblk m c 3 t) (iblk m c 4 t) (iblk m c 5 t) (iblk m c 6 t) (iblk m c 7 t) (iblk m c 8 t) (iblk m c 9 t) (ix2 y ⟨j.val, by omega⟩) = prods m c (rowOf t y) ⟨j.val, by omega⟩ :=
    fun j => branch_product m c t y _ (by show j.val < 2560; omega)
  refine (queries_at (iblk m c 0 t) (iblk m c 1 t) (iblk m c 2 t) (iblk m c 3 t) (iblk m c 4 t) (iblk m c 5 t) (iblk m c 6 t) (iblk m c 7 t) (iblk m c 8 t) (iblk m c 9 t) y _).trans ?_
  generalize k0_pay57 (iblk m c 0 t) (iblk m c 1 t) (iblk m c 2 t) (iblk m c 3 t) (iblk m c 4 t) (iblk m c 5 t) (iblk m c 6 t) (iblk m c 7 t) (iblk m c 8 t) (iblk m c 9 t) = P at hp ⊢
  rw [sameHead_block, queryGains_block]
  have hk : P (ix2 y ⟨h.val * 64 + e.val, by omega⟩) = prods m c (rowOf t y) ⟨h.val * 64 + e.val, by omega⟩ :=
    hp ⟨h.val * 64 + e.val, by omega⟩
  simp only [hp, hk, sameHead_at, queryGains_at, hd, hm]
  rw [← mul_assoc]
  unfold queryRow query
  simp only [hd, hm]
  exact congrArg (· * Ideal.ofBits .f32 0x3E000000#32)
    (headNorm_of_marks (H := 16) (fun j => prods m c (rowOf t y) ⟨j.val, by omega⟩) _ h (queryGain m c) e rfl)

/-- The selected branch's gains, one row of the key gains. -/
theorem selected_gain (g : FVec Ideal S3x64 .f32) (e : Fin 64) :
    extractStridedSlice S1x64 ![1, 0] g slices_S3x64_S1x64_1_0 (ix2 0 e) = g (ix2 1 e) := by
  pointwise

/-- The window branch's gains, the next row. -/
theorem window_gain (g : FVec Ideal S3x64 .f32) (e : Fin 64) :
    extractStridedSlice S1x64 ![2, 0] g slices_S3x64_S1x64_2_0 (ix2 0 e) = g (ix2 2 e) := by
  pointwise

/-- A branch's key norm over the features of its four groups. -/
theorem key_norm {a : ℕ} (p : Fin a → Fin 3632 → EReal) (b : ℕ) (hb : b ≤ 2048) (g : Fin 64 → EReal) (r : Fin a) (k : Fin 256) :
    p r ⟨b + k.val, by omega⟩
        * Ideal.rsqrt ((∑ j : Fin 256, p r ⟨b + j.val, by omega⟩ * p r ⟨b + j.val, by omega⟩
              * (if j.val / 64 = k.val / 64 then (1 : EReal) else 0))
            * Ideal.ofBits .f32 0x3C800000#32 + Ideal.ofBits .f32 0x358637BD#32) * g ⟨k.val % 64, by omega⟩
      = keyRow p b hb g r k := by
  obtain ⟨h, e, rfl⟩ : ∃ (h : Fin 4) (e : Fin 64), k = ⟨h.val * 64 + e.val, by omega⟩ :=
    ⟨⟨k.val / 64, by omega⟩, ⟨k.val % 64, by omega⟩, Fin.ext (by show k.val = k.val / 64 * 64 + k.val % 64; omega)⟩
  have hd : (h.val * 64 + e.val) / 64 = h.val := by omega
  have hm : (h.val * 64 + e.val) % 64 = e.val := by omega
  unfold keyRow
  simp only [hd, hm]
  exact headNorm_of_marks (H := 4) (fun j => p r ⟨b + j.val, by omega⟩) _ h g e rfl

/-- A block's normed keys of the selected branch. -/
theorem selected_point (c : Dev nD) (t : Fin cfg0.N) (y k : Fin 256) :
    k0_pay63 (iblk m c 0 t) (iblk m c 1 t) (iblk m c 2 t) (iblk m c 3 t) (iblk m c 4 t) (iblk m c 5 t) (iblk m c 6 t) (iblk m c 7 t) (iblk m c 8 t) (iblk m c 9 t) (ix2 y k) = keyRow (prods m c) 1536 (by omega) (keyGain m c 1) (rowOf t y) k := by
  have hp : ∀ j : Fin 256, k0_pay57 (iblk m c 0 t) (iblk m c 1 t) (iblk m c 2 t) (iblk m c 3 t) (iblk m c 4 t) (iblk m c 5 t) (iblk m c 6 t) (iblk m c 7 t) (iblk m c 8 t) (iblk m c 9 t) (ix2 y ⟨1536 + j.val, by omega⟩) = prods m c (rowOf t y) ⟨1536 + j.val, by omega⟩ :=
    fun j => branch_product m c t y _ (by show 1536 + j.val < 2560; omega)
  refine (keys_at (iblk m c 0 t) (iblk m c 1 t) (iblk m c 2 t) (iblk m c 3 t) (iblk m c 4 t) (iblk m c 5 t) (iblk m c 6 t) (iblk m c 7 t) (iblk m c 8 t) (iblk m c 9 t) y k).trans ?_
  generalize k0_pay57 (iblk m c 0 t) (iblk m c 1 t) (iblk m c 2 t) (iblk m c 3 t) (iblk m c 4 t) (iblk m c 5 t) (iblk m c 6 t) (iblk m c 7 t) (iblk m c 8 t) (iblk m c 9 t) = P at hp ⊢
  rw [sameHead_block, selectedGains_block]
  simp only [hp, sameHead_at, keyGains_at, selected_gain]
  exact key_norm (prods m c) 1536 (by omega) (keyGain m c 1) (rowOf t y) k

/-- A block's normed keys of the window branch. -/
theorem window_point (c : Dev nD) (t : Fin cfg0.N) (y k : Fin 256) :
    k0_pay64 (iblk m c 0 t) (iblk m c 1 t) (iblk m c 2 t) (iblk m c 3 t) (iblk m c 4 t) (iblk m c 5 t) (iblk m c 6 t) (iblk m c 7 t) (iblk m c 8 t) (iblk m c 9 t) (ix2 y k) = keyRow (prods m c) 2048 (by omega) (keyGain m c 2) (rowOf t y) k := by
  have hp : ∀ j : Fin 256, k0_pay57 (iblk m c 0 t) (iblk m c 1 t) (iblk m c 2 t) (iblk m c 3 t) (iblk m c 4 t) (iblk m c 5 t) (iblk m c 6 t) (iblk m c 7 t) (iblk m c 8 t) (iblk m c 9 t) (ix2 y ⟨2048 + j.val, by omega⟩) = prods m c (rowOf t y) ⟨2048 + j.val, by omega⟩ :=
    fun j => branch_product m c t y _ (by show 2048 + j.val < 2560; omega)
  refine (window_keys_at (iblk m c 0 t) (iblk m c 1 t) (iblk m c 2 t) (iblk m c 3 t) (iblk m c 4 t) (iblk m c 5 t) (iblk m c 6 t) (iblk m c 7 t) (iblk m c 8 t) (iblk m c 9 t) y k).trans ?_
  generalize k0_pay57 (iblk m c 0 t) (iblk m c 1 t) (iblk m c 2 t) (iblk m c 3 t) (iblk m c 4 t) (iblk m c 5 t) (iblk m c 6 t) (iblk m c 7 t) (iblk m c 8 t) (iblk m c 9 t) = P at hp ⊢
  rw [sameHead_block, windowGains_block]
  simp only [hp, sameHead_at, keyGains_at, window_gain]
  exact key_norm (prods m c) 2048 (by omega) (keyGain m c 2) (rowOf t y) k

end Cert.Nsa

end
-- ==== Proof.NsaSampleArrays.lean ====
/- The sparse layer's input projection of the sample's rows: what the result arrays hold after the run. -/
module

public import proofs.«01_k».proof.Proof.NsaSampleHost
public import proofs.«01_k».proof.Proof.NsaSampleRows
public import proofs.«01_k».proof.Proof.NsaPoints
public import Idealize.ShloMosaic.Lib.Pipeline.Covers

@[expose] public section

noncomputable section

namespace Cert.NsaSample

open Cert.NsaProjSampleIdeal Cert.NsaProjSampleIdeal.Gen Idealize.ShloMosaic Idealize.ShloMosaic.TcCoe Idealize.SL.Sem
open Cert.Proj Cert.Nsa

variable (m : (ℓ : Loc nD τ sig) → Buf (Elt Ideal) ℓ)

/-- The products of the normed rows and the weights. -/
def prods (c : Dev nD) : Fin 128 → Fin 3632 → EReal :=
  entry (m ((c : Thread nD τ).loc main_arg0)) (m ((c : Thread nD τ).loc main_arg1)) (m ((c : Thread nD τ).loc main_arg2))

/-- The query gains. -/
def queryGain (c : Dev nD) (e : Fin 64) : EReal := m ((c : Thread nD τ).loc main_arg3) (ix1 e)

/-- A branch's key gains. -/
def keyGain (c : Dev nD) (i : Fin 3) (e : Fin 64) : EReal := m ((c : Thread nD τ).loc main_arg4) (ix2 i e)

/-- A block's products, with the weights in the kernel's order. -/
theorem block_product (c : Dev nD) (t : Fin cfg0.N) (y : Fin 128) (k : Fin 3712) :
    k0_pay12 (iblk m c 0 t) (iblk m c 1 t) (iblk m c 2 t) (iblk m c 3 t) (iblk m c 4 t) (iblk m c 5 t) (iblk m c 6 t) (iblk m c 7 t) (ix2 y k)
      = project (fun d => m ((c : Thread nD τ).loc main_arg0) (ix2 (rowOf t y) d)) (fun d => m ((c : Thread nD τ).loc main_arg1) (ix1 d))
          (fun d => weights (m ((c : Thread nD τ).loc main_arg2)) (ix2 d k)) := by
  rw [products_at, weight_block, funext (row_block m c t y), funext (gain_block m c t)]

/-- The columns ahead of the gates. -/
theorem branch_product (c : Dev nD) (t : Fin cfg0.N) (y : Fin 128) (k : Fin 3712) (h : k.val < 2560) :
    k0_pay12 (iblk m c 0 t) (iblk m c 1 t) (iblk m c 2 t) (iblk m c 3 t) (iblk m c 4 t) (iblk m c 5 t) (iblk m c 6 t) (iblk m c 7 t) (ix2 y k) = prods m c (rowOf t y) ⟨k.val, by omega⟩ := by
  rw [block_product, funext fun d => weights_branches (m ((c : Thread nD τ).loc main_arg2)) d k h]
  rfl

/-- The columns of the output gates. -/
theorem output_gate_product (c : Dev nD) (t : Fin cfg0.N) (y : Fin 128) (k : Fin 3712) (h : 2560 ≤ k.val) (h' : k.val < 3584) :
    k0_pay12 (iblk m c 0 t) (iblk m c 1 t) (iblk m c 2 t) (iblk m c 3 t) (iblk m c 4 t) (iblk m c 5 t) (iblk m c 6 t) (iblk m c 7 t) (ix2 y k) = prods m c (rowOf t y) ⟨k.val + 48, by omega⟩ := by
  rw [block_product, funext fun d => weights_output_gate (m ((c : Thread nD τ).loc main_arg2)) d k h h']
  rfl

/-- The columns of the branch gates, and those after them. -/
theorem gate_product (c : Dev nD) (t : Fin cfg0.N) (y : Fin 128) (k : Fin 3712) (h : 3584 ≤ k.val) :
    k0_pay12 (iblk m c 0 t) (iblk m c 1 t) (iblk m c 2 t) (iblk m c 3 t) (iblk m c 4 t) (iblk m c 5 t) (iblk m c 6 t) (iblk m c 7 t) (ix2 y k) = if h' : k.val < 3632 then prods m c (rowOf t y) ⟨k.val - 1024, by omega⟩ else 0 := by
  rw [block_product, funext fun d => weights_gates (m ((c : Thread nD τ).loc main_arg2)) d k h]
  split
  · rfl
  · exact project_zero _ _

/-- A block's normed queries. -/
theorem query_point (c : Dev nD) (t : Fin cfg0.N) (y : Fin 128) (k : Fin 1024) :
    k0_pay6 (View.ld (iblk m c 0 t) r0_0) (View.ld (iblk m c 1 t) r0_1) (View.ld (iblk m c 2 t) r0_2) (View.ld (iblk m c 3 t) r0_3) (View.ld (iblk m c 4 t) r0_1) (ix2 y k) = queryRow (prods m c) (queryGain m c) (rowOf t y) k := by
  obtain ⟨h, e, rfl⟩ : ∃ (h : Fin 16) (e : Fin 64), k = ⟨h.val * 64 + e.val, by omega⟩ :=
    ⟨⟨k.val / 64, by omega⟩, ⟨k.val % 64, by omega⟩, Fin.ext (by show k.val = k.val / 64 * 64 + k.val % 64; omega)⟩
  have hd : (h.val * 64 + e.val) / 64 = h.val := by omega
  have hm : (h.val * 64 + e.val) % 64 = e.val := by omega
  have hp : ∀ j : Fin 1024, k0_pay12 (iblk m c 0 t) (iblk m c 1 t) (iblk m c 2 t) (iblk m c 3 t) (iblk m c 4 t) (iblk m c 5 t) (iblk m c 6 t) (iblk m c 7 t) (ix2 y ⟨j.val, by omega⟩) = prods m c (rowOf t y) ⟨j.val, by omega⟩ :=
    fun j => branch_product m c t y _ (by show j.val < 2560; omega)
  refine (queries_at (iblk m c 0 t) (iblk m c 1 t) (iblk m c 2 t) (iblk m c 3 t) (iblk m c 4 t) (iblk m c 5 t) (iblk m c 6 t) (iblk m c 7 t) y _).trans ?_
  generalize k0_pay12 (iblk m c 0 t) (iblk m c 1 t) (iblk m c 2 t) (iblk m c 3 t) (iblk m c 4 t) (iblk m c 5 t) (iblk m c 6 t) (iblk m c 7 t) = P at hp ⊢
  rw [sameHead_block, queryGains_block]
  have hk : P (ix2 y ⟨h.val * 64 + e.val, by omega⟩) = prods m c (rowOf t y) ⟨h.val * 64 + e.val, by omega⟩ :=
    hp ⟨h.val * 64 + e.val, by omega⟩
  simp only [hp, hk, sameHead_at, queryGains_at, hd, hm]
  rw [← mul_assoc]
  unfold queryRow query
  simp only [hd, hm]
  exact congrArg (· * Ideal.ofBits .f32 0x3E000000#32)
    (headNorm_of_marks (H := 16) (fun j => prods m c (rowOf t y) ⟨j.val, by omega⟩) _ h (queryGain m c) e rfl)

/-- A block's normed keys of the selected branch. -/
theorem selected_point (c : Dev nD) (t : Fin cfg0.N) (y : Fin 128) (k : Fin 256) :
    k0_pay8 (k0_pay12 (iblk m c 0 t) (iblk m c 1 t) (iblk m c 2 t) (iblk m c 3 t) (iblk m c 4 t) (iblk m c 5 t) (iblk m c 6 t) (iblk m c 7 t)) (k0_pay13 (iblk m c 0 t) (iblk m c 1 t) (iblk m c 2 t) (iblk m c 3 t) (iblk m c 4 t) (iblk m c 5 t) (iblk m c 6 t) (iblk m c 7 t)) (iblk m c 5 t) (ix2 y k) = keyRow (prods m c) 1536 (by omega) (keyGain m c 1) (rowOf t y) k := by
  have hp : ∀ j : Fin 256, k0_pay12 (iblk m c 0 t) (iblk m c 1 t) (iblk m c 2 t) (iblk m c 3 t) (iblk m c 4 t) (iblk m c 5 t) (iblk m c 6 t) (iblk m c 7 t) (ix2 y ⟨1536 + j.val, by omega⟩) = prods m c (rowOf t y) ⟨1536 + j.val, by omega⟩ :=
    fun j => branch_product m c t y _ (by show 1536 + j.val < 2560; omega)
  refine (keys_at (iblk m c 0 t) (iblk m c 1 t) (iblk m c 2 t) (iblk m c 3 t) (iblk m c 4 t) (iblk m c 5 t) (iblk m c 6 t) (iblk m c 7 t) y k).trans ?_
  generalize k0_pay12 (iblk m c 0 t) (iblk m c 1 t) (iblk m c 2 t) (iblk m c 3 t) (iblk m c 4 t) (iblk m c 5 t) (iblk m c 6 t) (iblk m c 7 t) = P at hp ⊢
  rw [sameHead_block, selectedGains_block]
  simp only [hp, sameHead_at, keyGains_at, selected_gain]
  exact key_norm (prods m c) 1536 (by omega) (keyGain m c 1) (rowOf t y) k

/-- A block's normed keys of the window branch. -/
theorem window_point (c : Dev nD) (t : Fin cfg0.N) (y : Fin 128) (k : Fin 256) :
    k0_pay9 (k0_pay12 (iblk m c 0 t) (iblk m c 1 t) (iblk m c 2 t) (iblk m c 3 t) (iblk m c 4 t) (iblk m c 5 t) (iblk m c 6 t) (iblk m c 7 t)) (k0_pay13 (iblk m c 0 t) (iblk m c 1 t) (iblk m c 2 t) (iblk m c 3 t) (iblk m c 4 t) (iblk m c 5 t) (iblk m c 6 t) (iblk m c 7 t)) (iblk m c 6 t) (ix2 y k) = keyRow (prods m c) 2048 (by omega) (keyGain m c 2) (rowOf t y) k := by
  have hp : ∀ j : Fin 256, k0_pay12 (iblk m c 0 t) (iblk m c 1 t) (iblk m c 2 t) (iblk m c 3 t) (iblk m c 4 t) (iblk m c 5 t) (iblk m c 6 t) (iblk m c 7 t) (ix2 y ⟨2048 + j.val, by omega⟩) = prods m c (rowOf t y) ⟨2048 + j.val, by omega⟩ :=
    fun j => branch_product m c t y _ (by show 2048 + j.val < 2560; omega)
  refine (window_keys_at (iblk m c 0 t) (iblk m c 1 t) (iblk m c 2 t) (iblk m c 3 t) (iblk m c 4 t) (iblk m c 5 t) (iblk m c 6 t) (iblk m c 7 t) y k).trans ?_
  generalize k0_pay12 (iblk m c 0 t) (iblk m c 1 t) (iblk m c 2 t) (iblk m c 3 t) (iblk m c 4 t) (iblk m c 5 t) (iblk m c 6 t) (iblk m c 7 t) = P at hp ⊢
  rw [sameHead_block, windowGains_block]
  simp only [hp, sameHead_at, keyGains_at, window_gain]
  exact key_norm (prods m c) 2048 (by omega) (keyGain m c 2) (rowOf t y) k

/-- The blocks of each result cover its array. -/
theorem covers8 : (cfg0.win 8).Covers := by decide +kernel

theorem covers9 : (cfg0.win 9).Covers := by decide +kernel

theorem covers10 : (cfg0.win 10).Covers := by decide +kernel

theorem covers11 : (cfg0.win 11).Covers := by decide +kernel

theorem covers12 : (cfg0.win 12).Covers := by decide +kernel

theorem covers13 : (cfg0.win 13).Covers := by decide +kernel

/-- The biases of the branch gates. -/
def gateBiases (c : Dev nD) (k : Fin 48) : EReal := m ((c : Thread nD τ).loc main_arg5) (ix1 k)

/-- The queries' array, from what each block holds. -/
theorem assemble8 (c : Dev nD) (G : FVec Ideal S128x1024 .bf16)
    (hp : ∀ (t : Fin cfg0.N) (y : Fin 128) (k : Fin 1024), out0_8 (iblk m c 0 t) (iblk m c 1 t) (iblk m c 2 t) (iblk m c 3 t) (iblk m c 4 t) (iblk m c 5 t) (iblk m c 6 t) (iblk m c 7 t) (ix2 y k) = G (ix2 (rowOf t y) k)) :
    (dats m 0 c).arrAt 8 cfg0.N = G := by
  refine (dats m 0 c).arrAt_eq_of_covers 8 _ covers8 fun t _ y => ?_
  rw [after0_8]
  blk_simp [places t]
  refine placed _ G (rowOf t) id (hp t) y _ ?_ ?_
  · blk_simp [places t, rowOf]
  · blk_simp [places t, id]

/-- The queries. -/
theorem final8 (c : Dev nD) (G : FVec Ideal S128x1024 .bf16)
    (hG : ∀ (r : Fin 128) (k : Fin 1024), G (ix2 r k) = queryRow (prods m c) (queryGain m c) r k) : (dats m 0 c).arrAt 8 cfg0.N = G := by
  refine assemble8 m c G fun t y k => ?_
  exact (store8_at (iblk m c 0 t) (iblk m c 1 t) (iblk m c 2 t) (iblk m c 3 t) (iblk m c 4 t) (iblk m c 5 t) (iblk m c 6 t) (iblk m c 7 t) y k).trans ((query_point m c t y k).trans (hG _ _).symm)

/-- The features to be compressed' array, from what each block holds. -/
theorem assemble9 (c : Dev nD) (G : FVec Ideal S128x512 .f32)
    (hp : ∀ (t : Fin cfg0.N) (y : Fin 128) (k : Fin 512), out0_9 (iblk m c 0 t) (iblk m c 1 t) (iblk m c 2 t) (iblk m c 3 t) (iblk m c 4 t) (iblk m c 5 t) (iblk m c 6 t) (iblk m c 7 t) (ix2 y k) = G (ix2 (rowOf t y) k)) :
    (dats m 0 c).arrAt 9 cfg0.N = G := by
  refine (dats m 0 c).arrAt_eq_of_covers 9 _ covers9 fun t _ y => ?_
  rw [after0_9]
  blk_simp [places t]
  refine placed _ G (rowOf t) id (hp t) y _ ?_ ?_
  · blk_simp [places t, rowOf]
  · blk_simp [places t, id]

/-- The features to be compressed. -/
theorem final9 (c : Dev nD) (G : FVec Ideal S128x512 .f32)
    (hG : ∀ (r : Fin 128) (k : Fin 512), G (ix2 r k) = prods m c r ⟨1024 + k.val, by omega⟩) : (dats m 0 c).arrAt 9 cfg0.N = G := by
  refine assemble9 m c G fun t y k => ?_
  exact (store9_at (iblk m c 0 t) (iblk m c 1 t) (iblk m c 2 t) (iblk m c 3 t) (iblk m c 4 t) (iblk m c 5 t) (iblk m c 6 t) (iblk m c 7 t) y k).trans ((branch_product m c t y _ (by show 1024 + k.val < 2560; omega)).trans (hG _ _).symm)

/-- The selected branch's array, from what each block holds. -/
theorem assemble10 (c : Dev nD) (G : FVec Ideal S128x512 .f32)
    (hp : ∀ (t : Fin cfg0.N) (y : Fin 128) (k : Fin 512), out0_10 (iblk m c 0 t) (iblk m c 1 t) (iblk m c 2 t) (iblk m c 3 t) (iblk m c 4 t) (iblk m c 5 t) (iblk m c 6 t) (iblk m c 7 t) (ix2 y k) = G (ix2 (rowOf t y) k)) :
    (dats m 0 c).arrAt 10 cfg0.N = G := by
  refine (dats m 0 c).arrAt_eq_of_covers 10 _ covers10 fun t _ y => ?_
  rw [after0_10]
  blk_simp [places t]
  refine placed _ G (rowOf t) id (hp t) y _ ?_ ?_
  · blk_simp [places t, rowOf]
  · blk_simp [places t, id]

/-- The selected branch. -/
theorem final10 (c : Dev nD) (G : FVec Ideal S128x512 .f32)
    (hG : ∀ (r : Fin 128) (k : Fin 512), G (ix2 r k) = branchRow (prods m c) 1536 (by omega) (keyGain m c 1) r k) : (dats m 0 c).arrAt 10 cfg0.N = G := by
  refine assemble10 m c G fun t y k => ?_
  rw [hG]
  unfold branchRow
  by_cases h : k.val < 256
  · rw [dif_pos h]
    exact (store10_keys (iblk m c 0 t) (iblk m c 1 t) (iblk m c 2 t) (iblk m c 3 t) (iblk m c 4 t) (iblk m c 5 t) (iblk m c 6 t) (iblk m c 7 t) (ix2 y k) y.isLt h).trans (selected_point m c t y _)
  · rw [dif_neg h]
    exact (store10_values (iblk m c 0 t) (iblk m c 1 t) (iblk m c 2 t) (iblk m c 3 t) (iblk m c 4 t) (iblk m c 5 t) (iblk m c 6 t) (iblk m c 7 t) (ix2 y k) y.isLt k.isLt h).trans (branch_product m c t y _ (by show 1536 + k.val < 2560; omega))

/-- The window branch's array, from what each block holds. -/
theorem assemble11 (c : Dev nD) (G : FVec Ideal S128x512 .f32)
    (hp : ∀ (t : Fin cfg0.N) (y : Fin 128) (k : Fin 512), out0_11 (iblk m c 0 t) (iblk m c 1 t) (iblk m c 2 t) (iblk m c 3 t) (iblk m c 4 t) (iblk m c 5 t) (iblk m c 6 t) (iblk m c 7 t) (ix2 y k) = G (ix2 (rowOf t y) k)) :
    (dats m 0 c).arrAt 11 cfg0.N = G := by
  refine (dats m 0 c).arrAt_eq_of_covers 11 _ covers11 fun t _ y => ?_
  rw [after0_11]
  blk_simp [places t]
  refine placed _ G (rowOf t) id (hp t) y _ ?_ ?_
  · blk_simp [places t, rowOf]
  · blk_simp [places t, id]

/-- The window branch. -/
theorem final11 (c : Dev nD) (G : FVec Ideal S128x512 .f32)
    (hG : ∀ (r : Fin 128) (k : Fin 512), G (ix2 r k) = branchRow (prods m c) 2048 (by omega) (keyGain m c 2) r k) : (dats m 0 c).arrAt 11 cfg0.N = G := by
  refine assemble11 m c G fun t y k => ?_
  rw [hG]
  unfold branchRow
  by_cases h : k.val < 256
  · rw [dif_pos h]
    exact (store11_keys (iblk m c 0 t) (iblk m c 1 t) (iblk m c 2 t) (iblk m c 3 t) (iblk m c 4 t) (iblk m c 5 t) (iblk m c 6 t) (iblk m c 7 t) (ix2 y k) y.isLt h).trans (window_point m c t y _)
  · rw [dif_neg h]
    exact (store11_values (iblk m c 0 t) (iblk m c 1 t) (iblk m c 2 t) (iblk m c 3 t) (iblk m c 4 t) (iblk m c 5 t) (iblk m c 6 t) (iblk m c 7 t) (ix2 y k) y.isLt k.isLt h).trans (branch_product m c t y _ (by show 2048 + k.val < 2560; omega))

/-- The output gates' array, from what each block holds. -/
theorem assemble12 (c : Dev nD) (G : FVec Ideal S128x1024 .f32)
    (hp : ∀ (t : Fin cfg0.N) (y : Fin 128) (k : Fin 1024), out0_12 (iblk m c 0 t) (iblk m c 1 t) (iblk m c 2 t) (iblk m c 3 t) (iblk m c 4 t) (iblk m c 5 t) (iblk m c 6 t) (iblk m c 7 t) (ix2 y k) = G (ix2 (rowOf t y) k)) :
    (dats m 0 c).arrAt 12 cfg0.N = G := by
  refine (dats m 0 c).arrAt_eq_of_covers 12 _ covers12 fun t _ y => ?_
  rw [after0_12]
  blk_simp [places t]
  refine placed _ G (rowOf t) id (hp t) y _ ?_ ?_
  · blk_simp [places t, rowOf]
  · blk_simp [places t, id]

/-- The output gates. -/
theorem final12 (c : Dev nD) (G : FVec Ideal S128x1024 .f32)
    (hG : ∀ (r : Fin 128) (k : Fin 1024), G (ix2 r k) = silu (prods m c r ⟨2608 + k.val, by omega⟩)) : (dats m 0 c).arrAt 12 cfg0.N = G := by
  refine assemble12 m c G fun t y k => ?_
  rw [hG]
  refine (store12_at (iblk m c 0 t) (iblk m c 1 t) (iblk m c 2 t) (iblk m c 3 t) (iblk m c 4 t) (iblk m c 5 t) (iblk m c 6 t) (iblk m c 7 t) y k).trans (congrArg silu ?_)
  refine (output_gate_product m c t y _ (by show 2560 ≤ 2560 + k.val; omega) (by show 2560 + k.val < 3584; omega)).trans ?_
  exact congrArg (prods m c (rowOf t y)) (Fin.ext (by show 2560 + k.val + 48 = 2608 + k.val; omega))

/-- The branch gates' array, from what each block holds. -/
theorem assemble13 (c : Dev nD) (G : FVec Ideal S128x128 .f32)
    (hp : ∀ (t : Fin cfg0.N) (y : Fin 128) (k : Fin 128), out0_13 (iblk m c 0 t) (iblk m c 1 t) (iblk m c 2 t) (iblk m c 3 t) (iblk m c 4 t) (iblk m c 5 t) (iblk m c 6 t) (iblk m c 7 t) (ix2 y k) = G (ix2 (rowOf t y) k)) :
    (dats m 0 c).arrAt 13 cfg0.N = G := by
  refine (dats m 0 c).arrAt_eq_of_covers 13 _ covers13 fun t _ y => ?_
  rw [after0_13]
  blk_simp [places t]
  refine placed _ G (rowOf t) id (hp t) y _ ?_ ?_
  · blk_simp [places t, rowOf]
  · blk_simp [places t, id]

/-- The branch gates. -/
theorem final13 (c : Dev nD) (G : FVec Ideal S128x128 .f32)
    (hG : ∀ (r : Fin 128) (k : Fin 128), G (ix2 r k) = gateRow (prods m c) (gateBiases m c) r k) : (dats m 0 c).arrAt 13 cfg0.N = G := by
  refine assemble13 m c G fun t y k => ?_
  rw [hG]
  refine (store13_at (iblk m c 0 t) (iblk m c 1 t) (iblk m c 2 t) (iblk m c 3 t) (iblk m c 4 t) (iblk m c 5 t) (iblk m c 6 t) (iblk m c 7 t) y k).trans (congrArg sigmoid ?_)
  rw [gate_product m c t y _ (by show 3584 ≤ 3584 + k.val; omega), gateBias_block, gateBias_at]
  by_cases h : k.val < 48
  · rw [dif_pos (by show 3584 + k.val < 3632; omega), dif_pos h, dif_pos h]
    exact congrArg₂ (fun a b : EReal => a + b) (congrArg (prods m c (rowOf t y)) (Fin.ext (by show 3584 + k.val - 1024 = 2560 + k.val; omega))) rfl
  · rw [dif_neg (by show ¬ 3584 + k.val < 3632; omega), dif_neg h, dif_neg h, add_zero]

end Cert.NsaSample

end
-- ==== Proof.NsaSampleReference.lean ====
/- The reference's input projection of the sparse layer on the sample's rows, index by index. -/
module

public import proofs.«01_k».proof.Proof.Gen.NsaProjSampleReferenceIdeal.Run
public import proofs.«01_k».proof.Proof.NsaSpec
public import proofs.«01_k».proof.Proof.Words
public import proofs.«01_k».proof.Proof.NsaOutRows
public import Idealize.ShloMosaic.Lib.Pipeline.ValueKit

@[expose] public section

noncomputable section

namespace Cert.NsaSampleReference

open Cert.NsaProjSampleReferenceIdeal Cert.NsaProjSampleReferenceIdeal.Gen Idealize.ShloMosaic Idealize.ShloMosaic.TcCoe Idealize.SL.Sem
open Cert.Proj Cert.Nsa

/-- The normed rows times the weights, as the reference writes them. -/
def products (x : FVec Ideal S128x1024 .f32) (g : FVec Ideal S1024 .f32) (w : FVec Ideal S1024x3632 .f32) :
    FVec Ideal S128x3632 .f32 :=
  Host.dotGeneral dot_S128x1024_S1024x3632_S128x3632_1_0_0_1_n_n none (mulf (mulf x (broadcastInDim S128x1024 ![0, 1] bcast_S128x1_S128x1024_0_1 (Host.rsqrt (addf (Host.divf (broadcastInDim S128x1 ![0] bcast_S128_S128x1_0 (Host.reduceAdd (mulf x x) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x358637BD#32)))))) (broadcastInDim S128x1024 ![0, 1] bcast_S1x1024_S128x1024_0_1 (broadcastInDim S1x1024 ![1] bcast_S1024_S1x1024_1 g))) w

theorem products_at (x : FVec Ideal S128x1024 .f32) (g : FVec Ideal S1024 .f32) (w : FVec Ideal S1024x3632 .f32)
    (r : Fin 128) (k : Fin 3632) : products x g w (ix2 r k) = entry x g w r k := by
  unfold entry project normed scale
  pointwise [products]

/-- The products as a function of row and column. -/
abbrev at2 (p : FVec Ideal S128x3632 .f32) (r : Fin 128) (k : Fin 3632) : EReal := p (ix2 r k)

/-- The columns of the selected branch. -/
def selected (p : FVec Ideal S128x3632 .f32) : FVec Ideal S128x512 .f32 := extractStridedSlice S128x512 ![0, 1536] p slices_S128x3632_S128x512_0_1536

/-- The columns of the window branch. -/
def window (p : FVec Ideal S128x3632 .f32) : FVec Ideal S128x512 .f32 := extractStridedSlice S128x512 ![0, 2048] p slices_S128x3632_S128x512_0_2048

/-- The selected branch's gains. -/
def gainRow1 (kg : FVec Ideal S3x64 .f32) : FVec Ideal S64 .f32 := shapeCast _ (extractStridedSlice S1x64 ![1, 0] kg slices_S3x64_S1x64_1_0) shapeCasts_S1x64_S64

/-- The window branch's gains. -/
def gainRow2 (kg : FVec Ideal S3x64 .f32) : FVec Ideal S64 .f32 := shapeCast _ (extractStridedSlice S1x64 ![2, 0] kg slices_S3x64_S1x64_2_0) shapeCasts_S1x64_S64

theorem selected_at (p : FVec Ideal S128x3632 .f32) (r : Fin 128) (k : Fin 512) : selected p (ix2 r k) = at2 p r ⟨1536 + k.val, by omega⟩ := by
  pointwise [selected]

theorem window_at (p : FVec Ideal S128x3632 .f32) (r : Fin 128) (k : Fin 512) : window p (ix2 r k) = at2 p r ⟨2048 + k.val, by omega⟩ := by
  pointwise [window]

theorem gainRow1_at (kg : FVec Ideal S3x64 .f32) (e : Fin 64) : gainRow1 kg (ix1 e) = kg (ix2 1 e) := by
  pointwise [gainRow1]

theorem gainRow2_at (kg : FVec Ideal S3x64 .f32) (e : Fin 64) : gainRow2 kg (ix1 e) = kg (ix2 2 e) := by
  pointwise [gainRow2]

/-- The normed queries, head by head. -/
def queries (p : FVec Ideal S128x3632 .f32) (g : FVec Ideal S64 .f32) : FVec Ideal S128x16x64 .f32 := mulf (mulf (mulf (shapeCast _ (extractStridedSlice S128x1024 ![0, 0] p slices_S128x3632_S128x1024_0_0) shapeCasts_S128x1024_S128x16x64) (broadcastInDim S128x16x64 ![0, 1, 2] bcast_S128x16x1_S128x16x64_0_1_2 (Host.rsqrt (addf (Host.divf (broadcastInDim S128x16x1 ![0, 1] bcast_S128x16_S128x16x1_0_1 (Host.reduceAdd (mulf (shapeCast _ (extractStridedSlice S128x1024 ![0, 0] p slices_S128x3632_S128x1024_0_0) shapeCasts_S128x1024_S128x16x64) (shapeCast _ (extractStridedSlice S128x1024 ![0, 0] p slices_S128x3632_S128x1024_0_0) shapeCasts_S128x1024_S128x16x64)) (constant S_ .f32 0x00000000#32) reducesTo_S128x16x64_S128x16_d2 h_S_)) (broadcastInDim S128x16x1 ![] bcast_S_S128x16x1 (constant S_ .f32 0x42800000#32))) (broadcastInDim S128x16x1 ![] bcast_S_S128x16x1 (constant S_ .f32 0x358637BD#32)))))) (broadcastInDim S128x16x64 ![0, 1, 2] bcast_S1x1x64_S128x16x64_0_1_2 (broadcastInDim S1x1x64 ![2] bcast_S64_S1x1x64_2 g))) (broadcastInDim S128x16x64 ![] bcast_S_S128x16x64 (constant S_ .f32 0x3E000000#32))

theorem queries_at (p : FVec Ideal S128x3632 .f32) (g : FVec Ideal S64 .f32) (r : Fin 128) (h : Fin 16) (e : Fin 64) :
    queries p g (ix3 r h e) = query (fun k => at2 p r ⟨h.val * 64 + k.val, by omega⟩) (fun k => g (ix1 k)) e := by
  unfold query headNorm scale at2
  pointwise [queries]

/-- A branch's normed keys, group by group. -/
def keys (s : FVec Ideal S128x512 .f32) (g : FVec Ideal S64 .f32) : FVec Ideal S128x4x64 .f32 := mulf (mulf (shapeCast _ (extractStridedSlice S128x256 ![0, 0] s slices_S128x512_S128x256_0_0) shapeCasts_S128x256_S128x4x64) (broadcastInDim S128x4x64 ![0, 1, 2] bcast_S128x4x1_S128x4x64_0_1_2 (Host.rsqrt (addf (Host.divf (broadcastInDim S128x4x1 ![0, 1] bcast_S128x4_S128x4x1_0_1 (Host.reduceAdd (mulf (shapeCast _ (extractStridedSlice S128x256 ![0, 0] s slices_S128x512_S128x256_0_0) shapeCasts_S128x256_S128x4x64) (shapeCast _ (extractStridedSlice S128x256 ![0, 0] s slices_S128x512_S128x256_0_0) shapeCasts_S128x256_S128x4x64)) (constant S_ .f32 0x00000000#32) reducesTo_S128x4x64_S128x4_d2 h_S_)) (broadcastInDim S128x4x1 ![] bcast_S_S128x4x1 (constant S_ .f32 0x42800000#32))) (broadcastInDim S128x4x1 ![] bcast_S_S128x4x1 (constant S_ .f32 0x358637BD#32)))))) (broadcastInDim S128x4x64 ![0, 1, 2] bcast_S1x1x64_S128x4x64_0_1_2 (broadcastInDim S1x1x64 ![2] bcast_S64_S1x1x64_2 g))

theorem keys_at (s : FVec Ideal S128x512 .f32) (g : FVec Ideal S64 .f32) (r : Fin 128) (h : Fin 4) (e : Fin 64) :
    keys s g (ix3 r h e) = headNorm (fun k => s (ix2 r ⟨h.val * 64 + k.val, by omega⟩)) (fun k => g (ix1 k)) e := by
  unfold headNorm scale
  pointwise [keys]

/-- The selected branch's keys at a feature of a row. -/
theorem selected_keys (p : FVec Ideal S128x3632 .f32) (kg : FVec Ideal S3x64 .f32) (r : Fin 128) (h : Fin 4) (e : Fin 64) (d : Fin 256) (hd : d.val = h.val * 64 + e.val) :
    keys (selected p) (gainRow1 kg) (ix3 r h e) = keyRow (at2 p) 1536 (by omega) (fun k => kg (ix2 1 k)) r d := by
  have h1 : d.val / 64 = h.val := by omega
  have h2 : (⟨d.val % 64, by omega⟩ : Fin 64) = e := Fin.ext (by show d.val % 64 = e.val; omega)
  unfold keyRow
  simp only [keys_at, selected_at, gainRow1_at, h1, h2]

/-- The window branch's keys at a feature of a row. -/
theorem window_keys (p : FVec Ideal S128x3632 .f32) (kg : FVec Ideal S3x64 .f32) (r : Fin 128) (h : Fin 4) (e : Fin 64) (d : Fin 256) (hd : d.val = h.val * 64 + e.val) :
    keys (window p) (gainRow2 kg) (ix3 r h e) = keyRow (at2 p) 2048 (by omega) (fun k => kg (ix2 2 k)) r d := by
  have h1 : d.val / 64 = h.val := by omega
  have h2 : (⟨d.val % 64, by omega⟩ : Fin 64) = e := Fin.ext (by show d.val % 64 = e.val; omega)
  unfold keyRow
  simp only [keys_at, window_at, gainRow2_at, h1, h2]

/-- The queries at a feature of a row. -/
theorem query_features (p : FVec Ideal S128x3632 .f32) (g : FVec Ideal S64 .f32) (r : Fin 128) (h : Fin 16) (e : Fin 64) (d : Fin 1024) (hd : d.val = h.val * 64 + e.val) :
    queries p g (ix3 r h e) = queryRow (at2 p) (fun k => g (ix1 k)) r d := by
  have h1 : d.val / 64 = h.val := by omega
  have h2 : (⟨d.val % 64, by omega⟩ : Fin 64) = e := Fin.ext (by show d.val % 64 = e.val; omega)
  unfold queryRow
  simp only [queries_at, h1, h2]

/-- The first result: the queries. -/
theorem first (p : FVec Ideal S128x3632 .f32) (g : FVec Ideal S64 .f32) (r : Fin 128) (k : Fin 1024) :
    truncf .bf16 (shapeCast _ (queries p g) shapeCasts_S128x16x64_S128x1024) bitsLt_bf16_f32 (ix2 r k)
      = queryRow (at2 p) (fun k => g (ix1 k)) r k := by
  pointwise
  exact query_features p g r _ _ k (by show k.val = k.val / 64 * 64 + k.val % 64; omega)

/-- The second result: the features to be compressed. -/
theorem second (p : FVec Ideal S128x3632 .f32) (r : Fin 128) (k : Fin 512) :
    extractStridedSlice S128x512 ![0, 1024] p slices_S128x3632_S128x512_0_1024 (ix2 r k) = at2 p r ⟨1024 + k.val, by omega⟩ := by
  pointwise

/-- The third result: the selected branch. -/
theorem third (p : FVec Ideal S128x3632 .f32) (kg : FVec Ideal S3x64 .f32) (r : Fin 128) (k : Fin 512) :
    concatenate S128x512 1 [⟨S128x256, (shapeCast _ (keys (selected p) (gainRow1 kg)) shapeCasts_S128x4x64_S128x256)⟩, ⟨S128x256, (extractStridedSlice S128x256 ![0, 256] (selected p) slices_S128x512_S128x256_0_256)⟩] concatenates_S128x256_S128x256_S128x512_d1 (ix2 r k)
      = branchRow (at2 p) 1536 (by omega) (fun k => kg (ix2 1 k)) r k := by
  unfold branchRow
  pointwise
  refine dite_congr rfl (fun h => ?_) fun h => ?_
  · exact selected_keys p kg r _ _ _ (by show k.val = k.val / 64 * 64 + k.val % 64; omega)
  · rw [selected_at]
    exact congrArg (at2 p r) (Fin.ext (by show 1536 + (256 + (k.val - 256)) = 1536 + k.val; omega))

/-- The fourth result: the window branch. -/
theorem fourth (p : FVec Ideal S128x3632 .f32) (kg : FVec Ideal S3x64 .f32) (r : Fin 128) (k : Fin 512) :
    concatenate S128x512 1 [⟨S128x256, (shapeCast _ (keys (window p) (gainRow2 kg)) shapeCasts_S128x4x64_S128x256)⟩, ⟨S128x256, (extractStridedSlice S128x256 ![0, 256] (window p) slices_S128x512_S128x256_0_256)⟩] concatenates_S128x256_S128x256_S128x512_d1 (ix2 r k)
      = branchRow (at2 p) 2048 (by omega) (fun k => kg (ix2 2 k)) r k := by
  unfold branchRow
  pointwise
  refine dite_congr rfl (fun h => ?_) fun h => ?_
  · exact window_keys p kg r _ _ _ (by show k.val = k.val / 64 * 64 + k.val % 64; omega)
  · rw [window_at]
    exact congrArg (at2 p r) (Fin.ext (by show 2048 + (256 + (k.val - 256)) = 2048 + k.val; omega))

/-- The fifth result: the output gates. -/
theorem fifth (p : FVec Ideal S128x3632 .f32) (r : Fin 128) (k : Fin 1024) :
    mulf (extractStridedSlice S128x1024 ![0, 2608] p slices_S128x3632_S128x1024_0_2608) (Host.divf (broadcastInDim S128x1024 ![] bcast_S_S128x1024 (constant S_ .f32 0x3F800000#32)) (addf (broadcastInDim S128x1024 ![] bcast_S_S128x1024 (constant S_ .f32 0x3F800000#32)) (Host.exp (Host.negf (extractStridedSlice S128x1024 ![0, 2608] p slices_S128x3632_S128x1024_0_2608))))) (ix2 r k)
      = silu (at2 p r ⟨2608 + k.val, by omega⟩) := by
  unfold silu sigmoid
  pointwise

/-- The sixth result: the branch gates. -/
theorem sixth (p : FVec Ideal S128x3632 .f32) (gb : FVec Ideal S48 .f32) (r : Fin 128) (k : Fin 128) :
    Host.divf (broadcastInDim S128x128 ![] bcast_S_S128x128 (constant S_ .f32 0x3F800000#32)) (addf (broadcastInDim S128x128 ![] bcast_S_S128x128 (constant S_ .f32 0x3F800000#32)) (Host.exp (Host.negf (pad S128x128 ![0, 0] ![0, 80] ![0, 0] (addf (extractStridedSlice S128x48 ![0, 2560] p slices_S128x3632_S128x48_0_2560) (broadcastInDim S128x48 ![0, 1] bcast_S1x48_S128x48_0_1 (broadcastInDim S1x48 ![1] bcast_S48_S1x48_1 gb))) (sitofp .f32 (constantI S_ 32 0#32)) pads_S128x48_S128x128_000_0800 h_S_)))) (ix2 r k)
      = gateRow (at2 p) (fun k => gb (ix1 k)) r k := by
  unfold gateRow sigmoid
  pointwise
  rw [zero_word]

end Cert.NsaSampleReference

end
-- ==== Proof.ConvSpec.lean ====
/- The arithmetic of the convolution layer: a window of 31 rows against its weights, the channel norm, the swish. -/
module

public import proofs.«01_k».proof.Proof.Projection

@[expose] public section

noncomputable section

namespace Cert.Conv

open Idealize.ShloMosaic Cert.Proj

/-- The sequence with its history in front. -/
def extended (hist : Fin 30 → EReal) (seq : Fin 8192 → EReal) (k : Fin 8222) : EReal :=
  if h : k.val < 30 then hist ⟨k.val, h⟩ else seq ⟨k.val - 30, by omega⟩

/-- The convolution of the extended sequence at a position, with its bias. -/
def convolved (w : Fin 31 → EReal) (bias : EReal) (hist : Fin 30 → EReal) (seq : Fin 8192 → EReal) (s : Fin 8192) : EReal :=
  (∑ j : Fin 31, w j * extended hist seq ⟨s.val + j.val, by omega⟩) + bias

/-- A row's mean. -/
def mean (c : Fin 1024 → EReal) : EReal := Ideal.div (∑ k, c k) (Ideal.ofBits .f32 0x44800000#32)

/-- A row's entry less the row's mean, over the root of the row's variance. -/
def standard (c : Fin 1024 → EReal) (d : Fin 1024) : EReal :=
  (c d - mean c) * Ideal.rsqrt (mean (fun k => (c k - mean c) * (c k - mean c)) + Ideal.ofBits .f32 0x358637BD#32)

/-- An entry after the channel norm and the swish. -/
def activated (c g b : Fin 1024 → EReal) (d : Fin 1024) : EReal := silu (standard c d * g d + b d)

/-- The layer's entry, from its arrays: the convolution, its channel norm and the swish. -/
def layer (u : FVec Ideal ⟨3, ![2, 8192, 1024]⟩ .f32) (h : FVec Ideal ⟨3, ![2, 30, 1024]⟩ .f32) (w : FVec Ideal ⟨2, ![31, 1024]⟩ .f32)
    (e g a : FVec Ideal ⟨1, ![1024]⟩ .f32) (b : Fin 2) (s : Fin 8192) (d : Fin 1024) : EReal :=
  activated (fun k => convolved (fun j => w (ix2 j k)) (e (ix1 k)) (fun r => h (ix3 b r k)) (fun q => u (ix3 b q k)) s)
    (fun k => g (ix1 k)) (fun k => a (ix1 k)) d

/-- A sum of 31 terms, first to last. -/
theorem sum31 (f : Fin 31 → EReal) :
    ∑ j, f j = 0 + f 0 + f 1 + f 2 + f 3 + f 4 + f 5 + f 6 + f 7 + f 8 + f 9 + f 10 + f 11 + f 12 + f 13 + f 14 + f 15
      + f 16 + f 17 + f 18 + f 19 + f 20 + f 21 + f 22 + f 23 + f 24 + f 25 + f 26 + f 27 + f 28 + f 29 + f 30 := by
  simp only [Fin.sum_univ_castSucc, Fin.sum_univ_zero]
  rfl

end Cert.Conv

end
-- ==== Proof.ConvBlock.lean ====
/- One grid point of the convolution: what its buffer holds, what its body leaves. -/
module

public import proofs.«01_k».proof.Proof.Gen.ConfConvIdeal.Frame
public import proofs.«01_k».proof.Proof.ConvSpec
public import Idealize.ShloMosaic.Lib.Pipeline.ValueKit

@[expose] public section

noncomputable section

namespace Cert.Conv

open Cert.ConfConvIdeal Cert.ConfConvIdeal.Gen Idealize.ShloMosaic Idealize.ShloMosaic.TcCoe Idealize.ShloMosaic.Tactic
open Cert.Proj

/-! ## The body's values -/

/-- The final store: gains, biases and the swish. -/
theorem pay1_at (v : FVec Ideal S256x1024 .f32) (g b : Vec Ideal S1x1024 .f32) (y : Fin 256) (d : Fin 1024) :
    k0_pay1 v g b (ix3 0 y d) = silu (v (ix2 y d) * g (ix2 0 d) + b (ix2 0 d)) := by
  unfold silu sigmoid
  pointwise [k0_pay1]
  rw [zero_sub]

/-- The carried rows are stored as they are read. -/
theorem pay2_at (v : Vec Ideal S32x1024 .f32) (r : Fin 32) (d : Fin 1024) : k0_pay2 v (ix2 r d) = v (ix2 r d) := by
  pointwise [k0_pay2]

theorem pay3_at (v : Vec Ideal S1x32x1024 .f32) (r : Fin 32) (d : Fin 1024) : k0_pay3 v (ix2 r d) = v (ix3 0 r d) := by
  pointwise [k0_pay3]

theorem pay4_at (v : Vec Ideal S1x256x1024 .f32) (r : Fin 256) (d : Fin 1024) : k0_pay4 v (ix2 r d) = v (ix3 0 r d) := by
  pointwise [k0_pay4]

/-- The first three products. -/
theorem pay5_at (a0 : Vec Ideal S1x1024 .f32) (x0 : Vec Ideal S256x1024 .f32) (a1 : Vec Ideal S1x1024 .f32) (x1 : Vec Ideal S256x1024 .f32)
    (a2 : Vec Ideal S1x1024 .f32) (x2 : Vec Ideal S256x1024 .f32) (y : Fin 256) (d : Fin 1024) :
    k0_pay5 a0 x0 a1 x1 a2 x2 (ix2 y d)
      = 0 + a0 (ix2 0 d) * x0 (ix2 y d) + a1 (ix2 0 d) * x1 (ix2 y d) + a2 (ix2 0 d) * x2 (ix2 y d) := by
  pointwise [k0_pay5]

/-- One product. -/
theorem pay6_at (a : Vec Ideal S1x1024 .f32) (x : Vec Ideal S256x1024 .f32) (y : Fin 256) (d : Fin 1024) :
    k0_pay6 a x (ix2 y d) = a (ix2 0 d) * x (ix2 y d) := by
  pointwise [k0_pay6]

/-- The product waiting, and five more. -/
theorem pay7_at (s p : FVec Ideal S256x1024 .f32) (a0 : Vec Ideal S1x1024 .f32) (x0 : Vec Ideal S256x1024 .f32) (a1 : Vec Ideal S1x1024 .f32)
    (x1 : Vec Ideal S256x1024 .f32) (a2 : Vec Ideal S1x1024 .f32) (x2 : Vec Ideal S256x1024 .f32) (a3 : Vec Ideal S1x1024 .f32)
    (x3 : Vec Ideal S256x1024 .f32) (a4 : Vec Ideal S1x1024 .f32) (x4 : Vec Ideal S256x1024 .f32) (y : Fin 256) (d : Fin 1024) :
    k0_pay7 s p a0 x0 a1 x1 a2 x2 a3 x3 a4 x4 (ix2 y d)
      = s (ix2 y d) + p (ix2 y d) + a0 (ix2 0 d) * x0 (ix2 y d) + a1 (ix2 0 d) * x1 (ix2 y d) + a2 (ix2 0 d) * x2 (ix2 y d)
        + a3 (ix2 0 d) * x3 (ix2 y d) + a4 (ix2 0 d) * x4 (ix2 y d) := by
  pointwise [k0_pay7]

/-- The other parts of the sum are the same. -/
theorem pay8_eq : k0_pay8 (F := Ideal) = k0_pay6 := rfl
theorem pay9_eq : k0_pay9 (F := Ideal) = k0_pay7 := rfl
theorem pay10_eq : k0_pay10 (F := Ideal) = k0_pay6 := rfl
theorem pay11_eq : k0_pay11 (F := Ideal) = k0_pay7 := rfl
theorem pay12_eq : k0_pay12 (F := Ideal) = k0_pay6 := rfl
theorem pay13_eq : k0_pay13 (F := Ideal) = k0_pay7 := rfl
theorem pay14_eq : k0_pay14 (F := Ideal) = k0_pay6 := rfl

/-- The last four products, the bias, and the channel norm's quotient of the row they make. -/
theorem pay15_at (s p : FVec Ideal S256x1024 .f32) (a0 : Vec Ideal S1x1024 .f32) (x0 : Vec Ideal S256x1024 .f32) (a1 : Vec Ideal S1x1024 .f32)
    (x1 : Vec Ideal S256x1024 .f32) (a2 : Vec Ideal S1x1024 .f32) (x2 : Vec Ideal S256x1024 .f32) (b : Vec Ideal S1x1024 .f32)
    (y : Fin 256) (d : Fin 1024) (row : Fin 1024 → EReal)
    (h : ∀ k, s (ix2 y k) + p (ix2 y k) + a0 (ix2 0 k) * x0 (ix2 y k) + a1 (ix2 0 k) * x1 (ix2 y k) + a2 (ix2 0 k) * x2 (ix2 y k)
        + b (ix2 0 k) = row k) :
    k0_pay15 s p a0 x0 a1 x1 a2 x2 b (ix2 y d) = standard row d := by
  obtain rfl := funext h
  unfold standard mean
  pointwise [k0_pay15]

/-! ## The buffer -/

/-- The buffer's rows during a point: 32 rows from before, then the block's rows. -/
def held (old : Fin 32 → Fin 1024 → EReal) (new : Fin 256 → Fin 1024 → EReal) (q : Fin 288) (d : Fin 1024) : EReal :=
  if h : q.val < 32 then old ⟨q.val, h⟩ d else new ⟨q.val - 32, by omega⟩ d

/-- The buffer at the block's rows. -/
theorem held_new (old : Fin 32 → Fin 1024 → EReal) (new : Fin 256 → Fin 1024 → EReal) (r : Fin 256) (d : Fin 1024) (q : Fin 288)
    (h : q.val = 32 + r.val) : held old new q d = new r d := by
  unfold held
  rw [dif_neg (by omega)]
  exact congrArg (fun r => new r d) (Fin.ext (by show q.val - 32 = r.val; omega))

/-- The buffer at the rows from before. -/
theorem held_old (old : Fin 32 → Fin 1024 → EReal) (new : Fin 256 → Fin 1024 → EReal) (r : Fin 32) (d : Fin 1024) (q : Fin 288)
    (h : q.val = r.val) : held old new q d = old r d := by
  unfold held
  rw [dif_pos (by omega)]
  exact congrArg (fun r => old r d) (Fin.ext h)

/-- A later row of the buffer is a row of the block's rectangle. -/
theorem emb_new (q : Fin 288) (d : Fin 1024) (h : ¬ q.val < 32) :
    (ix2 q d : S288x1024.Idx)
      = (Rect.unit (s := S288x1024) ![32, 0] ![256, 1024] inb_S288x1024_S256x1024_32_0).emb (ix2 (n0 := 256) (n1 := 1024) ⟨q.val - 32, by omega⟩ d) := by
  funext a
  apply Fin.ext
  match a with
  | ⟨0, _⟩ => show q.val = 32 + 1 * (q.val - 32); omega
  | ⟨1, _⟩ => show d.val = 0 + 1 * d.val; omega

/-- An early row of the buffer is a row of the first rectangle. -/
theorem emb_old (q : Fin 288) (d : Fin 1024) (h : q.val < 32) :
    (ix2 q d : S288x1024.Idx)
      = (Rect.unit (s := S288x1024) ![0, 0] ![32, 1024] inb_S288x1024_S32x1024_0_0).emb (ix2 (n0 := 32) (n1 := 1024) ⟨q.val, h⟩ d) := by
  funext a
  apply Fin.ext
  match a with
  | ⟨0, _⟩ => show q.val = 0 + 1 * q.val; omega
  | ⟨1, _⟩ => show d.val = 0 + 1 * d.val; omega

/-- The first 32 rows lie outside the block's rectangle. -/
theorem not_new (q : Fin 288) (d : Fin 1024) (h : q.val < 32) :
    (ix2 q d : S288x1024.Idx) ∉ (Rect.unit (s := S288x1024) ![32, 0] ![256, 1024] inb_S288x1024_S256x1024_32_0).set := by
  rw [Rect.mem_set_unit]
  intro h'
  have := (h' 0).1
  change 32 ≤ q.val at this
  omega

theorem not_old (q : Fin 288) (d : Fin 1024) (h : 32 ≤ q.val) :
    (ix2 q d : S288x1024.Idx) ∉ (Rect.unit (s := S288x1024) ![0, 0] ![32, 1024] inb_S288x1024_S32x1024_0_0).set := by
  rw [Rect.mem_set_unit]
  intro h'
  have := (h' 0).2
  change q.val < 0 + 32 at this
  omega

/-- The two stores' contents at a sequence's first point. -/
theorem canon_first (n : Vec Ideal S256x1024 .f32) (o : Vec Ideal S32x1024 .f32) (q : Fin 288) (d : Fin 1024) :
    View.canon (Val := Elt Ideal)
        [⟨Rect.unit (s := S288x1024) ![32, 0] ![256, 1024] inb_S288x1024_S256x1024_32_0, n⟩,
          ⟨Rect.unit (s := S288x1024) ![0, 0] ![32, 1024] inb_S288x1024_S32x1024_0_0, o⟩] (ix2 q d)
      = held (fun r k => o (ix2 r k)) (fun r k => n (ix2 r k)) q d := by
  by_cases h : q.val < 32
  · rw [View.canon_cons_of_not_mem _ _ (by exact not_new q d h), held_old _ _ ⟨q.val, h⟩ d q rfl, emb_old q d h]
    exact View.canon_cons_emb ..
  · rw [held_new _ _ ⟨q.val - 32, by omega⟩ d q (by show q.val = 32 + (q.val - 32); omega), emb_new q d h]
    exact View.canon_cons_emb ..

/-- The store's contents over what the point before left. -/
theorem read_next {v : View sig .tc .vmem S288x1024 .f32} (f : v.ty.Contents (Elt Ideal)) (s : Vec Ideal S288x1024 .f32)
    (hf : v.read (Elt Ideal) f = s) (n : Vec Ideal S256x1024 .f32) (q : Fin 288) (d : Fin 1024) :
    v.read (Elt Ideal) (v.writes (Elt Ideal) f
        [⟨Rect.unit (s := S288x1024) ![32, 0] ![256, 1024] inb_S288x1024_S256x1024_32_0, n⟩]) (ix2 q d)
      = held (fun r k => s (ix2 ⟨r.val, by omega⟩ k)) (fun r k => n (ix2 r k)) q d := by
  by_cases h : q.val < 32
  · rw [held_old _ _ ⟨q.val, h⟩ d q rfl, View.writes_cons, View.read_slice_write_of_not_mem _ _ _ _ (by
      rw [Rect.map_emb_univ]; exact not_new q d h), View.writes_nil, hf]
  · rw [held_new _ _ ⟨q.val - 32, by omega⟩ d q (by show q.val = 32 + (q.val - 32); omega), emb_new q d h]
    exact View.read_writes_cons_emb ..

/-! ## The loads -/

/-- A row of a load from the buffer. -/
theorem idx_rows {off n : Nat} (inb : ∀ a, (![off, 0] : Fin 2 → Nat) a + (![n, 1024] : Fin 2 → Nat) a ≤ S288x1024.size a)
    (y : Fin n) (k : Fin 1024) (h : off + y.val < 288) :
    (Rect.unit (s := S288x1024) ![off, 0] ![n, 1024] inb).toLoadRect.idx (ix2 (n0 := n) (n1 := 1024) y k) = ix2 ⟨off + y.val, h⟩ k := by
  funext a
  apply Fin.ext
  match a with
  | ⟨0, _⟩ => show off + 1 * y.val = off + y.val; omega
  | ⟨1, _⟩ => show 0 + 1 * k.val = k.val; omega

/-- Rows loaded at a sequence's first point. -/
theorem load_first (v : View sig .tc .vmem S288x1024 .f32) (n : Vec Ideal S256x1024 .f32) (o : Vec Ideal S32x1024 .f32) {off size : Nat}
    (inb : ∀ a, (![off, 0] : Fin 2 → Nat) a + (![size, 1024] : Fin 2 → Nat) a ≤ S288x1024.size a) (y : Fin size) (k : Fin 1024)
    (h : off + y.val < 288) :
    v.readCov (Val := Elt Ideal)
        [⟨Rect.unit (s := S288x1024) ![32, 0] ![256, 1024] inb_S288x1024_S256x1024_32_0, n⟩,
          ⟨Rect.unit (s := S288x1024) ![0, 0] ![32, 1024] inb_S288x1024_S32x1024_0_0, o⟩]
        (Rect.unit (s := S288x1024) ![off, 0] ![size, 1024] inb).toLoadRect (ix2 y k)
      = held (fun r k => o (ix2 r k)) (fun r k => n (ix2 r k)) ⟨off + y.val, h⟩ k := by
  rw [View.readCov_eq_canon']
  beta_reduce
  rw [idx_rows inb y k h, canon_first]

/-- Rows loaded at a later point. -/
theorem load_next (v : View sig .tc .vmem S288x1024 .f32) (f : v.ty.Contents (Elt Ideal)) (s : Vec Ideal S288x1024 .f32)
    (hf : v.read (Elt Ideal) f = s) (n : Vec Ideal S256x1024 .f32) {off size : Nat}
    (inb : ∀ a, (![off, 0] : Fin 2 → Nat) a + (![size, 1024] : Fin 2 → Nat) a ≤ S288x1024.size a) (y : Fin size) (k : Fin 1024)
    (h : off + y.val < 288) :
    View.ld (v.read (Elt Ideal) (v.writes (Elt Ideal) f
        [⟨Rect.unit (s := S288x1024) ![32, 0] ![256, 1024] inb_S288x1024_S256x1024_32_0, n⟩]))
        (Rect.unit (s := S288x1024) ![off, 0] ![size, 1024] inb) (ix2 y k)
      = held (fun r k => s (ix2 ⟨r.val, by omega⟩ k)) (fun r k => n (ix2 r k)) ⟨off + y.val, h⟩ k :=
  (congrArg _ (idx_rows inb y k h)).trans (read_next f s hf n _ k)

/-- Rows loaded from the block's own. -/
theorem load_own (v : View sig .tc .vmem S288x1024 .f32) (n : Vec Ideal S256x1024 .f32) {off size : Nat}
    (inb : ∀ a, (![off, 0] : Fin 2 → Nat) a + (![size, 1024] : Fin 2 → Nat) a ≤ S288x1024.size a) (y : Fin size) (k : Fin 1024)
    (old : Fin 32 → Fin 1024 → EReal) (h : off + y.val < 288) (h' : 32 ≤ off) :
    v.readCov (Val := Elt Ideal)
        [⟨Rect.unit (s := S288x1024) ![32, 0] ![256, 1024] inb_S288x1024_S256x1024_32_0, n⟩]
        (Rect.unit (s := S288x1024) ![off, 0] ![size, 1024] inb).toLoadRect (ix2 y k)
      = held old (fun r k => n (ix2 r k)) ⟨off + y.val, h⟩ k := by
  rw [View.readCov_eq_canon']
  beta_reduce
  rw [idx_rows inb y k h, held_new _ _ ⟨off + y.val - 32, by omega⟩ k _ (by show off + y.val = 32 + (off + y.val - 32); omega),
    emb_new _ k (by show ¬ off + y.val < 32; omega)]
  exact View.canon_cons_emb ..

/-- A row of weights. -/
theorem load_weight (x : Vec Ideal S32x1024 .f32) {off : Nat}
    (inb : ∀ a, (![off, 0] : Fin 2 → Nat) a + (![1, 1024] : Fin 2 → Nat) a ≤ S32x1024.size a) (k : Fin 1024) (h : off < 32) :
    View.ld x (Rect.unit (s := S32x1024) ![off, 0] ![1, 1024] inb) (ix2 0 k) = x (ix2 ⟨off, h⟩ k) := by
  refine congrArg x (funext fun a => Fin.ext ?_)
  match a with
  | ⟨0, _⟩ => show off + 1 * 0 = off; omega
  | ⟨1, _⟩ => show 0 + 1 * k.val = k.val; omega

end Cert.Conv

end
-- ==== Proof.ConvPoint.lean ====
/- What each grid point of the convolution leaves: its rows of the result, and the rows it carries on. -/
module

public import proofs.«01_k».proof.Proof.ConvBlock

@[expose] public section

set_option maxRecDepth 16384

noncomputable section

namespace Cert.Conv

open Cert.ConfConvIdeal Cert.ConfConvIdeal.Gen Idealize.ShloMosaic Idealize.ShloMosaic.TcCoe Idealize.ShloMosaic.Tactic
open Cert.Proj

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- A row of the convolution from the buffer. -/
def row (w : Vec Ideal S32x1024 .f32) (b : Vec Ideal S1x1024 .f32) (s : Fin 288 → Fin 1024 → EReal) (y : Fin 256) (k : Fin 1024) : EReal :=
  (∑ j : Fin 31, w (ix2 ⟨j.val, by omega⟩ k) * s ⟨2 + j.val + y.val, by omega⟩ k) + b (ix2 0 k)

set_option maxHeartbeats 4000000 in
/-- The result's rows at a sequence's first point. -/
theorem out_first (c : Dev nD) (t : Fin cfg0.N) (h0 : t.val % 32 = 0) (y : Fin 256) (d : Fin 1024) :
    (outsAt0 m c t.val t.isLt).1 (ix3 0 y d)
      = activated (row (iblk m c 2 t) (iblk m c 3 t)
          (held (fun r k => iblk m c 1 t (ix3 0 r k)) (fun r k => iblk m c 0 t (ix3 0 r k))) y)
        (fun k => iblk m c 4 t (ix2 0 k)) (fun k => iblk m c 5 t (ix2 0 k)) d := by
  rw [outsAt0_A m c t h0]
  dsimp only
  unfold out0_A_6
  rw [View.read_writes_eq_canon _ _ _ (fun y => cover0_A_6 (y := y) ..)]
  unfold kernelRun0_A
  dsimp only
  sl_unfold_words
  rw [View.canon_unit_zero hz3]
  generalize iblk m c 0 t = x0, iblk m c 1 t = x1, iblk m c 2 t = x2, iblk m c 3 t = x3, iblk m c 4 t = x4, iblk m c 5 t = x5
  simp only [View.readAt_eq_ld, (hs0_0 t).read_unread, (hs0_1 t).read_unread, (hs0_2 t).read_unread, (hs0_3 t).read_unread, (hs0_4 t).read_unread,
    (hs0_5 t).read_unread, View.ld_unit_zero (S := S1x1024) hz2, View.ld_unit_zero (S := S1x256x1024) hz3,
    View.ld_unit_zero (S := S1x32x1024) hz3]
  rw [pay1_at, pay15_at (row := row x2 x3 (held (fun r k => x1 (ix3 0 r k)) (fun r k => x0 (ix3 0 r k))) y) (h := ?_)]
  · rfl
  intro k
  unfold row
  rw [sum31]
  simp only [pay14_eq, pay13_eq, pay12_eq, pay11_eq, pay10_eq, pay9_eq, pay8_eq, pay7_at, pay6_at, pay5_at]
  simp (disch := omega) only [load_weight x2, load_first]
  simp only [pay3_at, pay4_at]
  rfl

set_option maxHeartbeats 4000000 in
/-- The result's rows at a later point. -/
theorem out_next (c : Dev nD) (t : Fin cfg0.N) (h0 : ¬ t.val % 32 = 0) (y : Fin 256) (d : Fin 1024) (s : Vec Ideal S288x1024 .f32)
    (hs : (outsAt0 m c (t.val - 1) (Nat.lt_of_le_of_lt (Nat.sub_le _ _) t.isLt)).2 = s) :
    (outsAt0 m c t.val t.isLt).1 (ix3 0 y d)
      = activated (row (iblk m c 2 t) (iblk m c 3 t)
          (held (fun r k => s (ix2 ⟨r.val, by omega⟩ k)) (fun r k => iblk m c 0 t (ix3 0 r k))) y)
        (fun k => iblk m c 4 t (ix2 0 k)) (fun k => iblk m c 5 t (ix2 0 k)) d := by
  rw [outsAt0_B m c t h0]
  dsimp only
  unfold out0_B_6
  rw [View.read_writes_eq_canon _ _ _ (fun y => cover0_B_6 (y := y) ..)]
  unfold kernelRun0_B
  dsimp only
  sl_unfold_words
  rw [View.canon_unit_zero hz3, hs]
  generalize iblk m c 0 t = x0, iblk m c 1 t = x1, iblk m c 2 t = x2, iblk m c 3 t = x3, iblk m c 4 t = x4, iblk m c 5 t = x5
  simp only [View.readAt_eq_ld, (hs0_0 t).read_unread, (hs0_2 t).read_unread, (hs0_3 t).read_unread, (hs0_4 t).read_unread,
    (hs0_5 t).read_unread, View.ld_unit_zero (S := S1x1024) hz2, View.ld_unit_zero (S := S1x256x1024) hz3]
  rw [pay1_at, pay15_at (row := row x2 x3 (held (fun r k => s (ix2 ⟨r.val, by omega⟩ k)) (fun r k => x0 (ix3 0 r k))) y) (h := ?_)]
  · rfl
  intro k
  unfold row
  rw [sum31]
  simp only [pay14_eq, pay13_eq, pay12_eq, pay11_eq, pay10_eq, pay9_eq, pay8_eq, pay7_at, pay6_at, pay5_at]
  simp (disch := omega) only [load_weight x2, load_next _ _ s ((Memref.isWhole_whole cc0_scratch0).read_unread s),
    load_own _ _ _ _ _ (fun r k => s (ix2 ⟨r.val, by omega⟩ k))]
  simp only [pay4_at]
  rfl

set_option maxHeartbeats 4000000 in
/-- The rows carried on from a sequence's first point. -/
theorem carried_first (c : Dev nD) (t : Fin cfg0.N) (h0 : t.val % 32 = 0) (r : Fin 32) (k : Fin 1024) :
    (outsAt0 m c t.val t.isLt).2 (ix2 ⟨r.val, by omega⟩ k) = iblk m c 0 t (ix3 0 ⟨224 + r.val, by omega⟩ k) := by
  rw [outsAt0_A m c t h0]
  dsimp only
  unfold sout0_A_0
  rw [View.read_writes_eq_canon _ _ _ (fun y => scover0_A_0 (y := y) ..)]
  unfold kernelRun0_A
  dsimp only
  sl_unfold_words
  rw [emb_old ⟨r.val, by omega⟩ k r.isLt]
  refine (View.canon_cons_emb ..).trans ?_
  simp only [View.readAt_eq_ld, (hs0_0 t).read_unread, (hs0_1 t).read_unread, View.ld_unit_zero (S := S1x256x1024) hz3,
    View.ld_unit_zero (S := S1x32x1024) hz3]
  refine (pay2_at _ ⟨r.val, r.isLt⟩ k).trans ?_
  refine (load_first _ _ _ _ _ _ (by show 256 + r.val < 288; omega)).trans ?_
  rw [held_new _ _ ⟨224 + r.val, by omega⟩ k _ (by show 256 + r.val = 32 + (224 + r.val); omega), pay4_at]

set_option maxHeartbeats 4000000 in
/-- The rows carried on from a later point. -/
theorem carried_next (c : Dev nD) (t : Fin cfg0.N) (h0 : ¬ t.val % 32 = 0) (r : Fin 32) (k : Fin 1024) :
    (outsAt0 m c t.val t.isLt).2 (ix2 ⟨r.val, by omega⟩ k) = iblk m c 0 t (ix3 0 ⟨224 + r.val, by omega⟩ k) := by
  rw [outsAt0_B m c t h0]
  dsimp only
  unfold sout0_B_0
  rw [View.read_writes_eq_canon _ _ _ (fun y => scover0_B_0 (y := y) ..)]
  unfold kernelRun0_B
  dsimp only
  sl_unfold_words
  rw [emb_old ⟨r.val, by omega⟩ k r.isLt]
  refine (View.canon_cons_emb ..).trans ?_
  simp only [View.readAt_eq_ld, (hs0_0 t).read_unread, View.ld_unit_zero (S := S1x256x1024) hz3]
  refine (pay2_at _ ⟨r.val, r.isLt⟩ k).trans ?_
  refine (load_own _ _ _ _ _ (fun _ _ => 0) (by show 256 + r.val < 288; omega) (by omega)).trans ?_
  rw [held_new _ _ ⟨224 + r.val, by omega⟩ k _ (by show 256 + r.val = 32 + (224 + r.val); omega), pay4_at]

/-- The rows carried on from a point are the last 32 of its block. -/
theorem carried (c : Dev nD) (t : Fin cfg0.N) (r : Fin 32) (k : Fin 1024) :
    (outsAt0 m c t.val t.isLt).2 (ix2 ⟨r.val, by omega⟩ k) = iblk m c 0 t (ix3 0 ⟨224 + r.val, by omega⟩ k) := by
  by_cases h0 : t.val % 32 = 0
  · exact carried_first m c t h0 r k
  · exact carried_next m c t h0 r k

end Cert.Conv

end
-- ==== Proof.ConvArray.lean ====
/- The convolution's result array: what the region reads, what each block holds, and the whole. -/
module

public import proofs.«01_k».proof.Proof.ConvPoint
public import Idealize.ShloMosaic.Lib.Pipeline.Covers

@[expose] public section

set_option maxRecDepth 16384

noncomputable section

namespace Cert.Conv

open Cert.ConfConvIdeal Cert.ConfConvIdeal.Gen Idealize.ShloMosaic Idealize.ShloMosaic.TcCoe Idealize.SL.Sem
open Cert.Proj

variable (m : (ℓ : Loc nD τ sig) → Buf (Elt Ideal) ℓ) (ρ : Dev nD → PrngReg)

/-- Where a grid point's blocks lie. -/
theorem places : ∀ t : Fin cfg0.N,
    win0_0.index t = ![t.val / 32, t.val % 32, 0] ∧ win0_1.index t = ![t.val / 32, 0, 0] ∧ win0_2.index t = ![0, 0]
    ∧ win0_3.index t = ![0, 0] ∧ win0_4.index t = ![0, 0] ∧ win0_5.index t = ![0, 0]
    ∧ win0_6.index t = ![t.val / 32, t.val % 32, 0] :=
  (by decide +kernel : ∀ t : Fin grid0.N, _)

/-- The sequence, the history, the weights, the biases and the norm's gains and biases, as arrays. -/
abbrev seqM (c : Dev nD) : FVec Ideal S2x8192x1024 .f32 := m ((c : Thread nD τ).loc main_arg0)
abbrev histM (c : Dev nD) : FVec Ideal S2x30x1024 .f32 := m ((c : Thread nD τ).loc main_arg1)
abbrev weightM (c : Dev nD) : FVec Ideal S31x1024 .f32 := m ((c : Thread nD τ).loc main_arg2)
abbrev biasM (c : Dev nD) : FVec Ideal S1024 .f32 := m ((c : Thread nD τ).loc main_arg3)
abbrev gainM (c : Dev nD) : FVec Ideal S1024 .f32 := m ((c : Thread nD τ).loc main_arg4)
abbrev shiftM (c : Dev nD) : FVec Ideal S1024 .f32 := m ((c : Thread nD τ).loc main_arg5)

/-! ## What the region reads -/

/-- The history lies after two rows of zeros. -/
theorem history_padded (h : FVec Ideal S2x30x1024 .f32) (b : Fin 2) (r : Fin 32) (d : Fin 1024) (hr : 2 ≤ r.val) :
    pad S2x32x1024 ![0, 2, 0] ![0, 0, 0] ![0, 0, 0] h (sitofp (F := Ideal) .f32 (constantI S_ 32 0#32)) pads_S2x30x1024_S2x32x1024_000_200_000 h_S_ (ix3 b r d)
      = h (ix3 b ⟨r.val - 2, by omega⟩ d) := by
  pointwise
  rw [dif_pos (by omega)]

/-- The weights lie before a row of zeros. -/
theorem weight_padded (w : FVec Ideal S31x1024 .f32) (j : Fin 31) (d : Fin 1024) :
    pad S32x1024 ![0, 0] ![1, 0] ![0, 0] w (sitofp (F := Ideal) .f32 (constantI S_ 32 0#32)) pads_S31x1024_S32x1024_010_000 h_S_ (ix2 ⟨j.val, by omega⟩ d)
      = w (ix2 j d) := by
  pointwise

theorem history_entry (c : Dev nD) (b : Fin 2) (r : Fin 32) (d : Fin 1024) (hr : 2 ≤ r.val) :
    (V m c main_v0 : FVec Ideal S2x32x1024 .f32) (ix3 b r d) = histM m c (ix3 b ⟨r.val - 2, by omega⟩ d) :=
  history_padded _ b r d hr

theorem weight_entry (c : Dev nD) (j : Fin 31) (d : Fin 1024) :
    (V m c main_v1 : FVec Ideal S32x1024 .f32) (ix2 ⟨j.val, by omega⟩ d) = weightM m c (ix2 j d) :=
  weight_padded _ j d

theorem bias_entry (c : Dev nD) (d : Fin 1024) : (V m c main_v2 : FVec Ideal S1x1024 .f32) (ix2 0 d) = biasM m c (ix1 d) := by
  show broadcastInDim S1x1024 ![1] bcast_S1024_S1x1024_1 (biasM m c) (ix2 0 d) = _
  pointwise

theorem gain_entry (c : Dev nD) (d : Fin 1024) : (V m c main_v3 : FVec Ideal S1x1024 .f32) (ix2 0 d) = gainM m c (ix1 d) := by
  show broadcastInDim S1x1024 ![1] bcast_S1024_S1x1024_1 (gainM m c) (ix2 0 d) = _
  pointwise

theorem shift_entry (c : Dev nD) (d : Fin 1024) : (V m c main_v4 : FVec Ideal S1x1024 .f32) (ix2 0 d) = shiftM m c (ix1 d) := by
  show broadcastInDim S1x1024 ![1] bcast_S1024_S1x1024_1 (shiftM m c) (ix2 0 d) = _
  pointwise

/-! ## A point's blocks -/

/-- A point's sequence of the two. -/
def batchOf (t : Fin cfg0.N) : Fin 2 := ⟨t.val / 32, by have := t.isLt; have e : cfg0.N = 64 := rfl; omega⟩

/-- The sequence's position of a block's row. -/
def posOf (t : Fin cfg0.N) (y : Fin 256) : Fin 8192 := ⟨t.val % 32 * 256 + y.val, by omega⟩

theorem seq_block (c : Dev nD) (t : Fin cfg0.N) (y : Fin 256) (d : Fin 1024) :
    iblk m c 0 t (ix3 0 y d) = seqM m c (ix3 (batchOf t) (posOf t y) d) := by
  unfold batchOf posOf
  blk_ext [iblk, V, places t]

theorem history_block (c : Dev nD) (t : Fin cfg0.N) (r : Fin 32) (d : Fin 1024) (hr : 2 ≤ r.val) :
    iblk m c 1 t (ix3 0 r d) = histM m c (ix3 (batchOf t) ⟨r.val - 2, by omega⟩ d) := by
  refine Eq.trans ?_ (history_entry m c (batchOf t) r d hr)
  unfold batchOf
  blk_ext [iblk, places t]

theorem weight_block (c : Dev nD) (t : Fin cfg0.N) (j : Fin 31) (d : Fin 1024) :
    iblk m c 2 t (ix2 ⟨j.val, by omega⟩ d) = weightM m c (ix2 j d) := by
  refine Eq.trans ?_ (weight_entry m c j d)
  blk_ext [iblk, places t]

theorem bias_block (c : Dev nD) (t : Fin cfg0.N) (d : Fin 1024) : iblk m c 3 t (ix2 0 d) = biasM m c (ix1 d) := by
  refine Eq.trans ?_ (bias_entry m c d)
  blk_ext [iblk, places t]

theorem gain_block (c : Dev nD) (t : Fin cfg0.N) (d : Fin 1024) : iblk m c 4 t (ix2 0 d) = gainM m c (ix1 d) := by
  refine Eq.trans ?_ (gain_entry m c d)
  blk_ext [iblk, places t]

theorem shift_block (c : Dev nD) (t : Fin cfg0.N) (d : Fin 1024) : iblk m c 5 t (ix2 0 d) = shiftM m c (ix1 d) := by
  refine Eq.trans ?_ (shift_entry m c d)
  blk_ext [iblk, places t]

/-! ## A point's rows -/

/-- The buffer's row is the extended sequence's, once the rows from before are. -/
theorem held_extended (old : Fin 32 → Fin 1024 → EReal) (new : Fin 256 → Fin 1024 → EReal) (hist : Fin 30 → EReal) (seq : Fin 8192 → EReal)
    (k : Fin 1024) (i : Nat) (hi : i < 32)
    (ho : ∀ r : Fin 32, (h : 2 ≤ r.val) → old r k = extended hist seq ⟨i * 256 + (r.val - 2), by omega⟩)
    (hn : ∀ r : Fin 256, new r k = seq ⟨i * 256 + r.val, by omega⟩) (y : Fin 256) (j : Fin 31) :
    held old new ⟨2 + j.val + y.val, by omega⟩ k = extended hist seq ⟨i * 256 + y.val + j.val, by omega⟩ := by
  unfold held
  by_cases h : 2 + j.val + y.val < 32
  · rw [dif_pos h, ho _ (by show 2 ≤ 2 + j.val + y.val; omega)]
    exact congrArg (extended hist seq) (Fin.ext (by show i * 256 + (2 + j.val + y.val - 2) = i * 256 + y.val + j.val; omega))
  · rw [dif_neg h, hn]
    unfold extended
    rw [dif_neg (by show ¬ i * 256 + y.val + j.val < 30; omega)]
    exact congrArg seq (Fin.ext (by show i * 256 + (2 + j.val + y.val - 32) = i * 256 + y.val + j.val - 30; omega))

/-- The convolution's entry, from the arrays. -/
def convM (c : Dev nD) (b : Fin 2) (s : Fin 8192) (d : Fin 1024) : EReal :=
  convolved (fun j => weightM m c (ix2 j d)) (biasM m c (ix1 d)) (fun r => histM m c (ix3 b r d)) (fun q => seqM m c (ix3 b q d)) s

/-- A row of the convolution from the buffer is the array's. -/
theorem row_conv (c : Dev nD) (t : Fin cfg0.N) (old : Fin 32 → Fin 1024 → EReal)
    (ho : ∀ (r : Fin 32) (k : Fin 1024), (h : 2 ≤ r.val) → old r k = extended (fun r => histM m c (ix3 (batchOf t) r k))
      (fun q => seqM m c (ix3 (batchOf t) q k)) ⟨t.val % 32 * 256 + (r.val - 2), by omega⟩) (y : Fin 256) :
    row (iblk m c 2 t) (iblk m c 3 t) (held old (fun r k => iblk m c 0 t (ix3 0 r k))) y = convM m c (batchOf t) (posOf t y) := by
  funext k
  unfold row convM convolved
  rw [bias_block]
  refine congrArg (fun z : EReal => z + biasM m c (ix1 k)) (Finset.sum_congr rfl fun j _ => ?_)
  rw [weight_block]
  exact congrArg (fun z : EReal => weightM m c (ix2 j k) * z)
    (held_extended old _ _ _ k (t.val % 32) (by omega) (fun r h => ho r k h) (fun r => seq_block m c t r k) y j)

/-- A point's rows of the result. -/
theorem point (c : Dev nD) (t : Fin cfg0.N) (y : Fin 256) (d : Fin 1024) :
    (outsAt0 m c t.val t.isLt).1 (ix3 0 y d)
      = activated (convM m c (batchOf t) (posOf t y)) (fun k => gainM m c (ix1 k)) (fun k => shiftM m c (ix1 k)) d := by
  by_cases h0 : t.val % 32 = 0
  · rw [out_first m c t h0, row_conv m c t, funext (gain_block m c t), funext (shift_block m c t)]
    intro r k h
    rw [history_block m c t r k h]
    unfold extended
    rw [dif_pos (by show t.val % 32 * 256 + (r.val - 2) < 30; omega)]
    exact congrArg (fun r => histM m c (ix3 (batchOf t) r k)) (Fin.ext (by show r.val - 2 = t.val % 32 * 256 + (r.val - 2); omega))
  · rw [out_next m c t h0 y d _ rfl, row_conv m c t, funext (gain_block m c t), funext (shift_block m c t)]
    intro r k h
    rw [carried m c ⟨t.val - 1, Nat.lt_of_le_of_lt (Nat.sub_le _ _) t.isLt⟩ r k, seq_block]
    unfold extended
    rw [dif_neg (by show ¬ t.val % 32 * 256 + (r.val - 2) < 30; omega)]
    have eb : batchOf ⟨t.val - 1, Nat.lt_of_le_of_lt (Nat.sub_le _ _) t.isLt⟩ = batchOf t :=
      Fin.ext (by show (t.val - 1) / 32 = t.val / 32; omega)
    rw [eb]
    exact congrArg (fun q => seqM m c (ix3 (batchOf t) q k))
      (Fin.ext (by show (t.val - 1) % 32 * 256 + (224 + r.val) = t.val % 32 * 256 + (r.val - 2) - 30; omega))

/-! ## The array -/

/-- A block's values at its own indices, placed in an array of three axes. -/
theorem placed3 {a b n k l : Nat} {α : Type} (O : (⟨3, ![1, a, b]⟩ : Shape).Idx → α) (G : (⟨3, ![n, k, l]⟩ : Shape).Idx → α)
    (r0 : Fin n) (row : Fin a → Fin k) (col : Fin b → Fin l) (h : ∀ p q, O (ix3 0 p q) = G (ix3 r0 (row p) (col q)))
    (y : (⟨3, ![1, a, b]⟩ : Shape).Idx) (j : (⟨3, ![n, k, l]⟩ : Shape).Idx)
    (h0 : (j 0).val = r0.val) (h1 : (j 1).val = (row (y 1)).val) (h2 : (j 2).val = (col (y 2)).val) : O y = G j := by
  have ey : O y = O (ix3 (n0 := 1) (n1 := a) (n2 := b) 0 (y 1) (y 2)) :=
    congrArg O ((eq_ix3 y).trans (congrArg (fun z => ix3 (n0 := 1) (n1 := a) (n2 := b) z (y 1) (y 2)) (Subsingleton.elim (α := Fin 1) _ _)))
  have ej : j = ix3 (n0 := n) (n1 := k) (n2 := l) r0 (row (y 1)) (col (y 2)) :=
    (eq_ix3 j).trans (congr (congr (congrArg ix3 (Fin.ext h0)) (Fin.ext h1)) (Fin.ext h2))
  exact ey.trans ((h (y 1) (y 2)).trans (congrArg G ej.symm))

/-- The blocks of the result cover its array. -/
theorem covers6 : (cfg0.win 6).Covers := by decide +kernel

/-- The result's array. -/
theorem final (c : Dev nD) (G : FVec Ideal S2x8192x1024 .f32)
    (hG : ∀ b s d, G (ix3 b s d) = layer (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) b s d) :
    (dats m 0 c).arrAt 6 cfg0.N = G := by
  refine (dats m 0 c).arrAt_eq_of_covers 6 _ covers6 fun t _ y => ?_
  rw [after0_6]
  blk_simp [places t]
  refine placed3 _ G (batchOf t) (posOf t) id (fun p q => (point m c t p q).trans (hG _ _ _).symm) y _ ?_ ?_ ?_
  · blk_simp [places t, batchOf]
  · blk_simp [places t, posOf]
  · blk_simp [places t, id]

/-- The run: the result's array, the arguments kept. -/
theorem run_blocks : θ_run defs (onTc (τ := τ) (main (F := Ideal))) ⟨m, fun _ => 0, ρ⟩ fun r => ∀ c : Dev nD,
      r.2.mem ((c : Thread nD τ).loc main_v5) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 6,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.Conv

end
-- ==== Proof.ConvReference.lean ====
/- The reference's convolution, index by index. -/
module

public import proofs.«01_k».proof.Proof.Gen.ConfConvReferenceIdeal.Run
public import proofs.«01_k».proof.Proof.ConvSpec
public import Idealize.ShloMosaic.Lib.Pipeline.ValueKit

@[expose] public section

set_option maxRecDepth 16384

noncomputable section

namespace Cert.ConvReference

open Cert.ConfConvReferenceIdeal Cert.ConfConvReferenceIdeal.Gen Cert.ConfConvReferenceIdeal.Value
open Idealize.ShloMosaic Idealize.ShloMosaic.TcCoe Idealize.SL.Sem Idealize.ShloMosaic.StableHlo
open Cert.Proj Cert.Conv

/-- The history and the sequence, end to end. -/
theorem extended_at (h : FVec Ideal S2x30x1024 .f32) (u : FVec Ideal S2x8192x1024 .f32) (b : Fin 2) (q : Fin 8222) (d : Fin 1024) :
    concatenate S2x8222x1024 1 [⟨S2x30x1024, h⟩, ⟨S2x8192x1024, u⟩] concatenates_S2x30x1024_S2x8192x1024_S2x8222x1024_d1 (ix3 b q d)
      = extended (fun r => h (ix3 b r d)) (fun s => u (ix3 b s d)) q := by
  unfold extended
  pointwise

/-- One product: a row of weights against a shifted sequence. -/
theorem product_at (w : FVec Ideal S31x1024 .f32) (x : FVec Ideal S2x8222x1024 .f32) (j : Nat) (hj : j < 31)
    (hw : S31x1024.Slices ![j, 0] S1x1024) (hx : S2x8222x1024.Slices ![0, j, 0] S2x8192x1024) (b : Fin 2) (s : Fin 8192) (d : Fin 1024) :
    mulf (broadcastInDim S2x8192x1024 ![0, 1, 2] bcast_S1x1x1024_S2x8192x1024_0_1_2 (broadcastInDim S1x1x1024 ![2] bcast_S1024_S1x1x1024_2
        (shapeCast _ (extractStridedSlice S1x1024 ![j, 0] w hw) shapeCasts_S1x1024_S1024))) (extractStridedSlice S2x8192x1024 ![0, j, 0] x hx) (ix3 b s d)
      = w (ix2 ⟨j, hj⟩ d) * x (ix3 b ⟨s.val + j, by omega⟩ d) := by
  pointwise
  exact congrArg (fun q => w (ix2 ⟨j, hj⟩ d) * x (ix3 b q d)) (Fin.ext (Nat.add_comm j s.val))

/-- A sum so far, and one more product. -/
theorem more_at (p : FVec Ideal S2x8192x1024 .f32) (w : FVec Ideal S31x1024 .f32) (x : FVec Ideal S2x8222x1024 .f32) (j : Nat) (hj : j < 31)
    (hw : S31x1024.Slices ![j, 0] S1x1024) (hx : S2x8222x1024.Slices ![0, j, 0] S2x8192x1024) (b : Fin 2) (s : Fin 8192) (d : Fin 1024) (z : EReal)
    (hp : p (ix3 b s d) = z) :
    addf p (mulf (broadcastInDim S2x8192x1024 ![0, 1, 2] bcast_S1x1x1024_S2x8192x1024_0_1_2 (broadcastInDim S1x1x1024 ![2] bcast_S1024_S1x1x1024_2
        (shapeCast _ (extractStridedSlice S1x1024 ![j, 0] w hw) shapeCasts_S1x1024_S1024))) (extractStridedSlice S2x8192x1024 ![0, j, 0] x hx)) (ix3 b s d)
      = z + w (ix2 ⟨j, hj⟩ d) * x (ix3 b ⟨s.val + j, by omega⟩ d) :=
  congr (congrArg (fun y q : EReal => y + q) hp) (product_at w x j hj hw hx b s d)

/-- A bias spread over the sequence. -/
theorem spread_at (v : FVec Ideal S1024 .f32) (b : Fin 2) (s : Fin 8192) (d : Fin 1024) :
    broadcastInDim S2x8192x1024 ![0, 1, 2] bcast_S1x1x1024_S2x8192x1024_0_1_2 (broadcastInDim S1x1x1024 ![2] bcast_S1024_S1x1x1024_2 v) (ix3 b s d)
      = v (ix1 d) := by
  pointwise

/-- The zeros the sum starts from. -/
theorem zeros_at (b : Fin 2) (s : Fin 8192) (d : Fin 1024) :
    broadcastInDim S2x8192x1024 ![] bcast_S_S2x8192x1024 (constant (F := Ideal) S_ .f32 0x00000000#32) (ix3 b s d) = 0 := by
  pointwise

/-- The arguments, as arrays. -/
abbrev seqA (L : Valuation τ sig (Elt Ideal)) : FVec Ideal S2x8192x1024 .f32 := L (Proc.devRef .tc main_arg0)
abbrev histA (L : Valuation τ sig (Elt Ideal)) : FVec Ideal S2x30x1024 .f32 := L (Proc.devRef .tc main_arg1)
abbrev weightA (L : Valuation τ sig (Elt Ideal)) : FVec Ideal S31x1024 .f32 := L (Proc.devRef .tc main_arg2)
abbrev biasA (L : Valuation τ sig (Elt Ideal)) : FVec Ideal S1024 .f32 := L (Proc.devRef .tc main_arg3)
abbrev gainA (L : Valuation τ sig (Elt Ideal)) : FVec Ideal S1024 .f32 := L (Proc.devRef .tc main_arg4)
abbrev shiftA (L : Valuation τ sig (Elt Ideal)) : FVec Ideal S1024 .f32 := L (Proc.devRef .tc main_arg5)

/-- The sum after eleven products, and after twenty-two. -/
abbrev upTo10 (L : Valuation τ sig (Elt Ideal)) : FVec Ideal S2x8192x1024 .f32 := res_main_v78 L
abbrev upTo21 (L : Valuation τ sig (Elt Ideal)) : FVec Ideal S2x8192x1024 .f32 := res_main_v155 L

/-- The convolution's entry, from the arguments. -/
def conv (L : Valuation τ sig (Elt Ideal)) (b : Fin 2) (s : Fin 8192) (d : Fin 1024) : EReal :=
  convolved (fun j => weightA L (ix2 j d)) (biasA L (ix1 d)) (fun r => histA L (ix3 b r d)) (fun q => seqA L (ix3 b q d)) s

/-- The first eleven products. -/
theorem sum10 (L : Valuation τ sig (Elt Ideal)) (b : Fin 2) (s : Fin 8192) (d : Fin 1024) (w : FVec Ideal S31x1024 .f32) (hw : w = weightA L)
    (x : FVec Ideal S2x8222x1024 .f32) (hx : x = res_main_v0 L) :
    upTo10 L (ix3 b s d) = 0
        + w (ix2 0 d) * x (ix3 b ⟨s.val + 0, by omega⟩ d)
        + w (ix2 1 d) * x (ix3 b ⟨s.val + 1, by omega⟩ d)
        + w (ix2 2 d) * x (ix3 b ⟨s.val + 2, by omega⟩ d)
        + w (ix2 3 d) * x (ix3 b ⟨s.val + 3, by omega⟩ d)
        + w (ix2 4 d) * x (ix3 b ⟨s.val + 4, by omega⟩ d)
        + w (ix2 5 d) * x (ix3 b ⟨s.val + 5, by omega⟩ d)
        + w (ix2 6 d) * x (ix3 b ⟨s.val + 6, by omega⟩ d)
        + w (ix2 7 d) * x (ix3 b ⟨s.val + 7, by omega⟩ d)
        + w (ix2 8 d) * x (ix3 b ⟨s.val + 8, by omega⟩ d)
        + w (ix2 9 d) * x (ix3 b ⟨s.val + 9, by omega⟩ d)
        + w (ix2 10 d) * x (ix3 b ⟨s.val + 10, by omega⟩ d) := by
  subst hw hx
  exact more_at _ _ _ 10 (by decide) _ _ b s d _
    (more_at _ _ _ 9 (by decide) _ _ b s d _
    (more_at _ _ _ 8 (by decide) _ _ b s d _
    (more_at _ _ _ 7 (by decide) _ _ b s d _
    (more_at _ _ _ 6 (by decide) _ _ b s d _
    (more_at _ _ _ 5 (by decide) _ _ b s d _
    (more_at _ _ _ 4 (by decide) _ _ b s d _
    (more_at _ _ _ 3 (by decide) _ _ b s d _
    (more_at _ _ _ 2 (by decide) _ _ b s d _
    (more_at _ _ _ 1 (by decide) _ _ b s d _
    (more_at _ _ _ 0 (by decide) _ _ b s d _
    (zeros_at b s d)))))))))))

/-- Eleven more products. -/
theorem sum21 (L : Valuation τ sig (Elt Ideal)) (b : Fin 2) (s : Fin 8192) (d : Fin 1024) (w : FVec Ideal S31x1024 .f32) (hw : w = weightA L)
    (x : FVec Ideal S2x8222x1024 .f32) (hx : x = res_main_v0 L) :
    upTo21 L (ix3 b s d) = upTo10 L (ix3 b s d)
        + w (ix2 11 d) * x (ix3 b ⟨s.val + 11, by omega⟩ d)
        + w (ix2 12 d) * x (ix3 b ⟨s.val + 12, by omega⟩ d)
        + w (ix2 13 d) * x (ix3 b ⟨s.val + 13, by omega⟩ d)
        + w (ix2 14 d) * x (ix3 b ⟨s.val + 14, by omega⟩ d)
        + w (ix2 15 d) * x (ix3 b ⟨s.val + 15, by omega⟩ d)
        + w (ix2 16 d) * x (ix3 b ⟨s.val + 16, by omega⟩ d)
        + w (ix2 17 d) * x (ix3 b ⟨s.val + 17, by omega⟩ d)
        + w (ix2 18 d) * x (ix3 b ⟨s.val + 18, by omega⟩ d)
        + w (ix2 19 d) * x (ix3 b ⟨s.val + 19, by omega⟩ d)
        + w (ix2 20 d) * x (ix3 b ⟨s.val + 20, by omega⟩ d)
        + w (ix2 21 d) * x (ix3 b ⟨s.val + 21, by omega⟩ d) := by
  subst hw hx
  exact more_at _ _ _ 21 (by decide) _ _ b s d _
    (more_at _ _ _ 20 (by decide) _ _ b s d _
    (more_at _ _ _ 19 (by decide) _ _ b s d _
    (more_at _ _ _ 18 (by decide) _ _ b s d _
    (more_at _ _ _ 17 (by decide) _ _ b s d _
    (more_at _ _ _ 16 (by decide) _ _ b s d _
    (more_at _ _ _ 15 (by decide) _ _ b s d _
    (more_at _ _ _ 14 (by decide) _ _ b s d _
    (more_at _ _ _ 13 (by decide) _ _ b s d _
    (more_at _ _ _ 12 (by decide) _ _ b s d _
    (more_at _ _ _ 11 (by decide) _ _ b s d _
    (rfl)))))))))))

/-- The last nine products, and the bias. -/
theorem sum30 (L : Valuation τ sig (Elt Ideal)) (b : Fin 2) (s : Fin 8192) (d : Fin 1024) (w : FVec Ideal S31x1024 .f32) (hw : w = weightA L)
    (x : FVec Ideal S2x8222x1024 .f32) (hx : x = res_main_v0 L) :
    (res_main_v221 L : FVec Ideal S2x8192x1024 .f32) (ix3 b s d) = upTo21 L (ix3 b s d)
        + w (ix2 22 d) * x (ix3 b ⟨s.val + 22, by omega⟩ d)
        + w (ix2 23 d) * x (ix3 b ⟨s.val + 23, by omega⟩ d)
        + w (ix2 24 d) * x (ix3 b ⟨s.val + 24, by omega⟩ d)
        + w (ix2 25 d) * x (ix3 b ⟨s.val + 25, by omega⟩ d)
        + w (ix2 26 d) * x (ix3 b ⟨s.val + 26, by omega⟩ d)
        + w (ix2 27 d) * x (ix3 b ⟨s.val + 27, by omega⟩ d)
        + w (ix2 28 d) * x (ix3 b ⟨s.val + 28, by omega⟩ d)
        + w (ix2 29 d) * x (ix3 b ⟨s.val + 29, by omega⟩ d)
        + w (ix2 30 d) * x (ix3 b ⟨s.val + 30, by omega⟩ d)
        + biasA L (ix1 d) := by
  subst hw hx
  refine congr (congrArg (fun y q : EReal => y + q) ?_) (spread_at (biasA L) b s d)
  exact more_at _ _ _ 30 (by decide) _ _ b s d _
    (more_at _ _ _ 29 (by decide) _ _ b s d _
    (more_at _ _ _ 28 (by decide) _ _ b s d _
    (more_at _ _ _ 27 (by decide) _ _ b s d _
    (more_at _ _ _ 26 (by decide) _ _ b s d _
    (more_at _ _ _ 25 (by decide) _ _ b s d _
    (more_at _ _ _ 24 (by decide) _ _ b s d _
    (more_at _ _ _ 23 (by decide) _ _ b s d _
    (more_at _ _ _ 22 (by decide) _ _ b s d _
    (rfl)))))))))

set_option maxHeartbeats 4000000 in
/-- The sum of the shifted products and the bias. -/
theorem conv_at (L : Valuation τ sig (Elt Ideal)) (b : Fin 2) (s : Fin 8192) (d : Fin 1024) :
    (res_main_v221 L : FVec Ideal S2x8192x1024 .f32) (ix3 b s d) = conv L b s d := by
  unfold conv convolved
  rw [sum31]
  have hx : ∀ q, (res_main_v0 L : FVec Ideal S2x8222x1024 .f32) (ix3 b q d) = extended (fun r => histA L (ix3 b r d)) (fun s => seqA L (ix3 b s d)) q :=
    fun q => extended_at _ _ b q d
  simp only [← hx]
  rw [sum30 L b s d _ rfl _ rfl, sum21 L b s d _ rfl _ rfl, sum10 L b s d _ rfl _ rfl]
  rfl

/-- The channel norm's quotient, gains and biases, as the reference writes them. -/
theorem norm_at (v : FVec Ideal S2x8192x1024 .f32) (g e : FVec Ideal S1024 .f32) (b : Fin 2) (s : Fin 8192) (d : Fin 1024) (mu : FVec Ideal S2x8192x1 .f32)
    (hmu : mu = Host.divf (broadcastInDim S2x8192x1 ![0, 1] bcast_S2x8192_S2x8192x1_0_1 (Host.reduceAdd v (constant S_ .f32 0x00000000#32) reducesTo_S2x8192x1024_S2x8192_d2 h_S_)) (broadcastInDim S2x8192x1 ![] bcast_S_S2x8192x1 (constant S_ .f32 0x44800000#32)))
    (z : FVec Ideal S2x8192x1024 .f32) (hz : z = subf v (broadcastInDim S2x8192x1024 ![0, 1, 2] bcast_S2x8192x1_S2x8192x1024_0_1_2 mu)) :
    addf (mulf (mulf z (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf z z) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))) (broadcastInDim S2x8192x1024 ![0, 1, 2] bcast_S1x1x1024_S2x8192x1024_0_1_2 (broadcastInDim S1x1x1024 ![2] bcast_S1024_S1x1x1024_2 e)) (ix3 b s d)
      = standard (fun k => v (ix3 b s k)) d * g (ix1 d) + e (ix1 d) := by
  subst hz hmu
  unfold standard mean
  pointwise

/-- The swish, as the reference writes it. -/
theorem swish_at (z : FVec Ideal S2x8192x1024 .f32) (b : Fin 2) (s : Fin 8192) (d : Fin 1024) :
    mulf z (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf z)))) (ix3 b s d)
      = silu (z (ix3 b s d)) := by
  unfold silu sigmoid
  pointwise

/-- The reference's result, index by index. -/
theorem result_at (L : Valuation τ sig (Elt Ideal)) (b : Fin 2) (s : Fin 8192) (d : Fin 1024) :
    mulf (res_main_v245 L : FVec Ideal S2x8192x1024 .f32) (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (res_main_v245 L))))) (ix3 b s d)
      = activated (conv L b s) (fun k => gainA L (ix1 k)) (fun k => shiftA L (ix1 k)) d := by
  rw [swish_at]
  refine congrArg silu ?_
  refine (norm_at (res_main_v221 L) (gainA L) (shiftA L) b s d (res_main_v225 L) rfl (res_main_v227 L) rfl).trans ?_
  rw [show (fun k => (res_main_v221 L : FVec Ideal S2x8192x1024 .f32) (ix3 b s k)) = conv L b s from funext (conv_at L b s)]

/-- The reference's result, from the launched arguments. -/
theorem launched_at (m : (ℓ : Loc nD τ sig) → Buf (Elt Ideal) ℓ) (c : Dev nD) (b : Fin 2) (s : Fin 8192) (d : Fin 1024) :
    mulf (res_main_v245 (launchContents m c) : FVec Ideal S2x8192x1024 .f32) (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (res_main_v245 (launchContents m c)))))) (ix3 b s d)
      = layer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) b s d :=
  (result_at (launchContents m c) b s d).trans rfl

end Cert.ConvReference

end
-- ==== Proof.TopSelect.lean ====
/- Choosing the largest entries of a row of extended reals, ties to the lower position: the positions in the order a
   stable sort by "greater" leaves them, and what repeated "take the first maximum out" picks. -/
module

public import Idealize.ShloMosaic.Lib.SortFacts
public import Idealize.ShloMosaic.PureOps.Ideal
public import Idealize.ShloMosaic.Lib.Pointwise

@[expose] public section

noncomputable section

namespace Cert.TopSelect

open Idealize.ShloMosaic

variable {n : Nat}

/-- The stable-sort relation: greater entries first, equal entries by position. -/
def ahead (s : Fin n → EReal) (i j : Fin n) : Prop := s j < s i ∨ (s i = s j ∧ i < j)

instance (s : Fin n → EReal) (i j : Fin n) : Decidable (ahead s i j) := Classical.propDecidable _

/-- The positions as a stable sort by "greater" lists them. -/
def order (s : Fin n → EReal) : Fin n → Fin n :=
  sortedFrom fun k k' => FloatOps.cmpfTotal (F := Ideal) (φ := .f32) .gt (s k) (s k') == 1#1

/-- The comparison "greater" answers one exactly when its first operand is the larger. -/
theorem greater_iff (x y : EReal) :
    (FloatOps.cmpfTotal (F := Ideal) (φ := .f32) .gt x y == 1#1) = decide (y < x) := by
  show (BitVec.ofBool (decide (y < x)) == 1#1) = _
  by_cases h : y < x <;> simp [h]

/-- Members of a stably sorted list are the members of the list. -/
theorem mem_stableSort {ι : Type} (R : ι → ι → Bool) (l : List ι) (a : ι) : a ∈ stableSort R l ↔ a ∈ l :=
  (perm_stableSort R l).mem_iff

/-- On positions listed in increasing order, sorting by "greater" alone and sorting by the strict relation that also
    compares positions give the same list. -/
theorem stableSort_ahead (s : Fin n → EReal) (l : List (Fin n)) (hl : l.Pairwise (· < ·)) :
    stableSort (fun k k' => decide (s k' < s k)) l = stableSort (fun k k' => decide (ahead s k k')) l := by
  induction l with
  | nil => rfl
  | cons a l ih =>
    rw [List.pairwise_cons] at hl
    unfold stableSort
    rw [ih hl.2]
    refine insertBefore_congr _ _ a _ fun b hb => ?_
    have hab : a < b := hl.1 b ((mem_stableSort _ l b).mp hb)
    by_cases h : s a < s b
    · simp [h, ahead]
    · simp [h, ahead, not_lt.mpr hab.le]

/-- `order` is the sort by the strict relation. -/
theorem order_eq (s : Fin n → EReal) : order s = sortedFrom fun k k' => decide (ahead s k k') := by
  funext k
  have h : sortPositions n (fun k k' => FloatOps.cmpfTotal (F := Ideal) (φ := .f32) .gt (s k) (s k') == 1#1)
      = sortPositions n fun k k' => decide (ahead s k k') := by
    unfold sortPositions
    rw [← stableSort_ahead s _ (List.pairwise_lt_finRange n)]
    congr 1
    funext a b
    exact greater_iff _ _
  unfold order sortedFrom
  rw [List.get_of_eq h]
  rfl

/-- Of two different positions one is ahead of the other. -/
theorem ahead_total (s : Fin n → EReal) {i j : Fin n} (h : i ≠ j) : ahead s i j ∨ ahead s j i := by
  unfold ahead
  rcases lt_trichotomy (s i) (s j) with h1 | h1 | h1
  · exact Or.inr (Or.inl h1)
  · rcases lt_or_gt_of_ne h with h2 | h2
    · exact Or.inl (Or.inr ⟨h1, h2⟩)
    · exact Or.inr (Or.inr ⟨h1.symm, h2⟩)
  · exact Or.inl (Or.inl h1)

/-- Being ahead is one-way. -/
theorem ahead_asymm (s : Fin n → EReal) {i j : Fin n} (h : ahead s i j) : ¬ ahead s j i := by
  unfold ahead at *
  rintro (h1 | ⟨h1, h2⟩) <;> rcases h with h3 | ⟨h3, h4⟩
  · exact absurd h1 (not_lt.mpr h3.le)
  · exact absurd h3 (ne_of_lt h1)
  · exact absurd h1 (ne_of_lt h3)
  · exact absurd h2 (not_lt.mpr h4.le)

/-- Being ahead carries over. -/
theorem ahead_trans (s : Fin n → EReal) {i j k : Fin n} (h : ahead s i j) (h' : ahead s j k) : ahead s i k := by
  unfold ahead at *
  rcases h with h | ⟨h, g⟩ <;> rcases h' with h' | ⟨h', g'⟩
  · exact Or.inl (h'.trans h)
  · exact Or.inl (h' ▸ h)
  · exact Or.inl (h ▸ h')
  · exact Or.inr ⟨h.trans h', g.trans g'⟩

/-- Earlier in the sorted order means ahead. -/
theorem order_ahead (s : Fin n → EReal) {a b : Fin n} (h : a < b) : ahead s (order s a) (order s b) := by
  have hne : order s a ≠ order s b := fun he => absurd (sortedFrom_injective _ he) (ne_of_lt h)
  refine (ahead_total s hne).resolve_right fun hba => ?_
  rw [order_eq] at hba
  have := sortedFrom_noInversion (fun k k' => decide (ahead s k k')) (fun k k' => decide (ahead s k k'))
    (fun a b hab => by
      have := ahead_asymm s (of_decide_eq_true hab)
      simpa using this)
    (fun a b hab => hab)
    (fun a b c hab hbc => by
      have hab' : ¬ ahead s a b := of_decide_eq_false hab
      have hbc' : ¬ ahead s b c := of_decide_eq_false hbc
      refine decide_eq_false fun hac => ?_
      by_cases e1 : a = b
      · exact hbc' (e1 ▸ hac)
      · have h1 := (ahead_total s e1).resolve_left hab'
        exact hbc' (ahead_trans s h1 hac)) a b h
  exact absurd hba (of_decide_eq_false this)

/-- The position `i` is among the first `r` of the sorted order. -/
def picked (s : Fin n → EReal) (r : Nat) (i : Fin n) : Prop := ∃ a : Fin n, a.val < r ∧ order s a = i

instance (s : Fin n → EReal) (r : Nat) (i : Fin n) : Decidable (picked s r i) := Classical.propDecidable _

/-- The row with the first `r` positions of the sorted order taken out. -/
def rest (s : Fin n → EReal) (r : Nat) (i : Fin n) : EReal := if picked s r i then ⊥ else s i

/-- Before any round nothing is picked. -/
theorem not_picked_zero (s : Fin n → EReal) (i : Fin n) : ¬ picked s 0 i := fun ⟨_, h, _⟩ => absurd h (Nat.not_lt_zero _)

/-- A round picks the next position of the sorted order. -/
theorem picked_succ (s : Fin n → EReal) {r : Nat} (hr : r < n) (i : Fin n) :
    picked s (r + 1) i ↔ picked s r i ∨ i = order s ⟨r, hr⟩ := by
  constructor
  · rintro ⟨a, ha, he⟩
    by_cases h : a.val < r
    · exact Or.inl ⟨a, h, he⟩
    · refine Or.inr ?_
      have : a = ⟨r, hr⟩ := Fin.ext (by simp only; omega)
      rw [← he, this]
  · rintro (⟨a, ha, he⟩ | h)
    · exact ⟨a, by omega, he⟩
    · exact ⟨⟨r, hr⟩, Nat.lt_succ_self r, h.symm⟩

/-- The next position is not yet picked. -/
theorem next_not_picked (s : Fin n → EReal) {r : Nat} (hr : r < n) : ¬ picked s r (order s ⟨r, hr⟩) := by
  rintro ⟨a, ha, he⟩
  have := sortedFrom_injective _ he
  subst this
  exact absurd ha (lt_irrefl _)

/-- A position that is neither picked nor next has the next one ahead of it. -/
theorem next_ahead (s : Fin n → EReal) {r : Nat} (hr : r < n) {i : Fin n} (h : ¬ picked s r i)
    (hi : i ≠ order s ⟨r, hr⟩) : ahead s (order s ⟨r, hr⟩) i := by
  obtain ⟨a, rfl⟩ := sortedFrom_surjective (fun k k' => FloatOps.cmpfTotal (F := Ideal) (φ := .f32) .gt (s k) (s k') == 1#1) i
  have ha : ¬ a.val < r := fun h' => h ⟨a, h', rfl⟩
  have hne : a ≠ ⟨r, hr⟩ := fun h' => hi (by subst h'; rfl)
  refine order_ahead s (?_ : (⟨r, hr⟩ : Fin n) < a)
  rw [Fin.lt_def]
  have : a.val ≠ r := fun h' => hne (Fin.ext h')
  simp only
  omega

/-- The maximum of what is left is the next position's entry. -/
theorem max_rest (s : Fin n → EReal) {r : Nat} (hr : r < n) :
    Finset.univ.fold max ⊥ (rest s r) = s (order s ⟨r, hr⟩) := by
  apply le_antisymm
  · rw [Finset.fold_max_le]
    refine ⟨bot_le, fun i _ => ?_⟩
    unfold rest
    split
    · exact bot_le
    · rename_i h
      by_cases hi : i = order s ⟨r, hr⟩
      · rw [hi]
      · rcases next_ahead s hr h hi with h1 | ⟨h1, _⟩
        · exact h1.le
        · exact h1.symm.le
  · rw [Finset.le_fold_max]
    refine Or.inr ⟨order s ⟨r, hr⟩, Finset.mem_univ _, ?_⟩
    unfold rest
    rw [if_neg (next_not_picked s hr)]

/-- Among the positions that reach the maximum of what is left, the lowest is the next position of the sorted order. -/
theorem first_of_max (s : Fin n → EReal) (hs : ∀ i, s i ≠ ⊥) {r : Nat} (hr : r < n) (big : EReal)
    (hbig : ∀ i : Fin n, ((i.val : ℝ) : EReal) ≤ big) :
    Finset.univ.fold min ⊤ (fun i : Fin n =>
        if rest s r i = Finset.univ.fold max ⊥ (rest s r) then ((i.val : ℝ) : EReal) else big)
      = (((order s ⟨r, hr⟩).val : ℝ) : EReal) := by
  rw [max_rest s hr]
  apply le_antisymm
  · rw [Finset.fold_min_le]
    refine Or.inr ⟨order s ⟨r, hr⟩, Finset.mem_univ _, ?_⟩
    have : rest s r (order s ⟨r, hr⟩) = s (order s ⟨r, hr⟩) := by
      unfold rest; rw [if_neg (next_not_picked s hr)]
    rw [if_pos this]
  · rw [Finset.le_fold_min]
    refine ⟨le_top, fun i _ => ?_⟩
    split
    · rename_i h
      unfold rest at h
      split at h
      · exact absurd h.symm (hs _)
      · rename_i hp
        by_cases hi : i = order s ⟨r, hr⟩
        · rw [hi]
        · rcases next_ahead s hr hp hi with h1 | ⟨_, h1⟩
          · exact absurd h (ne_of_lt h1)
          · exact EReal.coe_le_coe_iff.mpr (Nat.cast_le.mpr (Fin.le_def.mp h1.le))
    · exact hbig _

end Cert.TopSelect

end
-- ==== Proof.Spec.lean ====
/- The compressed attention of one query and the block scores of one query, as plain formulas over the extended reals,
   and the equation between sums (or maxima) over the 512 compressed blocks and over four slabs of 128. -/
module

public import proofs.«01_k».proof.Proof.TopSelect
public import Idealize.ShloMosaic.Lib.Pointwise

@[expose] public section

set_option maxRecDepth 16384

noncomputable section

namespace Cert.CmpAttn

open Idealize.ShloMosaic Cert.TopSelect

/-- The mask value −1e30, as its pattern denotes it. -/
def masked : EReal := Ideal.ofBits FTy.f32 4048155338#32

/-- The small term 1e-30 of the denominator. -/
def tiny : EReal := Ideal.ofBits FTy.f32 228737632#32

/-- The bonus 1e4 of a forced block. -/
def bonus : EReal := Ideal.ofBits FTy.f32 1176256512#32

/-- Compressed block `n` ends at or before position `t`. -/
def visible (t : Nat) (n : Fin 512) : Bool := decide (16 * n.val + 31 ≤ t)

/-- The masked logit of compressed block `n`. -/
def logit (q : Fin 128 → EReal) (k : Fin 512 → Fin 128 → EReal) (t : Nat) (n : Fin 512) : EReal :=
  if visible t n then ∑ d : Fin 128, q d * k n d else masked

/-- The largest masked logit. -/
def peak (q : Fin 128 → EReal) (k : Fin 512 → Fin 128 → EReal) (t : Nat) : EReal :=
  Finset.univ.fold max ⊥ (logit q k t)

/-- The unnormalised weight of block `n`. -/
def weight (q : Fin 128 → EReal) (k : Fin 512 → Fin 128 → EReal) (t : Nat) (n : Fin 512) : EReal :=
  if visible t n then Ideal.exp (logit q k t n - peak q k t) else 0

/-- The denominator of the softmax. -/
def mass (q : Fin 128 → EReal) (k : Fin 512 → Fin 128 → EReal) (t : Nat) : EReal :=
  (∑ n : Fin 512, weight q k t n) + tiny

/-- The probability of block `n`. -/
def prob (q : Fin 128 → EReal) (k : Fin 512 → Fin 128 → EReal) (t : Nat) (n : Fin 512) : EReal :=
  Ideal.div (weight q k t n) (mass q k t)

/-- The attention's result at feature `e`. -/
def attend (q : Fin 128 → EReal) (k : Fin 512 → Fin 128 → EReal) (v : Fin 512 → EReal) (t : Nat) : EReal :=
  ∑ n : Fin 512, v n * prob q k t n

/-- Slab position `(j, r)` holds compressed block `4 r + j`. -/
def slab (j : Fin 4) (r : Fin 128) : Fin 512 := ⟨r.val * 4 + j.val, by omega⟩

/-- A selection block's importance: its four compressed blocks' probabilities summed over the heads of the group. -/
def importance (q : Fin 4 → Fin 128 → EReal) (k : Fin 512 → Fin 128 → EReal) (t : Nat) (r : Fin 128) : EReal :=
  ∑ j : Fin 4, ∑ h : Fin 4, prob (q h) k t (slab j r)

/-- The first, the query's own and the previous block are always taken. -/
def forced (t : Nat) (r : Fin 128) : Bool := decide (r.val = 0 ∨ r.val = t / 64 ∨ r.val + 1 = t / 64)

/-- A selection block's score for the query at `t`: blocks after the query's own are masked, forced ones get a bonus. -/
def score (q : Fin 4 → Fin 128 → EReal) (k : Fin 512 → Fin 128 → EReal) (t : Nat) (r : Fin 128) : EReal :=
  if t / 64 < r.val then masked else importance q k t r + (if forced t r then bonus else 0)

/-- One for a block among the sixteen best, zero for the others. -/
def chosen (q : Fin 4 → Fin 128 → EReal) (k : Fin 512 → Fin 128 → EReal) (t : Nat) (r : Fin 128) : EReal :=
  if picked (score q k t) 16 r then 1 else 0

/-- A sum over the compressed blocks is the sum over the four slabs. -/
theorem sum_slabs (f : Fin 512 → EReal) : ∑ n, f n = ∑ j : Fin 4, ∑ r : Fin 128, f (slab j r) := by
  rw [Fin.sum_univ_tiles 128 4 rfl, Finset.sum_comm]
  rfl

/-- Every compressed block stands in a slab. -/
theorem eq_slab (n : Fin 512) : n = slab ⟨n.val % 4, Nat.mod_lt _ (by decide)⟩ ⟨n.val / 4, by omega⟩ := by
  apply Fin.ext
  simp only [slab]
  omega

/-- The maximum over the compressed blocks, met slab by slab from a value that one of them reaches. -/
theorem max_slabs (f : Fin 512 → EReal) (a : EReal) (ha : ∃ n, f n = a) :
    max (max (max (max a (Finset.univ.fold max ⊥ fun r => f (slab 0 r))) (Finset.univ.fold max ⊥ fun r => f (slab 1 r)))
        (Finset.univ.fold max ⊥ fun r => f (slab 2 r))) (Finset.univ.fold max ⊥ fun r => f (slab 3 r))
      = Finset.univ.fold max ⊥ f := by
  obtain ⟨m, rfl⟩ := ha
  have hle : ∀ n, f n ≤ Finset.univ.fold max ⊥ f := fun n =>
    Finset.le_fold_max _ |>.mpr (Or.inr ⟨n, Finset.mem_univ _, le_rfl⟩)
  have hslab : ∀ j, (Finset.univ.fold max ⊥ fun r => f (slab j r)) ≤ Finset.univ.fold max ⊥ f := fun j =>
    (Finset.fold_max_le _).mpr ⟨bot_le, fun r _ => hle _⟩
  apply le_antisymm
  · exact max_le (max_le (max_le (max_le (hle m) (hslab 0)) (hslab 1)) (hslab 2)) (hslab 3)
  · refine (Finset.fold_max_le _).mpr ⟨bot_le, fun n _ => ?_⟩
    rw [eq_slab n]
    have key : ∀ j : Fin 4, ∀ r, f (slab j r) ≤ Finset.univ.fold max ⊥ fun r => f (slab j r) := fun j r =>
      Finset.le_fold_max _ |>.mpr (Or.inr ⟨r, Finset.mem_univ _, le_rfl⟩)
    generalize (⟨n.val % 4, Nat.mod_lt _ (by decide)⟩ : Fin 4) = j
    generalize (⟨n.val / 4, by omega⟩ : Fin 128) = r
    have h := key j r
    fin_cases j
    · exact h.trans (le_max_of_le_left (le_max_of_le_left (le_max_of_le_left (le_max_right _ _))))
    · exact h.trans (le_max_of_le_left (le_max_of_le_left (le_max_right _ _)))
    · exact h.trans (le_max_of_le_left (le_max_right _ _))
    · exact h.trans (le_max_right _ _)

/-- The last compressed block is never visible, so some masked logit is the mask value. -/
theorem exists_masked (q : Fin 128 → EReal) (k : Fin 512 → Fin 128 → EReal) (t : Nat) (ht : t < 8192) :
    ∃ n, logit q k t n = masked :=
  ⟨⟨511, by decide⟩, by
    unfold logit visible
    rw [if_neg]
    simp only [decide_eq_true_eq]
    omega⟩

/-- The exponential is never negative. -/
theorem exp_nonneg (x : EReal) : 0 ≤ Ideal.exp x := by
  induction x with
  | bot => exact le_rfl
  | top => exact le_top
  | coe r => exact EReal.coe_nonneg.mpr (Real.exp_pos r).le

/-- A weight is never negative. -/
theorem weight_nonneg (q : Fin 128 → EReal) (k : Fin 512 → Fin 128 → EReal) (t : Nat) (n : Fin 512) :
    0 ≤ weight q k t n := by
  unfold weight
  split
  · exact exp_nonneg _
  · exact le_rfl

/-- The small term is positive. -/
theorem tiny_pos : 0 < tiny := by
  simp [tiny, Ideal.ofBits, Ideal.ieee, -EReal.coe_mul]

/-- The denominator is positive. -/
theorem mass_pos (q : Fin 128 → EReal) (k : Fin 512 → Fin 128 → EReal) (t : Nat) : 0 < mass q k t :=
  lt_of_lt_of_le tiny_pos (le_add_of_nonneg_left (Finset.sum_nonneg fun n _ => weight_nonneg q k t n))

/-- A probability is never negative. -/
theorem prob_nonneg (q : Fin 128 → EReal) (k : Fin 512 → Fin 128 → EReal) (t : Nat) (n : Fin 512) :
    0 ≤ prob q k t n := by
  unfold prob Ideal.div
  rw [if_neg (mass_pos q k t).ne']
  exact mul_nonneg (weight_nonneg q k t n) (EReal.inv_nonneg_of_nonneg (mass_pos q k t).le)

/-- The mask value is finite. -/
theorem masked_ne_bot : masked ≠ ⊥ := by
  simp [masked, Ideal.ofBits, Ideal.ieee, -EReal.coe_mul]

/-- The bonus is not negative. -/
theorem bonus_nonneg : 0 ≤ bonus := by
  simp [bonus, Ideal.ofBits, Ideal.ieee, -EReal.coe_mul]

/-- No score is minus infinity, so that an entry taken out is never taken again. -/
theorem score_ne_bot (q : Fin 4 → Fin 128 → EReal) (k : Fin 512 → Fin 128 → EReal) (t : Nat) (r : Fin 128) :
    score q k t r ≠ ⊥ := by
  unfold score
  split
  · exact masked_ne_bot
  · have h1 : 0 ≤ importance q k t r :=
      Finset.sum_nonneg fun j _ => Finset.sum_nonneg fun h _ => prob_nonneg (q h) k t _
    have h2 : (0 : EReal) ≤ if forced t r then bonus else 0 := by
      split
      · exact bonus_nonneg
      · exact le_rfl
    exact (lt_of_lt_of_le EReal.bot_lt_zero (add_nonneg h1 h2)).ne'

end Cert.CmpAttn

end
-- ==== Proof.Rounds.lean ====
/- The kernel's block selection: sixteen rounds that each take the first maximum of a column out and mark it. Read at an
   index, the marks are the sixteen largest entries of the column, ties to the lower row. -/
module

public import proofs.«01_k».proof.Proof.Gen.KernelIdeal.Value
public import proofs.«01_k».proof.Proof.TopSelect
public import proofs.«01_k».proof.Proof.Words
public import Idealize.ShloMosaic.Lib.Pipeline.ValueKit
public import Idealize.ShloMosaic.Lib.Pointwise

@[expose] public section

set_option maxRecDepth 16384

noncomputable section

namespace Cert.CmpAttn

open Cert.KernelIdeal Cert.KernelIdeal.Gen Idealize.ShloMosaic Idealize.ShloMosaic.TcCoe
open Cert.TopSelect

/-- The pattern of 128. -/
theorem ofBits_128 : Ideal.ofBits FTy.f32 1124073472#32 = ((128 : ℝ) : EReal) := by
  simp [Ideal.ofBits, Ideal.ieee, -EReal.coe_mul]
  norm_num

/-- One round's mask: the first row of each column that holds the column's maximum. -/
def pick (rows : FVec Ideal S128x1 .f32) (v : FVec Ideal S128x128 .f32) : IVec S128x128 1 := k0_pay56 rows v

/-- The scores with the picked entries replaced by minus infinity. -/
def drop (rows : FVec Ideal S128x1 .f32) (v : FVec Ideal S128x128 .f32) : FVec Ideal S128x128 .f32 := k0_pay57 rows v

/-- The marks with the picked entries set to one. -/
def mark (rows : FVec Ideal S128x1 .f32) (v w : FVec Ideal S128x128 .f32) : FVec Ideal S128x128 .f32 :=
  select (pick rows v) (broadcast S128x128 (Scalar.ofBits .f32 0x3F800000#32)) w

/-- The scores after `r` rounds. -/
def scores (rows : FVec Ideal S128x1 .f32) (v : FVec Ideal S128x128 .f32) : Nat → FVec Ideal S128x128 .f32
  | 0 => v
  | r + 1 => drop rows (scores rows v r)

/-- The marks after `r` rounds. -/
def marks (rows : FVec Ideal S128x1 .f32) (v : FVec Ideal S128x128 .f32) : Nat → FVec Ideal S128x128 .f32
  | 0 => broadcast S128x128 (Scalar.ofBits .f32 0x00000000#32)
  | r + 1 => mark rows (scores rows v r) (marks rows v r)

/-- A round's mask at an index. -/
theorem pick_at (rows : FVec Ideal S128x1 .f32) (v : FVec Ideal S128x128 .f32)
    (hrows : ∀ r : Fin 128, rows (ix2 r 0) = ((r.val : ℝ) : EReal)) (i l : Fin 128) :
    pick rows v (ix2 i l) = BitVec.ofBool (decide (((i.val : ℝ) : EReal) =
      Finset.univ.fold min ⊤ (fun x : Fin 128 =>
        if v (ix2 x l) = Finset.univ.fold max ⊥ (fun y : Fin 128 => v (ix2 y l)) then ((x.val : ℝ) : EReal)
        else ((128 : ℝ) : EReal)))) := by
  pointwise [pick, k0_pay56]
  simp only [hrows, ofBits_neg_inf, ofBits_pos_inf, ofBits_128]

/-- After `r` rounds a column holds what is left of it, and the marks are the first `r` of its sorted order. -/
theorem rounds_at (rows : FVec Ideal S128x1 .f32) (v : FVec Ideal S128x128 .f32)
    (hrows : ∀ r : Fin 128, rows (ix2 r 0) = ((r.val : ℝ) : EReal)) (l : Fin 128)
    (hv : ∀ i : Fin 128, v (ix2 i l) ≠ ⊥) (r : Nat) (hr : r ≤ 128) (i : Fin 128) :
    scores rows v r (ix2 i l) = rest (fun x : Fin 128 => v (ix2 x l)) r i
      ∧ marks rows v r (ix2 i l) = if picked (fun x : Fin 128 => v (ix2 x l)) r i then 1 else 0 := by
  induction r generalizing i with
  | zero =>
    constructor
    · simp only [scores, rest, if_neg (not_picked_zero _ i)]
    · rw [if_neg (not_picked_zero _ i)]
      pointwise [marks]
  | succ r ih =>
    have hr' : r < 128 := by omega
    have ih' := ih (by omega)
    have hpick : pick rows (scores rows v r) (ix2 i l)
        = BitVec.ofBool (decide (i = order (fun x : Fin 128 => v (ix2 x l)) ⟨r, hr'⟩)) := by
      rw [pick_at rows _ hrows]
      have e : (fun y : Fin 128 => scores rows v r (ix2 y l)) = rest (fun x : Fin 128 => v (ix2 x l)) r :=
        funext fun y => (ih' y).1
      have e2 := first_of_max (fun x : Fin 128 => v (ix2 x l)) hv hr' ((128 : ℝ) : EReal) (fun x => by
        exact EReal.coe_le_coe_iff.mpr (by exact_mod_cast x.isLt.le))
      rw [e]
      simp only [fun y => (ih' y).1]
      rw [e2]
      congr 2
      rw [EReal.coe_eq_coe_iff, Nat.cast_inj, Fin.ext_iff]
    have hs : scores rows v (r + 1) (ix2 i l)
        = Scalar.select (pick rows (scores rows v r) (ix2 i l)) ⊥ (scores rows v r (ix2 i l)) := by
      show drop rows (scores rows v r) (ix2 i l) = _
      unfold drop k0_pay57
      show Scalar.select (pick rows (scores rows v r) (ix2 i l)) (Ideal.ofBits FTy.f32 4286578688#32) _ = _
      rw [ofBits_neg_inf]
    have hm : marks rows v (r + 1) (ix2 i l)
        = Scalar.select (pick rows (scores rows v r) (ix2 i l)) 1 (marks rows v r (ix2 i l)) := by
      show mark rows (scores rows v r) (marks rows v r) (ix2 i l) = _
      unfold mark
      show Scalar.select (pick rows (scores rows v r) (ix2 i l)) (Ideal.ofBits FTy.f32 0x3F800000#32) _ = _
      rw [Ideal.ofBits_one_f32]
    rw [hs, hm, hpick, (ih' i).1, (ih' i).2]
    by_cases h : i = order (fun x : Fin 128 => v (ix2 x l)) ⟨r, hr'⟩
    · have hp : picked (fun x : Fin 128 => v (ix2 x l)) (r + 1) i := (picked_succ _ hr' i).mpr (Or.inr h)
      rw [decide_eq_true h, if_pos hp]
      unfold rest
      rw [if_pos hp]
      exact ⟨rfl, rfl⟩
    · have hp : picked (fun x : Fin 128 => v (ix2 x l)) (r + 1) i ↔ picked (fun x : Fin 128 => v (ix2 x l)) r i :=
        (picked_succ _ hr' i).trans (or_iff_left h)
      rw [decide_eq_false h]
      unfold rest
      simp only [hp]
      exact ⟨rfl, rfl⟩

variable (i : grid0.Coords) (x0 : Vec Ideal S1x1x1x128x512 .bf16) (x1 x2 : Vec Ideal S1x1x512x128 .f32)

/-- The scores that the rounds start from. -/
def startScore : FVec Ideal S128x128 .f32 :=
  k0_pay42 (k0_pay101 i x0 x1 x2) (k0_pay103 i x0 x1 x2) (k0_pay104 i x0 x1 x2) (Scalar.ofBits .f32 0x461C4000#32)

/-- The scores after two rounds, as the body names them. -/
theorem pay105_eq : k0_pay105 i x0 x1 x2 = scores (k0_pay102 i x0 x1 x2) (startScore i x0 x1 x2) 2 := rfl

/-- The scores after five rounds. -/
theorem pay107_eq : k0_pay107 i x0 x1 x2 = scores (k0_pay102 i x0 x1 x2) (startScore i x0 x1 x2) 5 := by
  unfold k0_pay107 k0_pay106
  show _ = drop _ (drop _ (drop _ (scores _ _ 2)))
  rw [← pay105_eq]
  rfl

/-- The scores after seven rounds. -/
theorem pay108_eq : k0_pay108 i x0 x1 x2 = scores (k0_pay102 i x0 x1 x2) (startScore i x0 x1 x2) 7 := by
  unfold k0_pay108
  rw [pay107_eq]
  rfl

/-- The eighth round's mask. -/
theorem pay109_eq : k0_pay109 i x0 x1 x2
    = pick (k0_pay102 i x0 x1 x2) (scores (k0_pay102 i x0 x1 x2) (startScore i x0 x1 x2) 7) := by
  unfold k0_pay109
  rw [pay107_eq]
  rfl

/-- The scores after ten rounds. -/
theorem pay110_eq : k0_pay110 i x0 x1 x2 = scores (k0_pay102 i x0 x1 x2) (startScore i x0 x1 x2) 10 := by
  unfold k0_pay110
  rw [pay108_eq, pay109_eq]
  rfl

/-- The candidates of the eleventh round. -/
theorem pay111_eq : k0_pay111 i x0 x1 x2
    = k0_pay68 (k0_pay102 i x0 x1 x2) (scores (k0_pay102 i x0 x1 x2) (startScore i x0 x1 x2) 7)
        (pick (k0_pay102 i x0 x1 x2) (scores (k0_pay102 i x0 x1 x2) (startScore i x0 x1 x2) 7)) := by
  unfold k0_pay111
  rw [pay108_eq, pay109_eq]

/-- The body's marks are the marks after sixteen rounds. -/
theorem pay112_eq : k0_pay112 i x0 x1 x2 = marks (k0_pay102 i x0 x1 x2) (startScore i x0 x1 x2) 16 := by
  unfold k0_pay112 k0_pay106
  rw [pay111_eq, pay110_eq, pay109_eq, pay108_eq, pay107_eq, pay105_eq]
  rfl

end Cert.CmpAttn

end
-- ==== Proof.Block.lean ====
/- One grid point's body read at an index: what each named value of the compressed-attention block holds, as the plain
   formulas of Spec over the point's query, key and value blocks. -/
module

public import proofs.«01_k».proof.Proof.Gen.KernelIdeal.Value
public import proofs.«01_k».proof.Proof.Spec
public import proofs.«01_k».proof.Proof.Rounds

@[expose] public section

set_option maxRecDepth 16384

noncomputable section

namespace Cert.CmpAttn

open Cert.KernelIdeal Cert.KernelIdeal.Gen Idealize.ShloMosaic Idealize.ShloMosaic.TcCoe
open Cert.TopSelect

/-- The word of a column's query within its tile: the column modulo 128. -/
theorem column_word : ∀ l : Fin 512,
    Scalar.select
      (IntOp.andi
        (IntOp.xori
          (IntOp.cmpi CmpIPredicate.slt
            (IntOp.remsi ArithUnit.vector (BitVec.ofNat 32 l.val)
              (Scalar.select (Scalar.cmpi CmpIPredicate.eq 128#32 0#32) 1#32 128#32)) 0#32)
          (Scalar.cmpi CmpIPredicate.slt (Scalar.select (Scalar.cmpi CmpIPredicate.eq 128#32 0#32) 1#32 128#32) 0#32))
        (IntOp.cmpi CmpIPredicate.ne
          (IntOp.remsi ArithUnit.vector (BitVec.ofNat 32 l.val)
            (Scalar.select (Scalar.cmpi CmpIPredicate.eq 128#32 0#32) 1#32 128#32)) 0#32))
      (IntOp.addi
        (IntOp.remsi ArithUnit.vector (BitVec.ofNat 32 l.val)
          (Scalar.select (Scalar.cmpi CmpIPredicate.eq 128#32 0#32) 1#32 128#32))
        (Scalar.select (Scalar.cmpi CmpIPredicate.eq 128#32 0#32) 1#32 128#32))
      (IntOp.remsi ArithUnit.vector (BitVec.ofNat 32 l.val)
        (Scalar.select (Scalar.cmpi CmpIPredicate.eq 128#32 0#32) 1#32 128#32))
    = BitVec.ofNat 32 (l.val % 128) := by decide +kernel

/-- A position's block number, as words compute the floor division by 64. -/
theorem block_word : ∀ t : Fin 8192,
    Scalar.select
      (IntOp.andi
        (IntOp.cmpi CmpIPredicate.ne
          (IntOp.subi (BitVec.setWidth 32 (IntOp.cmpi CmpIPredicate.sgt (BitVec.ofNat 32 t.val) 0#32))
            (BitVec.setWidth 32 (IntOp.cmpi CmpIPredicate.slt (BitVec.ofNat 32 t.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 t.val) 64#32) 0#32))
      (IntOp.subi (IntOp.divsi ArithUnit.vector (BitVec.ofNat 32 t.val) 64#32) 1#32)
      (IntOp.divsi ArithUnit.vector (BitVec.ofNat 32 t.val) 64#32)
    = BitVec.ofNat 32 (t.val / 64) := by decide +kernel

/-- A block's tile of keys, as words compute the floor division by 4. -/
theorem tile_word : ∀ r : Fin 128,
    Scalar.select
      (IntOp.andi
        (IntOp.cmpi CmpIPredicate.ne
          (IntOp.subi (BitVec.setWidth 32 (IntOp.cmpi CmpIPredicate.sgt (BitVec.ofNat 32 r.val) 0#32))
            (BitVec.setWidth 32 (IntOp.cmpi CmpIPredicate.slt (BitVec.ofNat 32 r.val) 0#32)))
          (Scalar.subi (Scalar.extui (Scalar.cmpi CmpIPredicate.sgt 4#32 0#32))
            (Scalar.extui (Scalar.cmpi CmpIPredicate.slt 4#32 0#32))))
        (IntOp.cmpi CmpIPredicate.ne (IntOp.remsi ArithUnit.vector (BitVec.ofNat 32 r.val) 4#32) 0#32))
      (IntOp.subi (IntOp.divsi ArithUnit.vector (BitVec.ofNat 32 r.val) 4#32) 1#32)
      (IntOp.divsi ArithUnit.vector (BitVec.ofNat 32 r.val) 4#32)
    = BitVec.ofNat 32 (r.val / 4) := by decide +kernel

section Point

variable (i : grid0.Coords) (x0 : Vec Ideal S1x1x1x128x512 .bf16) (x1 x2 : Vec Ideal S1x1x512x128 .f32)

/-- The position in the prompt of the query in column `l`. -/
def time (l : Fin 512) : Nat := 128 * (i 2).val + l.val % 128

/-- The query of column `l`. -/
def qcol (l : Fin 512) (d : Fin 128) : EReal := x0 (ix5 0 0 0 d l)

/-- Compressed block `n`'s row `d` of a slab-ordered block. -/
def krow (x : Vec Ideal S1x1x512x128 .f32) (n : Fin 512) (d : Fin 128) : EReal :=
  x (ix4 0 0 ⟨128 * (n.val % 4) + n.val / 4, by omega⟩ d)

/-- Slab position `(j, r)` is row `128 j + r`. -/
theorem krow_slab (x : Vec Ideal S1x1x512x128 .f32) (j : Fin 4) (r d : Fin 128) :
    krow x (slab j r) d = x (ix4 0 0 ⟨128 * j.val + r.val, by omega⟩ d) := by
  unfold krow slab
  congr 2
  apply Fin.ext
  simp only
  omega

/-- Grid axis 2 has 64 points. -/
theorem axis2_lt : (i 2).val < 64 := (i 2).isLt

/-- A query's position is within the prompt. -/
theorem time_lt (l : Fin 512) : time i l < 8192 := by
  have := axis2_lt i
  unfold time
  omega

/-- The row numbers. -/
theorem rows_at (r : Fin 128) : k0_pay80 i x0 x1 x2 (ix2 r 0) = BitVec.ofNat 32 r.val := by
  pointwise [k0_pay80]

/-- The columns' positions. -/
theorem times_at (l : Fin 512) : k0_pay82 i x0 x1 x2 (ix2 0 l) = BitVec.ofNat 32 (time i l) := by
  pointwise [k0_pay82, k0_pay3]
  rw [column_word]
  show BitVec.ofNat 32 (i 2).val * BitVec.ofNat 32 128 + BitVec.ofNat 32 (l.val % 128) = _
  rw [← BitVec.ofNat_mul, ← BitVec.ofNat_add, Nat.mul_comm]
  rfl

/-- The block-end test at slab position `(c, r)` in word arithmetic. -/
theorem visible_words (j : Fin 4) (c : Nat) (hc : c = 16 * j.val + 31) (r : Fin 128) (l : Fin 512) :
    IntOp.cmpi .sle (IntOp.addi (IntOp.muli 64#32 (BitVec.ofNat 32 r.val)) (BitVec.ofNat 32 c)) (BitVec.ofNat 32 (time i l))
      = BitVec.ofBool (visible (time i l) (slab j r)) := by
  have ht := time_lt i l
  show IntOp.cmpi .sle (BitVec.ofNat 32 64 * BitVec.ofNat 32 r.val + BitVec.ofNat 32 c) _ = _
  rw [← BitVec.ofNat_mul, ← BitVec.ofNat_add, sle_words (by omega) (by omega)]
  unfold visible slab
  congr 2
  apply propext
  simp only
  omega

/-- Slab 0's visibility. -/
theorem valid0_at (r : Fin 128) (l : Fin 512) :
    k0_pay83 i x0 x1 x2 (ix2 r l) = BitVec.ofBool (visible (time i l) (slab 0 r)) := by
  rw [← visible_words i 0 31 rfl, ← times_at i x0 x1 x2]
  pointwise [k0_pay83, k0_pay5, k0_pay82]

/-- Slab 1's visibility. -/
theorem valid1_at (r : Fin 128) (l : Fin 512) :
    k0_pay87 i x0 x1 x2 (ix2 r l) = BitVec.ofBool (visible (time i l) (slab 1 r)) := by
  rw [← visible_words i 1 47 rfl, ← times_at i x0 x1 x2, ← rows_at i x0 x1 x2]
  pointwise [k0_pay87, k0_pay9]

/-- Slab 2's visibility. -/
theorem valid2_at (r : Fin 128) (l : Fin 512) :
    k0_pay89 i x0 x1 x2 (ix2 r l) = BitVec.ofBool (visible (time i l) (slab 2 r)) := by
  rw [← visible_words i 2 63 rfl, ← times_at i x0 x1 x2, ← rows_at i x0 x1 x2]
  pointwise [k0_pay89, k0_pay11]

/-- Slab 3's visibility. -/
theorem valid3_at (r : Fin 128) (l : Fin 512) :
    k0_pay14 (k0_pay82 i x0 x1 x2) (k0_pay80 i x0 x1 x2) (ix2 r l) = BitVec.ofBool (visible (time i l) (slab 3 r)) := by
  rw [← visible_words i 3 79 rfl, ← times_at i x0 x1 x2, ← rows_at i x0 x1 x2]
  pointwise [k0_pay14]

/-- Slab 0's logits. -/
theorem logit0_at (r : Fin 128) (l : Fin 512) :
    k0_pay86 i x0 x1 x2 (ix2 r l)
      = logit (qcol x0 l) (krow x1) (time i l) (slab 0 r) := by
  unfold logit
  rw [← select_logit, ← valid0_at i x0 x1 x2]
  simp only [krow_slab, mul_comm (qcol x0 l _)]
  pointwise [k0_pay86, k0_pay8, k0_pay84, k0_pay6, k0_pay2, k0_pay85, k0_pay7, qcol, r0_0, r0_1]
  simp only [masked, Fin.val_zero, Nat.mul_zero, Nat.zero_add]

/-- Slab 1's logits. -/
theorem logit1_at (r : Fin 128) (l : Fin 512) :
    k0_pay88 i x0 x1 x2 (ix2 r l)
      = logit (qcol x0 l) (krow x1) (time i l) (slab 1 r) := by
  unfold logit
  rw [← select_logit, ← valid1_at i x0 x1 x2]
  simp only [krow_slab, mul_comm (qcol x0 l _)]
  pointwise [k0_pay88, k0_pay10, k0_pay81, k0_pay2, k0_pay87, qcol, r0_0, r0_2]
  rfl

/-- Slab 2's logits. -/
theorem logit2_at (r : Fin 128) (l : Fin 512) :
    k0_pay90 i x0 x1 x2 (ix2 r l)
      = logit (qcol x0 l) (krow x1) (time i l) (slab 2 r) := by
  unfold logit
  rw [← select_logit, ← valid2_at i x0 x1 x2]
  simp only [krow_slab, mul_comm (qcol x0 l _)]
  pointwise [k0_pay90, k0_pay12, k0_pay81, k0_pay2, k0_pay89, qcol, r0_0, r0_3]
  rfl

/-- Slab 3's logits. -/
theorem logit3_at (r : Fin 128) (l : Fin 512) :
    k0_pay15 (k0_pay81 i x0 x1 x2) (k0_pay82 i x0 x1 x2) (k0_pay80 i x0 x1 x2) (View.ld x1 r0_4) (ix2 r l)
      = logit (qcol x0 l) (krow x1) (time i l) (slab 3 r) := by
  unfold logit
  rw [← select_logit, ← valid3_at i x0 x1 x2]
  simp only [krow_slab, mul_comm (qcol x0 l _)]
  pointwise [k0_pay15, k0_pay81, k0_pay2, qcol, r0_0, r0_4]
  rfl

/-- The running maximum over the four slabs is the largest masked logit. -/
theorem peak_at (l : Fin 512) :
    k0_pay16 (k0_pay81 i x0 x1 x2) (k0_pay82 i x0 x1 x2) (k0_pay80 i x0 x1 x2) (k0_pay91 i x0 x1 x2) (View.ld x1 r0_4)
      (ix2 0 l) = peak (qcol x0 l) (krow x1) (time i l) := by
  unfold peak
  rw [← max_slabs _ _ (exists_masked (qcol x0 l) (krow x1) _ (time_lt i l))]
  simp only [← logit0_at i x0 x1 x2, ← logit1_at i x0 x1 x2, ← logit2_at i x0 x1 x2, ← logit3_at i x0 x1 x2]
  pointwise [k0_pay16, k0_pay91, k0_pay13, k0_pay4, k0_pay86, k0_pay88, k0_pay90]
  rw [ofBits_neg_inf]
  rfl

/-- Slab 0's weights. -/
theorem weight0_at (r : Fin 128) (l : Fin 512) :
    k0_pay92 i x0 x1 x2 (ix2 r l) = weight (qcol x0 l) (krow x1) (time i l) (slab 0 r) := by
  unfold weight
  rw [← select_weight, ← valid0_at i x0 x1 x2, ← logit0_at i x0 x1 x2, ← peak_at i x0 x1 x2]
  pointwise [k0_pay92, k0_pay17]

/-- Slab 1's weights. -/
theorem weight1_at (r : Fin 128) (l : Fin 512) :
    k0_pay93 i x0 x1 x2 (ix2 r l) = weight (qcol x0 l) (krow x1) (time i l) (slab 1 r) := by
  unfold weight
  rw [← select_weight, ← valid1_at i x0 x1 x2, ← logit1_at i x0 x1 x2, ← peak_at i x0 x1 x2]
  pointwise [k0_pay93, k0_pay18]

/-- Slab 2's weights. -/
theorem weight2_at (r : Fin 128) (l : Fin 512) :
    k0_pay94 i x0 x1 x2 (ix2 r l) = weight (qcol x0 l) (krow x1) (time i l) (slab 2 r) := by
  unfold weight
  rw [← select_weight, ← valid2_at i x0 x1 x2, ← logit2_at i x0 x1 x2, ← peak_at i x0 x1 x2]
  pointwise [k0_pay94, k0_pay19]

/-- Slab 3's weights. -/
theorem weight3_at (r : Fin 128) (l : Fin 512) :
    k0_pay95 i x0 x1 x2 (ix2 r l) = weight (qcol x0 l) (krow x1) (time i l) (slab 3 r) := by
  unfold weight
  rw [← select_weight, ← valid3_at i x0 x1 x2, ← logit3_at i x0 x1 x2, ← peak_at i x0 x1 x2]
  pointwise [k0_pay95, k0_pay20]

/-- The denominator. -/
theorem mass_at (l : Fin 512) :
    k0_pay98 i x0 x1 x2 (ix2 0 l) = mass (qcol x0 l) (krow x1) (time i l) := by
  unfold mass
  rw [sum_slabs, Fin.sum_univ_four]
  simp only [← weight0_at i x0 x1 x2, ← weight1_at i x0 x1 x2, ← weight2_at i x0 x1 x2, ← weight3_at i x0 x1 x2]
  pointwise [k0_pay98, k0_pay23, k0_pay96, k0_pay97, k0_pay21, k0_pay22, k0_pay92, k0_pay93, k0_pay94, k0_pay95]
  rfl

/-- Slab 0's probabilities. -/
theorem prob0_at (r : Fin 128) (l : Fin 512) :
    k0_pay24 (k0_pay92 i x0 x1 x2) (k0_pay96 i x0 x1 x2) (k0_pay97 i x0 x1 x2) (ix2 r l)
      = prob (qcol x0 l) (krow x1) (time i l) (slab 0 r) := by
  unfold prob
  rw [← weight0_at i x0 x1 x2, ← mass_at i x0 x1 x2]
  pointwise [k0_pay24, k0_pay98]

/-- Slab 1's probabilities. -/
theorem prob1_at (r : Fin 128) (l : Fin 512) :
    k0_pay25 (k0_pay93 i x0 x1 x2) (k0_pay96 i x0 x1 x2) (k0_pay97 i x0 x1 x2) (ix2 r l)
      = prob (qcol x0 l) (krow x1) (time i l) (slab 1 r) := by
  unfold prob
  rw [← weight1_at i x0 x1 x2, ← mass_at i x0 x1 x2]
  pointwise [k0_pay25, k0_pay98]

/-- Slab 2's probabilities. -/
theorem prob2_at (r : Fin 128) (l : Fin 512) :
    k0_pay29 (k0_pay94 i x0 x1 x2) (k0_pay100 i x0 x1 x2) (ix2 r l)
      = prob (qcol x0 l) (krow x1) (time i l) (slab 2 r) := by
  unfold prob
  rw [← weight2_at i x0 x1 x2, ← mass_at i x0 x1 x2]
  pointwise [k0_pay29, k0_pay100, k0_pay28, k0_pay98]

/-- Slab 3's probabilities. -/
theorem prob3_at (r : Fin 128) (l : Fin 512) :
    k0_pay30 (k0_pay95 i x0 x1 x2) (k0_pay98 i x0 x1 x2) (ix2 r l)
      = prob (qcol x0 l) (krow x1) (time i l) (slab 3 r) := by
  unfold prob
  rw [← weight3_at i x0 x1 x2, ← mass_at i x0 x1 x2]
  pointwise [k0_pay30]

/-- The column of head `h` and query `y`. -/
def col (h : Fin 4) (y : Fin 128) : Fin 512 := ⟨h.val * 128 + y.val, by omega⟩

/-- Every head's column of a query has the query's position. -/
theorem time_col (h : Fin 4) (y : Fin 128) : time i (col h y) = 128 * (i 2).val + y.val := by
  unfold time col
  simp only
  omega

/-- The accumulated products of the four slabs are the attention's result. -/
theorem accum_at (h : Fin 4) (y : Fin 128) (e : Fin 64) :
    k0_pay32 (k0_pay94 i x0 x1 x2) (k0_pay95 i x0 x1 x2) (k0_pay98 i x0 x1 x2) (k0_pay99 i x0 x1 x2) (k0_pay100 i x0 x1 x2)
      (View.ld x2 r0_3) (View.ld x2 r0_4) (ix3 h y e)
      = attend (qcol x0 (col h y)) (krow x1) (fun n => krow x2 n ⟨e.val, by omega⟩) (128 * (i 2).val + y.val) := by
  rw [← time_col i h y]
  unfold attend
  rw [sum_slabs, Fin.sum_univ_four]
  simp only [krow_slab, ← prob0_at i x0 x1 x2, ← prob1_at i x0 x1 x2, ← prob2_at i x0 x1 x2, ← prob3_at i x0 x1 x2]
  pointwise [k0_pay32, k0_pay99, k0_pay26, r0_1, r0_2, r0_3, r0_4, col]

/-- The stored block of the attention's results: head `h`'s features stand side by side. -/
theorem stored_at (y : Fin 128) (h : Fin 4) (e : Fin 64) :
    out0_3 i x0 x1 x2 (ix3 0 y ⟨h.val * 64 + e.val, by omega⟩)
      = attend (qcol x0 (col h y)) (krow x1) (fun n => krow x2 n ⟨e.val, by omega⟩) (128 * (i 2).val + y.val) := by
  rw [← accum_at i x0 x1 x2]
  frame_out
  fin_cases h <;> pointwise [k0_pay37, k0_pay33, k0_pay34, k0_pay35, k0_pay36]
  · rw [dif_neg (by omega), dif_neg (by omega), dif_pos (by omega)]
    congr 2
    exact Fin.ext (by simp only; omega)
  · rw [dif_neg (by omega), dif_neg (by omega), dif_neg (by omega)]
    congr 2
    exact Fin.ext (by simp only; omega)

/-- The importance of a selection block to a query. -/
theorem importance_at (r y : Fin 128) :
    k0_pay101 i x0 x1 x2 (ix2 r y)
      = importance (fun h => qcol x0 (col h y)) (krow x1) (128 * (i 2).val + y.val) r := by
  have e : importance (fun h => qcol x0 (col h y)) (krow x1) (128 * (i 2).val + y.val) r
      = ∑ j : Fin 4, ∑ h : Fin 4, prob (qcol x0 (col h y)) (krow x1) (time i (col h y)) (slab j r) := by
    simp only [time_col]
    rfl
  rw [e, Fin.sum_univ_four]
  simp only [Fin.sum_univ_four, ← prob0_at i x0 x1 x2, ← prob1_at i x0 x1 x2, ← prob2_at i x0 x1 x2,
    ← prob3_at i x0 x1 x2]
  pointwise [k0_pay101, k0_pay31, k0_pay27, col]

/-- The queries' block numbers. -/
theorem blocks_at (y : Fin 128) :
    k0_pay39 (k0_pay82 i x0 x1 x2) (ix2 0 y) = BitVec.ofNat 32 ((128 * (i 2).val + y.val) / 64) := by
  have hi := axis2_lt i
  have e := times_at i x0 x1 x2 (col 0 y)
  rw [time_col] at e
  rw [← block_word ⟨128 * (i 2).val + y.val, by omega⟩]
  simp only [← e]
  pointwise [k0_pay39, col]

/-- The mask of the blocks after the query's own. -/
theorem later_at (r y : Fin 128) :
    k0_pay104 i x0 x1 x2 (ix2 r y) = BitVec.ofBool (decide ((128 * (i 2).val + y.val) / 64 < r.val)) := by
  have hi := axis2_lt i
  rw [← sgt_words (by omega) (by omega), ← blocks_at i x0 x1 x2 y, ← rows_at i x0 x1 x2 r]
  pointwise [k0_pay104, k0_pay41]

/-- The mask of the forced blocks. -/
theorem forced_at (r y : Fin 128) :
    k0_pay103 i x0 x1 x2 (ix2 r y) = BitVec.ofBool (forced (128 * (i 2).val + y.val) r) := by
  have hi := axis2_lt i
  have hb := blocks_at i x0 x1 x2 y
  pointwise [k0_pay103, k0_pay40]
  rw [hb, rows_at, previous_word r ⟨(128 * (i 2).val + y.val) / 64, by omega⟩, eq_words (by omega) (by omega),
    eq_words (by omega) (by omega)]
  unfold forced
  simp only [or_bits, Bool.decide_or, Bool.or_assoc]

/-- The scores the selection starts from. -/
theorem startScore_at (r y : Fin 128) :
    startScore i x0 x1 x2 (ix2 r y) = score (fun h => qcol x0 (col h y)) (krow x1) (128 * (i 2).val + y.val) r := by
  unfold score
  rw [← importance_at i x0 x1 x2]
  have hf := forced_at i x0 x1 x2 r y
  have hl := later_at i x0 x1 x2 r y
  pointwise [startScore, k0_pay42]
  rw [hf, hl, select_logit, select_logit]
  simp only [decide_eq_true_eq]
  rfl

/-- After the sixteen rounds the marks are those of the chosen blocks. -/
theorem chosen_at (r y : Fin 128) :
    k0_pay112 i x0 x1 x2 (ix2 r y) = chosen (fun h => qcol x0 (col h y)) (krow x1) (128 * (i 2).val + y.val) r := by
  rw [pay112_eq]
  have e : (fun x => startScore i x0 x1 x2 (ix2 x y))
      = score (fun h => qcol x0 (col h y)) (krow x1) (128 * (i 2).val + y.val) :=
    funext fun x => startScore_at i x0 x1 x2 x y
  rw [(rounds_at _ _ (fun r => by pointwise [k0_pay102, k0_pay38, k0_pay80]; exact row_value r) y
    (fun x => by rw [startScore_at]; exact score_ne_bot _ _ _ _) 16 (by omega) r).2, e]
  rfl

/-- The stored selection bias: 0 for a chosen block and −2^40 for the others. -/
theorem bias_at (r y : Fin 128) :
    out0_4 i x0 x1 x2 (ix5 0 0 0 r y)
      = (chosen (fun h => qcol x0 (col h y)) (krow x1) (128 * (i 2).val + y.val) r - Ideal.ofBits .f32 0x3F800000#32)
          * Ideal.ofBits .f32 0x53800000#32 := by
  rw [← chosen_at i x0 x1 x2]
  frame_out
  pointwise [k0_pay78]

/-- The stored flags: how many of a tile's four blocks are chosen by some query. -/
theorem flags_at (a : Fin 8) (c : Fin 128) :
    out0_5 i x0 x1 x2 (ix5 0 0 0 a c)
      = ∑ r : Fin 128, if r.val / 4 = c.val then
          Finset.univ.fold max ⊥ fun y =>
            chosen (fun h => qcol x0 (col h y)) (krow x1) (128 * (i 2).val + y.val) r else 0 := by
  simp only [← chosen_at i x0 x1 x2]
  frame_out
  pointwise [k0_pay1, k0_pay79]
  refine Finset.sum_congr rfl fun r _ => ?_
  rw [tile_word r, eq_words (by omega) (by omega), select_logit, ofBits_neg_inf]
  simp only [decide_eq_true_eq]

end Point

end Cert.CmpAttn

end
-- ==== Proof.RefStages.lean ====
/- The reference's composed results in stages: one named array per step of the mathematics, and the results as those
   stages. -/
module

public import proofs.«01_k».proof.Proof.Gen.ReferenceIdeal.Run
public import Idealize.ShloMosaic.Lib.Pointwise

@[expose] public section

set_option maxRecDepth 16384

noncomputable section

namespace Cert.CmpAttn.Ref

open Cert.ReferenceIdeal Cert.ReferenceIdeal.Gen Cert.ReferenceIdeal.Value Idealize.ShloMosaic
open Idealize.ShloMosaic.TcCoe

variable (Q : Vec Ideal S2x4x64x128x512 .bf16) (K V : Vec Ideal S2x4x512x128 .f32)

/-- The queries by batch, group, head, position and feature. -/
def queries : FVec Ideal S2x4x4x8192x128 .f32 :=
  shapeCast _ (transpose S2x4x4x64x128x128 [0, 1, 4, 2, 5, 3] (shapeCast _ (extf .f32 Q bitsLt_bf16_f32) shapeCasts_S2x4x64x128x512_S2x4x64x128x4x128) transposes_S2x4x64x128x4x128_S2x4x4x64x128x128_0_1_4_2_5_3) shapeCasts_S2x4x4x64x128x128_S2x4x4x8192x128

/-- A slab-ordered array in the natural order of its compressed blocks. -/
def natural (X : Vec Ideal S2x4x512x128 .f32) : FVec Ideal S2x4x512x128 .f32 :=
  shapeCast _ (transpose S2x4x128x4x128 [0, 1, 3, 2, 4] (shapeCast _ X shapeCasts_S2x4x512x128_S2x4x4x128x128) transposes_S2x4x4x128x128_S2x4x128x4x128_0_1_3_2_4) shapeCasts_S2x4x128x4x128_S2x4x512x128

/-- The values, without the features that only pad. -/
def values : FVec Ideal S2x4x512x64 .f32 :=
  extractStridedSlice S2x4x512x64 ![0, 0, 0, 0] (natural V) slices_S2x4x512x128_S2x4x512x64_0_0_0_0

/-- Which compressed blocks end at or before which position. -/
def seen : IVec S8192x512 1 :=
  cmpi .sle (broadcastInDim S8192x512 ![0, 1] bcast_S1x512_S8192x512_0_1 (broadcastInDim S1x512 ![1] bcast_S512_S1x512_1 (addi (muli (iotaInDim S512 32 0) (broadcastInDim S512 ![] bcast_S_S512 (constantI S_ 32 16#32))) (broadcastInDim S512 ![] bcast_S_S512 (constantI S_ 32 31#32))))) (broadcastInDim S8192x512 ![0, 1] bcast_S8192x1_S8192x512_0_1 (broadcastInDim S8192x1 ![0] bcast_S8192_S8192x1_0 (iotaInDim S8192 32 0)))

/-- The visibility for every batch, group and head. -/
def seenAll : IVec S2x4x4x8192x512 1 := broadcastInDim S2x4x4x8192x512 ![3, 4] bcast_S8192x512_S2x4x4x8192x512_3_4 seen

/-- The masked logits. -/
def logits : FVec Ideal S2x4x4x8192x512 .f32 :=
  select seenAll (Host.dotGeneral dot_S2x4x4x8192x128_S2x4x512x128_S2x4x4x8192x512_4_3_23_2_01_01 none (queries Q) (natural K)) (broadcastInDim S2x4x4x8192x512 ![] bcast_S_S2x4x4x8192x512 (id (constant S_ .f32 0xF149F2CA#32)))

/-- The largest masked logit of each query. -/
def peaks : FVec Ideal S2x4x4x8192 .f32 :=
  Host.reduce FloatOps.maximumf (logits Q K) (constant S_ .f32 0xFF800000#32) reducesTo_S2x4x4x8192x512_S2x4x4x8192_d4 h_S_

/-- The weights. -/
def weights : FVec Ideal S2x4x4x8192x512 .f32 :=
  select seenAll (Host.exp (subf (logits Q K) (broadcastInDim S2x4x4x8192x512 ![0, 1, 2, 3, 4] bcast_S2x4x4x8192x1_S2x4x4x8192x512_0_1_2_3_4 (broadcastInDim S2x4x4x8192x1 ![0, 1, 2, 3] bcast_S2x4x4x8192_S2x4x4x8192x1_0_1_2_3 (peaks Q K))))) (broadcastInDim S2x4x4x8192x512 ![] bcast_S_S2x4x4x8192x512 (id (constant S_ .f32 0x00000000#32)))

/-- The denominators. -/
def masses : FVec Ideal S2x4x4x8192x1 .f32 :=
  addf (broadcastInDim S2x4x4x8192x1 ![0, 1, 2, 3] bcast_S2x4x4x8192_S2x4x4x8192x1_0_1_2_3 (Host.reduceAdd (weights Q K) (constant S_ .f32 0x00000000#32) reducesTo_S2x4x4x8192x512_S2x4x4x8192_d4 h_S_)) (broadcastInDim S2x4x4x8192x1 ![] bcast_S_S2x4x4x8192x1 (constant S_ .f32 0x0DA24260#32))

/-- The probabilities. -/
def probs : FVec Ideal S2x4x4x8192x512 .f32 :=
  Host.divf (weights Q K) (broadcastInDim S2x4x4x8192x512 ![0, 1, 2, 3, 4] bcast_S2x4x4x8192x1_S2x4x4x8192x512_0_1_2_3_4 (masses Q K))

/-- The attention's result. -/
def attended : FVec Ideal S2x8192x1024 .f32 :=
  shapeCast _ (transpose S2x8192x4x4x64 [0, 4, 1, 3, 2] (Host.dotGeneral dot_S2x4x512x64_S2x4x4x8192x512_S2x4x64x4x8192_2_4_3_23_01_01 none (values V) (probs Q K)) transposes_S2x4x64x4x8192_S2x8192x4x4x64_0_4_1_3_2) shapeCasts_S2x8192x4x4x64_S2x8192x1024

/-- The probabilities summed over the heads, by selection block. -/
def headSums : FVec Ideal S2x4x8192x128x4 .f32 :=
  shapeCast _ (Host.reduceAdd (probs Q K) (constant S_ .f32 0x00000000#32) reducesTo_S2x4x4x8192x512_S2x4x8192x512_d2 h_S_) shapeCasts_S2x4x8192x512_S2x4x8192x128x4

/-- The importance of the selection blocks. -/
def importances : FVec Ideal S2x4x8192x128 .f32 :=
  Host.reduceAdd (headSums Q K) (constant S_ .f32 0x00000000#32) reducesTo_S2x4x8192x128x4_S2x4x8192x128_d4 h_S_

/-- The positions' own blocks. -/
def ownBlock : IVec S8192 32 :=
  select (andi (cmpi .ne (signi (iotaInDim S8192 32 0)) (broadcastInDim S8192 ![] bcast_S_S8192 (signi (id (constantI S_ 32 64#32))))) (cmpi .ne (Host.remsi (iotaInDim S8192 32 0) (broadcastInDim S8192 ![] bcast_S_S8192 (id (constantI S_ 32 64#32)))) (broadcastInDim S8192 ![] bcast_S_S8192 (constantI S_ 32 0#32)))) (subi (Host.divsi (iotaInDim S8192 32 0) (broadcastInDim S8192 ![] bcast_S_S8192 (id (constantI S_ 32 64#32)))) (broadcastInDim S8192 ![] bcast_S_S8192 (constantI S_ 32 1#32))) (Host.divsi (iotaInDim S8192 32 0) (broadcastInDim S8192 ![] bcast_S_S8192 (id (constantI S_ 32 64#32))))

/-- The same as a column. -/
def ownColumn : IVec S8192x1 32 := broadcastInDim S8192x1 ![0] bcast_S8192_S8192x1_0 ownBlock

/-- The forced blocks. -/
def forcedMask : IVec S8192x128 1 :=
  ori (ori (broadcastInDim S8192x128 ![0, 1] bcast_S1x128_S8192x128_0_1 (broadcastInDim S1x128 ![1] bcast_S128_S1x128_1 (cmpi .eq (iotaInDim S128 32 0) (broadcastInDim S128 ![] bcast_S_S128 (constantI S_ 32 0#32))))) (cmpi .eq (broadcastInDim S8192x128 ![0, 1] bcast_S1x128_S8192x128_0_1 (broadcastInDim S1x128 ![1] bcast_S128_S1x128_1 (iotaInDim S128 32 0))) (broadcastInDim S8192x128 ![0, 1] bcast_S8192x1_S8192x128_0_1 ownColumn))) (cmpi .eq (broadcastInDim S8192x128 ![0, 1] bcast_S1x128_S8192x128_0_1 (broadcastInDim S1x128 ![1] bcast_S128_S1x128_1 (iotaInDim S128 32 0))) (broadcastInDim S8192x128 ![0, 1] bcast_S8192x1_S8192x128_0_1 (subi ownColumn (broadcastInDim S8192x1 ![] bcast_S_S8192x1 (constantI S_ 32 1#32)))))

/-- The blocks after a position's own. -/
def laterMask : IVec S8192x128 1 :=
  cmpi .sgt (broadcastInDim S8192x128 ![0, 1] bcast_S1x128_S8192x128_0_1 (broadcastInDim S1x128 ![1] bcast_S128_S1x128_1 (iotaInDim S128 32 0))) (broadcastInDim S8192x128 ![0, 1] bcast_S8192x1_S8192x128_0_1 ownColumn)

/-- The bonus of the forced blocks. -/
def bonuses : FVec Ideal S8192x128 .f32 :=
  id (select forcedMask (broadcastInDim S8192x128 ![] bcast_S_S8192x128 (constant S_ .f32 0x461C4000#32)) (broadcastInDim S8192x128 ![] bcast_S_S8192x128 (constant S_ .f32 0x00000000#32)))

/-- The scores of given importances. -/
def scoredOf (X : FVec Ideal S2x4x8192x128 .f32) : FVec Ideal S2x4x8192x128 .f32 :=
  select (broadcastInDim S2x4x8192x128 ![2, 3] bcast_S8192x128_S2x4x8192x128_2_3 laterMask) (broadcastInDim S2x4x8192x128 ![] bcast_S_S2x4x8192x128 (id (constant S_ .f32 0xF149F2CA#32))) (addf X (broadcastInDim S2x4x8192x128 ![0, 1, 2, 3] bcast_S1x1x8192x128_S2x4x8192x128_0_1_2_3 (broadcastInDim S1x1x8192x128 ![2, 3] bcast_S8192x128_S1x1x8192x128_2_3 bonuses)))

/-- The scores. -/
def scored : FVec Ideal S2x4x8192x128 .f32 := scoredOf (importances Q K)

/-- The sixteen best columns' numbers, of given scores. -/
def bestOf (X : FVec Ideal S2x4x8192x128 .f32) : IVec S2x4x8192x16 32 :=
  (Host.topK S2x4x8192x16 3 (FloatOps.cmpfTotal .gt) X sliceFits_S2x4x8192x128_S2x4x8192x16).2

/-- The sixteen best blocks' numbers. -/
def best : IVec S2x4x8192x16 32 := bestOf (scored Q K)

/-- One where rank `r`'s number is `x`, zero elsewhere. -/
def hitsOf (X : IVec S2x4x8192x16 32) : FVec Ideal S2x4x8192x16x128 .f32 :=
  id (select (cmpi .eq (broadcastInDim S2x4x8192x16x128 ![0, 1, 2, 3, 4] bcast_S2x4x8192x16x1_S2x4x8192x16x128_0_1_2_3_4 (broadcastInDim S2x4x8192x16x1 ![0, 1, 2, 3] bcast_S2x4x8192x16_S2x4x8192x16x1_0_1_2_3 X)) (broadcastInDim S2x4x8192x16x128 ![0, 1, 2, 3, 4] bcast_S1x1x1x1x128_S2x4x8192x16x128_0_1_2_3_4 (broadcastInDim S1x1x1x1x128 ![4] bcast_S128_S1x1x1x1x128_4 (iotaInDim S128 32 0)))) (broadcastInDim S2x4x8192x16x128 ![] bcast_S_S2x4x8192x16x128 (constant S_ .f32 0x3F800000#32)) (broadcastInDim S2x4x8192x16x128 ![] bcast_S_S2x4x8192x16x128 (constant S_ .f32 0x00000000#32)))

/-- One where rank `r`'s block is block `x`, zero elsewhere. -/
def hits : FVec Ideal S2x4x8192x16x128 .f32 := hitsOf (best Q K)

/-- One for the blocks among the sixteen best, zero for the others. -/
def markOf (X : FVec Ideal S2x4x8192x16x128 .f32) : FVec Ideal S2x4x8192x128 .f32 :=
  Host.reduce FloatOps.maximumf X (constant S_ .f32 0xFF800000#32) reducesTo_S2x4x8192x16x128_S2x4x8192x128_d3 h_S_

/-- The selection marks. -/
def selected : FVec Ideal S2x4x8192x128 .f32 := markOf (hits Q K)

/-- The bias of given selection marks. -/
def biasOf (X : FVec Ideal S2x4x8192x128 .f32) : FVec Ideal S2x4x8192x128 .f32 :=
  mulf (subf X (broadcastInDim S2x4x8192x128 ![] bcast_S_S2x4x8192x128 (constant S_ .f32 0x3F800000#32))) (broadcastInDim S2x4x8192x128 ![] bcast_S_S2x4x8192x128 (constant S_ .f32 0x53800000#32))

/-- The selection bias by position and block. -/
def flatBiases : FVec Ideal S2x4x8192x128 .f32 := biasOf (selected Q K)

/-- An array by position and block, the positions cut into tiles. -/
def tiled (X : FVec Ideal S2x4x8192x128 .f32) : FVec Ideal S2x4x64x128x128 .f32 :=
  shapeCast _ X shapeCasts_S2x4x8192x128_S2x4x64x128x128

/-- The selection bias by tile, block and query. -/
def biases : FVec Ideal S2x4x64x128x128 .bf16 :=
  truncf .bf16 (transpose S2x4x64x128x128 [0, 1, 2, 4, 3] (tiled (flatBiases Q K)) transposes_S2x4x64x128x128_S2x4x64x128x128_0_1_2_4_3) bitsLt_bf16_f32

/-- Which blocks some query of a tile selects. -/
def anyHit : FVec Ideal S2x4x64x128 .f32 :=
  Host.reduce FloatOps.maximumf (tiled (selected Q K)) (constant S_ .f32 0xFF800000#32) reducesTo_S2x4x64x128x128_S2x4x64x128_d3 h_S_

/-- The same by key tile and block of the key tile. -/
def hitTiles : FVec Ideal S2x4x64x32x4 .f32 :=
  shapeCast _ (anyHit Q K) shapeCasts_S2x4x64x128_S2x4x64x32x4

/-- How many blocks of a key tile are selected by some query of the tile. -/
def tileCounts : FVec Ideal S2x4x64x32 .f32 :=
  Host.reduceAdd (hitTiles Q K) (constant S_ .f32 0x00000000#32) reducesTo_S2x4x64x32x4_S2x4x64x32_d4 h_S_

/-- The counts padded with zeros and repeated over eight rows. -/
def flagRows : FVec Ideal S2x4x64x8x128 .f32 :=
  broadcastInDim S2x4x64x8x128 ![0, 1, 2, 3, 4] bcast_S2x4x64x1x128_S2x4x64x8x128_0_1_2_3_4 (broadcastInDim S2x4x64x1x128 ![0, 1, 2, 4] bcast_S2x4x64x128_S2x4x64x1x128_0_1_2_4 (pad S2x4x64x128 ![0, 0, 0, 0] ![0, 0, 0, 96] ![0, 0, 0, 0] (tileCounts Q K) (sitofp .f32 (constantI S_ 32 0#32)) pads_S2x4x64x32_S2x4x64x128_000_000_000_0960 h_S_))

variable (m : (ℓ : Loc nD τ sig) → Buf (Elt Ideal) ℓ) (c : Dev nD)

/-- The first result is the attention's. -/
theorem res0_eq : res_out0 m c = attended (m ((c.tc : Thread nD τ).loc main_arg0)) (m ((c.tc : Thread nD τ).loc main_arg1))
    (m ((c.tc : Thread nD τ).loc main_arg2)) := rfl

/-- The second result is the bias. -/
theorem res1_eq : res_out1 m c = biases (m ((c.tc : Thread nD τ).loc main_arg0)) (m ((c.tc : Thread nD τ).loc main_arg1)) := rfl

/-- The third result is the flags. -/
theorem res2_eq : res_out2 m c = flagRows (m ((c.tc : Thread nD τ).loc main_arg0)) (m ((c.tc : Thread nD τ).loc main_arg1)) := rfl

end Cert.CmpAttn.Ref

end
-- ==== Proof.RefTop.lean ====
/- The stable top-16 of a line of scores, read at a rank, and the mark of being among the sixteen. -/
module

public import proofs.«01_k».proof.Proof.RefStages
public import proofs.«01_k».proof.Proof.Spec
public import proofs.«01_k».proof.Proof.Words
public import Idealize.ShloMosaic.Lib.Pointwise

@[expose] public section

set_option maxRecDepth 16384

noncomputable section

namespace Cert.CmpAttn.Ref

open Cert.ReferenceIdeal Cert.ReferenceIdeal.Gen Cert.ReferenceIdeal.Value Idealize.ShloMosaic
open Idealize.ShloMosaic.TcCoe Cert.TopSelect

/-- The second operand of a sort of two, at an index. -/
theorem sort_second (s : Shape) (d : Nat) {α β : Type} (cmp : α × β → α × β → BitVec 1) (x : s.Idx → α) (y : s.Idx → β)
    (hd : d < s.rank) (j : s.Idx) :
    (Host.sort2 s d cmp x y).2 j
      = y (j.along ⟨d, hd⟩ (sortedFrom (fun k k' => cmp (x (j.along ⟨d, hd⟩ k), y (j.along ⟨d, hd⟩ k))
          (x (j.along ⟨d, hd⟩ k'), y (j.along ⟨d, hd⟩ k')) == 1#1) (j ⟨d, hd⟩))) := by
  unfold Host.sort2
  rw [dif_pos hd]

/-- The numbers of the greatest entries, at an index: the stable order of the line through it. -/
theorem top_second {s t : Shape} (d : Nat) {α : Type} (gt : α → α → BitVec 1) (x : s.Idx → α) (h : s.Slices (fun _ => 0) t)
    (hd : d < s.rank) (i : t.Idx) (j : s.Idx) (hj : ∀ a, (j a).val = (i (a.cast h.1.symm)).val) :
    (Host.topK t d gt x h).2 i
      = BitVec.ofNat 32 (sortedFrom (fun k k' => gt (x (j.along ⟨d, hd⟩ k)) (x (j.along ⟨d, hd⟩ k')) == 1#1) (j ⟨d, hd⟩)).val := by
  have e : (fun a => ⟨0 + (i (a.cast h.1.symm)).val, Nat.lt_of_lt_of_le (Nat.add_lt_add_left (i _).isLt _) (h.2 a)⟩ : s.Idx) = j :=
    funext fun a => Fin.ext ((Nat.zero_add _).trans (hj a).symm)
  unfold Host.topK
  dsimp only
  refine (congrArg (Host.sort2 s d (fun l r => gt l.1 r.1) x _).2 e).trans ?_
  rw [sort_second _ _ _ _ _ hd, dif_pos hd]
  unfold iotaInDim Shape.Idx.along
  rw [Function.update_self]

/-- The line of scores through an index. -/
theorem line_at (b : Fin 2) (g : Fin 4) (t : Fin 8192) (r k : Fin 128) :
    Shape.Idx.along (s := S2x4x8192x128) (ix4 b g t r) (3 : Fin 4) k = ix4 b g t k := by
  funext a
  fin_cases a <;> rfl

/-- The best blocks' numbers are the first of the sorted order. -/
theorem topK_at (X : FVec Ideal S2x4x8192x128 .f32) (b : Fin 2) (g : Fin 4) (t : Fin 8192) (r : Fin 16) :
    (Host.topK S2x4x8192x16 3 (FloatOps.cmpfTotal .gt) X sliceFits_S2x4x8192x128_S2x4x8192x16).2 (ix4 b g t r)
      = BitVec.ofNat 32 (order (fun x => X (ix4 b g t x)) ⟨r.val, by omega⟩).val := by
  refine (top_second 3 _ X _ (show 3 < 4 by decide) (ix4 b g t r) (ix4 b g t ⟨r.val, by omega⟩) ?_).trans ?_
  · intro a
    fin_cases a <;> rfl
  · unfold order
    exact congrArg (fun f : Fin 128 → Fin 128 → Bool => BitVec.ofNat 32 (sortedFrom f ⟨r.val, by omega⟩).val)
      (funext fun k => funext fun k' => congrArg₂ (fun i i' => FloatOps.cmpfTotal CmpDirection.gt (X i) (X i') == 1#1)
        (line_at b g t _ k) (line_at b g t _ k'))

/-- The best of sixteen hit marks is the mark of being among the sixteen. -/
theorem max_hits (s : Fin 128 → EReal) (x : Fin 128) :
    (Finset.univ.fold max ⊥ fun r : Fin 16 => if order s ⟨r.val, by omega⟩ = x then (1 : EReal) else 0)
      = if picked s 16 x then 1 else 0 := by
  apply le_antisymm
  · refine (Finset.fold_max_le _).mpr ⟨bot_le, fun r _ => ?_⟩
    by_cases h : order s ⟨r.val, by omega⟩ = x
    · rw [if_pos h, if_pos ⟨_, r.isLt, h⟩]
    · rw [if_neg h]
      split
      · exact zero_le_one
      · exact le_rfl
  · by_cases h : picked s 16 x
    · obtain ⟨a, ha, hx⟩ := h
      rw [if_pos ⟨a, ha, hx⟩]
      refine (Finset.le_fold_max _).mpr (Or.inr ⟨⟨a.val, ha⟩, Finset.mem_univ _, ?_⟩)
      rw [if_pos hx]
    · rw [if_neg h]
      refine (Finset.le_fold_max _).mpr (Or.inr ⟨0, Finset.mem_univ _, ?_⟩)
      split
      · exact zero_le_one
      · exact le_rfl

end Cert.CmpAttn.Ref

end
-- ==== Proof.RefRead.lean ====
/- The reference's stages read at an index: the plain formulas of Spec over the argument arrays. -/
module

public import proofs.«01_k».proof.Proof.RefStages
public import proofs.«01_k».proof.Proof.Spec
public import proofs.«01_k».proof.Proof.Words
public import proofs.«01_k».proof.Proof.RefTop
public import Idealize.ShloMosaic.Lib.Pointwise

@[expose] public section

set_option maxRecDepth 16384

noncomputable section

namespace Cert.CmpAttn.Ref

open Cert.ReferenceIdeal Cert.ReferenceIdeal.Gen Cert.ReferenceIdeal.Value Idealize.ShloMosaic
open Idealize.ShloMosaic.TcCoe Cert.TopSelect

variable (Q : Vec Ideal S2x4x64x128x512 .bf16) (K V : Vec Ideal S2x4x512x128 .f32)

/-- The query at position `t` of head `h`. -/
def queryOf (b : Fin 2) (g : Fin 4) (t : Fin 8192) (h : Fin 4) (d : Fin 128) : EReal :=
  Q (ix5 b g ⟨t.val / 128, by omega⟩ d ⟨h.val * 128 + t.val % 128, by omega⟩)

/-- Compressed block `n`'s row of a slab-ordered array. -/
def blockOf (X : Vec Ideal S2x4x512x128 .f32) (b : Fin 2) (g : Fin 4) (n : Fin 512) (d : Fin 128) : EReal :=
  X (ix4 b g ⟨n.val % 4 * 128 + n.val / 4, by omega⟩ d)

/-- The queries, read. -/
theorem queries_at (b : Fin 2) (g h : Fin 4) (t : Fin 8192) (d : Fin 128) :
    queries Q (ix5 b g h t d) = queryOf Q b g t h d := by
  pointwise [queries, queryOf]

/-- A slab-ordered array's natural order, read. -/
theorem natural_at (X : Vec Ideal S2x4x512x128 .f32) (b : Fin 2) (g : Fin 4) (n : Fin 512) (d : Fin 128) :
    natural X (ix4 b g n d) = blockOf X b g n d := by
  pointwise [natural, blockOf]

/-- The values, read. -/
theorem values_at (b : Fin 2) (g : Fin 4) (n : Fin 512) (d : Fin 64) :
    values V (ix4 b g n d) = blockOf V b g n ⟨d.val, by omega⟩ := by
  rw [← natural_at]
  pointwise [values]

/-- The visibility, read. -/
theorem seenAll_at (b : Fin 2) (g h : Fin 4) (t : Fin 8192) (n : Fin 512) :
    seenAll (ix5 b g h t n) = BitVec.ofBool (visible t.val n) := by
  have e : seenAll (ix5 b g h t n)
      = IntOp.cmpi .sle (IntOp.addi (IntOp.muli (BitVec.ofNat 32 n.val) 16#32) 31#32) (BitVec.ofNat 32 t.val) := by
    pointwise [seenAll, seen]
  rw [e]
  show IntOp.cmpi .sle (BitVec.ofNat 32 n.val * BitVec.ofNat 32 16 + BitVec.ofNat 32 31) _ = _
  rw [← BitVec.ofNat_mul, ← BitVec.ofNat_add, sle_words (by omega) (by omega), Nat.mul_comm]
  rfl

/-- The logits, read. -/
theorem logits_at (b : Fin 2) (g h : Fin 4) (t : Fin 8192) (n : Fin 512) :
    logits Q K (ix5 b g h t n) = logit (queryOf Q b g t h) (blockOf K b g) t.val n := by
  unfold logit
  rw [← select_logit, ← seenAll_at b g h t n]
  simp only [← queries_at, ← natural_at]
  pointwise [logits]
  rfl

/-- The peaks, read. -/
theorem peaks_at (b : Fin 2) (g h : Fin 4) (t : Fin 8192) :
    peaks Q K (ix4 b g h t) = peak (queryOf Q b g t h) (blockOf K b g) t.val := by
  unfold peak
  rw [show logit (queryOf Q b g t h) (blockOf K b g) t.val = fun n => logits Q K (ix5 b g h t n) from
    funext fun n => (logits_at Q K b g h t n).symm, ← ofBits_neg_inf]
  pointwise [peaks]

/-- The weights, read. -/
theorem weights_at (b : Fin 2) (g h : Fin 4) (t : Fin 8192) (n : Fin 512) :
    weights Q K (ix5 b g h t n) = weight (queryOf Q b g t h) (blockOf K b g) t.val n := by
  unfold weight
  rw [← select_weight, ← seenAll_at b g h t n, ← logits_at, ← peaks_at]
  pointwise [weights, id]

/-- The denominators, read. -/
theorem masses_at (b : Fin 2) (g h : Fin 4) (t : Fin 8192) :
    masses Q K (ix5 b g h t 0) = mass (queryOf Q b g t h) (blockOf K b g) t.val := by
  unfold mass
  simp only [← weights_at]
  pointwise [masses]
  rfl

/-- The probabilities, read. -/
theorem probs_at (b : Fin 2) (g h : Fin 4) (t : Fin 8192) (n : Fin 512) :
    probs Q K (ix5 b g h t n) = prob (queryOf Q b g t h) (blockOf K b g) t.val n := by
  unfold prob
  rw [← weights_at, ← masses_at]
  pointwise [probs]

/-- The attention's result, read: column `256 g + 64 h + e` is feature `e` of head `h` of group `g`. -/
theorem attended_at (b : Fin 2) (t : Fin 8192) (g h : Fin 4) (e : Fin 64) :
    attended Q K V (ix3 b t ⟨g.val * 256 + (h.val * 64 + e.val), by omega⟩)
      = attend (queryOf Q b g t h) (blockOf K b g) (fun n => blockOf V b g n ⟨e.val, by omega⟩) t.val := by
  unfold attend
  simp only [← values_at, ← probs_at]
  pointwise [attended]

/-- The sums over the heads, read. -/
theorem headSums_at (b : Fin 2) (g : Fin 4) (t : Fin 8192) (r : Fin 128) (j : Fin 4) :
    headSums Q K (ix5 b g t r j) = ∑ h : Fin 4, prob (queryOf Q b g t h) (blockOf K b g) t.val (slab j r) := by
  simp only [← probs_at]
  pointwise [headSums]
  rfl

/-- The importances, read. -/
theorem importances_at (b : Fin 2) (g : Fin 4) (t : Fin 8192) (r : Fin 128) :
    importances Q K (ix4 b g t r) = importance (queryOf Q b g t) (blockOf K b g) t.val r := by
  unfold importance
  simp only [← headSums_at]
  pointwise [importances]

/-- The positions' own blocks, read. -/
theorem ownBlock_at (t : Fin 8192) : ownBlock (ix1 t) = BitVec.ofNat 32 (t.val / 64) := by
  rw [← host_block_word]
  pointwise [ownBlock, id]
  trace_state

/-- The forced blocks, read. -/
theorem forcedMask_at (t : Fin 8192) (r : Fin 128) : forcedMask (ix2 t r) = BitVec.ofBool (forced t.val r) := by
  have e : forcedMask (ix2 t r) = IntOp.ori
      (IntOp.ori (IntOp.cmpi CmpIPredicate.eq (BitVec.ofNat 32 r.val) 0#32)
        (IntOp.cmpi CmpIPredicate.eq (BitVec.ofNat 32 r.val) (ownBlock (ix1 t))))
      (IntOp.cmpi CmpIPredicate.eq (BitVec.ofNat 32 r.val) (IntOp.subi (ownBlock (ix1 t)) 1#32)) := by
    pointwise [forcedMask, ownColumn]
  rw [e, ownBlock_at, previous_word r ⟨t.val / 64, by omega⟩, eq_words (by omega) (by omega), eq_words (by omega) (by omega)]
  unfold forced
  simp only [or_bits, Bool.decide_or, Bool.or_assoc]

/-- The blocks after a position's own, read. -/
theorem laterMask_at (t : Fin 8192) (r : Fin 128) : laterMask (ix2 t r) = BitVec.ofBool (decide (t.val / 64 < r.val)) := by
  rw [← sgt_words (by omega) (by omega), ← ownBlock_at]
  pointwise [laterMask, ownColumn]

/-- The bonuses, read. -/
theorem bonuses_at (t : Fin 8192) (r : Fin 128) : bonuses (ix2 t r) = if forced t.val r then bonus else 0 := by
  rw [← select_weight, ← forcedMask_at]
  pointwise [bonuses, id]
  rfl

/-- The scores, read. -/
theorem scored_at (b : Fin 2) (g : Fin 4) (t : Fin 8192) (r : Fin 128) :
    scored Q K (ix4 b g t r) = score (queryOf Q b g t) (blockOf K b g) t.val r := by
  have e : ∀ X, scoredOf X (ix4 b g t r)
      = Scalar.select (laterMask (ix2 t r)) masked (X (ix4 b g t r) + bonuses (ix2 t r)) := fun X => by
    pointwise [scoredOf]
    rfl
  unfold score scored
  rw [e, laterMask_at, importances_at, bonuses_at, select_logit]
  simp only [decide_eq_true_eq]

/-- The best columns' numbers of given scores, read. -/
theorem bestOf_at (X : FVec Ideal S2x4x8192x128 .f32) (b : Fin 2) (g : Fin 4) (t : Fin 8192) (r : Fin 16) :
    bestOf X (ix4 b g t r) = BitVec.ofNat 32 (order (fun x => X (ix4 b g t x)) ⟨r.val, by omega⟩).val := by
  unfold bestOf
  exact topK_at X b g t r

/-- The hit marks of given numbers, read. -/
theorem hitsOf_at (X : IVec S2x4x8192x16 32) (b : Fin 2) (g : Fin 4) (t : Fin 8192) (r : Fin 16) (x : Fin 128) :
    hitsOf X (ix5 b g t r x)
      = Scalar.select (IntOp.cmpi .eq (X (ix4 b g t r)) (BitVec.ofNat 32 x.val)) 1 0 := by
  pointwise [hitsOf, id]

/-- A mark is the best of its sixteen hit marks. -/
theorem markOf_at (X : FVec Ideal S2x4x8192x16x128 .f32) (b : Fin 2) (g : Fin 4) (t : Fin 8192) (x : Fin 128) :
    markOf X (ix4 b g t x) = Finset.univ.fold max ⊥ fun r : Fin 16 => X (ix5 b g t r x) := by
  rw [← ofBits_neg_inf]
  pointwise [markOf]

/-- The selection marks of given scores, read. -/
theorem marks_at (X : FVec Ideal S2x4x8192x128 .f32) (b : Fin 2) (g : Fin 4) (t : Fin 8192) (x : Fin 128) :
    markOf (hitsOf (bestOf X)) (ix4 b g t x) = if picked (fun y => X (ix4 b g t y)) 16 x then 1 else 0 := by
  rw [markOf_at, ← max_hits]
  refine congrArg (fun f : Fin 16 → EReal => Finset.univ.fold max ⊥ f) (funext fun r => ?_)
  rw [hitsOf_at, bestOf_at, eq_words (by omega) (by omega), select_logit]
  simp only [decide_eq_true_eq, Fin.ext_iff]

/-- The selection marks, read. -/
theorem selected_at (b : Fin 2) (g : Fin 4) (t : Fin 8192) (x : Fin 128) :
    selected Q K (ix4 b g t x) = chosen (queryOf Q b g t) (blockOf K b g) t.val x := by
  unfold selected hits best chosen
  rw [marks_at]
  simp only [scored_at]

/-- Positions cut into tiles, read. -/
theorem tiled_at (X : FVec Ideal S2x4x8192x128 .f32) (b : Fin 2) (g : Fin 4) (i : Fin 64) (y r : Fin 128) :
    tiled X (ix5 b g i y r) = X (ix4 b g ⟨i.val * 128 + y.val, by omega⟩ r) := by
  pointwise [tiled]

/-- The bias, read. -/
theorem biases_at (b : Fin 2) (g : Fin 4) (i : Fin 64) (r y : Fin 128) :
    biases Q K (ix5 b g i r y)
      = (chosen (queryOf Q b g ⟨i.val * 128 + y.val, by omega⟩) (blockOf K b g) (i.val * 128 + y.val) r
          - Ideal.ofBits .f32 0x3F800000#32) * Ideal.ofBits .f32 0x53800000#32 := by
  have e : ∀ X, biasOf X (ix4 b g ⟨i.val * 128 + y.val, by omega⟩ r)
      = (X (ix4 b g ⟨i.val * 128 + y.val, by omega⟩ r) - Ideal.ofBits .f32 0x3F800000#32)
          * Ideal.ofBits .f32 0x53800000#32 := fun X => by
    pointwise [biasOf]
  have e' : biases Q K (ix5 b g i r y) = tiled (flatBiases Q K) (ix5 b g i y r) := by
    pointwise [biases]
  rw [e', tiled_at]
  unfold flatBiases
  rw [e, selected_at]

/-- The blocks some query of a tile selects, read. -/
theorem anyHit_at (b : Fin 2) (g : Fin 4) (i : Fin 64) (r : Fin 128) :
    anyHit Q K (ix4 b g i r)
      = Finset.univ.fold max ⊥ fun y : Fin 128 =>
          chosen (queryOf Q b g ⟨i.val * 128 + y.val, by omega⟩) (blockOf K b g) (i.val * 128 + y.val) r := by
  have e : anyHit Q K (ix4 b g i r)
      = Finset.fold max (Ideal.ofBits FTy.f32 4286578688#32) (fun y => tiled (selected Q K) (ix5 b g i y r)) Finset.univ := by
    pointwise [anyHit]
  rw [e, ofBits_neg_inf]
  simp only [tiled_at, selected_at]

/-- The counts of a key tile, read. -/
theorem tileCounts_at (b : Fin 2) (g : Fin 4) (i : Fin 64) (c : Fin 32) :
    tileCounts Q K (ix4 b g i c) = ∑ j : Fin 4, anyHit Q K (ix4 b g i ⟨c.val * 4 + j.val, by omega⟩) := by
  have e : ∀ j : Fin 4, hitTiles Q K (ix5 b g i c j) = anyHit Q K (ix4 b g i ⟨c.val * 4 + j.val, by omega⟩) := fun j => by
    pointwise [hitTiles]
  simp only [← e]
  pointwise [tileCounts]

/-- A key tile's sum over its four blocks as the sum over all blocks that keeps those of the tile. -/
theorem sum_tile (f : Fin 128 → EReal) (c : Fin 128) :
    (∑ r : Fin 128, if r.val / 4 = c.val then f r else 0)
      = if h : c.val < 32 then ∑ j : Fin 4, f ⟨c.val * 4 + j.val, by omega⟩ else 0 := by
  rw [Fin.sum_univ_tiles 32 4 rfl]
  split
  · rename_i h
    rw [Finset.sum_eq_single (⟨c.val, h⟩ : Fin 32)]
    · exact Finset.sum_congr rfl fun j _ => if_pos (by simp only; omega)
    · intro k _ hk
      refine Finset.sum_eq_zero fun j _ => if_neg ?_
      intro e
      exact hk (Fin.ext (by simp only at e ⊢; omega))
    · exact fun h' => absurd (Finset.mem_univ _) h'
  · exact Finset.sum_eq_zero fun k _ => Finset.sum_eq_zero fun j _ => if_neg (by simp only; omega)

/-- The flags, read. -/
theorem flagRows_at (b : Fin 2) (g : Fin 4) (i : Fin 64) (a : Fin 8) (c : Fin 128) :
    flagRows Q K (ix5 b g i a c)
      = ∑ r : Fin 128, if r.val / 4 = c.val then
          Finset.univ.fold max ⊥ fun y : Fin 128 =>
            chosen (queryOf Q b g ⟨i.val * 128 + y.val, by omega⟩) (blockOf K b g) (i.val * 128 + y.val) r else 0 := by
  have e : flagRows Q K (ix5 b g i a c)
      = if h : c.val < 32 then tileCounts Q K (ix4 b g i ⟨c.val, h⟩) else FloatOps.sitofp FTy.f32 0#32 := by
    pointwise [flagRows]
  rw [e, sum_tile]
  refine dite_congr rfl (fun h => ?_) fun h => ?_
  · rw [tileCounts_at]
    exact Finset.sum_congr rfl fun j _ => anyHit_at Q K b g i _
  · show (((0#32 : BitVec 32).toInt : ℝ) : EReal) = 0
    simp

end Cert.CmpAttn.Ref

end
-- ==== Proof.Arrays.lean ====
/- What the three result arrays hold after the run: each grid point's blocks, set side by side. -/
module

public import proofs.«01_k».proof.Proof.Block
public import proofs.«01_k».proof.Proof.RefRead
public import Idealize.ShloMosaic.Lib.Pipeline.ValueKit
public import Idealize.ShloMosaic.Lib.Pipeline.Covers

@[expose] public section

noncomputable section

namespace Cert.CmpAttn.Arrays

open Cert.KernelIdeal Cert.KernelIdeal.Gen Idealize.ShloMosaic Idealize.ShloMosaic.TcCoe Idealize.SL.Sem
open Cert.CmpAttn Cert.CmpAttn.Ref

variable (m : (ℓ : Loc nD τ sig) → Buf (Elt Ideal) ℓ)

/-- A grid point's batch. -/
def bat (t : Fin cfg0.N) : Fin 2 := grid0.coords t 0

/-- A grid point's group. -/
def grp (t : Fin cfg0.N) : Fin 4 := grid0.coords t 1

/-- A grid point's tile of positions. -/
def til (t : Fin cfg0.N) : Fin 64 := grid0.coords t 2

/-- Where a grid point's six blocks lie. -/
theorem places : ∀ t : Fin cfg0.N,
    win0_0.index t = ![(bat t).val, (grp t).val, (til t).val, 0, 0]
    ∧ win0_1.index t = ![(bat t).val, (grp t).val, 0, 0]
    ∧ win0_2.index t = ![(bat t).val, (grp t).val, 0, 0]
    ∧ win0_3.index t = ![(bat t).val, (til t).val, (grp t).val]
    ∧ win0_4.index t = ![(bat t).val, (grp t).val, (til t).val, 0, 0]
    ∧ win0_5.index t = ![(bat t).val, (grp t).val, (til t).val, 0, 0] :=
  (by decide +kernel : ∀ t : Fin grid0.N, _)

/-- A column of the block of queries is the query of its head and position. -/
theorem query_block (c : Dev nD) (t : Fin cfg0.N) (h : Fin 4) (y : Fin 128) :
    qcol (iblk m c 0 t) (col h y)
      = queryOf (m ((c : Thread nD τ).loc main_arg0)) (bat t) (grp t)
          ⟨(til t).val * 128 + y.val, by omega⟩ h := by
  funext d
  unfold qcol queryOf col
  blk_ext [iblk, V, places t]

/-- A row of the block of keys is the key of its compressed block. -/
theorem key_block (c : Dev nD) (t : Fin cfg0.N) :
    krow (iblk m c 1 t) = blockOf (m ((c : Thread nD τ).loc main_arg1)) (bat t) (grp t) := by
  funext n d
  unfold krow blockOf
  blk_ext [iblk, V, places t]

/-- A row of the block of values is the value of its compressed block. -/
theorem value_block (c : Dev nD) (t : Fin cfg0.N) :
    krow (iblk m c 2 t) = blockOf (m ((c : Thread nD τ).loc main_arg2)) (bat t) (grp t) := by
  funext n d
  unfold krow blockOf
  blk_ext [iblk, V, places t]

/-- The blocks of attention results cover their array. -/
theorem covers3 : (cfg0.win 3).Covers := by decide +kernel

/-- The blocks of biases cover their array. -/
theorem covers4 : (cfg0.win 4).Covers := by decide +kernel

/-- The blocks of flags cover their array. -/
theorem covers5 : (cfg0.win 5).Covers := by decide +kernel

/-- One point's attention results are the reference's. -/
theorem point3 (c : Dev nD) (t : Fin cfg0.N) (l : Fin 128) (h : Fin 4) (e : Fin 64) :
    out0_3 (grid0.coords t) (iblk m c 0 t) (iblk m c 1 t) (iblk m c 2 t) (ix3 0 l ⟨h.val * 64 + e.val, by omega⟩)
      = attended (m ((c : Thread nD τ).loc main_arg0)) (m ((c : Thread nD τ).loc main_arg1)) (m ((c : Thread nD τ).loc main_arg2))
          (ix3 (bat t) ⟨(til t).val * 128 + l.val, by omega⟩ ⟨(grp t).val * 256 + (h.val * 64 + e.val), by omega⟩) := by
  rw [stored_at, attended_at, query_block, key_block, value_block]
  exact congrArg (attend _ _ _) (congrArg (· + l.val) (Nat.mul_comm _ _))

/-- The array of attention results, from what each point's block holds at its own indices. -/
theorem assemble3 (c : Dev nD) (G : FVec Ideal S2x8192x1024 .f32)
    (hp : ∀ (t : Fin cfg0.N) (y : ((cfg0.win 3).xblock (cfg0.grid.coords t)).Idx) (j : (S2x8192x1024).Idx),
      ((j 0).val = (bat t).val ∧ (j 1).val = (til t).val * 128 + (y 1).val ∧ (j 2).val = (grp t).val * 256 + (y 2).val) →
      out0_3 (grid0.coords t) (iblk m c 0 t) (iblk m c 1 t) (iblk m c 2 t) y = G j) :
    (dats m 0 c).arrAt 3 cfg0.N = G := by
  refine (dats m 0 c).arrAt_eq_of_covers 3 _ covers3 fun t _ y => ?_
  rw [after0_3]
  blk_simp [places t]
  refine hp t y _ ?_
  blk_simp [places t]
  exact ⟨trivial, trivial, trivial⟩

/-- The first result's array is the reference's attention. -/
theorem final3 (c : Dev nD) :
    (dats m 0 c).arrAt 3 cfg0.N
      = attended (m ((c : Thread nD τ).loc main_arg0)) (m ((c : Thread nD τ).loc main_arg1)) (m ((c : Thread nD τ).loc main_arg2)) := by
  refine assemble3 m c _ fun t y j hj => ?_
  obtain ⟨j0, j1, j2⟩ := hj
  have h0 : (y 0).val < 1 := (y 0).isLt
  have h1 : (y 1).val < 128 := (y 1).isLt
  have h2 : (y 2).val < 256 := (y 2).isLt
  have ey : y = ix3 0 ⟨(y 1).val, h1⟩ ⟨(y 2).val / 64 * 64 + (y 2).val % 64, by omega⟩ := by
    funext a
    apply Fin.ext
    fin_cases a
    · show (y 0).val = 0
      omega
    · rfl
    · show (y 2).val = (y 2).val / 64 * 64 + (y 2).val % 64
      omega
  have ej : j = ix3 (bat t) ⟨(til t).val * 128 + (y 1).val, by omega⟩
      ⟨(grp t).val * 256 + ((y 2).val / 64 * 64 + (y 2).val % 64), by omega⟩ := by
    funext a
    apply Fin.ext
    fin_cases a
    · exact j0
    · exact j1
    · show (j 2).val = (grp t).val * 256 + ((y 2).val / 64 * 64 + (y 2).val % 64)
      omega
  have key := point3 m c t ⟨(y 1).val, h1⟩ ⟨(y 2).val / 64, by omega⟩ ⟨(y 2).val % 64, by omega⟩
  rw [← ej] at key
  refine Eq.trans ?_ key
  generalize out0_3 (grid0.coords t) (iblk m c 0 t) (iblk m c 1 t) (iblk m c 2 t) = O
  exact congrArg O ey

/-- One point's biases are the reference's. -/
theorem point4 (c : Dev nD) (t : Fin cfg0.N) (r l : Fin 128) :
    out0_4 (grid0.coords t) (iblk m c 0 t) (iblk m c 1 t) (iblk m c 2 t) (ix5 0 0 0 r l)
      = biases (m ((c : Thread nD τ).loc main_arg0)) (m ((c : Thread nD τ).loc main_arg1)) (ix5 (bat t) (grp t) (til t) r l) := by
  rw [bias_at, biases_at, key_block]
  simp only [query_block]
  rw [Nat.mul_comm 128]
  rfl

/-- One point's flags are the reference's. -/
theorem point5 (c : Dev nD) (t : Fin cfg0.N) (a : Fin 8) (k : Fin 128) :
    out0_5 (grid0.coords t) (iblk m c 0 t) (iblk m c 1 t) (iblk m c 2 t) (ix5 0 0 0 a k)
      = flagRows (m ((c : Thread nD τ).loc main_arg0)) (m ((c : Thread nD τ).loc main_arg1)) (ix5 (bat t) (grp t) (til t) a k) := by
  rw [flags_at, flagRows_at, key_block]
  simp only [query_block, Nat.mul_comm 128]
  rfl

/-- The array of biases, from what each point's block holds at its own indices. -/
theorem assemble4 (c : Dev nD) (G : FVec Ideal S2x4x64x128x128 .f32)
    (hp : ∀ (t : Fin cfg0.N) (y : ((cfg0.win 4).xblock (cfg0.grid.coords t)).Idx) (j : (S2x4x64x128x128).Idx),
      ((j 0).val = (bat t).val ∧ (j 1).val = (grp t).val ∧ (j 2).val = (til t).val ∧ (j 3).val = (y 3).val ∧ (j 4).val = (y 4).val) →
      out0_4 (grid0.coords t) (iblk m c 0 t) (iblk m c 1 t) (iblk m c 2 t) y = G j) :
    (dats m 0 c).arrAt 4 cfg0.N = G := by
  refine (dats m 0 c).arrAt_eq_of_covers 4 _ covers4 fun t _ y => ?_
  rw [after0_4]
  blk_simp [places t]
  refine hp t y _ ?_
  blk_simp [places t]
  exact ⟨trivial, trivial, trivial, trivial, trivial⟩

/-- The second result's array is the reference's biases. -/
theorem final4 (c : Dev nD) :
    (dats m 0 c).arrAt 4 cfg0.N
      = biases (m ((c : Thread nD τ).loc main_arg0)) (m ((c : Thread nD τ).loc main_arg1)) := by
  refine assemble4 m c _ fun t y j hj => ?_
  obtain ⟨j0, j1, j2, j3, j4⟩ := hj
  have h0 : (y 0).val < 1 := (y 0).isLt
  have h1 : (y 1).val < 1 := (y 1).isLt
  have h2 : (y 2).val < 1 := (y 2).isLt
  have h3 : (y 3).val < 128 := (y 3).isLt
  have h4 : (y 4).val < 128 := (y 4).isLt
  have ey : y = ix5 0 0 0 ⟨(y 3).val, h3⟩ ⟨(y 4).val, h4⟩ := by
    funext a
    apply Fin.ext
    fin_cases a
    · show (y 0).val = 0
      omega
    · show (y 1).val = 0
      omega
    · show (y 2).val = 0
      omega
    · rfl
    · rfl
  have ej : j = ix5 (bat t) (grp t) (til t) ⟨(y 3).val, h3⟩ ⟨(y 4).val, h4⟩ := by
    funext a
    apply Fin.ext
    fin_cases a
    · exact j0
    · exact j1
    · exact j2
    · exact j3
    · exact j4
  have key := point4 m c t ⟨(y 3).val, h3⟩ ⟨(y 4).val, h4⟩
  rw [← ej] at key
  refine Eq.trans ?_ key
  generalize out0_4 (grid0.coords t) (iblk m c 0 t) (iblk m c 1 t) (iblk m c 2 t) = O
  exact congrArg O ey

/-- The array of flags, from what each point's block holds at its own indices. -/
theorem assemble5 (c : Dev nD) (G : FVec Ideal S2x4x64x8x128 .f32)
    (hp : ∀ (t : Fin cfg0.N) (y : ((cfg0.win 5).xblock (cfg0.grid.coords t)).Idx) (j : (S2x4x64x8x128).Idx),
      ((j 0).val = (bat t).val ∧ (j 1).val = (grp t).val ∧ (j 2).val = (til t).val ∧ (j 3).val = (y 3).val ∧ (j 4).val = (y 4).val) →
      out0_5 (grid0.coords t) (iblk m c 0 t) (iblk m c 1 t) (iblk m c 2 t) y = G j) :
    (dats m 0 c).arrAt 5 cfg0.N = G := by
  refine (dats m 0 c).arrAt_eq_of_covers 5 _ covers5 fun t _ y => ?_
  rw [after0_5]
  blk_simp [places t]
  refine hp t y _ ?_
  blk_simp [places t]
  exact ⟨trivial, trivial, trivial, trivial, trivial⟩

/-- The third result's array is the reference's flags. -/
theorem final5 (c : Dev nD) :
    (dats m 0 c).arrAt 5 cfg0.N
      = flagRows (m ((c : Thread nD τ).loc main_arg0)) (m ((c : Thread nD τ).loc main_arg1)) := by
  refine assemble5 m c _ fun t y j hj => ?_
  obtain ⟨j0, j1, j2, j3, j4⟩ := hj
  have h0 : (y 0).val < 1 := (y 0).isLt
  have h1 : (y 1).val < 1 := (y 1).isLt
  have h2 : (y 2).val < 1 := (y 2).isLt
  have h3 : (y 3).val < 8 := (y 3).isLt
  have h4 : (y 4).val < 128 := (y 4).isLt
  have ey : y = ix5 0 0 0 ⟨(y 3).val, h3⟩ ⟨(y 4).val, h4⟩ := by
    funext a
    apply Fin.ext
    fin_cases a
    · show (y 0).val = 0
      omega
    · show (y 1).val = 0
      omega
    · show (y 2).val = 0
      omega
    · rfl
    · rfl
  have ej : j = ix5 (bat t) (grp t) (til t) ⟨(y 3).val, h3⟩ ⟨(y 4).val, h4⟩ := by
    funext a
    apply Fin.ext
    fin_cases a
    · exact j0
    · exact j1
    · exact j2
    · exact j3
    · exact j4
  have key := point5 m c t ⟨(y 3).val, h3⟩ ⟨(y 4).val, h4⟩
  rw [← ej] at key
  refine Eq.trans ?_ key
  generalize out0_5 (grid0.coords t) (iblk m c 0 t) (iblk m c 1 t) (iblk m c 2 t) = O
  exact congrArg O ey

end Cert.CmpAttn.Arrays

end
-- ==== Proof.GdnReference.lean ====
/- The reference's input projection of the recurrent layer, index by index. -/
module

public import proofs.«01_k».proof.Proof.Gen.GdnProjReferenceIdeal.Run
public import proofs.«01_k».proof.Proof.Projection
public import Idealize.ShloMosaic.Lib.Pipeline.ValueKit

@[expose] public section

noncomputable section

namespace Cert.GdnReference

open Cert.GdnProjReferenceIdeal Cert.GdnProjReferenceIdeal.Gen Idealize.ShloMosaic Idealize.ShloMosaic.TcCoe Idealize.SL.Sem
open Cert.Proj

/-- The normed rows times the weights, as the reference writes them. -/
def products (x : FVec Ideal S16384x1024 .f32) (g : FVec Ideal S1024 .f32) (w : FVec Ideal S1024x4112 .f32) :
    FVec Ideal S16384x4112 .f32 :=
  Host.dotGeneral dot_S16384x1024_S1024x4112_S16384x4112_1_0_0_1_n_n none (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))) w

theorem products_at (x : FVec Ideal S16384x1024 .f32) (g : FVec Ideal S1024 .f32) (w : FVec Ideal S1024x4112 .f32)
    (r : Fin 16384) (k : Fin 4112) : products x g w (ix2 r k) = entry x g w r k := by
  unfold entry project normed scale
  pointwise [products]

/-- The first result: the first 3072 columns. -/
theorem first (x : FVec Ideal S16384x1024 .f32) (g : FVec Ideal S1024 .f32) (w : FVec Ideal S1024x4112 .f32)
    (r : Fin 16384) (k : Fin 3072) :
    extractStridedSlice S16384x3072 ![0, 0] (products x g w) slices_S16384x4112_S16384x3072_0_0 (ix2 r k)
      = entry x g w r ⟨k.val, by omega⟩ := by
  rw [← products_at]
  pointwise

/-- The second result: the next 1024 columns, through the swish. -/
theorem second (x : FVec Ideal S16384x1024 .f32) (g : FVec Ideal S1024 .f32) (w : FVec Ideal S1024x4112 .f32)
    (r : Fin 16384) (k : Fin 1024) :
    mulf (extractStridedSlice S16384x1024 ![0, 3072] (products x g w) slices_S16384x4112_S16384x1024_0_3072)
        (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extractStridedSlice S16384x1024 ![0, 3072] (products x g w) slices_S16384x4112_S16384x1024_0_3072))))) (ix2 r k)
      = silu (entry x g w r ⟨3072 + k.val, by omega⟩) := by
  rw [← products_at]
  unfold silu sigmoid
  pointwise

/-- The third result: the last 16 columns, then zeros. -/
theorem third (x : FVec Ideal S16384x1024 .f32) (g : FVec Ideal S1024 .f32) (w : FVec Ideal S1024x4112 .f32)
    (r : Fin 16384) (k : Fin 128) :
    pad S16384x128 ![0, 0] ![0, 112] ![0, 0] (extractStridedSlice S16384x16 ![0, 4096] (products x g w) slices_S16384x4112_S16384x16_0_4096) (sitofp .f32 (constantI S_ 32 0#32)) pads_S16384x16_S16384x128_000_01120 h_S_ (ix2 r k)
      = if h : k.val < 16 then entry x g w r ⟨4096 + k.val, by omega⟩ else 0 := by
  pointwise
  rw [zero_word]
  exact dite_congr rfl (fun h => products_at x g w r _) fun _ => rfl

end Cert.GdnReference

end
-- ==== Proof.GdnRows.lean ====
/- The input projection of the recurrent layer: one block's rows, the arrays, the reference's arrays. -/
module

public import proofs.«01_k».proof.Proof.Gen.GdnProjIdeal.Value
public import proofs.«01_k».proof.Proof.Gen.GdnProjReferenceIdeal.Run
public import proofs.«01_k».proof.Proof.Projection
public import Idealize.ShloMosaic.Lib.Pipeline.ValueKit
public import Idealize.ShloMosaic.Lib.Claim

@[expose] public section

noncomputable section

namespace Cert.GdnRows

open Cert.GdnProjIdeal Cert.GdnProjIdeal.Gen Idealize.ShloMosaic Idealize.ShloMosaic.TcCoe Idealize.SL.Sem
open Cert.Proj

variable (m : (ℓ : Loc nD τ sig) → Buf (Elt Ideal) ℓ)

/-- A block's products: each row of the block, normed, against each column of the weights. -/
theorem products_at (x0 : Vec Ideal S256x1024 .f32) (x1 : Vec Ideal S1x1024 .f32) (x2 : Vec Ideal S1024x4224 .bf16)
    (y : Fin 256) (k : Fin 4224) :
    k0_pay1 x0 x1 x2 (ix2 y k) = project (fun d => x0 (ix2 y d)) (fun d => x1 (ix2 0 d)) (fun d => x2 (ix2 d k)) := by
  unfold project normed scale
  pointwise [k0_pay1]

/-- The first store's block. -/
theorem first_at (x0 : Vec Ideal S256x1024 .f32) (x1 : Vec Ideal S1x1024 .f32) (x2 : Vec Ideal S1024x4224 .bf16)
    (y : Fin 256) (k : Fin 3072) :
    out0_3 x0 x1 x2 (ix2 y k) = project (fun d => x0 (ix2 y d)) (fun d => x1 (ix2 0 d)) (fun d => x2 (ix2 d ⟨k.val, by omega⟩)) := by
  rw [← products_at]
  frame_out
  pointwise [k0_pay2]

/-- The second store's block. -/
theorem second_at (x0 : Vec Ideal S256x1024 .f32) (x1 : Vec Ideal S1x1024 .f32) (x2 : Vec Ideal S1024x4224 .bf16)
    (y : Fin 256) (k : Fin 1024) :
    out0_4 x0 x1 x2 (ix2 y k)
      = silu (project (fun d => x0 (ix2 y d)) (fun d => x1 (ix2 0 d)) (fun d => x2 (ix2 d ⟨3072 + k.val, by omega⟩))) := by
  rw [← products_at]
  unfold silu sigmoid
  frame_out
  pointwise [k0_pay3]
  rw [zero_sub]

/-- The third store's block. -/
theorem third_at (x0 : Vec Ideal S256x1024 .f32) (x1 : Vec Ideal S1x1024 .f32) (x2 : Vec Ideal S1024x4224 .bf16)
    (y : Fin 256) (k : Fin 128) :
    out0_5 x0 x1 x2 (ix2 y k) = project (fun d => x0 (ix2 y d)) (fun d => x1 (ix2 0 d)) (fun d => x2 (ix2 d ⟨4096 + k.val, by omega⟩)) := by
  rw [← products_at]
  frame_out
  pointwise [k0_pay4]

/-- Where a grid point's blocks lie. -/
theorem places : ∀ t : Fin cfg0.N,
    win0_0.index t = ![t.val, 0] ∧ win0_1.index t = ![0, 0] ∧ win0_2.index t = ![0, 0]
    ∧ win0_3.index t = ![t.val, 0] ∧ win0_4.index t = ![t.val, 0] ∧ win0_5.index t = ![t.val, 0] :=
  (by decide +kernel : ∀ t : Fin grid0.N, _)

/-- The weights with zero columns after the last, at an index. -/
theorem padded_at (w : FVec Ideal S1024x4112 .f32) (d : Fin 1024) (k : Fin 4224) :
    truncf .bf16 (pad S1024x4224 ![0, 0] ![0, 112] ![0, 0] w
      (sitofp (F := Ideal) .f32 (constantI S_ 32 0#32)) pads_S1024x4112_S1024x4224_000_01120 h_S_) bitsLt_bf16_f32 (ix2 d k)
      = if h : k.val < 4112 then w (ix2 d ⟨k.val, h⟩) else (0 : EReal) := by
  pointwise
  rw [zero_word]

/-- The row of gains the region reads. -/
theorem gain_entry (c : Dev nD) (d : Fin 1024) :
    (V m c main_v0 : FVec Ideal S1x1024 .f32) (ix2 0 d) = m ((c : Thread nD τ).loc main_arg1) (ix1 d) := by
  show broadcastInDim S1x1024 ![1] bcast_S1024_S1x1024_1 (m ((c : Thread nD τ).loc main_arg1)) (ix2 0 d) = _
  pointwise

/-- The weights the region reads: the argument's, with zero columns after the last. -/
theorem weight_entry (c : Dev nD) (d : Fin 1024) (k : Fin 4224) :
    (V m c main_v2 : FVec Ideal S1024x4224 .bf16) (ix2 d k)
      = if h : k.val < 4112 then m ((c : Thread nD τ).loc main_arg2) (ix2 d ⟨k.val, h⟩) else (0 : EReal) := by
  exact padded_at _ d k

/-- The array's row of a block's row. -/
def rowOf (t : Fin cfg0.N) (y : Fin 256) : Fin 16384 :=
  ⟨t.val * 256 + y.val, by have := t.isLt; have e : cfg0.N = 64 := rfl; omega⟩

/-- The block of rows. -/
theorem row_block (c : Dev nD) (t : Fin cfg0.N) (y : Fin 256) (d : Fin 1024) :
    iblk m c 0 t (ix2 y d) = m ((c : Thread nD τ).loc main_arg0) (ix2 (rowOf t y) d) := by
  unfold rowOf
  blk_ext [iblk, V, places t]

/-- The block of gains is the gains. -/
theorem gain_block (c : Dev nD) (t : Fin cfg0.N) (d : Fin 1024) :
    iblk m c 1 t (ix2 0 d) = m ((c : Thread nD τ).loc main_arg1) (ix1 d) := by
  refine Eq.trans ?_ (gain_entry m c d)
  blk_ext [iblk, places t]

/-- The block of weights is the weights. -/
theorem weight_block (c : Dev nD) (t : Fin cfg0.N) (d : Fin 1024) (k : Fin 4224) :
    iblk m c 2 t (ix2 d k)
      = if h : k.val < 4112 then m ((c : Thread nD τ).loc main_arg2) (ix2 d ⟨k.val, h⟩) else (0 : EReal) := by
  refine Eq.trans ?_ (weight_entry m c d k)
  blk_ext [iblk, places t]

/-- The blocks' products are the array's, up to the last column of the weights. -/
theorem block_entry (c : Dev nD) (t : Fin cfg0.N) (y : Fin 256) (k : Fin 4224) :
    project (fun d => iblk m c 0 t (ix2 y d)) (fun d => iblk m c 1 t (ix2 0 d)) (fun d => iblk m c 2 t (ix2 d k))
      = if h : k.val < 4112 then
          entry (m ((c : Thread nD τ).loc main_arg0)) (m ((c : Thread nD τ).loc main_arg1)) (m ((c : Thread nD τ).loc main_arg2))
            (rowOf t y) ⟨k.val, h⟩
        else 0 := by
  rw [funext (row_block m c t y), funext (gain_block m c t), funext fun d => weight_block m c t d k]
  split
  · rfl
  · exact project_zero _ _

/-- The blocks of each result cover its array. -/
theorem covers3 : (cfg0.win 3).Covers := by decide +kernel

theorem covers4 : (cfg0.win 4).Covers := by decide +kernel

theorem covers5 : (cfg0.win 5).Covers := by decide +kernel

/-- The first result's array, from what each block holds. -/
theorem assemble3 (c : Dev nD) (G : FVec Ideal S16384x3072 .f32)
    (hp : ∀ (t : Fin cfg0.N) (y : Fin 256) (k : Fin 3072),
      out0_3 (iblk m c 0 t) (iblk m c 1 t) (iblk m c 2 t) (ix2 y k) = G (ix2 (rowOf t y) k)) :
    (dats m 0 c).arrAt 3 cfg0.N = G := by
  refine (dats m 0 c).arrAt_eq_of_covers 3 _ covers3 fun t _ y => ?_
  rw [after0_3]
  blk_simp [places t]
  refine placed _ G (rowOf t) id (hp t) y _ ?_ ?_
  · blk_simp [places t, rowOf]
  · blk_simp [places t, id]

/-- The first result is the first columns of the products. -/
theorem final3 (c : Dev nD) (G : FVec Ideal S16384x3072 .f32)
    (hG : ∀ r k, G (ix2 r k) = entry (m ((c : Thread nD τ).loc main_arg0)) (m ((c : Thread nD τ).loc main_arg1))
      (m ((c : Thread nD τ).loc main_arg2)) r ⟨k.val, by omega⟩) : (dats m 0 c).arrAt 3 cfg0.N = G := by
  refine assemble3 m c G fun t y k => ?_
  rw [first_at, block_entry, dif_pos (by show k.val < 4112; omega), hG]

/-- The second result's array, from what each block holds. -/
theorem assemble4 (c : Dev nD) (G : FVec Ideal S16384x1024 .f32)
    (hp : ∀ (t : Fin cfg0.N) (y : Fin 256) (k : Fin 1024),
      out0_4 (iblk m c 0 t) (iblk m c 1 t) (iblk m c 2 t) (ix2 y k) = G (ix2 (rowOf t y) k)) :
    (dats m 0 c).arrAt 4 cfg0.N = G := by
  refine (dats m 0 c).arrAt_eq_of_covers 4 _ covers4 fun t _ y => ?_
  rw [after0_4]
  blk_simp [places t]
  refine placed _ G (rowOf t) id (hp t) y _ ?_ ?_
  · blk_simp [places t, rowOf]
  · blk_simp [places t, id]

/-- The second result is the swish of the next columns. -/
theorem final4 (c : Dev nD) (G : FVec Ideal S16384x1024 .f32)
    (hG : ∀ r k, G (ix2 r k) = silu (entry (m ((c : Thread nD τ).loc main_arg0)) (m ((c : Thread nD τ).loc main_arg1))
      (m ((c : Thread nD τ).loc main_arg2)) r ⟨3072 + k.val, by omega⟩)) : (dats m 0 c).arrAt 4 cfg0.N = G := by
  refine assemble4 m c G fun t y k => ?_
  rw [second_at, block_entry, dif_pos (by show 3072 + k.val < 4112; omega), hG]

/-- The third result's array, from what each block holds. -/
theorem assemble5 (c : Dev nD) (G : FVec Ideal S16384x128 .f32)
    (hp : ∀ (t : Fin cfg0.N) (y : Fin 256) (k : Fin 128),
      out0_5 (iblk m c 0 t) (iblk m c 1 t) (iblk m c 2 t) (ix2 y k) = G (ix2 (rowOf t y) k)) :
    (dats m 0 c).arrAt 5 cfg0.N = G := by
  refine (dats m 0 c).arrAt_eq_of_covers 5 _ covers5 fun t _ y => ?_
  rw [after0_5]
  blk_simp [places t]
  refine placed _ G (rowOf t) id (hp t) y _ ?_ ?_
  · blk_simp [places t, rowOf]
  · blk_simp [places t, id]

/-- The third result is the last columns, then zeros. -/
theorem final5 (c : Dev nD) (G : FVec Ideal S16384x128 .f32)
    (hG : ∀ r (k : Fin 128), G (ix2 r k) = if h : k.val < 16 then entry (m ((c : Thread nD τ).loc main_arg0)) (m ((c : Thread nD τ).loc main_arg1))
      (m ((c : Thread nD τ).loc main_arg2)) r ⟨4096 + k.val, by omega⟩ else 0) : (dats m 0 c).arrAt 5 cfg0.N = G := by
  refine assemble5 m c G fun t y k => ?_
  rw [third_at, block_entry, hG]
  exact dite_congr (propext (by show 4096 + k.val < 4112 ↔ k.val < 16; omega)) (fun _ => rfl) fun _ => rfl

end Cert.GdnRows

end
-- ==== Proof.ConfReference.lean ====
/- The reference's input projection of the convolution layer, index by index. -/
module

public import proofs.«01_k».proof.Proof.Gen.ConfProjReferenceIdeal.Run
public import proofs.«01_k».proof.Proof.Projection
public import Idealize.ShloMosaic.Lib.Pipeline.ValueKit

@[expose] public section

noncomputable section

namespace Cert.ConfReference

open Cert.ConfProjReferenceIdeal Cert.ConfProjReferenceIdeal.Gen Idealize.ShloMosaic Idealize.ShloMosaic.TcCoe Idealize.SL.Sem
open Cert.Proj

/-- The normed rows times the weights, as the reference writes them. -/
def products (x : FVec Ideal S16384x1024 .f32) (g : FVec Ideal S1024 .f32) (w : FVec Ideal S1024x3072 .f32) :
    FVec Ideal S16384x3072 .f32 :=
  Host.dotGeneral dot_S16384x1024_S1024x3072_S16384x3072_1_0_0_1_n_n none (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))) w

theorem products_at (x : FVec Ideal S16384x1024 .f32) (g : FVec Ideal S1024 .f32) (w : FVec Ideal S1024x3072 .f32)
    (r : Fin 16384) (k : Fin 3072) : products x g w (ix2 r k) = entry x g w r k := by
  unfold entry project normed scale
  pointwise [products]

/-- The logistic function, as the reference writes it. -/
def gate (z : FVec Ideal S16384x1024 .f32) : FVec Ideal S16384x1024 .f32 :=
  Host.divf (broadcastInDim S16384x1024 ![] bcast_S_S16384x1024 (constant S_ .f32 0x3F800000#32)) (addf (broadcastInDim S16384x1024 ![] bcast_S_S16384x1024 (constant S_ .f32 0x3F800000#32)) (Host.exp (Host.negf z)))

/-- The reference's logistic, at an index. -/
theorem gate_at (z : FVec Ideal S16384x1024 .f32) (r : Fin 16384) (k : Fin 1024) : gate z (ix2 r k) = sigmoid (z (ix2 r k)) := by
  unfold sigmoid
  pointwise [gate]

/-- The first result: the first third under the gate of the second. -/
theorem first (x : FVec Ideal S16384x1024 .f32) (g : FVec Ideal S1024 .f32) (w : FVec Ideal S1024x3072 .f32)
    (r : Fin 16384) (k : Fin 1024) :
    mulf (extractStridedSlice S16384x1024 ![0, 0] (products x g w) slices_S16384x3072_S16384x1024_0_0)
        (gate (extractStridedSlice S16384x1024 ![0, 1024] (products x g w) slices_S16384x3072_S16384x1024_0_1024)) (ix2 r k)
      = entry x g w r ⟨k.val, by omega⟩ * sigmoid (entry x g w r ⟨1024 + k.val, by omega⟩) := by
  rw [← products_at, ← products_at]
  pointwise
  rw [gate_at]
  pointwise

/-- The second result: the last third, through the swish. -/
theorem second (x : FVec Ideal S16384x1024 .f32) (g : FVec Ideal S1024 .f32) (w : FVec Ideal S1024x3072 .f32)
    (r : Fin 16384) (k : Fin 1024) :
    mulf (extractStridedSlice S16384x1024 ![0, 2048] (products x g w) slices_S16384x3072_S16384x1024_0_2048)
        (gate (extractStridedSlice S16384x1024 ![0, 2048] (products x g w) slices_S16384x3072_S16384x1024_0_2048)) (ix2 r k)
      = silu (entry x g w r ⟨2048 + k.val, by omega⟩) := by
  unfold silu
  rw [← products_at]
  pointwise
  rw [gate_at]
  pointwise

end Cert.ConfReference

end
-- ==== Proof.ConfRows.lean ====
/- The input projection of the convolution layer: one block's rows, the arrays, the reference's arrays. -/
module

public import proofs.«01_k».proof.Proof.Gen.ConfProjIdeal.Value
public import proofs.«01_k».proof.Proof.Gen.ConfProjReferenceIdeal.Run
public import proofs.«01_k».proof.Proof.Projection
public import Idealize.ShloMosaic.Lib.Pipeline.ValueKit
public import Idealize.ShloMosaic.Lib.Claim

@[expose] public section

noncomputable section

namespace Cert.ConfRows

open Cert.ConfProjIdeal Cert.ConfProjIdeal.Gen Idealize.ShloMosaic Idealize.ShloMosaic.TcCoe Idealize.SL.Sem
open Cert.Proj

variable (m : (ℓ : Loc nD τ sig) → Buf (Elt Ideal) ℓ)

/-- A block's products: each row of the block, normed, against each column of the weights. -/
theorem products_at (x0 : Vec Ideal S256x1024 .f32) (x1 : Vec Ideal S1x1024 .f32) (x2 : Vec Ideal S1024x3072 .bf16)
    (y : Fin 256) (k : Fin 3072) :
    k0_pay1 x0 x1 x2 (ix2 y k) = project (fun d => x0 (ix2 y d)) (fun d => x1 (ix2 0 d)) (fun d => x2 (ix2 d k)) := by
  unfold project normed scale
  pointwise [k0_pay1]

/-- The first store's block. -/
theorem first_at (x0 : Vec Ideal S256x1024 .f32) (x1 : Vec Ideal S1x1024 .f32) (x2 : Vec Ideal S1024x3072 .bf16)
    (y : Fin 256) (k : Fin 1024) :
    out0_3 x0 x1 x2 (ix2 y k)
      = project (fun d => x0 (ix2 y d)) (fun d => x1 (ix2 0 d)) (fun d => x2 (ix2 d ⟨k.val, by omega⟩))
        * sigmoid (project (fun d => x0 (ix2 y d)) (fun d => x1 (ix2 0 d)) (fun d => x2 (ix2 d ⟨1024 + k.val, by omega⟩))) := by
  rw [← products_at, ← products_at]
  unfold sigmoid
  frame_out
  pointwise [k0_pay2]
  rw [zero_sub]

/-- The second store's block. -/
theorem second_at (x0 : Vec Ideal S256x1024 .f32) (x1 : Vec Ideal S1x1024 .f32) (x2 : Vec Ideal S1024x3072 .bf16)
    (y : Fin 256) (k : Fin 1024) :
    out0_4 x0 x1 x2 (ix2 y k)
      = silu (project (fun d => x0 (ix2 y d)) (fun d => x1 (ix2 0 d)) (fun d => x2 (ix2 d ⟨2048 + k.val, by omega⟩))) := by
  rw [← products_at]
  unfold silu sigmoid
  frame_out
  pointwise [k0_pay3]
  rw [zero_sub]

/-- Where a grid point's blocks lie. -/
theorem places : ∀ t : Fin cfg0.N,
    win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- The row of gains the region reads. -/
theorem gain_entry (c : Dev nD) (d : Fin 1024) :
    (V m c main_v0 : FVec Ideal S1x1024 .f32) (ix2 0 d) = m ((c : Thread nD τ).loc main_arg1) (ix1 d) := by
  show broadcastInDim S1x1024 ![1] bcast_S1024_S1x1024_1 (m ((c : Thread nD τ).loc main_arg1)) (ix2 0 d) = _
  pointwise

/-- The weights the region reads are the argument's. -/
theorem weight_entry (c : Dev nD) (d : Fin 1024) (k : Fin 3072) :
    (V m c main_v1 : FVec Ideal S1024x3072 .bf16) (ix2 d k) = m ((c : Thread nD τ).loc main_arg2) (ix2 d k) := by
  rfl

/-- The array's row of a block's row. -/
def rowOf (t : Fin cfg0.N) (y : Fin 256) : Fin 16384 :=
  ⟨t.val * 256 + y.val, by have := t.isLt; have e : cfg0.N = 64 := rfl; omega⟩

/-- The block of rows. -/
theorem row_block (c : Dev nD) (t : Fin cfg0.N) (y : Fin 256) (d : Fin 1024) :
    iblk m c 0 t (ix2 y d) = m ((c : Thread nD τ).loc main_arg0) (ix2 (rowOf t y) d) := by
  unfold rowOf
  blk_ext [iblk, V, places t]

/-- The block of gains is the gains. -/
theorem gain_block (c : Dev nD) (t : Fin cfg0.N) (d : Fin 1024) :
    iblk m c 1 t (ix2 0 d) = m ((c : Thread nD τ).loc main_arg1) (ix1 d) := by
  refine Eq.trans ?_ (gain_entry m c d)
  blk_ext [iblk, places t]

/-- The block of weights is the weights. -/
theorem weight_block (c : Dev nD) (t : Fin cfg0.N) (d : Fin 1024) (k : Fin 3072) :
    iblk m c 2 t (ix2 d k) = m ((c : Thread nD τ).loc main_arg2) (ix2 d k) := by
  refine Eq.trans ?_ (weight_entry m c d k)
  blk_ext [iblk, places t]

/-- The blocks' products are the array's. -/
theorem block_entry (c : Dev nD) (t : Fin cfg0.N) (y : Fin 256) (k : Fin 3072) :
    project (fun d => iblk m c 0 t (ix2 y d)) (fun d => iblk m c 1 t (ix2 0 d)) (fun d => iblk m c 2 t (ix2 d k))
      = entry (m ((c : Thread nD τ).loc main_arg0)) (m ((c : Thread nD τ).loc main_arg1)) (m ((c : Thread nD τ).loc main_arg2))
          (rowOf t y) k := by
  rw [funext (row_block m c t y), funext (gain_block m c t), funext fun d => weight_block m c t d k]
  rfl

/-- The blocks of each result cover its array. -/
theorem covers3 : (cfg0.win 3).Covers := by decide +kernel

theorem covers4 : (cfg0.win 4).Covers := by decide +kernel

/-- The first result's array, from what each block holds. -/
theorem assemble3 (c : Dev nD) (G : FVec Ideal S16384x1024 .f32)
    (hp : ∀ (t : Fin cfg0.N) (y : Fin 256) (k : Fin 1024),
      out0_3 (iblk m c 0 t) (iblk m c 1 t) (iblk m c 2 t) (ix2 y k) = G (ix2 (rowOf t y) k)) :
    (dats m 0 c).arrAt 3 cfg0.N = G := by
  refine (dats m 0 c).arrAt_eq_of_covers 3 _ covers3 fun t _ y => ?_
  rw [after0_3]
  blk_simp [places t]
  refine placed _ G (rowOf t) id (hp t) y _ ?_ ?_
  · blk_simp [places t, rowOf]
  · blk_simp [places t, id]

/-- The first result is the first third under the gate of the second. -/
theorem final3 (c : Dev nD) (G : FVec Ideal S16384x1024 .f32)
    (hG : ∀ r k, G (ix2 r k)
      = entry (m ((c : Thread nD τ).loc main_arg0)) (m ((c : Thread nD τ).loc main_arg1)) (m ((c : Thread nD τ).loc main_arg2)) r ⟨k.val, by omega⟩
        * sigmoid (entry (m ((c : Thread nD τ).loc main_arg0)) (m ((c : Thread nD τ).loc main_arg1)) (m ((c : Thread nD τ).loc main_arg2)) r ⟨1024 + k.val, by omega⟩)) :
    (dats m 0 c).arrAt 3 cfg0.N = G := by
  refine assemble3 m c G fun t y k => ?_
  rw [first_at, block_entry, block_entry, hG]

/-- The second result's array, from what each block holds. -/
theorem assemble4 (c : Dev nD) (G : FVec Ideal S16384x1024 .f32)
    (hp : ∀ (t : Fin cfg0.N) (y : Fin 256) (k : Fin 1024),
      out0_4 (iblk m c 0 t) (iblk m c 1 t) (iblk m c 2 t) (ix2 y k) = G (ix2 (rowOf t y) k)) :
    (dats m 0 c).arrAt 4 cfg0.N = G := by
  refine (dats m 0 c).arrAt_eq_of_covers 4 _ covers4 fun t _ y => ?_
  rw [after0_4]
  blk_simp [places t]
  refine placed _ G (rowOf t) id (hp t) y _ ?_ ?_
  · blk_simp [places t, rowOf]
  · blk_simp [places t, id]

/-- The second result is the swish of the last third. -/
theorem final4 (c : Dev nD) (G : FVec Ideal S16384x1024 .f32)
    (hG : ∀ r k, G (ix2 r k)
      = silu (entry (m ((c : Thread nD τ).loc main_arg0)) (m ((c : Thread nD τ).loc main_arg1)) (m ((c : Thread nD τ).loc main_arg2)) r ⟨2048 + k.val, by omega⟩)) :
    (dats m 0 c).arrAt 4 cfg0.N = G := by
  refine assemble4 m c G fun t y k => ?_
  rw [second_at, block_entry, hG]

end Cert.ConfRows

end
-- ==== Proof.OutRows.lean ====
/- The output projection: a row under its gate, times the weights, added to the layer's input. -/
module

public import proofs.«01_k».proof.Proof.Gen.OutProjIdeal.Value
public import proofs.«01_k».proof.Proof.Gen.OutProjReferenceIdeal.Run
public import proofs.«01_k».proof.Proof.Projection
public import Idealize.ShloMosaic.Lib.Pipeline.ValueKit
public import Idealize.ShloMosaic.Lib.Claim

@[expose] public section

noncomputable section

namespace Cert.OutRows

open Idealize.ShloMosaic Idealize.ShloMosaic.TcCoe Idealize.SL.Sem
open Cert.Proj

/-- An entry of the output: the input's, and the gated row's product with a column of weights. -/
def output (x a z : FVec Ideal ⟨2, ![16384, 1024]⟩ .f32) (w : FVec Ideal ⟨2, ![1024, 1024]⟩ .f32)
    (r : Fin 16384) (k : Fin 1024) : EReal :=
  x (ix2 r k) + ∑ d : Fin 1024, a (ix2 r d) * z (ix2 r d) * w (ix2 d k)

section Reference

open Cert.OutProjReferenceIdeal Cert.OutProjReferenceIdeal.Gen

/-- The reference's output, at an index. -/
theorem reference_at (x a z : FVec Ideal S16384x1024 .f32) (w : FVec Ideal S1024x1024 .f32) (r : Fin 16384) (k : Fin 1024) :
    addf x (Host.dotGeneral dot_S16384x1024_S1024x1024_S16384x1024_1_0_0_1_n_n none (mulf a z) w) (ix2 r k)
      = output x a z w r k := by
  unfold output
  pointwise

end Reference

open Cert.OutProjIdeal Cert.OutProjIdeal.Gen

variable (m : (ℓ : Loc nD τ sig) → Buf (Elt Ideal) ℓ)

/-- The store's block, at an index. -/
theorem block_at (x0 x1 x2 : Vec Ideal S256x1024 .f32) (x3 : Vec Ideal S1024x1024 .bf16) (y : Fin 256) (k : Fin 1024) :
    out0_4 x0 x1 x2 x3 (ix2 y k)
      = x0 (ix2 y k) + ∑ d : Fin 1024, x1 (ix2 y d) * x2 (ix2 y d) * x3 (ix2 d k) := by
  frame_out
  pointwise [k0_pay1]

/-- Where a grid point's blocks lie. -/
theorem places : ∀ t : Fin cfg0.N,
    win0_0.index t = ![t.val, 0] ∧ win0_1.index t = ![t.val, 0] ∧ win0_2.index t = ![t.val, 0]
    ∧ win0_3.index t = ![0, 0] ∧ win0_4.index t = ![t.val, 0] :=
  (by decide +kernel : ∀ t : Fin grid0.N, _)

/-- The weights the region reads are the argument's. -/
theorem weight_entry (c : Dev nD) (d : Fin 1024) (k : Fin 1024) :
    (V m c main_v0 : FVec Ideal S1024x1024 .bf16) (ix2 d k) = m ((c : Thread nD τ).loc main_arg3) (ix2 d k) := by
  rfl

/-- The array's row of a block's row. -/
def rowOf (t : Fin cfg0.N) (y : Fin 256) : Fin 16384 :=
  ⟨t.val * 256 + y.val, by have := t.isLt; have e : cfg0.N = 64 := rfl; omega⟩

/-- The block of inputs. -/
theorem input_block (c : Dev nD) (t : Fin cfg0.N) (y : Fin 256) (d : Fin 1024) :
    iblk m c 0 t (ix2 y d) = m ((c : Thread nD τ).loc main_arg0) (ix2 (rowOf t y) d) := by
  unfold rowOf
  blk_ext [iblk, V, places t]

/-- The block of rows. -/
theorem row_block (c : Dev nD) (t : Fin cfg0.N) (y : Fin 256) (d : Fin 1024) :
    iblk m c 1 t (ix2 y d) = m ((c : Thread nD τ).loc main_arg1) (ix2 (rowOf t y) d) := by
  unfold rowOf
  blk_ext [iblk, V, places t]

/-- The block of gates. -/
theorem gate_block (c : Dev nD) (t : Fin cfg0.N) (y : Fin 256) (d : Fin 1024) :
    iblk m c 2 t (ix2 y d) = m ((c : Thread nD τ).loc main_arg2) (ix2 (rowOf t y) d) := by
  unfold rowOf
  blk_ext [iblk, V, places t]

/-- The block of weights is the weights. -/
theorem weight_block (c : Dev nD) (t : Fin cfg0.N) (d : Fin 1024) (k : Fin 1024) :
    iblk m c 3 t (ix2 d k) = m ((c : Thread nD τ).loc main_arg3) (ix2 d k) := by
  refine Eq.trans ?_ (weight_entry m c d k)
  blk_ext [iblk, places t]

/-- One block of the output. -/
theorem point (c : Dev nD) (t : Fin cfg0.N) (y : Fin 256) (k : Fin 1024) :
    out0_4 (iblk m c 0 t) (iblk m c 1 t) (iblk m c 2 t) (iblk m c 3 t) (ix2 y k)
      = output (m ((c : Thread nD τ).loc main_arg0)) (m ((c : Thread nD τ).loc main_arg1))
          (m ((c : Thread nD τ).loc main_arg2)) (m ((c : Thread nD τ).loc main_arg3)) (rowOf t y) k := by
  rw [block_at, input_block]
  simp only [row_block, gate_block, weight_block]
  rfl

/-- The output's blocks cover its array. -/
theorem covers4 : (cfg0.win 4).Covers := by decide +kernel

/-- The output array. -/
theorem final4 (c : Dev nD) (G : FVec Ideal S16384x1024 .f32)
    (hG : ∀ r k, G (ix2 r k) = output (m ((c : Thread nD τ).loc main_arg0)) (m ((c : Thread nD τ).loc main_arg1))
          (m ((c : Thread nD τ).loc main_arg2)) (m ((c : Thread nD τ).loc main_arg3)) r k) :
    (dats m 0 c).arrAt 4 cfg0.N = G := by
  refine (dats m 0 c).arrAt_eq_of_covers 4 _ covers4 fun t _ y => ?_
  rw [after0_4]
  blk_simp [places t]
  refine placed _ G (rowOf t) id (fun p q => (point m c t p q).trans (hG _ _).symm) y _ ?_ ?_
  · blk_simp [places t, rowOf]
  · blk_simp [places t, id]

end Cert.OutRows

end
-- ==== Proof.NsaArrays.lean ====
/- The sparse layer's input projection: what the result arrays hold after the run. -/
module

public import proofs.«01_k».proof.Proof.NsaPoints
public import Idealize.ShloMosaic.Lib.Pipeline.Covers

@[expose] public section

noncomputable section

namespace Cert.Nsa

open Cert.NsaProjIdeal Cert.NsaProjIdeal.Gen Idealize.ShloMosaic Idealize.ShloMosaic.TcCoe Idealize.SL.Sem
open Cert.Proj

variable (m : (ℓ : Loc nD τ sig) → Buf (Elt Ideal) ℓ)

/-- The slopes of the heads. -/
def slope (c : Dev nD) (h : Fin 16) (e : Fin 64) : EReal := m ((c : Thread nD τ).loc main_arg6) (ix2 h e)

/-- The features of the positions. -/
def position (c : Dev nD) (q : Fin 8192) (e : Fin 192) : EReal := m ((c : Thread nD τ).loc main_arg7) (ix2 q e)

/-- The blocks of each result cover its array. -/
theorem covers10 : (cfg0.win 10).Covers := by decide +kernel

theorem covers11 : (cfg0.win 11).Covers := by decide +kernel

theorem covers12 : (cfg0.win 12).Covers := by decide +kernel

theorem covers13 : (cfg0.win 13).Covers := by decide +kernel

theorem covers14 : (cfg0.win 14).Covers := by decide +kernel

theorem covers15 : (cfg0.win 15).Covers := by decide +kernel

theorem covers16 : (cfg0.win 16).Covers := by decide +kernel

theorem covers17 : (cfg0.win 17).Covers := by decide +kernel

theorem covers18 : (cfg0.win 18).Covers := by decide +kernel

theorem covers19 : (cfg0.win 19).Covers := by decide +kernel

theorem covers20 : (cfg0.win 20).Covers := by decide +kernel

/-- The biases of the branch gates. -/
def gateBiases (c : Dev nD) (k : Fin 48) : EReal := m ((c : Thread nD τ).loc main_arg5) (ix1 k)

/-- The queries' array, from what each block holds. -/
theorem assemble10 (c : Dev nD) (G : FVec Ideal S16384x1024 .bf16)
    (hp : ∀ (t : Fin cfg0.N) (y : Fin 256) (k : Fin 1024), out0_10 (iblk m c 0 t) (iblk m c 1 t) (iblk m c 2 t) (iblk m c 3 t) (iblk m c 4 t) (iblk m c 5 t) (iblk m c 6 t) (iblk m c 7 t) (iblk m c 8 t) (iblk m c 9 t) (ix2 y k) = G (ix2 (rowOf t y) k)) :
    (dats m 0 c).arrAt 10 cfg0.N = G := by
  refine (dats m 0 c).arrAt_eq_of_covers 10 _ covers10 fun t _ y => ?_
  rw [after0_10]
  blk_simp [places t]
  refine placed _ G (rowOf t) id (hp t) y _ ?_ ?_
  · blk_simp [places t, rowOf]
  · blk_simp [places t, id]

/-- The queries. -/
theorem final10 (c : Dev nD) (G : FVec Ideal S16384x1024 .bf16)
    (hG : ∀ (r : Fin 16384) (k : Fin 1024), G (ix2 r k) = queryRow (prods m c) (queryGain m c) r k) : (dats m 0 c).arrAt 10 cfg0.N = G := by
  refine assemble10 m c G fun t y k => ?_
  exact (store10_at (iblk m c 0 t) (iblk m c 1 t) (iblk m c 2 t) (iblk m c 3 t) (iblk m c 4 t) (iblk m c 5 t) (iblk m c 6 t) (iblk m c 7 t) (iblk m c 8 t) (iblk m c 9 t) y k).trans ((query_point m c t y k).trans (hG _ _).symm)

/-- The features to be compressed' array, from what each block holds. -/
theorem assemble11 (c : Dev nD) (G : FVec Ideal S16384x512 .f32)
    (hp : ∀ (t : Fin cfg0.N) (y : Fin 256) (k : Fin 512), out0_11 (iblk m c 0 t) (iblk m c 1 t) (iblk m c 2 t) (iblk m c 3 t) (iblk m c 4 t) (iblk m c 5 t) (iblk m c 6 t) (iblk m c 7 t) (iblk m c 8 t) (iblk m c 9 t) (ix2 y k) = G (ix2 (rowOf t y) k)) :
    (dats m 0 c).arrAt 11 cfg0.N = G := by
  refine (dats m 0 c).arrAt_eq_of_covers 11 _ covers11 fun t _ y => ?_
  rw [after0_11]
  blk_simp [places t]
  refine placed _ G (rowOf t) id (hp t) y _ ?_ ?_
  · blk_simp [places t, rowOf]
  · blk_simp [places t, id]

/-- The features to be compressed. -/
theorem final11 (c : Dev nD) (G : FVec Ideal S16384x512 .f32)
    (hG : ∀ (r : Fin 16384) (k : Fin 512), G (ix2 r k) = prods m c r ⟨1024 + k.val, by omega⟩) : (dats m 0 c).arrAt 11 cfg0.N = G := by
  refine assemble11 m c G fun t y k => ?_
  exact (store11_at (iblk m c 0 t) (iblk m c 1 t) (iblk m c 2 t) (iblk m c 3 t) (iblk m c 4 t) (iblk m c 5 t) (iblk m c 6 t) (iblk m c 7 t) (iblk m c 8 t) (iblk m c 9 t) y k).trans ((branch_product m c t y _ (by show 1024 + k.val < 2560; omega)).trans (hG _ _).symm)

/-- The selected branch's array, from what each block holds. -/
theorem assemble12 (c : Dev nD) (G : FVec Ideal S16384x512 .f32)
    (hp : ∀ (t : Fin cfg0.N) (y : Fin 256) (k : Fin 512), out0_12 (iblk m c 0 t) (iblk m c 1 t) (iblk m c 2 t) (iblk m c 3 t) (iblk m c 4 t) (iblk m c 5 t) (iblk m c 6 t) (iblk m c 7 t) (iblk m c 8 t) (iblk m c 9 t) (ix2 y k) = G (ix2 (rowOf t y) k)) :
    (dats m 0 c).arrAt 12 cfg0.N = G := by
  refine (dats m 0 c).arrAt_eq_of_covers 12 _ covers12 fun t _ y => ?_
  rw [after0_12]
  blk_simp [places t]
  refine placed _ G (rowOf t) id (hp t) y _ ?_ ?_
  · blk_simp [places t, rowOf]
  · blk_simp [places t, id]

/-- The selected branch. -/
theorem final12 (c : Dev nD) (G : FVec Ideal S16384x512 .f32)
    (hG : ∀ (r : Fin 16384) (k : Fin 512), G (ix2 r k) = branchRow (prods m c) 1536 (by omega) (keyGain m c 1) r k) : (dats m 0 c).arrAt 12 cfg0.N = G := by
  refine assemble12 m c G fun t y k => ?_
  rw [hG]
  unfold branchRow
  by_cases h : k.val < 256
  · rw [dif_pos h]
    exact (store12_keys (iblk m c 0 t) (iblk m c 1 t) (iblk m c 2 t) (iblk m c 3 t) (iblk m c 4 t) (iblk m c 5 t) (iblk m c 6 t) (iblk m c 7 t) (iblk m c 8 t) (iblk m c 9 t) (ix2 y k) y.isLt h).trans (selected_point m c t y _)
  · rw [dif_neg h]
    exact (store12_values (iblk m c 0 t) (iblk m c 1 t) (iblk m c 2 t) (iblk m c 3 t) (iblk m c 4 t) (iblk m c 5 t) (iblk m c 6 t) (iblk m c 7 t) (iblk m c 8 t) (iblk m c 9 t) (ix2 y k) y.isLt k.isLt h).trans (branch_product m c t y _ (by show 1536 + k.val < 2560; omega))

/-- The window branch's array, from what each block holds. -/
theorem assemble13 (c : Dev nD) (G : FVec Ideal S16384x512 .f32)
    (hp : ∀ (t : Fin cfg0.N) (y : Fin 256) (k : Fin 512), out0_13 (iblk m c 0 t) (iblk m c 1 t) (iblk m c 2 t) (iblk m c 3 t) (iblk m c 4 t) (iblk m c 5 t) (iblk m c 6 t) (iblk m c 7 t) (iblk m c 8 t) (iblk m c 9 t) (ix2 y k) = G (ix2 (rowOf t y) k)) :
    (dats m 0 c).arrAt 13 cfg0.N = G := by
  refine (dats m 0 c).arrAt_eq_of_covers 13 _ covers13 fun t _ y => ?_
  rw [after0_13]
  blk_simp [places t]
  refine placed _ G (rowOf t) id (hp t) y _ ?_ ?_
  · blk_simp [places t, rowOf]
  · blk_simp [places t, id]

/-- The window branch. -/
theorem final13 (c : Dev nD) (G : FVec Ideal S16384x512 .f32)
    (hG : ∀ (r : Fin 16384) (k : Fin 512), G (ix2 r k) = branchRow (prods m c) 2048 (by omega) (keyGain m c 2) r k) : (dats m 0 c).arrAt 13 cfg0.N = G := by
  refine assemble13 m c G fun t y k => ?_
  rw [hG]
  unfold branchRow
  by_cases h : k.val < 256
  · rw [dif_pos h]
    exact (store13_keys (iblk m c 0 t) (iblk m c 1 t) (iblk m c 2 t) (iblk m c 3 t) (iblk m c 4 t) (iblk m c 5 t) (iblk m c 6 t) (iblk m c 7 t) (iblk m c 8 t) (iblk m c 9 t) (ix2 y k) y.isLt h).trans (window_point m c t y _)
  · rw [dif_neg h]
    exact (store13_values (iblk m c 0 t) (iblk m c 1 t) (iblk m c 2 t) (iblk m c 3 t) (iblk m c 4 t) (iblk m c 5 t) (iblk m c 6 t) (iblk m c 7 t) (iblk m c 8 t) (iblk m c 9 t) (ix2 y k) y.isLt k.isLt h).trans (branch_product m c t y _ (by show 2048 + k.val < 2560; omega))

/-- The output gates' array, from what each block holds. -/
theorem assemble14 (c : Dev nD) (G : FVec Ideal S16384x1024 .f32)
    (hp : ∀ (t : Fin cfg0.N) (y : Fin 256) (k : Fin 1024), out0_14 (iblk m c 0 t) (iblk m c 1 t) (iblk m c 2 t) (iblk m c 3 t) (iblk m c 4 t) (iblk m c 5 t) (iblk m c 6 t) (iblk m c 7 t) (iblk m c 8 t) (iblk m c 9 t) (ix2 y k) = G (ix2 (rowOf t y) k)) :
    (dats m 0 c).arrAt 14 cfg0.N = G := by
  refine (dats m 0 c).arrAt_eq_of_covers 14 _ covers14 fun t _ y => ?_
  rw [after0_14]
  blk_simp [places t]
  refine placed _ G (rowOf t) id (hp t) y _ ?_ ?_
  · blk_simp [places t, rowOf]
  · blk_simp [places t, id]

/-- The output gates. -/
theorem final14 (c : Dev nD) (G : FVec Ideal S16384x1024 .f32)
    (hG : ∀ (r : Fin 16384) (k : Fin 1024), G (ix2 r k) = silu (prods m c r ⟨2608 + k.val, by omega⟩)) : (dats m 0 c).arrAt 14 cfg0.N = G := by
  refine assemble14 m c G fun t y k => ?_
  rw [hG]
  refine (store14_at (iblk m c 0 t) (iblk m c 1 t) (iblk m c 2 t) (iblk m c 3 t) (iblk m c 4 t) (iblk m c 5 t) (iblk m c 6 t) (iblk m c 7 t) (iblk m c 8 t) (iblk m c 9 t) y k).trans (congrArg silu ?_)
  refine (output_gate_product m c t y _ (by show 2560 ≤ 2560 + k.val; omega) (by show 2560 + k.val < 3584; omega)).trans ?_
  exact congrArg (prods m c (rowOf t y)) (Fin.ext (by show 2560 + k.val + 48 = 2608 + k.val; omega))

/-- The branch gates' array, from what each block holds. -/
theorem assemble15 (c : Dev nD) (G : FVec Ideal S16384x128 .f32)
    (hp : ∀ (t : Fin cfg0.N) (y : Fin 256) (k : Fin 128), out0_15 (iblk m c 0 t) (iblk m c 1 t) (iblk m c 2 t) (iblk m c 3 t) (iblk m c 4 t) (iblk m c 5 t) (iblk m c 6 t) (iblk m c 7 t) (iblk m c 8 t) (iblk m c 9 t) (ix2 y k) = G (ix2 (rowOf t y) k)) :
    (dats m 0 c).arrAt 15 cfg0.N = G := by
  refine (dats m 0 c).arrAt_eq_of_covers 15 _ covers15 fun t _ y => ?_
  rw [after0_15]
  blk_simp [places t]
  refine placed _ G (rowOf t) id (hp t) y _ ?_ ?_
  · blk_simp [places t, rowOf]
  · blk_simp [places t, id]

/-- The branch gates. -/
theorem final15 (c : Dev nD) (G : FVec Ideal S16384x128 .f32)
    (hG : ∀ (r : Fin 16384) (k : Fin 128), G (ix2 r k) = gateRow (prods m c) (gateBiases m c) r k) : (dats m 0 c).arrAt 15 cfg0.N = G := by
  refine assemble15 m c G fun t y k => ?_
  rw [hG]
  refine (store15_at (iblk m c 0 t) (iblk m c 1 t) (iblk m c 2 t) (iblk m c 3 t) (iblk m c 4 t) (iblk m c 5 t) (iblk m c 6 t) (iblk m c 7 t) (iblk m c 8 t) (iblk m c 9 t) y k).trans (congrArg sigmoid ?_)
  rw [gate_product m c t y _ (by show 3584 ≤ 3584 + k.val; omega), gateBias_block, gateBias_at]
  by_cases h : k.val < 48
  · rw [dif_pos (by show 3584 + k.val < 3632; omega), dif_pos h, dif_pos h]
    exact congrArg₂ (fun a b : EReal => a + b) (congrArg (prods m c (rowOf t y)) (Fin.ext (by show 3584 + k.val - 1024 = 2560 + k.val; omega))) rfl
  · rw [dif_neg (by show ¬ 3584 + k.val < 3632; omega), dif_neg h, dif_neg h, add_zero]

/-- The attention's queries, from what each block holds. -/
theorem assemble16 (c : Dev nD) (G : FVec Ideal S2x4x64x128x512 .bf16)
    (hp : ∀ (t : Fin cfg0.N) (y : ((cfg0.win 16).xblock (cfg0.grid.coords t)).Idx) (j : S2x4x64x128x512.Idx),
      ((j 0).val = t.val / 32 ∧ (j 1).val = (y 1).val ∧ (j 2).val = t.val % 32 * 2 + (y 2).val ∧ (j 3).val = (y 3).val ∧ (j 4).val = (y 4).val) →
      out0_16 (iblk m c 0 t) (iblk m c 1 t) (iblk m c 2 t) (iblk m c 3 t) (iblk m c 4 t) (iblk m c 5 t) (iblk m c 6 t) (iblk m c 7 t) (iblk m c 8 t) (iblk m c 9 t) y = G j) :
    (dats m 0 c).arrAt 16 cfg0.N = G := by
  refine (dats m 0 c).arrAt_eq_of_covers 16 _ covers16 fun t _ y => ?_
  rw [after0_16]
  blk_simp [places t]
  refine hp t y _ ?_
  blk_simp [places t]
  exact ⟨trivial, trivial, trivial, trivial, trivial⟩

/-- The attention's queries. -/
theorem final16 (c : Dev nD) (G : FVec Ideal S2x4x64x128x512 .bf16)
    (hG : ∀ (b : Fin 2) (gr : Fin 4) (tl : Fin 64) (f : Fin 128) (l : Fin 512), G (ix5 b gr tl f l) = queryFeature (prods m c) (queryGain m c) (slope m c) b gr tl f l) :
    (dats m 0 c).arrAt 16 cfg0.N = G := by
  refine assemble16 m c G fun t y j hj => ?_
  obtain ⟨b, gr, tl, f, l, rfl⟩ : ∃ b gr tl f l, j = ix5 b gr tl f l := ⟨_, _, _, _, _, eq_ix5 j⟩
  obtain ⟨j0, j1, j2, j3, j4⟩ := hj
  change b.val = t.val / 32 at j0
  change gr.val = (y 1).val at j1
  change tl.val = t.val % 32 * 2 + (y 2).val at j2
  change f.val = (y 3).val at j3
  change l.val = (y 4).val at j4
  have h1 : (y 1).val < 4 := (y 1).isLt
  have h2 : (y 2).val < 2 := (y 2).isLt
  have h3 : (y 3).val < 128 := (y 3).isLt
  have h4 : (y 4).val < 512 := (y 4).isLt
  rw [hG]
  unfold queryFeature
  by_cases h : f.val < 64
  · rw [dif_pos h]
    refine (store16_queries (iblk m c 0 t) (iblk m c 1 t) (iblk m c 2 t) (iblk m c 3 t) (iblk m c 4 t) (iblk m c 5 t) (iblk m c 6 t) (iblk m c 7 t) (iblk m c 8 t) (iblk m c 9 t) y h1 h2 (by omega) h4).trans ((query_point m c t _ _).trans ?_)
    refine congrArg₂ (queryRow (prods m c) (queryGain m c)) (Fin.ext ?_) (Fin.ext ?_)
    · show t.val * 256 + ((y 2).val * 128 + (y 4).val % 128) = b.val * 8192 + tl.val * 128 + l.val % 128
      omega
    · show ((y 1).val * 4 + (y 4).val / 128) * 64 + (y 3).val = (gr.val * 4 + l.val / 128) * 64 + f.val
      rw [j1, j3, j4]
  · rw [dif_neg h]
    refine (store16_slopes (iblk m c 0 t) (iblk m c 1 t) (iblk m c 2 t) (iblk m c 3 t) (iblk m c 4 t) (iblk m c 5 t) (iblk m c 6 t) (iblk m c 7 t) (iblk m c 8 t) (iblk m c 9 t) y h1 h3 h4 (by omega)).trans ((slope_block m c t _ _).trans ?_)
    refine congrArg₂ (slope m c) (Fin.ext ?_) (Fin.ext ?_)
    · show (y 1).val * 4 + (y 4).val / 128 = gr.val * 4 + l.val / 128
      rw [j1, j4]
    · show (y 3).val - 64 = f.val - 64
      rw [j3]

/-- The selected branch's attention keys, from what each block holds. -/
theorem assemble17 (c : Dev nD) (G : FVec Ideal S2x4x8192x256 .bf16)
    (hp : ∀ (t : Fin cfg0.N) (y : ((cfg0.win 17).xblock (cfg0.grid.coords t)).Idx) (j : S2x4x8192x256.Idx),
      ((j 0).val = t.val / 32 ∧ (j 1).val = (y 1).val ∧ (j 2).val = t.val % 32 * 256 + (y 2).val ∧ (j 3).val = (y 3).val) →
      out0_17 (iblk m c 0 t) (iblk m c 1 t) (iblk m c 2 t) (iblk m c 3 t) (iblk m c 4 t) (iblk m c 5 t) (iblk m c 6 t) (iblk m c 7 t) (iblk m c 8 t) (iblk m c 9 t) y = G j) :
    (dats m 0 c).arrAt 17 cfg0.N = G := by
  refine (dats m 0 c).arrAt_eq_of_covers 17 _ covers17 fun t _ y => ?_
  rw [after0_17]
  blk_simp [places t]
  refine hp t y _ ?_
  blk_simp [places t]
  exact ⟨trivial, trivial, trivial, trivial⟩

/-- The selected branch's attention keys. -/
theorem final17 (c : Dev nD) (G : FVec Ideal S2x4x8192x256 .bf16)
    (hG : ∀ (b : Fin 2) (gr : Fin 4) (r : Fin 8192) (f : Fin 256), G (ix4 b gr r f) = keyFeature (n := 192) (prods m c) 1536 (by omega) (keyGain m c 1) (position m c) b gr r f) :
    (dats m 0 c).arrAt 17 cfg0.N = G := by
  refine assemble17 m c G fun t y j hj => ?_
  obtain ⟨b, gr, r, f, rfl⟩ : ∃ b gr r f, j = ix4 b gr r f := ⟨_, _, _, _, eq_ix4 j⟩
  obtain ⟨j0, j1, j2, j3⟩ := hj
  change b.val = t.val / 32 at j0
  change gr.val = (y 1).val at j1
  change r.val = t.val % 32 * 256 + (y 2).val at j2
  change f.val = (y 3).val at j3
  have h1 : (y 1).val < 4 := (y 1).isLt
  have h2 : (y 2).val < 256 := (y 2).isLt
  have h3 : (y 3).val < 256 := (y 3).isLt
  rw [hG]
  unfold keyFeature
  by_cases h : f.val < 64
  · rw [dif_pos h]
    refine (store17_keys (iblk m c 0 t) (iblk m c 1 t) (iblk m c 2 t) (iblk m c 3 t) (iblk m c 4 t) (iblk m c 5 t) (iblk m c 6 t) (iblk m c 7 t) (iblk m c 8 t) (iblk m c 9 t) y h1 h2 (by omega)).trans ((selected_point m c t _ _).trans ?_)
    refine congrArg₂ (keyRow (prods m c) 1536 (by omega) (keyGain m c 1)) (Fin.ext ?_) (Fin.ext ?_)
    · show t.val * 256 + (y 2).val = b.val * 8192 + r.val
      omega
    · show (y 1).val * 64 + (y 3).val = gr.val * 64 + f.val
      rw [j1, j3]
  · rw [dif_neg h]
    refine (store17_positions (iblk m c 0 t) (iblk m c 1 t) (iblk m c 2 t) (iblk m c 3 t) (iblk m c 4 t) (iblk m c 5 t) (iblk m c 6 t) (iblk m c 7 t) (iblk m c 8 t) (iblk m c 9 t) y h2 h3 (by omega)).trans ((position_block m c t _ _).trans ?_)
    refine congrArg₂ (position m c) (Fin.ext ?_) (Fin.ext ?_)
    · show t.val % 32 * 256 + (y 2).val = r.val
      omega
    · show (y 3).val - 64 = f.val - 64
      rw [j3]

/-- The window branch's attention keys, from what each block holds. -/
theorem assemble19 (c : Dev nD) (G : FVec Ideal S2x4x8192x128 .bf16)
    (hp : ∀ (t : Fin cfg0.N) (y : ((cfg0.win 19).xblock (cfg0.grid.coords t)).Idx) (j : S2x4x8192x128.Idx),
      ((j 0).val = t.val / 32 ∧ (j 1).val = (y 1).val ∧ (j 2).val = t.val % 32 * 256 + (y 2).val ∧ (j 3).val = (y 3).val) →
      out0_19 (iblk m c 0 t) (iblk m c 1 t) (iblk m c 2 t) (iblk m c 3 t) (iblk m c 4 t) (iblk m c 5 t) (iblk m c 6 t) (iblk m c 7 t) (iblk m c 8 t) (iblk m c 9 t) y = G j) :
    (dats m 0 c).arrAt 19 cfg0.N = G := by
  refine (dats m 0 c).arrAt_eq_of_covers 19 _ covers19 fun t _ y => ?_
  rw [after0_19]
  blk_simp [places t]
  refine hp t y _ ?_
  blk_simp [places t]
  exact ⟨trivial, trivial, trivial, trivial⟩

/-- The window branch's attention keys. -/
theorem final19 (c : Dev nD) (G : FVec Ideal S2x4x8192x128 .bf16)
    (hG : ∀ (b : Fin 2) (gr : Fin 4) (r : Fin 8192) (f : Fin 128), G (ix4 b gr r f) = keyFeature (n := 64) (prods m c) 2048 (by omega) (keyGain m c 2) (fun q e => position m c q ⟨e.val, by omega⟩) b gr r f) :
    (dats m 0 c).arrAt 19 cfg0.N = G := by
  refine assemble19 m c G fun t y j hj => ?_
  obtain ⟨b, gr, r, f, rfl⟩ : ∃ b gr r f, j = ix4 b gr r f := ⟨_, _, _, _, eq_ix4 j⟩
  obtain ⟨j0, j1, j2, j3⟩ := hj
  change b.val = t.val / 32 at j0
  change gr.val = (y 1).val at j1
  change r.val = t.val % 32 * 256 + (y 2).val at j2
  change f.val = (y 3).val at j3
  have h1 : (y 1).val < 4 := (y 1).isLt
  have h2 : (y 2).val < 256 := (y 2).isLt
  have h3 : (y 3).val < 128 := (y 3).isLt
  rw [hG]
  unfold keyFeature
  by_cases h : f.val < 64
  · rw [dif_pos h]
    refine (store19_keys (iblk m c 0 t) (iblk m c 1 t) (iblk m c 2 t) (iblk m c 3 t) (iblk m c 4 t) (iblk m c 5 t) (iblk m c 6 t) (iblk m c 7 t) (iblk m c 8 t) (iblk m c 9 t) y h1 h2 (by omega)).trans ((window_point m c t _ _).trans ?_)
    refine congrArg₂ (keyRow (prods m c) 2048 (by omega) (keyGain m c 2)) (Fin.ext ?_) (Fin.ext ?_)
    · show t.val * 256 + (y 2).val = b.val * 8192 + r.val
      omega
    · show (y 1).val * 64 + (y 3).val = gr.val * 64 + f.val
      rw [j1, j3]
  · rw [dif_neg h]
    refine (store19_positions (iblk m c 0 t) (iblk m c 1 t) (iblk m c 2 t) (iblk m c 3 t) (iblk m c 4 t) (iblk m c 5 t) (iblk m c 6 t) (iblk m c 7 t) (iblk m c 8 t) (iblk m c 9 t) y h2 h3 (by omega)).trans ((position_block m c t _ _).trans ?_)
    refine congrArg₂ (position m c) (Fin.ext ?_) (Fin.ext ?_)
    · show t.val % 32 * 256 + (y 2).val = r.val
      omega
    · show (y 3).val - 64 = f.val - 64
      rw [j3]

/-- The selected branch's attention values, from what each block holds. -/
theorem assemble18 (c : Dev nD) (G : FVec Ideal S2x4x128x8192 .bf16)
    (hp : ∀ (t : Fin cfg0.N) (y : ((cfg0.win 18).xblock (cfg0.grid.coords t)).Idx) (j : S2x4x128x8192.Idx),
      ((j 0).val = t.val / 32 ∧ (j 1).val = (y 1).val ∧ (j 2).val = (y 2).val ∧ (j 3).val = t.val % 32 * 256 + (y 3).val) →
      out0_18 (iblk m c 0 t) (iblk m c 1 t) (iblk m c 2 t) (iblk m c 3 t) (iblk m c 4 t) (iblk m c 5 t) (iblk m c 6 t) (iblk m c 7 t) (iblk m c 8 t) (iblk m c 9 t) y = G j) :
    (dats m 0 c).arrAt 18 cfg0.N = G := by
  refine (dats m 0 c).arrAt_eq_of_covers 18 _ covers18 fun t _ y => ?_
  rw [after0_18]
  blk_simp [places t]
  refine hp t y _ ?_
  blk_simp [places t]
  exact ⟨trivial, trivial, trivial, trivial⟩

/-- The selected branch's attention values. -/
theorem final18 (c : Dev nD) (G : FVec Ideal S2x4x128x8192 .bf16)
    (hG : ∀ (b : Fin 2) (gr : Fin 4) (f : Fin 128) (r : Fin 8192), G (ix4 b gr f r) = valueFeature (prods m c) 1536 (by omega) b gr f r) :
    (dats m 0 c).arrAt 18 cfg0.N = G := by
  refine assemble18 m c G fun t y j hj => ?_
  obtain ⟨b, gr, f, r, rfl⟩ : ∃ b gr f r, j = ix4 b gr f r := ⟨_, _, _, _, eq_ix4 j⟩
  obtain ⟨j0, j1, j2, j3⟩ := hj
  change b.val = t.val / 32 at j0
  change gr.val = (y 1).val at j1
  change f.val = (y 2).val at j2
  change r.val = t.val % 32 * 256 + (y 3).val at j3
  have h1 : (y 1).val < 4 := (y 1).isLt
  have h2 : (y 2).val < 128 := (y 2).isLt
  have h3 : (y 3).val < 256 := (y 3).isLt
  rw [hG]
  unfold valueFeature
  by_cases h : f.val < 64
  · rw [dif_pos h]
    refine (store18_values (iblk m c 0 t) (iblk m c 1 t) (iblk m c 2 t) (iblk m c 3 t) (iblk m c 4 t) (iblk m c 5 t) (iblk m c 6 t) (iblk m c 7 t) (iblk m c 8 t) (iblk m c 9 t) y h1 (by omega) h3).trans ((branch_product m c t _ _ (by show 1792 + (y 1).val * 64 + (y 2).val < 2560; omega)).trans ?_)
    refine congrArg₂ (prods m c) (Fin.ext ?_) (Fin.ext ?_)
    · show t.val * 256 + (y 3).val = b.val * 8192 + r.val
      omega
    · show 1792 + (y 1).val * 64 + (y 2).val = 1536 + 256 + gr.val * 64 + f.val
      omega
  · rw [dif_neg h, j2]
    exact store18_flags (iblk m c 0 t) (iblk m c 1 t) (iblk m c 2 t) (iblk m c 3 t) (iblk m c 4 t) (iblk m c 5 t) (iblk m c 6 t) (iblk m c 7 t) (iblk m c 8 t) (iblk m c 9 t) y h2 (by omega)

/-- The window branch's attention values, from what each block holds. -/
theorem assemble20 (c : Dev nD) (G : FVec Ideal S2x4x128x8192 .bf16)
    (hp : ∀ (t : Fin cfg0.N) (y : ((cfg0.win 20).xblock (cfg0.grid.coords t)).Idx) (j : S2x4x128x8192.Idx),
      ((j 0).val = t.val / 32 ∧ (j 1).val = (y 1).val ∧ (j 2).val = (y 2).val ∧ (j 3).val = t.val % 32 * 256 + (y 3).val) →
      out0_20 (iblk m c 0 t) (iblk m c 1 t) (iblk m c 2 t) (iblk m c 3 t) (iblk m c 4 t) (iblk m c 5 t) (iblk m c 6 t) (iblk m c 7 t) (iblk m c 8 t) (iblk m c 9 t) y = G j) :
    (dats m 0 c).arrAt 20 cfg0.N = G := by
  refine (dats m 0 c).arrAt_eq_of_covers 20 _ covers20 fun t _ y => ?_
  rw [after0_20]
  blk_simp [places t]
  refine hp t y _ ?_
  blk_simp [places t]
  exact ⟨trivial, trivial, trivial, trivial⟩

/-- The window branch's attention values. -/
theorem final20 (c : Dev nD) (G : FVec Ideal S2x4x128x8192 .bf16)
    (hG : ∀ (b : Fin 2) (gr : Fin 4) (f : Fin 128) (r : Fin 8192), G (ix4 b gr f r) = valueFeature (prods m c) 2048 (by omega) b gr f r) :
    (dats m 0 c).arrAt 20 cfg0.N = G := by
  refine assemble20 m c G fun t y j hj => ?_
  obtain ⟨b, gr, f, r, rfl⟩ : ∃ b gr f r, j = ix4 b gr f r := ⟨_, _, _, _, eq_ix4 j⟩
  obtain ⟨j0, j1, j2, j3⟩ := hj
  change b.val = t.val / 32 at j0
  change gr.val = (y 1).val at j1
  change f.val = (y 2).val at j2
  change r.val = t.val % 32 * 256 + (y 3).val at j3
  have h1 : (y 1).val < 4 := (y 1).isLt
  have h2 : (y 2).val < 128 := (y 2).isLt
  have h3 : (y 3).val < 256 := (y 3).isLt
  rw [hG]
  unfold valueFeature
  by_cases h : f.val < 64
  · rw [dif_pos h]
    refine (store20_values (iblk m c 0 t) (iblk m c 1 t) (iblk m c 2 t) (iblk m c 3 t) (iblk m c 4 t) (iblk m c 5 t) (iblk m c 6 t) (iblk m c 7 t) (iblk m c 8 t) (iblk m c 9 t) y h1 (by omega) h3).trans ((branch_product m c t _ _ (by show 2304 + (y 1).val * 64 + (y 2).val < 2560; omega)).trans ?_)
    refine congrArg₂ (prods m c) (Fin.ext ?_) (Fin.ext ?_)
    · show t.val * 256 + (y 3).val = b.val * 8192 + r.val
      omega
    · show 2304 + (y 1).val * 64 + (y 2).val = 2048 + 256 + gr.val * 64 + f.val
      omega
  · rw [dif_neg h, j2]
    exact store20_flags (iblk m c 0 t) (iblk m c 1 t) (iblk m c 2 t) (iblk m c 3 t) (iblk m c 4 t) (iblk m c 5 t) (iblk m c 6 t) (iblk m c 7 t) (iblk m c 8 t) (iblk m c 9 t) y h2 (by omega)

end Cert.Nsa

end
-- ==== Proof.NsaReference.lean ====
/- The reference's input projection of the sparse layer, index by index. -/
module

public import proofs.«01_k».proof.Proof.Gen.NsaProjReferenceIdeal.Run
public import proofs.«01_k».proof.Proof.NsaSpec
public import proofs.«01_k».proof.Proof.Words
public import proofs.«01_k».proof.Proof.NsaOutRows
public import Idealize.ShloMosaic.Lib.Pipeline.ValueKit

@[expose] public section

noncomputable section

namespace Cert.NsaReference

open Cert.NsaProjReferenceIdeal Cert.NsaProjReferenceIdeal.Gen Idealize.ShloMosaic Idealize.ShloMosaic.TcCoe Idealize.SL.Sem
open Cert.Proj Cert.Nsa

/-- The normed rows times the weights, as the reference writes them. -/
def products (x : FVec Ideal S16384x1024 .f32) (g : FVec Ideal S1024 .f32) (w : FVec Ideal S1024x3632 .f32) :
    FVec Ideal S16384x3632 .f32 :=
  Host.dotGeneral dot_S16384x1024_S1024x3632_S16384x3632_1_0_0_1_n_n none (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))) w

theorem products_at (x : FVec Ideal S16384x1024 .f32) (g : FVec Ideal S1024 .f32) (w : FVec Ideal S1024x3632 .f32)
    (r : Fin 16384) (k : Fin 3632) : products x g w (ix2 r k) = entry x g w r k := by
  unfold entry project normed scale
  pointwise [products]

/-- The flag of the first column after the values, as a number. -/
theorem flag_number (n : ℕ) (h : n < 128) (hn : ¬ n < 64) :
    FloatOps.uitofp (F := Ideal) .f32 (IntOp.cmpi .eq (BitVec.ofNat 32 (n - 64)) 0#32) = if n = 64 then (1 : EReal) else 0 := by
  rw [Cert.CmpAttn.eq_words (b := 0) (by omega) (by omega)]
  by_cases e : n = 64
  · rw [if_pos e, decide_eq_true (by omega)]
    show ((((1 : ℕ) : ℝ) : ℝ) : EReal) = 1
    norm_num
  · rw [if_neg e, decide_eq_false (by omega)]
    show ((((0 : ℕ) : ℝ) : ℝ) : EReal) = 0
    norm_num

/-- The products as a function of row and column. -/
abbrev at2 (p : FVec Ideal S16384x3632 .f32) (r : Fin 16384) (k : Fin 3632) : EReal := p (ix2 r k)

/-- The columns of the selected branch. -/
def selected (p : FVec Ideal S16384x3632 .f32) : FVec Ideal S16384x512 .f32 := extractStridedSlice S16384x512 ![0, 1536] p slices_S16384x3632_S16384x512_0_1536

/-- The columns of the window branch. -/
def window (p : FVec Ideal S16384x3632 .f32) : FVec Ideal S16384x512 .f32 := extractStridedSlice S16384x512 ![0, 2048] p slices_S16384x3632_S16384x512_0_2048

/-- The selected branch's gains. -/
def gainRow1 (kg : FVec Ideal S3x64 .f32) : FVec Ideal S64 .f32 := shapeCast _ (extractStridedSlice S1x64 ![1, 0] kg slices_S3x64_S1x64_1_0) shapeCasts_S1x64_S64

/-- The window branch's gains. -/
def gainRow2 (kg : FVec Ideal S3x64 .f32) : FVec Ideal S64 .f32 := shapeCast _ (extractStridedSlice S1x64 ![2, 0] kg slices_S3x64_S1x64_2_0) shapeCasts_S1x64_S64

theorem selected_at (p : FVec Ideal S16384x3632 .f32) (r : Fin 16384) (k : Fin 512) : selected p (ix2 r k) = at2 p r ⟨1536 + k.val, by omega⟩ := by
  pointwise [selected]

theorem window_at (p : FVec Ideal S16384x3632 .f32) (r : Fin 16384) (k : Fin 512) : window p (ix2 r k) = at2 p r ⟨2048 + k.val, by omega⟩ := by
  pointwise [window]

theorem gainRow1_at (kg : FVec Ideal S3x64 .f32) (e : Fin 64) : gainRow1 kg (ix1 e) = kg (ix2 1 e) := by
  pointwise [gainRow1]

theorem gainRow2_at (kg : FVec Ideal S3x64 .f32) (e : Fin 64) : gainRow2 kg (ix1 e) = kg (ix2 2 e) := by
  pointwise [gainRow2]

/-- The normed queries, head by head. -/
def queries (p : FVec Ideal S16384x3632 .f32) (g : FVec Ideal S64 .f32) : FVec Ideal S16384x16x64 .f32 := mulf (mulf (mulf (shapeCast _ (extractStridedSlice S16384x1024 ![0, 0] p slices_S16384x3632_S16384x1024_0_0) shapeCasts_S16384x1024_S16384x16x64) (broadcastInDim S16384x16x64 ![0, 1, 2] bcast_S16384x16x1_S16384x16x64_0_1_2 (Host.rsqrt (addf (Host.divf (broadcastInDim S16384x16x1 ![0, 1] bcast_S16384x16_S16384x16x1_0_1 (Host.reduceAdd (mulf (shapeCast _ (extractStridedSlice S16384x1024 ![0, 0] p slices_S16384x3632_S16384x1024_0_0) shapeCasts_S16384x1024_S16384x16x64) (shapeCast _ (extractStridedSlice S16384x1024 ![0, 0] p slices_S16384x3632_S16384x1024_0_0) shapeCasts_S16384x1024_S16384x16x64)) (constant S_ .f32 0x00000000#32) reducesTo_S16384x16x64_S16384x16_d2 h_S_)) (broadcastInDim S16384x16x1 ![] bcast_S_S16384x16x1 (constant S_ .f32 0x42800000#32))) (broadcastInDim S16384x16x1 ![] bcast_S_S16384x16x1 (constant S_ .f32 0x358637BD#32)))))) (broadcastInDim S16384x16x64 ![0, 1, 2] bcast_S1x1x64_S16384x16x64_0_1_2 (broadcastInDim S1x1x64 ![2] bcast_S64_S1x1x64_2 g))) (broadcastInDim S16384x16x64 ![] bcast_S_S16384x16x64 (constant S_ .f32 0x3E000000#32))

theorem queries_at (p : FVec Ideal S16384x3632 .f32) (g : FVec Ideal S64 .f32) (r : Fin 16384) (h : Fin 16) (e : Fin 64) :
    queries p g (ix3 r h e) = query (fun k => at2 p r ⟨h.val * 64 + k.val, by omega⟩) (fun k => g (ix1 k)) e := by
  unfold query headNorm scale at2
  pointwise [queries]

/-- A branch's normed keys, group by group. -/
def keys (s : FVec Ideal S16384x512 .f32) (g : FVec Ideal S64 .f32) : FVec Ideal S16384x4x64 .f32 := mulf (mulf (shapeCast _ (extractStridedSlice S16384x256 ![0, 0] s slices_S16384x512_S16384x256_0_0) shapeCasts_S16384x256_S16384x4x64) (broadcastInDim S16384x4x64 ![0, 1, 2] bcast_S16384x4x1_S16384x4x64_0_1_2 (Host.rsqrt (addf (Host.divf (broadcastInDim S16384x4x1 ![0, 1] bcast_S16384x4_S16384x4x1_0_1 (Host.reduceAdd (mulf (shapeCast _ (extractStridedSlice S16384x256 ![0, 0] s slices_S16384x512_S16384x256_0_0) shapeCasts_S16384x256_S16384x4x64) (shapeCast _ (extractStridedSlice S16384x256 ![0, 0] s slices_S16384x512_S16384x256_0_0) shapeCasts_S16384x256_S16384x4x64)) (constant S_ .f32 0x00000000#32) reducesTo_S16384x4x64_S16384x4_d2 h_S_)) (broadcastInDim S16384x4x1 ![] bcast_S_S16384x4x1 (constant S_ .f32 0x42800000#32))) (broadcastInDim S16384x4x1 ![] bcast_S_S16384x4x1 (constant S_ .f32 0x358637BD#32)))))) (broadcastInDim S16384x4x64 ![0, 1, 2] bcast_S1x1x64_S16384x4x64_0_1_2 (broadcastInDim S1x1x64 ![2] bcast_S64_S1x1x64_2 g))

theorem keys_at (s : FVec Ideal S16384x512 .f32) (g : FVec Ideal S64 .f32) (r : Fin 16384) (h : Fin 4) (e : Fin 64) :
    keys s g (ix3 r h e) = headNorm (fun k => s (ix2 r ⟨h.val * 64 + k.val, by omega⟩)) (fun k => g (ix1 k)) e := by
  unfold headNorm scale
  pointwise [keys]

/-- The selected branch's keys at a feature of a row. -/
theorem selected_keys (p : FVec Ideal S16384x3632 .f32) (kg : FVec Ideal S3x64 .f32) (r : Fin 16384) (h : Fin 4) (e : Fin 64) (d : Fin 256) (hd : d.val = h.val * 64 + e.val) :
    keys (selected p) (gainRow1 kg) (ix3 r h e) = keyRow (at2 p) 1536 (by omega) (fun k => kg (ix2 1 k)) r d := by
  have h1 : d.val / 64 = h.val := by omega
  have h2 : (⟨d.val % 64, by omega⟩ : Fin 64) = e := Fin.ext (by show d.val % 64 = e.val; omega)
  unfold keyRow
  simp only [keys_at, selected_at, gainRow1_at, h1, h2]

/-- The window branch's keys at a feature of a row. -/
theorem window_keys (p : FVec Ideal S16384x3632 .f32) (kg : FVec Ideal S3x64 .f32) (r : Fin 16384) (h : Fin 4) (e : Fin 64) (d : Fin 256) (hd : d.val = h.val * 64 + e.val) :
    keys (window p) (gainRow2 kg) (ix3 r h e) = keyRow (at2 p) 2048 (by omega) (fun k => kg (ix2 2 k)) r d := by
  have h1 : d.val / 64 = h.val := by omega
  have h2 : (⟨d.val % 64, by omega⟩ : Fin 64) = e := Fin.ext (by show d.val % 64 = e.val; omega)
  unfold keyRow
  simp only [keys_at, window_at, gainRow2_at, h1, h2]

/-- The queries at a feature of a row. -/
theorem query_features (p : FVec Ideal S16384x3632 .f32) (g : FVec Ideal S64 .f32) (r : Fin 16384) (h : Fin 16) (e : Fin 64) (d : Fin 1024) (hd : d.val = h.val * 64 + e.val) :
    queries p g (ix3 r h e) = queryRow (at2 p) (fun k => g (ix1 k)) r d := by
  have h1 : d.val / 64 = h.val := by omega
  have h2 : (⟨d.val % 64, by omega⟩ : Fin 64) = e := Fin.ext (by show d.val % 64 = e.val; omega)
  unfold queryRow
  simp only [queries_at, h1, h2]

/-- The first result: the queries. -/
theorem first (p : FVec Ideal S16384x3632 .f32) (g : FVec Ideal S64 .f32) (r : Fin 16384) (k : Fin 1024) :
    truncf .bf16 (shapeCast _ (queries p g) shapeCasts_S16384x16x64_S16384x1024) bitsLt_bf16_f32 (ix2 r k)
      = queryRow (at2 p) (fun k => g (ix1 k)) r k := by
  pointwise
  exact query_features p g r _ _ k (by show k.val = k.val / 64 * 64 + k.val % 64; omega)

/-- The second result: the features to be compressed. -/
theorem second (p : FVec Ideal S16384x3632 .f32) (r : Fin 16384) (k : Fin 512) :
    extractStridedSlice S16384x512 ![0, 1024] p slices_S16384x3632_S16384x512_0_1024 (ix2 r k) = at2 p r ⟨1024 + k.val, by omega⟩ := by
  pointwise

/-- The third result: the selected branch. -/
theorem third (p : FVec Ideal S16384x3632 .f32) (kg : FVec Ideal S3x64 .f32) (r : Fin 16384) (k : Fin 512) :
    concatenate S16384x512 1 [⟨S16384x256, (shapeCast _ (keys (selected p) (gainRow1 kg)) shapeCasts_S16384x4x64_S16384x256)⟩, ⟨S16384x256, (extractStridedSlice S16384x256 ![0, 256] (selected p) slices_S16384x512_S16384x256_0_256)⟩] concatenates_S16384x256_S16384x256_S16384x512_d1 (ix2 r k)
      = branchRow (at2 p) 1536 (by omega) (fun k => kg (ix2 1 k)) r k := by
  unfold branchRow
  pointwise
  refine dite_congr rfl (fun h => ?_) fun h => ?_
  · exact selected_keys p kg r _ _ _ (by show k.val = k.val / 64 * 64 + k.val % 64; omega)
  · rw [selected_at]
    exact congrArg (at2 p r) (Fin.ext (by show 1536 + (256 + (k.val - 256)) = 1536 + k.val; omega))

/-- The fourth result: the window branch. -/
theorem fourth (p : FVec Ideal S16384x3632 .f32) (kg : FVec Ideal S3x64 .f32) (r : Fin 16384) (k : Fin 512) :
    concatenate S16384x512 1 [⟨S16384x256, (shapeCast _ (keys (window p) (gainRow2 kg)) shapeCasts_S16384x4x64_S16384x256)⟩, ⟨S16384x256, (extractStridedSlice S16384x256 ![0, 256] (window p) slices_S16384x512_S16384x256_0_256)⟩] concatenates_S16384x256_S16384x256_S16384x512_d1 (ix2 r k)
      = branchRow (at2 p) 2048 (by omega) (fun k => kg (ix2 2 k)) r k := by
  unfold branchRow
  pointwise
  refine dite_congr rfl (fun h => ?_) fun h => ?_
  · exact window_keys p kg r _ _ _ (by show k.val = k.val / 64 * 64 + k.val % 64; omega)
  · rw [window_at]
    exact congrArg (at2 p r) (Fin.ext (by show 2048 + (256 + (k.val - 256)) = 2048 + k.val; omega))

/-- The fifth result: the output gates. -/
theorem fifth (p : FVec Ideal S16384x3632 .f32) (r : Fin 16384) (k : Fin 1024) :
    mulf (extractStridedSlice S16384x1024 ![0, 2608] p slices_S16384x3632_S16384x1024_0_2608) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extractStridedSlice S16384x1024 ![0, 2608] p slices_S16384x3632_S16384x1024_0_2608))))) (ix2 r k)
      = silu (at2 p r ⟨2608 + k.val, by omega⟩) := by
  unfold silu sigmoid
  pointwise

/-- The sixth result: the branch gates. -/
theorem sixth (p : FVec Ideal S16384x3632 .f32) (gb : FVec Ideal S48 .f32) (r : Fin 16384) (k : Fin 128) :
    Host.divf (broadcastInDim S16384x128 ![] bcast_S_S16384x128 (constant S_ .f32 0x3F800000#32)) (addf (broadcastInDim S16384x128 ![] bcast_S_S16384x128 (constant S_ .f32 0x3F800000#32)) (Host.exp (Host.negf (pad S16384x128 ![0, 0] ![0, 80] ![0, 0] (addf (extractStridedSlice S16384x48 ![0, 2560] p slices_S16384x3632_S16384x48_0_2560) (broadcastInDim S16384x48 ![0, 1] bcast_S1x48_S16384x48_0_1 (broadcastInDim S1x48 ![1] bcast_S48_S1x48_1 gb))) (sitofp .f32 (constantI S_ 32 0#32)) pads_S16384x48_S16384x128_000_0800 h_S_)))) (ix2 r k)
      = gateRow (at2 p) (fun k => gb (ix1 k)) r k := by
  unfold gateRow sigmoid
  pointwise
  rw [zero_word]

/-- The eighth result: the selected branch's attention keys. -/
theorem eighth (p : FVec Ideal S16384x3632 .f32) (kg : FVec Ideal S3x64 .f32) (pf : FVec Ideal S8192x192 .f32)
    (b : Fin 2) (gr : Fin 4) (r : Fin 8192) (f : Fin 256) :
    truncf .bf16 (concatenate S2x4x8192x256 3 [⟨S2x4x8192x64, (transpose S2x4x8192x64 [0, 2, 1, 3] (shapeCast _ (keys (selected p) (gainRow1 kg)) shapeCasts_S16384x4x64_S2x8192x4x64) transposes_S2x8192x4x64_S2x4x8192x64_0_2_1_3)⟩, ⟨S2x4x8192x192, (broadcastInDim S2x4x8192x192 ![2, 3] bcast_S8192x192_S2x4x8192x192_2_3 pf)⟩] concatenates_S2x4x8192x64_S2x4x8192x192_S2x4x8192x256_d3) bitsLt_bf16_f32 (ix4 b gr r f)
      = keyFeature (n := 192) (at2 p) 1536 (by omega) (fun k => kg (ix2 1 k)) (fun q e => pf (ix2 q e)) b gr r f := by
  unfold keyFeature
  pointwise
  refine dite_congr rfl (fun h => ?_) fun _ => rfl
  exact selected_keys p kg _ gr ⟨f.val, h⟩ _ rfl

/-- The ninth result: the selected branch's attention values. -/
theorem ninth (p : FVec Ideal S16384x3632 .f32) (b : Fin 2) (gr : Fin 4) (f : Fin 128) (r : Fin 8192) :
    truncf .bf16 (concatenate S2x4x128x8192 2 [⟨S2x4x64x8192, (transpose S2x4x64x8192 [0, 2, 3, 1] (shapeCast _ (extractStridedSlice S16384x256 ![0, 256] (selected p) slices_S16384x512_S16384x256_0_256) shapeCasts_S16384x256_S2x8192x4x64) transposes_S2x8192x4x64_S2x4x64x8192_0_2_3_1)⟩, ⟨S2x4x64x8192, (broadcastInDim S2x4x64x8192 ![2, 3] bcast_S64x1_S2x4x64x8192_2_3 (broadcastInDim S64x1 ![0] bcast_S64_S64x1_0 (uitofp .f32 (cmpi .eq (iotaInDim S64 32 0) (broadcastInDim S64 ![] bcast_S_S64 (constantI S_ 32 0#32))))))⟩] concatenates_S2x4x64x8192_S2x4x64x8192_S2x4x128x8192_d2) bitsLt_bf16_f32 (ix4 b gr f r)
      = valueFeature (at2 p) 1536 (by omega) b gr f r := by
  unfold valueFeature
  pointwise [selected]
  refine dite_congr rfl (fun h => ?_) fun h => ?_
  · exact congrArg (at2 p _) (Fin.ext (by show 1536 + (256 + (gr.val * 64 + f.val)) = 1536 + 256 + gr.val * 64 + f.val; omega))
  · exact flag_number f.val f.isLt h

/-- The tenth result: the window branch's attention keys. -/
theorem tenth (p : FVec Ideal S16384x3632 .f32) (kg : FVec Ideal S3x64 .f32) (pf : FVec Ideal S8192x192 .f32)
    (b : Fin 2) (gr : Fin 4) (r : Fin 8192) (f : Fin 128) :
    truncf .bf16 (concatenate S2x4x8192x128 3 [⟨S2x4x8192x64, (transpose S2x4x8192x64 [0, 2, 1, 3] (shapeCast _ (keys (window p) (gainRow2 kg)) shapeCasts_S16384x4x64_S2x8192x4x64) transposes_S2x8192x4x64_S2x4x8192x64_0_2_1_3)⟩, ⟨S2x4x8192x64, (broadcastInDim S2x4x8192x64 ![2, 3] bcast_S8192x64_S2x4x8192x64_2_3 (extractStridedSlice S8192x64 ![0, 0] pf slices_S8192x192_S8192x64_0_0))⟩] concatenates_S2x4x8192x64_S2x4x8192x64_S2x4x8192x128_d3) bitsLt_bf16_f32 (ix4 b gr r f)
      = keyFeature (n := 64) (at2 p) 2048 (by omega) (fun k => kg (ix2 2 k)) (fun q e => pf (ix2 q ⟨e.val, by omega⟩)) b gr r f := by
  unfold keyFeature
  pointwise
  refine dite_congr rfl (fun h => ?_) fun _ => rfl
  exact window_keys p kg _ gr ⟨f.val, h⟩ _ rfl

/-- The last result: the window branch's attention values. -/
theorem eleventh (p : FVec Ideal S16384x3632 .f32) (b : Fin 2) (gr : Fin 4) (f : Fin 128) (r : Fin 8192) :
    truncf .bf16 (concatenate S2x4x128x8192 2 [⟨S2x4x64x8192, (transpose S2x4x64x8192 [0, 2, 3, 1] (shapeCast _ (extractStridedSlice S16384x256 ![0, 256] (window p) slices_S16384x512_S16384x256_0_256) shapeCasts_S16384x256_S2x8192x4x64) transposes_S2x8192x4x64_S2x4x64x8192_0_2_3_1)⟩, ⟨S2x4x64x8192, (broadcastInDim S2x4x64x8192 ![2, 3] bcast_S64x1_S2x4x64x8192_2_3 (broadcastInDim S64x1 ![0] bcast_S64_S64x1_0 (uitofp .f32 (cmpi .eq (iotaInDim S64 32 0) (broadcastInDim S64 ![] bcast_S_S64 (constantI S_ 32 0#32))))))⟩] concatenates_S2x4x64x8192_S2x4x64x8192_S2x4x128x8192_d2) bitsLt_bf16_f32 (ix4 b gr f r)
      = valueFeature (at2 p) 2048 (by omega) b gr f r := by
  unfold valueFeature
  pointwise [window]
  refine dite_congr rfl (fun h => ?_) fun h => ?_
  · exact congrArg (at2 p _) (Fin.ext (by show 2048 + (256 + (gr.val * 64 + f.val)) = 2048 + 256 + gr.val * 64 + f.val; omega))
  · exact flag_number f.val f.isLt h

end Cert.NsaReference

end
-- ==== Proof.NsaReferenceQueries.lean ====
/- The reference's queries as the sparse layer's attention reads them, index by index. -/
module

public import proofs.«01_k».proof.Proof.NsaReference

@[expose] public section

noncomputable section

namespace Cert.NsaReference

open Cert.NsaProjReferenceIdeal Cert.NsaProjReferenceIdeal.Gen Idealize.ShloMosaic Idealize.ShloMosaic.TcCoe Idealize.SL.Sem
open Cert.Proj Cert.Nsa

/-- The queries split by batch entry, tile, row, group, head and feature. -/
def splitQueries (q : FVec Ideal S16384x16x64 .f32) : FVec Ideal S2x64x128x4x4x64 .f32 :=
  shapeCast _ q shapeCasts_S16384x16x64_S2x64x128x4x4x64

theorem splitQueries_at (q : FVec Ideal S16384x16x64 .f32) (b : Fin 2) (t : Fin 64) (l : Fin 128) (gr h : Fin 4) (f : Fin 64) :
    splitQueries q (ix6 b t l gr h f) = q (ix3 ⟨b.val * 8192 + t.val * 128 + l.val, by omega⟩ ⟨gr.val * 4 + h.val, by omega⟩ f) := by
  pointwise [splitQueries]

/-- The queries, tile by tile, features ahead of heads and rows. -/
def queryPart (q : FVec Ideal S16384x16x64 .f32) : FVec Ideal S2x4x64x64x4x128 .f32 :=
  transpose S2x4x64x64x4x128 [0, 3, 1, 5, 4, 2] (splitQueries q) transposes_S2x64x128x4x4x64_S2x4x64x64x4x128_0_3_1_5_4_2

theorem queryPart_at (q : FVec Ideal S16384x16x64 .f32) (b : Fin 2) (gr : Fin 4) (t f : Fin 64) (h : Fin 4) (l : Fin 128) :
    queryPart q (ix6 b gr t f h l) = splitQueries q (ix6 b t l gr h f) := by
  pointwise [queryPart]

/-- The slopes, the same for every tile and row. -/
def slopePart (al : FVec Ideal S16x64 .f32) : FVec Ideal S2x4x64x64x4x128 .f32 :=
  broadcastInDim S2x4x64x64x4x128 ![0, 1, 2, 3, 4, 5] bcast_S1x4x1x64x4x1_S2x4x64x64x4x128_0_1_2_3_4_5 (broadcastInDim S1x4x1x64x4x1 ![1, 3, 4] bcast_S4x64x4_S1x4x1x64x4x1_1_3_4 (transpose S4x64x4 [0, 2, 1] (shapeCast _ al shapeCasts_S16x64_S4x4x64) transposes_S4x4x64_S4x64x4_0_2_1))

theorem slopePart_at (al : FVec Ideal S16x64 .f32) (b : Fin 2) (gr : Fin 4) (t f : Fin 64) (h : Fin 4) (l : Fin 128) :
    slopePart al (ix6 b gr t f h l) = al (ix2 ⟨gr.val * 4 + h.val, by omega⟩ f) := by
  pointwise [slopePart]

/-- Features of the queries, then slopes. -/
def joined (u v : FVec Ideal S2x4x64x64x4x128 .f32) : FVec Ideal S2x4x64x128x4x128 .f32 :=
  concatenate S2x4x64x128x4x128 3 [⟨S2x4x64x64x4x128, u⟩, ⟨S2x4x64x64x4x128, v⟩] concatenates_S2x4x64x64x4x128_S2x4x64x64x4x128_S2x4x64x128x4x128_d3

theorem joined_at (u v : FVec Ideal S2x4x64x64x4x128 .f32) (b : Fin 2) (gr : Fin 4) (t : Fin 64) (f : Fin 128) (h : Fin 4) (l : Fin 128) :
    joined u v (ix6 b gr t f h l) = if hf : f.val < 64 then u (ix6 b gr t ⟨f.val, hf⟩ h l) else v (ix6 b gr t ⟨f.val - 64, by omega⟩ h l) := by
  pointwise [joined]

/-- Heads and rows side by side. -/
def flat (u : FVec Ideal S2x4x64x128x4x128 .f32) : FVec Ideal S2x4x64x128x512 .f32 :=
  shapeCast _ u shapeCasts_S2x4x64x128x4x128_S2x4x64x128x512

theorem flat_at (u : FVec Ideal S2x4x64x128x4x128 .f32) (b : Fin 2) (gr : Fin 4) (t : Fin 64) (f : Fin 128) (l : Fin 512) :
    flat u (ix5 b gr t f l) = u (ix6 b gr t f ⟨l.val / 128, by omega⟩ ⟨l.val % 128, by omega⟩) := by
  pointwise [flat]

/-- Rounding changes nothing at the ideal. -/
theorem rounded_at (u : FVec Ideal S2x4x64x128x512 .f32) (j : S2x4x64x128x512.Idx) :
    truncf .bf16 u bitsLt_bf16_f32 j = u j := rfl

/-- The seventh result: the attention's queries. -/
theorem seventh (p : FVec Ideal S16384x3632 .f32) (g : FVec Ideal S64 .f32) (al : FVec Ideal S16x64 .f32)
    (b : Fin 2) (gr : Fin 4) (t : Fin 64) (f : Fin 128) (l : Fin 512) :
    truncf .bf16 (flat (joined (queryPart (queries p g)) (slopePart al))) bitsLt_bf16_f32 (ix5 b gr t f l)
      = queryFeature (at2 p) (fun k => g (ix1 k)) (fun h e => al (ix2 h e)) b gr t f l := by
  rw [rounded_at, flat_at]
  rw [joined_at]
  unfold queryFeature
  refine dite_congr rfl (fun h => ?_) fun h => ?_
  · rw [queryPart_at, splitQueries_at]
    exact query_features p g _ _ _ _ rfl
  · rw [slopePart_at]

end Cert.NsaReference

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.GdnProjIdeal.Value
public import proofs.«01_k».proof.Proof.Gen.GdnProjReferenceIdeal.Run
public import proofs.«01_k».proof.Proof.Gen.ConfProjIdeal.Value
public import proofs.«01_k».proof.Proof.Gen.ConfProjReferenceIdeal.Run
public import proofs.«01_k».proof.Proof.Gen.OutProjIdeal.Value
public import proofs.«01_k».proof.Proof.Gen.OutProjReferenceIdeal.Run
public import proofs.«01_k».proof.Proof.Gen.GdnProj.Skeleton
public import proofs.«01_k».proof.Proof.Gen.GdnProj.Launch
public import proofs.«01_k».proof.Proof.Gen.GdnProj.Points
public import proofs.«01_k».proof.Proof.Gen.GdnProj.Frame
public import proofs.«01_k».proof.Proof.Gen.ConfProj.Skeleton
public import proofs.«01_k».proof.Proof.Gen.ConfProj.Launch
public import proofs.«01_k».proof.Proof.Gen.ConfProj.Points
public import proofs.«01_k».proof.Proof.Gen.ConfProj.Frame
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.NsaOut.Skeleton
public import proofs.«01_k».proof.Proof.Gen.NsaOut.Launch
public import proofs.«01_k».proof.Proof.Gen.NsaOut.Points
public import proofs.«01_k».proof.Proof.Gen.NsaOut.Frame
public import proofs.«01_k».proof.Proof.Gen.NsaOutIdeal.Value
public import proofs.«01_k».proof.Proof.Gen.NsaOutReferenceIdeal.Run
public import proofs.«01_k».proof.Proof.Gen.NsaProj.Skeleton
public import proofs.«01_k».proof.Proof.Gen.NsaProj.Launch
public import proofs.«01_k».proof.Proof.Gen.NsaProj.Points
public import proofs.«01_k».proof.Proof.Gen.NsaProj.Frame
public import proofs.«01_k».proof.Proof.Gen.NsaProjIdeal.Value
public import proofs.«01_k».proof.Proof.Gen.NsaProjReferenceIdeal.Run
public import proofs.«01_k».proof.Proof.Gen.ConfProjSample.Skeleton
public import proofs.«01_k».proof.Proof.Gen.ConfProjSample.Launch
public import proofs.«01_k».proof.Proof.Gen.ConfProjSample.Points
public import proofs.«01_k».proof.Proof.Gen.ConfProjSample.Frame
public import proofs.«01_k».proof.Proof.Gen.ConfProjSampleIdeal.Value
public import proofs.«01_k».proof.Proof.Gen.ConfProjSampleReferenceIdeal.Run
public import proofs.«01_k».proof.Proof.Gen.GdnProjSample.Skeleton
public import proofs.«01_k».proof.Proof.Gen.GdnProjSample.Launch
public import proofs.«01_k».proof.Proof.Gen.GdnProjSample.Points
public import proofs.«01_k».proof.Proof.Gen.GdnProjSample.Frame
public import proofs.«01_k».proof.Proof.Gen.GdnProjSampleIdeal.Value
public import proofs.«01_k».proof.Proof.Gen.GdnProjSampleReferenceIdeal.Run
public import proofs.«01_k».proof.Proof.Gen.NsaOutSample.Skeleton
public import proofs.«01_k».proof.Proof.Gen.NsaOutSample.Launch
public import proofs.«01_k».proof.Proof.Gen.NsaOutSample.Points
public import proofs.«01_k».proof.Proof.Gen.NsaOutSample.Frame
public import proofs.«01_k».proof.Proof.Gen.NsaOutSampleIdeal.Value
public import proofs.«01_k».proof.Proof.Gen.NsaOutSampleReferenceIdeal.Run
public import proofs.«01_k».proof.Proof.Gen.NsaProjSample.Skeleton
public import proofs.«01_k».proof.Proof.Gen.NsaProjSample.Launch
public import proofs.«01_k».proof.Proof.Gen.NsaProjSample.Points
public import proofs.«01_k».proof.Proof.Gen.NsaProjSample.Frame
public import proofs.«01_k».proof.Proof.Gen.NsaProjSampleIdeal.Value
public import proofs.«01_k».proof.Proof.Gen.NsaProjSampleReferenceIdeal.Run
public import proofs.«01_k».proof.Proof.ConfSample
public import proofs.«01_k».proof.Proof.ConfSampleReference
public import proofs.«01_k».proof.Proof.GdnSample
public import proofs.«01_k».proof.Proof.GdnSampleReference
public import proofs.«01_k».proof.Proof.NsaOutSampleRows
public import proofs.«01_k».proof.Proof.NsaSampleArrays
public import proofs.«01_k».proof.Proof.NsaSampleReference
public import proofs.«01_k».proof.Proof.ConvArray
public import proofs.«01_k».proof.Proof.ConvReference
public import proofs.«01_k».proof.Proof.Arrays
public import proofs.«01_k».proof.Proof.GdnReference
public import proofs.«01_k».proof.Proof.GdnRows
public import proofs.«01_k».proof.Proof.ConfReference
public import proofs.«01_k».proof.Proof.ConfRows
public import proofs.«01_k».proof.Proof.OutRows
public import proofs.«01_k».proof.Proof.NsaOutRows
public import proofs.«01_k».proof.Proof.NsaArrays
public import proofs.«01_k».proof.Proof.NsaReferenceQueries
public import proofs.«01_k».proof.Proof.Gen.ConfConv
public import proofs.«01_k».proof.Proof.Gen.ConfConv.Frame
public import proofs.«01_k».proof.Proof.Gen.ConfConvIdeal
public import proofs.«01_k».proof.Proof.Gen.ConfConvIdeal.Skeleton
public import proofs.«01_k».proof.Proof.Gen.ConfConvIdeal.Launch
public import proofs.«01_k».proof.Proof.Gen.ConfConvIdeal.Points
public import proofs.«01_k».proof.Proof.Gen.ConfConvIdeal.Frame
public import proofs.«01_k».proof.Proof.Gen.ConfConvReferenceIdeal
public import proofs.«01_k».proof.Proof.Gen.ConfConvReferenceIdeal.Run
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference ends, keeps its arguments and has no semaphore to leave raised. -/
theorem reference_frame : Cert.quiescent_ReferenceIdeal := fun m ρ _ =>
  (θ_run _ _ _).mono (fun r h => ⟨fun c => (h c).2.2.2, sem_eq_zero_of_no_sems (by decide) r.2⟩)
    (Cert.ReferenceIdeal.Value.run m ρ)

/-- At the ideal the kernel's three results are the reference's, on every device. -/
theorem ideal_equal : Cert.algebraic_KernelIdeal_ReferenceIdeal := by
  intro m ρ m' ρ' _ hag
  refine ⟨_, _, _, Cert.KernelIdeal.Value.run_blocks m ρ,
    (θ_run _ _ _).mono (fun r h c => ?_) (Cert.ReferenceIdeal.Value.run m' ρ')⟩
  obtain ⟨h0, h1, h2, k0, k1, k2⟩ := h c
  obtain ⟨a0, a1, a2⟩ := hag c
  refine ⟨h0.trans ?_, h1.trans ?_, h2.trans ?_, k0, k1, k2⟩
  · refine (Cert.CmpAttn.Ref.res0_eq m' c).trans (Eq.trans ?_ (Cert.CmpAttn.Arrays.final3 m c).symm)
    rw [a0, a1, a2]
  · refine (Cert.CmpAttn.Ref.res1_eq m' c).trans (Eq.trans ?_ (Cert.CmpAttn.Arrays.final4 m c).symm)
    rw [a0, a1]
  · refine (Cert.CmpAttn.Ref.res2_eq m' c).trans (Eq.trans ?_ (Cert.CmpAttn.Arrays.final5 m c).symm)
    rw [a0, a1]

/-- The same of the recurrent layer's projection. -/
theorem gdn_reference_frame : Cert.quiescent_GdnProjReferenceIdeal := fun m ρ _ =>
  (θ_run _ _ _).mono (fun r h => ⟨fun c => (h c).2.2.2, sem_eq_zero_of_no_sems (by decide) r.2⟩)
    (Cert.GdnProjReferenceIdeal.Value.run m ρ)

/-- The recurrent layer's projection: the kernel's three results are the reference's. -/
theorem gdn_equal : Cert.algebraic_GdnProjIdeal_GdnProjReferenceIdeal := by
  intro m ρ m' ρ' _ hag
  refine ⟨_, _, _, Cert.GdnProjIdeal.Value.run_blocks m ρ,
    (θ_run _ _ _).mono (fun r h c => ?_) (Cert.GdnProjReferenceIdeal.Value.run m' ρ')⟩
  obtain ⟨h0, h1, h2, k⟩ := h c
  obtain ⟨a0, a1, a2⟩ := hag c
  refine ⟨h0.trans (Cert.GdnRows.final3 m c _ fun r k => ?_).symm, h1.trans (Cert.GdnRows.final4 m c _ fun r k => ?_).symm,
    h2.trans (Cert.GdnRows.final5 m c _ fun r k => ?_).symm, k⟩
  · rw [← a0, ← a1, ← a2]
    exact Cert.GdnReference.first _ _ _ r k
  · rw [← a0, ← a1, ← a2]
    exact Cert.GdnReference.second _ _ _ r k
  · rw [← a0, ← a1, ← a2]
    exact Cert.GdnReference.third _ _ _ r k

/-- The convolution layer's projection: its reference ends. -/
theorem conf_reference_frame : Cert.quiescent_ConfProjReferenceIdeal := fun m ρ _ =>
  (θ_run _ _ _).mono (fun r h => ⟨fun c => (h c).2.2, sem_eq_zero_of_no_sems (by decide) r.2⟩)
    (Cert.ConfProjReferenceIdeal.Value.run m ρ)

/-- The convolution layer's projection: the kernel's two results are the reference's. -/
theorem conf_equal : Cert.algebraic_ConfProjIdeal_ConfProjReferenceIdeal := by
  intro m ρ m' ρ' _ hag
  refine ⟨_, _, Cert.ConfProjIdeal.Value.run_blocks m ρ,
    (θ_run _ _ _).mono (fun r h c => ?_) (Cert.ConfProjReferenceIdeal.Value.run m' ρ')⟩
  obtain ⟨h0, h1, k⟩ := h c
  obtain ⟨a0, a1, a2⟩ := hag c
  refine ⟨h0.trans (Cert.ConfRows.final3 m c _ fun r k => ?_).symm, h1.trans (Cert.ConfRows.final4 m c _ fun r k => ?_).symm, k⟩
  · rw [← a0, ← a1, ← a2]
    exact Cert.ConfReference.first _ _ _ r k
  · rw [← a0, ← a1, ← a2]
    exact Cert.ConfReference.second _ _ _ r k

/-- The output projection: its reference ends. -/
theorem out_reference_frame : Cert.quiescent_OutProjReferenceIdeal := fun m ρ _ =>
  (θ_run _ _ _).mono (fun r h => ⟨fun c => (h c).2, sem_eq_zero_of_no_sems (by decide) r.2⟩)
    (Cert.OutProjReferenceIdeal.Value.run m ρ)

/-- The output projection: the kernel's result is the reference's. -/
theorem out_equal : Cert.algebraic_OutProjIdeal_OutProjReferenceIdeal := by
  intro m ρ m' ρ' _ hag
  refine ⟨_, Cert.OutProjIdeal.Value.run_blocks m ρ,
    (θ_run _ _ _).mono (fun r h c => ?_) (Cert.OutProjReferenceIdeal.Value.run m' ρ')⟩
  obtain ⟨h0, k⟩ := h c
  obtain ⟨a0, a1, a2, a3⟩ := hag c
  refine ⟨h0.trans (Cert.OutRows.final4 m c _ fun r k => ?_).symm, k⟩
  rw [← a0, ← a1, ← a2, ← a3]
  exact Cert.OutRows.reference_at _ _ _ _ r k

/-- The sparse layer's output projection: its reference ends. -/
theorem nsa_out_reference_frame : Cert.quiescent_NsaOutReferenceIdeal := fun m ρ _ =>
  (θ_run _ _ _).mono (fun r h => ⟨fun c => (h c).2, sem_eq_zero_of_no_sems (by decide) r.2⟩)
    (Cert.NsaOutReferenceIdeal.Value.run m ρ)

/-- The same under the precondition, which it does not need. -/
theorem nsa_out_reference_frame_pre [Cert.Pre_gates_between.Facts] : Cert.quiescent_NsaOutReferenceIdeal_pre_gates_between :=
  fun m ρ _ => nsa_out_reference_frame m ρ trivial

/-- The sparse layer's output projection: for gates between zero and one the kernel's result is the reference's. -/
theorem nsa_out_equal [Cert.Pre_gates_between.Facts] :
    Cert.algebraic_NsaOutIdeal_NsaOutReferenceIdeal_pre_gates_between := by
  intro m ρ m' ρ' hp hag
  refine ⟨_, Cert.NsaOutIdeal.Value.run_blocks m ρ,
    (θ_run _ _ _).mono (fun r h c => ?_) (Cert.NsaOutReferenceIdeal.Value.run m' ρ')⟩
  obtain ⟨h0, k⟩ := h c
  obtain ⟨a0, a1, a2, a3, a4, a5, a6⟩ := hag c
  refine ⟨h0.trans (Cert.NsaOutRows.final8 m hp c _ fun r k => ?_).symm, k⟩
  rw [← a0, ← a1, ← a2, ← a3, ← a4, ← a5, ← a6]
  exact Cert.NsaOutRows.reference_at _ _ _ _ _ _ _ r k

/-- The sparse layer's input projection: its reference ends. -/
theorem nsa_proj_reference_frame : Cert.quiescent_NsaProjReferenceIdeal := fun m ρ _ =>
  (θ_run _ _ _).mono (fun r h => ⟨fun c => (h c).2.2.2.2.2.2.2.2.2.2.2, sem_eq_zero_of_no_sems (by decide) r.2⟩)
    (Cert.NsaProjReferenceIdeal.Value.run m ρ)

set_option maxHeartbeats 4000000 in
/-- The sparse layer's input projection: the kernel's eleven results are the reference's. -/
theorem nsa_proj_equal : Cert.algebraic_NsaProjIdeal_NsaProjReferenceIdeal := by
  intro m ρ m' ρ' _ hag
  refine ⟨_, _, _, _, _, _, _, _, _, _, _, Cert.NsaProjIdeal.Value.run_blocks m ρ,
    (θ_run _ _ _).mono (fun r h c => ?_) (Cert.NsaProjReferenceIdeal.Value.run m' ρ')⟩
  obtain ⟨h0, h1, h2, h3, h4, h5, h6, h7, h8, h9, h10, k⟩ := h c
  obtain ⟨a0, a1, a2, a3, a4, a5, a6, a7⟩ := hag c
  have e : Cert.NsaReference.at2 (Cert.NsaReference.products (m' ((c.tc : Thread Cert.NsaProjReferenceIdeal.nD Cert.NsaProjReferenceIdeal.τ).loc Cert.NsaProjReferenceIdeal.main_arg0)) (m' ((c.tc : Thread Cert.NsaProjReferenceIdeal.nD Cert.NsaProjReferenceIdeal.τ).loc Cert.NsaProjReferenceIdeal.main_arg1)) (m' ((c.tc : Thread Cert.NsaProjReferenceIdeal.nD Cert.NsaProjReferenceIdeal.τ).loc Cert.NsaProjReferenceIdeal.main_arg2))) = Cert.Nsa.prods m c := by
    unfold Cert.Nsa.prods
    rw [← a0, ← a1, ← a2]
    exact funext fun r => funext fun k => Cert.NsaReference.products_at _ _ _ r k
  have e3 : (fun k => (m' ((c.tc : Thread Cert.NsaProjReferenceIdeal.nD Cert.NsaProjReferenceIdeal.τ).loc Cert.NsaProjReferenceIdeal.main_arg3)) (ix1 k)) = Cert.Nsa.queryGain m c := funext fun k => congrFun a3 (ix1 k)
  have e4 : ∀ i : Fin 3, (fun k => (m' ((c.tc : Thread Cert.NsaProjReferenceIdeal.nD Cert.NsaProjReferenceIdeal.τ).loc Cert.NsaProjReferenceIdeal.main_arg4)) (ix2 i k)) = Cert.Nsa.keyGain m c i :=
    fun i => funext fun k => congrFun a4 (ix2 i k)
  have e5 : (fun k => (m' ((c.tc : Thread Cert.NsaProjReferenceIdeal.nD Cert.NsaProjReferenceIdeal.τ).loc Cert.NsaProjReferenceIdeal.main_arg5)) (ix1 k)) = Cert.Nsa.gateBiases m c := funext fun k => congrFun a5 (ix1 k)
  have e6 : (fun h k => (m' ((c.tc : Thread Cert.NsaProjReferenceIdeal.nD Cert.NsaProjReferenceIdeal.τ).loc Cert.NsaProjReferenceIdeal.main_arg6)) (ix2 h k)) = Cert.Nsa.slope m c :=
    funext fun h => funext fun k => congrFun a6 (ix2 h k)
  have e7 : ∀ q k, (m' ((c.tc : Thread Cert.NsaProjReferenceIdeal.nD Cert.NsaProjReferenceIdeal.τ).loc Cert.NsaProjReferenceIdeal.main_arg7)) (ix2 q k) = Cert.Nsa.position m c q k := fun q k => congrFun a7 (ix2 q k)
  refine ⟨h0.trans (Cert.Nsa.final10 m c _ fun r k => ?_).symm,
    h1.trans (Cert.Nsa.final11 m c _ fun r k => ?_).symm,
    h2.trans (Cert.Nsa.final12 m c _ fun r k => ?_).symm,
    h3.trans (Cert.Nsa.final13 m c _ fun r k => ?_).symm,
    h4.trans (Cert.Nsa.final14 m c _ fun r k => ?_).symm,
    h5.trans (Cert.Nsa.final15 m c _ fun r k => ?_).symm,
    h6.trans (Cert.Nsa.final16 m c _ fun b gr tl f l => ?_).symm,
    h7.trans (Cert.Nsa.final17 m c _ fun b gr r f => ?_).symm,
    h8.trans (Cert.Nsa.final18 m c _ fun b gr f r => ?_).symm,
    h9.trans (Cert.Nsa.final19 m c _ fun b gr r f => ?_).symm,
    h10.trans (Cert.Nsa.final20 m c _ fun b gr f r => ?_).symm, k⟩
  · exact (Cert.NsaReference.first (Cert.NsaReference.products (m' ((c.tc : Thread Cert.NsaProjReferenceIdeal.nD Cert.NsaProjReferenceIdeal.τ).loc Cert.NsaProjReferenceIdeal.main_arg0)) (m' ((c.tc : Thread Cert.NsaProjReferenceIdeal.nD Cert.NsaProjReferenceIdeal.τ).loc Cert.NsaProjReferenceIdeal.main_arg1)) (m' ((c.tc : Thread Cert.NsaProjReferenceIdeal.nD Cert.NsaProjReferenceIdeal.τ).loc Cert.NsaProjReferenceIdeal.main_arg2))) (m' ((c.tc : Thread Cert.NsaProjReferenceIdeal.nD Cert.NsaProjReferenceIdeal.τ).loc Cert.NsaProjReferenceIdeal.main_arg3)) r k).trans (by simp only [e, e3])
  · exact (Cert.NsaReference.second (Cert.NsaReference.products (m' ((c.tc : Thread Cert.NsaProjReferenceIdeal.nD Cert.NsaProjReferenceIdeal.τ).loc Cert.NsaProjReferenceIdeal.main_arg0)) (m' ((c.tc : Thread Cert.NsaProjReferenceIdeal.nD Cert.NsaProjReferenceIdeal.τ).loc Cert.NsaProjReferenceIdeal.main_arg1)) (m' ((c.tc : Thread Cert.NsaProjReferenceIdeal.nD Cert.NsaProjReferenceIdeal.τ).loc Cert.NsaProjReferenceIdeal.main_arg2))) r k).trans (by rw [e])
  · exact (Cert.NsaReference.third (Cert.NsaReference.products (m' ((c.tc : Thread Cert.NsaProjReferenceIdeal.nD Cert.NsaProjReferenceIdeal.τ).loc Cert.NsaProjReferenceIdeal.main_arg0)) (m' ((c.tc : Thread Cert.NsaProjReferenceIdeal.nD Cert.NsaProjReferenceIdeal.τ).loc Cert.NsaProjReferenceIdeal.main_arg1)) (m' ((c.tc : Thread Cert.NsaProjReferenceIdeal.nD Cert.NsaProjReferenceIdeal.τ).loc Cert.NsaProjReferenceIdeal.main_arg2))) (m' ((c.tc : Thread Cert.NsaProjReferenceIdeal.nD Cert.NsaProjReferenceIdeal.τ).loc Cert.NsaProjReferenceIdeal.main_arg4)) r k).trans (by simp only [e, e4])
  · exact (Cert.NsaReference.fourth (Cert.NsaReference.products (m' ((c.tc : Thread Cert.NsaProjReferenceIdeal.nD Cert.NsaProjReferenceIdeal.τ).loc Cert.NsaProjReferenceIdeal.main_arg0)) (m' ((c.tc : Thread Cert.NsaProjReferenceIdeal.nD Cert.NsaProjReferenceIdeal.τ).loc Cert.NsaProjReferenceIdeal.main_arg1)) (m' ((c.tc : Thread Cert.NsaProjReferenceIdeal.nD Cert.NsaProjReferenceIdeal.τ).loc Cert.NsaProjReferenceIdeal.main_arg2))) (m' ((c.tc : Thread Cert.NsaProjReferenceIdeal.nD Cert.NsaProjReferenceIdeal.τ).loc Cert.NsaProjReferenceIdeal.main_arg4)) r k).trans (by simp only [e, e4])
  · exact (Cert.NsaReference.fifth (Cert.NsaReference.products (m' ((c.tc : Thread Cert.NsaProjReferenceIdeal.nD Cert.NsaProjReferenceIdeal.τ).loc Cert.NsaProjReferenceIdeal.main_arg0)) (m' ((c.tc : Thread Cert.NsaProjReferenceIdeal.nD Cert.NsaProjReferenceIdeal.τ).loc Cert.NsaProjReferenceIdeal.main_arg1)) (m' ((c.tc : Thread Cert.NsaProjReferenceIdeal.nD Cert.NsaProjReferenceIdeal.τ).loc Cert.NsaProjReferenceIdeal.main_arg2))) r k).trans (by rw [e])
  · exact (Cert.NsaReference.sixth (Cert.NsaReference.products (m' ((c.tc : Thread Cert.NsaProjReferenceIdeal.nD Cert.NsaProjReferenceIdeal.τ).loc Cert.NsaProjReferenceIdeal.main_arg0)) (m' ((c.tc : Thread Cert.NsaProjReferenceIdeal.nD Cert.NsaProjReferenceIdeal.τ).loc Cert.NsaProjReferenceIdeal.main_arg1)) (m' ((c.tc : Thread Cert.NsaProjReferenceIdeal.nD Cert.NsaProjReferenceIdeal.τ).loc Cert.NsaProjReferenceIdeal.main_arg2))) (m' ((c.tc : Thread Cert.NsaProjReferenceIdeal.nD Cert.NsaProjReferenceIdeal.τ).loc Cert.NsaProjReferenceIdeal.main_arg5)) r k).trans (by simp only [e, e5])
  · exact (Cert.NsaReference.seventh (Cert.NsaReference.products (m' ((c.tc : Thread Cert.NsaProjReferenceIdeal.nD Cert.NsaProjReferenceIdeal.τ).loc Cert.NsaProjReferenceIdeal.main_arg0)) (m' ((c.tc : Thread Cert.NsaProjReferenceIdeal.nD Cert.NsaProjReferenceIdeal.τ).loc Cert.NsaProjReferenceIdeal.main_arg1)) (m' ((c.tc : Thread Cert.NsaProjReferenceIdeal.nD Cert.NsaProjReferenceIdeal.τ).loc Cert.NsaProjReferenceIdeal.main_arg2))) (m' ((c.tc : Thread Cert.NsaProjReferenceIdeal.nD Cert.NsaProjReferenceIdeal.τ).loc Cert.NsaProjReferenceIdeal.main_arg3)) (m' ((c.tc : Thread Cert.NsaProjReferenceIdeal.nD Cert.NsaProjReferenceIdeal.τ).loc Cert.NsaProjReferenceIdeal.main_arg6)) b gr tl f l).trans (by simp only [e, e3, e6])
  · exact (Cert.NsaReference.eighth (Cert.NsaReference.products (m' ((c.tc : Thread Cert.NsaProjReferenceIdeal.nD Cert.NsaProjReferenceIdeal.τ).loc Cert.NsaProjReferenceIdeal.main_arg0)) (m' ((c.tc : Thread Cert.NsaProjReferenceIdeal.nD Cert.NsaProjReferenceIdeal.τ).loc Cert.NsaProjReferenceIdeal.main_arg1)) (m' ((c.tc : Thread Cert.NsaProjReferenceIdeal.nD Cert.NsaProjReferenceIdeal.τ).loc Cert.NsaProjReferenceIdeal.main_arg2))) (m' ((c.tc : Thread Cert.NsaProjReferenceIdeal.nD Cert.NsaProjReferenceIdeal.τ).loc Cert.NsaProjReferenceIdeal.main_arg4)) (m' ((c.tc : Thread Cert.NsaProjReferenceIdeal.nD Cert.NsaProjReferenceIdeal.τ).loc Cert.NsaProjReferenceIdeal.main_arg7)) b gr r f).trans (by simp only [e, e4, e7])
  · exact (Cert.NsaReference.ninth (Cert.NsaReference.products (m' ((c.tc : Thread Cert.NsaProjReferenceIdeal.nD Cert.NsaProjReferenceIdeal.τ).loc Cert.NsaProjReferenceIdeal.main_arg0)) (m' ((c.tc : Thread Cert.NsaProjReferenceIdeal.nD Cert.NsaProjReferenceIdeal.τ).loc Cert.NsaProjReferenceIdeal.main_arg1)) (m' ((c.tc : Thread Cert.NsaProjReferenceIdeal.nD Cert.NsaProjReferenceIdeal.τ).loc Cert.NsaProjReferenceIdeal.main_arg2))) b gr f r).trans (by rw [e])
  · exact (Cert.NsaReference.tenth (Cert.NsaReference.products (m' ((c.tc : Thread Cert.NsaProjReferenceIdeal.nD Cert.NsaProjReferenceIdeal.τ).loc Cert.NsaProjReferenceIdeal.main_arg0)) (m' ((c.tc : Thread Cert.NsaProjReferenceIdeal.nD Cert.NsaProjReferenceIdeal.τ).loc Cert.NsaProjReferenceIdeal.main_arg1)) (m' ((c.tc : Thread Cert.NsaProjReferenceIdeal.nD Cert.NsaProjReferenceIdeal.τ).loc Cert.NsaProjReferenceIdeal.main_arg2))) (m' ((c.tc : Thread Cert.NsaProjReferenceIdeal.nD Cert.NsaProjReferenceIdeal.τ).loc Cert.NsaProjReferenceIdeal.main_arg4)) (m' ((c.tc : Thread Cert.NsaProjReferenceIdeal.nD Cert.NsaProjReferenceIdeal.τ).loc Cert.NsaProjReferenceIdeal.main_arg7)) b gr r f).trans (by simp only [e, e4, e7])
  · exact (Cert.NsaReference.eleventh (Cert.NsaReference.products (m' ((c.tc : Thread Cert.NsaProjReferenceIdeal.nD Cert.NsaProjReferenceIdeal.τ).loc Cert.NsaProjReferenceIdeal.main_arg0)) (m' ((c.tc : Thread Cert.NsaProjReferenceIdeal.nD Cert.NsaProjReferenceIdeal.τ).loc Cert.NsaProjReferenceIdeal.main_arg1)) (m' ((c.tc : Thread Cert.NsaProjReferenceIdeal.nD Cert.NsaProjReferenceIdeal.τ).loc Cert.NsaProjReferenceIdeal.main_arg2))) b gr f r).trans (by rw [e])

/-- The convolution: its reference ends. -/
theorem conf_conv_reference_frame : Cert.quiescent_ConfConvReferenceIdeal := fun m ρ _ =>
  (θ_run _ _ _).mono (fun r h => ⟨fun c => (h c).2, sem_eq_zero_of_no_sems (by decide) r.2⟩)
    (Cert.ConfConvReferenceIdeal.Value.run m ρ)

/-- The convolution: the kernel's result is the reference's. -/
theorem conf_conv_equal : Cert.algebraic_ConfConvIdeal_ConfConvReferenceIdeal := by
  intro m ρ m' ρ' _ hag
  refine ⟨_, Cert.Conv.run_blocks m ρ,
    (θ_run _ _ _).mono (fun r h c => ?_) (Cert.ConfConvReferenceIdeal.Value.run m' ρ')⟩
  obtain ⟨h0, k⟩ := h c
  obtain ⟨a0, a1, a2, a3, a4, a5⟩ := hag c
  refine ⟨h0.trans (Cert.Conv.final m c _ fun b s d => ?_).symm, k⟩
  rw [← a0, ← a1, ← a2, ← a3, ← a4, ← a5]
  exact Cert.ConvReference.launched_at m' c b s d

/-- The recurrent layer's projection of the sample's rows: its reference ends. -/
theorem gdn_sample_reference_frame : Cert.quiescent_GdnProjSampleReferenceIdeal := fun m ρ _ =>
  (θ_run _ _ _).mono (fun r h => ⟨fun c => (h c).2.2.2, sem_eq_zero_of_no_sems (by decide) r.2⟩)
    (Cert.GdnProjSampleReferenceIdeal.Value.run m ρ)

/-- The recurrent layer's projection of the sample's rows: the kernel's three results are the reference's. -/
theorem gdn_sample_equal : Cert.algebraic_GdnProjSampleIdeal_GdnProjSampleReferenceIdeal := by
  intro m ρ m' ρ' _ hag
  refine ⟨_, _, _, Cert.GdnProjSampleIdeal.Value.run_blocks m ρ,
    (θ_run _ _ _).mono (fun r h c => ?_) (Cert.GdnProjSampleReferenceIdeal.Value.run m' ρ')⟩
  obtain ⟨h0, h1, h2, k⟩ := h c
  obtain ⟨a0, a1, a2⟩ := hag c
  refine ⟨h0.trans (Cert.GdnSample.final3 m c _ fun r k => ?_).symm, h1.trans (Cert.GdnSample.final4 m c _ fun r k => ?_).symm,
    h2.trans (Cert.GdnSample.final5 m c _ fun r k => ?_).symm, k⟩
  · rw [← a0, ← a1, ← a2]
    exact Cert.GdnSampleReference.first _ _ _ r k
  · rw [← a0, ← a1, ← a2]
    exact Cert.GdnSampleReference.second _ _ _ r k
  · rw [← a0, ← a1, ← a2]
    exact Cert.GdnSampleReference.third _ _ _ r k

/-- The convolution layer's projection of the sample's rows: its reference ends. -/
theorem conf_sample_reference_frame : Cert.quiescent_ConfProjSampleReferenceIdeal := fun m ρ _ =>
  (θ_run _ _ _).mono (fun r h => ⟨fun c => (h c).2.2, sem_eq_zero_of_no_sems (by decide) r.2⟩)
    (Cert.ConfProjSampleReferenceIdeal.Value.run m ρ)

/-- The convolution layer's projection of the sample's rows: the kernel's two results are the reference's. -/
theorem conf_sample_equal : Cert.algebraic_ConfProjSampleIdeal_ConfProjSampleReferenceIdeal := by
  intro m ρ m' ρ' _ hag
  refine ⟨_, _, Cert.ConfProjSampleIdeal.Value.run_blocks m ρ,
    (θ_run _ _ _).mono (fun r h c => ?_) (Cert.ConfProjSampleReferenceIdeal.Value.run m' ρ')⟩
  obtain ⟨h0, h1, k⟩ := h c
  obtain ⟨a0, a1, a2⟩ := hag c
  refine ⟨h0.trans (Cert.ConfSample.final3 m c _ fun r k => ?_).symm, h1.trans (Cert.ConfSample.final4 m c _ fun r k => ?_).symm, k⟩
  · rw [← a0, ← a1, ← a2]
    exact Cert.ConfSampleReference.first _ _ _ r k
  · rw [← a0, ← a1, ← a2]
    exact Cert.ConfSampleReference.second _ _ _ r k

/-- The sparse layer's output projection of the sample's rows: its reference ends. -/
theorem nsa_out_sample_reference_frame : Cert.quiescent_NsaOutSampleReferenceIdeal := fun m ρ _ =>
  (θ_run _ _ _).mono (fun r h => ⟨fun c => (h c).2, sem_eq_zero_of_no_sems (by decide) r.2⟩)
    (Cert.NsaOutSampleReferenceIdeal.Value.run m ρ)

/-- The same under the precondition, which it does not need. -/
theorem nsa_out_sample_reference_frame_pre [Cert.Pre_sample_gates_between.Facts] : Cert.quiescent_NsaOutSampleReferenceIdeal_pre_sample_gates_between :=
  fun m ρ _ => nsa_out_sample_reference_frame m ρ trivial

/-- The sparse layer's output projection of the sample's rows: for gates between zero and one the kernel's result is the reference's. -/
theorem nsa_out_sample_equal [Cert.Pre_sample_gates_between.Facts] :
    Cert.algebraic_NsaOutSampleIdeal_NsaOutSampleReferenceIdeal_pre_sample_gates_between := by
  intro m ρ m' ρ' hp hag
  refine ⟨_, Cert.NsaOutSampleIdeal.Value.run_blocks m ρ,
    (θ_run _ _ _).mono (fun r h c => ?_) (Cert.NsaOutSampleReferenceIdeal.Value.run m' ρ')⟩
  obtain ⟨h0, k⟩ := h c
  obtain ⟨a0, a1, a2, a3, a4, a5, a6⟩ := hag c
  refine ⟨h0.trans (Cert.NsaOutSampleRows.final8 m hp c _ fun r k => ?_).symm, k⟩
  rw [← a0, ← a1, ← a2, ← a3, ← a4, ← a5, ← a6]
  exact Cert.NsaOutSampleRows.reference_at _ _ _ _ _ _ _ r k

/-- The sparse layer's input projection of the sample's rows: its reference ends. -/
theorem nsa_proj_sample_reference_frame : Cert.quiescent_NsaProjSampleReferenceIdeal := fun m ρ _ =>
  (θ_run _ _ _).mono (fun r h => ⟨fun c => (h c).2.2.2.2.2.2, sem_eq_zero_of_no_sems (by decide) r.2⟩)
    (Cert.NsaProjSampleReferenceIdeal.Value.run m ρ)

set_option maxHeartbeats 4000000 in
/-- The sparse layer's input projection of the sample's rows: the kernel's six results are the reference's. -/
theorem nsa_proj_sample_equal : Cert.algebraic_NsaProjSampleIdeal_NsaProjSampleReferenceIdeal := by
  intro m ρ m' ρ' _ hag
  refine ⟨_, _, _, _, _, _, Cert.NsaProjSampleIdeal.Value.run_blocks m ρ,
    (θ_run _ _ _).mono (fun r h c => ?_) (Cert.NsaProjSampleReferenceIdeal.Value.run m' ρ')⟩
  obtain ⟨h0, h1, h2, h3, h4, h5, k⟩ := h c
  obtain ⟨a0, a1, a2, a3, a4, a5⟩ := hag c
  have e : Cert.NsaSampleReference.at2 (Cert.NsaSampleReference.products (m' ((c.tc : Thread Cert.NsaProjSampleReferenceIdeal.nD Cert.NsaProjSampleReferenceIdeal.τ).loc Cert.NsaProjSampleReferenceIdeal.main_arg0)) (m' ((c.tc : Thread Cert.NsaProjSampleReferenceIdeal.nD Cert.NsaProjSampleReferenceIdeal.τ).loc Cert.NsaProjSampleReferenceIdeal.main_arg1)) (m' ((c.tc : Thread Cert.NsaProjSampleReferenceIdeal.nD Cert.NsaProjSampleReferenceIdeal.τ).loc Cert.NsaProjSampleReferenceIdeal.main_arg2))) = Cert.NsaSample.prods m c := by
    unfold Cert.NsaSample.prods
    rw [← a0, ← a1, ← a2]
    exact funext fun r => funext fun k => Cert.NsaSampleReference.products_at _ _ _ r k
  have e3 : (fun k => (m' ((c.tc : Thread Cert.NsaProjSampleReferenceIdeal.nD Cert.NsaProjSampleReferenceIdeal.τ).loc Cert.NsaProjSampleReferenceIdeal.main_arg3)) (ix1 k)) = Cert.NsaSample.queryGain m c := funext fun k => congrFun a3 (ix1 k)
  have e4 : ∀ i : Fin 3, (fun k => (m' ((c.tc : Thread Cert.NsaProjSampleReferenceIdeal.nD Cert.NsaProjSampleReferenceIdeal.τ).loc Cert.NsaProjSampleReferenceIdeal.main_arg4)) (ix2 i k)) = Cert.NsaSample.keyGain m c i :=
    fun i => funext fun k => congrFun a4 (ix2 i k)
  have e5 : (fun k => (m' ((c.tc : Thread Cert.NsaProjSampleReferenceIdeal.nD Cert.NsaProjSampleReferenceIdeal.τ).loc Cert.NsaProjSampleReferenceIdeal.main_arg5)) (ix1 k)) = Cert.NsaSample.gateBiases m c := funext fun k => congrFun a5 (ix1 k)
  refine ⟨h0.trans (Cert.NsaSample.final8 m c _ fun r k => ?_).symm,
    h1.trans (Cert.NsaSample.final9 m c _ fun r k => ?_).symm,
    h2.trans (Cert.NsaSample.final10 m c _ fun r k => ?_).symm,
    h3.trans (Cert.NsaSample.final11 m c _ fun r k => ?_).symm,
    h4.trans (Cert.NsaSample.final12 m c _ fun r k => ?_).symm,
    h5.trans (Cert.NsaSample.final13 m c _ fun r k => ?_).symm, k⟩
  · exact (Cert.NsaSampleReference.first (Cert.NsaSampleReference.products (m' ((c.tc : Thread Cert.NsaProjSampleReferenceIdeal.nD Cert.NsaProjSampleReferenceIdeal.τ).loc Cert.NsaProjSampleReferenceIdeal.main_arg0)) (m' ((c.tc : Thread Cert.NsaProjSampleReferenceIdeal.nD Cert.NsaProjSampleReferenceIdeal.τ).loc Cert.NsaProjSampleReferenceIdeal.main_arg1)) (m' ((c.tc : Thread Cert.NsaProjSampleReferenceIdeal.nD Cert.NsaProjSampleReferenceIdeal.τ).loc Cert.NsaProjSampleReferenceIdeal.main_arg2))) (m' ((c.tc : Thread Cert.NsaProjSampleReferenceIdeal.nD Cert.NsaProjSampleReferenceIdeal.τ).loc Cert.NsaProjSampleReferenceIdeal.main_arg3)) r k).trans (by simp only [e, e3])
  · exact (Cert.NsaSampleReference.second (Cert.NsaSampleReference.products (m' ((c.tc : Thread Cert.NsaProjSampleReferenceIdeal.nD Cert.NsaProjSampleReferenceIdeal.τ).loc Cert.NsaProjSampleReferenceIdeal.main_arg0)) (m' ((c.tc : Thread Cert.NsaProjSampleReferenceIdeal.nD Cert.NsaProjSampleReferenceIdeal.τ).loc Cert.NsaProjSampleReferenceIdeal.main_arg1)) (m' ((c.tc : Thread Cert.NsaProjSampleReferenceIdeal.nD Cert.NsaProjSampleReferenceIdeal.τ).loc Cert.NsaProjSampleReferenceIdeal.main_arg2))) r k).trans (by rw [e])
  · exact (Cert.NsaSampleReference.third (Cert.NsaSampleReference.products (m' ((c.tc : Thread Cert.NsaProjSampleReferenceIdeal.nD Cert.NsaProjSampleReferenceIdeal.τ).loc Cert.NsaProjSampleReferenceIdeal.main_arg0)) (m' ((c.tc : Thread Cert.NsaProjSampleReferenceIdeal.nD Cert.NsaProjSampleReferenceIdeal.τ).loc Cert.NsaProjSampleReferenceIdeal.main_arg1)) (m' ((c.tc : Thread Cert.NsaProjSampleReferenceIdeal.nD Cert.NsaProjSampleReferenceIdeal.τ).loc Cert.NsaProjSampleReferenceIdeal.main_arg2))) (m' ((c.tc : Thread Cert.NsaProjSampleReferenceIdeal.nD Cert.NsaProjSampleReferenceIdeal.τ).loc Cert.NsaProjSampleReferenceIdeal.main_arg4)) r k).trans (by simp only [e, e4])
  · exact (Cert.NsaSampleReference.fourth (Cert.NsaSampleReference.products (m' ((c.tc : Thread Cert.NsaProjSampleReferenceIdeal.nD Cert.NsaProjSampleReferenceIdeal.τ).loc Cert.NsaProjSampleReferenceIdeal.main_arg0)) (m' ((c.tc : Thread Cert.NsaProjSampleReferenceIdeal.nD Cert.NsaProjSampleReferenceIdeal.τ).loc Cert.NsaProjSampleReferenceIdeal.main_arg1)) (m' ((c.tc : Thread Cert.NsaProjSampleReferenceIdeal.nD Cert.NsaProjSampleReferenceIdeal.τ).loc Cert.NsaProjSampleReferenceIdeal.main_arg2))) (m' ((c.tc : Thread Cert.NsaProjSampleReferenceIdeal.nD Cert.NsaProjSampleReferenceIdeal.τ).loc Cert.NsaProjSampleReferenceIdeal.main_arg4)) r k).trans (by simp only [e, e4])
  · exact (Cert.NsaSampleReference.fifth (Cert.NsaSampleReference.products (m' ((c.tc : Thread Cert.NsaProjSampleReferenceIdeal.nD Cert.NsaProjSampleReferenceIdeal.τ).loc Cert.NsaProjSampleReferenceIdeal.main_arg0)) (m' ((c.tc : Thread Cert.NsaProjSampleReferenceIdeal.nD Cert.NsaProjSampleReferenceIdeal.τ).loc Cert.NsaProjSampleReferenceIdeal.main_arg1)) (m' ((c.tc : Thread Cert.NsaProjSampleReferenceIdeal.nD Cert.NsaProjSampleReferenceIdeal.τ).loc Cert.NsaProjSampleReferenceIdeal.main_arg2))) r k).trans (by rw [e])
  · exact (Cert.NsaSampleReference.sixth (Cert.NsaSampleReference.products (m' ((c.tc : Thread Cert.NsaProjSampleReferenceIdeal.nD Cert.NsaProjSampleReferenceIdeal.τ).loc Cert.NsaProjSampleReferenceIdeal.main_arg0)) (m' ((c.tc : Thread Cert.NsaProjSampleReferenceIdeal.nD Cert.NsaProjSampleReferenceIdeal.τ).loc Cert.NsaProjSampleReferenceIdeal.main_arg1)) (m' ((c.tc : Thread Cert.NsaProjSampleReferenceIdeal.nD Cert.NsaProjSampleReferenceIdeal.τ).loc Cert.NsaProjSampleReferenceIdeal.main_arg2))) (m' ((c.tc : Thread Cert.NsaProjSampleReferenceIdeal.nD Cert.NsaProjSampleReferenceIdeal.τ).loc Cert.NsaProjSampleReferenceIdeal.main_arg5)) r k).trans (by simp only [e, e5])

/-- The precondition's constants spread over the gates' shape. -/
theorem gates_facts : Cert.Pre_gates_between.Facts := ⟨by decide⟩

/-- The same over the sample's gates. -/
theorem sample_gates_facts : Cert.Pre_sample_gates_between.Facts := ⟨by decide⟩

theorem claim : Cert.Claim :=
  ⟨Cert.Kernel.Gen.facts, Cert.KernelIdeal.Gen.facts, Cert.ReferenceIdeal.Gen.facts,
    Cert.GdnProj.Gen.facts, Cert.GdnProjIdeal.Gen.facts, Cert.GdnProjReferenceIdeal.Gen.facts,
    Cert.ConfProj.Gen.facts, Cert.ConfProjIdeal.Gen.facts, Cert.ConfProjReferenceIdeal.Gen.facts,
    Cert.OutProj.Gen.facts, Cert.OutProjIdeal.Gen.facts, Cert.OutProjReferenceIdeal.Gen.facts,
    Cert.NsaOut.Gen.facts, Cert.NsaOutIdeal.Gen.facts, Cert.NsaOutReferenceIdeal.Gen.facts,
    Cert.NsaProj.Gen.facts, Cert.NsaProjIdeal.Gen.facts, Cert.NsaProjReferenceIdeal.Gen.facts,
    Cert.ConfConv.Gen.facts, Cert.ConfConvIdeal.Gen.facts, Cert.ConfConvReferenceIdeal.Gen.facts,
    Cert.ConfProjSample.Gen.facts, Cert.ConfProjSampleIdeal.Gen.facts, Cert.ConfProjSampleReferenceIdeal.Gen.facts,
    Cert.GdnProjSample.Gen.facts, Cert.GdnProjSampleIdeal.Gen.facts, Cert.GdnProjSampleReferenceIdeal.Gen.facts,
    Cert.NsaOutSample.Gen.facts, Cert.NsaOutSampleIdeal.Gen.facts, Cert.NsaOutSampleReferenceIdeal.Gen.facts,
    Cert.NsaProjSample.Gen.facts, Cert.NsaProjSampleIdeal.Gen.facts, Cert.NsaProjSampleReferenceIdeal.Gen.facts,
    gates_facts, sample_gates_facts, by
  haveI := gates_facts
  haveI := sample_gates_facts
  exact ⟨fun m ρ _ => Cert.Kernel.Gen.frame m ρ, fun m ρ _ => Cert.KernelIdeal.Gen.frame m ρ, reference_frame,
    fun m ρ _ => Cert.GdnProj.Gen.frame m ρ, fun m ρ _ => Cert.GdnProjIdeal.Gen.frame m ρ, gdn_reference_frame,
    fun m ρ _ => Cert.ConfProj.Gen.frame m ρ, fun m ρ _ => Cert.ConfProjIdeal.Gen.frame m ρ, conf_reference_frame,
    fun m ρ _ => Cert.OutProj.Gen.frame m ρ, fun m ρ _ => Cert.OutProjIdeal.Gen.frame m ρ, out_reference_frame,
    fun m ρ _ => Cert.NsaOut.Gen.frame m ρ, fun m ρ _ => Cert.NsaOutIdeal.Gen.frame m ρ,
    fun m ρ _ => Cert.NsaOutIdeal.Gen.frame m ρ, nsa_out_reference_frame, nsa_out_reference_frame_pre,
    fun m ρ _ => Cert.NsaProj.Gen.frame m ρ, fun m ρ _ => Cert.NsaProjIdeal.Gen.frame m ρ, nsa_proj_reference_frame,
    fun m ρ _ => Cert.ConfConv.Gen.frame m ρ, fun m ρ _ => Cert.ConfConvIdeal.Gen.frame m ρ, conf_conv_reference_frame,
    fun m ρ _ => Cert.ConfProjSample.Gen.frame m ρ, fun m ρ _ => Cert.ConfProjSampleIdeal.Gen.frame m ρ, conf_sample_reference_frame,
    fun m ρ _ => Cert.GdnProjSample.Gen.frame m ρ, fun m ρ _ => Cert.GdnProjSampleIdeal.Gen.frame m ρ, gdn_sample_reference_frame,
    fun m ρ _ => Cert.NsaOutSample.Gen.frame m ρ, fun m ρ _ => Cert.NsaOutSampleIdeal.Gen.frame m ρ,
    fun m ρ _ => Cert.NsaOutSampleIdeal.Gen.frame m ρ, nsa_out_sample_reference_frame, nsa_out_sample_reference_frame_pre,
    fun m ρ _ => Cert.NsaProjSample.Gen.frame m ρ, fun m ρ _ => Cert.NsaProjSampleIdeal.Gen.frame m ρ, nsa_proj_sample_reference_frame,
    trivial, ideal_equal, trivial, gdn_equal, trivial, conf_equal, trivial, out_equal, trivial, nsa_out_equal,
    trivial, nsa_proj_equal, trivial, conf_conv_equal,
    trivial, conf_sample_equal, trivial, gdn_sample_equal, trivial, nsa_out_sample_equal,
    trivial, nsa_proj_sample_equal⟩⟩

end Cert.Proof

end
